-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128x128 : Shape := ⟨3, ![128, 128, 128]⟩
abbrev S2097152x3 : Shape := ⟨2, ![2097152, 3]⟩
abbrev S6 : Shape := ⟨1, ![6]⟩
abbrev S2097152 : Shape := ⟨1, ![2097152]⟩
abbrev S6291456 : Shape := ⟨1, ![6291456]⟩
abbrev S3 : Shape := ⟨1, ![3]⟩
abbrev S_ : Shape := ⟨0, ![]⟩
abbrev S1x3 : Shape := ⟨2, ![1, 3]⟩
abbrev S9 : Shape := ⟨1, ![9]⟩
abbrev S9x1 : Shape := ⟨2, ![9, 1]⟩
abbrev S1x9x1x1 : Shape := ⟨4, ![1, 9, 1, 1]⟩
abbrev S1x9x16x1 : Shape := ⟨4, ![1, 9, 16, 1]⟩
abbrev S9x16 : Shape := ⟨2, ![9, 16]⟩
abbrev S2048x3 : Shape := ⟨2, ![2048, 3]⟩
abbrev S6144 : Shape := ⟨1, ![6144]⟩
abbrev S2048 : Shape := ⟨1, ![2048]⟩
abbrev S512 : Shape := ⟨1, ![512]⟩
abbrev S8192 : Shape := ⟨1, ![8192]⟩
abbrev S16 : Shape := ⟨1, ![16]⟩
abbrev S4096 : Shape := ⟨1, ![4096]⟩
abbrev S12288 : Shape := ⟨1, ![12288]⟩
abbrev S10240 : Shape := ⟨1, ![10240]⟩
abbrev S30720 : Shape := ⟨1, ![30720]⟩
abbrev S32 : Shape := ⟨1, ![32]⟩
abbrev S128 : Shape := ⟨1, ![128]⟩
abbrev S1 : Shape := ⟨1, ![1]⟩
abbrev S1x16 : Shape := ⟨2, ![1, 16]⟩
abbrev S1024 : Shape := ⟨1, ![1024]⟩
abbrev S3072 : Shape := ⟨1, ![3072]⟩
abbrev S1536 : Shape := ⟨1, ![1536]⟩
abbrev S256 : Shape := ⟨1, ![256]⟩
abbrev S768 : Shape := ⟨1, ![768]⟩
abbrev S384 : Shape := ⟨1, ![384]⟩
abbrev S64 : Shape := ⟨1, ![64]⟩
abbrev S192 : Shape := ⟨1, ![192]⟩
abbrev S96 : Shape := ⟨1, ![96]⟩
abbrev S48 : Shape := ⟨1, ![48]⟩
abbrev S8 : Shape := ⟨1, ![8]⟩
abbrev S24 : Shape := ⟨1, ![24]⟩

abbrev nBuf : Table → Nat
  | .hbm => 31
  | .local .scVector .vmem => 14
  | _ => 0

abbrev bufTy : (tb : Table) → Fin (nBuf tb) → BufTy
  | .hbm, ⟨0, _⟩ => ⟨S128x128x128, .i1⟩
  | .hbm, ⟨1, _⟩ => ⟨S2097152x3, .f32⟩
  | .hbm, ⟨2, _⟩ => ⟨S6, .f32⟩
  | .hbm, ⟨3, _⟩ => ⟨S2097152, .i1⟩
  | .hbm, ⟨4, _⟩ => ⟨S2097152, .i32⟩
  | .hbm, ⟨5, _⟩ => ⟨S6291456, .f32⟩
  | .hbm, ⟨6, _⟩ => ⟨S3, .f32⟩
  | .hbm, ⟨7, _⟩ => ⟨S3, .f32⟩
  | .hbm, ⟨8, _⟩ => ⟨S3, .f32⟩
  | .hbm, ⟨9, _⟩ => ⟨S_, .f32⟩
  | .hbm, ⟨10, _⟩ => ⟨S3, .f32⟩
  | .hbm, ⟨11, _⟩ => ⟨S3, .f32⟩
  | .hbm, ⟨12, _⟩ => ⟨S3, .f32⟩
  | .hbm, ⟨13, _⟩ => ⟨S1x3, .f32⟩
  | .hbm, ⟨14, _⟩ => ⟨S3, .f32⟩
  | .hbm, ⟨15, _⟩ => ⟨S3, .f32⟩
  | .hbm, ⟨16, _⟩ => ⟨S3, .f32⟩
  | .hbm, ⟨17, _⟩ => ⟨S9, .f32⟩
  | .hbm, ⟨18, _⟩ => ⟨S9x1, .f32⟩
  | .hbm, ⟨19, _⟩ => ⟨S1x9x1x1, .f32⟩
  | .hbm, ⟨20, _⟩ => ⟨S1x9x16x1, .f32⟩
  | .hbm, ⟨21, _⟩ => ⟨S9x16, .f32⟩
  | .hbm, ⟨22, _⟩ => ⟨S1x3, .f32⟩
  | .hbm, ⟨23, _⟩ => ⟨S2048x3, .f32⟩
  | .hbm, ⟨24, _⟩ => ⟨S6144, .f32⟩
  | .hbm, ⟨25, _⟩ => ⟨S_, .i32⟩
  | .hbm, ⟨26, _⟩ => ⟨S2048, .i32⟩
  | .hbm, ⟨27, _⟩ => ⟨S512, .i32⟩
  | .hbm, ⟨28, _⟩ => ⟨S6291456, .f32⟩
  | .hbm, ⟨29, _⟩ => ⟨S2097152, .i32⟩
  | .hbm, ⟨30, _⟩ => ⟨S2097152x3, .f32⟩
  | .local .scVector .vmem, ⟨0, _⟩ => ⟨S8192, .i32⟩
  | .local .scVector .vmem, ⟨1, _⟩ => ⟨S16, .i32⟩
  | .local .scVector .vmem, ⟨2, _⟩ => ⟨S4096, .i32⟩
  | .local .scVector .vmem, ⟨3, _⟩ => ⟨S12288, .f32⟩
  | .local .scVector .vmem, ⟨4, _⟩ => ⟨S10240, .i32⟩
  | .local .scVector .vmem, ⟨5, _⟩ => ⟨S30720, .f32⟩
  | .local .scVector .vmem, ⟨6, _⟩ => ⟨S9x16, .f32⟩
  | .local .scVector .vmem, ⟨7, _⟩ => ⟨S512, .i32⟩
  | .local .scVector .vmem, ⟨8, _⟩ => ⟨S32, .i32⟩
  | .local .scVector .vmem, ⟨9, _⟩ => ⟨S2048, .i32⟩
  | .local .scVector .vmem, ⟨10, _⟩ => ⟨S6144, .f32⟩
  | .local .scVector .vmem, ⟨11, _⟩ => ⟨S128, .i32⟩
  | .local .scVector .vmem, ⟨12, _⟩ => ⟨S128, .i32⟩
  | .local .scVector .vmem, ⟨13, _⟩ => ⟨S128, .f32⟩
  | _, _ => ⟨S128x128x128, .i1⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 54 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | _ => false

abbrev sig : RefSig :=
  ofTables nBuf rfl bufTy 4 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev main_v24 : Ref sig .tc := ⟨.hbm, 30, rfl⟩
abbrev main_v1_scv : Ref sig .scVector := ⟨.hbm, 4, rfl⟩
abbrev main_v22_scv : Ref sig .scVector := ⟨.hbm, 27, rfl⟩
abbrev main_v2_scv : Ref sig .scVector := ⟨.hbm, 5, rfl⟩
abbrev main_v17_scv : Ref sig .scVector := ⟨.hbm, 21, rfl⟩
abbrev main_v20_scv : Ref sig .scVector := ⟨.hbm, 24, rfl⟩
abbrev main_v21_scv : Ref sig .scVector := ⟨.hbm, 26, rfl⟩
abbrev main_v23_0_scv : Ref sig .scVector := ⟨.hbm, 28, rfl⟩
abbrev main_v23_1_scv : Ref sig .scVector := ⟨.hbm, 29, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc1_scratch2 : Ref sig .scVector := ⟨.vmem, 4, rfl⟩
abbrev cc1_scratch3 : Ref sig .scVector := ⟨.vmem, 5, rfl⟩
abbrev cc1_scratch4 : Ref sig .scVector := ⟨.vmem, 6, rfl⟩
abbrev cc1_scratch5 : Ref sig .scVector := ⟨.vmem, 7, rfl⟩
abbrev cc1_scratch6 : Ref sig .scVector := ⟨.vmem, 8, rfl⟩
abbrev cc1_scratch7 : Ref sig .scVector := ⟨.vmem, 9, rfl⟩
abbrev cc1_scratch8 : Ref sig .scVector := ⟨.vmem, 10, rfl⟩
abbrev cc1_scratch9 : Ref sig .scVector := ⟨.vmem, 11, rfl⟩
abbrev cc1_scratch10 : Ref sig .scVector := ⟨.vmem, 12, rfl⟩
abbrev cc1_scratch11 : Ref sig .scVector := ⟨.vmem, 13, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v3 : BitVec 32 := Scalar.muli v1 c65536_i32
  let c0_i32_0 : BitVec 32 := 0#32
  let v4 : BitVec 32 := Scalar.addi v3 c0_i32_0
  v4
def k0_off1 (i : grid0.Coords) (c0_i32_0 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v3 : BitVec 32 := Scalar.muli v1 c65536_i32
  let v4 : BitVec 32 := Scalar.addi v3 c0_i32_0
  let v5 : BitVec 32 := v4
  ![v5.toNat]
@[reducible] def k0_t1_loop : Scf.Loop 32 :=
  let c0_i32_1 : BitVec 32 := 0#32
  let c512_i32 : BitVec 32 := 512#32
  let v6 : BitVec 32 := Scalar.addi c0_i32_1 c512_i32
  let c1_i32 : BitVec 32 := 1#32
  ⟨c0_i32_1, v6, c1_i32⟩
def k0_off2 (k0_t1 : Fin k0_t1_loop.trips) : Fin 1 → Nat :=
  let c0_i32_1 : BitVec 32 := 0#32
  let c1_i32 : BitVec 32 := 1#32
  let arg6 : BitVec 32 := Scf.iv c0_i32_1 c1_i32 k0_t1
  let c16_i32_38 : BitVec 32 := 16#32
  let v50 : BitVec 32 := Scalar.muli arg6 c16_i32_38
  let v51 : Index := Scalar.indexCast v50
  ![v51.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32_3 : BitVec 32 := 65536#32
  let v8 : BitVec 32 := Scalar.muli v1 c65536_i32_3
  let c8192_i32 : BitVec 32 := 8192#32
  let v9 : BitVec 32 := Scalar.addi v8 c8192_i32
  v9
@[reducible] def k0_t2_loop : Scf.Loop 32 :=
  let c0_i32_4 : BitVec 32 := 0#32
  let c512_i32_5 : BitVec 32 := 512#32
  let v11 : BitVec 32 := Scalar.addi c0_i32_4 c512_i32_5
  let c1_i32_6 : BitVec 32 := 1#32
  ⟨c0_i32_4, v11, c1_i32_6⟩
def k0_off3 (k0_t2 : Fin k0_t2_loop.trips) : Fin 1 → Nat :=
  let c0_i32_4 : BitVec 32 := 0#32
  let c1_i32_6 : BitVec 32 := 1#32
  let arg6 : BitVec 32 := Scf.iv c0_i32_4 c1_i32_6 k0_t2
  let c16_i32_38 : BitVec 32 := 16#32
  let v50 : BitVec 32 := Scalar.muli arg6 c16_i32_38
  let v51 : Index := Scalar.indexCast v50
  ![v51.toNat]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32_8 : BitVec 32 := 65536#32
  let v13 : BitVec 32 := Scalar.muli v1 c65536_i32_8
  let c16384_i32 : BitVec 32 := 16384#32
  let v14 : BitVec 32 := Scalar.addi v13 c16384_i32
  v14
@[reducible] def k0_t3_loop : Scf.Loop 32 :=
  let c0_i32_9 : BitVec 32 := 0#32
  let c512_i32_10 : BitVec 32 := 512#32
  let v16 : BitVec 32 := Scalar.addi c0_i32_9 c512_i32_10
  let c1_i32_11 : BitVec 32 := 1#32
  ⟨c0_i32_9, v16, c1_i32_11⟩
def k0_off4 (k0_t3 : Fin k0_t3_loop.trips) : Fin 1 → Nat :=
  let c0_i32_9 : BitVec 32 := 0#32
  let c1_i32_11 : BitVec 32 := 1#32
  let arg6 : BitVec 32 := Scf.iv c0_i32_9 c1_i32_11 k0_t3
  let c16_i32_38 : BitVec 32 := 16#32
  let v50 : BitVec 32 := Scalar.muli arg6 c16_i32_38
  let v51 : Index := Scalar.indexCast v50
  ![v51.toNat]
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32_13 : BitVec 32 := 65536#32
  let v18 : BitVec 32 := Scalar.muli v1 c65536_i32_13
  let c24576_i32 : BitVec 32 := 24576#32
  let v19 : BitVec 32 := Scalar.addi v18 c24576_i32
  v19
@[reducible] def k0_t4_loop : Scf.Loop 32 :=
  let c0_i32_14 : BitVec 32 := 0#32
  let c512_i32_15 : BitVec 32 := 512#32
  let v21 : BitVec 32 := Scalar.addi c0_i32_14 c512_i32_15
  let c1_i32_16 : BitVec 32 := 1#32
  ⟨c0_i32_14, v21, c1_i32_16⟩
def k0_off5 (k0_t4 : Fin k0_t4_loop.trips) : Fin 1 → Nat :=
  let c0_i32_14 : BitVec 32 := 0#32
  let c1_i32_16 : BitVec 32 := 1#32
  let arg6 : BitVec 32 := Scf.iv c0_i32_14 c1_i32_16 k0_t4
  let c16_i32_38 : BitVec 32 := 16#32
  let v50 : BitVec 32 := Scalar.muli arg6 c16_i32_38
  let v51 : Index := Scalar.indexCast v50
  ![v51.toNat]
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32_18 : BitVec 32 := 65536#32
  let v23 : BitVec 32 := Scalar.muli v1 c65536_i32_18
  let c32768_i32 : BitVec 32 := 32768#32
  let v24 : BitVec 32 := Scalar.addi v23 c32768_i32
  v24
@[reducible] def k0_t5_loop : Scf.Loop 32 :=
  let c0_i32_19 : BitVec 32 := 0#32
  let c512_i32_20 : BitVec 32 := 512#32
  let v26 : BitVec 32 := Scalar.addi c0_i32_19 c512_i32_20
  let c1_i32_21 : BitVec 32 := 1#32
  ⟨c0_i32_19, v26, c1_i32_21⟩
def k0_off6 (k0_t5 : Fin k0_t5_loop.trips) : Fin 1 → Nat :=
  let c0_i32_19 : BitVec 32 := 0#32
  let c1_i32_21 : BitVec 32 := 1#32
  let arg6 : BitVec 32 := Scf.iv c0_i32_19 c1_i32_21 k0_t5
  let c16_i32_38 : BitVec 32 := 16#32
  let v50 : BitVec 32 := Scalar.muli arg6 c16_i32_38
  let v51 : Index := Scalar.indexCast v50
  ![v51.toNat]
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32_23 : BitVec 32 := 65536#32
  let v28 : BitVec 32 := Scalar.muli v1 c65536_i32_23
  let c40960_i32 : BitVec 32 := 40960#32
  let v29 : BitVec 32 := Scalar.addi v28 c40960_i32
  v29
@[reducible] def k0_t6_loop : Scf.Loop 32 :=
  let c0_i32_24 : BitVec 32 := 0#32
  let c512_i32_25 : BitVec 32 := 512#32
  let v31 : BitVec 32 := Scalar.addi c0_i32_24 c512_i32_25
  let c1_i32_26 : BitVec 32 := 1#32
  ⟨c0_i32_24, v31, c1_i32_26⟩
def k0_off7 (k0_t6 : Fin k0_t6_loop.trips) : Fin 1 → Nat :=
  let c0_i32_24 : BitVec 32 := 0#32
  let c1_i32_26 : BitVec 32 := 1#32
  let arg6 : BitVec 32 := Scf.iv c0_i32_24 c1_i32_26 k0_t6
  let c16_i32_38 : BitVec 32 := 16#32
  let v50 : BitVec 32 := Scalar.muli arg6 c16_i32_38
  let v51 : Index := Scalar.indexCast v50
  ![v51.toNat]
def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32_28 : BitVec 32 := 65536#32
  let v33 : BitVec 32 := Scalar.muli v1 c65536_i32_28
  let c49152_i32 : BitVec 32 := 49152#32
  let v34 : BitVec 32 := Scalar.addi v33 c49152_i32
  v34
@[reducible] def k0_t7_loop : Scf.Loop 32 :=
  let c0_i32_29 : BitVec 32 := 0#32
  let c512_i32_30 : BitVec 32 := 512#32
  let v36 : BitVec 32 := Scalar.addi c0_i32_29 c512_i32_30
  let c1_i32_31 : BitVec 32 := 1#32
  ⟨c0_i32_29, v36, c1_i32_31⟩
def k0_off8 (k0_t7 : Fin k0_t7_loop.trips) : Fin 1 → Nat :=
  let c0_i32_29 : BitVec 32 := 0#32
  let c1_i32_31 : BitVec 32 := 1#32
  let arg6 : BitVec 32 := Scf.iv c0_i32_29 c1_i32_31 k0_t7
  let c16_i32_38 : BitVec 32 := 16#32
  let v50 : BitVec 32 := Scalar.muli arg6 c16_i32_38
  let v51 : Index := Scalar.indexCast v50
  ![v51.toNat]
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32_33 : BitVec 32 := 65536#32
  let v38 : BitVec 32 := Scalar.muli v1 c65536_i32_33
  let c57344_i32 : BitVec 32 := 57344#32
  let v39 : BitVec 32 := Scalar.addi v38 c57344_i32
  v39
@[reducible] def k0_t8_loop : Scf.Loop 32 :=
  let c0_i32_34 : BitVec 32 := 0#32
  let c512_i32_35 : BitVec 32 := 512#32
  let v41 : BitVec 32 := Scalar.addi c0_i32_34 c512_i32_35
  let c1_i32_36 : BitVec 32 := 1#32
  ⟨c0_i32_34, v41, c1_i32_36⟩
def k0_off9 (k0_t8 : Fin k0_t8_loop.trips) : Fin 1 → Nat :=
  let c0_i32_34 : BitVec 32 := 0#32
  let c1_i32_36 : BitVec 32 := 1#32
  let arg6 : BitVec 32 := Scf.iv c0_i32_34 c1_i32_36 k0_t8
  let c16_i32_38 : BitVec 32 := 16#32
  let v50 : BitVec 32 := Scalar.muli arg6 c16_i32_38
  let v51 : Index := Scalar.indexCast v50
  ![v51.toNat]
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v48 : BitVec 32 := Scalar.muli v1 c16_i32
  v48
def k0_off10 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v48 : BitVec 32 := Scalar.muli v1 c16_i32
  let v49 : BitVec 32 := v48
  ![v49.toNat]
abbrev grid1 : Pipeline.Grid := ⟨2, ![2, 16], ![false, false]⟩

def k1_chk1 (v4 : IVec S16 32) : Prop :=
  (∀ a x, ((![v4] : Fin 1 → IVec S16 32) a x).toNat < S512.size a)
theorem k1_idx1_inb : ∀ (v4 : IVec S16 32) (k1_hw1 : k1_chk1 v4), ∀ a x, ((![v4] : Fin 1 → IVec S16 32) a x).toNat < S512.size a := fun v4 k1_hw1 => k1_hw1

def k1_chk2 (v9 : IVec S16 32) : Prop :=
  (∀ a x, ((![v9] : Fin 1 → IVec S16 32) a x).toNat < S512.size a)
theorem k1_idx2_inb : ∀ (v9 : IVec S16 32) (k1_hw2 : k1_chk2 v9), ∀ a x, ((![v9] : Fin 1 → IVec S16 32) a x).toNat < S512.size a := fun v9 k1_hw2 => k1_hw2

def k1_chk3 (v28 : IVec S16 32) : Prop :=
  (∀ a x, ((![v28] : Fin 1 → IVec S16 32) a x).toNat < S32.size a)
theorem k1_idx3_inb : ∀ (v28 : IVec S16 32) (k1_hw3 : k1_chk3 v28), ∀ a x, ((![v28] : Fin 1 → IVec S16 32) a x).toNat < S32.size a := fun v28 k1_hw3 => k1_hw3

def k1_chk4 (v33 : IVec S16 32) : Prop :=
  (∀ a x, ((![v33] : Fin 1 → IVec S16 32) a x).toNat < S512.size a)
theorem k1_idx4_inb : ∀ (v33 : IVec S16 32) (k1_hw4 : k1_chk4 v33), ∀ a x, ((![v33] : Fin 1 → IVec S16 32) a x).toNat < S512.size a := fun v33 k1_hw4 => k1_hw4
@[reducible] def k1_t1_loop : Scf.Loop 32 :=
  let c0_i32_14 : BitVec 32 := 0#32
  let c16_i32_15 : BitVec 32 := 16#32
  let v56 : BitVec 32 := Scalar.addi c0_i32_14 c16_i32_15
  let c1_i32_16 : BitVec 32 := 1#32
  ⟨c0_i32_14, v56, c1_i32_16⟩
def k1_mult1 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let c0_i32_14 : BitVec 32 := 0#32
  let c1_i32_16 : BitVec 32 := 1#32
  let arg25 : BitVec 32 := Scf.iv c0_i32_14 c1_i32_16 k1_t1
  let c4096_i32 : BitVec 32 := 4096#32
  let v223 : BitVec 32 := Scalar.muli arg25 c4096_i32
  let v224 : BitVec 32 := Scalar.addi v50 v223
  v224
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let c0_i32_14 : BitVec 32 := 0#32
  let c1_i32_16 : BitVec 32 := 1#32
  let arg25 : BitVec 32 := Scf.iv c0_i32_14 c1_i32_16 k1_t1
  let c4096_i32 : BitVec 32 := 4096#32
  let v223 : BitVec 32 := Scalar.muli arg25 c4096_i32
  let v224 : BitVec 32 := Scalar.addi v50 v223
  let v225 : BitVec 32 := v224
  ![v225.toNat]
def k1_mult2 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let c0_i32_14 : BitVec 32 := 0#32
  let c1_i32_16 : BitVec 32 := 1#32
  let arg25 : BitVec 32 := Scf.iv c0_i32_14 c1_i32_16 k1_t1
  let c4096_i32 : BitVec 32 := 4096#32
  let v223 : BitVec 32 := Scalar.muli arg25 c4096_i32
  let v224 : BitVec 32 := Scalar.addi v50 v223
  let c3_i32_112 : BitVec 32 := 3#32
  let v226 : BitVec 32 := Scalar.muli v224 c3_i32_112
  v226
def k1_off2 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let c0_i32_14 : BitVec 32 := 0#32
  let c1_i32_16 : BitVec 32 := 1#32
  let arg25 : BitVec 32 := Scf.iv c0_i32_14 c1_i32_16 k1_t1
  let c4096_i32 : BitVec 32 := 4096#32
  let v223 : BitVec 32 := Scalar.muli arg25 c4096_i32
  let v224 : BitVec 32 := Scalar.addi v50 v223
  let c3_i32_112 : BitVec 32 := 3#32
  let v226 : BitVec 32 := Scalar.muli v224 c3_i32_112
  let v227 : BitVec 32 := v226
  ![v227.toNat]
@[reducible] def k1_t2_loop : Scf.Loop 32 :=
  let c0_i32_113 : BitVec 32 := 0#32
  let c64_i32_114 : BitVec 32 := 64#32
  let v228 : BitVec 32 := Scalar.addi c0_i32_113 c64_i32_114
  let c1_i32_115 : BitVec 32 := 1#32
  ⟨c0_i32_113, v228, c1_i32_115⟩
def k1_off3 (k1_t2 : Fin k1_t2_loop.trips) : Fin 1 → Nat :=
  let c0_i32_113 : BitVec 32 := 0#32
  let c1_i32_115 : BitVec 32 := 1#32
  let arg29 : BitVec 32 := Scf.iv c0_i32_113 c1_i32_115 k1_t2
  let c4_i32_126 : BitVec 32 := 4#32
  let v249 : BitVec 32 := Scalar.muli arg29 c4_i32_126
  let c0_i32_127 : BitVec 32 := 0#32
  let v250 : BitVec 32 := Scalar.addi v249 c0_i32_127
  let c16_i32_128 : BitVec 32 := 16#32
  let v251 : BitVec 32 := Scalar.muli v250 c16_i32_128
  let v252 : Index := Scalar.indexCast v251
  ![v252.toNat]

def k1_chk5 (v283 : IVec S16 32) : Prop :=
  (∀ a x, ((![v283] : Fin 1 → IVec S16 32) a x).toNat < S12288.size a)
theorem k1_idx5_inb : ∀ (v283 : IVec S16 32) (k1_hw5 : k1_chk5 v283), ∀ a x, ((![v283] : Fin 1 → IVec S16 32) a x).toNat < S12288.size a := fun v283 k1_hw5 => k1_hw5

def k1_chk6 (v288 : IVec S16 32) : Prop :=
  (∀ a x, ((![v288] : Fin 1 → IVec S16 32) a x).toNat < S12288.size a)
theorem k1_idx6_inb : ∀ (v288 : IVec S16 32) (k1_hw6 : k1_chk6 v288), ∀ a x, ((![v288] : Fin 1 → IVec S16 32) a x).toNat < S12288.size a := fun v288 k1_hw6 => k1_hw6

def k1_chk7 (v293 : IVec S16 32) : Prop :=
  (∀ a x, ((![v293] : Fin 1 → IVec S16 32) a x).toNat < S12288.size a)
theorem k1_idx7_inb : ∀ (v293 : IVec S16 32) (k1_hw7 : k1_chk7 v293), ∀ a x, ((![v293] : Fin 1 → IVec S16 32) a x).toNat < S12288.size a := fun v293 k1_hw7 => k1_hw7

def k1_chk8 (v265 : IVec S16 32) : Prop :=
  (∀ a x, ((![v265] : Fin 1 → IVec S16 32) a x).toNat < S10240.size a)
theorem k1_idx8_inb : ∀ (v265 : IVec S16 32) (k1_hw8 : k1_chk8 v265), ∀ a x, ((![v265] : Fin 1 → IVec S16 32) a x).toNat < S10240.size a := fun v265 k1_hw8 => k1_hw8

def k1_chk9 (v305 : IVec S16 32) : Prop :=
  (∀ a x, ((![v305] : Fin 1 → IVec S16 32) a x).toNat < S30720.size a)
theorem k1_idx9_inb : ∀ (v305 : IVec S16 32) (k1_hw9 : k1_chk9 v305), ∀ a x, ((![v305] : Fin 1 → IVec S16 32) a x).toNat < S30720.size a := fun v305 k1_hw9 => k1_hw9

def k1_chk10 (v307 : IVec S16 32) : Prop :=
  (∀ a x, ((![v307] : Fin 1 → IVec S16 32) a x).toNat < S30720.size a)
theorem k1_idx10_inb : ∀ (v307 : IVec S16 32) (k1_hw10 : k1_chk10 v307), ∀ a x, ((![v307] : Fin 1 → IVec S16 32) a x).toNat < S30720.size a := fun v307 k1_hw10 => k1_hw10

def k1_chk11 (v309 : IVec S16 32) : Prop :=
  (∀ a x, ((![v309] : Fin 1 → IVec S16 32) a x).toNat < S30720.size a)
theorem k1_idx11_inb : ∀ (v309 : IVec S16 32) (k1_hw11 : k1_chk11 v309), ∀ a x, ((![v309] : Fin 1 → IVec S16 32) a x).toNat < S30720.size a := fun v309 k1_hw11 => k1_hw11
def k1_off4 (k1_t2 : Fin k1_t2_loop.trips) : Fin 1 → Nat :=
  let c0_i32_113 : BitVec 32 := 0#32
  let c1_i32_115 : BitVec 32 := 1#32
  let arg29 : BitVec 32 := Scf.iv c0_i32_113 c1_i32_115 k1_t2
  let c4_i32_143 : BitVec 32 := 4#32
  let v311 : BitVec 32 := Scalar.muli arg29 c4_i32_143
  let c1_i32_144 : BitVec 32 := 1#32
  let v312 : BitVec 32 := Scalar.addi v311 c1_i32_144
  let c16_i32_145 : BitVec 32 := 16#32
  let v313 : BitVec 32 := Scalar.muli v312 c16_i32_145
  let v314 : Index := Scalar.indexCast v313
  ![v314.toNat]

def k1_chk12 (v345 : IVec S16 32) : Prop :=
  (∀ a x, ((![v345] : Fin 1 → IVec S16 32) a x).toNat < S12288.size a)
theorem k1_idx12_inb : ∀ (v345 : IVec S16 32) (k1_hw12 : k1_chk12 v345), ∀ a x, ((![v345] : Fin 1 → IVec S16 32) a x).toNat < S12288.size a := fun v345 k1_hw12 => k1_hw12

def k1_chk13 (v350 : IVec S16 32) : Prop :=
  (∀ a x, ((![v350] : Fin 1 → IVec S16 32) a x).toNat < S12288.size a)
theorem k1_idx13_inb : ∀ (v350 : IVec S16 32) (k1_hw13 : k1_chk13 v350), ∀ a x, ((![v350] : Fin 1 → IVec S16 32) a x).toNat < S12288.size a := fun v350 k1_hw13 => k1_hw13

def k1_chk14 (v355 : IVec S16 32) : Prop :=
  (∀ a x, ((![v355] : Fin 1 → IVec S16 32) a x).toNat < S12288.size a)
theorem k1_idx14_inb : ∀ (v355 : IVec S16 32) (k1_hw14 : k1_chk14 v355), ∀ a x, ((![v355] : Fin 1 → IVec S16 32) a x).toNat < S12288.size a := fun v355 k1_hw14 => k1_hw14

def k1_chk15 (v327 : IVec S16 32) : Prop :=
  (∀ a x, ((![v327] : Fin 1 → IVec S16 32) a x).toNat < S10240.size a)
theorem k1_idx15_inb : ∀ (v327 : IVec S16 32) (k1_hw15 : k1_chk15 v327), ∀ a x, ((![v327] : Fin 1 → IVec S16 32) a x).toNat < S10240.size a := fun v327 k1_hw15 => k1_hw15

def k1_chk16 (v367 : IVec S16 32) : Prop :=
  (∀ a x, ((![v367] : Fin 1 → IVec S16 32) a x).toNat < S30720.size a)
theorem k1_idx16_inb : ∀ (v367 : IVec S16 32) (k1_hw16 : k1_chk16 v367), ∀ a x, ((![v367] : Fin 1 → IVec S16 32) a x).toNat < S30720.size a := fun v367 k1_hw16 => k1_hw16

def k1_chk17 (v369 : IVec S16 32) : Prop :=
  (∀ a x, ((![v369] : Fin 1 → IVec S16 32) a x).toNat < S30720.size a)
theorem k1_idx17_inb : ∀ (v369 : IVec S16 32) (k1_hw17 : k1_chk17 v369), ∀ a x, ((![v369] : Fin 1 → IVec S16 32) a x).toNat < S30720.size a := fun v369 k1_hw17 => k1_hw17

def k1_chk18 (v371 : IVec S16 32) : Prop :=
  (∀ a x, ((![v371] : Fin 1 → IVec S16 32) a x).toNat < S30720.size a)
theorem k1_idx18_inb : ∀ (v371 : IVec S16 32) (k1_hw18 : k1_chk18 v371), ∀ a x, ((![v371] : Fin 1 → IVec S16 32) a x).toNat < S30720.size a := fun v371 k1_hw18 => k1_hw18
def k1_off5 (k1_t2 : Fin k1_t2_loop.trips) : Fin 1 → Nat :=
  let c0_i32_113 : BitVec 32 := 0#32
  let c1_i32_115 : BitVec 32 := 1#32
  let arg29 : BitVec 32 := Scf.iv c0_i32_113 c1_i32_115 k1_t2
  let c4_i32_163 : BitVec 32 := 4#32
  let v373 : BitVec 32 := Scalar.muli arg29 c4_i32_163
  let c2_i32_164 : BitVec 32 := 2#32
  let v374 : BitVec 32 := Scalar.addi v373 c2_i32_164
  let c16_i32_165 : BitVec 32 := 16#32
  let v375 : BitVec 32 := Scalar.muli v374 c16_i32_165
  let v376 : Index := Scalar.indexCast v375
  ![v376.toNat]

def k1_chk19 (v407 : IVec S16 32) : Prop :=
  (∀ a x, ((![v407] : Fin 1 → IVec S16 32) a x).toNat < S12288.size a)
theorem k1_idx19_inb : ∀ (v407 : IVec S16 32) (k1_hw19 : k1_chk19 v407), ∀ a x, ((![v407] : Fin 1 → IVec S16 32) a x).toNat < S12288.size a := fun v407 k1_hw19 => k1_hw19

def k1_chk20 (v412 : IVec S16 32) : Prop :=
  (∀ a x, ((![v412] : Fin 1 → IVec S16 32) a x).toNat < S12288.size a)
theorem k1_idx20_inb : ∀ (v412 : IVec S16 32) (k1_hw20 : k1_chk20 v412), ∀ a x, ((![v412] : Fin 1 → IVec S16 32) a x).toNat < S12288.size a := fun v412 k1_hw20 => k1_hw20

def k1_chk21 (v417 : IVec S16 32) : Prop :=
  (∀ a x, ((![v417] : Fin 1 → IVec S16 32) a x).toNat < S12288.size a)
theorem k1_idx21_inb : ∀ (v417 : IVec S16 32) (k1_hw21 : k1_chk21 v417), ∀ a x, ((![v417] : Fin 1 → IVec S16 32) a x).toNat < S12288.size a := fun v417 k1_hw21 => k1_hw21

def k1_chk22 (v389 : IVec S16 32) : Prop :=
  (∀ a x, ((![v389] : Fin 1 → IVec S16 32) a x).toNat < S10240.size a)
theorem k1_idx22_inb : ∀ (v389 : IVec S16 32) (k1_hw22 : k1_chk22 v389), ∀ a x, ((![v389] : Fin 1 → IVec S16 32) a x).toNat < S10240.size a := fun v389 k1_hw22 => k1_hw22

def k1_chk23 (v429 : IVec S16 32) : Prop :=
  (∀ a x, ((![v429] : Fin 1 → IVec S16 32) a x).toNat < S30720.size a)
theorem k1_idx23_inb : ∀ (v429 : IVec S16 32) (k1_hw23 : k1_chk23 v429), ∀ a x, ((![v429] : Fin 1 → IVec S16 32) a x).toNat < S30720.size a := fun v429 k1_hw23 => k1_hw23

def k1_chk24 (v431 : IVec S16 32) : Prop :=
  (∀ a x, ((![v431] : Fin 1 → IVec S16 32) a x).toNat < S30720.size a)
theorem k1_idx24_inb : ∀ (v431 : IVec S16 32) (k1_hw24 : k1_chk24 v431), ∀ a x, ((![v431] : Fin 1 → IVec S16 32) a x).toNat < S30720.size a := fun v431 k1_hw24 => k1_hw24

def k1_chk25 (v433 : IVec S16 32) : Prop :=
  (∀ a x, ((![v433] : Fin 1 → IVec S16 32) a x).toNat < S30720.size a)
theorem k1_idx25_inb : ∀ (v433 : IVec S16 32) (k1_hw25 : k1_chk25 v433), ∀ a x, ((![v433] : Fin 1 → IVec S16 32) a x).toNat < S30720.size a := fun v433 k1_hw25 => k1_hw25
def k1_off6 (k1_t2 : Fin k1_t2_loop.trips) : Fin 1 → Nat :=
  let c0_i32_113 : BitVec 32 := 0#32
  let c1_i32_115 : BitVec 32 := 1#32
  let arg29 : BitVec 32 := Scf.iv c0_i32_113 c1_i32_115 k1_t2
  let c4_i32_183 : BitVec 32 := 4#32
  let v435 : BitVec 32 := Scalar.muli arg29 c4_i32_183
  let c3_i32_184 : BitVec 32 := 3#32
  let v436 : BitVec 32 := Scalar.addi v435 c3_i32_184
  let c16_i32_185 : BitVec 32 := 16#32
  let v437 : BitVec 32 := Scalar.muli v436 c16_i32_185
  let v438 : Index := Scalar.indexCast v437
  ![v438.toNat]

def k1_chk26 (v469 : IVec S16 32) : Prop :=
  (∀ a x, ((![v469] : Fin 1 → IVec S16 32) a x).toNat < S12288.size a)
theorem k1_idx26_inb : ∀ (v469 : IVec S16 32) (k1_hw26 : k1_chk26 v469), ∀ a x, ((![v469] : Fin 1 → IVec S16 32) a x).toNat < S12288.size a := fun v469 k1_hw26 => k1_hw26

def k1_chk27 (v474 : IVec S16 32) : Prop :=
  (∀ a x, ((![v474] : Fin 1 → IVec S16 32) a x).toNat < S12288.size a)
theorem k1_idx27_inb : ∀ (v474 : IVec S16 32) (k1_hw27 : k1_chk27 v474), ∀ a x, ((![v474] : Fin 1 → IVec S16 32) a x).toNat < S12288.size a := fun v474 k1_hw27 => k1_hw27

def k1_chk28 (v479 : IVec S16 32) : Prop :=
  (∀ a x, ((![v479] : Fin 1 → IVec S16 32) a x).toNat < S12288.size a)
theorem k1_idx28_inb : ∀ (v479 : IVec S16 32) (k1_hw28 : k1_chk28 v479), ∀ a x, ((![v479] : Fin 1 → IVec S16 32) a x).toNat < S12288.size a := fun v479 k1_hw28 => k1_hw28

def k1_chk29 (v451 : IVec S16 32) : Prop :=
  (∀ a x, ((![v451] : Fin 1 → IVec S16 32) a x).toNat < S10240.size a)
theorem k1_idx29_inb : ∀ (v451 : IVec S16 32) (k1_hw29 : k1_chk29 v451), ∀ a x, ((![v451] : Fin 1 → IVec S16 32) a x).toNat < S10240.size a := fun v451 k1_hw29 => k1_hw29

def k1_chk30 (v491 : IVec S16 32) : Prop :=
  (∀ a x, ((![v491] : Fin 1 → IVec S16 32) a x).toNat < S30720.size a)
theorem k1_idx30_inb : ∀ (v491 : IVec S16 32) (k1_hw30 : k1_chk30 v491), ∀ a x, ((![v491] : Fin 1 → IVec S16 32) a x).toNat < S30720.size a := fun v491 k1_hw30 => k1_hw30

def k1_chk31 (v493 : IVec S16 32) : Prop :=
  (∀ a x, ((![v493] : Fin 1 → IVec S16 32) a x).toNat < S30720.size a)
theorem k1_idx31_inb : ∀ (v493 : IVec S16 32) (k1_hw31 : k1_chk31 v493), ∀ a x, ((![v493] : Fin 1 → IVec S16 32) a x).toNat < S30720.size a := fun v493 k1_hw31 => k1_hw31

def k1_chk32 (v495 : IVec S16 32) : Prop :=
  (∀ a x, ((![v495] : Fin 1 → IVec S16 32) a x).toNat < S30720.size a)
theorem k1_idx32_inb : ∀ (v495 : IVec S16 32) (k1_hw32 : k1_chk32 v495), ∀ a x, ((![v495] : Fin 1 → IVec S16 32) a x).toNat < S30720.size a := fun v495 k1_hw32 => k1_hw32
@[reducible] def k1_t3_loop (arg27 : BitVec 32) (v229 : BitVec 32) : Scf.Loop 32 :=
  let c0_i32_119 : BitVec 32 := 0#32
  let v230 : BitVec 32 := Scalar.subi v229 arg27
  let c0_i32_117 : BitVec 32 := 0#32
  let v231 : BitVec 32 := Scalar.maxsi v230 c0_i32_117
  let c11_i32_118 : BitVec 32 := 11#32
  let v232 : BitVec 32 := Scalar.shrsi v231 c11_i32_118
  let v233 : BitVec 32 := Scalar.subi v232 c0_i32_119
  let c1_i32_120 : BitVec 32 := 1#32
  let v235 : BitVec 32 := Scalar.divsi v233 c1_i32_120
  let v236 : BitVec 32 := Scalar.muli v235 c1_i32_120
  let v237 : BitVec 32 := Scalar.addi c0_i32_119 v236
  let c1_i32_121 : BitVec 32 := 1#32
  ⟨c0_i32_119, v237, c1_i32_121⟩

@[reducible] def k1_t4_loop : Scf.Loop 32 :=
  let c0_i32_130 : BitVec 32 := 0#32
  let c128_i32_131 : BitVec 32 := 128#32
  let v260 : BitVec 32 := Scalar.addi c0_i32_130 c128_i32_131
  let c1_i32_132 : BitVec 32 := 1#32
  ⟨c0_i32_130, v260, c1_i32_132⟩
def k1_off7 (k1_t4 : Fin k1_t4_loop.trips) : Fin 1 → Nat :=
  let c0_i32_130 : BitVec 32 := 0#32
  let c1_i32_132 : BitVec 32 := 1#32
  let arg31 : BitVec 32 := Scf.iv c0_i32_130 c1_i32_132 k1_t4
  let c16_i32_139 : BitVec 32 := 16#32
  let v264 : BitVec 32 := Scalar.muli arg31 c16_i32_139
  let v265 : Index := Scalar.indexCast v264
  ![v265.toNat]
def k1_off8 (k1_t4 : Fin k1_t4_loop.trips) : Fin 1 → Nat :=
  let c8192_i32 : BitVec 32 := 8192#32
  let c0_i32_130 : BitVec 32 := 0#32
  let c1_i32_132 : BitVec 32 := 1#32
  let arg31 : BitVec 32 := Scf.iv c0_i32_130 c1_i32_132 k1_t4
  let c16_i32_140 : BitVec 32 := 16#32
  let v267 : BitVec 32 := Scalar.muli arg31 c16_i32_140
  let v268 : BitVec 32 := Scalar.addi c8192_i32 v267
  let v269 : Index := Scalar.indexCast v268
  ![v269.toNat]
@[reducible] def k1_t5_loop : Scf.Loop 32 :=
  let c0_i32_135 : BitVec 32 := 0#32
  let c384_i32_136 : BitVec 32 := 384#32
  let v262 : BitVec 32 := Scalar.addi c0_i32_135 c384_i32_136
  let c1_i32_137 : BitVec 32 := 1#32
  ⟨c0_i32_135, v262, c1_i32_137⟩
def k1_off9 (k1_t5 : Fin k1_t5_loop.trips) : Fin 1 → Nat :=
  let c0_i32_135 : BitVec 32 := 0#32
  let c1_i32_137 : BitVec 32 := 1#32
  let arg31 : BitVec 32 := Scf.iv c0_i32_135 c1_i32_137 k1_t5
  let c16_i32_139 : BitVec 32 := 16#32
  let v264 : BitVec 32 := Scalar.muli arg31 c16_i32_139
  let v265 : Index := Scalar.indexCast v264
  ![v265.toNat]
def k1_off10 (k1_t5 : Fin k1_t5_loop.trips) : Fin 1 → Nat :=
  let c24576_i32 : BitVec 32 := 24576#32
  let c0_i32_135 : BitVec 32 := 0#32
  let c1_i32_137 : BitVec 32 := 1#32
  let arg31 : BitVec 32 := Scf.iv c0_i32_135 c1_i32_137 k1_t5
  let c16_i32_140 : BitVec 32 := 16#32
  let v267 : BitVec 32 := Scalar.muli arg31 c16_i32_140
  let v268 : BitVec 32 := Scalar.addi c24576_i32 v267
  let v269 : Index := Scalar.indexCast v268
  ![v269.toNat]
def k1_mult3 (arg30 : BitVec 32) : BitVec 32 :=
  let c8191_i32 : BitVec 32 := 8191#32
  let v249 : BitVec 32 := Scalar.andi arg30 c8191_i32
  v249

def k1_mult4 (arg30 : BitVec 32) : BitVec 32 :=
  arg30
def k1_off11 (arg30 : BitVec 32) : Fin 1 → Nat :=
  let c8191_i32 : BitVec 32 := 8191#32
  let v249 : BitVec 32 := Scalar.andi arg30 c8191_i32
  let v253 : BitVec 32 := v249
  ![v253.toNat]
def k1_off12 (arg30 : BitVec 32) : Fin 1 → Nat :=
  let v254 : BitVec 32 := arg30
  ![v254.toNat]
def k1_mult5 (arg30 : BitVec 32) : BitVec 32 :=
  let c8191_i32 : BitVec 32 := 8191#32
  let v249 : BitVec 32 := Scalar.andi arg30 c8191_i32
  let c3_i32_127 : BitVec 32 := 3#32
  let v255 : BitVec 32 := Scalar.muli v249 c3_i32_127
  v255
def k1_mult6 (arg30 : BitVec 32) : BitVec 32 :=
  let c3_i32_128 : BitVec 32 := 3#32
  let v257 : BitVec 32 := Scalar.muli arg30 c3_i32_128
  v257
def k1_off13 (arg30 : BitVec 32) : Fin 1 → Nat :=
  let c8191_i32 : BitVec 32 := 8191#32
  let v249 : BitVec 32 := Scalar.andi arg30 c8191_i32
  let c3_i32_127 : BitVec 32 := 3#32
  let v255 : BitVec 32 := Scalar.muli v249 c3_i32_127
  let v256 : BitVec 32 := v255
  ![v256.toNat]
def k1_off14 (arg30 : BitVec 32) : Fin 1 → Nat :=
  let c3_i32_128 : BitVec 32 := 3#32
  let v257 : BitVec 32 := Scalar.muli arg30 c3_i32_128
  let v258 : BitVec 32 := v257
  ![v258.toNat]

def k1_chk34 (arg30 : BitVec 32) : Prop :=
  (8 ∣ (k1_mult3 arg30).toNat) ∧
  (8 ∣ (k1_mult4 arg30).toNat) ∧
  (∀ a, (k1_off11 arg30) a + S2048.size a ≤ S10240.size a) ∧
  (∀ a, (k1_off12 arg30) a + S2048.size a ≤ S2097152.size a) ∧
  (8 ∣ (k1_mult5 arg30).toNat) ∧
  (8 ∣ (k1_mult6 arg30).toNat) ∧
  (∀ a, (k1_off13 arg30) a + S6144.size a ≤ S30720.size a) ∧
  (∀ a, (k1_off14 arg30) a + S6144.size a ≤ S6291456.size a)
theorem k1_mult3_dvd : ∀ (arg30 : BitVec 32) (k1_hw34 : k1_chk34 arg30), 8 ∣ (k1_mult3 arg30).toNat := fun arg30 k1_hw34 => k1_hw34.1
theorem k1_mult4_dvd : ∀ (arg30 : BitVec 32) (k1_hw34 : k1_chk34 arg30), 8 ∣ (k1_mult4 arg30).toNat := fun arg30 k1_hw34 => k1_hw34.2.1
theorem k1_off11_inb : ∀ (arg30 : BitVec 32) (k1_hw34 : k1_chk34 arg30), ∀ a, (k1_off11 arg30) a + S2048.size a ≤ S10240.size a := fun arg30 k1_hw34 => k1_hw34.2.2.1
theorem k1_off12_inb : ∀ (arg30 : BitVec 32) (k1_hw34 : k1_chk34 arg30), ∀ a, (k1_off12 arg30) a + S2048.size a ≤ S2097152.size a := fun arg30 k1_hw34 => k1_hw34.2.2.2.1
theorem k1_mult5_dvd : ∀ (arg30 : BitVec 32) (k1_hw34 : k1_chk34 arg30), 8 ∣ (k1_mult5 arg30).toNat := fun arg30 k1_hw34 => k1_hw34.2.2.2.2.1
theorem k1_mult6_dvd : ∀ (arg30 : BitVec 32) (k1_hw34 : k1_chk34 arg30), 8 ∣ (k1_mult6 arg30).toNat := fun arg30 k1_hw34 => k1_hw34.2.2.2.2.2.1
theorem k1_off13_inb : ∀ (arg30 : BitVec 32) (k1_hw34 : k1_chk34 arg30), ∀ a, (k1_off13 arg30) a + S6144.size a ≤ S30720.size a := fun arg30 k1_hw34 => k1_hw34.2.2.2.2.2.2.1
theorem k1_off14_inb : ∀ (arg30 : BitVec 32) (k1_hw34 : k1_chk34 arg30), ∀ a, (k1_off14 arg30) a + S6144.size a ≤ S6291456.size a := fun arg30 k1_hw34 => k1_hw34.2.2.2.2.2.2.2

@[reducible] def k1_t6_loop (arg27 : BitVec 32) (v229 : BitVec 32) : Scf.Loop 32 :=
  let c0_i32_119 : BitVec 32 := 0#32
  let v230 : BitVec 32 := Scalar.subi v229 arg27
  let c0_i32_117 : BitVec 32 := 0#32
  let v231 : BitVec 32 := Scalar.maxsi v230 c0_i32_117
  let c11_i32_118 : BitVec 32 := 11#32
  let v232 : BitVec 32 := Scalar.shrsi v231 c11_i32_118
  let v233 : BitVec 32 := Scalar.subi v232 c0_i32_119
  let c1_i32_120 : BitVec 32 := 1#32
  let v235 : BitVec 32 := Scalar.divsi v233 c1_i32_120
  let v236 : BitVec 32 := Scalar.muli v235 c1_i32_120
  let v237 : BitVec 32 := Scalar.addi c0_i32_119 v236
  let v234 : BitVec 32 := Scalar.addi c0_i32_119 v233
  let c1_i32_122 : BitVec 32 := 1#32
  ⟨v237, v234, c1_i32_122⟩

def k1_chk33 (arg27 : BitVec 32) (v229 : BitVec 32) : Prop :=
  ((k1_t3_loop arg27 v229).OK) ∧
  ((k1_t6_loop arg27 v229).OK)
theorem k1_t3_ok : ∀ (arg27 : BitVec 32) (v229 : BitVec 32) (k1_hw33 : k1_chk33 arg27 v229), (k1_t3_loop arg27 v229).OK := fun arg27 v229 k1_hw33 => k1_hw33.1
theorem k1_t6_ok : ∀ (arg27 : BitVec 32) (v229 : BitVec 32) (k1_hw33 : k1_chk33 arg27 v229), (k1_t6_loop arg27 v229).OK := fun arg27 v229 k1_hw33 => k1_hw33.2

@[reducible] def k1_t7_loop : Scf.Loop 32 :=
  let c0_i32_130 : BitVec 32 := 0#32
  let c128_i32_131 : BitVec 32 := 128#32
  let v260 : BitVec 32 := Scalar.addi c0_i32_130 c128_i32_131
  let c1_i32_132 : BitVec 32 := 1#32
  ⟨c0_i32_130, v260, c1_i32_132⟩
def k1_off15 (k1_t7 : Fin k1_t7_loop.trips) : Fin 1 → Nat :=
  let c0_i32_130 : BitVec 32 := 0#32
  let c1_i32_132 : BitVec 32 := 1#32
  let arg31 : BitVec 32 := Scf.iv c0_i32_130 c1_i32_132 k1_t7
  let c16_i32_139 : BitVec 32 := 16#32
  let v264 : BitVec 32 := Scalar.muli arg31 c16_i32_139
  let v265 : Index := Scalar.indexCast v264
  ![v265.toNat]
def k1_off16 (k1_t7 : Fin k1_t7_loop.trips) : Fin 1 → Nat :=
  let c8192_i32 : BitVec 32 := 8192#32
  let c0_i32_130 : BitVec 32 := 0#32
  let c1_i32_132 : BitVec 32 := 1#32
  let arg31 : BitVec 32 := Scf.iv c0_i32_130 c1_i32_132 k1_t7
  let c16_i32_140 : BitVec 32 := 16#32
  let v267 : BitVec 32 := Scalar.muli arg31 c16_i32_140
  let v268 : BitVec 32 := Scalar.addi c8192_i32 v267
  let v269 : Index := Scalar.indexCast v268
  ![v269.toNat]
@[reducible] def k1_t8_loop : Scf.Loop 32 :=
  let c0_i32_135 : BitVec 32 := 0#32
  let c384_i32_136 : BitVec 32 := 384#32
  let v262 : BitVec 32 := Scalar.addi c0_i32_135 c384_i32_136
  let c1_i32_137 : BitVec 32 := 1#32
  ⟨c0_i32_135, v262, c1_i32_137⟩
def k1_off17 (k1_t8 : Fin k1_t8_loop.trips) : Fin 1 → Nat :=
  let c0_i32_135 : BitVec 32 := 0#32
  let c1_i32_137 : BitVec 32 := 1#32
  let arg31 : BitVec 32 := Scf.iv c0_i32_135 c1_i32_137 k1_t8
  let c16_i32_139 : BitVec 32 := 16#32
  let v264 : BitVec 32 := Scalar.muli arg31 c16_i32_139
  let v265 : Index := Scalar.indexCast v264
  ![v265.toNat]
def k1_off18 (k1_t8 : Fin k1_t8_loop.trips) : Fin 1 → Nat :=
  let c24576_i32 : BitVec 32 := 24576#32
  let c0_i32_135 : BitVec 32 := 0#32
  let c1_i32_137 : BitVec 32 := 1#32
  let arg31 : BitVec 32 := Scf.iv c0_i32_135 c1_i32_137 k1_t8
  let c16_i32_140 : BitVec 32 := 16#32
  let v267 : BitVec 32 := Scalar.muli arg31 c16_i32_140
  let v268 : BitVec 32 := Scalar.addi c24576_i32 v267
  let v269 : Index := Scalar.indexCast v268
  ![v269.toNat]
def k1_mult7 (arg30 : BitVec 32) : BitVec 32 :=
  let c8191_i32 : BitVec 32 := 8191#32
  let v249 : BitVec 32 := Scalar.andi arg30 c8191_i32
  v249

def k1_mult8 (arg30 : BitVec 32) : BitVec 32 :=
  arg30
def k1_off19 (arg30 : BitVec 32) : Fin 1 → Nat :=
  let c8191_i32 : BitVec 32 := 8191#32
  let v249 : BitVec 32 := Scalar.andi arg30 c8191_i32
  let v253 : BitVec 32 := v249
  ![v253.toNat]
def k1_off20 (arg30 : BitVec 32) : Fin 1 → Nat :=
  let v254 : BitVec 32 := arg30
  ![v254.toNat]
def k1_mult9 (arg30 : BitVec 32) : BitVec 32 :=
  let c8191_i32 : BitVec 32 := 8191#32
  let v249 : BitVec 32 := Scalar.andi arg30 c8191_i32
  let c3_i32_127 : BitVec 32 := 3#32
  let v255 : BitVec 32 := Scalar.muli v249 c3_i32_127
  v255
def k1_mult10 (arg30 : BitVec 32) : BitVec 32 :=
  let c3_i32_128 : BitVec 32 := 3#32
  let v257 : BitVec 32 := Scalar.muli arg30 c3_i32_128
  v257
def k1_off21 (arg30 : BitVec 32) : Fin 1 → Nat :=
  let c8191_i32 : BitVec 32 := 8191#32
  let v249 : BitVec 32 := Scalar.andi arg30 c8191_i32
  let c3_i32_127 : BitVec 32 := 3#32
  let v255 : BitVec 32 := Scalar.muli v249 c3_i32_127
  let v256 : BitVec 32 := v255
  ![v256.toNat]
def k1_off22 (arg30 : BitVec 32) : Fin 1 → Nat :=
  let c3_i32_128 : BitVec 32 := 3#32
  let v257 : BitVec 32 := Scalar.muli arg30 c3_i32_128
  let v258 : BitVec 32 := v257
  ![v258.toNat]

def k1_chk35 (arg30 : BitVec 32) : Prop :=
  (8 ∣ (k1_mult7 arg30).toNat) ∧
  (8 ∣ (k1_mult8 arg30).toNat) ∧
  (∀ a, (k1_off19 arg30) a + S2048.size a ≤ S10240.size a) ∧
  (∀ a, (k1_off20 arg30) a + S2048.size a ≤ S2097152.size a) ∧
  (8 ∣ (k1_mult9 arg30).toNat) ∧
  (8 ∣ (k1_mult10 arg30).toNat) ∧
  (∀ a, (k1_off21 arg30) a + S6144.size a ≤ S30720.size a) ∧
  (∀ a, (k1_off22 arg30) a + S6144.size a ≤ S6291456.size a)
theorem k1_mult7_dvd : ∀ (arg30 : BitVec 32) (k1_hw35 : k1_chk35 arg30), 8 ∣ (k1_mult7 arg30).toNat := fun arg30 k1_hw35 => k1_hw35.1
theorem k1_mult8_dvd : ∀ (arg30 : BitVec 32) (k1_hw35 : k1_chk35 arg30), 8 ∣ (k1_mult8 arg30).toNat := fun arg30 k1_hw35 => k1_hw35.2.1
theorem k1_off19_inb : ∀ (arg30 : BitVec 32) (k1_hw35 : k1_chk35 arg30), ∀ a, (k1_off19 arg30) a + S2048.size a ≤ S10240.size a := fun arg30 k1_hw35 => k1_hw35.2.2.1
theorem k1_off20_inb : ∀ (arg30 : BitVec 32) (k1_hw35 : k1_chk35 arg30), ∀ a, (k1_off20 arg30) a + S2048.size a ≤ S2097152.size a := fun arg30 k1_hw35 => k1_hw35.2.2.2.1
theorem k1_mult9_dvd : ∀ (arg30 : BitVec 32) (k1_hw35 : k1_chk35 arg30), 8 ∣ (k1_mult9 arg30).toNat := fun arg30 k1_hw35 => k1_hw35.2.2.2.2.1
theorem k1_mult10_dvd : ∀ (arg30 : BitVec 32) (k1_hw35 : k1_chk35 arg30), 8 ∣ (k1_mult10 arg30).toNat := fun arg30 k1_hw35 => k1_hw35.2.2.2.2.2.1
theorem k1_off21_inb : ∀ (arg30 : BitVec 32) (k1_hw35 : k1_chk35 arg30), ∀ a, (k1_off21 arg30) a + S6144.size a ≤ S30720.size a := fun arg30 k1_hw35 => k1_hw35.2.2.2.2.2.2.1
theorem k1_off22_inb : ∀ (arg30 : BitVec 32) (k1_hw35 : k1_chk35 arg30), ∀ a, (k1_off22 arg30) a + S6144.size a ≤ S6291456.size a := fun arg30 k1_hw35 => k1_hw35.2.2.2.2.2.2.2

def k1_cond3 (v31 : BitVec 32) (v36 : BitVec 32) (k1_t1 : Fin k1_t1_loop.trips) (arg28 : BitVec 32) (v229 : BitVec 32) : BitVec 1 :=
  let c0_i32_123 : BitVec 32 := 0#32
  let v240 : BitVec 1 := Scalar.cmpi .eq arg28 c0_i32_123
  let v241 : BitVec 32 := Scalar.subi v229 v31
  let c8_i32 : BitVec 32 := 8#32
  let c7_i32 : BitVec 32 := 7#32
  let v51 : BitVec 32 := Scalar.andi v31 c7_i32
  let v52 : BitVec 32 := Scalar.subi c8_i32 v51
  let c7_i32_12 : BitVec 32 := 7#32
  let v53 : BitVec 32 := Scalar.andi v52 c7_i32_12
  let v54 : BitVec 32 := Scalar.minsi v53 v36
  let v242 : BitVec 1 := Scalar.cmpi .sge v241 v54
  let c0_i32_14 : BitVec 32 := 0#32
  let c1_i32_16 : BitVec 32 := 1#32
  let arg25 : BitVec 32 := Scf.iv c0_i32_14 c1_i32_16 k1_t1
  let c15_i32 : BitVec 32 := 15#32
  let v243 : BitVec 1 := Scalar.cmpi .eq arg25 c15_i32
  let v244 : BitVec 1 := Scalar.ori v242 v243
  let v245 : BitVec 1 := Scalar.andi v240 v244
  let v246 : BitVec 32 := Scalar.extui v245
  let c0_i32_124 : BitVec 32 := 0#32
  let v247 : BitVec 1 := Scalar.cmpi .ne v246 c0_i32_124
  v247

def k1_cond4 (v31 : BitVec 32) (v36 : BitVec 32) : BitVec 1 :=
  let c8_i32 : BitVec 32 := 8#32
  let c7_i32 : BitVec 32 := 7#32
  let v51 : BitVec 32 := Scalar.andi v31 c7_i32
  let v52 : BitVec 32 := Scalar.subi c8_i32 v51
  let c7_i32_12 : BitVec 32 := 7#32
  let v53 : BitVec 32 := Scalar.andi v52 c7_i32_12
  let v54 : BitVec 32 := Scalar.minsi v53 v36
  let c0_i32_126 : BitVec 32 := 0#32
  let v249 : BitVec 1 := Scalar.cmpi .sgt v54 c0_i32_126
  let v250 : BitVec 32 := Scalar.extui v249
  let c0_i32_127 : BitVec 32 := 0#32
  let v251 : BitVec 1 := Scalar.cmpi .ne v250 c0_i32_127
  v251

def k1_chk36 (v31 : BitVec 32) (v36 : BitVec 32) (k1_t1 : Fin k1_t1_loop.trips) (arg28 : BitVec 32) (v229 : BitVec 32) (v264 : IVec S16 32) : Prop :=
  (∀ (k1_h3 : k1_cond3 v31 v36 k1_t1 arg28 v229 = 1#1), ∀ (k1_h4 : k1_cond4 v31 v36 = 1#1), ∀ a x, ((![v264] : Fin 1 → IVec S16 32) a x).toNat < S10240.size a)
theorem k1_idx33_inb : ∀ (v31 : BitVec 32) (v36 : BitVec 32) (k1_t1 : Fin k1_t1_loop.trips) (arg28 : BitVec 32) (v229 : BitVec 32) (v264 : IVec S16 32) (k1_hw36 : k1_chk36 v31 v36 k1_t1 arg28 v229 v264), ∀ (k1_h3 : k1_cond3 v31 v36 k1_t1 arg28 v229 = 1#1), ∀ (k1_h4 : k1_cond4 v31 v36 = 1#1), ∀ a x, ((![v264] : Fin 1 → IVec S16 32) a x).toNat < S10240.size a := fun v31 v36 k1_t1 arg28 v229 v264 k1_hw36 k1_h3 k1_h4 => k1_hw36 k1_h3 k1_h4

def k1_chk37 (v31 : BitVec 32) (v36 : BitVec 32) (k1_t1 : Fin k1_t1_loop.trips) (arg28 : BitVec 32) (v229 : BitVec 32) (v276 : IVec S16 32) : Prop :=
  (∀ (k1_h3 : k1_cond3 v31 v36 k1_t1 arg28 v229 = 1#1), ∀ (k1_h4 : k1_cond4 v31 v36 = 1#1), ∀ a x, ((![v276] : Fin 1 → IVec S16 32) a x).toNat < S10240.size a)
theorem k1_idx34_inb : ∀ (v31 : BitVec 32) (v36 : BitVec 32) (k1_t1 : Fin k1_t1_loop.trips) (arg28 : BitVec 32) (v229 : BitVec 32) (v276 : IVec S16 32) (k1_hw37 : k1_chk37 v31 v36 k1_t1 arg28 v229 v276), ∀ (k1_h3 : k1_cond3 v31 v36 k1_t1 arg28 v229 = 1#1), ∀ (k1_h4 : k1_cond4 v31 v36 = 1#1), ∀ a x, ((![v276] : Fin 1 → IVec S16 32) a x).toNat < S10240.size a := fun v31 v36 k1_t1 arg28 v229 v276 k1_hw37 k1_h3 k1_h4 => k1_hw37 k1_h3 k1_h4

def k1_chk38 (v31 : BitVec 32) (v36 : BitVec 32) (k1_t1 : Fin k1_t1_loop.trips) (arg28 : BitVec 32) (v229 : BitVec 32) (v288 : IVec S16 32) : Prop :=
  (∀ (k1_h3 : k1_cond3 v31 v36 k1_t1 arg28 v229 = 1#1), ∀ (k1_h4 : k1_cond4 v31 v36 = 1#1), ∀ a x, ((![v288] : Fin 1 → IVec S16 32) a x).toNat < S10240.size a)
theorem k1_idx35_inb : ∀ (v31 : BitVec 32) (v36 : BitVec 32) (k1_t1 : Fin k1_t1_loop.trips) (arg28 : BitVec 32) (v229 : BitVec 32) (v288 : IVec S16 32) (k1_hw38 : k1_chk38 v31 v36 k1_t1 arg28 v229 v288), ∀ (k1_h3 : k1_cond3 v31 v36 k1_t1 arg28 v229 = 1#1), ∀ (k1_h4 : k1_cond4 v31 v36 = 1#1), ∀ a x, ((![v288] : Fin 1 → IVec S16 32) a x).toNat < S10240.size a := fun v31 v36 k1_t1 arg28 v229 v288 k1_hw38 k1_h3 k1_h4 => k1_hw38 k1_h3 k1_h4

def k1_chk39 (v31 : BitVec 32) (v36 : BitVec 32) (k1_t1 : Fin k1_t1_loop.trips) (arg28 : BitVec 32) (v229 : BitVec 32) (v300 : IVec S16 32) : Prop :=
  (∀ (k1_h3 : k1_cond3 v31 v36 k1_t1 arg28 v229 = 1#1), ∀ (k1_h4 : k1_cond4 v31 v36 = 1#1), ∀ a x, ((![v300] : Fin 1 → IVec S16 32) a x).toNat < S10240.size a)
theorem k1_idx36_inb : ∀ (v31 : BitVec 32) (v36 : BitVec 32) (k1_t1 : Fin k1_t1_loop.trips) (arg28 : BitVec 32) (v229 : BitVec 32) (v300 : IVec S16 32) (k1_hw39 : k1_chk39 v31 v36 k1_t1 arg28 v229 v300), ∀ (k1_h3 : k1_cond3 v31 v36 k1_t1 arg28 v229 = 1#1), ∀ (k1_h4 : k1_cond4 v31 v36 = 1#1), ∀ a x, ((![v300] : Fin 1 → IVec S16 32) a x).toNat < S10240.size a := fun v31 v36 k1_t1 arg28 v229 v300 k1_hw39 k1_h3 k1_h4 => k1_hw39 k1_h3 k1_h4

def k1_chk40 (v31 : BitVec 32) (v36 : BitVec 32) (k1_t1 : Fin k1_t1_loop.trips) (arg28 : BitVec 32) (v229 : BitVec 32) (v312 : IVec S16 32) : Prop :=
  (∀ (k1_h3 : k1_cond3 v31 v36 k1_t1 arg28 v229 = 1#1), ∀ (k1_h4 : k1_cond4 v31 v36 = 1#1), ∀ a x, ((![v312] : Fin 1 → IVec S16 32) a x).toNat < S10240.size a)
theorem k1_idx37_inb : ∀ (v31 : BitVec 32) (v36 : BitVec 32) (k1_t1 : Fin k1_t1_loop.trips) (arg28 : BitVec 32) (v229 : BitVec 32) (v312 : IVec S16 32) (k1_hw40 : k1_chk40 v31 v36 k1_t1 arg28 v229 v312), ∀ (k1_h3 : k1_cond3 v31 v36 k1_t1 arg28 v229 = 1#1), ∀ (k1_h4 : k1_cond4 v31 v36 = 1#1), ∀ a x, ((![v312] : Fin 1 → IVec S16 32) a x).toNat < S10240.size a := fun v31 v36 k1_t1 arg28 v229 v312 k1_hw40 k1_h3 k1_h4 => k1_hw40 k1_h3 k1_h4

def k1_chk41 (v31 : BitVec 32) (v36 : BitVec 32) (k1_t1 : Fin k1_t1_loop.trips) (arg28 : BitVec 32) (v229 : BitVec 32) (v324 : IVec S16 32) : Prop :=
  (∀ (k1_h3 : k1_cond3 v31 v36 k1_t1 arg28 v229 = 1#1), ∀ (k1_h4 : k1_cond4 v31 v36 = 1#1), ∀ a x, ((![v324] : Fin 1 → IVec S16 32) a x).toNat < S10240.size a)
theorem k1_idx38_inb : ∀ (v31 : BitVec 32) (v36 : BitVec 32) (k1_t1 : Fin k1_t1_loop.trips) (arg28 : BitVec 32) (v229 : BitVec 32) (v324 : IVec S16 32) (k1_hw41 : k1_chk41 v31 v36 k1_t1 arg28 v229 v324), ∀ (k1_h3 : k1_cond3 v31 v36 k1_t1 arg28 v229 = 1#1), ∀ (k1_h4 : k1_cond4 v31 v36 = 1#1), ∀ a x, ((![v324] : Fin 1 → IVec S16 32) a x).toNat < S10240.size a := fun v31 v36 k1_t1 arg28 v229 v324 k1_hw41 k1_h3 k1_h4 => k1_hw41 k1_h3 k1_h4

def k1_chk42 (v31 : BitVec 32) (v36 : BitVec 32) (k1_t1 : Fin k1_t1_loop.trips) (arg28 : BitVec 32) (v229 : BitVec 32) (v336 : IVec S16 32) : Prop :=
  (∀ (k1_h3 : k1_cond3 v31 v36 k1_t1 arg28 v229 = 1#1), ∀ (k1_h4 : k1_cond4 v31 v36 = 1#1), ∀ a x, ((![v336] : Fin 1 → IVec S16 32) a x).toNat < S10240.size a)
theorem k1_idx39_inb : ∀ (v31 : BitVec 32) (v36 : BitVec 32) (k1_t1 : Fin k1_t1_loop.trips) (arg28 : BitVec 32) (v229 : BitVec 32) (v336 : IVec S16 32) (k1_hw42 : k1_chk42 v31 v36 k1_t1 arg28 v229 v336), ∀ (k1_h3 : k1_cond3 v31 v36 k1_t1 arg28 v229 = 1#1), ∀ (k1_h4 : k1_cond4 v31 v36 = 1#1), ∀ a x, ((![v336] : Fin 1 → IVec S16 32) a x).toNat < S10240.size a := fun v31 v36 k1_t1 arg28 v229 v336 k1_hw42 k1_h3 k1_h4 => k1_hw42 k1_h3 k1_h4

def k1_chk43 (v31 : BitVec 32) (v36 : BitVec 32) (k1_t1 : Fin k1_t1_loop.trips) (arg28 : BitVec 32) (v229 : BitVec 32) (v348 : IVec S16 32) : Prop :=
  (∀ (k1_h3 : k1_cond3 v31 v36 k1_t1 arg28 v229 = 1#1), ∀ (k1_h4 : k1_cond4 v31 v36 = 1#1), ∀ a x, ((![v348] : Fin 1 → IVec S16 32) a x).toNat < S10240.size a)
theorem k1_idx40_inb : ∀ (v31 : BitVec 32) (v36 : BitVec 32) (k1_t1 : Fin k1_t1_loop.trips) (arg28 : BitVec 32) (v229 : BitVec 32) (v348 : IVec S16 32) (k1_hw43 : k1_chk43 v31 v36 k1_t1 arg28 v229 v348), ∀ (k1_h3 : k1_cond3 v31 v36 k1_t1 arg28 v229 = 1#1), ∀ (k1_h4 : k1_cond4 v31 v36 = 1#1), ∀ a x, ((![v348] : Fin 1 → IVec S16 32) a x).toNat < S10240.size a := fun v31 v36 k1_t1 arg28 v229 v348 k1_hw43 k1_h3 k1_h4 => k1_hw43 k1_h3 k1_h4
def k1_cond5 (v31 : BitVec 32) (v36 : BitVec 32) : BitVec 1 :=
  let c8_i32 : BitVec 32 := 8#32
  let c7_i32 : BitVec 32 := 7#32
  let v51 : BitVec 32 := Scalar.andi v31 c7_i32
  let v52 : BitVec 32 := Scalar.subi c8_i32 v51
  let c7_i32_12 : BitVec 32 := 7#32
  let v53 : BitVec 32 := Scalar.andi v52 c7_i32_12
  let v54 : BitVec 32 := Scalar.minsi v53 v36
  let c0_i32_128 : BitVec 32 := 0#32
  let v252 : BitVec 1 := Scalar.cmpi .sgt v54 c0_i32_128
  let v253 : BitVec 32 := Scalar.extui v252
  let c0_i32_129 : BitVec 32 := 0#32
  let v254 : BitVec 1 := Scalar.cmpi .ne v253 c0_i32_129
  v254

def k1_chk44 (v31 : BitVec 32) (v36 : BitVec 32) (k1_t1 : Fin k1_t1_loop.trips) (arg28 : BitVec 32) (v229 : BitVec 32) (v278 : IVec S16 32) : Prop :=
  (∀ (k1_h3 : k1_cond3 v31 v36 k1_t1 arg28 v229 = 1#1), ∀ (k1_h5 : k1_cond5 v31 v36 = 1#1), ∀ a x, ((![v278] : Fin 1 → IVec S16 32) a x).toNat < S30720.size a)
theorem k1_idx41_inb : ∀ (v31 : BitVec 32) (v36 : BitVec 32) (k1_t1 : Fin k1_t1_loop.trips) (arg28 : BitVec 32) (v229 : BitVec 32) (v278 : IVec S16 32) (k1_hw44 : k1_chk44 v31 v36 k1_t1 arg28 v229 v278), ∀ (k1_h3 : k1_cond3 v31 v36 k1_t1 arg28 v229 = 1#1), ∀ (k1_h5 : k1_cond5 v31 v36 = 1#1), ∀ a x, ((![v278] : Fin 1 → IVec S16 32) a x).toNat < S30720.size a := fun v31 v36 k1_t1 arg28 v229 v278 k1_hw44 k1_h3 k1_h5 => k1_hw44 k1_h3 k1_h5

def k1_chk45 (v31 : BitVec 32) (v36 : BitVec 32) (k1_t1 : Fin k1_t1_loop.trips) (arg28 : BitVec 32) (v229 : BitVec 32) (v304 : IVec S16 32) : Prop :=
  (∀ (k1_h3 : k1_cond3 v31 v36 k1_t1 arg28 v229 = 1#1), ∀ (k1_h5 : k1_cond5 v31 v36 = 1#1), ∀ a x, ((![v304] : Fin 1 → IVec S16 32) a x).toNat < S30720.size a)
theorem k1_idx42_inb : ∀ (v31 : BitVec 32) (v36 : BitVec 32) (k1_t1 : Fin k1_t1_loop.trips) (arg28 : BitVec 32) (v229 : BitVec 32) (v304 : IVec S16 32) (k1_hw45 : k1_chk45 v31 v36 k1_t1 arg28 v229 v304), ∀ (k1_h3 : k1_cond3 v31 v36 k1_t1 arg28 v229 = 1#1), ∀ (k1_h5 : k1_cond5 v31 v36 = 1#1), ∀ a x, ((![v304] : Fin 1 → IVec S16 32) a x).toNat < S30720.size a := fun v31 v36 k1_t1 arg28 v229 v304 k1_hw45 k1_h3 k1_h5 => k1_hw45 k1_h3 k1_h5

def k1_chk46 (v31 : BitVec 32) (v36 : BitVec 32) (k1_t1 : Fin k1_t1_loop.trips) (arg28 : BitVec 32) (v229 : BitVec 32) (v330 : IVec S16 32) : Prop :=
  (∀ (k1_h3 : k1_cond3 v31 v36 k1_t1 arg28 v229 = 1#1), ∀ (k1_h5 : k1_cond5 v31 v36 = 1#1), ∀ a x, ((![v330] : Fin 1 → IVec S16 32) a x).toNat < S30720.size a)
theorem k1_idx43_inb : ∀ (v31 : BitVec 32) (v36 : BitVec 32) (k1_t1 : Fin k1_t1_loop.trips) (arg28 : BitVec 32) (v229 : BitVec 32) (v330 : IVec S16 32) (k1_hw46 : k1_chk46 v31 v36 k1_t1 arg28 v229 v330), ∀ (k1_h3 : k1_cond3 v31 v36 k1_t1 arg28 v229 = 1#1), ∀ (k1_h5 : k1_cond5 v31 v36 = 1#1), ∀ a x, ((![v330] : Fin 1 → IVec S16 32) a x).toNat < S30720.size a := fun v31 v36 k1_t1 arg28 v229 v330 k1_hw46 k1_h3 k1_h5 => k1_hw46 k1_h3 k1_h5

def k1_chk47 (v31 : BitVec 32) (v36 : BitVec 32) (k1_t1 : Fin k1_t1_loop.trips) (arg28 : BitVec 32) (v229 : BitVec 32) (v356 : IVec S16 32) : Prop :=
  (∀ (k1_h3 : k1_cond3 v31 v36 k1_t1 arg28 v229 = 1#1), ∀ (k1_h5 : k1_cond5 v31 v36 = 1#1), ∀ a x, ((![v356] : Fin 1 → IVec S16 32) a x).toNat < S30720.size a)
theorem k1_idx44_inb : ∀ (v31 : BitVec 32) (v36 : BitVec 32) (k1_t1 : Fin k1_t1_loop.trips) (arg28 : BitVec 32) (v229 : BitVec 32) (v356 : IVec S16 32) (k1_hw47 : k1_chk47 v31 v36 k1_t1 arg28 v229 v356), ∀ (k1_h3 : k1_cond3 v31 v36 k1_t1 arg28 v229 = 1#1), ∀ (k1_h5 : k1_cond5 v31 v36 = 1#1), ∀ a x, ((![v356] : Fin 1 → IVec S16 32) a x).toNat < S30720.size a := fun v31 v36 k1_t1 arg28 v229 v356 k1_hw47 k1_h3 k1_h5 => k1_hw47 k1_h3 k1_h5

def k1_chk48 (v31 : BitVec 32) (v36 : BitVec 32) (k1_t1 : Fin k1_t1_loop.trips) (arg28 : BitVec 32) (v229 : BitVec 32) (v382 : IVec S16 32) : Prop :=
  (∀ (k1_h3 : k1_cond3 v31 v36 k1_t1 arg28 v229 = 1#1), ∀ (k1_h5 : k1_cond5 v31 v36 = 1#1), ∀ a x, ((![v382] : Fin 1 → IVec S16 32) a x).toNat < S30720.size a)
theorem k1_idx45_inb : ∀ (v31 : BitVec 32) (v36 : BitVec 32) (k1_t1 : Fin k1_t1_loop.trips) (arg28 : BitVec 32) (v229 : BitVec 32) (v382 : IVec S16 32) (k1_hw48 : k1_chk48 v31 v36 k1_t1 arg28 v229 v382), ∀ (k1_h3 : k1_cond3 v31 v36 k1_t1 arg28 v229 = 1#1), ∀ (k1_h5 : k1_cond5 v31 v36 = 1#1), ∀ a x, ((![v382] : Fin 1 → IVec S16 32) a x).toNat < S30720.size a := fun v31 v36 k1_t1 arg28 v229 v382 k1_hw48 k1_h3 k1_h5 => k1_hw48 k1_h3 k1_h5

def k1_chk49 (v31 : BitVec 32) (v36 : BitVec 32) (k1_t1 : Fin k1_t1_loop.trips) (arg28 : BitVec 32) (v229 : BitVec 32) (v408 : IVec S16 32) : Prop :=
  (∀ (k1_h3 : k1_cond3 v31 v36 k1_t1 arg28 v229 = 1#1), ∀ (k1_h5 : k1_cond5 v31 v36 = 1#1), ∀ a x, ((![v408] : Fin 1 → IVec S16 32) a x).toNat < S30720.size a)
theorem k1_idx46_inb : ∀ (v31 : BitVec 32) (v36 : BitVec 32) (k1_t1 : Fin k1_t1_loop.trips) (arg28 : BitVec 32) (v229 : BitVec 32) (v408 : IVec S16 32) (k1_hw49 : k1_chk49 v31 v36 k1_t1 arg28 v229 v408), ∀ (k1_h3 : k1_cond3 v31 v36 k1_t1 arg28 v229 = 1#1), ∀ (k1_h5 : k1_cond5 v31 v36 = 1#1), ∀ a x, ((![v408] : Fin 1 → IVec S16 32) a x).toNat < S30720.size a := fun v31 v36 k1_t1 arg28 v229 v408 k1_hw49 k1_h3 k1_h5 => k1_hw49 k1_h3 k1_h5

def k1_chk50 (v31 : BitVec 32) (v36 : BitVec 32) (k1_t1 : Fin k1_t1_loop.trips) (arg28 : BitVec 32) (v229 : BitVec 32) (v434 : IVec S16 32) : Prop :=
  (∀ (k1_h3 : k1_cond3 v31 v36 k1_t1 arg28 v229 = 1#1), ∀ (k1_h5 : k1_cond5 v31 v36 = 1#1), ∀ a x, ((![v434] : Fin 1 → IVec S16 32) a x).toNat < S30720.size a)
theorem k1_idx47_inb : ∀ (v31 : BitVec 32) (v36 : BitVec 32) (k1_t1 : Fin k1_t1_loop.trips) (arg28 : BitVec 32) (v229 : BitVec 32) (v434 : IVec S16 32) (k1_hw50 : k1_chk50 v31 v36 k1_t1 arg28 v229 v434), ∀ (k1_h3 : k1_cond3 v31 v36 k1_t1 arg28 v229 = 1#1), ∀ (k1_h5 : k1_cond5 v31 v36 = 1#1), ∀ a x, ((![v434] : Fin 1 → IVec S16 32) a x).toNat < S30720.size a := fun v31 v36 k1_t1 arg28 v229 v434 k1_hw50 k1_h3 k1_h5 => k1_hw50 k1_h3 k1_h5

def k1_chk51 (v31 : BitVec 32) (v36 : BitVec 32) (k1_t1 : Fin k1_t1_loop.trips) (arg28 : BitVec 32) (v229 : BitVec 32) (v460 : IVec S16 32) : Prop :=
  (∀ (k1_h3 : k1_cond3 v31 v36 k1_t1 arg28 v229 = 1#1), ∀ (k1_h5 : k1_cond5 v31 v36 = 1#1), ∀ a x, ((![v460] : Fin 1 → IVec S16 32) a x).toNat < S30720.size a)
theorem k1_idx48_inb : ∀ (v31 : BitVec 32) (v36 : BitVec 32) (k1_t1 : Fin k1_t1_loop.trips) (arg28 : BitVec 32) (v229 : BitVec 32) (v460 : IVec S16 32) (k1_hw51 : k1_chk51 v31 v36 k1_t1 arg28 v229 v460), ∀ (k1_h3 : k1_cond3 v31 v36 k1_t1 arg28 v229 = 1#1), ∀ (k1_h5 : k1_cond5 v31 v36 = 1#1), ∀ a x, ((![v460] : Fin 1 → IVec S16 32) a x).toNat < S30720.size a := fun v31 v36 k1_t1 arg28 v229 v460 k1_hw51 k1_h3 k1_h5 => k1_hw51 k1_h3 k1_h5
@[reducible] def k1_t9_loop (i : grid1.Coords) (v13 : BitVec 32) (v16 : BitVec 32) (v31 : BitVec 32) (v36 : BitVec 32) : Scf.Loop 32 :=
  let c0_i32_24 : BitVec 32 := 0#32
  let c65536_i32_18 : BitVec 32 := 65536#32
  let v58 : BitVec 32 := Scalar.subi c65536_i32_18 v36
  let c8_i32_21 : BitVec 32 := 8#32
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v62 : BitVec 32 := Scalar.subi v61 v58
  let c7_i32_20 : BitVec 32 := 7#32
  let v63 : BitVec 32 := Scalar.andi v62 c7_i32_20
  let v64 : BitVec 32 := Scalar.subi c8_i32_21 v63
  let c7_i32_22 : BitVec 32 := 7#32
  let v65 : BitVec 32 := Scalar.andi v64 c7_i32_22
  let v66 : BitVec 32 := Scalar.minsi v65 v58
  let v68 : BitVec 32 := Scalar.subi v58 v66
  let c0_i32_23 : BitVec 32 := 0#32
  let v69 : BitVec 32 := Scalar.maxsi v68 c0_i32_23
  let c11_i32 : BitVec 32 := 11#32
  let v70 : BitVec 32 := Scalar.shrsi v69 c11_i32
  let v71 : BitVec 32 := Scalar.subi v70 c0_i32_24
  let c1_i32_25 : BitVec 32 := 1#32
  let v73 : BitVec 32 := Scalar.divsi v71 c1_i32_25
  let v74 : BitVec 32 := Scalar.muli v73 c1_i32_25
  let v75 : BitVec 32 := Scalar.addi c0_i32_24 v74
  let c1_i32_26 : BitVec 32 := 1#32
  ⟨c0_i32_24, v75, c1_i32_26⟩

def k1_mult11 (arg26 : BitVec 32) : BitVec 32 :=
  arg26

def k1_off23 (arg26 : BitVec 32) : Fin 1 → Nat :=
  let v223 : BitVec 32 := arg26
  ![v223.toNat]
def k1_mult12 (arg26 : BitVec 32) : BitVec 32 :=
  let c3_i32_112 : BitVec 32 := 3#32
  let v226 : BitVec 32 := Scalar.muli arg26 c3_i32_112
  v226
def k1_off24 (arg26 : BitVec 32) : Fin 1 → Nat :=
  let c3_i32_112 : BitVec 32 := 3#32
  let v226 : BitVec 32 := Scalar.muli arg26 c3_i32_112
  let v227 : BitVec 32 := v226
  ![v227.toNat]

def k1_chk53 (arg26 : BitVec 32) : Prop :=
  (8 ∣ (k1_mult11 arg26).toNat) ∧
  (∀ a, (k1_off23 arg26) a + S2048.size a ≤ S2097152.size a) ∧
  (8 ∣ (k1_mult12 arg26).toNat) ∧
  (∀ a, (k1_off24 arg26) a + S6144.size a ≤ S6291456.size a)
theorem k1_mult11_dvd : ∀ (arg26 : BitVec 32) (k1_hw53 : k1_chk53 arg26), 8 ∣ (k1_mult11 arg26).toNat := fun arg26 k1_hw53 => k1_hw53.1
theorem k1_off23_inb : ∀ (arg26 : BitVec 32) (k1_hw53 : k1_chk53 arg26), ∀ a, (k1_off23 arg26) a + S2048.size a ≤ S2097152.size a := fun arg26 k1_hw53 => k1_hw53.2.1
theorem k1_mult12_dvd : ∀ (arg26 : BitVec 32) (k1_hw53 : k1_chk53 arg26), 8 ∣ (k1_mult12 arg26).toNat := fun arg26 k1_hw53 => k1_hw53.2.2.1
theorem k1_off24_inb : ∀ (arg26 : BitVec 32) (k1_hw53 : k1_chk53 arg26), ∀ a, (k1_off24 arg26) a + S6144.size a ≤ S6291456.size a := fun arg26 k1_hw53 => k1_hw53.2.2.2

@[reducible] def k1_t10_loop (i : grid1.Coords) (v13 : BitVec 32) (v16 : BitVec 32) (v31 : BitVec 32) (v36 : BitVec 32) : Scf.Loop 32 :=
  let c0_i32_24 : BitVec 32 := 0#32
  let c65536_i32_18 : BitVec 32 := 65536#32
  let v58 : BitVec 32 := Scalar.subi c65536_i32_18 v36
  let c8_i32_21 : BitVec 32 := 8#32
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v62 : BitVec 32 := Scalar.subi v61 v58
  let c7_i32_20 : BitVec 32 := 7#32
  let v63 : BitVec 32 := Scalar.andi v62 c7_i32_20
  let v64 : BitVec 32 := Scalar.subi c8_i32_21 v63
  let c7_i32_22 : BitVec 32 := 7#32
  let v65 : BitVec 32 := Scalar.andi v64 c7_i32_22
  let v66 : BitVec 32 := Scalar.minsi v65 v58
  let v68 : BitVec 32 := Scalar.subi v58 v66
  let c0_i32_23 : BitVec 32 := 0#32
  let v69 : BitVec 32 := Scalar.maxsi v68 c0_i32_23
  let c11_i32 : BitVec 32 := 11#32
  let v70 : BitVec 32 := Scalar.shrsi v69 c11_i32
  let v71 : BitVec 32 := Scalar.subi v70 c0_i32_24
  let c1_i32_25 : BitVec 32 := 1#32
  let v73 : BitVec 32 := Scalar.divsi v71 c1_i32_25
  let v74 : BitVec 32 := Scalar.muli v73 c1_i32_25
  let v75 : BitVec 32 := Scalar.addi c0_i32_24 v74
  let v72 : BitVec 32 := Scalar.addi c0_i32_24 v71
  let c1_i32_27 : BitVec 32 := 1#32
  ⟨v75, v72, c1_i32_27⟩
def k1_mult13 (arg26 : BitVec 32) : BitVec 32 :=
  arg26

def k1_off25 (arg26 : BitVec 32) : Fin 1 → Nat :=
  let v223 : BitVec 32 := arg26
  ![v223.toNat]
def k1_mult14 (arg26 : BitVec 32) : BitVec 32 :=
  let c3_i32_112 : BitVec 32 := 3#32
  let v226 : BitVec 32 := Scalar.muli arg26 c3_i32_112
  v226
def k1_off26 (arg26 : BitVec 32) : Fin 1 → Nat :=
  let c3_i32_112 : BitVec 32 := 3#32
  let v226 : BitVec 32 := Scalar.muli arg26 c3_i32_112
  let v227 : BitVec 32 := v226
  ![v227.toNat]

def k1_chk54 (arg26 : BitVec 32) : Prop :=
  (8 ∣ (k1_mult13 arg26).toNat) ∧
  (∀ a, (k1_off25 arg26) a + S2048.size a ≤ S2097152.size a) ∧
  (8 ∣ (k1_mult14 arg26).toNat) ∧
  (∀ a, (k1_off26 arg26) a + S6144.size a ≤ S6291456.size a)
theorem k1_mult13_dvd : ∀ (arg26 : BitVec 32) (k1_hw54 : k1_chk54 arg26), 8 ∣ (k1_mult13 arg26).toNat := fun arg26 k1_hw54 => k1_hw54.1
theorem k1_off25_inb : ∀ (arg26 : BitVec 32) (k1_hw54 : k1_chk54 arg26), ∀ a, (k1_off25 arg26) a + S2048.size a ≤ S2097152.size a := fun arg26 k1_hw54 => k1_hw54.2.1
theorem k1_mult14_dvd : ∀ (arg26 : BitVec 32) (k1_hw54 : k1_chk54 arg26), 8 ∣ (k1_mult14 arg26).toNat := fun arg26 k1_hw54 => k1_hw54.2.2.1
theorem k1_off26_inb : ∀ (arg26 : BitVec 32) (k1_hw54 : k1_chk54 arg26), ∀ a, (k1_off26 arg26) a + S6144.size a ≤ S6291456.size a := fun arg26 k1_hw54 => k1_hw54.2.2.2

@[reducible] def k1_t11_loop : Scf.Loop 32 :=
  let c0_i32_29 : BitVec 32 := 0#32
  let c128_i32 : BitVec 32 := 128#32
  let v78 : BitVec 32 := Scalar.addi c0_i32_29 c128_i32
  let c1_i32_30 : BitVec 32 := 1#32
  ⟨c0_i32_29, v78, c1_i32_30⟩
def k1_off27 (k1_t11 : Fin k1_t11_loop.trips) : Fin 1 → Nat :=
  let c0_i32_29 : BitVec 32 := 0#32
  let c1_i32_30 : BitVec 32 := 1#32
  let arg25 : BitVec 32 := Scf.iv c0_i32_29 c1_i32_30 k1_t11
  let c16_i32_112 : BitVec 32 := 16#32
  let v223 : BitVec 32 := Scalar.muli arg25 c16_i32_112
  let v224 : Index := Scalar.indexCast v223
  ![v224.toNat]
def k1_off28 (k1_t11 : Fin k1_t11_loop.trips) : Fin 1 → Nat :=
  let c8192_i32 : BitVec 32 := 8192#32
  let c0_i32_29 : BitVec 32 := 0#32
  let c1_i32_30 : BitVec 32 := 1#32
  let arg25 : BitVec 32 := Scf.iv c0_i32_29 c1_i32_30 k1_t11
  let c16_i32_113 : BitVec 32 := 16#32
  let v226 : BitVec 32 := Scalar.muli arg25 c16_i32_113
  let v227 : BitVec 32 := Scalar.addi c8192_i32 v226
  let v228 : Index := Scalar.indexCast v227
  ![v228.toNat]
@[reducible] def k1_t12_loop : Scf.Loop 32 :=
  let c0_i32_33 : BitVec 32 := 0#32
  let c384_i32 : BitVec 32 := 384#32
  let v80 : BitVec 32 := Scalar.addi c0_i32_33 c384_i32
  let c1_i32_34 : BitVec 32 := 1#32
  ⟨c0_i32_33, v80, c1_i32_34⟩
def k1_off29 (k1_t12 : Fin k1_t12_loop.trips) : Fin 1 → Nat :=
  let c0_i32_33 : BitVec 32 := 0#32
  let c1_i32_34 : BitVec 32 := 1#32
  let arg25 : BitVec 32 := Scf.iv c0_i32_33 c1_i32_34 k1_t12
  let c16_i32_112 : BitVec 32 := 16#32
  let v223 : BitVec 32 := Scalar.muli arg25 c16_i32_112
  let v224 : Index := Scalar.indexCast v223
  ![v224.toNat]
def k1_off30 (k1_t12 : Fin k1_t12_loop.trips) : Fin 1 → Nat :=
  let c24576_i32 : BitVec 32 := 24576#32
  let c0_i32_33 : BitVec 32 := 0#32
  let c1_i32_34 : BitVec 32 := 1#32
  let arg25 : BitVec 32 := Scf.iv c0_i32_33 c1_i32_34 k1_t12
  let c16_i32_113 : BitVec 32 := 16#32
  let v226 : BitVec 32 := Scalar.muli arg25 c16_i32_113
  let v227 : BitVec 32 := Scalar.addi c24576_i32 v226
  let v228 : Index := Scalar.indexCast v227
  ![v228.toNat]
def k1_mult15 (v57_1 : BitVec 32) : BitVec 32 :=
  let c8191_i32 : BitVec 32 := 8191#32
  let v223 : BitVec 32 := Scalar.andi v57_1 c8191_i32
  v223
def k1_cond6 (v31 : BitVec 32) (v36 : BitVec 32) (v57_1 : BitVec 32) : BitVec 1 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let v85 : BitVec 32 := Scalar.extui v84
  let c0_i32_37 : BitVec 32 := 0#32
  let v86 : BitVec 1 := Scalar.cmpi .ne v85 c0_i32_37
  v86

def k1_mult16 (v57_1 : BitVec 32) : BitVec 32 :=
  v57_1
def k1_off31 (v57_1 : BitVec 32) : Fin 1 → Nat :=
  let c8191_i32 : BitVec 32 := 8191#32
  let v223 : BitVec 32 := Scalar.andi v57_1 c8191_i32
  let v224 : BitVec 32 := v223
  ![v224.toNat]
def k1_off32 (v57_1 : BitVec 32) : Fin 1 → Nat :=
  let v225 : BitVec 32 := v57_1
  ![v225.toNat]
def k1_mult17 (v57_1 : BitVec 32) : BitVec 32 :=
  let c8191_i32 : BitVec 32 := 8191#32
  let v223 : BitVec 32 := Scalar.andi v57_1 c8191_i32
  let c3_i32_112 : BitVec 32 := 3#32
  let v226 : BitVec 32 := Scalar.muli v223 c3_i32_112
  v226
def k1_mult18 (v57_1 : BitVec 32) : BitVec 32 :=
  let c3_i32_113 : BitVec 32 := 3#32
  let v228 : BitVec 32 := Scalar.muli v57_1 c3_i32_113
  v228
def k1_off33 (v57_1 : BitVec 32) : Fin 1 → Nat :=
  let c8191_i32 : BitVec 32 := 8191#32
  let v223 : BitVec 32 := Scalar.andi v57_1 c8191_i32
  let c3_i32_112 : BitVec 32 := 3#32
  let v226 : BitVec 32 := Scalar.muli v223 c3_i32_112
  let v227 : BitVec 32 := v226
  ![v227.toNat]
def k1_off34 (v57_1 : BitVec 32) : Fin 1 → Nat :=
  let c3_i32_113 : BitVec 32 := 3#32
  let v228 : BitVec 32 := Scalar.muli v57_1 c3_i32_113
  let v229 : BitVec 32 := v228
  ![v229.toNat]
def k1_mult19 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let c8191_i32 : BitVec 32 := 8191#32
  let v223 : BitVec 32 := Scalar.andi v88 c8191_i32
  v223
def k1_cond7 (v31 : BitVec 32) (v36 : BitVec 32) (v57_1 : BitVec 32) : BitVec 1 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let v92 : BitVec 32 := Scalar.extui v91
  let c0_i32_40 : BitVec 32 := 0#32
  let v93 : BitVec 1 := Scalar.cmpi .ne v92 c0_i32_40
  v93

def k1_mult20 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  v88
def k1_off35 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let c8191_i32 : BitVec 32 := 8191#32
  let v223 : BitVec 32 := Scalar.andi v88 c8191_i32
  let v224 : BitVec 32 := v223
  ![v224.toNat]
def k1_off36 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v225 : BitVec 32 := v88
  ![v225.toNat]
def k1_mult21 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let c8191_i32 : BitVec 32 := 8191#32
  let v223 : BitVec 32 := Scalar.andi v88 c8191_i32
  let c3_i32_112 : BitVec 32 := 3#32
  let v226 : BitVec 32 := Scalar.muli v223 c3_i32_112
  v226
def k1_mult22 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let c3_i32_113 : BitVec 32 := 3#32
  let v228 : BitVec 32 := Scalar.muli v88 c3_i32_113
  v228
def k1_off37 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let c8191_i32 : BitVec 32 := 8191#32
  let v223 : BitVec 32 := Scalar.andi v88 c8191_i32
  let c3_i32_112 : BitVec 32 := 3#32
  let v226 : BitVec 32 := Scalar.muli v223 c3_i32_112
  let v227 : BitVec 32 := v226
  ![v227.toNat]
def k1_off38 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let c3_i32_113 : BitVec 32 := 3#32
  let v228 : BitVec 32 := Scalar.muli v88 c3_i32_113
  let v229 : BitVec 32 := v228
  ![v229.toNat]
def k1_mult23 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let c8191_i32 : BitVec 32 := 8191#32
  let v223 : BitVec 32 := Scalar.andi v95 c8191_i32
  v223
def k1_cond8 (v31 : BitVec 32) (v36 : BitVec 32) (v57_1 : BitVec 32) : BitVec 1 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let v99 : BitVec 32 := Scalar.extui v98
  let c0_i32_44 : BitVec 32 := 0#32
  let v100 : BitVec 1 := Scalar.cmpi .ne v99 c0_i32_44
  v100

def k1_mult24 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  v95
def k1_off39 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let c8191_i32 : BitVec 32 := 8191#32
  let v223 : BitVec 32 := Scalar.andi v95 c8191_i32
  let v224 : BitVec 32 := v223
  ![v224.toNat]
def k1_off40 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v225 : BitVec 32 := v95
  ![v225.toNat]
def k1_mult25 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let c8191_i32 : BitVec 32 := 8191#32
  let v223 : BitVec 32 := Scalar.andi v95 c8191_i32
  let c3_i32_112 : BitVec 32 := 3#32
  let v226 : BitVec 32 := Scalar.muli v223 c3_i32_112
  v226
def k1_mult26 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let c3_i32_113 : BitVec 32 := 3#32
  let v228 : BitVec 32 := Scalar.muli v95 c3_i32_113
  v228
def k1_off41 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let c8191_i32 : BitVec 32 := 8191#32
  let v223 : BitVec 32 := Scalar.andi v95 c8191_i32
  let c3_i32_112 : BitVec 32 := 3#32
  let v226 : BitVec 32 := Scalar.muli v223 c3_i32_112
  let v227 : BitVec 32 := v226
  ![v227.toNat]
def k1_off42 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let c3_i32_113 : BitVec 32 := 3#32
  let v228 : BitVec 32 := Scalar.muli v95 c3_i32_113
  let v229 : BitVec 32 := v228
  ![v229.toNat]
def k1_mult27 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let c8191_i32 : BitVec 32 := 8191#32
  let v223 : BitVec 32 := Scalar.andi v102 c8191_i32
  v223
def k1_cond9 (v31 : BitVec 32) (v36 : BitVec 32) (v57_1 : BitVec 32) : BitVec 1 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let v106 : BitVec 32 := Scalar.extui v105
  let c0_i32_48 : BitVec 32 := 0#32
  let v107 : BitVec 1 := Scalar.cmpi .ne v106 c0_i32_48
  v107

def k1_mult28 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  v102
def k1_off43 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let c8191_i32 : BitVec 32 := 8191#32
  let v223 : BitVec 32 := Scalar.andi v102 c8191_i32
  let v224 : BitVec 32 := v223
  ![v224.toNat]
def k1_off44 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v225 : BitVec 32 := v102
  ![v225.toNat]
def k1_mult29 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let c8191_i32 : BitVec 32 := 8191#32
  let v223 : BitVec 32 := Scalar.andi v102 c8191_i32
  let c3_i32_112 : BitVec 32 := 3#32
  let v226 : BitVec 32 := Scalar.muli v223 c3_i32_112
  v226
def k1_mult30 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let c3_i32_113 : BitVec 32 := 3#32
  let v228 : BitVec 32 := Scalar.muli v102 c3_i32_113
  v228
def k1_off45 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let c8191_i32 : BitVec 32 := 8191#32
  let v223 : BitVec 32 := Scalar.andi v102 c8191_i32
  let c3_i32_112 : BitVec 32 := 3#32
  let v226 : BitVec 32 := Scalar.muli v223 c3_i32_112
  let v227 : BitVec 32 := v226
  ![v227.toNat]
def k1_off46 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let c3_i32_113 : BitVec 32 := 3#32
  let v228 : BitVec 32 := Scalar.muli v102 c3_i32_113
  let v229 : BitVec 32 := v228
  ![v229.toNat]
def k1_mult31 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let c8191_i32 : BitVec 32 := 8191#32
  let v223 : BitVec 32 := Scalar.andi v109 c8191_i32
  v223
def k1_cond10 (v31 : BitVec 32) (v36 : BitVec 32) (v57_1 : BitVec 32) : BitVec 1 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let v113 : BitVec 32 := Scalar.extui v112
  let c0_i32_51 : BitVec 32 := 0#32
  let v114 : BitVec 1 := Scalar.cmpi .ne v113 c0_i32_51
  v114

def k1_mult32 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  v109
def k1_off47 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let c8191_i32 : BitVec 32 := 8191#32
  let v223 : BitVec 32 := Scalar.andi v109 c8191_i32
  let v224 : BitVec 32 := v223
  ![v224.toNat]
def k1_off48 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v225 : BitVec 32 := v109
  ![v225.toNat]
def k1_mult33 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let c8191_i32 : BitVec 32 := 8191#32
  let v223 : BitVec 32 := Scalar.andi v109 c8191_i32
  let c3_i32_112 : BitVec 32 := 3#32
  let v226 : BitVec 32 := Scalar.muli v223 c3_i32_112
  v226
def k1_mult34 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let c3_i32_113 : BitVec 32 := 3#32
  let v228 : BitVec 32 := Scalar.muli v109 c3_i32_113
  v228
def k1_off49 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let c8191_i32 : BitVec 32 := 8191#32
  let v223 : BitVec 32 := Scalar.andi v109 c8191_i32
  let c3_i32_112 : BitVec 32 := 3#32
  let v226 : BitVec 32 := Scalar.muli v223 c3_i32_112
  let v227 : BitVec 32 := v226
  ![v227.toNat]
def k1_off50 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let c3_i32_113 : BitVec 32 := 3#32
  let v228 : BitVec 32 := Scalar.muli v109 c3_i32_113
  let v229 : BitVec 32 := v228
  ![v229.toNat]
def k1_mult35 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let c8191_i32 : BitVec 32 := 8191#32
  let v223 : BitVec 32 := Scalar.andi v116 c8191_i32
  v223
def k1_cond11 (v31 : BitVec 32) (v36 : BitVec 32) (v57_1 : BitVec 32) : BitVec 1 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let v120 : BitVec 32 := Scalar.extui v119
  let c0_i32_54 : BitVec 32 := 0#32
  let v121 : BitVec 1 := Scalar.cmpi .ne v120 c0_i32_54
  v121

def k1_mult36 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  v116
def k1_off51 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let c8191_i32 : BitVec 32 := 8191#32
  let v223 : BitVec 32 := Scalar.andi v116 c8191_i32
  let v224 : BitVec 32 := v223
  ![v224.toNat]
def k1_off52 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v225 : BitVec 32 := v116
  ![v225.toNat]
def k1_mult37 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let c8191_i32 : BitVec 32 := 8191#32
  let v223 : BitVec 32 := Scalar.andi v116 c8191_i32
  let c3_i32_112 : BitVec 32 := 3#32
  let v226 : BitVec 32 := Scalar.muli v223 c3_i32_112
  v226
def k1_mult38 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let c3_i32_113 : BitVec 32 := 3#32
  let v228 : BitVec 32 := Scalar.muli v116 c3_i32_113
  v228
def k1_off53 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let c8191_i32 : BitVec 32 := 8191#32
  let v223 : BitVec 32 := Scalar.andi v116 c8191_i32
  let c3_i32_112 : BitVec 32 := 3#32
  let v226 : BitVec 32 := Scalar.muli v223 c3_i32_112
  let v227 : BitVec 32 := v226
  ![v227.toNat]
def k1_off54 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let c3_i32_113 : BitVec 32 := 3#32
  let v228 : BitVec 32 := Scalar.muli v116 c3_i32_113
  let v229 : BitVec 32 := v228
  ![v229.toNat]
def k1_mult39 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let c8191_i32 : BitVec 32 := 8191#32
  let v223 : BitVec 32 := Scalar.andi v123 c8191_i32
  v223
def k1_cond12 (v31 : BitVec 32) (v36 : BitVec 32) (v57_1 : BitVec 32) : BitVec 1 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let v124 : BitVec 32 := Scalar.subi v37 v123
  let c16_i32_56 : BitVec 32 := 16#32
  let v125 : BitVec 32 := Scalar.andi v124 c16_i32_56
  let c0_i32_57 : BitVec 32 := 0#32
  let v126 : BitVec 1 := Scalar.cmpi .ne v125 c0_i32_57
  let v127 : BitVec 32 := Scalar.extui v126
  let c0_i32_58 : BitVec 32 := 0#32
  let v128 : BitVec 1 := Scalar.cmpi .ne v127 c0_i32_58
  v128

def k1_mult40 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  v123
def k1_off55 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let c8191_i32 : BitVec 32 := 8191#32
  let v223 : BitVec 32 := Scalar.andi v123 c8191_i32
  let v224 : BitVec 32 := v223
  ![v224.toNat]
def k1_off56 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let v225 : BitVec 32 := v123
  ![v225.toNat]
def k1_mult41 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let c8191_i32 : BitVec 32 := 8191#32
  let v223 : BitVec 32 := Scalar.andi v123 c8191_i32
  let c3_i32_112 : BitVec 32 := 3#32
  let v226 : BitVec 32 := Scalar.muli v223 c3_i32_112
  v226
def k1_mult42 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let c3_i32_113 : BitVec 32 := 3#32
  let v228 : BitVec 32 := Scalar.muli v123 c3_i32_113
  v228
def k1_off57 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let c8191_i32 : BitVec 32 := 8191#32
  let v223 : BitVec 32 := Scalar.andi v123 c8191_i32
  let c3_i32_112 : BitVec 32 := 3#32
  let v226 : BitVec 32 := Scalar.muli v223 c3_i32_112
  let v227 : BitVec 32 := v226
  ![v227.toNat]
def k1_off58 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let c3_i32_113 : BitVec 32 := 3#32
  let v228 : BitVec 32 := Scalar.muli v123 c3_i32_113
  let v229 : BitVec 32 := v228
  ![v229.toNat]
def k1_mult43 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let v124 : BitVec 32 := Scalar.subi v37 v123
  let c16_i32_56 : BitVec 32 := 16#32
  let v125 : BitVec 32 := Scalar.andi v124 c16_i32_56
  let c0_i32_57 : BitVec 32 := 0#32
  let v126 : BitVec 1 := Scalar.cmpi .ne v125 c0_i32_57
  let c16_i32_59 : BitVec 32 := 16#32
  let v129 : BitVec 32 := Scalar.addi v123 c16_i32_59
  let v130 : BitVec 32 := Scalar.select v126 v129 v123
  let c8191_i32 : BitVec 32 := 8191#32
  let v223 : BitVec 32 := Scalar.andi v130 c8191_i32
  v223
def k1_cond13 (v31 : BitVec 32) (v36 : BitVec 32) (v57_1 : BitVec 32) : BitVec 1 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let v124 : BitVec 32 := Scalar.subi v37 v123
  let c16_i32_56 : BitVec 32 := 16#32
  let v125 : BitVec 32 := Scalar.andi v124 c16_i32_56
  let c0_i32_57 : BitVec 32 := 0#32
  let v126 : BitVec 1 := Scalar.cmpi .ne v125 c0_i32_57
  let c16_i32_59 : BitVec 32 := 16#32
  let v129 : BitVec 32 := Scalar.addi v123 c16_i32_59
  let v130 : BitVec 32 := Scalar.select v126 v129 v123
  let v131 : BitVec 32 := Scalar.subi v37 v130
  let c8_i32_60 : BitVec 32 := 8#32
  let v132 : BitVec 32 := Scalar.andi v131 c8_i32_60
  let c0_i32_61 : BitVec 32 := 0#32
  let v133 : BitVec 1 := Scalar.cmpi .ne v132 c0_i32_61
  let v134 : BitVec 32 := Scalar.extui v133
  let c0_i32_62 : BitVec 32 := 0#32
  let v135 : BitVec 1 := Scalar.cmpi .ne v134 c0_i32_62
  v135

def k1_mult44 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let v124 : BitVec 32 := Scalar.subi v37 v123
  let c16_i32_56 : BitVec 32 := 16#32
  let v125 : BitVec 32 := Scalar.andi v124 c16_i32_56
  let c0_i32_57 : BitVec 32 := 0#32
  let v126 : BitVec 1 := Scalar.cmpi .ne v125 c0_i32_57
  let c16_i32_59 : BitVec 32 := 16#32
  let v129 : BitVec 32 := Scalar.addi v123 c16_i32_59
  let v130 : BitVec 32 := Scalar.select v126 v129 v123
  v130
def k1_off59 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let v124 : BitVec 32 := Scalar.subi v37 v123
  let c16_i32_56 : BitVec 32 := 16#32
  let v125 : BitVec 32 := Scalar.andi v124 c16_i32_56
  let c0_i32_57 : BitVec 32 := 0#32
  let v126 : BitVec 1 := Scalar.cmpi .ne v125 c0_i32_57
  let c16_i32_59 : BitVec 32 := 16#32
  let v129 : BitVec 32 := Scalar.addi v123 c16_i32_59
  let v130 : BitVec 32 := Scalar.select v126 v129 v123
  let c8191_i32 : BitVec 32 := 8191#32
  let v223 : BitVec 32 := Scalar.andi v130 c8191_i32
  let v224 : BitVec 32 := v223
  ![v224.toNat]
def k1_off60 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let v124 : BitVec 32 := Scalar.subi v37 v123
  let c16_i32_56 : BitVec 32 := 16#32
  let v125 : BitVec 32 := Scalar.andi v124 c16_i32_56
  let c0_i32_57 : BitVec 32 := 0#32
  let v126 : BitVec 1 := Scalar.cmpi .ne v125 c0_i32_57
  let c16_i32_59 : BitVec 32 := 16#32
  let v129 : BitVec 32 := Scalar.addi v123 c16_i32_59
  let v130 : BitVec 32 := Scalar.select v126 v129 v123
  let v225 : BitVec 32 := v130
  ![v225.toNat]
def k1_mult45 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let v124 : BitVec 32 := Scalar.subi v37 v123
  let c16_i32_56 : BitVec 32 := 16#32
  let v125 : BitVec 32 := Scalar.andi v124 c16_i32_56
  let c0_i32_57 : BitVec 32 := 0#32
  let v126 : BitVec 1 := Scalar.cmpi .ne v125 c0_i32_57
  let c16_i32_59 : BitVec 32 := 16#32
  let v129 : BitVec 32 := Scalar.addi v123 c16_i32_59
  let v130 : BitVec 32 := Scalar.select v126 v129 v123
  let c8191_i32 : BitVec 32 := 8191#32
  let v223 : BitVec 32 := Scalar.andi v130 c8191_i32
  let c3_i32_112 : BitVec 32 := 3#32
  let v226 : BitVec 32 := Scalar.muli v223 c3_i32_112
  v226
def k1_mult46 (v31 : BitVec 32) (v36 : BitVec 32) (v57_1 : BitVec 32) : BitVec 32 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let v124 : BitVec 32 := Scalar.subi v37 v123
  let c16_i32_56 : BitVec 32 := 16#32
  let v125 : BitVec 32 := Scalar.andi v124 c16_i32_56
  let c0_i32_57 : BitVec 32 := 0#32
  let v126 : BitVec 1 := Scalar.cmpi .ne v125 c0_i32_57
  let c16_i32_59 : BitVec 32 := 16#32
  let v129 : BitVec 32 := Scalar.addi v123 c16_i32_59
  let v130 : BitVec 32 := Scalar.select v126 v129 v123
  let c3_i32_113 : BitVec 32 := 3#32
  let v228 : BitVec 32 := Scalar.muli v130 c3_i32_113
  v228
def k1_off61 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let v124 : BitVec 32 := Scalar.subi v37 v123
  let c16_i32_56 : BitVec 32 := 16#32
  let v125 : BitVec 32 := Scalar.andi v124 c16_i32_56
  let c0_i32_57 : BitVec 32 := 0#32
  let v126 : BitVec 1 := Scalar.cmpi .ne v125 c0_i32_57
  let c16_i32_59 : BitVec 32 := 16#32
  let v129 : BitVec 32 := Scalar.addi v123 c16_i32_59
  let v130 : BitVec 32 := Scalar.select v126 v129 v123
  let c8191_i32 : BitVec 32 := 8191#32
  let v223 : BitVec 32 := Scalar.andi v130 c8191_i32
  let c3_i32_112 : BitVec 32 := 3#32
  let v226 : BitVec 32 := Scalar.muli v223 c3_i32_112
  let v227 : BitVec 32 := v226
  ![v227.toNat]
def k1_off62 (v31 : BitVec 32) (v36 : BitVec 32) (v57_1 : BitVec 32) : Fin 1 → Nat :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let v124 : BitVec 32 := Scalar.subi v37 v123
  let c16_i32_56 : BitVec 32 := 16#32
  let v125 : BitVec 32 := Scalar.andi v124 c16_i32_56
  let c0_i32_57 : BitVec 32 := 0#32
  let v126 : BitVec 1 := Scalar.cmpi .ne v125 c0_i32_57
  let c16_i32_59 : BitVec 32 := 16#32
  let v129 : BitVec 32 := Scalar.addi v123 c16_i32_59
  let v130 : BitVec 32 := Scalar.select v126 v129 v123
  let c3_i32_113 : BitVec 32 := 3#32
  let v228 : BitVec 32 := Scalar.muli v130 c3_i32_113
  let v229 : BitVec 32 := v228
  ![v229.toNat]

def k1_chk55_0 (v31 : BitVec 32) (v36 : BitVec 32) (v57_1 : BitVec 32) : Prop :=
  (∀ (k1_h6 : k1_cond6 v31 v36 v57_1 = 1#1), 8 ∣ (k1_mult15 v57_1).toNat) ∧
  (∀ (k1_h6 : k1_cond6 v31 v36 v57_1 = 1#1), 8 ∣ (k1_mult16 v57_1).toNat) ∧
  (∀ (k1_h6 : k1_cond6 v31 v36 v57_1 = 1#1), ∀ a, (k1_off31 v57_1) a + S1024.size a ≤ S10240.size a) ∧
  (∀ (k1_h6 : k1_cond6 v31 v36 v57_1 = 1#1), ∀ a, (k1_off32 v57_1) a + S1024.size a ≤ S2097152.size a) ∧
  (∀ (k1_h6 : k1_cond6 v31 v36 v57_1 = 1#1), 8 ∣ (k1_mult17 v57_1).toNat) ∧
  (∀ (k1_h6 : k1_cond6 v31 v36 v57_1 = 1#1), 8 ∣ (k1_mult18 v57_1).toNat) ∧
  (∀ (k1_h6 : k1_cond6 v31 v36 v57_1 = 1#1), ∀ a, (k1_off33 v57_1) a + S3072.size a ≤ S30720.size a) ∧
  (∀ (k1_h6 : k1_cond6 v31 v36 v57_1 = 1#1), ∀ a, (k1_off34 v57_1) a + S3072.size a ≤ S6291456.size a) ∧
  (∀ (k1_h7 : k1_cond7 v31 v36 v57_1 = 1#1), 8 ∣ (k1_mult19 v31 v36 v57_1).toNat) ∧
  (∀ (k1_h7 : k1_cond7 v31 v36 v57_1 = 1#1), 8 ∣ (k1_mult20 v31 v36 v57_1).toNat) ∧
  (∀ (k1_h7 : k1_cond7 v31 v36 v57_1 = 1#1), ∀ a, (k1_off35 v31 v36 v57_1) a + S512.size a ≤ S10240.size a) ∧
  (∀ (k1_h7 : k1_cond7 v31 v36 v57_1 = 1#1), ∀ a, (k1_off36 v31 v36 v57_1) a + S512.size a ≤ S2097152.size a) ∧
  (∀ (k1_h7 : k1_cond7 v31 v36 v57_1 = 1#1), 8 ∣ (k1_mult21 v31 v36 v57_1).toNat) ∧
  (∀ (k1_h7 : k1_cond7 v31 v36 v57_1 = 1#1), 8 ∣ (k1_mult22 v31 v36 v57_1).toNat) ∧
  (∀ (k1_h7 : k1_cond7 v31 v36 v57_1 = 1#1), ∀ a, (k1_off37 v31 v36 v57_1) a + S1536.size a ≤ S30720.size a) ∧
  (∀ (k1_h7 : k1_cond7 v31 v36 v57_1 = 1#1), ∀ a, (k1_off38 v31 v36 v57_1) a + S1536.size a ≤ S6291456.size a) ∧
  (∀ (k1_h8 : k1_cond8 v31 v36 v57_1 = 1#1), 8 ∣ (k1_mult23 v31 v36 v57_1).toNat) ∧
  (∀ (k1_h8 : k1_cond8 v31 v36 v57_1 = 1#1), 8 ∣ (k1_mult24 v31 v36 v57_1).toNat) ∧
  (∀ (k1_h8 : k1_cond8 v31 v36 v57_1 = 1#1), ∀ a, (k1_off39 v31 v36 v57_1) a + S256.size a ≤ S10240.size a) ∧
  (∀ (k1_h8 : k1_cond8 v31 v36 v57_1 = 1#1), ∀ a, (k1_off40 v31 v36 v57_1) a + S256.size a ≤ S2097152.size a) ∧
  (∀ (k1_h8 : k1_cond8 v31 v36 v57_1 = 1#1), 8 ∣ (k1_mult25 v31 v36 v57_1).toNat) ∧
  (∀ (k1_h8 : k1_cond8 v31 v36 v57_1 = 1#1), 8 ∣ (k1_mult26 v31 v36 v57_1).toNat) ∧
  (∀ (k1_h8 : k1_cond8 v31 v36 v57_1 = 1#1), ∀ a, (k1_off41 v31 v36 v57_1) a + S768.size a ≤ S30720.size a) ∧
  (∀ (k1_h8 : k1_cond8 v31 v36 v57_1 = 1#1), ∀ a, (k1_off42 v31 v36 v57_1) a + S768.size a ≤ S6291456.size a) ∧
  (∀ (k1_h9 : k1_cond9 v31 v36 v57_1 = 1#1), 8 ∣ (k1_mult27 v31 v36 v57_1).toNat) ∧
  (∀ (k1_h9 : k1_cond9 v31 v36 v57_1 = 1#1), 8 ∣ (k1_mult28 v31 v36 v57_1).toNat) ∧
  (∀ (k1_h9 : k1_cond9 v31 v36 v57_1 = 1#1), ∀ a, (k1_off43 v31 v36 v57_1) a + S128.size a ≤ S10240.size a) ∧
  (∀ (k1_h9 : k1_cond9 v31 v36 v57_1 = 1#1), ∀ a, (k1_off44 v31 v36 v57_1) a + S128.size a ≤ S2097152.size a) ∧
  (∀ (k1_h9 : k1_cond9 v31 v36 v57_1 = 1#1), 8 ∣ (k1_mult29 v31 v36 v57_1).toNat) ∧
  (∀ (k1_h9 : k1_cond9 v31 v36 v57_1 = 1#1), 8 ∣ (k1_mult30 v31 v36 v57_1).toNat) ∧
  (∀ (k1_h9 : k1_cond9 v31 v36 v57_1 = 1#1), ∀ a, (k1_off45 v31 v36 v57_1) a + S384.size a ≤ S30720.size a) ∧
  (∀ (k1_h9 : k1_cond9 v31 v36 v57_1 = 1#1), ∀ a, (k1_off46 v31 v36 v57_1) a + S384.size a ≤ S6291456.size a)
def k1_chk55_1 (v31 : BitVec 32) (v36 : BitVec 32) (v57_1 : BitVec 32) : Prop :=
  (∀ (k1_h10 : k1_cond10 v31 v36 v57_1 = 1#1), 8 ∣ (k1_mult31 v31 v36 v57_1).toNat) ∧
  (∀ (k1_h10 : k1_cond10 v31 v36 v57_1 = 1#1), 8 ∣ (k1_mult32 v31 v36 v57_1).toNat) ∧
  (∀ (k1_h10 : k1_cond10 v31 v36 v57_1 = 1#1), ∀ a, (k1_off47 v31 v36 v57_1) a + S64.size a ≤ S10240.size a) ∧
  (∀ (k1_h10 : k1_cond10 v31 v36 v57_1 = 1#1), ∀ a, (k1_off48 v31 v36 v57_1) a + S64.size a ≤ S2097152.size a) ∧
  (∀ (k1_h10 : k1_cond10 v31 v36 v57_1 = 1#1), 8 ∣ (k1_mult33 v31 v36 v57_1).toNat) ∧
  (∀ (k1_h10 : k1_cond10 v31 v36 v57_1 = 1#1), 8 ∣ (k1_mult34 v31 v36 v57_1).toNat) ∧
  (∀ (k1_h10 : k1_cond10 v31 v36 v57_1 = 1#1), ∀ a, (k1_off49 v31 v36 v57_1) a + S192.size a ≤ S30720.size a) ∧
  (∀ (k1_h10 : k1_cond10 v31 v36 v57_1 = 1#1), ∀ a, (k1_off50 v31 v36 v57_1) a + S192.size a ≤ S6291456.size a) ∧
  (∀ (k1_h11 : k1_cond11 v31 v36 v57_1 = 1#1), 8 ∣ (k1_mult35 v31 v36 v57_1).toNat) ∧
  (∀ (k1_h11 : k1_cond11 v31 v36 v57_1 = 1#1), 8 ∣ (k1_mult36 v31 v36 v57_1).toNat) ∧
  (∀ (k1_h11 : k1_cond11 v31 v36 v57_1 = 1#1), ∀ a, (k1_off51 v31 v36 v57_1) a + S32.size a ≤ S10240.size a) ∧
  (∀ (k1_h11 : k1_cond11 v31 v36 v57_1 = 1#1), ∀ a, (k1_off52 v31 v36 v57_1) a + S32.size a ≤ S2097152.size a) ∧
  (∀ (k1_h11 : k1_cond11 v31 v36 v57_1 = 1#1), 8 ∣ (k1_mult37 v31 v36 v57_1).toNat) ∧
  (∀ (k1_h11 : k1_cond11 v31 v36 v57_1 = 1#1), 8 ∣ (k1_mult38 v31 v36 v57_1).toNat) ∧
  (∀ (k1_h11 : k1_cond11 v31 v36 v57_1 = 1#1), ∀ a, (k1_off53 v31 v36 v57_1) a + S96.size a ≤ S30720.size a) ∧
  (∀ (k1_h11 : k1_cond11 v31 v36 v57_1 = 1#1), ∀ a, (k1_off54 v31 v36 v57_1) a + S96.size a ≤ S6291456.size a) ∧
  (∀ (k1_h12 : k1_cond12 v31 v36 v57_1 = 1#1), 8 ∣ (k1_mult39 v31 v36 v57_1).toNat) ∧
  (∀ (k1_h12 : k1_cond12 v31 v36 v57_1 = 1#1), 8 ∣ (k1_mult40 v31 v36 v57_1).toNat) ∧
  (∀ (k1_h12 : k1_cond12 v31 v36 v57_1 = 1#1), ∀ a, (k1_off55 v31 v36 v57_1) a + S16.size a ≤ S10240.size a) ∧
  (∀ (k1_h12 : k1_cond12 v31 v36 v57_1 = 1#1), ∀ a, (k1_off56 v31 v36 v57_1) a + S16.size a ≤ S2097152.size a) ∧
  (∀ (k1_h12 : k1_cond12 v31 v36 v57_1 = 1#1), 8 ∣ (k1_mult41 v31 v36 v57_1).toNat) ∧
  (∀ (k1_h12 : k1_cond12 v31 v36 v57_1 = 1#1), 8 ∣ (k1_mult42 v31 v36 v57_1).toNat) ∧
  (∀ (k1_h12 : k1_cond12 v31 v36 v57_1 = 1#1), ∀ a, (k1_off57 v31 v36 v57_1) a + S48.size a ≤ S30720.size a) ∧
  (∀ (k1_h12 : k1_cond12 v31 v36 v57_1 = 1#1), ∀ a, (k1_off58 v31 v36 v57_1) a + S48.size a ≤ S6291456.size a) ∧
  (∀ (k1_h13 : k1_cond13 v31 v36 v57_1 = 1#1), 8 ∣ (k1_mult43 v31 v36 v57_1).toNat) ∧
  (∀ (k1_h13 : k1_cond13 v31 v36 v57_1 = 1#1), 8 ∣ (k1_mult44 v31 v36 v57_1).toNat) ∧
  (∀ (k1_h13 : k1_cond13 v31 v36 v57_1 = 1#1), ∀ a, (k1_off59 v31 v36 v57_1) a + S8.size a ≤ S10240.size a) ∧
  (∀ (k1_h13 : k1_cond13 v31 v36 v57_1 = 1#1), ∀ a, (k1_off60 v31 v36 v57_1) a + S8.size a ≤ S2097152.size a) ∧
  (∀ (k1_h13 : k1_cond13 v31 v36 v57_1 = 1#1), 8 ∣ (k1_mult45 v31 v36 v57_1).toNat) ∧
  (∀ (k1_h13 : k1_cond13 v31 v36 v57_1 = 1#1), 8 ∣ (k1_mult46 v31 v36 v57_1).toNat) ∧
  (∀ (k1_h13 : k1_cond13 v31 v36 v57_1 = 1#1), ∀ a, (k1_off61 v31 v36 v57_1) a + S24.size a ≤ S30720.size a) ∧
  (∀ (k1_h13 : k1_cond13 v31 v36 v57_1 = 1#1), ∀ a, (k1_off62 v31 v36 v57_1) a + S24.size a ≤ S6291456.size a)
def k1_chk55 (v31 : BitVec 32) (v36 : BitVec 32) (v57_1 : BitVec 32) : Prop :=
  k1_chk55_0 v31 v36 v57_1 ∧
  k1_chk55_1 v31 v36 v57_1
theorem k1_mult15_dvd : ∀ (v31 : BitVec 32) (v36 : BitVec 32) (v57_1 : BitVec 32) (k1_hw55 : k1_chk55 v31 v36 v57_1), ∀ (k1_h6 : k1_cond6 v31 v36 v57_1 = 1#1), 8 ∣ (k1_mult15 v57_1).toNat := fun v31 v36 v57_1 k1_hw55 k1_h6 => k1_hw55.1.1 k1_h6
theorem k1_mult16_dvd : ∀ (v31 : BitVec 32) (v36 : BitVec 32) (v57_1 : BitVec 32) (k1_hw55 : k1_chk55 v31 v36 v57_1), ∀ (k1_h6 : k1_cond6 v31 v36 v57_1 = 1#1), 8 ∣ (k1_mult16 v57_1).toNat := fun v31 v36 v57_1 k1_hw55 k1_h6 => k1_hw55.1.2.1 k1_h6
theorem k1_off31_inb : ∀ (v31 : BitVec 32) (v36 : BitVec 32) (v57_1 : BitVec 32) (k1_hw55 : k1_chk55 v31 v36 v57_1), ∀ (k1_h6 : k1_cond6 v31 v36 v57_1 = 1#1), ∀ a, (k1_off31 v57_1) a + S1024.size a ≤ S10240.size a := fun v31 v36 v57_1 k1_hw55 k1_h6 => k1_hw55.1.2.2.1 k1_h6
theorem k1_off32_inb : ∀ (v31 : BitVec 32) (v36 : BitVec 32) (v57_1 : BitVec 32) (k1_hw55 : k1_chk55 v31 v36 v57_1), ∀ (k1_h6 : k1_cond6 v31 v36 v57_1 = 1#1), ∀ a, (k1_off32 v57_1) a + S1024.size a ≤ S2097152.size a := fun v31 v36 v57_1 k1_hw55 k1_h6 => k1_hw55.1.2.2.2.1 k1_h6
theorem k1_mult17_dvd : ∀ (v31 : BitVec 32) (v36 : BitVec 32) (v57_1 : BitVec 32) (k1_hw55 : k1_chk55 v31 v36 v57_1), ∀ (k1_h6 : k1_cond6 v31 v36 v57_1 = 1#1), 8 ∣ (k1_mult17 v57_1).toNat := fun v31 v36 v57_1 k1_hw55 k1_h6 => k1_hw55.1.2.2.2.2.1 k1_h6
theorem k1_mult18_dvd : ∀ (v31 : BitVec 32) (v36 : BitVec 32) (v57_1 : BitVec 32) (k1_hw55 : k1_chk55 v31 v36 v57_1), ∀ (k1_h6 : k1_cond6 v31 v36 v57_1 = 1#1), 8 ∣ (k1_mult18 v57_1).toNat := fun v31 v36 v57_1 k1_hw55 k1_h6 => k1_hw55.1.2.2.2.2.2.1 k1_h6
theorem k1_off33_inb : ∀ (v31 : BitVec 32) (v36 : BitVec 32) (v57_1 : BitVec 32) (k1_hw55 : k1_chk55 v31 v36 v57_1), ∀ (k1_h6 : k1_cond6 v31 v36 v57_1 = 1#1), ∀ a, (k1_off33 v57_1) a + S3072.size a ≤ S30720.size a := fun v31 v36 v57_1 k1_hw55 k1_h6 => k1_hw55.1.2.2.2.2.2.2.1 k1_h6
theorem k1_off34_inb : ∀ (v31 : BitVec 32) (v36 : BitVec 32) (v57_1 : BitVec 32) (k1_hw55 : k1_chk55 v31 v36 v57_1), ∀ (k1_h6 : k1_cond6 v31 v36 v57_1 = 1#1), ∀ a, (k1_off34 v57_1) a + S3072.size a ≤ S6291456.size a := fun v31 v36 v57_1 k1_hw55 k1_h6 => k1_hw55.1.2.2.2.2.2.2.2.1 k1_h6
theorem k1_mult19_dvd : ∀ (v31 : BitVec 32) (v36 : BitVec 32) (v57_1 : BitVec 32) (k1_hw55 : k1_chk55 v31 v36 v57_1), ∀ (k1_h7 : k1_cond7 v31 v36 v57_1 = 1#1), 8 ∣ (k1_mult19 v31 v36 v57_1).toNat := fun v31 v36 v57_1 k1_hw55 k1_h7 => k1_hw55.1.2.2.2.2.2.2.2.2.1 k1_h7
theorem k1_mult20_dvd : ∀ (v31 : BitVec 32) (v36 : BitVec 32) (v57_1 : BitVec 32) (k1_hw55 : k1_chk55 v31 v36 v57_1), ∀ (k1_h7 : k1_cond7 v31 v36 v57_1 = 1#1), 8 ∣ (k1_mult20 v31 v36 v57_1).toNat := fun v31 v36 v57_1 k1_hw55 k1_h7 => k1_hw55.1.2.2.2.2.2.2.2.2.2.1 k1_h7
theorem k1_off35_inb : ∀ (v31 : BitVec 32) (v36 : BitVec 32) (v57_1 : BitVec 32) (k1_hw55 : k1_chk55 v31 v36 v57_1), ∀ (k1_h7 : k1_cond7 v31 v36 v57_1 = 1#1), ∀ a, (k1_off35 v31 v36 v57_1) a + S512.size a ≤ S10240.size a := fun v31 v36 v57_1 k1_hw55 k1_h7 => k1_hw55.1.2.2.2.2.2.2.2.2.2.2.1 k1_h7
theorem k1_off36_inb : ∀ (v31 : BitVec 32) (v36 : BitVec 32) (v57_1 : BitVec 32) (k1_hw55 : k1_chk55 v31 v36 v57_1), ∀ (k1_h7 : k1_cond7 v31 v36 v57_1 = 1#1), ∀ a, (k1_off36 v31 v36 v57_1) a + S512.size a ≤ S2097152.size a := fun v31 v36 v57_1 k1_hw55 k1_h7 => k1_hw55.1.2.2.2.2.2.2.2.2.2.2.2.1 k1_h7
theorem k1_mult21_dvd : ∀ (v31 : BitVec 32) (v36 : BitVec 32) (v57_1 : BitVec 32) (k1_hw55 : k1_chk55 v31 v36 v57_1), ∀ (k1_h7 : k1_cond7 v31 v36 v57_1 = 1#1), 8 ∣ (k1_mult21 v31 v36 v57_1).toNat := fun v31 v36 v57_1 k1_hw55 k1_h7 => k1_hw55.1.2.2.2.2.2.2.2.2.2.2.2.2.1 k1_h7
theorem k1_mult22_dvd : ∀ (v31 : BitVec 32) (v36 : BitVec 32) (v57_1 : BitVec 32) (k1_hw55 : k1_chk55 v31 v36 v57_1), ∀ (k1_h7 : k1_cond7 v31 v36 v57_1 = 1#1), 8 ∣ (k1_mult22 v31 v36 v57_1).toNat := fun v31 v36 v57_1 k1_hw55 k1_h7 => k1_hw55.1.2.2.2.2.2.2.2.2.2.2.2.2.2.1 k1_h7
theorem k1_off37_inb : ∀ (v31 : BitVec 32) (v36 : BitVec 32) (v57_1 : BitVec 32) (k1_hw55 : k1_chk55 v31 v36 v57_1), ∀ (k1_h7 : k1_cond7 v31 v36 v57_1 = 1#1), ∀ a, (k1_off37 v31 v36 v57_1) a + S1536.size a ≤ S30720.size a := fun v31 v36 v57_1 k1_hw55 k1_h7 => k1_hw55.1.2.2.2.2.2.2.2.2.2.2.2.2.2.2.1 k1_h7
theorem k1_off38_inb : ∀ (v31 : BitVec 32) (v36 : BitVec 32) (v57_1 : BitVec 32) (k1_hw55 : k1_chk55 v31 v36 v57_1), ∀ (k1_h7 : k1_cond7 v31 v36 v57_1 = 1#1), ∀ a, (k1_off38 v31 v36 v57_1) a + S1536.size a ≤ S6291456.size a := fun v31 v36 v57_1 k1_hw55 k1_h7 => k1_hw55.1.2.2.2.2.2.2.2.2.2.2.2.2.2.2.2.1 k1_h7
theorem k1_mult23_dvd : ∀ (v31 : BitVec 32) (v36 : BitVec 32) (v57_1 : BitVec 32) (k1_hw55 : k1_chk55 v31 v36 v57_1), ∀ (k1_h8 : k1_cond8 v31 v36 v57_1 = 1#1), 8 ∣ (k1_mult23 v31 v36 v57_1).toNat := fun v31 v36 v57_1 k1_hw55 k1_h8 => k1_hw55.1.2.2.2.2.2.2.2.2.2.2.2.2.2.2.2.2.1 k1_h8
theorem k1_mult24_dvd : ∀ (v31 : BitVec 32) (v36 : BitVec 32) (v57_1 : BitVec 32) (k1_hw55 : k1_chk55 v31 v36 v57_1), ∀ (k1_h8 : k1_cond8 v31 v36 v57_1 = 1#1), 8 ∣ (k1_mult24 v31 v36 v57_1).toNat := fun v31 v36 v57_1 k1_hw55 k1_h8 => k1_hw55.1.2.2.2.2.2.2.2.2.2.2.2.2.2.2.2.2.2.1 k1_h8
theorem k1_off39_inb : ∀ (v31 : BitVec 32) (v36 : BitVec 32) (v57_1 : BitVec 32) (k1_hw55 : k1_chk55 v31 v36 v57_1), ∀ (k1_h8 : k1_cond8 v31 v36 v57_1 = 1#1), ∀ a, (k1_off39 v31 v36 v57_1) a + S256.size a ≤ S10240.size a := fun v31 v36 v57_1 k1_hw55 k1_h8 => k1_hw55.1.2.2.2.2.2.2.2.2.2.2.2.2.2.2.2.2.2.2.1 k1_h8
theorem k1_off40_inb : ∀ (v31 : BitVec 32) (v36 : BitVec 32) (v57_1 : BitVec 32) (k1_hw55 : k1_chk55 v31 v36 v57_1), ∀ (k1_h8 : k1_cond8 v31 v36 v57_1 = 1#1), ∀ a, (k1_off40 v31 v36 v57_1) a + S256.size a ≤ S2097152.size a := fun v31 v36 v57_1 k1_hw55 k1_h8 => k1_hw55.1.2.2.2.2.2.2.2.2.2.2.2.2.2.2.2.2.2.2.2.1 k1_h8
theorem k1_mult25_dvd : ∀ (v31 : BitVec 32) (v36 : BitVec 32) (v57_1 : BitVec 32) (k1_hw55 : k1_chk55 v31 v36 v57_1), ∀ (k1_h8 : k1_cond8 v31 v36 v57_1 = 1#1), 8 ∣ (k1_mult25 v31 v36 v57_1).toNat := fun v31 v36 v57_1 k1_hw55 k1_h8 => k1_hw55.1.2.2.2.2.2.2.2.2.2.2.2.2.2.2.2.2.2.2.2.2.1 k1_h8
theorem k1_mult26_dvd : ∀ (v31 : BitVec 32) (v36 : BitVec 32) (v57_1 : BitVec 32) (k1_hw55 : k1_chk55 v31 v36 v57_1), ∀ (k1_h8 : k1_cond8 v31 v36 v57_1 = 1#1), 8 ∣ (k1_mult26 v31 v36 v57_1).toNat := fun v31 v36 v57_1 k1_hw55 k1_h8 => k1_hw55.1.2.2.2.2.2.2.2.2.2.2.2.2.2.2.2.2.2.2.2.2.2.1 k1_h8
theorem k1_off41_inb : ∀ (v31 : BitVec 32) (v36 : BitVec 32) (v57_1 : BitVec 32) (k1_hw55 : k1_chk55 v31 v36 v57_1), ∀ (k1_h8 : k1_cond8 v31 v36 v57_1 = 1#1), ∀ a, (k1_off41 v31 v36 v57_1) a + S768.size a ≤ S30720.size a := fun v31 v36 v57_1 k1_hw55 k1_h8 => k1_hw55.1.2.2.2.2.2.2.2.2.2.2.2.2.2.2.2.2.2.2.2.2.2.2.1 k1_h8
theorem k1_off42_inb : ∀ (v31 : BitVec 32) (v36 : BitVec 32) (v57_1 : BitVec 32) (k1_hw55 : k1_chk55 v31 v36 v57_1), ∀ (k1_h8 : k1_cond8 v31 v36 v57_1 = 1#1), ∀ a, (k1_off42 v31 v36 v57_1) a + S768.size a ≤ S6291456.size a := fun v31 v36 v57_1 k1_hw55 k1_h8 => k1_hw55.1.2.2.2.2.2.2.2.2.2.2.2.2.2.2.2.2.2.2.2.2.2.2.2.1 k1_h8
theorem k1_mult27_dvd : ∀ (v31 : BitVec 32) (v36 : BitVec 32) (v57_1 : BitVec 32) (k1_hw55 : k1_chk55 v31 v36 v57_1), ∀ (k1_h9 : k1_cond9 v31 v36 v57_1 = 1#1), 8 ∣ (k1_mult27 v31 v36 v57_1).toNat := fun v31 v36 v57_1 k1_hw55 k1_h9 => k1_hw55.1.2.2.2.2.2.2.2.2.2.2.2.2.2.2.2.2.2.2.2.2.2.2.2.2.1 k1_h9
theorem k1_mult28_dvd : ∀ (v31 : BitVec 32) (v36 : BitVec 32) (v57_1 : BitVec 32) (k1_hw55 : k1_chk55 v31 v36 v57_1), ∀ (k1_h9 : k1_cond9 v31 v36 v57_1 = 1#1), 8 ∣ (k1_mult28 v31 v36 v57_1).toNat := fun v31 v36 v57_1 k1_hw55 k1_h9 => k1_hw55.1.2.2.2.2.2.2.2.2.2.2.2.2.2.2.2.2.2.2.2.2.2.2.2.2.2.1 k1_h9
theorem k1_off43_inb : ∀ (v31 : BitVec 32) (v36 : BitVec 32) (v57_1 : BitVec 32) (k1_hw55 : k1_chk55 v31 v36 v57_1), ∀ (k1_h9 : k1_cond9 v31 v36 v57_1 = 1#1), ∀ a, (k1_off43 v31 v36 v57_1) a + S128.size a ≤ S10240.size a := fun v31 v36 v57_1 k1_hw55 k1_h9 => k1_hw55.1.2.2.2.2.2.2.2.2.2.2.2.2.2.2.2.2.2.2.2.2.2.2.2.2.2.2.1 k1_h9
theorem k1_off44_inb : ∀ (v31 : BitVec 32) (v36 : BitVec 32) (v57_1 : BitVec 32) (k1_hw55 : k1_chk55 v31 v36 v57_1), ∀ (k1_h9 : k1_cond9 v31 v36 v57_1 = 1#1), ∀ a, (k1_off44 v31 v36 v57_1) a + S128.size a ≤ S2097152.size a := fun v31 v36 v57_1 k1_hw55 k1_h9 => k1_hw55.1.2.2.2.2.2.2.2.2.2.2.2.2.2.2.2.2.2.2.2.2.2.2.2.2.2.2.2.1 k1_h9
theorem k1_mult29_dvd : ∀ (v31 : BitVec 32) (v36 : BitVec 32) (v57_1 : BitVec 32) (k1_hw55 : k1_chk55 v31 v36 v57_1), ∀ (k1_h9 : k1_cond9 v31 v36 v57_1 = 1#1), 8 ∣ (k1_mult29 v31 v36 v57_1).toNat := fun v31 v36 v57_1 k1_hw55 k1_h9 => k1_hw55.1.2.2.2.2.2.2.2.2.2.2.2.2.2.2.2.2.2.2.2.2.2.2.2.2.2.2.2.2.1 k1_h9
theorem k1_mult30_dvd : ∀ (v31 : BitVec 32) (v36 : BitVec 32) (v57_1 : BitVec 32) (k1_hw55 : k1_chk55 v31 v36 v57_1), ∀ (k1_h9 : k1_cond9 v31 v36 v57_1 = 1#1), 8 ∣ (k1_mult30 v31 v36 v57_1).toNat := fun v31 v36 v57_1 k1_hw55 k1_h9 => k1_hw55.1.2.2.2.2.2.2.2.2.2.2.2.2.2.2.2.2.2.2.2.2.2.2.2.2.2.2.2.2.2.1 k1_h9
theorem k1_off45_inb : ∀ (v31 : BitVec 32) (v36 : BitVec 32) (v57_1 : BitVec 32) (k1_hw55 : k1_chk55 v31 v36 v57_1), ∀ (k1_h9 : k1_cond9 v31 v36 v57_1 = 1#1), ∀ a, (k1_off45 v31 v36 v57_1) a + S384.size a ≤ S30720.size a := fun v31 v36 v57_1 k1_hw55 k1_h9 => k1_hw55.1.2.2.2.2.2.2.2.2.2.2.2.2.2.2.2.2.2.2.2.2.2.2.2.2.2.2.2.2.2.2.1 k1_h9
theorem k1_off46_inb : ∀ (v31 : BitVec 32) (v36 : BitVec 32) (v57_1 : BitVec 32) (k1_hw55 : k1_chk55 v31 v36 v57_1), ∀ (k1_h9 : k1_cond9 v31 v36 v57_1 = 1#1), ∀ a, (k1_off46 v31 v36 v57_1) a + S384.size a ≤ S6291456.size a := fun v31 v36 v57_1 k1_hw55 k1_h9 => k1_hw55.1.2.2.2.2.2.2.2.2.2.2.2.2.2.2.2.2.2.2.2.2.2.2.2.2.2.2.2.2.2.2.2 k1_h9
theorem k1_mult31_dvd : ∀ (v31 : BitVec 32) (v36 : BitVec 32) (v57_1 : BitVec 32) (k1_hw55 : k1_chk55 v31 v36 v57_1), ∀ (k1_h10 : k1_cond10 v31 v36 v57_1 = 1#1), 8 ∣ (k1_mult31 v31 v36 v57_1).toNat := fun v31 v36 v57_1 k1_hw55 k1_h10 => k1_hw55.2.1 k1_h10
theorem k1_mult32_dvd : ∀ (v31 : BitVec 32) (v36 : BitVec 32) (v57_1 : BitVec 32) (k1_hw55 : k1_chk55 v31 v36 v57_1), ∀ (k1_h10 : k1_cond10 v31 v36 v57_1 = 1#1), 8 ∣ (k1_mult32 v31 v36 v57_1).toNat := fun v31 v36 v57_1 k1_hw55 k1_h10 => k1_hw55.2.2.1 k1_h10
theorem k1_off47_inb : ∀ (v31 : BitVec 32) (v36 : BitVec 32) (v57_1 : BitVec 32) (k1_hw55 : k1_chk55 v31 v36 v57_1), ∀ (k1_h10 : k1_cond10 v31 v36 v57_1 = 1#1), ∀ a, (k1_off47 v31 v36 v57_1) a + S64.size a ≤ S10240.size a := fun v31 v36 v57_1 k1_hw55 k1_h10 => k1_hw55.2.2.2.1 k1_h10
theorem k1_off48_inb : ∀ (v31 : BitVec 32) (v36 : BitVec 32) (v57_1 : BitVec 32) (k1_hw55 : k1_chk55 v31 v36 v57_1), ∀ (k1_h10 : k1_cond10 v31 v36 v57_1 = 1#1), ∀ a, (k1_off48 v31 v36 v57_1) a + S64.size a ≤ S2097152.size a := fun v31 v36 v57_1 k1_hw55 k1_h10 => k1_hw55.2.2.2.2.1 k1_h10
theorem k1_mult33_dvd : ∀ (v31 : BitVec 32) (v36 : BitVec 32) (v57_1 : BitVec 32) (k1_hw55 : k1_chk55 v31 v36 v57_1), ∀ (k1_h10 : k1_cond10 v31 v36 v57_1 = 1#1), 8 ∣ (k1_mult33 v31 v36 v57_1).toNat := fun v31 v36 v57_1 k1_hw55 k1_h10 => k1_hw55.2.2.2.2.2.1 k1_h10
theorem k1_mult34_dvd : ∀ (v31 : BitVec 32) (v36 : BitVec 32) (v57_1 : BitVec 32) (k1_hw55 : k1_chk55 v31 v36 v57_1), ∀ (k1_h10 : k1_cond10 v31 v36 v57_1 = 1#1), 8 ∣ (k1_mult34 v31 v36 v57_1).toNat := fun v31 v36 v57_1 k1_hw55 k1_h10 => k1_hw55.2.2.2.2.2.2.1 k1_h10
theorem k1_off49_inb : ∀ (v31 : BitVec 32) (v36 : BitVec 32) (v57_1 : BitVec 32) (k1_hw55 : k1_chk55 v31 v36 v57_1), ∀ (k1_h10 : k1_cond10 v31 v36 v57_1 = 1#1), ∀ a, (k1_off49 v31 v36 v57_1) a + S192.size a ≤ S30720.size a := fun v31 v36 v57_1 k1_hw55 k1_h10 => k1_hw55.2.2.2.2.2.2.2.1 k1_h10
theorem k1_off50_inb : ∀ (v31 : BitVec 32) (v36 : BitVec 32) (v57_1 : BitVec 32) (k1_hw55 : k1_chk55 v31 v36 v57_1), ∀ (k1_h10 : k1_cond10 v31 v36 v57_1 = 1#1), ∀ a, (k1_off50 v31 v36 v57_1) a + S192.size a ≤ S6291456.size a := fun v31 v36 v57_1 k1_hw55 k1_h10 => k1_hw55.2.2.2.2.2.2.2.2.1 k1_h10
theorem k1_mult35_dvd : ∀ (v31 : BitVec 32) (v36 : BitVec 32) (v57_1 : BitVec 32) (k1_hw55 : k1_chk55 v31 v36 v57_1), ∀ (k1_h11 : k1_cond11 v31 v36 v57_1 = 1#1), 8 ∣ (k1_mult35 v31 v36 v57_1).toNat := fun v31 v36 v57_1 k1_hw55 k1_h11 => k1_hw55.2.2.2.2.2.2.2.2.2.1 k1_h11
theorem k1_mult36_dvd : ∀ (v31 : BitVec 32) (v36 : BitVec 32) (v57_1 : BitVec 32) (k1_hw55 : k1_chk55 v31 v36 v57_1), ∀ (k1_h11 : k1_cond11 v31 v36 v57_1 = 1#1), 8 ∣ (k1_mult36 v31 v36 v57_1).toNat := fun v31 v36 v57_1 k1_hw55 k1_h11 => k1_hw55.2.2.2.2.2.2.2.2.2.2.1 k1_h11
theorem k1_off51_inb : ∀ (v31 : BitVec 32) (v36 : BitVec 32) (v57_1 : BitVec 32) (k1_hw55 : k1_chk55 v31 v36 v57_1), ∀ (k1_h11 : k1_cond11 v31 v36 v57_1 = 1#1), ∀ a, (k1_off51 v31 v36 v57_1) a + S32.size a ≤ S10240.size a := fun v31 v36 v57_1 k1_hw55 k1_h11 => k1_hw55.2.2.2.2.2.2.2.2.2.2.2.1 k1_h11
theorem k1_off52_inb : ∀ (v31 : BitVec 32) (v36 : BitVec 32) (v57_1 : BitVec 32) (k1_hw55 : k1_chk55 v31 v36 v57_1), ∀ (k1_h11 : k1_cond11 v31 v36 v57_1 = 1#1), ∀ a, (k1_off52 v31 v36 v57_1) a + S32.size a ≤ S2097152.size a := fun v31 v36 v57_1 k1_hw55 k1_h11 => k1_hw55.2.2.2.2.2.2.2.2.2.2.2.2.1 k1_h11
theorem k1_mult37_dvd : ∀ (v31 : BitVec 32) (v36 : BitVec 32) (v57_1 : BitVec 32) (k1_hw55 : k1_chk55 v31 v36 v57_1), ∀ (k1_h11 : k1_cond11 v31 v36 v57_1 = 1#1), 8 ∣ (k1_mult37 v31 v36 v57_1).toNat := fun v31 v36 v57_1 k1_hw55 k1_h11 => k1_hw55.2.2.2.2.2.2.2.2.2.2.2.2.2.1 k1_h11
theorem k1_mult38_dvd : ∀ (v31 : BitVec 32) (v36 : BitVec 32) (v57_1 : BitVec 32) (k1_hw55 : k1_chk55 v31 v36 v57_1), ∀ (k1_h11 : k1_cond11 v31 v36 v57_1 = 1#1), 8 ∣ (k1_mult38 v31 v36 v57_1).toNat := fun v31 v36 v57_1 k1_hw55 k1_h11 => k1_hw55.2.2.2.2.2.2.2.2.2.2.2.2.2.2.1 k1_h11
theorem k1_off53_inb : ∀ (v31 : BitVec 32) (v36 : BitVec 32) (v57_1 : BitVec 32) (k1_hw55 : k1_chk55 v31 v36 v57_1), ∀ (k1_h11 : k1_cond11 v31 v36 v57_1 = 1#1), ∀ a, (k1_off53 v31 v36 v57_1) a + S96.size a ≤ S30720.size a := fun v31 v36 v57_1 k1_hw55 k1_h11 => k1_hw55.2.2.2.2.2.2.2.2.2.2.2.2.2.2.2.1 k1_h11
theorem k1_off54_inb : ∀ (v31 : BitVec 32) (v36 : BitVec 32) (v57_1 : BitVec 32) (k1_hw55 : k1_chk55 v31 v36 v57_1), ∀ (k1_h11 : k1_cond11 v31 v36 v57_1 = 1#1), ∀ a, (k1_off54 v31 v36 v57_1) a + S96.size a ≤ S6291456.size a := fun v31 v36 v57_1 k1_hw55 k1_h11 => k1_hw55.2.2.2.2.2.2.2.2.2.2.2.2.2.2.2.2.1 k1_h11
theorem k1_mult39_dvd : ∀ (v31 : BitVec 32) (v36 : BitVec 32) (v57_1 : BitVec 32) (k1_hw55 : k1_chk55 v31 v36 v57_1), ∀ (k1_h12 : k1_cond12 v31 v36 v57_1 = 1#1), 8 ∣ (k1_mult39 v31 v36 v57_1).toNat := fun v31 v36 v57_1 k1_hw55 k1_h12 => k1_hw55.2.2.2.2.2.2.2.2.2.2.2.2.2.2.2.2.2.1 k1_h12
theorem k1_mult40_dvd : ∀ (v31 : BitVec 32) (v36 : BitVec 32) (v57_1 : BitVec 32) (k1_hw55 : k1_chk55 v31 v36 v57_1), ∀ (k1_h12 : k1_cond12 v31 v36 v57_1 = 1#1), 8 ∣ (k1_mult40 v31 v36 v57_1).toNat := fun v31 v36 v57_1 k1_hw55 k1_h12 => k1_hw55.2.2.2.2.2.2.2.2.2.2.2.2.2.2.2.2.2.2.1 k1_h12
theorem k1_off55_inb : ∀ (v31 : BitVec 32) (v36 : BitVec 32) (v57_1 : BitVec 32) (k1_hw55 : k1_chk55 v31 v36 v57_1), ∀ (k1_h12 : k1_cond12 v31 v36 v57_1 = 1#1), ∀ a, (k1_off55 v31 v36 v57_1) a + S16.size a ≤ S10240.size a := fun v31 v36 v57_1 k1_hw55 k1_h12 => k1_hw55.2.2.2.2.2.2.2.2.2.2.2.2.2.2.2.2.2.2.2.1 k1_h12
theorem k1_off56_inb : ∀ (v31 : BitVec 32) (v36 : BitVec 32) (v57_1 : BitVec 32) (k1_hw55 : k1_chk55 v31 v36 v57_1), ∀ (k1_h12 : k1_cond12 v31 v36 v57_1 = 1#1), ∀ a, (k1_off56 v31 v36 v57_1) a + S16.size a ≤ S2097152.size a := fun v31 v36 v57_1 k1_hw55 k1_h12 => k1_hw55.2.2.2.2.2.2.2.2.2.2.2.2.2.2.2.2.2.2.2.2.1 k1_h12
theorem k1_mult41_dvd : ∀ (v31 : BitVec 32) (v36 : BitVec 32) (v57_1 : BitVec 32) (k1_hw55 : k1_chk55 v31 v36 v57_1), ∀ (k1_h12 : k1_cond12 v31 v36 v57_1 = 1#1), 8 ∣ (k1_mult41 v31 v36 v57_1).toNat := fun v31 v36 v57_1 k1_hw55 k1_h12 => k1_hw55.2.2.2.2.2.2.2.2.2.2.2.2.2.2.2.2.2.2.2.2.2.1 k1_h12
theorem k1_mult42_dvd : ∀ (v31 : BitVec 32) (v36 : BitVec 32) (v57_1 : BitVec 32) (k1_hw55 : k1_chk55 v31 v36 v57_1), ∀ (k1_h12 : k1_cond12 v31 v36 v57_1 = 1#1), 8 ∣ (k1_mult42 v31 v36 v57_1).toNat := fun v31 v36 v57_1 k1_hw55 k1_h12 => k1_hw55.2.2.2.2.2.2.2.2.2.2.2.2.2.2.2.2.2.2.2.2.2.2.1 k1_h12
theorem k1_off57_inb : ∀ (v31 : BitVec 32) (v36 : BitVec 32) (v57_1 : BitVec 32) (k1_hw55 : k1_chk55 v31 v36 v57_1), ∀ (k1_h12 : k1_cond12 v31 v36 v57_1 = 1#1), ∀ a, (k1_off57 v31 v36 v57_1) a + S48.size a ≤ S30720.size a := fun v31 v36 v57_1 k1_hw55 k1_h12 => k1_hw55.2.2.2.2.2.2.2.2.2.2.2.2.2.2.2.2.2.2.2.2.2.2.2.1 k1_h12
theorem k1_off58_inb : ∀ (v31 : BitVec 32) (v36 : BitVec 32) (v57_1 : BitVec 32) (k1_hw55 : k1_chk55 v31 v36 v57_1), ∀ (k1_h12 : k1_cond12 v31 v36 v57_1 = 1#1), ∀ a, (k1_off58 v31 v36 v57_1) a + S48.size a ≤ S6291456.size a := fun v31 v36 v57_1 k1_hw55 k1_h12 => k1_hw55.2.2.2.2.2.2.2.2.2.2.2.2.2.2.2.2.2.2.2.2.2.2.2.2.1 k1_h12
theorem k1_mult43_dvd : ∀ (v31 : BitVec 32) (v36 : BitVec 32) (v57_1 : BitVec 32) (k1_hw55 : k1_chk55 v31 v36 v57_1), ∀ (k1_h13 : k1_cond13 v31 v36 v57_1 = 1#1), 8 ∣ (k1_mult43 v31 v36 v57_1).toNat := fun v31 v36 v57_1 k1_hw55 k1_h13 => k1_hw55.2.2.2.2.2.2.2.2.2.2.2.2.2.2.2.2.2.2.2.2.2.2.2.2.2.1 k1_h13
theorem k1_mult44_dvd : ∀ (v31 : BitVec 32) (v36 : BitVec 32) (v57_1 : BitVec 32) (k1_hw55 : k1_chk55 v31 v36 v57_1), ∀ (k1_h13 : k1_cond13 v31 v36 v57_1 = 1#1), 8 ∣ (k1_mult44 v31 v36 v57_1).toNat := fun v31 v36 v57_1 k1_hw55 k1_h13 => k1_hw55.2.2.2.2.2.2.2.2.2.2.2.2.2.2.2.2.2.2.2.2.2.2.2.2.2.2.1 k1_h13
theorem k1_off59_inb : ∀ (v31 : BitVec 32) (v36 : BitVec 32) (v57_1 : BitVec 32) (k1_hw55 : k1_chk55 v31 v36 v57_1), ∀ (k1_h13 : k1_cond13 v31 v36 v57_1 = 1#1), ∀ a, (k1_off59 v31 v36 v57_1) a + S8.size a ≤ S10240.size a := fun v31 v36 v57_1 k1_hw55 k1_h13 => k1_hw55.2.2.2.2.2.2.2.2.2.2.2.2.2.2.2.2.2.2.2.2.2.2.2.2.2.2.2.1 k1_h13
theorem k1_off60_inb : ∀ (v31 : BitVec 32) (v36 : BitVec 32) (v57_1 : BitVec 32) (k1_hw55 : k1_chk55 v31 v36 v57_1), ∀ (k1_h13 : k1_cond13 v31 v36 v57_1 = 1#1), ∀ a, (k1_off60 v31 v36 v57_1) a + S8.size a ≤ S2097152.size a := fun v31 v36 v57_1 k1_hw55 k1_h13 => k1_hw55.2.2.2.2.2.2.2.2.2.2.2.2.2.2.2.2.2.2.2.2.2.2.2.2.2.2.2.2.1 k1_h13
theorem k1_mult45_dvd : ∀ (v31 : BitVec 32) (v36 : BitVec 32) (v57_1 : BitVec 32) (k1_hw55 : k1_chk55 v31 v36 v57_1), ∀ (k1_h13 : k1_cond13 v31 v36 v57_1 = 1#1), 8 ∣ (k1_mult45 v31 v36 v57_1).toNat := fun v31 v36 v57_1 k1_hw55 k1_h13 => k1_hw55.2.2.2.2.2.2.2.2.2.2.2.2.2.2.2.2.2.2.2.2.2.2.2.2.2.2.2.2.2.1 k1_h13
theorem k1_mult46_dvd : ∀ (v31 : BitVec 32) (v36 : BitVec 32) (v57_1 : BitVec 32) (k1_hw55 : k1_chk55 v31 v36 v57_1), ∀ (k1_h13 : k1_cond13 v31 v36 v57_1 = 1#1), 8 ∣ (k1_mult46 v31 v36 v57_1).toNat := fun v31 v36 v57_1 k1_hw55 k1_h13 => k1_hw55.2.2.2.2.2.2.2.2.2.2.2.2.2.2.2.2.2.2.2.2.2.2.2.2.2.2.2.2.2.2.1 k1_h13
theorem k1_off61_inb : ∀ (v31 : BitVec 32) (v36 : BitVec 32) (v57_1 : BitVec 32) (k1_hw55 : k1_chk55 v31 v36 v57_1), ∀ (k1_h13 : k1_cond13 v31 v36 v57_1 = 1#1), ∀ a, (k1_off61 v31 v36 v57_1) a + S24.size a ≤ S30720.size a := fun v31 v36 v57_1 k1_hw55 k1_h13 => k1_hw55.2.2.2.2.2.2.2.2.2.2.2.2.2.2.2.2.2.2.2.2.2.2.2.2.2.2.2.2.2.2.2.1 k1_h13
theorem k1_off62_inb : ∀ (v31 : BitVec 32) (v36 : BitVec 32) (v57_1 : BitVec 32) (k1_hw55 : k1_chk55 v31 v36 v57_1), ∀ (k1_h13 : k1_cond13 v31 v36 v57_1 = 1#1), ∀ a, (k1_off62 v31 v36 v57_1) a + S24.size a ≤ S6291456.size a := fun v31 v36 v57_1 k1_hw55 k1_h13 => k1_hw55.2.2.2.2.2.2.2.2.2.2.2.2.2.2.2.2.2.2.2.2.2.2.2.2.2.2.2.2.2.2.2.2 k1_h13

def k1_cond14 (v31 : BitVec 32) (v36 : BitVec 32) (v57_1 : BitVec 32) : BitVec 1 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let v124 : BitVec 32 := Scalar.subi v37 v123
  let c16_i32_56 : BitVec 32 := 16#32
  let v125 : BitVec 32 := Scalar.andi v124 c16_i32_56
  let c0_i32_57 : BitVec 32 := 0#32
  let v126 : BitVec 1 := Scalar.cmpi .ne v125 c0_i32_57
  let c16_i32_59 : BitVec 32 := 16#32
  let v129 : BitVec 32 := Scalar.addi v123 c16_i32_59
  let v130 : BitVec 32 := Scalar.select v126 v129 v123
  let v131 : BitVec 32 := Scalar.subi v37 v130
  let c8_i32_60 : BitVec 32 := 8#32
  let v132 : BitVec 32 := Scalar.andi v131 c8_i32_60
  let c0_i32_61 : BitVec 32 := 0#32
  let v133 : BitVec 1 := Scalar.cmpi .ne v132 c0_i32_61
  let c8_i32_63 : BitVec 32 := 8#32
  let v136 : BitVec 32 := Scalar.addi v130 c8_i32_63
  let v137 : BitVec 32 := Scalar.select v133 v136 v130
  let v138 : BitVec 32 := Scalar.subi v37 v137
  let c0_i32_64 : BitVec 32 := 0#32
  let v139 : BitVec 1 := Scalar.cmpi .sgt v138 c0_i32_64
  let v140 : BitVec 32 := Scalar.extui v139
  let c0_i32_65 : BitVec 32 := 0#32
  let v141 : BitVec 1 := Scalar.cmpi .ne v140 c0_i32_65
  v141

def k1_chk56 (v31 : BitVec 32) (v36 : BitVec 32) (v57_1 : BitVec 32) (v232 : IVec S16 32) : Prop :=
  (∀ (k1_h14 : k1_cond14 v31 v36 v57_1 = 1#1), ∀ a x, ((![v232] : Fin 1 → IVec S16 32) a x).toNat < S10240.size a)
theorem k1_idx49_inb : ∀ (v31 : BitVec 32) (v36 : BitVec 32) (v57_1 : BitVec 32) (v232 : IVec S16 32) (k1_hw56 : k1_chk56 v31 v36 v57_1 v232), ∀ (k1_h14 : k1_cond14 v31 v36 v57_1 = 1#1), ∀ a x, ((![v232] : Fin 1 → IVec S16 32) a x).toNat < S10240.size a := fun v31 v36 v57_1 v232 k1_hw56 k1_h14 => k1_hw56 k1_h14

def k1_chk57 (v31 : BitVec 32) (v36 : BitVec 32) (v57_1 : BitVec 32) (v244 : IVec S16 32) : Prop :=
  (∀ (k1_h14 : k1_cond14 v31 v36 v57_1 = 1#1), ∀ a x, ((![v244] : Fin 1 → IVec S16 32) a x).toNat < S10240.size a)
theorem k1_idx50_inb : ∀ (v31 : BitVec 32) (v36 : BitVec 32) (v57_1 : BitVec 32) (v244 : IVec S16 32) (k1_hw57 : k1_chk57 v31 v36 v57_1 v244), ∀ (k1_h14 : k1_cond14 v31 v36 v57_1 = 1#1), ∀ a x, ((![v244] : Fin 1 → IVec S16 32) a x).toNat < S10240.size a := fun v31 v36 v57_1 v244 k1_hw57 k1_h14 => k1_hw57 k1_h14

def k1_chk58 (v31 : BitVec 32) (v36 : BitVec 32) (v57_1 : BitVec 32) (v256 : IVec S16 32) : Prop :=
  (∀ (k1_h14 : k1_cond14 v31 v36 v57_1 = 1#1), ∀ a x, ((![v256] : Fin 1 → IVec S16 32) a x).toNat < S10240.size a)
theorem k1_idx51_inb : ∀ (v31 : BitVec 32) (v36 : BitVec 32) (v57_1 : BitVec 32) (v256 : IVec S16 32) (k1_hw58 : k1_chk58 v31 v36 v57_1 v256), ∀ (k1_h14 : k1_cond14 v31 v36 v57_1 = 1#1), ∀ a x, ((![v256] : Fin 1 → IVec S16 32) a x).toNat < S10240.size a := fun v31 v36 v57_1 v256 k1_hw58 k1_h14 => k1_hw58 k1_h14

def k1_chk59 (v31 : BitVec 32) (v36 : BitVec 32) (v57_1 : BitVec 32) (v268 : IVec S16 32) : Prop :=
  (∀ (k1_h14 : k1_cond14 v31 v36 v57_1 = 1#1), ∀ a x, ((![v268] : Fin 1 → IVec S16 32) a x).toNat < S10240.size a)
theorem k1_idx52_inb : ∀ (v31 : BitVec 32) (v36 : BitVec 32) (v57_1 : BitVec 32) (v268 : IVec S16 32) (k1_hw59 : k1_chk59 v31 v36 v57_1 v268), ∀ (k1_h14 : k1_cond14 v31 v36 v57_1 = 1#1), ∀ a x, ((![v268] : Fin 1 → IVec S16 32) a x).toNat < S10240.size a := fun v31 v36 v57_1 v268 k1_hw59 k1_h14 => k1_hw59 k1_h14

def k1_chk60 (v31 : BitVec 32) (v36 : BitVec 32) (v57_1 : BitVec 32) (v280 : IVec S16 32) : Prop :=
  (∀ (k1_h14 : k1_cond14 v31 v36 v57_1 = 1#1), ∀ a x, ((![v280] : Fin 1 → IVec S16 32) a x).toNat < S10240.size a)
theorem k1_idx53_inb : ∀ (v31 : BitVec 32) (v36 : BitVec 32) (v57_1 : BitVec 32) (v280 : IVec S16 32) (k1_hw60 : k1_chk60 v31 v36 v57_1 v280), ∀ (k1_h14 : k1_cond14 v31 v36 v57_1 = 1#1), ∀ a x, ((![v280] : Fin 1 → IVec S16 32) a x).toNat < S10240.size a := fun v31 v36 v57_1 v280 k1_hw60 k1_h14 => k1_hw60 k1_h14

def k1_chk61 (v31 : BitVec 32) (v36 : BitVec 32) (v57_1 : BitVec 32) (v292 : IVec S16 32) : Prop :=
  (∀ (k1_h14 : k1_cond14 v31 v36 v57_1 = 1#1), ∀ a x, ((![v292] : Fin 1 → IVec S16 32) a x).toNat < S10240.size a)
theorem k1_idx54_inb : ∀ (v31 : BitVec 32) (v36 : BitVec 32) (v57_1 : BitVec 32) (v292 : IVec S16 32) (k1_hw61 : k1_chk61 v31 v36 v57_1 v292), ∀ (k1_h14 : k1_cond14 v31 v36 v57_1 = 1#1), ∀ a x, ((![v292] : Fin 1 → IVec S16 32) a x).toNat < S10240.size a := fun v31 v36 v57_1 v292 k1_hw61 k1_h14 => k1_hw61 k1_h14

def k1_chk62 (v31 : BitVec 32) (v36 : BitVec 32) (v57_1 : BitVec 32) (v304 : IVec S16 32) : Prop :=
  (∀ (k1_h14 : k1_cond14 v31 v36 v57_1 = 1#1), ∀ a x, ((![v304] : Fin 1 → IVec S16 32) a x).toNat < S10240.size a)
theorem k1_idx55_inb : ∀ (v31 : BitVec 32) (v36 : BitVec 32) (v57_1 : BitVec 32) (v304 : IVec S16 32) (k1_hw62 : k1_chk62 v31 v36 v57_1 v304), ∀ (k1_h14 : k1_cond14 v31 v36 v57_1 = 1#1), ∀ a x, ((![v304] : Fin 1 → IVec S16 32) a x).toNat < S10240.size a := fun v31 v36 v57_1 v304 k1_hw62 k1_h14 => k1_hw62 k1_h14

def k1_chk63 (v31 : BitVec 32) (v36 : BitVec 32) (v57_1 : BitVec 32) (v316 : IVec S16 32) : Prop :=
  (∀ (k1_h14 : k1_cond14 v31 v36 v57_1 = 1#1), ∀ a x, ((![v316] : Fin 1 → IVec S16 32) a x).toNat < S10240.size a)
theorem k1_idx56_inb : ∀ (v31 : BitVec 32) (v36 : BitVec 32) (v57_1 : BitVec 32) (v316 : IVec S16 32) (k1_hw63 : k1_chk63 v31 v36 v57_1 v316), ∀ (k1_h14 : k1_cond14 v31 v36 v57_1 = 1#1), ∀ a x, ((![v316] : Fin 1 → IVec S16 32) a x).toNat < S10240.size a := fun v31 v36 v57_1 v316 k1_hw63 k1_h14 => k1_hw63 k1_h14
def k1_cond15 (v31 : BitVec 32) (v36 : BitVec 32) (v57_1 : BitVec 32) : BitVec 1 :=
  let v37 : BitVec 32 := Scalar.addi v31 v36
  let v82 : BitVec 32 := Scalar.subi v37 v57_1
  let c1024_i32 : BitVec 32 := 1024#32
  let v83 : BitVec 32 := Scalar.andi v82 c1024_i32
  let c0_i32_36 : BitVec 32 := 0#32
  let v84 : BitVec 1 := Scalar.cmpi .ne v83 c0_i32_36
  let c1024_i32_38 : BitVec 32 := 1024#32
  let v87 : BitVec 32 := Scalar.addi v57_1 c1024_i32_38
  let v88 : BitVec 32 := Scalar.select v84 v87 v57_1
  let v89 : BitVec 32 := Scalar.subi v37 v88
  let c512_i32 : BitVec 32 := 512#32
  let v90 : BitVec 32 := Scalar.andi v89 c512_i32
  let c0_i32_39 : BitVec 32 := 0#32
  let v91 : BitVec 1 := Scalar.cmpi .ne v90 c0_i32_39
  let c512_i32_41 : BitVec 32 := 512#32
  let v94 : BitVec 32 := Scalar.addi v88 c512_i32_41
  let v95 : BitVec 32 := Scalar.select v91 v94 v88
  let v96 : BitVec 32 := Scalar.subi v37 v95
  let c256_i32_42 : BitVec 32 := 256#32
  let v97 : BitVec 32 := Scalar.andi v96 c256_i32_42
  let c0_i32_43 : BitVec 32 := 0#32
  let v98 : BitVec 1 := Scalar.cmpi .ne v97 c0_i32_43
  let c256_i32_45 : BitVec 32 := 256#32
  let v101 : BitVec 32 := Scalar.addi v95 c256_i32_45
  let v102 : BitVec 32 := Scalar.select v98 v101 v95
  let v103 : BitVec 32 := Scalar.subi v37 v102
  let c128_i32_46 : BitVec 32 := 128#32
  let v104 : BitVec 32 := Scalar.andi v103 c128_i32_46
  let c0_i32_47 : BitVec 32 := 0#32
  let v105 : BitVec 1 := Scalar.cmpi .ne v104 c0_i32_47
  let c128_i32_49 : BitVec 32 := 128#32
  let v108 : BitVec 32 := Scalar.addi v102 c128_i32_49
  let v109 : BitVec 32 := Scalar.select v105 v108 v102
  let v110 : BitVec 32 := Scalar.subi v37 v109
  let c64_i32 : BitVec 32 := 64#32
  let v111 : BitVec 32 := Scalar.andi v110 c64_i32
  let c0_i32_50 : BitVec 32 := 0#32
  let v112 : BitVec 1 := Scalar.cmpi .ne v111 c0_i32_50
  let c64_i32_52 : BitVec 32 := 64#32
  let v115 : BitVec 32 := Scalar.addi v109 c64_i32_52
  let v116 : BitVec 32 := Scalar.select v112 v115 v109
  let v117 : BitVec 32 := Scalar.subi v37 v116
  let c32_i32 : BitVec 32 := 32#32
  let v118 : BitVec 32 := Scalar.andi v117 c32_i32
  let c0_i32_53 : BitVec 32 := 0#32
  let v119 : BitVec 1 := Scalar.cmpi .ne v118 c0_i32_53
  let c32_i32_55 : BitVec 32 := 32#32
  let v122 : BitVec 32 := Scalar.addi v116 c32_i32_55
  let v123 : BitVec 32 := Scalar.select v119 v122 v116
  let v124 : BitVec 32 := Scalar.subi v37 v123
  let c16_i32_56 : BitVec 32 := 16#32
  let v125 : BitVec 32 := Scalar.andi v124 c16_i32_56
  let c0_i32_57 : BitVec 32 := 0#32
  let v126 : BitVec 1 := Scalar.cmpi .ne v125 c0_i32_57
  let c16_i32_59 : BitVec 32 := 16#32
  let v129 : BitVec 32 := Scalar.addi v123 c16_i32_59
  let v130 : BitVec 32 := Scalar.select v126 v129 v123
  let v131 : BitVec 32 := Scalar.subi v37 v130
  let c8_i32_60 : BitVec 32 := 8#32
  let v132 : BitVec 32 := Scalar.andi v131 c8_i32_60
  let c0_i32_61 : BitVec 32 := 0#32
  let v133 : BitVec 1 := Scalar.cmpi .ne v132 c0_i32_61
  let c8_i32_63 : BitVec 32 := 8#32
  let v136 : BitVec 32 := Scalar.addi v130 c8_i32_63
  let v137 : BitVec 32 := Scalar.select v133 v136 v130
  let v142 : BitVec 32 := Scalar.subi v37 v137
  let c0_i32_66 : BitVec 32 := 0#32
  let v143 : BitVec 1 := Scalar.cmpi .sgt v142 c0_i32_66
  let v144 : BitVec 32 := Scalar.extui v143
  let c0_i32_67 : BitVec 32 := 0#32
  let v145 : BitVec 1 := Scalar.cmpi .ne v144 c0_i32_67
  v145

def k1_chk64 (v31 : BitVec 32) (v36 : BitVec 32) (v57_1 : BitVec 32) (v246 : IVec S16 32) : Prop :=
  (∀ (k1_h15 : k1_cond15 v31 v36 v57_1 = 1#1), ∀ a x, ((![v246] : Fin 1 → IVec S16 32) a x).toNat < S30720.size a)
theorem k1_idx57_inb : ∀ (v31 : BitVec 32) (v36 : BitVec 32) (v57_1 : BitVec 32) (v246 : IVec S16 32) (k1_hw64 : k1_chk64 v31 v36 v57_1 v246), ∀ (k1_h15 : k1_cond15 v31 v36 v57_1 = 1#1), ∀ a x, ((![v246] : Fin 1 → IVec S16 32) a x).toNat < S30720.size a := fun v31 v36 v57_1 v246 k1_hw64 k1_h15 => k1_hw64 k1_h15

def k1_chk65 (v31 : BitVec 32) (v36 : BitVec 32) (v57_1 : BitVec 32) (v272 : IVec S16 32) : Prop :=
  (∀ (k1_h15 : k1_cond15 v31 v36 v57_1 = 1#1), ∀ a x, ((![v272] : Fin 1 → IVec S16 32) a x).toNat < S30720.size a)
theorem k1_idx58_inb : ∀ (v31 : BitVec 32) (v36 : BitVec 32) (v57_1 : BitVec 32) (v272 : IVec S16 32) (k1_hw65 : k1_chk65 v31 v36 v57_1 v272), ∀ (k1_h15 : k1_cond15 v31 v36 v57_1 = 1#1), ∀ a x, ((![v272] : Fin 1 → IVec S16 32) a x).toNat < S30720.size a := fun v31 v36 v57_1 v272 k1_hw65 k1_h15 => k1_hw65 k1_h15

def k1_chk66 (v31 : BitVec 32) (v36 : BitVec 32) (v57_1 : BitVec 32) (v298 : IVec S16 32) : Prop :=
  (∀ (k1_h15 : k1_cond15 v31 v36 v57_1 = 1#1), ∀ a x, ((![v298] : Fin 1 → IVec S16 32) a x).toNat < S30720.size a)
theorem k1_idx59_inb : ∀ (v31 : BitVec 32) (v36 : BitVec 32) (v57_1 : BitVec 32) (v298 : IVec S16 32) (k1_hw66 : k1_chk66 v31 v36 v57_1 v298), ∀ (k1_h15 : k1_cond15 v31 v36 v57_1 = 1#1), ∀ a x, ((![v298] : Fin 1 → IVec S16 32) a x).toNat < S30720.size a := fun v31 v36 v57_1 v298 k1_hw66 k1_h15 => k1_hw66 k1_h15

def k1_chk67 (v31 : BitVec 32) (v36 : BitVec 32) (v57_1 : BitVec 32) (v324 : IVec S16 32) : Prop :=
  (∀ (k1_h15 : k1_cond15 v31 v36 v57_1 = 1#1), ∀ a x, ((![v324] : Fin 1 → IVec S16 32) a x).toNat < S30720.size a)
theorem k1_idx60_inb : ∀ (v31 : BitVec 32) (v36 : BitVec 32) (v57_1 : BitVec 32) (v324 : IVec S16 32) (k1_hw67 : k1_chk67 v31 v36 v57_1 v324), ∀ (k1_h15 : k1_cond15 v31 v36 v57_1 = 1#1), ∀ a x, ((![v324] : Fin 1 → IVec S16 32) a x).toNat < S30720.size a := fun v31 v36 v57_1 v324 k1_hw67 k1_h15 => k1_hw67 k1_h15

def k1_chk68 (v31 : BitVec 32) (v36 : BitVec 32) (v57_1 : BitVec 32) (v350 : IVec S16 32) : Prop :=
  (∀ (k1_h15 : k1_cond15 v31 v36 v57_1 = 1#1), ∀ a x, ((![v350] : Fin 1 → IVec S16 32) a x).toNat < S30720.size a)
theorem k1_idx61_inb : ∀ (v31 : BitVec 32) (v36 : BitVec 32) (v57_1 : BitVec 32) (v350 : IVec S16 32) (k1_hw68 : k1_chk68 v31 v36 v57_1 v350), ∀ (k1_h15 : k1_cond15 v31 v36 v57_1 = 1#1), ∀ a x, ((![v350] : Fin 1 → IVec S16 32) a x).toNat < S30720.size a := fun v31 v36 v57_1 v350 k1_hw68 k1_h15 => k1_hw68 k1_h15

def k1_chk69 (v31 : BitVec 32) (v36 : BitVec 32) (v57_1 : BitVec 32) (v376 : IVec S16 32) : Prop :=
  (∀ (k1_h15 : k1_cond15 v31 v36 v57_1 = 1#1), ∀ a x, ((![v376] : Fin 1 → IVec S16 32) a x).toNat < S30720.size a)
theorem k1_idx62_inb : ∀ (v31 : BitVec 32) (v36 : BitVec 32) (v57_1 : BitVec 32) (v376 : IVec S16 32) (k1_hw69 : k1_chk69 v31 v36 v57_1 v376), ∀ (k1_h15 : k1_cond15 v31 v36 v57_1 = 1#1), ∀ a x, ((![v376] : Fin 1 → IVec S16 32) a x).toNat < S30720.size a := fun v31 v36 v57_1 v376 k1_hw69 k1_h15 => k1_hw69 k1_h15

def k1_chk70 (v31 : BitVec 32) (v36 : BitVec 32) (v57_1 : BitVec 32) (v402 : IVec S16 32) : Prop :=
  (∀ (k1_h15 : k1_cond15 v31 v36 v57_1 = 1#1), ∀ a x, ((![v402] : Fin 1 → IVec S16 32) a x).toNat < S30720.size a)
theorem k1_idx63_inb : ∀ (v31 : BitVec 32) (v36 : BitVec 32) (v57_1 : BitVec 32) (v402 : IVec S16 32) (k1_hw70 : k1_chk70 v31 v36 v57_1 v402), ∀ (k1_h15 : k1_cond15 v31 v36 v57_1 = 1#1), ∀ a x, ((![v402] : Fin 1 → IVec S16 32) a x).toNat < S30720.size a := fun v31 v36 v57_1 v402 k1_hw70 k1_h15 => k1_hw70 k1_h15

def k1_chk71 (v31 : BitVec 32) (v36 : BitVec 32) (v57_1 : BitVec 32) (v428 : IVec S16 32) : Prop :=
  (∀ (k1_h15 : k1_cond15 v31 v36 v57_1 = 1#1), ∀ a x, ((![v428] : Fin 1 → IVec S16 32) a x).toNat < S30720.size a)
theorem k1_idx64_inb : ∀ (v31 : BitVec 32) (v36 : BitVec 32) (v57_1 : BitVec 32) (v428 : IVec S16 32) (k1_hw71 : k1_chk71 v31 v36 v57_1 v428), ∀ (k1_h15 : k1_cond15 v31 v36 v57_1 = 1#1), ∀ a x, ((![v428] : Fin 1 → IVec S16 32) a x).toNat < S30720.size a := fun v31 v36 v57_1 v428 k1_hw71 k1_h15 => k1_hw71 k1_h15
def k1_mult47 (v77 : BitVec 32) : BitVec 32 :=
  v77
def k1_cond16 (i : grid1.Coords) (v13 : BitVec 32) (v16 : BitVec 32) (v31 : BitVec 32) (v36 : BitVec 32) (v77 : BitVec 32) : BitVec 1 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let v149 : BitVec 32 := Scalar.extui v148
  let c0_i32_70 : BitVec 32 := 0#32
  let v150 : BitVec 1 := Scalar.cmpi .ne v149 c0_i32_70
  v150

def k1_off63 (v77 : BitVec 32) : Fin 1 → Nat :=
  let v223 : BitVec 32 := v77
  ![v223.toNat]
def k1_mult48 (v77 : BitVec 32) : BitVec 32 :=
  let c3_i32_112 : BitVec 32 := 3#32
  let v224 : BitVec 32 := Scalar.muli v77 c3_i32_112
  v224
def k1_off64 (v77 : BitVec 32) : Fin 1 → Nat :=
  let c3_i32_112 : BitVec 32 := 3#32
  let v224 : BitVec 32 := Scalar.muli v77 c3_i32_112
  let v225 : BitVec 32 := v224
  ![v225.toNat]
def k1_mult49 (i : grid1.Coords) (v13 : BitVec 32) (v16 : BitVec 32) (v31 : BitVec 32) (v36 : BitVec 32) (v77 : BitVec 32) : BitVec 32 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  v152
def k1_cond17 (i : grid1.Coords) (v13 : BitVec 32) (v16 : BitVec 32) (v31 : BitVec 32) (v36 : BitVec 32) (v77 : BitVec 32) : BitVec 1 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let v156 : BitVec 32 := Scalar.extui v155
  let c0_i32_74 : BitVec 32 := 0#32
  let v157 : BitVec 1 := Scalar.cmpi .ne v156 c0_i32_74
  v157

def k1_off65 (i : grid1.Coords) (v13 : BitVec 32) (v16 : BitVec 32) (v31 : BitVec 32) (v36 : BitVec 32) (v77 : BitVec 32) : Fin 1 → Nat :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v223 : BitVec 32 := v152
  ![v223.toNat]
def k1_mult50 (i : grid1.Coords) (v13 : BitVec 32) (v16 : BitVec 32) (v31 : BitVec 32) (v36 : BitVec 32) (v77 : BitVec 32) : BitVec 32 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let c3_i32_112 : BitVec 32 := 3#32
  let v224 : BitVec 32 := Scalar.muli v152 c3_i32_112
  v224
def k1_off66 (i : grid1.Coords) (v13 : BitVec 32) (v16 : BitVec 32) (v31 : BitVec 32) (v36 : BitVec 32) (v77 : BitVec 32) : Fin 1 → Nat :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let c3_i32_112 : BitVec 32 := 3#32
  let v224 : BitVec 32 := Scalar.muli v152 c3_i32_112
  let v225 : BitVec 32 := v224
  ![v225.toNat]
def k1_mult51 (i : grid1.Coords) (v13 : BitVec 32) (v16 : BitVec 32) (v31 : BitVec 32) (v36 : BitVec 32) (v77 : BitVec 32) : BitVec 32 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  v159
def k1_cond18 (i : grid1.Coords) (v13 : BitVec 32) (v16 : BitVec 32) (v31 : BitVec 32) (v36 : BitVec 32) (v77 : BitVec 32) : BitVec 1 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let v163 : BitVec 32 := Scalar.extui v162
  let c0_i32_78 : BitVec 32 := 0#32
  let v164 : BitVec 1 := Scalar.cmpi .ne v163 c0_i32_78
  v164

def k1_off67 (i : grid1.Coords) (v13 : BitVec 32) (v16 : BitVec 32) (v31 : BitVec 32) (v36 : BitVec 32) (v77 : BitVec 32) : Fin 1 → Nat :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v223 : BitVec 32 := v159
  ![v223.toNat]
def k1_mult52 (i : grid1.Coords) (v13 : BitVec 32) (v16 : BitVec 32) (v31 : BitVec 32) (v36 : BitVec 32) (v77 : BitVec 32) : BitVec 32 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let c3_i32_112 : BitVec 32 := 3#32
  let v224 : BitVec 32 := Scalar.muli v159 c3_i32_112
  v224
def k1_off68 (i : grid1.Coords) (v13 : BitVec 32) (v16 : BitVec 32) (v31 : BitVec 32) (v36 : BitVec 32) (v77 : BitVec 32) : Fin 1 → Nat :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let c3_i32_112 : BitVec 32 := 3#32
  let v224 : BitVec 32 := Scalar.muli v159 c3_i32_112
  let v225 : BitVec 32 := v224
  ![v225.toNat]
def k1_mult53 (i : grid1.Coords) (v13 : BitVec 32) (v16 : BitVec 32) (v31 : BitVec 32) (v36 : BitVec 32) (v77 : BitVec 32) : BitVec 32 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  v166
def k1_cond19 (i : grid1.Coords) (v13 : BitVec 32) (v16 : BitVec 32) (v31 : BitVec 32) (v36 : BitVec 32) (v77 : BitVec 32) : BitVec 1 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let v170 : BitVec 32 := Scalar.extui v169
  let c0_i32_82 : BitVec 32 := 0#32
  let v171 : BitVec 1 := Scalar.cmpi .ne v170 c0_i32_82
  v171

def k1_off69 (i : grid1.Coords) (v13 : BitVec 32) (v16 : BitVec 32) (v31 : BitVec 32) (v36 : BitVec 32) (v77 : BitVec 32) : Fin 1 → Nat :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v223 : BitVec 32 := v166
  ![v223.toNat]
def k1_mult54 (i : grid1.Coords) (v13 : BitVec 32) (v16 : BitVec 32) (v31 : BitVec 32) (v36 : BitVec 32) (v77 : BitVec 32) : BitVec 32 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let c3_i32_112 : BitVec 32 := 3#32
  let v224 : BitVec 32 := Scalar.muli v166 c3_i32_112
  v224
def k1_off70 (i : grid1.Coords) (v13 : BitVec 32) (v16 : BitVec 32) (v31 : BitVec 32) (v36 : BitVec 32) (v77 : BitVec 32) : Fin 1 → Nat :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let c3_i32_112 : BitVec 32 := 3#32
  let v224 : BitVec 32 := Scalar.muli v166 c3_i32_112
  let v225 : BitVec 32 := v224
  ![v225.toNat]
def k1_mult55 (i : grid1.Coords) (v13 : BitVec 32) (v16 : BitVec 32) (v31 : BitVec 32) (v36 : BitVec 32) (v77 : BitVec 32) : BitVec 32 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  v173
def k1_cond20 (i : grid1.Coords) (v13 : BitVec 32) (v16 : BitVec 32) (v31 : BitVec 32) (v36 : BitVec 32) (v77 : BitVec 32) : BitVec 1 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v174 : BitVec 32 := Scalar.subi v61 v173
  let c64_i32_84 : BitVec 32 := 64#32
  let v175 : BitVec 32 := Scalar.andi v174 c64_i32_84
  let c0_i32_85 : BitVec 32 := 0#32
  let v176 : BitVec 1 := Scalar.cmpi .ne v175 c0_i32_85
  let v177 : BitVec 32 := Scalar.extui v176
  let c0_i32_86 : BitVec 32 := 0#32
  let v178 : BitVec 1 := Scalar.cmpi .ne v177 c0_i32_86
  v178

def k1_off71 (i : grid1.Coords) (v13 : BitVec 32) (v16 : BitVec 32) (v31 : BitVec 32) (v36 : BitVec 32) (v77 : BitVec 32) : Fin 1 → Nat :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v223 : BitVec 32 := v173
  ![v223.toNat]
def k1_mult56 (i : grid1.Coords) (v13 : BitVec 32) (v16 : BitVec 32) (v31 : BitVec 32) (v36 : BitVec 32) (v77 : BitVec 32) : BitVec 32 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let c3_i32_112 : BitVec 32 := 3#32
  let v224 : BitVec 32 := Scalar.muli v173 c3_i32_112
  v224
def k1_off72 (i : grid1.Coords) (v13 : BitVec 32) (v16 : BitVec 32) (v31 : BitVec 32) (v36 : BitVec 32) (v77 : BitVec 32) : Fin 1 → Nat :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let c3_i32_112 : BitVec 32 := 3#32
  let v224 : BitVec 32 := Scalar.muli v173 c3_i32_112
  let v225 : BitVec 32 := v224
  ![v225.toNat]
def k1_mult57 (i : grid1.Coords) (v13 : BitVec 32) (v16 : BitVec 32) (v31 : BitVec 32) (v36 : BitVec 32) (v77 : BitVec 32) : BitVec 32 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v174 : BitVec 32 := Scalar.subi v61 v173
  let c64_i32_84 : BitVec 32 := 64#32
  let v175 : BitVec 32 := Scalar.andi v174 c64_i32_84
  let c0_i32_85 : BitVec 32 := 0#32
  let v176 : BitVec 1 := Scalar.cmpi .ne v175 c0_i32_85
  let c64_i32_87 : BitVec 32 := 64#32
  let v179 : BitVec 32 := Scalar.addi v173 c64_i32_87
  let v180 : BitVec 32 := Scalar.select v176 v179 v173
  v180
def k1_cond21 (i : grid1.Coords) (v13 : BitVec 32) (v16 : BitVec 32) (v31 : BitVec 32) (v36 : BitVec 32) (v77 : BitVec 32) : BitVec 1 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v174 : BitVec 32 := Scalar.subi v61 v173
  let c64_i32_84 : BitVec 32 := 64#32
  let v175 : BitVec 32 := Scalar.andi v174 c64_i32_84
  let c0_i32_85 : BitVec 32 := 0#32
  let v176 : BitVec 1 := Scalar.cmpi .ne v175 c0_i32_85
  let c64_i32_87 : BitVec 32 := 64#32
  let v179 : BitVec 32 := Scalar.addi v173 c64_i32_87
  let v180 : BitVec 32 := Scalar.select v176 v179 v173
  let v181 : BitVec 32 := Scalar.subi v61 v180
  let c32_i32_88 : BitVec 32 := 32#32
  let v182 : BitVec 32 := Scalar.andi v181 c32_i32_88
  let c0_i32_89 : BitVec 32 := 0#32
  let v183 : BitVec 1 := Scalar.cmpi .ne v182 c0_i32_89
  let v184 : BitVec 32 := Scalar.extui v183
  let c0_i32_90 : BitVec 32 := 0#32
  let v185 : BitVec 1 := Scalar.cmpi .ne v184 c0_i32_90
  v185

def k1_off73 (i : grid1.Coords) (v13 : BitVec 32) (v16 : BitVec 32) (v31 : BitVec 32) (v36 : BitVec 32) (v77 : BitVec 32) : Fin 1 → Nat :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v174 : BitVec 32 := Scalar.subi v61 v173
  let c64_i32_84 : BitVec 32 := 64#32
  let v175 : BitVec 32 := Scalar.andi v174 c64_i32_84
  let c0_i32_85 : BitVec 32 := 0#32
  let v176 : BitVec 1 := Scalar.cmpi .ne v175 c0_i32_85
  let c64_i32_87 : BitVec 32 := 64#32
  let v179 : BitVec 32 := Scalar.addi v173 c64_i32_87
  let v180 : BitVec 32 := Scalar.select v176 v179 v173
  let v223 : BitVec 32 := v180
  ![v223.toNat]
def k1_mult58 (i : grid1.Coords) (v13 : BitVec 32) (v16 : BitVec 32) (v31 : BitVec 32) (v36 : BitVec 32) (v77 : BitVec 32) : BitVec 32 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v174 : BitVec 32 := Scalar.subi v61 v173
  let c64_i32_84 : BitVec 32 := 64#32
  let v175 : BitVec 32 := Scalar.andi v174 c64_i32_84
  let c0_i32_85 : BitVec 32 := 0#32
  let v176 : BitVec 1 := Scalar.cmpi .ne v175 c0_i32_85
  let c64_i32_87 : BitVec 32 := 64#32
  let v179 : BitVec 32 := Scalar.addi v173 c64_i32_87
  let v180 : BitVec 32 := Scalar.select v176 v179 v173
  let c3_i32_112 : BitVec 32 := 3#32
  let v224 : BitVec 32 := Scalar.muli v180 c3_i32_112
  v224
def k1_off74 (i : grid1.Coords) (v13 : BitVec 32) (v16 : BitVec 32) (v31 : BitVec 32) (v36 : BitVec 32) (v77 : BitVec 32) : Fin 1 → Nat :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v174 : BitVec 32 := Scalar.subi v61 v173
  let c64_i32_84 : BitVec 32 := 64#32
  let v175 : BitVec 32 := Scalar.andi v174 c64_i32_84
  let c0_i32_85 : BitVec 32 := 0#32
  let v176 : BitVec 1 := Scalar.cmpi .ne v175 c0_i32_85
  let c64_i32_87 : BitVec 32 := 64#32
  let v179 : BitVec 32 := Scalar.addi v173 c64_i32_87
  let v180 : BitVec 32 := Scalar.select v176 v179 v173
  let c3_i32_112 : BitVec 32 := 3#32
  let v224 : BitVec 32 := Scalar.muli v180 c3_i32_112
  let v225 : BitVec 32 := v224
  ![v225.toNat]
def k1_mult59 (i : grid1.Coords) (v13 : BitVec 32) (v16 : BitVec 32) (v31 : BitVec 32) (v36 : BitVec 32) (v77 : BitVec 32) : BitVec 32 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v174 : BitVec 32 := Scalar.subi v61 v173
  let c64_i32_84 : BitVec 32 := 64#32
  let v175 : BitVec 32 := Scalar.andi v174 c64_i32_84
  let c0_i32_85 : BitVec 32 := 0#32
  let v176 : BitVec 1 := Scalar.cmpi .ne v175 c0_i32_85
  let c64_i32_87 : BitVec 32 := 64#32
  let v179 : BitVec 32 := Scalar.addi v173 c64_i32_87
  let v180 : BitVec 32 := Scalar.select v176 v179 v173
  let v181 : BitVec 32 := Scalar.subi v61 v180
  let c32_i32_88 : BitVec 32 := 32#32
  let v182 : BitVec 32 := Scalar.andi v181 c32_i32_88
  let c0_i32_89 : BitVec 32 := 0#32
  let v183 : BitVec 1 := Scalar.cmpi .ne v182 c0_i32_89
  let c32_i32_91 : BitVec 32 := 32#32
  let v186 : BitVec 32 := Scalar.addi v180 c32_i32_91
  let v187 : BitVec 32 := Scalar.select v183 v186 v180
  v187
def k1_cond22 (i : grid1.Coords) (v13 : BitVec 32) (v16 : BitVec 32) (v31 : BitVec 32) (v36 : BitVec 32) (v77 : BitVec 32) : BitVec 1 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v174 : BitVec 32 := Scalar.subi v61 v173
  let c64_i32_84 : BitVec 32 := 64#32
  let v175 : BitVec 32 := Scalar.andi v174 c64_i32_84
  let c0_i32_85 : BitVec 32 := 0#32
  let v176 : BitVec 1 := Scalar.cmpi .ne v175 c0_i32_85
  let c64_i32_87 : BitVec 32 := 64#32
  let v179 : BitVec 32 := Scalar.addi v173 c64_i32_87
  let v180 : BitVec 32 := Scalar.select v176 v179 v173
  let v181 : BitVec 32 := Scalar.subi v61 v180
  let c32_i32_88 : BitVec 32 := 32#32
  let v182 : BitVec 32 := Scalar.andi v181 c32_i32_88
  let c0_i32_89 : BitVec 32 := 0#32
  let v183 : BitVec 1 := Scalar.cmpi .ne v182 c0_i32_89
  let c32_i32_91 : BitVec 32 := 32#32
  let v186 : BitVec 32 := Scalar.addi v180 c32_i32_91
  let v187 : BitVec 32 := Scalar.select v183 v186 v180
  let v188 : BitVec 32 := Scalar.subi v61 v187
  let c16_i32_92 : BitVec 32 := 16#32
  let v189 : BitVec 32 := Scalar.andi v188 c16_i32_92
  let c0_i32_93 : BitVec 32 := 0#32
  let v190 : BitVec 1 := Scalar.cmpi .ne v189 c0_i32_93
  let v191 : BitVec 32 := Scalar.extui v190
  let c0_i32_94 : BitVec 32 := 0#32
  let v192 : BitVec 1 := Scalar.cmpi .ne v191 c0_i32_94
  v192

def k1_off75 (i : grid1.Coords) (v13 : BitVec 32) (v16 : BitVec 32) (v31 : BitVec 32) (v36 : BitVec 32) (v77 : BitVec 32) : Fin 1 → Nat :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v174 : BitVec 32 := Scalar.subi v61 v173
  let c64_i32_84 : BitVec 32 := 64#32
  let v175 : BitVec 32 := Scalar.andi v174 c64_i32_84
  let c0_i32_85 : BitVec 32 := 0#32
  let v176 : BitVec 1 := Scalar.cmpi .ne v175 c0_i32_85
  let c64_i32_87 : BitVec 32 := 64#32
  let v179 : BitVec 32 := Scalar.addi v173 c64_i32_87
  let v180 : BitVec 32 := Scalar.select v176 v179 v173
  let v181 : BitVec 32 := Scalar.subi v61 v180
  let c32_i32_88 : BitVec 32 := 32#32
  let v182 : BitVec 32 := Scalar.andi v181 c32_i32_88
  let c0_i32_89 : BitVec 32 := 0#32
  let v183 : BitVec 1 := Scalar.cmpi .ne v182 c0_i32_89
  let c32_i32_91 : BitVec 32 := 32#32
  let v186 : BitVec 32 := Scalar.addi v180 c32_i32_91
  let v187 : BitVec 32 := Scalar.select v183 v186 v180
  let v223 : BitVec 32 := v187
  ![v223.toNat]
def k1_mult60 (i : grid1.Coords) (v13 : BitVec 32) (v16 : BitVec 32) (v31 : BitVec 32) (v36 : BitVec 32) (v77 : BitVec 32) : BitVec 32 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v174 : BitVec 32 := Scalar.subi v61 v173
  let c64_i32_84 : BitVec 32 := 64#32
  let v175 : BitVec 32 := Scalar.andi v174 c64_i32_84
  let c0_i32_85 : BitVec 32 := 0#32
  let v176 : BitVec 1 := Scalar.cmpi .ne v175 c0_i32_85
  let c64_i32_87 : BitVec 32 := 64#32
  let v179 : BitVec 32 := Scalar.addi v173 c64_i32_87
  let v180 : BitVec 32 := Scalar.select v176 v179 v173
  let v181 : BitVec 32 := Scalar.subi v61 v180
  let c32_i32_88 : BitVec 32 := 32#32
  let v182 : BitVec 32 := Scalar.andi v181 c32_i32_88
  let c0_i32_89 : BitVec 32 := 0#32
  let v183 : BitVec 1 := Scalar.cmpi .ne v182 c0_i32_89
  let c32_i32_91 : BitVec 32 := 32#32
  let v186 : BitVec 32 := Scalar.addi v180 c32_i32_91
  let v187 : BitVec 32 := Scalar.select v183 v186 v180
  let c3_i32_112 : BitVec 32 := 3#32
  let v224 : BitVec 32 := Scalar.muli v187 c3_i32_112
  v224
def k1_off76 (i : grid1.Coords) (v13 : BitVec 32) (v16 : BitVec 32) (v31 : BitVec 32) (v36 : BitVec 32) (v77 : BitVec 32) : Fin 1 → Nat :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v174 : BitVec 32 := Scalar.subi v61 v173
  let c64_i32_84 : BitVec 32 := 64#32
  let v175 : BitVec 32 := Scalar.andi v174 c64_i32_84
  let c0_i32_85 : BitVec 32 := 0#32
  let v176 : BitVec 1 := Scalar.cmpi .ne v175 c0_i32_85
  let c64_i32_87 : BitVec 32 := 64#32
  let v179 : BitVec 32 := Scalar.addi v173 c64_i32_87
  let v180 : BitVec 32 := Scalar.select v176 v179 v173
  let v181 : BitVec 32 := Scalar.subi v61 v180
  let c32_i32_88 : BitVec 32 := 32#32
  let v182 : BitVec 32 := Scalar.andi v181 c32_i32_88
  let c0_i32_89 : BitVec 32 := 0#32
  let v183 : BitVec 1 := Scalar.cmpi .ne v182 c0_i32_89
  let c32_i32_91 : BitVec 32 := 32#32
  let v186 : BitVec 32 := Scalar.addi v180 c32_i32_91
  let v187 : BitVec 32 := Scalar.select v183 v186 v180
  let c3_i32_112 : BitVec 32 := 3#32
  let v224 : BitVec 32 := Scalar.muli v187 c3_i32_112
  let v225 : BitVec 32 := v224
  ![v225.toNat]
def k1_mult61 (i : grid1.Coords) (v13 : BitVec 32) (v16 : BitVec 32) (v31 : BitVec 32) (v36 : BitVec 32) (v77 : BitVec 32) : BitVec 32 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v174 : BitVec 32 := Scalar.subi v61 v173
  let c64_i32_84 : BitVec 32 := 64#32
  let v175 : BitVec 32 := Scalar.andi v174 c64_i32_84
  let c0_i32_85 : BitVec 32 := 0#32
  let v176 : BitVec 1 := Scalar.cmpi .ne v175 c0_i32_85
  let c64_i32_87 : BitVec 32 := 64#32
  let v179 : BitVec 32 := Scalar.addi v173 c64_i32_87
  let v180 : BitVec 32 := Scalar.select v176 v179 v173
  let v181 : BitVec 32 := Scalar.subi v61 v180
  let c32_i32_88 : BitVec 32 := 32#32
  let v182 : BitVec 32 := Scalar.andi v181 c32_i32_88
  let c0_i32_89 : BitVec 32 := 0#32
  let v183 : BitVec 1 := Scalar.cmpi .ne v182 c0_i32_89
  let c32_i32_91 : BitVec 32 := 32#32
  let v186 : BitVec 32 := Scalar.addi v180 c32_i32_91
  let v187 : BitVec 32 := Scalar.select v183 v186 v180
  let v188 : BitVec 32 := Scalar.subi v61 v187
  let c16_i32_92 : BitVec 32 := 16#32
  let v189 : BitVec 32 := Scalar.andi v188 c16_i32_92
  let c0_i32_93 : BitVec 32 := 0#32
  let v190 : BitVec 1 := Scalar.cmpi .ne v189 c0_i32_93
  let c16_i32_95 : BitVec 32 := 16#32
  let v193 : BitVec 32 := Scalar.addi v187 c16_i32_95
  let v194 : BitVec 32 := Scalar.select v190 v193 v187
  v194
def k1_cond23 (i : grid1.Coords) (v13 : BitVec 32) (v16 : BitVec 32) (v31 : BitVec 32) (v36 : BitVec 32) (v77 : BitVec 32) : BitVec 1 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v174 : BitVec 32 := Scalar.subi v61 v173
  let c64_i32_84 : BitVec 32 := 64#32
  let v175 : BitVec 32 := Scalar.andi v174 c64_i32_84
  let c0_i32_85 : BitVec 32 := 0#32
  let v176 : BitVec 1 := Scalar.cmpi .ne v175 c0_i32_85
  let c64_i32_87 : BitVec 32 := 64#32
  let v179 : BitVec 32 := Scalar.addi v173 c64_i32_87
  let v180 : BitVec 32 := Scalar.select v176 v179 v173
  let v181 : BitVec 32 := Scalar.subi v61 v180
  let c32_i32_88 : BitVec 32 := 32#32
  let v182 : BitVec 32 := Scalar.andi v181 c32_i32_88
  let c0_i32_89 : BitVec 32 := 0#32
  let v183 : BitVec 1 := Scalar.cmpi .ne v182 c0_i32_89
  let c32_i32_91 : BitVec 32 := 32#32
  let v186 : BitVec 32 := Scalar.addi v180 c32_i32_91
  let v187 : BitVec 32 := Scalar.select v183 v186 v180
  let v188 : BitVec 32 := Scalar.subi v61 v187
  let c16_i32_92 : BitVec 32 := 16#32
  let v189 : BitVec 32 := Scalar.andi v188 c16_i32_92
  let c0_i32_93 : BitVec 32 := 0#32
  let v190 : BitVec 1 := Scalar.cmpi .ne v189 c0_i32_93
  let c16_i32_95 : BitVec 32 := 16#32
  let v193 : BitVec 32 := Scalar.addi v187 c16_i32_95
  let v194 : BitVec 32 := Scalar.select v190 v193 v187
  let v195 : BitVec 32 := Scalar.subi v61 v194
  let c8_i32_96 : BitVec 32 := 8#32
  let v196 : BitVec 32 := Scalar.andi v195 c8_i32_96
  let c0_i32_97 : BitVec 32 := 0#32
  let v197 : BitVec 1 := Scalar.cmpi .ne v196 c0_i32_97
  let v198 : BitVec 32 := Scalar.extui v197
  let c0_i32_98 : BitVec 32 := 0#32
  let v199 : BitVec 1 := Scalar.cmpi .ne v198 c0_i32_98
  v199

def k1_off77 (i : grid1.Coords) (v13 : BitVec 32) (v16 : BitVec 32) (v31 : BitVec 32) (v36 : BitVec 32) (v77 : BitVec 32) : Fin 1 → Nat :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v174 : BitVec 32 := Scalar.subi v61 v173
  let c64_i32_84 : BitVec 32 := 64#32
  let v175 : BitVec 32 := Scalar.andi v174 c64_i32_84
  let c0_i32_85 : BitVec 32 := 0#32
  let v176 : BitVec 1 := Scalar.cmpi .ne v175 c0_i32_85
  let c64_i32_87 : BitVec 32 := 64#32
  let v179 : BitVec 32 := Scalar.addi v173 c64_i32_87
  let v180 : BitVec 32 := Scalar.select v176 v179 v173
  let v181 : BitVec 32 := Scalar.subi v61 v180
  let c32_i32_88 : BitVec 32 := 32#32
  let v182 : BitVec 32 := Scalar.andi v181 c32_i32_88
  let c0_i32_89 : BitVec 32 := 0#32
  let v183 : BitVec 1 := Scalar.cmpi .ne v182 c0_i32_89
  let c32_i32_91 : BitVec 32 := 32#32
  let v186 : BitVec 32 := Scalar.addi v180 c32_i32_91
  let v187 : BitVec 32 := Scalar.select v183 v186 v180
  let v188 : BitVec 32 := Scalar.subi v61 v187
  let c16_i32_92 : BitVec 32 := 16#32
  let v189 : BitVec 32 := Scalar.andi v188 c16_i32_92
  let c0_i32_93 : BitVec 32 := 0#32
  let v190 : BitVec 1 := Scalar.cmpi .ne v189 c0_i32_93
  let c16_i32_95 : BitVec 32 := 16#32
  let v193 : BitVec 32 := Scalar.addi v187 c16_i32_95
  let v194 : BitVec 32 := Scalar.select v190 v193 v187
  let v223 : BitVec 32 := v194
  ![v223.toNat]
def k1_mult62 (i : grid1.Coords) (v13 : BitVec 32) (v16 : BitVec 32) (v31 : BitVec 32) (v36 : BitVec 32) (v77 : BitVec 32) : BitVec 32 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v174 : BitVec 32 := Scalar.subi v61 v173
  let c64_i32_84 : BitVec 32 := 64#32
  let v175 : BitVec 32 := Scalar.andi v174 c64_i32_84
  let c0_i32_85 : BitVec 32 := 0#32
  let v176 : BitVec 1 := Scalar.cmpi .ne v175 c0_i32_85
  let c64_i32_87 : BitVec 32 := 64#32
  let v179 : BitVec 32 := Scalar.addi v173 c64_i32_87
  let v180 : BitVec 32 := Scalar.select v176 v179 v173
  let v181 : BitVec 32 := Scalar.subi v61 v180
  let c32_i32_88 : BitVec 32 := 32#32
  let v182 : BitVec 32 := Scalar.andi v181 c32_i32_88
  let c0_i32_89 : BitVec 32 := 0#32
  let v183 : BitVec 1 := Scalar.cmpi .ne v182 c0_i32_89
  let c32_i32_91 : BitVec 32 := 32#32
  let v186 : BitVec 32 := Scalar.addi v180 c32_i32_91
  let v187 : BitVec 32 := Scalar.select v183 v186 v180
  let v188 : BitVec 32 := Scalar.subi v61 v187
  let c16_i32_92 : BitVec 32 := 16#32
  let v189 : BitVec 32 := Scalar.andi v188 c16_i32_92
  let c0_i32_93 : BitVec 32 := 0#32
  let v190 : BitVec 1 := Scalar.cmpi .ne v189 c0_i32_93
  let c16_i32_95 : BitVec 32 := 16#32
  let v193 : BitVec 32 := Scalar.addi v187 c16_i32_95
  let v194 : BitVec 32 := Scalar.select v190 v193 v187
  let c3_i32_112 : BitVec 32 := 3#32
  let v224 : BitVec 32 := Scalar.muli v194 c3_i32_112
  v224
def k1_off78 (i : grid1.Coords) (v13 : BitVec 32) (v16 : BitVec 32) (v31 : BitVec 32) (v36 : BitVec 32) (v77 : BitVec 32) : Fin 1 → Nat :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v174 : BitVec 32 := Scalar.subi v61 v173
  let c64_i32_84 : BitVec 32 := 64#32
  let v175 : BitVec 32 := Scalar.andi v174 c64_i32_84
  let c0_i32_85 : BitVec 32 := 0#32
  let v176 : BitVec 1 := Scalar.cmpi .ne v175 c0_i32_85
  let c64_i32_87 : BitVec 32 := 64#32
  let v179 : BitVec 32 := Scalar.addi v173 c64_i32_87
  let v180 : BitVec 32 := Scalar.select v176 v179 v173
  let v181 : BitVec 32 := Scalar.subi v61 v180
  let c32_i32_88 : BitVec 32 := 32#32
  let v182 : BitVec 32 := Scalar.andi v181 c32_i32_88
  let c0_i32_89 : BitVec 32 := 0#32
  let v183 : BitVec 1 := Scalar.cmpi .ne v182 c0_i32_89
  let c32_i32_91 : BitVec 32 := 32#32
  let v186 : BitVec 32 := Scalar.addi v180 c32_i32_91
  let v187 : BitVec 32 := Scalar.select v183 v186 v180
  let v188 : BitVec 32 := Scalar.subi v61 v187
  let c16_i32_92 : BitVec 32 := 16#32
  let v189 : BitVec 32 := Scalar.andi v188 c16_i32_92
  let c0_i32_93 : BitVec 32 := 0#32
  let v190 : BitVec 1 := Scalar.cmpi .ne v189 c0_i32_93
  let c16_i32_95 : BitVec 32 := 16#32
  let v193 : BitVec 32 := Scalar.addi v187 c16_i32_95
  let v194 : BitVec 32 := Scalar.select v190 v193 v187
  let c3_i32_112 : BitVec 32 := 3#32
  let v224 : BitVec 32 := Scalar.muli v194 c3_i32_112
  let v225 : BitVec 32 := v224
  ![v225.toNat]

def k1_chk72 (i : grid1.Coords) (v13 : BitVec 32) (v16 : BitVec 32) (v31 : BitVec 32) (v36 : BitVec 32) (v77 : BitVec 32) : Prop :=
  (∀ (k1_h16 : k1_cond16 i v13 v16 v31 v36 v77 = 1#1), 8 ∣ (k1_mult47 v77).toNat) ∧
  (∀ (k1_h16 : k1_cond16 i v13 v16 v31 v36 v77 = 1#1), ∀ a, (k1_off63 v77) a + S1024.size a ≤ S2097152.size a) ∧
  (∀ (k1_h16 : k1_cond16 i v13 v16 v31 v36 v77 = 1#1), 8 ∣ (k1_mult48 v77).toNat) ∧
  (∀ (k1_h16 : k1_cond16 i v13 v16 v31 v36 v77 = 1#1), ∀ a, (k1_off64 v77) a + S3072.size a ≤ S6291456.size a) ∧
  (∀ (k1_h17 : k1_cond17 i v13 v16 v31 v36 v77 = 1#1), 8 ∣ (k1_mult49 i v13 v16 v31 v36 v77).toNat) ∧
  (∀ (k1_h17 : k1_cond17 i v13 v16 v31 v36 v77 = 1#1), ∀ a, (k1_off65 i v13 v16 v31 v36 v77) a + S512.size a ≤ S2097152.size a) ∧
  (∀ (k1_h17 : k1_cond17 i v13 v16 v31 v36 v77 = 1#1), 8 ∣ (k1_mult50 i v13 v16 v31 v36 v77).toNat) ∧
  (∀ (k1_h17 : k1_cond17 i v13 v16 v31 v36 v77 = 1#1), ∀ a, (k1_off66 i v13 v16 v31 v36 v77) a + S1536.size a ≤ S6291456.size a) ∧
  (∀ (k1_h18 : k1_cond18 i v13 v16 v31 v36 v77 = 1#1), 8 ∣ (k1_mult51 i v13 v16 v31 v36 v77).toNat) ∧
  (∀ (k1_h18 : k1_cond18 i v13 v16 v31 v36 v77 = 1#1), ∀ a, (k1_off67 i v13 v16 v31 v36 v77) a + S256.size a ≤ S2097152.size a) ∧
  (∀ (k1_h18 : k1_cond18 i v13 v16 v31 v36 v77 = 1#1), 8 ∣ (k1_mult52 i v13 v16 v31 v36 v77).toNat) ∧
  (∀ (k1_h18 : k1_cond18 i v13 v16 v31 v36 v77 = 1#1), ∀ a, (k1_off68 i v13 v16 v31 v36 v77) a + S768.size a ≤ S6291456.size a) ∧
  (∀ (k1_h19 : k1_cond19 i v13 v16 v31 v36 v77 = 1#1), 8 ∣ (k1_mult53 i v13 v16 v31 v36 v77).toNat) ∧
  (∀ (k1_h19 : k1_cond19 i v13 v16 v31 v36 v77 = 1#1), ∀ a, (k1_off69 i v13 v16 v31 v36 v77) a + S128.size a ≤ S2097152.size a) ∧
  (∀ (k1_h19 : k1_cond19 i v13 v16 v31 v36 v77 = 1#1), 8 ∣ (k1_mult54 i v13 v16 v31 v36 v77).toNat) ∧
  (∀ (k1_h19 : k1_cond19 i v13 v16 v31 v36 v77 = 1#1), ∀ a, (k1_off70 i v13 v16 v31 v36 v77) a + S384.size a ≤ S6291456.size a) ∧
  (∀ (k1_h20 : k1_cond20 i v13 v16 v31 v36 v77 = 1#1), 8 ∣ (k1_mult55 i v13 v16 v31 v36 v77).toNat) ∧
  (∀ (k1_h20 : k1_cond20 i v13 v16 v31 v36 v77 = 1#1), ∀ a, (k1_off71 i v13 v16 v31 v36 v77) a + S64.size a ≤ S2097152.size a) ∧
  (∀ (k1_h20 : k1_cond20 i v13 v16 v31 v36 v77 = 1#1), 8 ∣ (k1_mult56 i v13 v16 v31 v36 v77).toNat) ∧
  (∀ (k1_h20 : k1_cond20 i v13 v16 v31 v36 v77 = 1#1), ∀ a, (k1_off72 i v13 v16 v31 v36 v77) a + S192.size a ≤ S6291456.size a) ∧
  (∀ (k1_h21 : k1_cond21 i v13 v16 v31 v36 v77 = 1#1), 8 ∣ (k1_mult57 i v13 v16 v31 v36 v77).toNat) ∧
  (∀ (k1_h21 : k1_cond21 i v13 v16 v31 v36 v77 = 1#1), ∀ a, (k1_off73 i v13 v16 v31 v36 v77) a + S32.size a ≤ S2097152.size a) ∧
  (∀ (k1_h21 : k1_cond21 i v13 v16 v31 v36 v77 = 1#1), 8 ∣ (k1_mult58 i v13 v16 v31 v36 v77).toNat) ∧
  (∀ (k1_h21 : k1_cond21 i v13 v16 v31 v36 v77 = 1#1), ∀ a, (k1_off74 i v13 v16 v31 v36 v77) a + S96.size a ≤ S6291456.size a) ∧
  (∀ (k1_h22 : k1_cond22 i v13 v16 v31 v36 v77 = 1#1), 8 ∣ (k1_mult59 i v13 v16 v31 v36 v77).toNat) ∧
  (∀ (k1_h22 : k1_cond22 i v13 v16 v31 v36 v77 = 1#1), ∀ a, (k1_off75 i v13 v16 v31 v36 v77) a + S16.size a ≤ S2097152.size a) ∧
  (∀ (k1_h22 : k1_cond22 i v13 v16 v31 v36 v77 = 1#1), 8 ∣ (k1_mult60 i v13 v16 v31 v36 v77).toNat) ∧
  (∀ (k1_h22 : k1_cond22 i v13 v16 v31 v36 v77 = 1#1), ∀ a, (k1_off76 i v13 v16 v31 v36 v77) a + S48.size a ≤ S6291456.size a) ∧
  (∀ (k1_h23 : k1_cond23 i v13 v16 v31 v36 v77 = 1#1), 8 ∣ (k1_mult61 i v13 v16 v31 v36 v77).toNat) ∧
  (∀ (k1_h23 : k1_cond23 i v13 v16 v31 v36 v77 = 1#1), ∀ a, (k1_off77 i v13 v16 v31 v36 v77) a + S8.size a ≤ S2097152.size a) ∧
  (∀ (k1_h23 : k1_cond23 i v13 v16 v31 v36 v77 = 1#1), 8 ∣ (k1_mult62 i v13 v16 v31 v36 v77).toNat) ∧
  (∀ (k1_h23 : k1_cond23 i v13 v16 v31 v36 v77 = 1#1), ∀ a, (k1_off78 i v13 v16 v31 v36 v77) a + S24.size a ≤ S6291456.size a)
theorem k1_mult47_dvd : ∀ (i : grid1.Coords) (v13 : BitVec 32) (v16 : BitVec 32) (v31 : BitVec 32) (v36 : BitVec 32) (v77 : BitVec 32) (k1_hw72 : k1_chk72 i v13 v16 v31 v36 v77), ∀ (k1_h16 : k1_cond16 i v13 v16 v31 v36 v77 = 1#1), 8 ∣ (k1_mult47 v77).toNat := fun i v13 v16 v31 v36 v77 k1_hw72 k1_h16 => k1_hw72.1 k1_h16
theorem k1_off63_inb : ∀ (i : grid1.Coords) (v13 : BitVec 32) (v16 : BitVec 32) (v31 : BitVec 32) (v36 : BitVec 32) (v77 : BitVec 32) (k1_hw72 : k1_chk72 i v13 v16 v31 v36 v77), ∀ (k1_h16 : k1_cond16 i v13 v16 v31 v36 v77 = 1#1), ∀ a, (k1_off63 v77) a + S1024.size a ≤ S2097152.size a := fun i v13 v16 v31 v36 v77 k1_hw72 k1_h16 => k1_hw72.2.1 k1_h16
theorem k1_mult48_dvd : ∀ (i : grid1.Coords) (v13 : BitVec 32) (v16 : BitVec 32) (v31 : BitVec 32) (v36 : BitVec 32) (v77 : BitVec 32) (k1_hw72 : k1_chk72 i v13 v16 v31 v36 v77), ∀ (k1_h16 : k1_cond16 i v13 v16 v31 v36 v77 = 1#1), 8 ∣ (k1_mult48 v77).toNat := fun i v13 v16 v31 v36 v77 k1_hw72 k1_h16 => k1_hw72.2.2.1 k1_h16
theorem k1_off64_inb : ∀ (i : grid1.Coords) (v13 : BitVec 32) (v16 : BitVec 32) (v31 : BitVec 32) (v36 : BitVec 32) (v77 : BitVec 32) (k1_hw72 : k1_chk72 i v13 v16 v31 v36 v77), ∀ (k1_h16 : k1_cond16 i v13 v16 v31 v36 v77 = 1#1), ∀ a, (k1_off64 v77) a + S3072.size a ≤ S6291456.size a := fun i v13 v16 v31 v36 v77 k1_hw72 k1_h16 => k1_hw72.2.2.2.1 k1_h16
theorem k1_mult49_dvd : ∀ (i : grid1.Coords) (v13 : BitVec 32) (v16 : BitVec 32) (v31 : BitVec 32) (v36 : BitVec 32) (v77 : BitVec 32) (k1_hw72 : k1_chk72 i v13 v16 v31 v36 v77), ∀ (k1_h17 : k1_cond17 i v13 v16 v31 v36 v77 = 1#1), 8 ∣ (k1_mult49 i v13 v16 v31 v36 v77).toNat := fun i v13 v16 v31 v36 v77 k1_hw72 k1_h17 => k1_hw72.2.2.2.2.1 k1_h17
theorem k1_off65_inb : ∀ (i : grid1.Coords) (v13 : BitVec 32) (v16 : BitVec 32) (v31 : BitVec 32) (v36 : BitVec 32) (v77 : BitVec 32) (k1_hw72 : k1_chk72 i v13 v16 v31 v36 v77), ∀ (k1_h17 : k1_cond17 i v13 v16 v31 v36 v77 = 1#1), ∀ a, (k1_off65 i v13 v16 v31 v36 v77) a + S512.size a ≤ S2097152.size a := fun i v13 v16 v31 v36 v77 k1_hw72 k1_h17 => k1_hw72.2.2.2.2.2.1 k1_h17
theorem k1_mult50_dvd : ∀ (i : grid1.Coords) (v13 : BitVec 32) (v16 : BitVec 32) (v31 : BitVec 32) (v36 : BitVec 32) (v77 : BitVec 32) (k1_hw72 : k1_chk72 i v13 v16 v31 v36 v77), ∀ (k1_h17 : k1_cond17 i v13 v16 v31 v36 v77 = 1#1), 8 ∣ (k1_mult50 i v13 v16 v31 v36 v77).toNat := fun i v13 v16 v31 v36 v77 k1_hw72 k1_h17 => k1_hw72.2.2.2.2.2.2.1 k1_h17
theorem k1_off66_inb : ∀ (i : grid1.Coords) (v13 : BitVec 32) (v16 : BitVec 32) (v31 : BitVec 32) (v36 : BitVec 32) (v77 : BitVec 32) (k1_hw72 : k1_chk72 i v13 v16 v31 v36 v77), ∀ (k1_h17 : k1_cond17 i v13 v16 v31 v36 v77 = 1#1), ∀ a, (k1_off66 i v13 v16 v31 v36 v77) a + S1536.size a ≤ S6291456.size a := fun i v13 v16 v31 v36 v77 k1_hw72 k1_h17 => k1_hw72.2.2.2.2.2.2.2.1 k1_h17
theorem k1_mult51_dvd : ∀ (i : grid1.Coords) (v13 : BitVec 32) (v16 : BitVec 32) (v31 : BitVec 32) (v36 : BitVec 32) (v77 : BitVec 32) (k1_hw72 : k1_chk72 i v13 v16 v31 v36 v77), ∀ (k1_h18 : k1_cond18 i v13 v16 v31 v36 v77 = 1#1), 8 ∣ (k1_mult51 i v13 v16 v31 v36 v77).toNat := fun i v13 v16 v31 v36 v77 k1_hw72 k1_h18 => k1_hw72.2.2.2.2.2.2.2.2.1 k1_h18
theorem k1_off67_inb : ∀ (i : grid1.Coords) (v13 : BitVec 32) (v16 : BitVec 32) (v31 : BitVec 32) (v36 : BitVec 32) (v77 : BitVec 32) (k1_hw72 : k1_chk72 i v13 v16 v31 v36 v77), ∀ (k1_h18 : k1_cond18 i v13 v16 v31 v36 v77 = 1#1), ∀ a, (k1_off67 i v13 v16 v31 v36 v77) a + S256.size a ≤ S2097152.size a := fun i v13 v16 v31 v36 v77 k1_hw72 k1_h18 => k1_hw72.2.2.2.2.2.2.2.2.2.1 k1_h18
theorem k1_mult52_dvd : ∀ (i : grid1.Coords) (v13 : BitVec 32) (v16 : BitVec 32) (v31 : BitVec 32) (v36 : BitVec 32) (v77 : BitVec 32) (k1_hw72 : k1_chk72 i v13 v16 v31 v36 v77), ∀ (k1_h18 : k1_cond18 i v13 v16 v31 v36 v77 = 1#1), 8 ∣ (k1_mult52 i v13 v16 v31 v36 v77).toNat := fun i v13 v16 v31 v36 v77 k1_hw72 k1_h18 => k1_hw72.2.2.2.2.2.2.2.2.2.2.1 k1_h18
theorem k1_off68_inb : ∀ (i : grid1.Coords) (v13 : BitVec 32) (v16 : BitVec 32) (v31 : BitVec 32) (v36 : BitVec 32) (v77 : BitVec 32) (k1_hw72 : k1_chk72 i v13 v16 v31 v36 v77), ∀ (k1_h18 : k1_cond18 i v13 v16 v31 v36 v77 = 1#1), ∀ a, (k1_off68 i v13 v16 v31 v36 v77) a + S768.size a ≤ S6291456.size a := fun i v13 v16 v31 v36 v77 k1_hw72 k1_h18 => k1_hw72.2.2.2.2.2.2.2.2.2.2.2.1 k1_h18
theorem k1_mult53_dvd : ∀ (i : grid1.Coords) (v13 : BitVec 32) (v16 : BitVec 32) (v31 : BitVec 32) (v36 : BitVec 32) (v77 : BitVec 32) (k1_hw72 : k1_chk72 i v13 v16 v31 v36 v77), ∀ (k1_h19 : k1_cond19 i v13 v16 v31 v36 v77 = 1#1), 8 ∣ (k1_mult53 i v13 v16 v31 v36 v77).toNat := fun i v13 v16 v31 v36 v77 k1_hw72 k1_h19 => k1_hw72.2.2.2.2.2.2.2.2.2.2.2.2.1 k1_h19
theorem k1_off69_inb : ∀ (i : grid1.Coords) (v13 : BitVec 32) (v16 : BitVec 32) (v31 : BitVec 32) (v36 : BitVec 32) (v77 : BitVec 32) (k1_hw72 : k1_chk72 i v13 v16 v31 v36 v77), ∀ (k1_h19 : k1_cond19 i v13 v16 v31 v36 v77 = 1#1), ∀ a, (k1_off69 i v13 v16 v31 v36 v77) a + S128.size a ≤ S2097152.size a := fun i v13 v16 v31 v36 v77 k1_hw72 k1_h19 => k1_hw72.2.2.2.2.2.2.2.2.2.2.2.2.2.1 k1_h19
theorem k1_mult54_dvd : ∀ (i : grid1.Coords) (v13 : BitVec 32) (v16 : BitVec 32) (v31 : BitVec 32) (v36 : BitVec 32) (v77 : BitVec 32) (k1_hw72 : k1_chk72 i v13 v16 v31 v36 v77), ∀ (k1_h19 : k1_cond19 i v13 v16 v31 v36 v77 = 1#1), 8 ∣ (k1_mult54 i v13 v16 v31 v36 v77).toNat := fun i v13 v16 v31 v36 v77 k1_hw72 k1_h19 => k1_hw72.2.2.2.2.2.2.2.2.2.2.2.2.2.2.1 k1_h19
theorem k1_off70_inb : ∀ (i : grid1.Coords) (v13 : BitVec 32) (v16 : BitVec 32) (v31 : BitVec 32) (v36 : BitVec 32) (v77 : BitVec 32) (k1_hw72 : k1_chk72 i v13 v16 v31 v36 v77), ∀ (k1_h19 : k1_cond19 i v13 v16 v31 v36 v77 = 1#1), ∀ a, (k1_off70 i v13 v16 v31 v36 v77) a + S384.size a ≤ S6291456.size a := fun i v13 v16 v31 v36 v77 k1_hw72 k1_h19 => k1_hw72.2.2.2.2.2.2.2.2.2.2.2.2.2.2.2.1 k1_h19
theorem k1_mult55_dvd : ∀ (i : grid1.Coords) (v13 : BitVec 32) (v16 : BitVec 32) (v31 : BitVec 32) (v36 : BitVec 32) (v77 : BitVec 32) (k1_hw72 : k1_chk72 i v13 v16 v31 v36 v77), ∀ (k1_h20 : k1_cond20 i v13 v16 v31 v36 v77 = 1#1), 8 ∣ (k1_mult55 i v13 v16 v31 v36 v77).toNat := fun i v13 v16 v31 v36 v77 k1_hw72 k1_h20 => k1_hw72.2.2.2.2.2.2.2.2.2.2.2.2.2.2.2.2.1 k1_h20
theorem k1_off71_inb : ∀ (i : grid1.Coords) (v13 : BitVec 32) (v16 : BitVec 32) (v31 : BitVec 32) (v36 : BitVec 32) (v77 : BitVec 32) (k1_hw72 : k1_chk72 i v13 v16 v31 v36 v77), ∀ (k1_h20 : k1_cond20 i v13 v16 v31 v36 v77 = 1#1), ∀ a, (k1_off71 i v13 v16 v31 v36 v77) a + S64.size a ≤ S2097152.size a := fun i v13 v16 v31 v36 v77 k1_hw72 k1_h20 => k1_hw72.2.2.2.2.2.2.2.2.2.2.2.2.2.2.2.2.2.1 k1_h20
theorem k1_mult56_dvd : ∀ (i : grid1.Coords) (v13 : BitVec 32) (v16 : BitVec 32) (v31 : BitVec 32) (v36 : BitVec 32) (v77 : BitVec 32) (k1_hw72 : k1_chk72 i v13 v16 v31 v36 v77), ∀ (k1_h20 : k1_cond20 i v13 v16 v31 v36 v77 = 1#1), 8 ∣ (k1_mult56 i v13 v16 v31 v36 v77).toNat := fun i v13 v16 v31 v36 v77 k1_hw72 k1_h20 => k1_hw72.2.2.2.2.2.2.2.2.2.2.2.2.2.2.2.2.2.2.1 k1_h20
theorem k1_off72_inb : ∀ (i : grid1.Coords) (v13 : BitVec 32) (v16 : BitVec 32) (v31 : BitVec 32) (v36 : BitVec 32) (v77 : BitVec 32) (k1_hw72 : k1_chk72 i v13 v16 v31 v36 v77), ∀ (k1_h20 : k1_cond20 i v13 v16 v31 v36 v77 = 1#1), ∀ a, (k1_off72 i v13 v16 v31 v36 v77) a + S192.size a ≤ S6291456.size a := fun i v13 v16 v31 v36 v77 k1_hw72 k1_h20 => k1_hw72.2.2.2.2.2.2.2.2.2.2.2.2.2.2.2.2.2.2.2.1 k1_h20
theorem k1_mult57_dvd : ∀ (i : grid1.Coords) (v13 : BitVec 32) (v16 : BitVec 32) (v31 : BitVec 32) (v36 : BitVec 32) (v77 : BitVec 32) (k1_hw72 : k1_chk72 i v13 v16 v31 v36 v77), ∀ (k1_h21 : k1_cond21 i v13 v16 v31 v36 v77 = 1#1), 8 ∣ (k1_mult57 i v13 v16 v31 v36 v77).toNat := fun i v13 v16 v31 v36 v77 k1_hw72 k1_h21 => k1_hw72.2.2.2.2.2.2.2.2.2.2.2.2.2.2.2.2.2.2.2.2.1 k1_h21
theorem k1_off73_inb : ∀ (i : grid1.Coords) (v13 : BitVec 32) (v16 : BitVec 32) (v31 : BitVec 32) (v36 : BitVec 32) (v77 : BitVec 32) (k1_hw72 : k1_chk72 i v13 v16 v31 v36 v77), ∀ (k1_h21 : k1_cond21 i v13 v16 v31 v36 v77 = 1#1), ∀ a, (k1_off73 i v13 v16 v31 v36 v77) a + S32.size a ≤ S2097152.size a := fun i v13 v16 v31 v36 v77 k1_hw72 k1_h21 => k1_hw72.2.2.2.2.2.2.2.2.2.2.2.2.2.2.2.2.2.2.2.2.2.1 k1_h21
theorem k1_mult58_dvd : ∀ (i : grid1.Coords) (v13 : BitVec 32) (v16 : BitVec 32) (v31 : BitVec 32) (v36 : BitVec 32) (v77 : BitVec 32) (k1_hw72 : k1_chk72 i v13 v16 v31 v36 v77), ∀ (k1_h21 : k1_cond21 i v13 v16 v31 v36 v77 = 1#1), 8 ∣ (k1_mult58 i v13 v16 v31 v36 v77).toNat := fun i v13 v16 v31 v36 v77 k1_hw72 k1_h21 => k1_hw72.2.2.2.2.2.2.2.2.2.2.2.2.2.2.2.2.2.2.2.2.2.2.1 k1_h21
theorem k1_off74_inb : ∀ (i : grid1.Coords) (v13 : BitVec 32) (v16 : BitVec 32) (v31 : BitVec 32) (v36 : BitVec 32) (v77 : BitVec 32) (k1_hw72 : k1_chk72 i v13 v16 v31 v36 v77), ∀ (k1_h21 : k1_cond21 i v13 v16 v31 v36 v77 = 1#1), ∀ a, (k1_off74 i v13 v16 v31 v36 v77) a + S96.size a ≤ S6291456.size a := fun i v13 v16 v31 v36 v77 k1_hw72 k1_h21 => k1_hw72.2.2.2.2.2.2.2.2.2.2.2.2.2.2.2.2.2.2.2.2.2.2.2.1 k1_h21
theorem k1_mult59_dvd : ∀ (i : grid1.Coords) (v13 : BitVec 32) (v16 : BitVec 32) (v31 : BitVec 32) (v36 : BitVec 32) (v77 : BitVec 32) (k1_hw72 : k1_chk72 i v13 v16 v31 v36 v77), ∀ (k1_h22 : k1_cond22 i v13 v16 v31 v36 v77 = 1#1), 8 ∣ (k1_mult59 i v13 v16 v31 v36 v77).toNat := fun i v13 v16 v31 v36 v77 k1_hw72 k1_h22 => k1_hw72.2.2.2.2.2.2.2.2.2.2.2.2.2.2.2.2.2.2.2.2.2.2.2.2.1 k1_h22
theorem k1_off75_inb : ∀ (i : grid1.Coords) (v13 : BitVec 32) (v16 : BitVec 32) (v31 : BitVec 32) (v36 : BitVec 32) (v77 : BitVec 32) (k1_hw72 : k1_chk72 i v13 v16 v31 v36 v77), ∀ (k1_h22 : k1_cond22 i v13 v16 v31 v36 v77 = 1#1), ∀ a, (k1_off75 i v13 v16 v31 v36 v77) a + S16.size a ≤ S2097152.size a := fun i v13 v16 v31 v36 v77 k1_hw72 k1_h22 => k1_hw72.2.2.2.2.2.2.2.2.2.2.2.2.2.2.2.2.2.2.2.2.2.2.2.2.2.1 k1_h22
theorem k1_mult60_dvd : ∀ (i : grid1.Coords) (v13 : BitVec 32) (v16 : BitVec 32) (v31 : BitVec 32) (v36 : BitVec 32) (v77 : BitVec 32) (k1_hw72 : k1_chk72 i v13 v16 v31 v36 v77), ∀ (k1_h22 : k1_cond22 i v13 v16 v31 v36 v77 = 1#1), 8 ∣ (k1_mult60 i v13 v16 v31 v36 v77).toNat := fun i v13 v16 v31 v36 v77 k1_hw72 k1_h22 => k1_hw72.2.2.2.2.2.2.2.2.2.2.2.2.2.2.2.2.2.2.2.2.2.2.2.2.2.2.1 k1_h22
theorem k1_off76_inb : ∀ (i : grid1.Coords) (v13 : BitVec 32) (v16 : BitVec 32) (v31 : BitVec 32) (v36 : BitVec 32) (v77 : BitVec 32) (k1_hw72 : k1_chk72 i v13 v16 v31 v36 v77), ∀ (k1_h22 : k1_cond22 i v13 v16 v31 v36 v77 = 1#1), ∀ a, (k1_off76 i v13 v16 v31 v36 v77) a + S48.size a ≤ S6291456.size a := fun i v13 v16 v31 v36 v77 k1_hw72 k1_h22 => k1_hw72.2.2.2.2.2.2.2.2.2.2.2.2.2.2.2.2.2.2.2.2.2.2.2.2.2.2.2.1 k1_h22
theorem k1_mult61_dvd : ∀ (i : grid1.Coords) (v13 : BitVec 32) (v16 : BitVec 32) (v31 : BitVec 32) (v36 : BitVec 32) (v77 : BitVec 32) (k1_hw72 : k1_chk72 i v13 v16 v31 v36 v77), ∀ (k1_h23 : k1_cond23 i v13 v16 v31 v36 v77 = 1#1), 8 ∣ (k1_mult61 i v13 v16 v31 v36 v77).toNat := fun i v13 v16 v31 v36 v77 k1_hw72 k1_h23 => k1_hw72.2.2.2.2.2.2.2.2.2.2.2.2.2.2.2.2.2.2.2.2.2.2.2.2.2.2.2.2.1 k1_h23
theorem k1_off77_inb : ∀ (i : grid1.Coords) (v13 : BitVec 32) (v16 : BitVec 32) (v31 : BitVec 32) (v36 : BitVec 32) (v77 : BitVec 32) (k1_hw72 : k1_chk72 i v13 v16 v31 v36 v77), ∀ (k1_h23 : k1_cond23 i v13 v16 v31 v36 v77 = 1#1), ∀ a, (k1_off77 i v13 v16 v31 v36 v77) a + S8.size a ≤ S2097152.size a := fun i v13 v16 v31 v36 v77 k1_hw72 k1_h23 => k1_hw72.2.2.2.2.2.2.2.2.2.2.2.2.2.2.2.2.2.2.2.2.2.2.2.2.2.2.2.2.2.1 k1_h23
theorem k1_mult62_dvd : ∀ (i : grid1.Coords) (v13 : BitVec 32) (v16 : BitVec 32) (v31 : BitVec 32) (v36 : BitVec 32) (v77 : BitVec 32) (k1_hw72 : k1_chk72 i v13 v16 v31 v36 v77), ∀ (k1_h23 : k1_cond23 i v13 v16 v31 v36 v77 = 1#1), 8 ∣ (k1_mult62 i v13 v16 v31 v36 v77).toNat := fun i v13 v16 v31 v36 v77 k1_hw72 k1_h23 => k1_hw72.2.2.2.2.2.2.2.2.2.2.2.2.2.2.2.2.2.2.2.2.2.2.2.2.2.2.2.2.2.2.1 k1_h23
theorem k1_off78_inb : ∀ (i : grid1.Coords) (v13 : BitVec 32) (v16 : BitVec 32) (v31 : BitVec 32) (v36 : BitVec 32) (v77 : BitVec 32) (k1_hw72 : k1_chk72 i v13 v16 v31 v36 v77), ∀ (k1_h23 : k1_cond23 i v13 v16 v31 v36 v77 = 1#1), ∀ a, (k1_off78 i v13 v16 v31 v36 v77) a + S24.size a ≤ S6291456.size a := fun i v13 v16 v31 v36 v77 k1_hw72 k1_h23 => k1_hw72.2.2.2.2.2.2.2.2.2.2.2.2.2.2.2.2.2.2.2.2.2.2.2.2.2.2.2.2.2.2.2 k1_h23

def k1_cond25 (i : grid1.Coords) (v13 : BitVec 32) (v16 : BitVec 32) (v31 : BitVec 32) (v36 : BitVec 32) (v77 : BitVec 32) : BitVec 1 :=
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v146 : BitVec 32 := Scalar.subi v61 v77
  let c1024_i32_68 : BitVec 32 := 1024#32
  let v147 : BitVec 32 := Scalar.andi v146 c1024_i32_68
  let c0_i32_69 : BitVec 32 := 0#32
  let v148 : BitVec 1 := Scalar.cmpi .ne v147 c0_i32_69
  let c1024_i32_71 : BitVec 32 := 1024#32
  let v151 : BitVec 32 := Scalar.addi v77 c1024_i32_71
  let v152 : BitVec 32 := Scalar.select v148 v151 v77
  let v153 : BitVec 32 := Scalar.subi v61 v152
  let c512_i32_72 : BitVec 32 := 512#32
  let v154 : BitVec 32 := Scalar.andi v153 c512_i32_72
  let c0_i32_73 : BitVec 32 := 0#32
  let v155 : BitVec 1 := Scalar.cmpi .ne v154 c0_i32_73
  let c512_i32_75 : BitVec 32 := 512#32
  let v158 : BitVec 32 := Scalar.addi v152 c512_i32_75
  let v159 : BitVec 32 := Scalar.select v155 v158 v152
  let v160 : BitVec 32 := Scalar.subi v61 v159
  let c256_i32_76 : BitVec 32 := 256#32
  let v161 : BitVec 32 := Scalar.andi v160 c256_i32_76
  let c0_i32_77 : BitVec 32 := 0#32
  let v162 : BitVec 1 := Scalar.cmpi .ne v161 c0_i32_77
  let c256_i32_79 : BitVec 32 := 256#32
  let v165 : BitVec 32 := Scalar.addi v159 c256_i32_79
  let v166 : BitVec 32 := Scalar.select v162 v165 v159
  let v167 : BitVec 32 := Scalar.subi v61 v166
  let c128_i32_80 : BitVec 32 := 128#32
  let v168 : BitVec 32 := Scalar.andi v167 c128_i32_80
  let c0_i32_81 : BitVec 32 := 0#32
  let v169 : BitVec 1 := Scalar.cmpi .ne v168 c0_i32_81
  let c128_i32_83 : BitVec 32 := 128#32
  let v172 : BitVec 32 := Scalar.addi v166 c128_i32_83
  let v173 : BitVec 32 := Scalar.select v169 v172 v166
  let v174 : BitVec 32 := Scalar.subi v61 v173
  let c64_i32_84 : BitVec 32 := 64#32
  let v175 : BitVec 32 := Scalar.andi v174 c64_i32_84
  let c0_i32_85 : BitVec 32 := 0#32
  let v176 : BitVec 1 := Scalar.cmpi .ne v175 c0_i32_85
  let c64_i32_87 : BitVec 32 := 64#32
  let v179 : BitVec 32 := Scalar.addi v173 c64_i32_87
  let v180 : BitVec 32 := Scalar.select v176 v179 v173
  let v181 : BitVec 32 := Scalar.subi v61 v180
  let c32_i32_88 : BitVec 32 := 32#32
  let v182 : BitVec 32 := Scalar.andi v181 c32_i32_88
  let c0_i32_89 : BitVec 32 := 0#32
  let v183 : BitVec 1 := Scalar.cmpi .ne v182 c0_i32_89
  let c32_i32_91 : BitVec 32 := 32#32
  let v186 : BitVec 32 := Scalar.addi v180 c32_i32_91
  let v187 : BitVec 32 := Scalar.select v183 v186 v180
  let v188 : BitVec 32 := Scalar.subi v61 v187
  let c16_i32_92 : BitVec 32 := 16#32
  let v189 : BitVec 32 := Scalar.andi v188 c16_i32_92
  let c0_i32_93 : BitVec 32 := 0#32
  let v190 : BitVec 1 := Scalar.cmpi .ne v189 c0_i32_93
  let c16_i32_95 : BitVec 32 := 16#32
  let v193 : BitVec 32 := Scalar.addi v187 c16_i32_95
  let v194 : BitVec 32 := Scalar.select v190 v193 v187
  let v195 : BitVec 32 := Scalar.subi v61 v194
  let c8_i32_96 : BitVec 32 := 8#32
  let v196 : BitVec 32 := Scalar.andi v195 c8_i32_96
  let c0_i32_97 : BitVec 32 := 0#32
  let v197 : BitVec 1 := Scalar.cmpi .ne v196 c0_i32_97
  let c8_i32_99 : BitVec 32 := 8#32
  let v200 : BitVec 32 := Scalar.addi v194 c8_i32_99
  let v201 : BitVec 32 := Scalar.select v197 v200 v194
  let v206 : BitVec 32 := Scalar.subi v61 v201
  let c0_i32_102 : BitVec 32 := 0#32
  let v207 : BitVec 1 := Scalar.cmpi .sgt v206 c0_i32_102
  let v208 : BitVec 32 := Scalar.extui v207
  let c0_i32_103 : BitVec 32 := 0#32
  let v209 : BitVec 1 := Scalar.cmpi .ne v208 c0_i32_103
  v209

def k1_chk73 (i : grid1.Coords) (v13 : BitVec 32) (v16 : BitVec 32) (v31 : BitVec 32) (v36 : BitVec 32) (v77 : BitVec 32) (v235 : IVec S16 32) : Prop :=
  (∀ (k1_h25 : k1_cond25 i v13 v16 v31 v36 v77 = 1#1), ∀ a x, ((![v235] : Fin 1 → IVec S16 32) a x).toNat < S6144.size a)
theorem k1_idx65_inb : ∀ (i : grid1.Coords) (v13 : BitVec 32) (v16 : BitVec 32) (v31 : BitVec 32) (v36 : BitVec 32) (v77 : BitVec 32) (v235 : IVec S16 32) (k1_hw73 : k1_chk73 i v13 v16 v31 v36 v77 v235), ∀ (k1_h25 : k1_cond25 i v13 v16 v31 v36 v77 = 1#1), ∀ a x, ((![v235] : Fin 1 → IVec S16 32) a x).toNat < S6144.size a := fun i v13 v16 v31 v36 v77 v235 k1_hw73 k1_h25 => k1_hw73 k1_h25

def k1_chk74 (i : grid1.Coords) (v13 : BitVec 32) (v16 : BitVec 32) (v31 : BitVec 32) (v36 : BitVec 32) (v77 : BitVec 32) (v256 : IVec S16 32) : Prop :=
  (∀ (k1_h25 : k1_cond25 i v13 v16 v31 v36 v77 = 1#1), ∀ a x, ((![v256] : Fin 1 → IVec S16 32) a x).toNat < S6144.size a)
theorem k1_idx66_inb : ∀ (i : grid1.Coords) (v13 : BitVec 32) (v16 : BitVec 32) (v31 : BitVec 32) (v36 : BitVec 32) (v77 : BitVec 32) (v256 : IVec S16 32) (k1_hw74 : k1_chk74 i v13 v16 v31 v36 v77 v256), ∀ (k1_h25 : k1_cond25 i v13 v16 v31 v36 v77 = 1#1), ∀ a x, ((![v256] : Fin 1 → IVec S16 32) a x).toNat < S6144.size a := fun i v13 v16 v31 v36 v77 v256 k1_hw74 k1_h25 => k1_hw74 k1_h25

def k1_chk75 (i : grid1.Coords) (v13 : BitVec 32) (v16 : BitVec 32) (v31 : BitVec 32) (v36 : BitVec 32) (v77 : BitVec 32) (v277 : IVec S16 32) : Prop :=
  (∀ (k1_h25 : k1_cond25 i v13 v16 v31 v36 v77 = 1#1), ∀ a x, ((![v277] : Fin 1 → IVec S16 32) a x).toNat < S6144.size a)
theorem k1_idx67_inb : ∀ (i : grid1.Coords) (v13 : BitVec 32) (v16 : BitVec 32) (v31 : BitVec 32) (v36 : BitVec 32) (v77 : BitVec 32) (v277 : IVec S16 32) (k1_hw75 : k1_chk75 i v13 v16 v31 v36 v77 v277), ∀ (k1_h25 : k1_cond25 i v13 v16 v31 v36 v77 = 1#1), ∀ a x, ((![v277] : Fin 1 → IVec S16 32) a x).toNat < S6144.size a := fun i v13 v16 v31 v36 v77 v277 k1_hw75 k1_h25 => k1_hw75 k1_h25

def k1_chk76 (i : grid1.Coords) (v13 : BitVec 32) (v16 : BitVec 32) (v31 : BitVec 32) (v36 : BitVec 32) (v77 : BitVec 32) (v298 : IVec S16 32) : Prop :=
  (∀ (k1_h25 : k1_cond25 i v13 v16 v31 v36 v77 = 1#1), ∀ a x, ((![v298] : Fin 1 → IVec S16 32) a x).toNat < S6144.size a)
theorem k1_idx68_inb : ∀ (i : grid1.Coords) (v13 : BitVec 32) (v16 : BitVec 32) (v31 : BitVec 32) (v36 : BitVec 32) (v77 : BitVec 32) (v298 : IVec S16 32) (k1_hw76 : k1_chk76 i v13 v16 v31 v36 v77 v298), ∀ (k1_h25 : k1_cond25 i v13 v16 v31 v36 v77 = 1#1), ∀ a x, ((![v298] : Fin 1 → IVec S16 32) a x).toNat < S6144.size a := fun i v13 v16 v31 v36 v77 v298 k1_hw76 k1_h25 => k1_hw76 k1_h25

def k1_chk77 (i : grid1.Coords) (v13 : BitVec 32) (v16 : BitVec 32) (v31 : BitVec 32) (v36 : BitVec 32) (v77 : BitVec 32) (v319 : IVec S16 32) : Prop :=
  (∀ (k1_h25 : k1_cond25 i v13 v16 v31 v36 v77 = 1#1), ∀ a x, ((![v319] : Fin 1 → IVec S16 32) a x).toNat < S6144.size a)
theorem k1_idx69_inb : ∀ (i : grid1.Coords) (v13 : BitVec 32) (v16 : BitVec 32) (v31 : BitVec 32) (v36 : BitVec 32) (v77 : BitVec 32) (v319 : IVec S16 32) (k1_hw77 : k1_chk77 i v13 v16 v31 v36 v77 v319), ∀ (k1_h25 : k1_cond25 i v13 v16 v31 v36 v77 = 1#1), ∀ a x, ((![v319] : Fin 1 → IVec S16 32) a x).toNat < S6144.size a := fun i v13 v16 v31 v36 v77 v319 k1_hw77 k1_h25 => k1_hw77 k1_h25

def k1_chk78 (i : grid1.Coords) (v13 : BitVec 32) (v16 : BitVec 32) (v31 : BitVec 32) (v36 : BitVec 32) (v77 : BitVec 32) (v340 : IVec S16 32) : Prop :=
  (∀ (k1_h25 : k1_cond25 i v13 v16 v31 v36 v77 = 1#1), ∀ a x, ((![v340] : Fin 1 → IVec S16 32) a x).toNat < S6144.size a)
theorem k1_idx70_inb : ∀ (i : grid1.Coords) (v13 : BitVec 32) (v16 : BitVec 32) (v31 : BitVec 32) (v36 : BitVec 32) (v77 : BitVec 32) (v340 : IVec S16 32) (k1_hw78 : k1_chk78 i v13 v16 v31 v36 v77 v340), ∀ (k1_h25 : k1_cond25 i v13 v16 v31 v36 v77 = 1#1), ∀ a x, ((![v340] : Fin 1 → IVec S16 32) a x).toNat < S6144.size a := fun i v13 v16 v31 v36 v77 v340 k1_hw78 k1_h25 => k1_hw78 k1_h25

def k1_chk79 (i : grid1.Coords) (v13 : BitVec 32) (v16 : BitVec 32) (v31 : BitVec 32) (v36 : BitVec 32) (v77 : BitVec 32) (v361 : IVec S16 32) : Prop :=
  (∀ (k1_h25 : k1_cond25 i v13 v16 v31 v36 v77 = 1#1), ∀ a x, ((![v361] : Fin 1 → IVec S16 32) a x).toNat < S6144.size a)
theorem k1_idx71_inb : ∀ (i : grid1.Coords) (v13 : BitVec 32) (v16 : BitVec 32) (v31 : BitVec 32) (v36 : BitVec 32) (v77 : BitVec 32) (v361 : IVec S16 32) (k1_hw79 : k1_chk79 i v13 v16 v31 v36 v77 v361), ∀ (k1_h25 : k1_cond25 i v13 v16 v31 v36 v77 = 1#1), ∀ a x, ((![v361] : Fin 1 → IVec S16 32) a x).toNat < S6144.size a := fun i v13 v16 v31 v36 v77 v361 k1_hw79 k1_h25 => k1_hw79 k1_h25

def k1_chk80 (i : grid1.Coords) (v13 : BitVec 32) (v16 : BitVec 32) (v31 : BitVec 32) (v36 : BitVec 32) (v77 : BitVec 32) (v382 : IVec S16 32) : Prop :=
  (∀ (k1_h25 : k1_cond25 i v13 v16 v31 v36 v77 = 1#1), ∀ a x, ((![v382] : Fin 1 → IVec S16 32) a x).toNat < S6144.size a)
theorem k1_idx72_inb : ∀ (i : grid1.Coords) (v13 : BitVec 32) (v16 : BitVec 32) (v31 : BitVec 32) (v36 : BitVec 32) (v77 : BitVec 32) (v382 : IVec S16 32) (k1_hw80 : k1_chk80 i v13 v16 v31 v36 v77 v382), ∀ (k1_h25 : k1_cond25 i v13 v16 v31 v36 v77 = 1#1), ∀ a x, ((![v382] : Fin 1 → IVec S16 32) a x).toNat < S6144.size a := fun i v13 v16 v31 v36 v77 v382 k1_hw80 k1_h25 => k1_hw80 k1_h25
def k1_cond27 (i : grid1.Coords) (v13 : BitVec 32) (v16 : BitVec 32) (v31 : BitVec 32) (v36 : BitVec 32) : BitVec 1 :=
  let c8_i32_21 : BitVec 32 := 8#32
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let c65536_i32_18 : BitVec 32 := 65536#32
  let v58 : BitVec 32 := Scalar.subi c65536_i32_18 v36
  let v62 : BitVec 32 := Scalar.subi v61 v58
  let c7_i32_20 : BitVec 32 := 7#32
  let v63 : BitVec 32 := Scalar.andi v62 c7_i32_20
  let v64 : BitVec 32 := Scalar.subi c8_i32_21 v63
  let c7_i32_22 : BitVec 32 := 7#32
  let v65 : BitVec 32 := Scalar.andi v64 c7_i32_22
  let v66 : BitVec 32 := Scalar.minsi v65 v58
  let c0_i32_106 : BitVec 32 := 0#32
  let v213 : BitVec 1 := Scalar.cmpi .sgt v66 c0_i32_106
  let v214 : BitVec 32 := Scalar.extui v213
  let c0_i32_107 : BitVec 32 := 0#32
  let v215 : BitVec 1 := Scalar.cmpi .ne v214 c0_i32_107
  v215

def k1_chk81 (i : grid1.Coords) (v13 : BitVec 32) (v16 : BitVec 32) (v31 : BitVec 32) (v36 : BitVec 32) (v235 : IVec S16 32) : Prop :=
  (∀ (k1_h27 : k1_cond27 i v13 v16 v31 v36 = 1#1), ∀ a x, ((![v235] : Fin 1 → IVec S16 32) a x).toNat < S6144.size a)
theorem k1_idx73_inb : ∀ (i : grid1.Coords) (v13 : BitVec 32) (v16 : BitVec 32) (v31 : BitVec 32) (v36 : BitVec 32) (v235 : IVec S16 32) (k1_hw81 : k1_chk81 i v13 v16 v31 v36 v235), ∀ (k1_h27 : k1_cond27 i v13 v16 v31 v36 = 1#1), ∀ a x, ((![v235] : Fin 1 → IVec S16 32) a x).toNat < S6144.size a := fun i v13 v16 v31 v36 v235 k1_hw81 k1_h27 => k1_hw81 k1_h27

def k1_chk82 (i : grid1.Coords) (v13 : BitVec 32) (v16 : BitVec 32) (v31 : BitVec 32) (v36 : BitVec 32) (v256 : IVec S16 32) : Prop :=
  (∀ (k1_h27 : k1_cond27 i v13 v16 v31 v36 = 1#1), ∀ a x, ((![v256] : Fin 1 → IVec S16 32) a x).toNat < S6144.size a)
theorem k1_idx74_inb : ∀ (i : grid1.Coords) (v13 : BitVec 32) (v16 : BitVec 32) (v31 : BitVec 32) (v36 : BitVec 32) (v256 : IVec S16 32) (k1_hw82 : k1_chk82 i v13 v16 v31 v36 v256), ∀ (k1_h27 : k1_cond27 i v13 v16 v31 v36 = 1#1), ∀ a x, ((![v256] : Fin 1 → IVec S16 32) a x).toNat < S6144.size a := fun i v13 v16 v31 v36 v256 k1_hw82 k1_h27 => k1_hw82 k1_h27

def k1_chk83 (i : grid1.Coords) (v13 : BitVec 32) (v16 : BitVec 32) (v31 : BitVec 32) (v36 : BitVec 32) (v277 : IVec S16 32) : Prop :=
  (∀ (k1_h27 : k1_cond27 i v13 v16 v31 v36 = 1#1), ∀ a x, ((![v277] : Fin 1 → IVec S16 32) a x).toNat < S6144.size a)
theorem k1_idx75_inb : ∀ (i : grid1.Coords) (v13 : BitVec 32) (v16 : BitVec 32) (v31 : BitVec 32) (v36 : BitVec 32) (v277 : IVec S16 32) (k1_hw83 : k1_chk83 i v13 v16 v31 v36 v277), ∀ (k1_h27 : k1_cond27 i v13 v16 v31 v36 = 1#1), ∀ a x, ((![v277] : Fin 1 → IVec S16 32) a x).toNat < S6144.size a := fun i v13 v16 v31 v36 v277 k1_hw83 k1_h27 => k1_hw83 k1_h27

def k1_chk84 (i : grid1.Coords) (v13 : BitVec 32) (v16 : BitVec 32) (v31 : BitVec 32) (v36 : BitVec 32) (v298 : IVec S16 32) : Prop :=
  (∀ (k1_h27 : k1_cond27 i v13 v16 v31 v36 = 1#1), ∀ a x, ((![v298] : Fin 1 → IVec S16 32) a x).toNat < S6144.size a)
theorem k1_idx76_inb : ∀ (i : grid1.Coords) (v13 : BitVec 32) (v16 : BitVec 32) (v31 : BitVec 32) (v36 : BitVec 32) (v298 : IVec S16 32) (k1_hw84 : k1_chk84 i v13 v16 v31 v36 v298), ∀ (k1_h27 : k1_cond27 i v13 v16 v31 v36 = 1#1), ∀ a x, ((![v298] : Fin 1 → IVec S16 32) a x).toNat < S6144.size a := fun i v13 v16 v31 v36 v298 k1_hw84 k1_h27 => k1_hw84 k1_h27

def k1_chk85 (i : grid1.Coords) (v13 : BitVec 32) (v16 : BitVec 32) (v31 : BitVec 32) (v36 : BitVec 32) (v319 : IVec S16 32) : Prop :=
  (∀ (k1_h27 : k1_cond27 i v13 v16 v31 v36 = 1#1), ∀ a x, ((![v319] : Fin 1 → IVec S16 32) a x).toNat < S6144.size a)
theorem k1_idx77_inb : ∀ (i : grid1.Coords) (v13 : BitVec 32) (v16 : BitVec 32) (v31 : BitVec 32) (v36 : BitVec 32) (v319 : IVec S16 32) (k1_hw85 : k1_chk85 i v13 v16 v31 v36 v319), ∀ (k1_h27 : k1_cond27 i v13 v16 v31 v36 = 1#1), ∀ a x, ((![v319] : Fin 1 → IVec S16 32) a x).toNat < S6144.size a := fun i v13 v16 v31 v36 v319 k1_hw85 k1_h27 => k1_hw85 k1_h27

def k1_chk86 (i : grid1.Coords) (v13 : BitVec 32) (v16 : BitVec 32) (v31 : BitVec 32) (v36 : BitVec 32) (v340 : IVec S16 32) : Prop :=
  (∀ (k1_h27 : k1_cond27 i v13 v16 v31 v36 = 1#1), ∀ a x, ((![v340] : Fin 1 → IVec S16 32) a x).toNat < S6144.size a)
theorem k1_idx78_inb : ∀ (i : grid1.Coords) (v13 : BitVec 32) (v16 : BitVec 32) (v31 : BitVec 32) (v36 : BitVec 32) (v340 : IVec S16 32) (k1_hw86 : k1_chk86 i v13 v16 v31 v36 v340), ∀ (k1_h27 : k1_cond27 i v13 v16 v31 v36 = 1#1), ∀ a x, ((![v340] : Fin 1 → IVec S16 32) a x).toNat < S6144.size a := fun i v13 v16 v31 v36 v340 k1_hw86 k1_h27 => k1_hw86 k1_h27

def k1_chk87 (i : grid1.Coords) (v13 : BitVec 32) (v16 : BitVec 32) (v31 : BitVec 32) (v36 : BitVec 32) (v361 : IVec S16 32) : Prop :=
  (∀ (k1_h27 : k1_cond27 i v13 v16 v31 v36 = 1#1), ∀ a x, ((![v361] : Fin 1 → IVec S16 32) a x).toNat < S6144.size a)
theorem k1_idx79_inb : ∀ (i : grid1.Coords) (v13 : BitVec 32) (v16 : BitVec 32) (v31 : BitVec 32) (v36 : BitVec 32) (v361 : IVec S16 32) (k1_hw87 : k1_chk87 i v13 v16 v31 v36 v361), ∀ (k1_h27 : k1_cond27 i v13 v16 v31 v36 = 1#1), ∀ a x, ((![v361] : Fin 1 → IVec S16 32) a x).toNat < S6144.size a := fun i v13 v16 v31 v36 v361 k1_hw87 k1_h27 => k1_hw87 k1_h27

def k1_chk88 (i : grid1.Coords) (v13 : BitVec 32) (v16 : BitVec 32) (v31 : BitVec 32) (v36 : BitVec 32) (v382 : IVec S16 32) : Prop :=
  (∀ (k1_h27 : k1_cond27 i v13 v16 v31 v36 = 1#1), ∀ a x, ((![v382] : Fin 1 → IVec S16 32) a x).toNat < S6144.size a)
theorem k1_idx80_inb : ∀ (i : grid1.Coords) (v13 : BitVec 32) (v16 : BitVec 32) (v31 : BitVec 32) (v36 : BitVec 32) (v382 : IVec S16 32) (k1_hw88 : k1_chk88 i v13 v16 v31 v36 v382), ∀ (k1_h27 : k1_cond27 i v13 v16 v31 v36 = 1#1), ∀ a x, ((![v382] : Fin 1 → IVec S16 32) a x).toNat < S6144.size a := fun i v13 v16 v31 v36 v382 k1_hw88 k1_h27 => k1_hw88 k1_h27
@[reducible] def k1_t13_loop (i : grid1.Coords) (v13 : BitVec 32) (v16 : BitVec 32) (v31 : BitVec 32) (v36 : BitVec 32) : Scf.Loop 32 :=
  let c0_i32_108 : BitVec 32 := 0#32
  let c65536_i32_18 : BitVec 32 := 65536#32
  let v58 : BitVec 32 := Scalar.subi c65536_i32_18 v36
  let c8_i32_21 : BitVec 32 := 8#32
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v62 : BitVec 32 := Scalar.subi v61 v58
  let c7_i32_20 : BitVec 32 := 7#32
  let v63 : BitVec 32 := Scalar.andi v62 c7_i32_20
  let v64 : BitVec 32 := Scalar.subi c8_i32_21 v63
  let c7_i32_22 : BitVec 32 := 7#32
  let v65 : BitVec 32 := Scalar.andi v64 c7_i32_22
  let v66 : BitVec 32 := Scalar.minsi v65 v58
  let v68 : BitVec 32 := Scalar.subi v58 v66
  let c0_i32_23 : BitVec 32 := 0#32
  let v69 : BitVec 32 := Scalar.maxsi v68 c0_i32_23
  let c11_i32 : BitVec 32 := 11#32
  let v70 : BitVec 32 := Scalar.shrsi v69 c11_i32
  let v216 : BitVec 32 := Scalar.subi v70 c0_i32_108
  let c1_i32_109 : BitVec 32 := 1#32
  let v218 : BitVec 32 := Scalar.divsi v216 c1_i32_109
  let v219 : BitVec 32 := Scalar.muli v218 c1_i32_109
  let v220 : BitVec 32 := Scalar.addi c0_i32_108 v219
  let c1_i32_110 : BitVec 32 := 1#32
  ⟨c0_i32_108, v220, c1_i32_110⟩
def k1_mult63 (arg26 : BitVec 32) : BitVec 32 :=
  arg26

def k1_off79 (arg26 : BitVec 32) : Fin 1 → Nat :=
  let v223 : BitVec 32 := arg26
  ![v223.toNat]
def k1_mult64 (arg26 : BitVec 32) : BitVec 32 :=
  let c3_i32_112 : BitVec 32 := 3#32
  let v226 : BitVec 32 := Scalar.muli arg26 c3_i32_112
  v226
def k1_off80 (arg26 : BitVec 32) : Fin 1 → Nat :=
  let c3_i32_112 : BitVec 32 := 3#32
  let v226 : BitVec 32 := Scalar.muli arg26 c3_i32_112
  let v227 : BitVec 32 := v226
  ![v227.toNat]

def k1_chk89 (arg26 : BitVec 32) : Prop :=
  (8 ∣ (k1_mult63 arg26).toNat) ∧
  (∀ a, (k1_off79 arg26) a + S2048.size a ≤ S2097152.size a) ∧
  (8 ∣ (k1_mult64 arg26).toNat) ∧
  (∀ a, (k1_off80 arg26) a + S6144.size a ≤ S6291456.size a)
theorem k1_mult63_dvd : ∀ (arg26 : BitVec 32) (k1_hw89 : k1_chk89 arg26), 8 ∣ (k1_mult63 arg26).toNat := fun arg26 k1_hw89 => k1_hw89.1
theorem k1_off79_inb : ∀ (arg26 : BitVec 32) (k1_hw89 : k1_chk89 arg26), ∀ a, (k1_off79 arg26) a + S2048.size a ≤ S2097152.size a := fun arg26 k1_hw89 => k1_hw89.2.1
theorem k1_mult64_dvd : ∀ (arg26 : BitVec 32) (k1_hw89 : k1_chk89 arg26), 8 ∣ (k1_mult64 arg26).toNat := fun arg26 k1_hw89 => k1_hw89.2.2.1
theorem k1_off80_inb : ∀ (arg26 : BitVec 32) (k1_hw89 : k1_chk89 arg26), ∀ a, (k1_off80 arg26) a + S6144.size a ≤ S6291456.size a := fun arg26 k1_hw89 => k1_hw89.2.2.2

@[reducible] def k1_t14_loop (i : grid1.Coords) (v13 : BitVec 32) (v16 : BitVec 32) (v31 : BitVec 32) (v36 : BitVec 32) : Scf.Loop 32 :=
  let c0_i32_108 : BitVec 32 := 0#32
  let c65536_i32_18 : BitVec 32 := 65536#32
  let v58 : BitVec 32 := Scalar.subi c65536_i32_18 v36
  let c8_i32_21 : BitVec 32 := 8#32
  let v17 : BitVec 32 := Scalar.addi v13 v16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v50 : BitVec 32 := Scalar.muli v1 c65536_i32
  let v59 : BitVec 32 := Scalar.addi v17 v50
  let c65536_i32_19 : BitVec 32 := 65536#32
  let v60 : BitVec 32 := Scalar.addi v59 c65536_i32_19
  let v37 : BitVec 32 := Scalar.addi v31 v36
  let v61 : BitVec 32 := Scalar.subi v60 v37
  let v62 : BitVec 32 := Scalar.subi v61 v58
  let c7_i32_20 : BitVec 32 := 7#32
  let v63 : BitVec 32 := Scalar.andi v62 c7_i32_20
  let v64 : BitVec 32 := Scalar.subi c8_i32_21 v63
  let c7_i32_22 : BitVec 32 := 7#32
  let v65 : BitVec 32 := Scalar.andi v64 c7_i32_22
  let v66 : BitVec 32 := Scalar.minsi v65 v58
  let v68 : BitVec 32 := Scalar.subi v58 v66
  let c0_i32_23 : BitVec 32 := 0#32
  let v69 : BitVec 32 := Scalar.maxsi v68 c0_i32_23
  let c11_i32 : BitVec 32 := 11#32
  let v70 : BitVec 32 := Scalar.shrsi v69 c11_i32
  let v216 : BitVec 32 := Scalar.subi v70 c0_i32_108
  let c1_i32_109 : BitVec 32 := 1#32
  let v218 : BitVec 32 := Scalar.divsi v216 c1_i32_109
  let v219 : BitVec 32 := Scalar.muli v218 c1_i32_109
  let v220 : BitVec 32 := Scalar.addi c0_i32_108 v219
  let v217 : BitVec 32 := Scalar.addi c0_i32_108 v216
  let c1_i32_111 : BitVec 32 := 1#32
  ⟨v220, v217, c1_i32_111⟩

def k1_chk52 (i : grid1.Coords) (v13 : BitVec 32) (v16 : BitVec 32) (v31 : BitVec 32) (v36 : BitVec 32) : Prop :=
  ((k1_t9_loop i v13 v16 v31 v36).OK) ∧
  ((k1_t10_loop i v13 v16 v31 v36).OK) ∧
  ((k1_t13_loop i v13 v16 v31 v36).OK) ∧
  ((k1_t14_loop i v13 v16 v31 v36).OK)
theorem k1_t9_ok : ∀ (i : grid1.Coords) (v13 : BitVec 32) (v16 : BitVec 32) (v31 : BitVec 32) (v36 : BitVec 32) (k1_hw52 : k1_chk52 i v13 v16 v31 v36), (k1_t9_loop i v13 v16 v31 v36).OK := fun i v13 v16 v31 v36 k1_hw52 => k1_hw52.1
theorem k1_t10_ok : ∀ (i : grid1.Coords) (v13 : BitVec 32) (v16 : BitVec 32) (v31 : BitVec 32) (v36 : BitVec 32) (k1_hw52 : k1_chk52 i v13 v16 v31 v36), (k1_t10_loop i v13 v16 v31 v36).OK := fun i v13 v16 v31 v36 k1_hw52 => k1_hw52.2.1
theorem k1_t13_ok : ∀ (i : grid1.Coords) (v13 : BitVec 32) (v16 : BitVec 32) (v31 : BitVec 32) (v36 : BitVec 32) (k1_hw52 : k1_chk52 i v13 v16 v31 v36), (k1_t13_loop i v13 v16 v31 v36).OK := fun i v13 v16 v31 v36 k1_hw52 => k1_hw52.2.2.1
theorem k1_t14_ok : ∀ (i : grid1.Coords) (v13 : BitVec 32) (v16 : BitVec 32) (v31 : BitVec 32) (v36 : BitVec 32) (k1_hw52 : k1_chk52 i v13 v16 v31 v36), (k1_t14_loop i v13 v16 v31 v36).OK := fun i v13 v16 v31 v36 k1_hw52 => k1_hw52.2.2.2

def k1_mult65 (arg26 : BitVec 32) : BitVec 32 :=
  arg26

def k1_off81 (arg26 : BitVec 32) : Fin 1 → Nat :=
  let v223 : BitVec 32 := arg26
  ![v223.toNat]
def k1_mult66 (arg26 : BitVec 32) : BitVec 32 :=
  let c3_i32_112 : BitVec 32 := 3#32
  let v226 : BitVec 32 := Scalar.muli arg26 c3_i32_112
  v226
def k1_off82 (arg26 : BitVec 32) : Fin 1 → Nat :=
  let c3_i32_112 : BitVec 32 := 3#32
  let v226 : BitVec 32 := Scalar.muli arg26 c3_i32_112
  let v227 : BitVec 32 := v226
  ![v227.toNat]

def k1_chk90 (arg26 : BitVec 32) : Prop :=
  (8 ∣ (k1_mult65 arg26).toNat) ∧
  (∀ a, (k1_off81 arg26) a + S2048.size a ≤ S2097152.size a) ∧
  (8 ∣ (k1_mult66 arg26).toNat) ∧
  (∀ a, (k1_off82 arg26) a + S6144.size a ≤ S6291456.size a)
theorem k1_mult65_dvd : ∀ (arg26 : BitVec 32) (k1_hw90 : k1_chk90 arg26), 8 ∣ (k1_mult65 arg26).toNat := fun arg26 k1_hw90 => k1_hw90.1
theorem k1_off81_inb : ∀ (arg26 : BitVec 32) (k1_hw90 : k1_chk90 arg26), ∀ a, (k1_off81 arg26) a + S2048.size a ≤ S2097152.size a := fun arg26 k1_hw90 => k1_hw90.2.1
theorem k1_mult66_dvd : ∀ (arg26 : BitVec 32) (k1_hw90 : k1_chk90 arg26), 8 ∣ (k1_mult66 arg26).toNat := fun arg26 k1_hw90 => k1_hw90.2.2.1
theorem k1_off82_inb : ∀ (arg26 : BitVec 32) (k1_hw90 : k1_chk90 arg26), ∀ a, (k1_off82 arg26) a + S6144.size a ≤ S6291456.size a := fun arg26 k1_hw90 => k1_hw90.2.2.2

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S128x128x128 : Shape := ⟨3, ![128, 128, 128]⟩
abbrev S2097152x3 : Shape := ⟨2, ![2097152, 3]⟩
abbrev S6 : Shape := ⟨1, ![6]⟩
abbrev S2097152 : Shape := ⟨1, ![2097152]⟩
abbrev S_ : Shape := ⟨0, ![]⟩
abbrev S2097152x1 : Shape := ⟨2, ![2097152, 1]⟩
abbrev S1 : Shape := ⟨1, ![1]⟩
abbrev S128 : Shape := ⟨1, ![128]⟩
abbrev S128x128x128x1 : Shape := ⟨4, ![128, 128, 128, 1]⟩
abbrev S128x128x128x3 : Shape := ⟨4, ![128, 128, 128, 3]⟩
abbrev S1x1 : Shape := ⟨2, ![1, 1]⟩
abbrev S3 : Shape := ⟨1, ![3]⟩
abbrev S1x3 : Shape := ⟨2, ![1, 3]⟩

abbrev nBuf : Space → Nat
  | .hbm => 146
  | .vmem => 0
  | .smem => 0
  | _ => 0

abbrev hbmTy0_0 (i : Nat) : BufTy := match i % 128 with
  | 0 => ⟨S128x128x128, .i1⟩
  | 1 => ⟨S2097152x3, .f32⟩
  | 2 => ⟨S6, .f32⟩
  | 3 => ⟨S2097152, .i1⟩
  | 4 => ⟨S2097152, .i32⟩
  | 5 => ⟨S_, .i32⟩
  | 6 => ⟨S_, .i32⟩
  | 7 => ⟨S2097152, .i32⟩
  | 8 => ⟨S_, .i32⟩
  | 9 => ⟨S2097152, .i32⟩
  | 10 => ⟨S_, .i32⟩
  | 11 => ⟨S2097152, .i32⟩
  | 12 => ⟨S2097152, .i1⟩
  | 13 => ⟨S_, .i32⟩
  | 14 => ⟨S2097152, .i32⟩
  | 15 => ⟨S2097152, .i32⟩
  | 16 => ⟨S2097152, .i32⟩
  | 17 => ⟨S2097152x1, .i32⟩
  | 18 => ⟨S_, .i32⟩
  | 19 => ⟨S2097152, .i32⟩
  | 20 => ⟨S2097152, .i32⟩
  | 21 => ⟨S_, .i32⟩
  | 22 => ⟨S_, .i32⟩
  | 23 => ⟨S2097152, .i32⟩
  | 24 => ⟨S_, .i32⟩
  | 25 => ⟨S_, .i32⟩
  | 26 => ⟨S2097152, .i32⟩
  | 27 => ⟨S2097152, .i32⟩
  | 28 => ⟨S2097152, .i32⟩
  | 29 => ⟨S_, .i32⟩
  | 30 => ⟨S2097152, .i32⟩
  | 31 => ⟨S2097152, .i1⟩
  | 32 => ⟨S2097152, .i32⟩
  | 33 => ⟨S2097152, .i32⟩
  | 34 => ⟨S_, .i32⟩
  | 35 => ⟨S2097152, .i32⟩
  | 36 => ⟨S2097152, .i1⟩
  | 37 => ⟨S2097152, .i1⟩
  | 38 => ⟨S_, .i32⟩
  | 39 => ⟨S2097152, .i32⟩
  | 40 => ⟨S2097152, .i32⟩
  | 41 => ⟨S2097152, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S2097152, .i32⟩
  | 49 => ⟨S2097152, .i32⟩
  | 50 => ⟨S_, .i32⟩
  | 51 => ⟨S2097152, .i32⟩
  | 52 => ⟨S2097152, .i1⟩
  | 53 => ⟨S_, .i32⟩
  | 54 => ⟨S2097152, .i32⟩
  | 55 => ⟨S2097152, .i1⟩
  | 56 => ⟨S_, .i32⟩
  | 57 => ⟨S_, .i1⟩
  | 58 => ⟨S2097152, .i1⟩
  | 59 => ⟨S2097152, .i1⟩
  | 60 => ⟨S2097152, .i1⟩
  | 61 => ⟨S2097152, .i32⟩
  | 62 => ⟨S2097152, .i32⟩
  | 63 => ⟨S2097152, .i32⟩
  | 64 => ⟨S2097152, .i32⟩
  | 65 => ⟨S_, .i32⟩
  | 66 => ⟨S_, .i32⟩
  | 67 => ⟨S1, .i32⟩
  | 68 => ⟨S2097152, .i32⟩
  | 69 => ⟨S2097152, .i32⟩
  | 70 => ⟨S2097152, .i1⟩
  | 71 => ⟨S_, .i32⟩
  | 72 => ⟨S1, .i32⟩
  | 73 => ⟨S2097152, .i32⟩
  | 74 => ⟨S2097152, .i32⟩
  | 75 => ⟨S128, .i32⟩
  | 76 => ⟨S128, .i32⟩
  | 77 => ⟨S128, .i32⟩
  | 78 => ⟨S128x128x128, .i32⟩
  | 79 => ⟨S128x128x128, .i32⟩
  | 80 => ⟨S128x128x128, .i32⟩
  | 81 => ⟨S128x128x128x1, .i32⟩
  | 82 => ⟨S128x128x128x1, .i32⟩
  | 83 => ⟨S128x128x128x1, .i32⟩
  | 84 => ⟨S128x128x128x3, .i32⟩
  | 85 => ⟨S2097152x3, .i32⟩
  | 86 => ⟨S_, .i32⟩
  | 87 => ⟨S2097152, .i32⟩
  | 88 => ⟨S2097152, .i1⟩
  | 89 => ⟨S_, .i32⟩
  | 90 => ⟨S2097152, .i32⟩
  | 91 => ⟨S2097152, .i32⟩
  | 92 => ⟨S2097152, .i32⟩
  | 93 => ⟨S2097152x1, .i32⟩
  | 94 => ⟨S1, .i32⟩
  | 95 => ⟨S_, .i32⟩
  | 96 => ⟨S2097152x1, .i32⟩
  | 97 => ⟨S2097152x1, .i1⟩
  | 98 => ⟨S1x1, .i32⟩
  | 99 => ⟨S2097152x1, .i32⟩
  | 100 => ⟨S2097152x1, .i1⟩
  | 101 => ⟨S2097152x1, .i1⟩
  | 102 => ⟨S_, .i1⟩
  | 103 => ⟨S2097152, .i1⟩
  | 104 => ⟨S2097152x3, .i32⟩
  | 105 => ⟨S2097152x3, .i1⟩
  | 106 => ⟨S_, .i32⟩
  | 107 => ⟨S2097152x3, .i32⟩
  | 108 => ⟨S2097152x3, .i32⟩
  | 109 => ⟨S2097152x3, .f32⟩
  | 110 => ⟨S_, .i32⟩
  | 111 => ⟨S2097152, .i32⟩
  | 112 => ⟨S2097152, .i1⟩
  | 113 => ⟨S_, .i32⟩
  | 114 => ⟨S2097152, .i32⟩
  | 115 => ⟨S2097152, .i32⟩
  | 116 => ⟨S2097152, .i32⟩
  | 117 => ⟨S2097152x1, .i32⟩
  | 118 => ⟨S1, .i32⟩
  | 119 => ⟨S_, .i32⟩
  | 120 => ⟨S2097152x1, .i32⟩
  | 121 => ⟨S2097152x1, .i1⟩
  | 122 => ⟨S1x1, .i32⟩
  | 123 => ⟨S2097152x1, .i32⟩
  | 124 => ⟨S2097152x1, .i1⟩
  | 125 => ⟨S2097152x1, .i1⟩
  | 126 => ⟨S_, .i1⟩
  | 127 => ⟨S2097152, .i1⟩
  | _ => ⟨S128x128x128, .i1⟩

abbrev hbmTy0_1 (i : Nat) : BufTy := match i % 128 with
  | 0 => ⟨S2097152x3, .f32⟩
  | 1 => ⟨S2097152x3, .i1⟩
  | 2 => ⟨S_, .f32⟩
  | 3 => ⟨S2097152x3, .f32⟩
  | 4 => ⟨S2097152x3, .f32⟩
  | 5 => ⟨S2097152x3, .f32⟩
  | 6 => ⟨S_, .f32⟩
  | 7 => ⟨S2097152x3, .f32⟩
  | 8 => ⟨S2097152x3, .f32⟩
  | 9 => ⟨S3, .f32⟩
  | 10 => ⟨S3, .f32⟩
  | 11 => ⟨S3, .f32⟩
  | 12 => ⟨S1x3, .f32⟩
  | 13 => ⟨S2097152x3, .f32⟩
  | 14 => ⟨S2097152x3, .f32⟩
  | 15 => ⟨S1x3, .f32⟩
  | 16 => ⟨S2097152x3, .f32⟩
  | 17 => ⟨S2097152x3, .f32⟩
  | _ => ⟨S128x128x128, .i1⟩

abbrev hbmTy (i : Nat) : BufTy := match i / 128 with
  | 0 => hbmTy0_0 i
  | 1 => hbmTy0_1 i
  | _ => ⟨S128x128x128, .i1⟩

abbrev bufTy : (tb : Table) → Fin (tcTables nBuf tb) → BufTy
  | .hbm, ⟨i, _⟩ => hbmTy i
  | _, _ => ⟨S128x128x128, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_call0_c : Ref sig .tc := ⟨.hbm, 5, rfl⟩
abbrev main_call0_call0_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_call1_call0_c : Ref sig .tc := ⟨.hbm, 21, rfl⟩
abbrev main_call1_call0_v0 : Ref sig .tc := ⟨.hbm, 22, rfl⟩
abbrev main_v11 : Ref sig .tc := ⟨.hbm, 23, rfl⟩
abbrev main_c_3 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_v6 : Ref sig .tc := ⟨.hbm, 31, rfl⟩
abbrev main_call2_v7 : Ref sig .tc := ⟨.hbm, 32, rfl⟩
abbrev main_call2_v8 : Ref sig .tc := ⟨.hbm, 33, rfl⟩
abbrev main_call2_c : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_c_0 : Ref sig .tc := ⟨.hbm, 38, rfl⟩
abbrev main_call2_v12 : Ref sig .tc := ⟨.hbm, 39, rfl⟩
abbrev main_call2_v13 : Ref sig .tc := ⟨.hbm, 40, rfl⟩
abbrev main_v12 : Ref sig .tc := ⟨.hbm, 41, rfl⟩
abbrev main_c_4 : Ref sig .tc := ⟨.hbm, 42, rfl⟩
abbrev main_call3_v0 : Ref sig .tc := ⟨.hbm, 43, rfl⟩
abbrev main_call3_c : Ref sig .tc := ⟨.hbm, 44, rfl⟩
abbrev main_call3_v1 : Ref sig .tc := ⟨.hbm, 45, rfl⟩
abbrev main_call3_c_0 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_c_1 : Ref sig .tc := ⟨.hbm, 50, rfl⟩
abbrev main_call3_v5 : Ref sig .tc := ⟨.hbm, 51, rfl⟩
abbrev main_call3_v6 : Ref sig .tc := ⟨.hbm, 52, rfl⟩
abbrev main_call3_c_2 : Ref sig .tc := ⟨.hbm, 53, rfl⟩
abbrev main_call3_v7 : Ref sig .tc := ⟨.hbm, 54, rfl⟩
abbrev main_call3_v8 : Ref sig .tc := ⟨.hbm, 55, rfl⟩
abbrev main_call3_c_3 : Ref sig .tc := ⟨.hbm, 56, rfl⟩
abbrev main_call3_v9 : Ref sig .tc := ⟨.hbm, 57, rfl⟩
abbrev main_call3_v10 : Ref sig .tc := ⟨.hbm, 58, rfl⟩
abbrev main_call3_v11 : Ref sig .tc := ⟨.hbm, 59, rfl⟩
abbrev main_call3_v12 : Ref sig .tc := ⟨.hbm, 60, rfl⟩
abbrev main_call3_v13 : Ref sig .tc := ⟨.hbm, 61, rfl⟩
abbrev main_call3_v14 : Ref sig .tc := ⟨.hbm, 62, rfl⟩
abbrev main_v13 : Ref sig .tc := ⟨.hbm, 63, rfl⟩
abbrev main_v14 : Ref sig .tc := ⟨.hbm, 64, rfl⟩
abbrev main_c_5 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_c_6 : Ref sig .tc := ⟨.hbm, 71, rfl⟩
abbrev main_v20 : Ref sig .tc := ⟨.hbm, 72, rfl⟩
abbrev main_call4_v0 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_call5_c : Ref sig .tc := ⟨.hbm, 86, rfl⟩
abbrev main_call5_v0 : Ref sig .tc := ⟨.hbm, 87, rfl⟩
abbrev main_call5_v1 : Ref sig .tc := ⟨.hbm, 88, rfl⟩
abbrev main_call5_c_0 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_c_1 : Ref sig .tc := ⟨.hbm, 94, rfl⟩
abbrev main_call5_c_2 : Ref sig .tc := ⟨.hbm, 95, rfl⟩
abbrev main_call5_v6 : Ref sig .tc := ⟨.hbm, 96, rfl⟩
abbrev main_call5_v7 : Ref sig .tc := ⟨.hbm, 97, rfl⟩
abbrev main_call5_v8 : Ref sig .tc := ⟨.hbm, 98, rfl⟩
abbrev main_call5_v9 : Ref sig .tc := ⟨.hbm, 99, rfl⟩
abbrev main_call5_v10 : Ref sig .tc := ⟨.hbm, 100, rfl⟩
abbrev main_call5_v11 : Ref sig .tc := ⟨.hbm, 101, rfl⟩
abbrev main_call5_c_3 : Ref sig .tc := ⟨.hbm, 102, rfl⟩
abbrev main_call5_v12 : Ref sig .tc := ⟨.hbm, 103, rfl⟩
abbrev main_call5_v13 : Ref sig .tc := ⟨.hbm, 104, rfl⟩
abbrev main_call5_v14 : Ref sig .tc := ⟨.hbm, 105, rfl⟩
abbrev main_call5_c_4 : Ref sig .tc := ⟨.hbm, 106, rfl⟩
abbrev main_call5_v15 : Ref sig .tc := ⟨.hbm, 107, rfl⟩
abbrev main_v33 : Ref sig .tc := ⟨.hbm, 108, rfl⟩
abbrev main_v34 : Ref sig .tc := ⟨.hbm, 109, rfl⟩
abbrev main_call6_c : Ref sig .tc := ⟨.hbm, 110, rfl⟩
abbrev main_call6_v0 : Ref sig .tc := ⟨.hbm, 111, rfl⟩
abbrev main_call6_v1 : Ref sig .tc := ⟨.hbm, 112, rfl⟩
abbrev main_call6_c_0 : Ref sig .tc := ⟨.hbm, 113, rfl⟩
abbrev main_call6_v2 : Ref sig .tc := ⟨.hbm, 114, rfl⟩
abbrev main_call6_v3 : Ref sig .tc := ⟨.hbm, 115, rfl⟩
abbrev main_call6_v4 : Ref sig .tc := ⟨.hbm, 116, rfl⟩
abbrev main_call6_v5 : Ref sig .tc := ⟨.hbm, 117, rfl⟩
abbrev main_call6_c_1 : Ref sig .tc := ⟨.hbm, 118, rfl⟩
abbrev main_call6_c_2 : Ref sig .tc := ⟨.hbm, 119, rfl⟩
abbrev main_call6_v6 : Ref sig .tc := ⟨.hbm, 120, rfl⟩
abbrev main_call6_v7 : Ref sig .tc := ⟨.hbm, 121, rfl⟩
abbrev main_call6_v8 : Ref sig .tc := ⟨.hbm, 122, rfl⟩
abbrev main_call6_v9 : Ref sig .tc := ⟨.hbm, 123, rfl⟩
abbrev main_call6_v10 : Ref sig .tc := ⟨.hbm, 124, rfl⟩
abbrev main_call6_v11 : Ref sig .tc := ⟨.hbm, 125, rfl⟩
abbrev main_call6_c_3 : Ref sig .tc := ⟨.hbm, 126, rfl⟩
abbrev main_call6_v12 : Ref sig .tc := ⟨.hbm, 127, rfl⟩
abbrev main_call6_v13 : Ref sig .tc := ⟨.hbm, 128, rfl⟩
abbrev main_call6_v14 : Ref sig .tc := ⟨.hbm, 129, rfl⟩
abbrev main_call6_cst : Ref sig .tc := ⟨.hbm, 130, rfl⟩
abbrev main_call6_v15 : Ref sig .tc := ⟨.hbm, 131, rfl⟩
abbrev main_v35 : Ref sig .tc := ⟨.hbm, 132, rfl⟩
abbrev main_v36 : Ref sig .tc := ⟨.hbm, 133, rfl⟩
abbrev main_cst : Ref sig .tc := ⟨.hbm, 134, rfl⟩
abbrev main_v37 : Ref sig .tc := ⟨.hbm, 135, rfl⟩
abbrev main_v38 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_v42 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev main_v46 : Ref sig .tc := ⟨.hbm, 144, rfl⟩
abbrev main_v47 : Ref sig .tc := ⟨.hbm, 145, rfl⟩

abbrev nD : Nat := 1
abbrev τ : Topo := Topo.v7x

variable {F : FTy → Type} [FloatOps F]
-- ==== Proof.Ops.lean ====
/-
  One step of a tile's program over a buffer described by a function of the position: what a load reads, what a
  store, an indexed store and a copy leave, each said position by position.
-/
module

public import Idealize.ShloMosaic.Lib.Transfers
public import Idealize.ShloMosaic.Lib.SparseCore.Ops
public import Idealize.ShloMosaic.Lib.SparseCore.Stream
public import Idealize.ShloMosaic.Lib.SparseCore.Scatter
public import Idealize.ShloMosaic.Lib.Tactic

@[expose] public section

noncomputable section

namespace Cert.Proof.Vox

open Idealize.ShloMosaic
open Idealize.SL Idealize.SL.RA Idealize.SL.BI
open scoped Idealize.SL.BI
open Idealize.SL.BI.BIBase Idealize.SL.BI.Laws Idealize.SL.Sem Idealize.SL.ProofMode

section Gen

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-- The indices of a rank-one shape whose position lies in `I`. -/
def pos {d : Fin 1 → ℕ} (I : Set ℕ) : Finset (Shape.Idx ⟨1, d⟩) :=
  open scoped Classical in Finset.univ.filter fun i => (i 0).val ∈ I

theorem mem_pos {d : Fin 1 → ℕ} {I : Set ℕ} {i : Shape.Idx ⟨1, d⟩} : i ∈ pos I ↔ (i 0).val ∈ I := by
  classical
  unfold pos; simp

theorem pos_univ {d : Fin 1 → ℕ} : pos (d := d) Set.univ = Finset.univ := by
  ext i; simp [mem_pos]

/-- Thread `c` holds share `q` of the elements of `m` at the positions in `I`, and they are what `G` says. -/
def own (c : Thread nD τ) {sp : Space} {d : Fin 1 → ℕ} {e : EltTy} (m : Memref sig c.2.kind sp ⟨1, d⟩ e)
    (q : PosShare TreeShare) (I : Set ℕ) (G : ℕ → Elt F e) : sProp 𝕄 :=
  iprop(∃ f, (m.view.loc c ↦[m.view.setOn (pos I)]{q} f) ∗ ⌜∀ i, (i 0).val ∈ I → m.view.read (Elt F) f i = G (i 0).val⌝)

variable {defs : Defs nD τ sig (Elt F) Λ} (𝒱 : Variants) (c : Thread nD τ) (bd : Option 𝒱.V)
variable {sp sp' : Space} {d d' : Fin 1 → ℕ} {e : EltTy} {α : Type}

omit [Preorder Lvl] in
/-- Only the values at the positions held matter. -/
theorem own_congr {m : Memref sig c.2.kind sp ⟨1, d⟩ e} {q : PosShare TreeShare} {I : Set ℕ} {G G' : ℕ → Elt F e}
    (h : ∀ n ∈ I, n < d 0 → G n = G' n) : (own c m q I G : sProp 𝕄) ⊢ own c m q I G' := by
  unfold own
  iintro ⟨%f, Hf, %hf⟩
  iexists f
  isplitl [Hf]; · iexact Hf
  ipureintro
  intro i hi
  rw [hf i hi, h _ hi (i 0).isLt]

omit [Preorder Lvl] in
/-- The positions of a rectangle of the buffer. -/
theorem setOn_rect_subset {κ : Kind} {v : View sig κ sp ⟨1, d⟩ e} {off size : Fin 1 → ℕ} {inb} {I : Set ℕ}
    (hI : ∀ j < size 0, off 0 + j ∈ I) : (v.slice (Rect.unit (s := ⟨1, d⟩) off size inb)).set ⊆ v.setOn (pos I) := by
  rw [View.set_slice]
  unfold View.setOn
  apply Finset.map_subset_map.mpr
  intro i hi
  rw [Rect.mem_set_unit] at hi
  rw [mem_pos]
  have := hi 0
  have h2 := hI ((i 0).val - off 0) (by omega)
  rwa [show off 0 + ((i 0).val - off 0) = (i 0).val by omega] at h2

omit [Preorder Lvl] in
theorem emb_unit_val {off size : Fin 1 → ℕ} {inb} (x : (Rect.unit (s := ⟨1, d⟩) off size inb).shape.Idx) :
    ((Rect.unit (s := ⟨1, d⟩) off size inb).emb x 0).val = off 0 + (x 0).val := by
  simp [Rect.unit, Rect.emb]

/-- A load of `size` elements at `off`: what is read is `G` there. -/
theorem own_load {cs : CoreSpace} {m : Memref sig c.2.kind cs ⟨1, d⟩ e} {off size : Fin 1 → ℕ} {inb}
    {hl : m.view.LoadsAt (Rect.unit (s := ⟨1, d⟩) off size inb).toLoadRect}
    {k : ((Rect.unit (s := ⟨1, d⟩) off size inb).toLoadRect.shape.Idx → Elt F e) → Prog (TpuEff nD τ sig (Elt F) Λ c.2) α}
    {q : PosShare TreeShare} {I : Set ℕ} {G : ℕ → Elt F e} {Q : α → sProp 𝕄} (hI : ∀ j < size 0, off 0 + j ∈ I) :
    (own c m q I G : sProp 𝕄)
      ⊢ iprop((own c m q I G -∗ wp frame (wpE defs 𝒱 c bd) Set.univ (k fun x => G (off 0 + (x 0).val)) Q)
        -∗ wp frame (wpE defs 𝒱 c bd) Set.univ
            (Prog.lift (TpuEff.load m (Rect.unit (s := ⟨1, d⟩) off size inb).toLoadRect hl) >>= k) Q) := by
  unfold own
  iintro ⟨%f, Hf, %hf⟩ Hk
  iapply (wp_load_rect 𝒱 c bd Set.univ (m := m) (r := Rect.unit (s := ⟨1, d⟩) off size inb) (hl := hl) (k := k)
    (S := m.view.setOn (pos I)) (q := q) (f := f) (setOn_rect_subset hI)) $$ Hf
  iintro Hf
  have hv : (m.access (Rect.unit (s := ⟨1, d⟩) off size inb)).read (Elt F) f = fun x => G (off 0 + (x 0).val) := by
    funext x
    have h0 : (Rect.unit (s := ⟨1, d⟩) off size inb).emb x 0 = (off 0 + (x 0).val : ℕ) := emb_unit_val x
    have := hf ((Rect.unit (s := ⟨1, d⟩) off size inb).emb x) (by
      rw [emb_unit_val]; exact hI _ (x 0).isLt)
    rw [emb_unit_val] at this
    exact this
  rw [hv]
  iapply Hk
  iexists f
  isplitl [Hf]; · iexact Hf
  ipureintro; exact hf

/-- A store of `size` elements at `off`. -/
theorem own_store {cs : CoreSpace} {m : Memref sig c.2.kind cs ⟨1, d⟩ e} {off size : Fin 1 → ℕ} {inb}
    {w : (Rect.unit (s := ⟨1, d⟩) off size inb).shape.Idx → Elt F e}
    {hx : (m.access (Rect.unit (s := ⟨1, d⟩) off size inb)).Stores Finset.univ} {hm}
    {k : PUnit → Prog (TpuEff nD τ sig (Elt F) Λ c.2) α} {I : Set ℕ} {G : ℕ → Elt F e} {Q : α → sProp 𝕄} (G' : ℕ → Elt F e)
    (hI : ∀ j < size 0, off 0 + j ∈ I)
    (h1 : ∀ x : (Rect.unit (s := ⟨1, d⟩) off size inb).shape.Idx, G' (off 0 + (x 0).val) = w x)
    (h2 : ∀ n ∈ I, (n < off 0 ∨ off 0 + size 0 ≤ n) → G' n = G n) :
    (own c m fullShare I G : sProp 𝕄)
      ⊢ iprop((own c m fullShare I G' -∗ wp frame (wpE defs 𝒱 c bd) Set.univ (k ⟨⟩) Q)
        -∗ wp frame (wpE defs 𝒱 c bd) Set.univ
            (Prog.lift (TpuEff.store m (Rect.unit (s := ⟨1, d⟩) off size inb) w Finset.univ hx hm) >>= k) Q) := by
  unfold own
  iintro ⟨%f, Hf, %hf⟩ Hk
  iapply (wp_store 𝒱 c bd Set.univ (m := m) (r := Rect.unit (s := ⟨1, d⟩) off size inb) (w := w) (Mk := Finset.univ)
    (hx := hx) (hm := hm) (k := k) (S := m.view.setOn (pos I)) (f := f)
    ((View.setOn_subset_set _ _).trans (setOn_rect_subset hI))) $$ Hf
  iintro Hf
  iapply Hk
  iexists ((m.access (Rect.unit (s := ⟨1, d⟩) off size inb)).write (Elt F) f w Finset.univ)
  isplitl [Hf]; · iexact Hf
  ipureintro
  intro i hi
  by_cases hm : i ∈ (Rect.unit (s := ⟨1, d⟩) off size inb).set
  · obtain ⟨x, rfl⟩ : ∃ x, (Rect.unit (s := ⟨1, d⟩) off size inb).emb x = i := by
      rw [← Rect.map_emb_univ, Finset.mem_map] at hm
      obtain ⟨x, -, hx⟩ := hm
      exact ⟨x, hx⟩
    rw [emb_unit_val, h1 x]
    exact View.read_slice_write_emb (v := m.view) (Rect.unit (s := ⟨1, d⟩) off size inb) f w (Finset.mem_univ x)
  · rw [h2 _ hi]
    · refine (View.read_slice_write_of_not_mem (v := m.view) (Rect.unit (s := ⟨1, d⟩) off size inb) f w Finset.univ ?_).trans (hf i hi)
      rwa [Rect.map_emb_univ]
    · rw [Rect.mem_set_unit] at hm
      by_contra hc
      apply hm
      intro a
      obtain rfl : a = 0 := Fin.eq_zero a
      omega

end Gen

end Cert.Proof.Vox
-- ==== Proof.Copy.lean ====
/-
  Parts of a buffer described by a function of the position, shares of it, and the copies a tile makes and waits for.
-/
module

public import proofs.«01_k».proof.Proof.Ops
public import Idealize.ShloMosaic.Lib.Batch

@[expose] public section

noncomputable section

namespace Cert.Proof.Vox

open Idealize.ShloMosaic
open Idealize.SL Idealize.SL.RA Idealize.SL.BI
open scoped Idealize.SL.BI
open scoped Idealize.SL.RA.PCS
open Idealize.SL.BI.BIBase Idealize.SL.BI.Laws Idealize.SL.Sem Idealize.SL.ProofMode

section Gen

variable {nD : Nat} {τ : Topo} {sig : RefSig} {Ix : Type} [DecidableEq Ix]
variable {F : FTy → Type} [FloatOps F] {Name : Type} [DecidableEq Name]
variable {U : Type} [URA U] {Lvl : Type} {Λ : Labels}

local notation "𝕄" => MT nD τ sig Ix (Elt F) Name U Lvl

variable {c : Thread nD τ} {sp : Space} {d : Fin 1 → ℕ} {e : EltTy} {m : Memref sig c.2.kind sp ⟨1, d⟩ e}
  {q : PosShare TreeShare} {I J : Set ℕ} {G G₁ G₂ : ℕ → Elt F e}

theorem pos_union : (pos (d := d) (I ∪ J) : Finset _) = pos I ∪ pos J := by
  ext i; simp [mem_pos]

theorem pos_disjoint (h : Disjoint I J) : Disjoint (pos (d := d) I) (pos J) := by
  rw [Finset.disjoint_left]
  intro i hi hj
  rw [mem_pos] at hi hj
  exact Set.disjoint_left.mp h hi hj

/-- Holding two disjoint sets of positions is holding their union. -/
theorem own_join (h : Disjoint I J) (h₁ : ∀ n ∈ I, G n = G₁ n) (h₂ : ∀ n ∈ J, G n = G₂ n) :
    iprop(own c m q I G₁ ∗ own c m q J G₂) ⊢ (own c m q (I ∪ J) G : sProp 𝕄) := by
  classical
  unfold own
  iintro ⟨⟨%f, Hf, %hf⟩, ⟨%g, Hg, %hg⟩⟩
  have hd : Disjoint (m.view.setOn (pos I)) (m.view.setOn (pos J)) := by
    unfold View.setOn; rw [Finset.disjoint_map]; exact pos_disjoint h
  iexists ((m.view.setOn (pos J)).piecewise g f)
  isplitl [Hf Hg]
  · rw [pos_union, show m.view.setOn (pos I ∪ pos J) = m.view.setOn (pos I) ∪ m.view.setOn (pos J) by
      unfold View.setOn; exact Finset.map_union _ _]
    iapply (pointsTo_join hd)
    isplitl [Hf] <;> iassumption
  · ipureintro
    intro i hi
    by_cases hj : (i 0).val ∈ J
    · rw [h₂ _ hj, ← hg i hj]
      have : m.view.emb i ∈ m.view.setOn (pos J) := (View.mem_setOn _).mpr (mem_pos.mpr hj)
      simp only [View.read_apply, Finset.piecewise_eq_of_mem _ _ _ this]
    · have hI : (i 0).val ∈ I := hi.resolve_right hj
      rw [h₁ _ hI, ← hf i hI]
      have : m.view.emb i ∉ m.view.setOn (pos J) := fun hc => hj (mem_pos.mp ((View.mem_setOn _).mp hc))
      simp only [View.read_apply, Finset.piecewise_eq_of_notMem _ _ _ this]

/-- A set of positions splits into two disjoint ones. -/
theorem own_split (h : Disjoint I J) :
    (own c m q (I ∪ J) G : sProp 𝕄) ⊢ iprop(own c m q I G ∗ own c m q J G) := by
  unfold own
  iintro ⟨%f, Hf, %hf⟩
  have hd : Disjoint (m.view.setOn (pos I)) (m.view.setOn (pos J)) := by
    unfold View.setOn; rw [Finset.disjoint_map]; exact pos_disjoint h
  have hu : (m.view.loc c ↦[m.view.setOn (pos (I ∪ J))]{q} f : sProp 𝕄)
      ⊢ iprop((m.view.loc c ↦[m.view.setOn (pos I)]{q} f) ∗ (m.view.loc c ↦[m.view.setOn (pos J)]{q} f)) := by
    rw [pos_union, show m.view.setOn (pos I ∪ pos J) = m.view.setOn (pos I) ∪ m.view.setOn (pos J) by
      unfold View.setOn; exact Finset.map_union _ _]
    exact (pointsTo_union hd).1
  ihave H := hu $$ Hf
  icases H with ⟨H1, H2⟩
  isplitl [H1]
  · iexists f; isplitl [H1]; · iexact H1
    ipureintro; exact fun i hi => hf i (.inl hi)
  · iexists f; isplitl [H2]; · iexact H2
    ipureintro; exact fun i hi => hf i (.inr hi)

/-- Carving a subset of the positions out. -/
theorem own_carve (h : J ⊆ I) :
    (own c m q I G : sProp 𝕄) ⊢ iprop(own c m q J G ∗ own c m q (I \ J) G) := by
  have := own_split (c := c) (m := m) (q := q) (G := G) (Ix := Ix) (Name := Name) (U := U) (Lvl := Lvl)
    (I := J) (J := I \ J) Set.disjoint_sdiff_right
  rwa [Set.union_diff_cancel h] at this

/-- Putting a carved part back. -/
theorem own_uncarve (h : J ⊆ I) (h₁ : ∀ n ∈ J, G n = G₁ n) (h₂ : ∀ n ∈ I, n ∉ J → G n = G₂ n) :
    iprop(own c m q J G₁ ∗ own c m q (I \ J) G₂) ⊢ (own c m q I G : sProp 𝕄) := by
  have := own_join (c := c) (m := m) (q := q) (G := G) (G₁ := G₁) (G₂ := G₂) (Ix := Ix) (Name := Name) (U := U) (Lvl := Lvl)
    (I := J) (J := I \ J) Set.disjoint_sdiff_right h₁ (fun n hn => h₂ n hn.1 hn.2)
  rwa [Set.union_diff_cancel h] at this

/-- Holding no position is nothing, whatever the contents. -/
theorem own_empty [Nonempty (Elt F e)] (f₀ : Buf (Elt F) (m.view.loc c)) : (BI.emp : sProp 𝕄) ⊢ own c m q ∅ G := by
  unfold own
  iintro -
  iexists f₀
  isplitl
  · rw [show (pos (∅ : Set ℕ) : Finset (Shape.Idx ⟨1, d⟩)) = ∅ by ext i; simp [mem_pos]]
    rw [show m.view.setOn (∅ : Finset _) = ∅ by unfold View.setOn; exact Finset.map_empty _, pointsTo_empty]
    iempintro
  · ipureintro; intro i hi; exact hi.elim

theorem pos_Ico_rect {off size : Fin 1 → ℕ} {inb} :
    (pos (Set.Ico (off 0) (off 0 + size 0)) : Finset (Shape.Idx ⟨1, d⟩)) = (Rect.unit (s := ⟨1, d⟩) off size inb).set := by
  ext i
  rw [mem_pos, Rect.mem_set_unit]
  constructor
  · intro h a; obtain rfl : a = 0 := Fin.eq_zero a; exact h
  · intro h; exact h 0

theorem slice_set {off size : Fin 1 → ℕ} {inb} {hs} :
    (m.slice (Rect.unit (s := ⟨1, d⟩) off size inb) hs).view.setOn (pos (d := size) Set.univ)
      = m.view.setOn (pos (Set.Ico (off 0) (off 0 + size 0))) := by
  rw [pos_univ, View.setOn_univ, View.set_slice, pos_Ico_rect]; rfl

/-- A slice held whole is the positions from `off`, `size` of them, held of the whole. -/
theorem own_of_slice {off size : Fin 1 → ℕ} {inb} {hs} (hG : ∀ j < size 0, G₁ j = G (off 0 + j)) :
    (own c (m.slice (Rect.unit (s := ⟨1, d⟩) off size inb) hs) q Set.univ G₁ : sProp 𝕄)
      ⊢ own c m q (Set.Ico (off 0) (off 0 + size 0)) G := by
  unfold own
  iintro ⟨%f, Hf, %hf⟩
  iexists f
  isplitl [Hf]
  · rw [← slice_set (inb := inb) (hs := hs)]; iexact Hf
  ipureintro
  intro i hi
  have hi' : i ∈ (Rect.unit (s := ⟨1, d⟩) off size inb).set := by rw [← pos_Ico_rect, mem_pos]; exact hi
  rw [← Rect.map_emb_univ, Finset.mem_map] at hi'
  obtain ⟨x, -, rfl⟩ := hi'
  have := hf x trivial
  rw [emb_unit_val, ← hG _ (x 0).isLt]
  exact this

/-- The positions from `off`, `size` of them, held of the whole, are the slice held whole. -/
theorem own_slice {off size : Fin 1 → ℕ} {inb} {hs} :
    (own c m q (Set.Ico (off 0) (off 0 + size 0)) G : sProp 𝕄)
      ⊢ own c (m.slice (Rect.unit (s := ⟨1, d⟩) off size inb) hs) q Set.univ (fun n => G (off 0 + n)) := by
  unfold own
  iintro ⟨%f, Hf, %hf⟩
  iexists f
  isplitl [Hf]
  · rw [← slice_set (inb := inb) (hs := hs)]; iexact Hf
  ipureintro
  intro x _
  have h0 : ((Rect.unit (s := ⟨1, d⟩) off size inb).emb x 0).val = off 0 + (x 0).val := emb_unit_val x
  have := hf ((Rect.unit (s := ⟨1, d⟩) off size inb).emb x) (by
    rw [h0]; exact ⟨Nat.le_add_right _ _, Nat.add_lt_add_left (x 0).isLt _⟩)
  rw [h0] at this
  exact this

/-- A share splits into two. -/
theorem own_share {q₁ q₂ : PosShare TreeShare} (h : q ∈ q₁ ·? q₂) :
    (own c m q I G : sProp 𝕄) ⊢ iprop(own c m q₁ I G ∗ own c m q₂ I G) := by
  unfold own
  iintro ⟨%f, Hf, %hf⟩
  ihave H := (pointsTo_share h).1 $$ Hf
  icases H with ⟨H1, H2⟩
  isplitl [H1]
  · iexists f; isplitl [H1]; · iexact H1
    ipureintro; exact hf
  · iexists f; isplitl [H2]; · iexact H2
    ipureintro; exact hf

/-- Two shares of the same positions make one. -/
theorem own_unshare {q₁ q₂ : PosShare TreeShare} (h : q ∈ q₁ ·? q₂) :
    iprop(own c m q₁ I G₁ ∗ own c m q₂ I G) ⊢ (own c m q I G : sProp 𝕄) := by
  unfold own
  iintro ⟨⟨%f, Hf, %hf⟩, ⟨%g, Hg, %hg⟩⟩
  ihave H := (persistent_entails_right (pointsTo_agree (ℓ := m.view.loc c) (I := m.view.setOn (pos I)) (J := m.view.setOn (pos I))
    (q₁ := q₁) (q₂ := q₂) (f := f) (g := g))) $$ [Hf Hg]
  · isplitl [Hf] <;> iassumption
  icases H with ⟨%ha, Hf, Hg⟩
  iexists g
  isplitl [Hf Hg]
  · iapply (pointsTo_share h).2
    isplitl [Hf]
    · iapply (Entails.of_eq (pointsTo_congr (f := f) (g := g) fun i hi => (ha i (Finset.mem_inter.mpr ⟨hi, hi⟩)).1)) $$ Hf
    · iexact Hg
  ipureintro; exact hg

theorem slice_whole_set : (m.view.slice (Rect.whole ⟨1, d⟩)).set = m.view.setOn (pos Set.univ) := by
  rw [View.set_slice, Rect.set_whole, pos_univ]; rfl

/-- What an indexed store leaves at each position, for any contents agreeing with the lanes stored and, elsewhere, with
    the old contents. -/
theorem storeIdx_eq {d' : Fin 1 → ℕ} (f : Vec F ⟨1, d⟩ e) (idxs : Fin 1 → IVec ⟨1, d'⟩ 32) (v : Vec F ⟨1, d'⟩ e)
    (mask : IVec ⟨1, d'⟩ 1) (h : ∀ a x, (idxs a x).toNat < (⟨1, d⟩ : Shape).size a) (G' : ℕ → Elt F e)
    (h₁ : ∀ x, mask x = 1 → G' (idxs 0 x).toNat = v x)
    (h₂ : ∀ i : Shape.Idx ⟨1, d⟩, (∀ x, mask x = 1 → (idxs 0 x).toNat ≠ (i 0).val) → G' (i 0).val = f i) (i : Shape.Idx ⟨1, d⟩) :
    storeIdx (F := F) f idxs v mask false h i = G' (i 0).val := by
  unfold storeIdx
  have key : ∀ (l : List (Fin (d' 0))) (g : Vec F ⟨1, d⟩ e),
      (l.foldl (fun g k =>
        if mask (Shape.ofLane k) = 1 then
          fun j => if (∀ a, (j a).val = (idxAt idxs h (Shape.ofLane k) a).val)
            then (if false = true then Elt.idxAdd e (g (idxAt idxs h (Shape.ofLane k))) (v (Shape.ofLane k)) else v (Shape.ofLane k)) else g j
        else g) g) i
      = if ∃ k ∈ l, mask (Shape.ofLane k) = 1 ∧ (idxs 0 (Shape.ofLane k)).toNat = (i 0).val then G' (i 0).val else g i := by
    intro l
    induction l with
    | nil => intro g; simp
    | cons k l ih =>
      intro g
      rw [List.foldl_cons, ih]
      by_cases hl : ∃ k ∈ l, mask (Shape.ofLane k) = 1 ∧ (idxs 0 (Shape.ofLane k)).toNat = (i 0).val
      · rw [if_pos hl, if_pos]
        obtain ⟨k', hk', h'⟩ := hl
        exact ⟨k', List.mem_cons_of_mem _ hk', h'⟩
      · rw [if_neg hl]
        by_cases hm : mask (Shape.ofLane k) = 1
        · simp only [hm, if_true, Bool.false_eq_true, if_false]
          by_cases he : (idxs 0 (Shape.ofLane k)).toNat = (i 0).val
          · rw [if_pos (by intro a; obtain rfl : a = 0 := Fin.eq_zero a; exact he.symm), if_pos ⟨k, List.mem_cons_self, hm, he⟩,
              ← he, h₁ _ hm]
          · rw [if_neg (fun hc => he (hc 0).symm), if_neg]
            rintro ⟨k', hk', hm', he'⟩
            rcases List.mem_cons.mp hk' with rfl | hk'
            · exact he he'
            · exact hl ⟨k', hk', hm', he'⟩
        · simp only [hm, if_false]
          rw [if_neg]
          rintro ⟨k', hk', hm', he'⟩
          rcases List.mem_cons.mp hk' with rfl | hk'
          · exact hm hm'
          · exact hl ⟨k', hk', hm', he'⟩
  refine Eq.trans ?_ ((key (List.finRange (d' 0)) f).trans ?_)
  · refine congrFun (congrArg (fun z => List.foldl z f (List.finRange (d' 0))) ?_) i
    funext g k j
    by_cases hm : mask (Shape.ofLane k) = 1
    · simp only [hm, if_true]
      split_ifs <;> rfl
    · simp only [hm, if_false]
  by_cases hex : ∃ k ∈ List.finRange (d' 0), mask (Shape.ofLane k) = 1 ∧ (idxs 0 (Shape.ofLane k)).toNat = (i 0).val
  · rw [if_pos hex]
  · rw [if_neg hex, h₂ i]
    intro x hx he
    refine hex ⟨(x 0), List.mem_finRange _, ?_⟩
    have : (Shape.ofLane (d := d') (x 0)) = x := by
      funext a; obtain rfl : a = 0 := Fin.eq_zero a; rfl
    rw [this]; exact ⟨hx, he⟩

variable [Preorder Lvl] {defs : Defs nD τ sig (Elt F) Λ} (𝒱 : Variants) (bd : Option 𝒱.V) {α : Type}

variable (c) in
/-- A gather out of a buffer held whole. -/
theorem own_loadIdx {m : Memref sig c.2.kind .vmem ⟨1, d⟩ e} {t : Shape} {idxs : Fin 1 → IVec t 32}
    {h : ∀ a x, (idxs a x).toNat < (⟨1, d⟩ : Shape).size a} {hl : m.view.Loads}
    {k : Vec F t e → Prog (TpuEff nD τ sig (Elt F) Λ c.2) α} {Q : α → sProp 𝕄} :
    (own c m q Set.univ G : sProp 𝕄)
      ⊢ iprop((own c m q Set.univ G -∗ wp frame (wpE defs 𝒱 c bd) Set.univ (k fun x => G (idxs 0 x).toNat) Q)
        -∗ wp frame (wpE defs 𝒱 c bd) Set.univ (SparseCore.vectorLoadIdx (F := F) m idxs h hl >>= k) Q) := by
  unfold own
  iintro ⟨%f, Hf, %hf⟩ Hk
  iapply (SparseCore.wp_vectorLoadIdx 𝒱 c bd Set.univ (base := m) (idxs := idxs) (h := h) (hl := hl) (k := k)
    (S := m.view.setOn (pos Set.univ)) (q := q) (f := f) (slice_whole_set.subset)) $$ Hf
  iintro Hf
  have hv : loadIdx ((m.access (.whole ⟨1, d⟩)).read (Elt F) f) idxs h = fun x => G (idxs 0 x).toNat := by
    funext x
    exact (congrArg (m.view.read (Elt F) f) (Rect.emb_whole_apply _ (idxAt idxs h x))).trans (hf (idxAt idxs h x) trivial)
  rw [hv]
  iapply Hk
  iexists f
  isplitl [Hf]; · iexact Hf
  ipureintro; exact hf

variable (c) in
/-- An indexed store into a buffer held whole, leaving any contents that agree with the lanes stored and, elsewhere, with
    the old contents. -/
theorem own_storeIdx {m : Memref sig c.2.kind .vmem ⟨1, d⟩ e} {d' : Fin 1 → ℕ} {idxs : Fin 1 → IVec ⟨1, d'⟩ 32} {v : Vec F ⟨1, d'⟩ e}
    {mask : IVec ⟨1, d'⟩ 1} {h : ∀ a x, (idxs a x).toNat < (⟨1, d⟩ : Shape).size a}
    {hs : (m.access (.whole ⟨1, d⟩)).Stores Finset.univ} {k : PUnit → Prog (TpuEff nD τ sig (Elt F) Λ c.2) α} {Q : α → sProp 𝕄}
    (G' : ℕ → Elt F e) (h₁ : ∀ x, mask x = 1 → G' (idxs 0 x).toNat = v x)
    (h₂ : ∀ n < d 0, (∀ x, mask x = 1 → (idxs 0 x).toNat ≠ n) → G' n = G n) :
    (own c m fullShare Set.univ G : sProp 𝕄)
      ⊢ iprop((own c m fullShare Set.univ G' -∗ wp frame (wpE defs 𝒱 c bd) Set.univ (k ⟨⟩) Q)
        -∗ wp frame (wpE defs 𝒱 c bd) Set.univ (SparseCore.vectorStoreIdx (F := F) m idxs v mask false h hs >>= k) Q) := by
  unfold own
  iintro ⟨%f, Hf, %hf⟩ Hk
  iapply (SparseCore.wp_vectorStoreIdx 𝒱 c bd Set.univ (base := m) (idxs := idxs) (h := h) (hs := hs) (k := k) (v := v) (mask := mask)
    (add := false) (f := f)) $$ [Hf]
  · rw [show (m.access (.whole ⟨1, d⟩)).set = m.view.setOn (pos Set.univ) from slice_whole_set]; iexact Hf
  iintro Hf
  iapply Hk
  iexists ((m.access (.whole ⟨1, d⟩)).write (Elt F) f
    (storeIdx (F := F) ((m.access (.whole ⟨1, d⟩)).read (Elt F) f) idxs v mask false h) Finset.univ)
  isplitl [Hf]
  · rw [show m.view.setOn (pos Set.univ) = (m.access (.whole ⟨1, d⟩)).set from slice_whole_set.symm]; iexact Hf
  ipureintro
  intro i _
  have h1 := View.read_slice_write_emb (v := m.view) (Rect.whole ⟨1, d⟩) f
    (storeIdx (F := F) ((m.access (.whole ⟨1, d⟩)).read (Elt F) f) idxs v mask false h) (Finset.mem_univ i)
  rw [Rect.emb_whole_apply] at h1
  refine h1.trans (storeIdx_eq _ idxs v mask h G' h₁ (fun j hj => ?_) i)
  rw [h₂ _ (j 0).isLt hj, ← hf j trivial]
  exact (congrArg (m.view.read (Elt F) f) (Rect.emb_whole_apply _ j)).symm

/-! ## Copies issued and waited for in place -/

/-- What a tile waiting under `O` holds between steps: the evidence that each of its waits may happen, and what it owes, the
    waits since `W₀` all at index `ι`. -/
def tick (c : Thread nD τ) (ι : Ix) (O : CellTallies nD τ sig Ix) (W₀ : Waits sig Ix) : sProp 𝕄 :=
  iprop(Transfers.MayWaits c ι O ∗ ∃ W', ⌜∀ p ∈ W', p ∈ W₀ ∨ p.2 = ι⌝ ∗ owes c O W')

variable (EC : UEmb Counters (MT nD τ sig Ix (Elt F) Name U Lvl)) [Infinite Name]
  [EC.LandsIn (upEmb : UEmb _ (MT nD τ sig Ix (Elt F) Name U Lvl))]

/-- A wait for a transfer in flight. -/
theorem tick_wait {sm : DmaSem sig} {sp₁ sp₂ : Space} {s' : Shape} {e' : EltTy} {s'' : Shape} {e'' : EltTy} {κ' : Kind}
    {srcw : Memref sig c.2.kind sp₁ s' e'} {dstw : Memref sig κ' sp₂ s'' e''} {hsrc : srcw.view.WordExact} {hdst : dstw.view.WordExact}
    {k : PUnit → Prog (TpuEff nD τ sig (Elt F) Λ c.2) α} {Q : α → sProp 𝕄} {ι : Ix} {N : ℕ} (hN : dstw.view.dmaCredit = N) {D : sProp 𝕄}
    {O : CellTallies nD τ sig Ix} {W₀ : Waits sig Ix} :
    iprop(Transfers.Flight EC c (.dma sm) ι N D ∗ tick c ι O W₀)
      ⊢ iprop((iprop(D ∗ semVal (c, .dma sm) 0 ∗ tick c ι O W₀) -∗ wp frame (wpE defs 𝒱 c bd) Set.univ (k ⟨⟩) Q)
          -∗ wp frame (wpE defs 𝒱 c bd) Set.univ (Prog.lift (TpuEff.waitDma2 sm srcw dstw hsrc hdst) >>= k) Q) := by
  unfold tick
  iintro ⟨HF, #Hmw, %W', %hW, HO⟩ Hk
  iapply (Transfers.wp_waitLocalO EC 𝒱 c bd ι hN (sem := sm) (srcw := srcw) (dstw := dstw) (hsrc := hsrc) (hdst := hdst)
    (k := k) (D := D) (O := O) (W := W')) $$ [HF HO]
  · isplitl [HF]; · iexact HF
    isplitl [HO]; · iexact HO
    iapply (Transfers.MayWaits.elim (c := c) (ι := ι) (O := O) (SemLoc.dma sm)) $$ Hmw
  iintro ⟨HD, Hv, HO⟩
  iapply Hk
  isplitl [HD]; · iexact HD
  isplitl [Hv]; · iexact Hv
  isplitr; · iexact Hmw
  iexists (insert (SemLoc.dma sm, ι) W')
  isplitr
  · ipureintro
    intro p hp
    rcases Finset.mem_insert.mp hp with rfl | hp
    · exact .inr rfl
    · exact hW p hp
  · iexact HO

include EC in
/-- A copy of one whole buffer part onto another, issued and waited for at once. -/
theorem own_copy {sp₁ sp₂ sp₃ : Space} {s' : Shape} {e' : EltTy} {src : Memref sig c.2.kind sp₁ ⟨1, d⟩ e} {dst : Memref sig c.2.kind sp₂ ⟨1, d⟩ e}
    {sm : DmaSem sig} {hsrc : src.view.WordExact} {hdst : dst.view.WordExact}
    {hsem : DmaTarget.Typed (nD := nD) sp₁ (SemLoc.dma sm) (.here dst)}
    {srcw : Memref sig c.2.kind sp₃ s' e'} {dstw : Memref sig c.2.kind sp₂ ⟨1, d⟩ e} {h₄ : srcw.view.WordExact} {h₅ : dstw.view.WordExact}
    {k : PUnit → Prog (TpuEff nD τ sig (Elt F) Λ c.2) α} {Q : α → sProp 𝕄} {ι : Ix} {O : CellTallies nD τ sig Ix} {W₀ : Waits sig Ix}
    (hd : 0 < (⟨1, d⟩ : Shape).numel) (hw : dstw.view.dmaCredit = dst.view.dmaCredit) :
    iprop(own c src q Set.univ G ∗ own c dst fullShare Set.univ G₁ ∗ semVal (c, .dma sm) 0 ∗ tick c ι O W₀)
      ⊢ iprop((iprop(own c src q Set.univ G ∗ own c dst fullShare Set.univ G ∗ semVal (c, .dma sm) 0 ∗ tick c ι O W₀)
            -∗ wp frame (wpE defs 𝒱 c bd) Set.univ (k ⟨⟩) Q)
        -∗ wp frame (wpE defs 𝒱 c bd) Set.univ (Prog.lift (TpuEff.enqueueDma src (.here dst) (.dma sm) hsrc hdst hsem)
            >>= fun _ => Prog.lift (TpuEff.waitDma2 sm srcw dstw h₄ h₅) >>= k) Q) := by
  unfold own
  iintro ⟨⟨%f, Hf, %hf⟩, ⟨%g, Hg, %hg⟩, Hv, HT⟩ Hk
  iapply (Transfers.wp_dmaLocal EC 𝒱 c bd ι (dst.view.amount (.dma sm)) rfl (dst.view.amount_pos _ hd)
    (src := src) (dst := dst) (via := .same) (hsrc := hsrc) (hdst := hdst) (hsem := hsem)
    (Sd := dst.view.setOn (pos Set.univ)) (fd := g) (fs := f) (q := q) (by rw [pos_univ]; exact subset_rfl)) $$ [Hf Hg Hv]
  · isplitl [Hf]; · rw [pos_univ]; iexact Hf
    isplitl [Hg]; · iexact Hg
    iexact Hv
  iintro HF
  iapply (tick_wait 𝒱 bd EC (ι := ι) (sm := sm) (N := dst.view.amount (.dma sm)) hw) $$ [HF HT]
  · isplitl [HF]; · iexact HF
    iexact HT
  iintro ⟨⟨Hg, Hf⟩, Hv, HT⟩
  iapply Hk
  isplitl [Hf]
  · iexists f
    isplitl [Hf]; · rw [pos_univ]; iexact Hf
    ipureintro; exact hf
  isplitl [Hg]
  · iexists (dst.view.write (Elt F) g (ReadAs.same.apply (src.view.read (Elt F) f)) Finset.univ)
    isplitl [Hg]; · iexact Hg
    ipureintro
    intro i _
    rw [View.read_write_univ]
    exact hf i trivial
  isplitl [Hv] <;> iassumption

end Gen

end Cert.Proof.Vox
-- ==== Proof.Dup.lean ====
/-
  An indexed copy of single elements into HBM whose list may name one element several times: the copies that land on one
  element all carry the same value, so the order in which they land does not matter.
-/
module

public import proofs.«01_k».proof.Proof.Copy

@[expose] public section

noncomputable section

namespace Cert.Proof.Vox

open Idealize.ShloMosaic
open Idealize.SL Idealize.SL.RA Idealize.SL.BI
open scoped Idealize.SL.BI
open scoped Idealize.SL.RA.PCS
open Idealize.SL.BI.BIBase Idealize.SL.BI.Laws Idealize.SL.Sem Idealize.SL.ProofMode

section Gen

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}

local notation "𝕄" => MT nD τ sig Ix (Elt F) Name U Lvl

variable {defs : Defs nD τ sig (Elt F) Λ} (𝒱 : Variants) {c : Thread nD τ} (bd : Option 𝒱.V)
variable {d d₀ : Fin 1 → ℕ} {e : EltTy} {α : Type}

theorem cast_read {κ : Kind} {sp : Space} {s s' : Shape} (m : Memref sig κ sp s e) (hs : s = s') (f : m.view.ty.Contents (Elt F)) (x : s'.Idx) :
    ∃ y, (m.cast hs rfl).view.read (Elt F) f x = m.view.read (Elt F) f y := by
  subst hs; exact ⟨x, rfl⟩

/-- A full slice of a buffer is the buffer. -/
theorem slice_full_set {κ : Kind} {sp : Space} {m : Memref sig κ sp ⟨1, d⟩ e} {off : Fin 1 → ℕ} {size : Fin 1 → ℕ}
    {inb : ∀ a, off a + size a ≤ d a} {hs} {I : Set ℕ} (h0 : off 0 = 0) (hsz : size 0 = d 0) :
    (m.slice (Rect.unit (s := ⟨1, d⟩) off size inb) hs).view.setOn (pos (d := size) I) = m.view.setOn (pos I) := by
  ext b
  unfold View.setOn
  rw [Finset.mem_map, Finset.mem_map]
  constructor
  · rintro ⟨i, hi, rfl⟩
    refine ⟨(Rect.unit (s := ⟨1, d⟩) off size inb).emb i, ?_, rfl⟩
    rw [mem_pos] at hi ⊢
    rw [emb_unit_val, h0, Nat.zero_add]; exact hi
  · rintro ⟨i, hi, rfl⟩
    have hlt : (i 0).val < size 0 := by rw [hsz]; exact (i 0).isLt
    have hv : (Rect.unit (s := ⟨1, d⟩) off size inb).emb (fun a => ⟨(i 0).val, by rw [Subsingleton.elim a 0]; exact hlt⟩) = i := by
      funext a
      rw [Subsingleton.elim a 0]
      apply Fin.ext
      rw [emb_unit_val, h0, Nat.zero_add]
    refine ⟨(fun a => ⟨(i 0).val, by rw [Subsingleton.elim a 0]; exact hlt⟩), ?_, ?_⟩
    · rw [mem_pos] at hi ⊢; exact hi
    · exact congrArg m.view.emb hv

theorem own_full_in {sp : Space} {m : Memref sig c.2.kind sp ⟨1, d⟩ e} {off : Fin 1 → ℕ} {size : Fin 1 → ℕ}
    {inb : ∀ a, off a + size a ≤ d a} {hs} {I : Set ℕ} {q : PosShare TreeShare} {G : ℕ → Elt F e} (h0 : off 0 = 0) (hsz : size 0 = d 0) :
    (own c m q I G : sProp 𝕄) ⊢ own c (m.slice (Rect.unit (s := ⟨1, d⟩) off size inb) hs) q I G := by
  unfold own
  iintro ⟨%f, Hf, %hf⟩
  iexists f
  isplitl [Hf]
  · rw [show ((m.slice (Rect.unit (s := ⟨1, d⟩) off size inb) hs).view.setOn (pos I)) = m.view.setOn (pos I) from slice_full_set h0 hsz]
    iexact Hf
  · ipureintro
    intro i hi
    have hv := hf ((Rect.unit (s := ⟨1, d⟩) off size inb).emb i) (by rw [emb_unit_val, h0, Nat.zero_add]; exact hi)
    rw [emb_unit_val, h0, Nat.zero_add] at hv
    exact hv

theorem own_full_out {sp : Space} {m : Memref sig c.2.kind sp ⟨1, d⟩ e} {off : Fin 1 → ℕ} {size : Fin 1 → ℕ}
    {inb : ∀ a, off a + size a ≤ d a} {hs} {I : Set ℕ} {q : PosShare TreeShare} {G : ℕ → Elt F e} (h0 : off 0 = 0) (hsz : size 0 = d 0) :
    (own c (m.slice (Rect.unit (s := ⟨1, d⟩) off size inb) hs) q I G : sProp 𝕄) ⊢ own c m q I G := by
  unfold own
  iintro ⟨%f, Hf, %hf⟩
  iexists f
  isplitl [Hf]
  · rw [← show ((m.slice (Rect.unit (s := ⟨1, d⟩) off size inb) hs).view.setOn (pos I)) = m.view.setOn (pos I) from slice_full_set h0 hsz]
    iexact Hf
  · ipureintro
    intro i hi
    have hlt : (i 0).val < size 0 := by rw [hsz]; exact (i 0).isLt
    have hv : (Rect.unit (s := ⟨1, d⟩) off size inb).emb (fun a => ⟨(i 0).val, by rw [Subsingleton.elim a 0]; exact hlt⟩) = i := by
      funext a
      rw [Subsingleton.elim a 0]
      apply Fin.ext
      rw [emb_unit_val, h0, Nat.zero_add]
    have h2 := hf (fun a => ⟨(i 0).val, by rw [Subsingleton.elim a 0]; exact hlt⟩) hi
    rw [← hv]
    refine Eq.trans h2 ?_
    rw [hv]

variable (EC : UEmb Counters (MT nD τ sig Ix (Elt F) Name U Lvl)) [Infinite Name]
  [EC.LandsIn (upEmb : UEmb _ (MT nD τ sig Ix (Elt F) Name U Lvl))]

section Body

variable {sp : Space} (dst : Memref sig c.2.kind sp ⟨1, d₀⟩ e) (I : Set ℕ) (G G' : ℕ → Elt F e) {o : ℕ} (pt : Fin o → ℕ) (γ : Fin o → ℕ)

/-- What the copies in flight share: the target, each element of it old or new, and new at every place a landed copy names;
    or, once all have landed and the target has been taken back, their tokens. -/
def dupBody : sProp 𝕄 :=
  iprop((∃ (f : Buf (Elt F) (dst.view.loc c)) (n : Fin o → ℕ), (dst.view.loc c ↦[dst.view.setOn (pos I)]{fullShare} f)
      ∗ bigSep Finset.univ (fun j => countAuth EC (γ j) (n j))
      ∗ ⌜(∀ i, (i 0).val ∈ I → dst.view.read (Elt F) f i = G (i 0).val ∨ dst.view.read (Elt F) f i = G' (i 0).val)
          ∧ ∀ j, n j ≠ 0 → ∀ i, (i 0).val = pt j → dst.view.read (Elt F) f i = G' (i 0).val⌝)
    ∨ bigSep Finset.univ (fun j => count EC (γ j) 1))

instance dupBody_storable : Storable (upEmb : UEmb _ 𝕄) (dupBody (c := c) EC dst I G G' pt γ) := by
  unfold dupBody countAuth count; infer_instance

variable {EC dst I G G' pt γ}

/-- The write of one row lands in the shared target. -/
theorem dup_update {κ : Name} (j : Fin o) (r : Fin (d₀ 0)) (hr : r.val = pt j) (hI : pt j ∈ I)
    (w : ((⟨1, d₀⟩ : Shape).rowRect 0 r).shape.Idx → Elt F e) (hw : ∀ x, w x = G' (pt j)) :
    iprop(inv κ (dupBody (c := c) EC dst I G G' pt γ) ∗ count EC (γ j) 0)
      ⊢ writeUpdate c (dst.view.slice ((⟨1, d₀⟩ : Shape).rowRect 0 r)) w (count EC (γ j) 1 : sProp 𝕄) := by
  classical
  have hemb : ∀ x, (((⟨1, d₀⟩ : Shape).rowRect 0 r).emb x 0).val = pt j := fun x => by
    exact (congrArg Fin.val (Shape.rowRect_emb_axis (s := ⟨1, d₀⟩) 0 r x)).trans hr
  have hall : ∀ i : Shape.Idx ⟨1, d₀⟩, (i 0).val = pt j → ∃ x, ((⟨1, d₀⟩ : Shape).rowRect 0 r).emb x = i := fun i hi => by
    refine ⟨(⟨1, d₀⟩ : Shape).rowProj 0 i, ?_⟩
    have := Shape.rowRect_emb_rowProj (s := ⟨1, d₀⟩) 0 i
    rwa [show i 0 = r from Fin.ext (hi.trans hr.symm)] at this
  rw [writeUpdate, writeUpdateFrom_def]
  iintro ⟨#Hinv, Hc⟩
  iexists (fun M => iprop(∃ n, count EC (γ j) n ∗ ⌜M ≠ ∅ → n = 1⌝))
  isplitl [Hc]
  · iexists 0
    isplitl [Hc]; · iexact Hc
    ipureintro; intro h; exact absurd rfl h
  isplitr
  · rw [writeSteps_def]
    imodintro
    iintro %M %M' ⟨%n, Hc, %hn⟩
    imod (inv_acc (Set.mem_univ κ)) $$ Hinv with ⟨Hb, Hclose⟩
    unfold dupBody
    icases Hb with (⟨%f, %nn, Hf, Ha, %hfn⟩ | Hcl)
    · imodintro
      rw [storeSpec_apply]
      iexists (dst.view.setOn (pos I)), f
      isplitl [Hf]; · iexact Hf
      isplitr
      · ipureintro
        intro b hb
        unfold View.setOn at hb ⊢
        rw [Finset.mem_map] at hb ⊢
        obtain ⟨x, -, rfl⟩ := hb
        exact ⟨((⟨1, d₀⟩ : Shape).rowRect 0 r).emb x, by rw [mem_pos, hemb]; exact hI, rfl⟩
      iintro Hf
      by_cases hM : M' = ∅
      · subst hM
        ihave Hcl := Hclose $$ [Hf Ha]
        · ileft
          iexists f, nn
          isplitl [Hf]
          · rw [show (dst.view.slice ((⟨1, d₀⟩ : Shape).rowRect 0 r)).write (Elt F) f w ∅ = f from View.write_empty ..]; iexact Hf
          isplitl [Ha]; · iexact Ha
          ipureintro; exact hfn
        imod Hcl
        imodintro
        iexists n
        isplitl [Hc]; · iexact Hc
        ipureintro; rw [Finset.union_empty]; exact hn
      · ihave Ha := (ExclCount.auths_pick EC nn j) $$ Ha
        icases Ha with ⟨Hj, Hrest⟩
        ihave %hag := (countAuth_count_agree EC (γ := γ j) (m := nn j) (n := n)) $$ [Hj Hc]
        · isplitl [Hj] <;> iassumption
        subst hag
        imod (countAuth_count_update EC (γ := γ j) (n := nn j) 1) $$ [Hj Hc] with ⟨Hj, Hc⟩
        · isplitl [Hj] <;> iassumption
        ihave Ha := Hrest $$ Hj
        have hread : ∀ i, dst.view.read (Elt F) ((dst.view.slice ((⟨1, d₀⟩ : Shape).rowRect 0 r)).write (Elt F) f w M') i
            = if (i 0).val = pt j then G' (i 0).val else dst.view.read (Elt F) f i := fun i => by
          split
          · next hi =>
            obtain ⟨x, rfl⟩ := hall i hi
            obtain ⟨y, hy⟩ := Finset.nonempty_iff_ne_empty.mpr hM
            have hxy : x = y := by
              apply ((⟨1, d₀⟩ : Shape).rowRect 0 r).emb.injective
              funext a
              rw [Subsingleton.elim a 0]
              exact Fin.ext ((hemb x).trans (hemb y).symm)
            subst hxy
            rw [View.read_slice_write_emb _ _ _ hy, hw, hemb]
          · next hi =>
            refine View.read_slice_write_of_not_mem _ _ _ _ fun hm => ?_
            obtain ⟨x, -, rfl⟩ := Finset.mem_map.mp hm
            exact hi (hemb x)
        ihave Hcl := Hclose $$ [Hf Ha]
        · ileft
          iexists _, (Function.update nn j 1)
          isplitl [Hf]; · iexact Hf
          isplitl [Ha]; · iexact Ha
          ipureintro
          refine ⟨fun i hi => ?_, fun j' hj' i hi => ?_⟩
          · rw [hread]
            split
            · exact .inr rfl
            · exact hfn.1 i hi
          · rw [hread]
            split
            · rfl
            · next hne =>
              have hjj : j' ≠ j := fun h => hne (h ▸ hi)
              rw [Function.update_of_ne hjj] at hj'
              exact hfn.2 j' hj' i hi
        imod Hcl
        imodintro
        iexists 1
        isplitl [Hc]; · iexact Hc
        ipureintro; intro _; rfl
    · iexfalso
      ihave Hj := (show bigSep Finset.univ (fun j => count EC (γ j) 1) ⊢ (count EC (γ j) 1 : sProp 𝕄) from
        bigSep_elim (Finset.mem_univ j)) $$ Hcl
      iapply (count_count_false EC)
      isplitl [Hj] <;> iassumption
  · iintro ⟨%n, Hc, %hn⟩
    have h1 : n = 1 := hn (by
      obtain ⟨x, -⟩ := hall (fun a => ⟨pt j, by rw [Subsingleton.elim a 0, ← hr]; exact r.isLt⟩) rfl
      exact Finset.nonempty_iff_ne_empty.mp ⟨x, Finset.mem_univ x⟩)
    subst h1
    iexact Hc

/-- Every copy landed: the shared target is taken back, new wherever it is named. -/
theorem dup_collect {κ : Name} (ho : 0 < o) :
    iprop(inv κ (dupBody (c := c) EC dst I G G' pt γ) ∗ bigSep Finset.univ (fun j => count EC (γ j) 1))
      ⊢ iprop(|={Set.univ}=> ∃ f : Buf (Elt F) (dst.view.loc c), (dst.view.loc c ↦[dst.view.setOn (pos I)]{fullShare} f)
          ∗ ⌜(∀ i, (i 0).val ∈ I → dst.view.read (Elt F) f i = G (i 0).val ∨ dst.view.read (Elt F) f i = G' (i 0).val)
          ∧ (∀ j i, (i 0).val = pt j → dst.view.read (Elt F) f i = G' (i 0).val)⌝ : sProp 𝕄) := by
  classical
  iintro ⟨#Hinv, Hc⟩
  imod (inv_acc (Set.mem_univ κ)) $$ Hinv with ⟨Hb, Hclose⟩
  unfold dupBody
  icases Hb with (⟨%f, %nn, Hf, Ha, %hfn⟩ | Hcl)
  · ihave %hall := (show iprop(bigSep Finset.univ (fun j => countAuth EC (γ j) (nn j)) ∗ bigSep Finset.univ (fun j => count EC (γ j) 1))
        ⊢ (⌜∀ j, 1 = nn j⌝ : sProp 𝕄) from by
      refine Entails.trans ?_ pure_forall.2
      refine forall_intro fun j => ?_
      iintro ⟨Ha, Hc⟩
      ihave Ha := (show bigSep Finset.univ (fun j => countAuth EC (γ j) (nn j)) ⊢ (countAuth EC (γ j) (nn j) : sProp 𝕄) from
        bigSep_elim (Finset.mem_univ j)) $$ Ha
      ihave Hc := (show bigSep Finset.univ (fun j => count EC (γ j) 1) ⊢ (count EC (γ j) 1 : sProp 𝕄) from bigSep_elim (Finset.mem_univ j)) $$ Hc
      iapply (countAuth_count_agree EC)
      isplitl [Ha] <;> iassumption) $$ [Ha Hc]
    · isplitl [Ha] <;> iassumption
    ihave Hcl := Hclose $$ [Hc]
    · iright; iexact Hc
    imod Hcl
    imodintro
    iexists f
    isplitl [Hf]; · iexact Hf
    ipureintro
    exact ⟨hfn.1, fun j i hi => hfn.2 j (by rw [← hall j]; exact one_ne_zero) i hi⟩
  · iexfalso
    have h0 : bigSep Finset.univ (fun j => count EC (γ j) 1) ⊢ (count EC (γ ⟨0, ho⟩) 1 : sProp 𝕄) := bigSep_elim (Finset.mem_univ _)
    ihave Hcl := h0 $$ Hcl
    ihave Hc := h0 $$ Hc
    iapply (count_count_false EC)
    isplitl [Hcl] <;> iassumption

end Body

include EC in
/-- An indexed copy of single elements, issued and waited for: every element it names is to be given one value. -/
theorem own_scatter {sp : Space} {src : Memref sig c.2.kind .vmem ⟨1, d⟩ e} {dst : Memref sig c.2.kind sp ⟨1, d₀⟩ e}
    {hg : (⟨1, d₀⟩ : Shape).Gathers 0 ⟨1, d⟩} {offs : Memref sig c.2.kind .vmem ⟨1, d⟩ .i32}
    {hn : (⟨1, d⟩ : Shape).numel = (⟨1, d⟩ : Shape).size hg.axis'} {sem : DmaSem sig}
    {hp : c.2.kind = .scVector} {he : e.bits = 32} {hsp : sp = .hbm ∨ sp = .shared} {hr : (⟨1, d₀⟩ : Shape).StreamRows 0}
    {sp' : Space} {s' : Shape} {e' : EltTy} {dstw : Memref sig c.2.kind sp' s' e'} {h₄ : src.view.WordExact} {h₅ : dstw.view.WordExact}
    {k : PUnit → Prog (TpuEff nD τ sig (Elt F) Λ c.2) α} {Q : α → sProp 𝕄}
    {q qo : PosShare TreeShare} {Gs : ℕ → Elt F e} {Go : ℕ → Elt F .i32} {G : ℕ → Elt F e} {I : Set ℕ} {ι : Ix}
    {O : CellTallies nD τ sig Ix} {W₀ : Waits sig Ix} (G' : ℕ → Elt F e)
    (hs : 0 < (⟨1, d⟩ : Shape).numel)
    (hcs : ∀ s' : Shape, sig.dmaCredit c.2.kind (c.2.kind.table .vmem) src.view.buf s' e = s'.numel * e.bits)
    (hcd : ∀ s' : Shape, sig.dmaCredit c.2.kind (c.2.kind.table sp) dst.view.buf s' e = s'.numel * e.bits)
    (hin : ∀ j < d 0, (Go j).toNat < d₀ 0) (hI : ∀ j < d 0, (Go j).toNat ∈ I) (hG : ∀ j < d 0, G' (Go j).toNat = Gs j)
    (hne : ∀ n ∈ I, (∀ j < d 0, (Go j).toNat ≠ n) → G' n = G n) :
    iprop(own c src q Set.univ Gs ∗ own c offs qo Set.univ Go ∗ own c dst fullShare I G ∗ semVal (c, .dma sem) 0 ∗ tick c ι O W₀)
      ⊢ iprop((iprop(own c src q Set.univ Gs ∗ own c offs qo Set.univ Go ∗ own c dst fullShare I G' ∗ semVal (c, .dma sem) 0 ∗ tick c ι O W₀)
            -∗ wp frame (wpE defs 𝒱 c bd) Set.univ (k ⟨⟩) Q)
        -∗ wp frame (wpE defs 𝒱 c bd) Set.univ (SparseCore.enqueueIndirectScatter hp src dst hg offs hn sem he hsp hr
            >>= fun _ => SparseCore.waitIndirectScatter sem src dstw h₄ h₅ >>= k) Q) := by
  classical
  unfold own
  iintro ⟨⟨%fs, Hs, %hfs⟩, ⟨%fo, Ho, %hfo⟩, ⟨%fd, Hd, %hfd⟩, Hv, HT⟩ Hk
  rw [SparseCore.enqueueIndirectScatter_bind]
  have ho : 0 < (⟨1, d⟩ : Shape).size hg.axis' := Shape.size_pos_of_numel_pos hs _
  have hrd0 : ∀ x : Shape.Idx ⟨1, d⟩, (offs.view.read (Elt F) fo x).toNat < (⟨1, d₀⟩ : Shape).size hg.axis := fun x => by
    rw [hfo x trivial]; exact hin _ (x 0).isLt
  let S : Stream nD τ sig (Elt F) :=
    Stream.issued c offs.view hn sem (fun j w => (SparseCore.rowOf ((⟨1, d₀⟩ : Shape).size hg.axis) w).map
      (SparseCore.scatterRow c src dst hg sem he hsp hr j)) 0
  let r : Fin ((⟨1, d⟩ : Shape).size hg.axis') → Fin ((⟨1, d₀⟩ : Shape).size hg.axis) := SparseCore.rows (offs.view.read (Elt F) fo) hn hrd0
  let rd : Fin ((⟨1, d⟩ : Shape).size hg.axis') → RowDma τ sig (Elt F) c.2 sem := fun j => SparseCore.scatterRow c src dst hg sem he hsp hr j (r j)
  let am : Fin ((⟨1, d⟩ : Shape).size hg.axis') → ℕ := fun j =>
    (dst.slice ((⟨1, d₀⟩ : Shape).rowRect hg.axis (r j)) ((⟨1, d₀⟩ : Shape).stride_rowRect hg.axis _)).view.dmaCredit
  have hrow0 : 0 < ((⟨1, d₀⟩ : Shape).rowShape hg.axis).numel := by rw [← hg.rowShape_eq]; exact SparseCore.rowShape_numel_pos hs _
  have ham : ∀ j, 0 < am j := fun j => View.dmaCredit_pos _ hrow0
  have hent : ∀ j : Fin ((⟨1, d⟩ : Shape).size hg.axis'), ((S.entry j) 0).val = j.val := fun j => by
    rw [← Shape.rowMajor_val_one]
    change ((⟨1, d⟩ : Shape).rowMajor ((⟨1, d⟩ : Shape).rowMajor.symm (j.cast hn.symm))).val = _
    rw [Equiv.apply_symm_apply]; rfl
  let pt : Fin ((⟨1, d⟩ : Shape).size hg.axis') → ℕ := fun j => (Go j.val).toNat
  have hrpt : ∀ j, (r j).val = pt j := fun j => by
    change (offs.view.read (Elt F) fo (S.entry j)).toNat = _
    rw [hfo _ trivial, hent]
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (SparseCore.rowOf ((⟨1, d₀⟩ : Shape).size hg.axis) (offs.view.read (Elt F) fo (S.entry j))).map _ = _
    rw [SparseCore.rowOf_of_lt (hrd0 _)]; rfl
  have hen : Function.Bijective S.entry :=
    ((⟨1, d⟩ : Shape).rowMajor.symm.bijective.comp (finCongr hn.symm).bijective)
  have hsrcset : ∀ j, (src.view.slice ((⟨1, d⟩ : Shape).rowRect hg.axis' j)).set = (rd j).src.view.set := fun j =>
    (View.set_cast (v := src.view.slice ((⟨1, d⟩ : Shape).rowRect hg.axis' j)) _ _).symm
  have hN : ∑ j, am j = src.view.dmaCredit := SparseCore.sum_scatterCredit_eq_srcCredit c src dst hg rfl r hcs hcd
  have hpay : ∀ j x, SparseCore.scatterRowPayload c src hg fs j x = G' (pt j) := fun j x => by
    obtain ⟨y, hy⟩ := cast_read (F := F) (src.slice ((⟨1, d⟩ : Shape).rowRect hg.axis' j) ((⟨1, d⟩ : Shape).stride_rowRect _ _)) hg.rowShape_eq fs x
    rw [hG _ j.isLt]
    refine hy.trans ?_
    have h1 := hfs (((⟨1, d⟩ : Shape).rowRect hg.axis' j).emb y) trivial
    refine Eq.trans h1 ?_
    exact congrArg (fun z : Fin _ => Gs z.val) (Shape.rowRect_emb_axis (s := ⟨1, d⟩) hg.axis' j y)
  imod (ExclCount.counts_alloc_family EC (Finset.univ : Finset (Fin ((⟨1, d⟩ : Shape).size hg.axis')))) $$ [] with ⟨%γ', Ha', Hc'⟩; · iempintro
  imod (inv_alloc (P := dupBody (c := c) EC dst I G G' pt γ') (E := Set.univ)) $$ [Ha' Hd] with ⟨%κ', #Hinv'⟩
  · unfold dupBody
    ileft
    iexists fd, (fun _ => 0)
    isplitl [Hd]; · iexact Hd
    isplitl [Ha']; · iexact Ha'
    ipureintro
    exact ⟨fun i hi => .inl (hfd i hi), fun j h => absurd rfl h⟩
  let D : Fin ((⟨1, d⟩ : Shape).size hg.axis') → sProp 𝕄 := fun j =>
    iprop((count EC (γ' j) 1 ∗ S.heldEntry qo fo j) ∗ (src.view.loc c ↦[(src.view.slice ((⟨1, d⟩ : Shape).rowRect hg.axis' j)).set]{q} fs))
  imod (Transfers.stream_alloc EC ham D (g := (c, SemLoc.dma sem))) $$ Hv with ⟨%γ, %δ, %κ, #Hinv, Hγ, Hδ⟩
  ihave Ho := (Entails.of_eq (congrArg (fun I => (offs.view.loc c ↦[I]{qo} fo : sProp 𝕄)) (show offs.view.setOn (pos Set.univ) = offs.view.set by rw [pos_univ]; rfl))) $$ Ho
  ihave Hs := (Entails.of_eq (congrArg (fun I => (src.view.loc c ↦[I]{q} fs : sProp 𝕄)) (show src.view.setOn (pos Set.univ) = src.view.set by rw [pos_univ]; rfl))) $$ Hs
  ihave Ho' := (Entails.of_eq (pointsTo_entries c offs.view S.entry hen qo fo)) $$ Ho
  ihave Hs' := (Entails.of_eq (pointsTo_rows c src.view hg.axis' q fs)) $$ Hs
  iapply (wp_enqueueIndirectDma 𝒱 c bd Set.univ (qo := qo) (fo := fo) (rd := rd) ι src.view.dmaCredit hA hrd hN) $$ [Hc' Ho' Hs' Hγ]
  · have hrow : ∀ j, iprop((inv κ' (dupBody (c := c) EC dst I G G' pt γ') ∗ inv κ (Transfers.streamBody EC (c, SemLoc.dma sem) am D γ δ))
          ∗ (((count EC (γ' j) 0 ∗ S.heldEntry qo fo j)
          ∗ (src.view.loc c ↦[(src.view.slice ((⟨1, d⟩ : Shape).rowRect hg.axis' j)).set]{q} fs)) ∗ count EC (γ j) 0))
        ⊢ iprop(S.heldEntry qo fo j ∗ (S.heldEntry qo fo j -∗ rowRes c (rd j))) := fun j => by
      iintro ⟨⟨#Hinv', #Hinv⟩, ⟨⟨Hr, He⟩, Hsq⟩, Hγj⟩
      isplitl [He]; · iexact He
      iintro He
      unfold rowRes
      iexists q, fs, iprop(count EC (γ' j) 1 ∗ S.heldEntry qo fo j)
      isplitl [Hsq]; · iapply (Entails.of_eq (congrArg (fun I => (src.view.loc c ↦[I]{q} fs : sProp 𝕄)) (hsrcset j))) $$ Hsq
      isplitl [Hr He]
      · iapply writeUpdate_frame
        isplitl [Hr]
        · iapply (dup_update (EC := EC) (dst := dst) (I := I) (G := G) (G' := G') (pt := pt) (γ := γ') (κ := κ') j (r j) (hrpt j)
            (hI _ j.isLt) (SparseCore.scatterRowPayload c src hg fs j) (hpay j))
          isplitr; · iexact Hinv'
          iexact Hr
        · iexact He
      · iapply (Entails.of_eq (show (creditUpdate (c, SemLoc.dma sem) ((rd j).dst.view.amount (.dma sem)) 0 (D j) : sProp 𝕄)
            = creditUpdate (c, SemLoc.dma sem) ((rd j).dst.view.amount (.dma sem)) 0
            iprop((count EC (γ' j) 1 ∗ S.heldEntry qo fo j)
              ∗ ((rd j).src.view.loc c ↦[(rd j).src.view.set]{q} fs)) from by rw [← hsrcset j]))
        iapply (Transfers.stream_creditUpdate EC (a := am) (D := D) (δ := δ) j)
        isplitr; · iexact Hinv
        iexact Hγj
    unfold Stream.res
    ihave H1 := Transfers.bigSep_sep_in _ _ _ $$ [Hc' Ho']; · isplitl [Hc'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr
    · isplitr; · iexact Hinv'
      iexact Hinv
    iexact H3
  · have hjoin : bigSep Finset.univ D
        ⊢ (iprop(bigSep Finset.univ (fun j => count EC (γ' j) 1) ∗ (src.view.loc c ↦[src.view.set]{q} fs)
            ∗ (offs.view.loc c ↦[offs.view.set]{qo} fo)) : sProp 𝕄) := by
      iintro HD
      ihave H1 := Transfers.bigSep_sep_out _ _ _ $$ HD
      icases H1 with ⟨H2, Hsrc⟩
      ihave H3 := Transfers.bigSep_sep_out _ _ _ $$ H2
      icases H3 with ⟨Hrows, Hoffs⟩
      isplitl [Hrows]; · iexact Hrows
      isplitl [Hsrc]
      · iapply (Entails.of_eq (pointsTo_rows c src.view hg.axis' q fs).symm) $$ Hsrc
      · iapply (Entails.of_eq (pointsTo_entries c offs.view S.entry hen qo fo).symm) $$ Hoffs
    iintro Hcred
    rw [SparseCore.waitIndirectScatter_bind]
    ihave HF := (Transfers.Flight_mono EC c hjoin) $$ [Hcred Hδ]
    · iapply (Transfers.stream_flight EC (a := am) hN)
      isplitr; · iexact Hinv
      isplitl [Hδ] <;> iassumption
    iapply (tick_wait 𝒱 bd EC (ι := ι) (sm := sem) (N := src.view.dmaCredit) (srcw := dstw) (dstw := src) (k := k) rfl) $$ [HF HT]
    · isplitl [HF] <;> iassumption
    iintro ⟨⟨Hc, Hs, Ho⟩, Hv, HT⟩
    imod (dup_collect (EC := EC) (dst := dst) (I := I) (G := G) (G' := G') (pt := pt) (γ := γ') (κ := κ') ho) $$ [Hc] with ⟨%f, Hf, %hf⟩
    · isplitr; · iexact Hinv'
      iexact Hc
    iapply Hk
    isplitl [Hs]
    · iexists fs
      isplitl [Hs]; · rw [pos_univ]; iexact Hs
      ipureintro; exact hfs
    isplitl [Ho]
    · iexists fo
      isplitl [Ho]; · rw [pos_univ]; iexact Ho
      ipureintro; exact hfo
    isplitl [Hf]
    · iexists f
      isplitl [Hf]; · iexact Hf
      ipureintro
      intro i hi
      by_cases hx : ∃ j : Fin ((⟨1, d⟩ : Shape).size hg.axis'), (i 0).val = pt j
      · obtain ⟨j, hj⟩ := hx
        exact hf.2 j i hj
      · rcases hf.1 i hi with h | h
        · rw [h, hne _ hi]
          intro j hj hjn
          exact hx ⟨⟨j, hj⟩, hjn.symm⟩
        · exact h
    isplitl [Hv] <;> iassumption

end Gen

end Cert.Proof.Vox
-- ==== Proof.Setup.lean ====
/-
  The program as the launch theorem sees it, and the resources its proof uses.
-/
module

public import proofs.«01_k».proof.Proof.Dup
public import proofs.«01_k».proof.Proof.Gen.KernelIdeal
public import proofs.«01_k».proof.Proof.Gen.KernelIdeal.Skeleton
public import Idealize.ShloMosaic.Lib.SparseCore.Quiescent
public import Idealize.ShloMosaic.Lib.Tactic
public import Idealize.ShloMosaic.Lib.Pipeline.Kit

@[expose] public section

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

/-- The resources of the proof. -/
abbrev MM (F : FTy → Type) : Type := MT nD τ sig (HIx 2) (Elt F) ℕ UU ℕ

abbrev EH : Emb UH (MM F) := embL
abbrev EC : UEmb Counters (MM F) := countersEmb

end Cert.Proof.Vox
-- ==== Proof.Math.lean ====
/-
  Counting the occupied vertices of a 0/1 mask, the ring that holds the survivors, and the machine words that
  say the same.
-/
module

public import proofs.«01_k».proof.Proof.Setup
public import Idealize.ShloMosaic.Lib.SparseCore.Ops
public import Mathlib.Data.Nat.Count

@[expose] public section

set_option maxRecDepth 16384

noncomputable section

namespace Cert.Proof.Vox

open Cert.KernelIdeal Cert.KernelIdeal.Gen
open Idealize.ShloMosaic

/-- How many of the first `n` words of a mask are one. -/
def cnt (mw : ℕ → BitVec 32) (n : ℕ) : ℕ := Nat.count (fun v => mw v = 1#32) n

/-- The vertex that survives at rank `p`. -/
def nthOf (mw : ℕ → BitVec 32) (p : ℕ) : ℕ :=
  open scoped Classical in if h : ∃ v, mw v = 1#32 ∧ cnt mw v = p then h.choose else 0

/-- Every word of the mask is zero or one. -/
def Bin (mw : ℕ → BitVec 32) : Prop := ∀ v, mw v = 0#32 ∨ mw v = 1#32

variable {mw : ℕ → BitVec 32}

theorem cnt_zero : cnt mw 0 = 0 := rfl

theorem cnt_one {v : ℕ} (h : mw v = 1#32) : cnt mw (v + 1) = cnt mw v + 1 := by
  unfold cnt; rw [Nat.count_succ, if_pos h]

theorem cnt_none {v : ℕ} (h : mw v ≠ 1#32) : cnt mw (v + 1) = cnt mw v := by
  unfold cnt; rw [Nat.count_succ, if_neg h]; rfl

theorem cnt_mono {m n : ℕ} (h : m ≤ n) : cnt mw m ≤ cnt mw n := Nat.count_monotone _ h

theorem cnt_add_le (m k : ℕ) : cnt mw (m + k) ≤ cnt mw m + k := by
  unfold cnt; rw [Nat.count_add]; exact Nat.add_le_add_left (Nat.count_le _) _

theorem cnt_le (n : ℕ) : cnt mw n ≤ n := Nat.count_le _

theorem cnt_strict {m n : ℕ} (h : m < n) (hm : mw m = 1#32) : cnt mw m < cnt mw n := by
  have := cnt_mono (mw := mw) (show m + 1 ≤ n from h)
  rw [cnt_one hm] at this; omega

theorem cnt_inj {m n : ℕ} (hm : mw m = 1#32) (hn : mw n = 1#32) (h : cnt mw m = cnt mw n) : m = n := by
  rcases Nat.lt_trichotomy m n with l | l | l
  · have := cnt_strict l hm; omega
  · exact l
  · have := cnt_strict l hn; omega

theorem nthOf_cnt {v : ℕ} (h : mw v = 1#32) : nthOf mw (cnt mw v) = v := by
  have hx : ∃ u, mw u = 1#32 ∧ cnt mw u = cnt mw v := ⟨v, h, rfl⟩
  unfold nthOf
  rw [dif_pos hx]
  exact cnt_inj hx.choose_spec.1 h hx.choose_spec.2

/-- Each rank below a count is the rank of an occupied vertex before it. -/
theorem exists_rank {m n p : ℕ} (h₁ : cnt mw m ≤ p) (h₂ : p < cnt mw n) : ∃ v, m ≤ v ∧ v < n ∧ mw v = 1#32 ∧ cnt mw v = p := by
  induction n with
  | zero => simp [cnt_zero] at h₂
  | succ n ih =>
    by_cases hn : mw n = 1#32
    · rw [cnt_one hn] at h₂
      by_cases hp : p = cnt mw n
      · refine ⟨n, ?_, by omega, hn, hp.symm⟩
        by_contra hlt
        have := cnt_mono (mw := mw) (show n + 1 ≤ m by omega)
        rw [cnt_one hn] at this; omega
      · obtain ⟨v, a, b, c, e⟩ := ih (by omega)
        exact ⟨v, a, by omega, c, e⟩
    · rw [cnt_none hn] at h₂
      obtain ⟨v, a, b, c, e⟩ := ih h₂
      exact ⟨v, a, by omega, c, e⟩

/-- The word at a vertex is how much the count grows there. -/
theorem word_eq (hb : Bin mw) (v : ℕ) : mw v = BitVec.ofNat 32 (cnt mw (v + 1) - cnt mw v) := by
  rcases hb v with h | h
  · rw [cnt_none (by rw [h]; decide), h, Nat.sub_self]
  · rw [cnt_one h, h, Nat.add_sub_cancel_left]

theorem foldl_words {α : Type} (l : List α) (g : α → ℕ) (s : ℕ) :
    l.foldl (fun r k => IntOp.addi r (BitVec.ofNat 32 (g k))) (BitVec.ofNat 32 s) = BitVec.ofNat 32 (l.foldl (fun r k => r + g k) s) := by
  induction l generalizing s with
  | nil => rfl
  | cons a l ih =>
    rw [List.foldl_cons, List.foldl_cons, ← ih]
    congr 1
    exact (BitVec.ofNat_add ..).symm

/-- The running sum of sixteen words that are the steps of a growing sequence. -/
theorem scan_steps (v : IVec S16 32) (f : ℕ → ℕ) (hf : Monotone f)
    (h : ∀ x : S16.Idx, v x = BitVec.ofNat 32 (f ((x 0).val + 1) - f (x 0).val)) (x : S16.Idx) :
    scan .sum v x = BitVec.ofNat 32 (f ((x 0).val + 1) - f 0) := by
  have hv : v = fun x => BitVec.ofNat 32 (f ((x 0).val + 1) - f (x 0).val) := funext h
  subst hv
  unfold scan
  simp only [ScanKind.step]
  refine (foldl_words _ (fun k : Fin 16 => f (k.val + 1) - f k.val) (f 1 - f 0)).trans ?_
  congr 1
  have m := fun k : ℕ => hf (Nat.le_succ k)
  have m0 := m 0; have m1 := m 1; have m2 := m 2; have m3 := m 3; have m4 := m 4; have m5 := m 5; have m6 := m 6; have m7 := m 7
  have m8 := m 8; have m9 := m 9; have m10 := m 10; have m11 := m 11; have m12 := m 12; have m13 := m 13; have m14 := m 14; have m15 := m 15
  simp only [Nat.succ_eq_add_one, Nat.zero_add, Nat.reduceAdd] at *
  generalize (x 0 : Fin 16) = j
  fin_cases j <;>
    · simp [List.finRange, List.ofFn, List.filter, Fin.foldr, Fin.foldr.loop]
      try omega

/-- What a ring of period 8192 holds (stride `s`, component `c`) when every rank below `o` has been put in: the last 8192 of
    them, from rank `a` on. -/
def Ring {α : Type} (s c a o : ℕ) (V : ℕ → α) (G : ℕ → α) : Prop :=
  ∀ p, a ≤ p → p < o → o ≤ p + 8192 → G (s * (p % 8192) + c) = V p

/-- A component that a store of another component leaves alone. -/
theorem Ring.other {α : Type} {s c a o : ℕ} {V G G' : ℕ → α} (h : Ring s c a o V G)
    (hG : ∀ k < 8192, G' (s * k + c) = G (s * k + c)) : Ring s c a o V G' := by
  intro p h1 h2 h3
  rw [hG _ (Nat.mod_lt p (by decide)), h p h1 h2 h3]

/-- What the ring holds after the survivors among sixteen vertices from `v0` on have been stored. -/
theorem Ring.step {α : Type} {s c a v0 : ℕ} {V G G' : ℕ → α} (hs : 0 < s) (h : Ring s c a (cnt mw v0) V G)
    (hin : ∀ j < 16, mw (v0 + j) = 1#32 → G' (s * (cnt mw (v0 + j) % 8192) + c) = V (cnt mw (v0 + j)))
    (hout : ∀ n, (∀ j < 16, mw (v0 + j) = 1#32 → s * (cnt mw (v0 + j) % 8192) + c ≠ n) → G' n = G n) :
    Ring s c a (cnt mw (v0 + 16)) V G' := by
  intro p h1 h2 h3
  by_cases hp : p < cnt mw v0
  · rw [hout, h p h1 hp (by have := cnt_mono (mw := mw) (show v0 ≤ v0 + 16 by omega); omega)]
    intro j hj hm he
    have e : cnt mw (v0 + j) % 8192 = p % 8192 := by
      have : s * (cnt mw (v0 + j) % 8192) = s * (p % 8192) := by omega
      exact Nat.eq_of_mul_eq_mul_left hs this
    have l1 := cnt_mono (mw := mw) (show v0 ≤ v0 + j by omega)
    have l2 := cnt_strict (show v0 + j < v0 + 16 by omega) hm
    omega
  · obtain ⟨v, a1, a2, a3, a4⟩ := exists_rank (mw := mw) (m := v0) (n := v0 + 16) (p := p) (by omega) h2
    obtain ⟨j, rfl⟩ := Nat.exists_eq_add_of_le a1
    have := hin j (by omega) a3
    rwa [a4] at this

end Cert.Proof.Vox
-- ==== Proof.Group.lean ====
/-
  One group of sixteen vertices: its lanes as words, and its stores into the two rings.
-/
module

public import proofs.«01_k».proof.Proof.Math
public import Idealize.ShloMosaic.Lib.Pointwise.ShapeOpsCore

@[expose] public section

set_option maxRecDepth 16384

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The thread of the tile at grid point `i`. -/
abbrev thr (d : Dev nD) (i : grid1.Coords) : Thread nD τ := V d ((i 0).castLE hcore1) ((i 1).castLE hsub1)

/-- The lane numbers. -/
def lanesV : IVec S16 32 := iota .scVector S16 32 [0] iota_S16_d0_w32_scVector

theorem lanesV_apply (x : S16.Idx) : lanesV x = BitVec.ofNat 32 (x 0).val := by
  unfold lanesV iota
  simp

theorem toNat_and_8191 (w : BitVec 32) : (w &&& 8191#32).toNat = w.toNat % 8192 := by
  rw [BitVec.toNat_and, show (8191#32).toNat = 2 ^ 13 - 1 from rfl, Nat.and_two_pow_sub_one_eq_mod]

theorem ofNat_and_8191 {n : ℕ} (h : n < 2 ^ 32) : BitVec.ofNat 32 n &&& 8191#32 = BitVec.ofNat 32 (n % 8192) := by
  apply BitVec.eq_of_toNat_eq
  rw [toNat_and_8191, BitVec.toNat_ofNat, BitVec.toNat_ofNat]; omega

/-- The lanes that survive. -/
def gMask (v : IVec S16 32) : IVec S16 1 := cmpi .sgt v (broadcast S16 0#32)
/-- The ring position of each lane. -/
def rIdx (o : BitVec 32) (v : IVec S16 32) : IVec S16 32 :=
  andi (addi (broadcast S16 o) (subi (scan .sum v) v)) (broadcast S16 8191#32)
/-- Three times a vector, plus a constant. -/
def x3 (v : IVec S16 32) : IVec S16 32 := muli v (broadcast S16 3#32)
def x3c (v : IVec S16 32) (k : BitVec 32) : IVec S16 32 := addi (x3 v) (broadcast S16 k)
/-- The vertices of the group within the sub-chunk, and over all. -/
def lrow (g : BitVec 32) : IVec S16 32 := addi (broadcast S16 (Scalar.muli g 16#32)) lanesV
def vidx (base g : BitVec 32) : IVec S16 32 := addi (broadcast S16 base) (lrow g)

/-- The coordinates of a vertex, as floats. -/
def cx (w : BitVec 32) : F .f32 := FloatOps.sitofp .f32 (IntOp.shrsi .vector w 14#32)
def cy (w : BitVec 32) : F .f32 := FloatOps.sitofp .f32 (IntOp.andi (IntOp.shrsi .vector w 7#32) 127#32)
def cz (w : BitVec 32) : F .f32 := FloatOps.sitofp .f32 (IntOp.andi w 127#32)
/-- A point from its coordinate, its noise, the scale and the offset. -/
def ptv (c n s o : F .f32) : F .f32 := FloatOps.addf (FloatOps.mulf (FloatOps.addf c n) s) o

/-- The mask words of a group, as steps of the count. -/
def Lane (mw : ℕ → BitVec 32) (v0 : ℕ) (v : IVec S16 32) : Prop := ∀ x : S16.Idx, v x = mw (v0 + (x 0).val)

variable {mw : ℕ → BitVec 32}

theorem Lane.scan {v0 : ℕ} {v : IVec S16 32} (hb : Bin mw) (h : Lane mw v0 v) (x : S16.Idx) :
    Idealize.ShloMosaic.scan .sum v x = BitVec.ofNat 32 (cnt mw (v0 + (x 0).val + 1) - cnt mw v0) := by
  have := scan_steps v (fun k => cnt mw (v0 + k)) (fun a b hab => cnt_mono (by omega)) (fun x => by rw [h x, word_eq hb]; rfl) x
  exact this

theorem Lane.mask {v0 : ℕ} {v : IVec S16 32} (hb : Bin mw) (h : Lane mw v0 v) (x : S16.Idx) :
    gMask v x = 1 ↔ mw (v0 + (x 0).val) = 1#32 := by
  show IntOp.cmpi .sgt (v x) 0#32 = 1 ↔ _
  rw [h x]
  rcases hb (v0 + (x 0).val) with e | e <;> rw [e] <;> decide

theorem Lane.ridx {v0 : ℕ} {v : IVec S16 32} (hb : Bin mw) (h : Lane mw v0 v) (hv : v0 + 16 < 2 ^ 32) (x : S16.Idx) :
    rIdx (BitVec.ofNat 32 (cnt mw v0)) v x = BitVec.ofNat 32 (cnt mw (v0 + (x 0).val) % 8192) := by
  show (BitVec.ofNat 32 (cnt mw v0) + (Idealize.ShloMosaic.scan .sum v x - v x)) &&& 8191#32 = _
  have hx : (x 0).val < 16 := (x 0).isLt
  have l1 := cnt_mono (mw := mw) (show v0 ≤ v0 + (x 0).val by omega)
  have l2 := cnt_mono (mw := mw) (show v0 + (x 0).val ≤ v0 + (x 0).val + 1 by omega)
  have l3 := cnt_le (mw := mw) (v0 + (x 0).val + 1)
  rw [h.scan hb, h x, word_eq hb, ← ofNat_and_8191 (by omega)]
  congr 1
  apply BitVec.eq_of_toNat_eq
  simp only [BitVec.toNat_add, BitVec.toNat_sub, BitVec.toNat_ofNat]
  omega

theorem Lane.next {v0 : ℕ} {v : IVec S16 32} (hb : Bin mw) (h : Lane mw v0 v) :
    Scalar.addi (BitVec.ofNat 32 (cnt mw v0)) (extractAt ![15] (Idealize.ShloMosaic.scan .sum v) inpos_S16_p15)
      = BitVec.ofNat 32 (cnt mw (v0 + 16)) := by
  rw [extractAt_eq, h.scan hb]
  show BitVec.ofNat 32 _ + BitVec.ofNat 32 _ = _
  rw [← BitVec.ofNat_add]
  congr 1
  have l1 := cnt_mono (mw := mw) (show v0 ≤ v0 + 16 by omega)
  show cnt mw v0 + (cnt mw (v0 + 16) - cnt mw v0) = _
  omega

theorem rIdx_lt (o : BitVec 32) (v : IVec S16 32) (x : S16.Idx) : (rIdx o v x).toNat < 8192 := by
  show (_ &&& 8191#32).toNat < _
  rw [toNat_and_8191]; omega

theorem x3c_toNat {v : IVec S16 32} {x : S16.Idx} {k : ℕ} (h : (v x).toNat < 2 ^ 24) (hk : k < 4) :
    (x3c v (BitVec.ofNat 32 k) x).toNat = 3 * (v x).toNat + k := by
  show (v x * 3#32 + BitVec.ofNat 32 k).toNat = _
  simp only [BitVec.toNat_add, BitVec.toNat_mul, BitVec.toNat_ofNat]
  omega

theorem x3_toNat {v : IVec S16 32} {x : S16.Idx} (h : (v x).toNat < 2 ^ 24) : (x3 v x).toNat = 3 * (v x).toNat := by
  show (v x * 3#32).toNat = _
  rw [BitVec.toNat_mul]
  show _ * 3 % _ = _
  omega

theorem lrow_apply {g : ℕ} (hg : g < 256) (x : S16.Idx) : lrow (BitVec.ofNat 32 g) x = BitVec.ofNat 32 (16 * g + (x 0).val) := by
  show BitVec.ofNat 32 g * 16#32 + lanesV x = _
  rw [lanesV_apply]
  apply BitVec.eq_of_toNat_eq
  simp only [BitVec.toNat_add, BitVec.toNat_mul, BitVec.toNat_ofNat]
  omega

theorem lrow_toNat {g : ℕ} (hg : g < 256) (x : S16.Idx) : (lrow (BitVec.ofNat 32 g) x).toNat = 16 * g + (x 0).val := by
  have hx : (x 0).val < 16 := (x 0).isLt
  rw [lrow_apply hg, BitVec.toNat_ofNat]; omega

theorem vidx_apply {b g : ℕ} (hg : g < 256) (x : S16.Idx) :
    vidx (BitVec.ofNat 32 b) (BitVec.ofNat 32 g) x = BitVec.ofNat 32 (b + 16 * g + (x 0).val) := by
  show BitVec.ofNat 32 b + lrow (BitVec.ofNat 32 g) x = _
  rw [lrow_apply hg, ← BitVec.ofNat_add, Nat.add_assoc]

/-- A side condition of the program, once shown. -/
theorem assume_ok {c : Thread nD τ} {P : Prop} {dP : Decidable P} {α : Type} {k : PLift P → Prog (TpuEff nD τ sig (Elt F) Λ₀ c.2) α}
    {Q : α → sProp (MM F)} (h : P) :
    (wp frame (wpE (defs₀ (F := F)) 𝒱₀ c none) Set.univ (k ⟨h⟩) Q : sProp (MM F))
      ⊢ wp frame (wpE (defs₀ (F := F)) 𝒱₀ c none) Set.univ (Prog.lift (TpuEff.assume P dP) >>= k) Q :=
  wp_assume 𝒱₀ c none Set.univ h

/-- What is stored at a rank: the vertex there. -/
def occV (mw : ℕ → BitVec 32) (p : ℕ) : BitVec 32 := BitVec.ofNat 32 (nthOf mw p)

/-- What a masked indexed store leaves. -/
theorem store_exists {α : Type} {s c a v0 : ℕ} {mask : IVec S16 1} {idx : IVec S16 32} {v : S16.Idx → α} {V G : ℕ → α}
    (hs : 0 < s) (hm : ∀ x, mask x = 1 ↔ mw (v0 + (x 0).val) = 1#32)
    (hi : ∀ x, mw (v0 + (x 0).val) = 1#32 → (idx x).toNat = s * (cnt mw (v0 + (x 0).val) % 8192) + c)
    (hv : ∀ x, mw (v0 + (x 0).val) = 1#32 → v x = V (cnt mw (v0 + (x 0).val)))
    (h : Ring s c a (cnt mw v0) V G) :
    ∃ G' : ℕ → α, (∀ x, mask x = 1 → G' (idx x).toNat = v x) ∧ (∀ n, (∀ x, mask x = 1 → (idx x).toNat ≠ n) → G' n = G n)
      ∧ Ring s c a (cnt mw (v0 + 16)) V G' ∧ (∀ n, (∀ k < 8192, n ≠ s * k + c) → G' n = G n) := by
  classical
  have hinj : ∀ x y : S16.Idx, mask x = 1 → mask y = 1 → (idx x).toNat = (idx y).toNat → x = y := by
    intro x y hx hy he
    have mx := (hm x).mp hx
    have my := (hm y).mp hy
    rw [hi x mx, hi y my] at he
    have e : cnt mw (v0 + (x 0).val) % 8192 = cnt mw (v0 + (y 0).val) % 8192 :=
      Nat.eq_of_mul_eq_mul_left hs (by omega)
    have bx : (x 0).val < 16 := (x 0).isLt
    have byy : (y 0).val < 16 := (y 0).isLt
    have l1 := cnt_mono (mw := mw) (show v0 ≤ v0 + (x 0).val by omega)
    have l2 := cnt_mono (mw := mw) (show v0 ≤ v0 + (y 0).val by omega)
    have l3 := cnt_add_le (mw := mw) v0 (x 0).val
    have l4 := cnt_add_le (mw := mw) v0 (y 0).val
    have e2 : cnt mw (v0 + (x 0).val) = cnt mw (v0 + (y 0).val) := by omega
    have e3 := cnt_inj mx my e2
    funext a
    rw [Subsingleton.elim a 0]
    exact Fin.ext (by omega)
  refine ⟨fun n => if hx : ∃ x, mask x = 1 ∧ (idx x).toNat = n then v hx.choose else G n, ?_, ?_, ?_, ?_⟩
  · intro x hx
    have he : ∃ y, mask y = 1 ∧ (idx y).toNat = (idx x).toNat := ⟨x, hx, rfl⟩
    dsimp only
    rw [dif_pos he, hinj _ _ he.choose_spec.1 hx he.choose_spec.2]
  · intro n hn
    dsimp only
    rw [dif_neg]
    rintro ⟨x, hx, e⟩
    exact hn x hx e
  · refine h.step hs ?_ ?_
    · intro j hj hmj
      have hx0 : ((Shape.ofLane (d := S16.size) ⟨j, hj⟩ : S16.Idx) 0).val = j := rfl
      generalize (Shape.ofLane (d := S16.size) ⟨j, hj⟩ : S16.Idx) = x at hx0
      rw [← hx0] at hmj ⊢
      have hx := (hm x).mpr hmj
      have he : ∃ y, mask y = 1 ∧ (idx y).toNat = (idx x).toNat := ⟨x, hx, rfl⟩
      rw [← hi x hmj, dif_pos he, hinj _ _ he.choose_spec.1 hx he.choose_spec.2, hv x hmj]
    · intro n hn
      rw [dif_neg]
      rintro ⟨x, hx, e⟩
      have mx := (hm x).mp hx
      exact hn _ (x 0).isLt mx (by rw [← hi x mx, e])
  · intro n hn
    dsimp only
    rw [dif_neg]
    rintro ⟨x, hx, e⟩
    have mx := (hm x).mp hx
    exact hn _ (Nat.mod_lt (cnt mw (v0 + (x 0).val)) (by decide)) (by rw [← hi x mx, e])

end Cert.Proof.Vox
-- ==== Proof.RingOps.lean ====
/-
  The two rings as resources, and the indexed stores into them.
-/
module

public import proofs.«01_k».proof.Proof.Group

@[expose] public section

set_option maxRecDepth 16384

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A load whose value is named. -/
theorem own_ld {c : Thread nD τ} {cs : CoreSpace} {dd : Fin 1 → ℕ} {e : EltTy} {m : Memref sig c.2.kind cs ⟨1, dd⟩ e} {off size : Fin 1 → ℕ} {inb}
    {hl : m.view.LoadsAt (Rect.unit (s := ⟨1, dd⟩) off size inb).toLoadRect} {α : Type}
    {k : ((Rect.unit (s := ⟨1, dd⟩) off size inb).toLoadRect.shape.Idx → Elt F e) → Prog (TpuEff nD τ sig (Elt F) Λ₀ c.2) α}
    {q : PosShare TreeShare} {I : Set ℕ} {G : ℕ → Elt F e} {Q : α → sProp (MM F)} (hI : ∀ j < size 0, off 0 + j ∈ I) :
    (own c m q I G : sProp (MM F))
      ⊢ iprop((∀ v : (⟨1, size⟩ : Shape).Idx → Elt F e, ⌜∀ x, v x = G (off 0 + (x 0).val)⌝ -∗ own c m q I G
          -∗ wp frame (wpE (defs₀ (F := F)) 𝒱₀ c none) Set.univ (k v) Q)
        -∗ wp frame (wpE (defs₀ (F := F)) 𝒱₀ c none) Set.univ
            (Prog.lift (TpuEff.load m (Rect.unit (s := ⟨1, dd⟩) off size inb).toLoadRect hl) >>= k) Q) := by
  iintro Ho Hk
  iapply (own_load (F := F) 𝒱₀ c none (m := m) hI) $$ Ho
  iintro Ho
  iapply Hk $$ [] Ho
  ipureintro; intro x; rfl

/-- A gather whose value is named. -/
theorem own_ldIdx {c : Thread nD τ} {dd : Fin 1 → ℕ} {e : EltTy} {m : Memref sig c.2.kind .vmem ⟨1, dd⟩ e} {t : Shape} {idxs : Fin 1 → IVec t 32}
    {h : ∀ a x, (idxs a x).toNat < (⟨1, dd⟩ : Shape).size a} {hl : m.view.Loads} {α : Type}
    {k : Vec F t e → Prog (TpuEff nD τ sig (Elt F) Λ₀ c.2) α} {q : PosShare TreeShare} {G : ℕ → Elt F e} {Q : α → sProp (MM F)} :
    (own c m q Set.univ G : sProp (MM F))
      ⊢ iprop((∀ v : Vec F t e, ⌜∀ x, v x = G (idxs 0 x).toNat⌝ -∗ own c m q Set.univ G
          -∗ wp frame (wpE (defs₀ (F := F)) 𝒱₀ c none) Set.univ (k v) Q)
        -∗ wp frame (wpE (defs₀ (F := F)) 𝒱₀ c none) Set.univ (SparseCore.vectorLoadIdx (F := F) m idxs h hl >>= k) Q) := by
  iintro Ho Hk
  iapply (own_loadIdx (F := F) c 𝒱₀ none (m := m)) $$ Ho
  iintro Ho
  iapply Hk $$ [] Ho
  ipureintro; intro x; rfl

/-- Component `c` of the point of vertex `v`. -/
def Yv (nz sc of : ℕ → F .f32) (c v : ℕ) : F .f32 :=
  ptv (match c with
    | 0 => cx (BitVec.ofNat 32 v)
    | 1 => cy (BitVec.ofNat 32 v)
    | _ => cz (BitVec.ofNat 32 v)) (nz (3 * v + c)) (sc c) (of c)

/-- The ring of vertices, filled up to rank `o`. -/
def ringO (d : Dev nD) (i : grid1.Coords) (m : Memref sig .scVector .vmem S10240 .i32) (mw : ℕ → BitVec 32) (a o : ℕ) : sProp (MM F) :=
  iprop(∃ G : ℕ → BitVec 32, own (F := F) (e := .i32) (thr d i) m fullShare Set.univ G ∗ ⌜Ring 1 0 a o (occV mw) G⌝)

/-- The ring of points, each component filled up to a rank of its own. -/
def ringX (d : Dev nD) (i : grid1.Coords) (m : Memref sig .scVector .vmem S30720 .f32) (Y : ℕ → ℕ → F .f32) (mw : ℕ → BitVec 32)
    (a o₀ o₁ o₂ : ℕ) : sProp (MM F) :=
  iprop(∃ G : ℕ → F .f32, own (F := F) (e := .f32) (thr d i) m fullShare Set.univ G
    ∗ ⌜Ring 3 0 a o₀ (fun p => Y 0 (nthOf mw p)) G ∧ Ring 3 1 a o₁ (fun p => Y 1 (nthOf mw p)) G ∧ Ring 3 2 a o₂ (fun p => Y 2 (nthOf mw p)) G⌝)

variable {mw : ℕ → BitVec 32} {d : Dev nD} {i : grid1.Coords} {Y : ℕ → ℕ → F .f32} {a v0 o₀ o₁ o₂ : ℕ}

/-- The vertices of a group go into the ring. -/
theorem ringO_store {m : Memref sig .scVector .vmem S10240 .i32} {mv : IVec S16 32} {idx : IVec S16 32} {mask : IVec S16 1} {v : IVec S16 32} {h} {hs}
    {α : Type} {k : PUnit → Prog (TpuEff nD τ sig (Elt F) Λ₀ (thr d i).2) α} {Q : α → sProp (MM F)}
    (hb : Bin mw) (hl : Lane mw v0 mv) (hv0 : v0 + 16 < 2 ^ 32)
    (em : mask = gMask mv) (ei : idx = rIdx (BitVec.ofNat 32 (cnt mw v0)) mv) (ev : ∀ x, v x = BitVec.ofNat 32 (v0 + (x 0).val)) :
    (ringO d i m mw a (cnt mw v0) : sProp (MM F))
      ⊢ iprop((ringO d i m mw a (cnt mw (v0 + 16)) -∗ wp frame (wpE (defs₀ (F := F)) 𝒱₀ (thr d i) none) Set.univ (k ⟨⟩) Q)
        -∗ wp frame (wpE (defs₀ (F := F)) 𝒱₀ (thr d i) none) Set.univ
            (SparseCore.vectorStoreIdx (F := F) (e := .i32) m ![idx] v mask false h hs >>= k) Q) := by
  subst em ei
  unfold ringO
  iintro ⟨%G, Ho, %hR⟩ Hk
  obtain ⟨G', h1, h2, h3, -⟩ := store_exists (mw := mw) (s := 1) (c := 0) (v := v) (V := occV mw) (mask := gMask mv)
    (idx := rIdx (BitVec.ofNat 32 (cnt mw v0)) mv) (by decide) (hl.mask hb)
    (fun x hx => by
      have := cnt_le (mw := mw) (v0 + (x 0).val)
      rw [hl.ridx hb hv0 x, BitVec.toNat_ofNat]; omega)
    (fun x hx => by rw [ev x]; unfold occV; rw [nthOf_cnt hx]) hR
  iapply (own_storeIdx (F := F) (thr d i) 𝒱₀ none (m := m) (idxs := ![rIdx (BitVec.ofNat 32 (cnt mw v0)) mv]) (v := v) (mask := gMask mv) (h := h) (hs := hs) G' h1
    (fun n _ hn => h2 n hn)) $$ Ho
  iintro Ho
  iapply Hk
  iexists G'
  isplitl [Ho]; · iexact Ho
  ipureintro; exact h3

/-- Component 0 of the points of a group goes into the ring. -/
theorem ringX_store0 {m : Memref sig .scVector .vmem S30720 .f32} {mv : IVec S16 32} {idx : IVec S16 32} {mask : IVec S16 1} {v : Vec F S16 .f32} {h} {hs}
    {α : Type} {k : PUnit → Prog (TpuEff nD τ sig (Elt F) Λ₀ (thr d i).2) α} {Q : α → sProp (MM F)}
    (hb : Bin mw) (hl : Lane mw v0 mv) (hv0 : v0 + 16 < 2 ^ 32)
    (em : mask = gMask mv) (ei : idx = x3 (rIdx (BitVec.ofNat 32 (cnt mw v0)) mv)) (ev : ∀ x, v x = Y 0 (v0 + (x 0).val)) :
    (ringX d i m Y mw a (cnt mw v0) o₁ o₂ : sProp (MM F))
      ⊢ iprop((ringX d i m Y mw a (cnt mw (v0 + 16)) o₁ o₂ -∗ wp frame (wpE (defs₀ (F := F)) 𝒱₀ (thr d i) none) Set.univ (k ⟨⟩) Q)
        -∗ wp frame (wpE (defs₀ (F := F)) 𝒱₀ (thr d i) none) Set.univ
            (SparseCore.vectorStoreIdx (F := F) (e := .f32) m ![idx] v mask false h hs >>= k) Q) := by
  subst em ei
  unfold ringX
  iintro ⟨%G, Ho, %hR⟩ Hk
  obtain ⟨G', h1, h2, h3, h4⟩ := store_exists (mw := mw) (s := 3) (c := 0) (v := v) (V := fun p => Y 0 (nthOf mw p)) (mask := gMask mv)
    (idx := x3 (rIdx (BitVec.ofNat 32 (cnt mw v0)) mv)) (by decide) (hl.mask hb)
    (fun x hx => by
      have h8 := rIdx_lt (BitVec.ofNat 32 (cnt mw v0)) mv x
      have hr := hl.ridx hb hv0 x
      have := cnt_le (mw := mw) (v0 + (x 0).val)
      rw [x3_toNat (by omega), hr, BitVec.toNat_ofNat]; omega)
    (fun x hx => by rw [ev x]; dsimp only; rw [nthOf_cnt hx]) (hR.1)
  iapply (own_storeIdx (F := F) (thr d i) 𝒱₀ none (m := m) (idxs := ![x3 (rIdx (BitVec.ofNat 32 (cnt mw v0)) mv)]) (v := v) (mask := gMask mv) (h := h) (hs := hs) G' h1
    (fun n _ hn => h2 n hn)) $$ Ho
  iintro Ho
  iapply Hk
  iexists G'
  isplitl [Ho]; · iexact Ho
  ipureintro; exact ⟨h3, (hR.2.1).other (fun k hk => h4 _ (fun k' hk' => by omega)), (hR.2.2).other (fun k hk => h4 _ (fun k' hk' => by omega))⟩

/-- Component 1 of the points of a group goes into the ring. -/
theorem ringX_store1 {m : Memref sig .scVector .vmem S30720 .f32} {mv : IVec S16 32} {idx : IVec S16 32} {mask : IVec S16 1} {v : Vec F S16 .f32} {h} {hs}
    {α : Type} {k : PUnit → Prog (TpuEff nD τ sig (Elt F) Λ₀ (thr d i).2) α} {Q : α → sProp (MM F)}
    (hb : Bin mw) (hl : Lane mw v0 mv) (hv0 : v0 + 16 < 2 ^ 32)
    (em : mask = gMask mv) (ei : idx = x3c (rIdx (BitVec.ofNat 32 (cnt mw v0)) mv) 1#32) (ev : ∀ x, v x = Y 1 (v0 + (x 0).val)) :
    (ringX d i m Y mw a o₀ (cnt mw v0) o₂ : sProp (MM F))
      ⊢ iprop((ringX d i m Y mw a o₀ (cnt mw (v0 + 16)) o₂ -∗ wp frame (wpE (defs₀ (F := F)) 𝒱₀ (thr d i) none) Set.univ (k ⟨⟩) Q)
        -∗ wp frame (wpE (defs₀ (F := F)) 𝒱₀ (thr d i) none) Set.univ
            (SparseCore.vectorStoreIdx (F := F) (e := .f32) m ![idx] v mask false h hs >>= k) Q) := by
  subst em ei
  unfold ringX
  iintro ⟨%G, Ho, %hR⟩ Hk
  obtain ⟨G', h1, h2, h3, h4⟩ := store_exists (mw := mw) (s := 3) (c := 1) (v := v) (V := fun p => Y 1 (nthOf mw p)) (mask := gMask mv)
    (idx := x3c (rIdx (BitVec.ofNat 32 (cnt mw v0)) mv) 1#32) (by decide) (hl.mask hb)
    (fun x hx => by
      have h8 := rIdx_lt (BitVec.ofNat 32 (cnt mw v0)) mv x
      have hr := hl.ridx hb hv0 x
      have := cnt_le (mw := mw) (v0 + (x 0).val)
      rw [x3c_toNat (k := 1) (by omega) (by decide), hr, BitVec.toNat_ofNat]; omega)
    (fun x hx => by rw [ev x]; dsimp only; rw [nthOf_cnt hx]) (hR.2.1)
  iapply (own_storeIdx (F := F) (thr d i) 𝒱₀ none (m := m) (idxs := ![x3c (rIdx (BitVec.ofNat 32 (cnt mw v0)) mv) 1#32]) (v := v) (mask := gMask mv) (h := h) (hs := hs) G' h1
    (fun n _ hn => h2 n hn)) $$ Ho
  iintro Ho
  iapply Hk
  iexists G'
  isplitl [Ho]; · iexact Ho
  ipureintro; exact ⟨(hR.1).other (fun k hk => h4 _ (fun k' hk' => by omega)), h3, (hR.2.2).other (fun k hk => h4 _ (fun k' hk' => by omega))⟩

/-- Component 2 of the points of a group goes into the ring. -/
theorem ringX_store2 {m : Memref sig .scVector .vmem S30720 .f32} {mv : IVec S16 32} {idx : IVec S16 32} {mask : IVec S16 1} {v : Vec F S16 .f32} {h} {hs}
    {α : Type} {k : PUnit → Prog (TpuEff nD τ sig (Elt F) Λ₀ (thr d i).2) α} {Q : α → sProp (MM F)}
    (hb : Bin mw) (hl : Lane mw v0 mv) (hv0 : v0 + 16 < 2 ^ 32)
    (em : mask = gMask mv) (ei : idx = x3c (rIdx (BitVec.ofNat 32 (cnt mw v0)) mv) 2#32) (ev : ∀ x, v x = Y 2 (v0 + (x 0).val)) :
    (ringX d i m Y mw a o₀ o₁ (cnt mw v0) : sProp (MM F))
      ⊢ iprop((ringX d i m Y mw a o₀ o₁ (cnt mw (v0 + 16)) -∗ wp frame (wpE (defs₀ (F := F)) 𝒱₀ (thr d i) none) Set.univ (k ⟨⟩) Q)
        -∗ wp frame (wpE (defs₀ (F := F)) 𝒱₀ (thr d i) none) Set.univ
            (SparseCore.vectorStoreIdx (F := F) (e := .f32) m ![idx] v mask false h hs >>= k) Q) := by
  subst em ei
  unfold ringX
  iintro ⟨%G, Ho, %hR⟩ Hk
  obtain ⟨G', h1, h2, h3, h4⟩ := store_exists (mw := mw) (s := 3) (c := 2) (v := v) (V := fun p => Y 2 (nthOf mw p)) (mask := gMask mv)
    (idx := x3c (rIdx (BitVec.ofNat 32 (cnt mw v0)) mv) 2#32) (by decide) (hl.mask hb)
    (fun x hx => by
      have h8 := rIdx_lt (BitVec.ofNat 32 (cnt mw v0)) mv x
      have hr := hl.ridx hb hv0 x
      have := cnt_le (mw := mw) (v0 + (x 0).val)
      rw [x3c_toNat (k := 2) (by omega) (by decide), hr, BitVec.toNat_ofNat]; omega)
    (fun x hx => by rw [ev x]; dsimp only; rw [nthOf_cnt hx]) (hR.2.2)
  iapply (own_storeIdx (F := F) (thr d i) 𝒱₀ none (m := m) (idxs := ![x3c (rIdx (BitVec.ofNat 32 (cnt mw v0)) mv) 2#32]) (v := v) (mask := gMask mv) (h := h) (hs := hs) G' h1
    (fun n _ hn => h2 n hn)) $$ Ho
  iintro Ho
  iapply Hk
  iexists G'
  isplitl [Ho]; · iexact Ho
  ipureintro; exact ⟨(hR.1).other (fun k hk => h4 _ (fun k' hk' => by omega)), (hR.2.1).other (fun k hk => h4 _ (fun k' hk' => by omega)), h3⟩

end Cert.Proof.Vox
-- ==== Proof.Move.lean ====
/-
  Synchronous copies between parts of buffers, and the ghost description of an output region being written.
-/
module

public import proofs.«01_k».proof.Proof.RingOps

@[expose] public section

set_option maxRecDepth 16384

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A region `I` of an output held whole, with the values `V` at the positions `W`. -/
def outO {sp : Space} {dd : Fin 1 → ℕ} {e : EltTy} (c : Thread nD τ) (m : Memref sig c.2.kind sp ⟨1, dd⟩ e) (I W : Set ℕ) (V : ℕ → Elt F e) : sProp (MM F) :=
  iprop(∃ G : ℕ → Elt F e, own c m fullShare I G ∗ ⌜∀ p ∈ W, G p = V p⌝)

variable {c : Thread nD τ} {α : Type} {Q : α → sProp (MM F)}

theorem outO_mono {sp : Space} {dd : Fin 1 → ℕ} {e : EltTy} {m : Memref sig c.2.kind sp ⟨1, dd⟩ e} {I W W' : Set ℕ} {V : ℕ → Elt F e}
    (h : ∀ p ∈ W', p ∈ W) : (outO c m I W V : sProp (MM F)) ⊢ outO c m I W' V := by
  unfold outO
  iintro ⟨%G, H, %hG⟩
  iexists G
  isplitl [H]; · iexact H
  ipureintro; exact fun p hp => hG p (h p hp)

/-- A copy of a part of a buffer into a part of an output. -/
theorem copy_out {sp₁ sp₂ sp₃ : Space} {dS dD : Fin 1 → ℕ} {e : EltTy} {s' : Shape} {e' : EltTy}
    {src : Memref sig c.2.kind sp₁ ⟨1, dS⟩ e} {dst : Memref sig c.2.kind sp₂ ⟨1, dD⟩ e}
    {offS offD size : Fin 1 → ℕ} {inbS inbD hsS hsD}
    {sm : DmaSem sig} {hsrc : (src.slice (Rect.unit (s := ⟨1, dS⟩) offS size inbS) hsS).view.WordExact}
    {hdst : (dst.slice (Rect.unit (s := ⟨1, dD⟩) offD size inbD) hsD).view.WordExact}
    {hsem : DmaTarget.Typed (nD := nD) sp₁ (SemLoc.dma sm) (.here (dst.slice (Rect.unit (s := ⟨1, dD⟩) offD size inbD) hsD))}
    {srcw : Memref sig c.2.kind sp₃ s' e'} {dstw : Memref sig c.2.kind sp₂ ⟨1, size⟩ e} {h₄ : srcw.view.WordExact} {h₅ : dstw.view.WordExact}
    {k : PUnit → Prog (TpuEff nD τ sig (Elt F) Λ₀ c.2) α} {O : CellTallies nD τ sig (HIx 2)} {W₀ : Waits sig (HIx 2)}
    {q : PosShare TreeShare} {Gs V : ℕ → Elt F e} {I W : Set ℕ}
    (hd : 0 < size 0) (hw : dstw.view.dmaCredit = (dst.slice (Rect.unit (s := ⟨1, dD⟩) offD size inbD) hsD).view.dmaCredit)
    (hI : ∀ n, offD 0 ≤ n → n < offD 0 + size 0 → n ∈ I) (hV : ∀ j < size 0, Gs (offS 0 + j) = V (offD 0 + j)) :
    iprop(own c src q Set.univ Gs ∗ outO c dst I W V ∗ semVal (c, .dma sm) 0 ∗ tick c default O W₀)
      ⊢ (iprop((iprop(own c src q Set.univ Gs ∗ outO c dst I (W ∪ Set.Ico (offD 0) (offD 0 + size 0)) V ∗ semVal (c, .dma sm) 0 ∗ tick c default O W₀)
            -∗ wp frame (wpE (defs₀ (F := F)) 𝒱₀ c none) Set.univ (k ⟨⟩) Q)
        -∗ wp frame (wpE (defs₀ (F := F)) 𝒱₀ c none) Set.univ
            (Prog.lift (TpuEff.enqueueDma (src.slice (Rect.unit (s := ⟨1, dS⟩) offS size inbS) hsS)
                (.here (dst.slice (Rect.unit (s := ⟨1, dD⟩) offD size inbD) hsD)) (.dma sm) hsrc hdst hsem)
              >>= fun _ => Prog.lift (TpuEff.waitDma2 sm srcw dstw h₄ h₅) >>= k) Q) : sProp (MM F)) := by
  unfold outO
  iintro ⟨Hs, ⟨%G, Hd, %hG⟩, Hv, HT⟩ Hk
  ihave Hs2 := (own_carve (c := c) (m := src) (q := q) (I := Set.univ) (J := Set.Ico (offS 0) (offS 0 + size 0)) (G := Gs) (Set.subset_univ _)) $$ Hs
  icases Hs2 with ⟨HsA, HsB⟩
  ihave Hd2 := (own_carve (c := c) (m := dst) (q := fullShare) (I := I) (J := Set.Ico (offD 0) (offD 0 + size 0)) (G := G) (fun n hn => hI n hn.1 hn.2)) $$ Hd
  icases Hd2 with ⟨HdA, HdB⟩
  ihave HsA := (own_slice (c := c) (m := src) (q := q) (G := Gs) (off := offS) (size := size) (inb := inbS) (hs := hsS)) $$ HsA
  ihave HdA := (own_slice (c := c) (m := dst) (q := fullShare) (G := G) (off := offD) (size := size) (inb := inbD) (hs := hsD)) $$ HdA
  iapply (own_copy (F := F) 𝒱₀ none EC (c := c) (src := src.slice (Rect.unit (s := ⟨1, dS⟩) offS size inbS) hsS)
    (dst := dst.slice (Rect.unit (s := ⟨1, dD⟩) offD size inbD) hsD) (sm := sm) (srcw := srcw) (dstw := dstw) (hsrc := hsrc) (hdst := hdst) (hsem := hsem)
    (h₄ := h₄) (h₅ := h₅) (k := k) (by simpa [Shape.numel] using hd) hw) $$ [HsA HdA Hv HT]
  · isplitl [HsA]; · iexact HsA
    isplitl [HdA]; · iexact HdA
    isplitl [Hv] <;> iassumption
  iintro ⟨HsA, HdA, Hv, HT⟩
  iapply Hk
  isplitl [HsA HsB]
  · ihave HsA := (own_of_slice (c := c) (m := src) (q := q) (G := Gs) (G₁ := fun n => Gs (offS 0 + n)) (off := offS) (size := size) (inb := inbS) (hs := hsS) (fun _ _ => rfl)) $$ HsA
    iapply (own_uncarve (c := c) (m := src) (q := q) (I := Set.univ) (J := Set.Ico (offS 0) (offS 0 + size 0)) (Set.subset_univ _) (fun _ _ => rfl) (fun _ _ _ => rfl))
    isplitl [HsA] <;> iassumption
  isplitl [HdA HdB]
  · iexists (fun n => by classical exact if n ∈ Set.Ico (offD 0) (offD 0 + size 0) then V n else G n)
    isplitl [HdA HdB]
    · ihave HdA := (own_of_slice (c := c) (m := dst) (q := fullShare) (G := V) (G₁ := fun n => Gs (offS 0 + n)) (off := offD) (size := size) (inb := inbD) (hs := hsD) (fun j hj => hV j hj)) $$ HdA
      iapply (own_uncarve (c := c) (m := dst) (q := fullShare) (I := I) (J := Set.Ico (offD 0) (offD 0 + size 0)) (fun n hn => hI n hn.1 hn.2)
        (fun n hn => if_pos hn) (fun n _ hn => if_neg hn))
      isplitl [HdA] <;> iassumption
    · ipureintro
      intro p hp
      dsimp only
      split
      · rfl
      · rename_i hn
        rcases hp with hp | hp
        · exact hG p hp
        · exact absurd hp hn
  isplitl [Hv] <;> iassumption

/-- A copy of a part of a buffer into a whole buffer. -/
theorem copy_in {sp₁ sp₂ sp₃ : Space} {dS size : Fin 1 → ℕ} {e : EltTy} {s' : Shape} {e' : EltTy}
    {src : Memref sig c.2.kind sp₁ ⟨1, dS⟩ e} {dst : Memref sig c.2.kind sp₂ ⟨1, size⟩ e}
    {offS : Fin 1 → ℕ} {inbS hsS}
    {sm : DmaSem sig} {hsrc : (src.slice (Rect.unit (s := ⟨1, dS⟩) offS size inbS) hsS).view.WordExact}
    {hdst : dst.view.WordExact}
    {hsem : DmaTarget.Typed (nD := nD) sp₁ (SemLoc.dma sm) (.here dst)}
    {srcw : Memref sig c.2.kind sp₃ s' e'} {dstw : Memref sig c.2.kind sp₂ ⟨1, size⟩ e} {h₄ : srcw.view.WordExact} {h₅ : dstw.view.WordExact}
    {k : PUnit → Prog (TpuEff nD τ sig (Elt F) Λ₀ c.2) α} {O : CellTallies nD τ sig (HIx 2)} {W₀ : Waits sig (HIx 2)}
    {q : PosShare TreeShare} {Gs G₁ : ℕ → Elt F e}
    (hd : 0 < size 0) (hw : dstw.view.dmaCredit = dst.view.dmaCredit) :
    iprop(own c src q Set.univ Gs ∗ own c dst fullShare Set.univ G₁ ∗ semVal (c, .dma sm) 0 ∗ tick c default O W₀)
      ⊢ (iprop((iprop(own c src q Set.univ Gs ∗ own c dst fullShare Set.univ (fun n => Gs (offS 0 + n)) ∗ semVal (c, .dma sm) 0 ∗ tick c default O W₀)
            -∗ wp frame (wpE (defs₀ (F := F)) 𝒱₀ c none) Set.univ (k ⟨⟩) Q)
        -∗ wp frame (wpE (defs₀ (F := F)) 𝒱₀ c none) Set.univ
            (Prog.lift (TpuEff.enqueueDma (src.slice (Rect.unit (s := ⟨1, dS⟩) offS size inbS) hsS)
                (.here dst) (.dma sm) hsrc hdst hsem)
              >>= fun _ => Prog.lift (TpuEff.waitDma2 sm srcw dstw h₄ h₅) >>= k) Q) : sProp (MM F)) := by
  iintro ⟨Hs, Hd, Hv, HT⟩ Hk
  ihave Hs2 := (own_carve (c := c) (m := src) (q := q) (I := Set.univ) (J := Set.Ico (offS 0) (offS 0 + size 0)) (G := Gs) (Set.subset_univ _)) $$ Hs
  icases Hs2 with ⟨HsA, HsB⟩
  ihave HsA := (own_slice (c := c) (m := src) (q := q) (G := Gs) (off := offS) (size := size) (inb := inbS) (hs := hsS)) $$ HsA
  iapply (own_copy (F := F) 𝒱₀ none EC (c := c) (src := src.slice (Rect.unit (s := ⟨1, dS⟩) offS size inbS) hsS)
    (dst := dst) (sm := sm) (srcw := srcw) (dstw := dstw) (hsrc := hsrc) (hdst := hdst) (hsem := hsem)
    (h₄ := h₄) (h₅ := h₅) (k := k) (by simpa [Shape.numel] using hd) hw) $$ [HsA Hd Hv HT]
  · isplitl [HsA]; · iexact HsA
    isplitl [Hd]; · iexact Hd
    isplitl [Hv] <;> iassumption
  iintro ⟨HsA, Hd, Hv, HT⟩
  iapply Hk
  isplitl [HsA HsB]
  · ihave HsA := (own_of_slice (c := c) (m := src) (q := q) (G := Gs) (G₁ := fun n => Gs (offS 0 + n)) (off := offS) (size := size) (inb := inbS) (hs := hsS) (fun _ _ => rfl)) $$ HsA
    iapply (own_uncarve (c := c) (m := src) (q := q) (I := Set.univ) (J := Set.Ico (offS 0) (offS 0 + size 0)) (Set.subset_univ _) (fun _ _ => rfl) (fun _ _ _ => rfl))
    isplitl [HsA] <;> iassumption
  isplitl [Hd]; · iexact Hd
  isplitl [Hv] <;> iassumption

/-- The first `n` positions repeated from position `B`. -/
def shadG {X : Type} (B n : ℕ) (G : ℕ → X) : ℕ → X := fun j => if B ≤ j ∧ j < B + n then G (j - B) else G j

theorem shadG_zero {X : Type} {B : ℕ} {G : ℕ → X} : shadG B 0 G = G := by
  funext j; unfold shadG; rw [if_neg]; omega

/-- One step of the loop repeating the first positions of a ring after its end. -/
theorem refresh_step {cs : CoreSpace} {dd : Fin 1 → ℕ} {e : EltTy} {m : Memref sig c.2.kind cs ⟨1, dd⟩ e} {off₁ off₂ size : Fin 1 → ℕ} {inb₁ inb₂}
    {hl₁ : m.view.LoadsAt (Rect.unit (s := ⟨1, dd⟩) off₁ size inb₁).toLoadRect} {hl₂ : m.view.LoadsAt (Rect.unit (s := ⟨1, dd⟩) off₂ size inb₂).toLoadRect}
    {hs h2} {G : ℕ → Elt F e} {B k : ℕ} {R : α} (hsz : size 0 = 16) (h₁ : off₁ 0 = 16 * k) (h₂ : off₂ 0 = B + 16 * k) (hB : 16 * k + 16 ≤ B) :
    (own c m fullShare Set.univ (shadG B (16 * k) G) : sProp (MM F))
      ⊢ wp frame (wpE (defs₀ (F := F)) 𝒱₀ c none) Set.univ
          (Prog.lift (TpuEff.load m (Rect.unit (s := ⟨1, dd⟩) off₁ size inb₁).toLoadRect hl₁) >>= fun v =>
            Prog.lift (TpuEff.load m (Rect.unit (s := ⟨1, dd⟩) off₂ size inb₂).toLoadRect hl₂) >>= fun _ =>
            Prog.lift (TpuEff.store m (Rect.unit (s := ⟨1, dd⟩) off₂ size inb₂) v Finset.univ hs h2) >>= fun _ => pure R)
          (fun _ => own c m fullShare Set.univ (shadG B (16 * (k + 1)) G)) := by
  iintro Hm
  iapply (own_ld (c := c) (m := m) (fun j hj => Set.mem_univ _)) $$ Hm; iintro %v %hv Hm
  iapply (own_ld (c := c) (m := m) (fun j hj => Set.mem_univ _)) $$ Hm; iintro %v' %hv' Hm
  iapply (own_store (F := F) 𝒱₀ c none (m := m) (w := v) (shadG B (16 * (k + 1)) G) (fun j hj => Set.mem_univ _)
    (fun x => by
      have hx : (x 0).val < size 0 := (x 0).isLt
      rw [hv x]; unfold shadG
      rw [if_pos (by omega), if_neg (by omega)]; congr 1; omega)
    (fun n _ hn => by
      unfold shadG
      by_cases h : B ≤ n ∧ n < B + 16 * k
      · rw [if_pos h, if_pos (by omega)]
      · rw [if_neg h, if_neg (by omega)])) $$ Hm
  iintro Hm
  rw [wp_pure]
  imodintro
  iexact Hm

end Cert.Proof.Vox
-- ==== Proof.Flush.lean ====
/-
  Writing a full block of the rings out.
-/
module

public import proofs.«01_k».proof.Proof.Move
public import Idealize.ShloMosaic.Lib.WordCmp
public import Idealize.ShloMosaic.Lib.Tactic.WordOmega
public import Idealize.ShloMosaic.Lib.LoopRemainder

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The points as the flat output holds them: entry `n` is component `n % 3` of the vertex of rank `n / 3`. -/
def xwV {X : Type} (Y : ℕ → ℕ → X) (mw : ℕ → BitVec 32) (n : ℕ) : X := Y (n % 3) (nthOf mw (n / 3))

/-- A slice of the ring of vertices holds consecutive vertices. -/
theorem Ring.sliceO {X : Type} {a o f len : ℕ} {V G : ℕ → X} (h : Ring 1 0 a o V G) (ha : a ≤ f) (hl : f + len ≤ o) (ho : o ≤ f + 8192)
    (hs : f % 8192 + len ≤ 8192 ∨ (len ≤ 2048 ∧ ∀ n < 2048, G (8192 + n) = G n)) (j : ℕ) (hj : j < len) : G (f % 8192 + j) = V (f + j) := by
  have key := h (f + j) (by omega) (by omega) (by omega)
  rw [← key]
  by_cases hw : f % 8192 + j < 8192
  · congr 1; omega
  · rcases hs with hs | ⟨hl', hs⟩
    · omega
    · have := hs (f % 8192 + j - 8192) (by omega)
      rw [show 8192 + (f % 8192 + j - 8192) = f % 8192 + j by omega] at this
      refine this.trans (congrArg G ?_); omega

/-- A slice of the ring of points holds consecutive entries of the flat output. -/
theorem Ring.sliceX {X : Type} {a o f len : ℕ} {Y : ℕ → ℕ → X} {mw : ℕ → BitVec 32} {G : ℕ → X}
    (h : Ring 3 0 a o (fun p => Y 0 (nthOf mw p)) G ∧ Ring 3 1 a o (fun p => Y 1 (nthOf mw p)) G ∧ Ring 3 2 a o (fun p => Y 2 (nthOf mw p)) G)
    (ha : a ≤ f) (hl : f + len ≤ o) (ho : o ≤ f + 8192)
    (hs : f % 8192 + len ≤ 8192 ∨ (len ≤ 2048 ∧ ∀ n < 6144, G (24576 + n) = G n)) (j : ℕ) (hj : j < 3 * len) :
    G (3 * (f % 8192) + j) = xwV Y mw (3 * f + j) := by
  have hj3 : j / 3 < len := by omega
  have key : G (3 * ((f + j / 3) % 8192) + j % 3) = xwV Y mw (3 * f + j) := by
    unfold xwV
    rw [show (3 * f + j) % 3 = j % 3 by omega, show (3 * f + j) / 3 = f + j / 3 by omega]
    have h3 : j % 3 = 0 ∨ j % 3 = 1 ∨ j % 3 = 2 := by omega
    rcases h3 with h3 | h3 | h3 <;> rw [h3]
    · exact h.1 (f + j / 3) (by omega) (by omega) (by omega)
    · exact h.2.1 (f + j / 3) (by omega) (by omega) (by omega)
    · exact h.2.2 (f + j / 3) (by omega) (by omega) (by omega)
  rw [← key]
  by_cases hw : f % 8192 + j / 3 < 8192
  · congr 1; omega
  · rcases hs with hs | ⟨hl', hs⟩
    · omega
    · have := hs (3 * (f % 8192) + j - 24576) (by omega)
      rw [show 24576 + (3 * (f % 8192) + j - 24576) = 3 * (f % 8192) + j by omega] at this
      refine this.trans (congrArg G ?_); omega

theorem shadG_ring {X : Type} {a o : ℕ} {V G : ℕ → X} (n : ℕ) (h : Ring 1 0 a o V G) : Ring 1 0 a o V (shadG 8192 n G) :=
  h.other (fun k hk => by unfold shadG; rw [if_neg]; omega)

theorem shadG_ring3 {X : Type} {a o c : ℕ} {V G : ℕ → X} (n : ℕ) (hc : c < 3) (h : Ring 3 c a o V G) : Ring 3 c a o V (shadG 24576 n G) :=
  h.other (fun k hk => by unfold shadG; rw [if_neg]; omega)

theorem shadG_shad {X : Type} {B n : ℕ} {G : ℕ → X} (hB : n ≤ B) (j : ℕ) (hj : j < n) : shadG B n G (B + j) = shadG B n G j := by
  unfold shadG
  rw [if_pos (by omega), if_neg (by omega)]; congr 1; omega

/-- A program's specification used at the head of a longer program. -/
theorem wp_step {c : Thread nD τ} {α β : Type} {p : Prog (TpuEff nD τ sig (Elt F) Λ₀ c.2) α} {k : α → Prog (TpuEff nD τ sig (Elt F) Λ₀ c.2) β}
    {P : sProp (MM F)} {R : α → sProp (MM F)} {Q : β → sProp (MM F)}
    (h : P ⊢ wp frame (wpE (defs₀ (F := F)) 𝒱₀ c none) Set.univ p R) :
    P ⊢ iprop((∀ x, R x -∗ wp frame (wpE (defs₀ (F := F)) 𝒱₀ c none) Set.univ (k x) Q)
      -∗ wp frame (wpE (defs₀ (F := F)) 𝒱₀ c none) Set.univ (p >>= k) Q) := by
  rw [wp_bind]
  iintro HP HK
  ihave H := h $$ HP
  iapply (wp_wand_r frame (wpE (defs₀ (F := F)) 𝒱₀ c none))
  isplitl [H]; · iexact H
  iexact HK

/-- The question `x > y` asked of two small numbers, as the kernel asks it. -/
theorem ask_sgt {x y : ℕ} (hx : x < 2 ^ 31) (hy : y < 2 ^ 31) :
    Scalar.cmpi .ne (Scalar.extui (Scalar.cmpi .sgt (BitVec.ofNat 32 x) (BitVec.ofNat 32 y))) 0#32 = 1#1 ↔ y < x := by
  have e := WordCmp.cmpi_sgt_ofNat_eq_one_iff (w := 32) (a := x) (b := y) hx hy
  show IntOp.cmpi .ne (BitVec.setWidth 32 (IntOp.cmpi .sgt (BitVec.ofNat 32 x) (BitVec.ofNat 32 y))) 0#32 = 1#1 ↔ y < x
  rw [← e]
  generalize IntOp.cmpi .sgt (BitVec.ofNat 32 x) (BitVec.ofNat 32 y) = b
  revert b; decide

theorem and_ofNat (f : ℕ) (h : f < 2 ^ 32) : Scalar.andi (BitVec.ofNat 32 f) 8191#32 = BitVec.ofNat 32 (f % 8192) := ofNat_and_8191 h
theorem mul3_ofNat (f : ℕ) : Scalar.muli (BitVec.ofNat 32 f) 3#32 = BitVec.ofNat 32 (3 * f) := by
  show BitVec.ofNat 32 f * 3#32 = _
  rw [← BitVec.ofNat_mul, Nat.mul_comm]

theorem toNat_small {f : ℕ} (h : f < 2 ^ 32) : (BitVec.ofNat 32 f).toNat = f := by
  rw [BitVec.toNat_ofNat]; exact Nat.mod_eq_of_lt h

theorem off11_eq {f : ℕ} (h : f < 2 ^ 32) : k1_off11 (BitVec.ofNat 32 f) = ![f % 8192] := by
  show ![(Scalar.andi (BitVec.ofNat 32 f) 8191#32).toNat] = _
  rw [and_ofNat f h, toNat_small (by omega)]
theorem off12_eq {f : ℕ} (h : f < 2 ^ 32) : k1_off12 (BitVec.ofNat 32 f) = ![f] := by
  show ![(BitVec.ofNat 32 f).toNat] = _
  rw [toNat_small h]
theorem off13_eq {f : ℕ} (h : f < 2 ^ 32) : k1_off13 (BitVec.ofNat 32 f) = ![3 * (f % 8192)] := by
  show ![(Scalar.muli (Scalar.andi (BitVec.ofNat 32 f) 8191#32) 3#32).toNat] = _
  rw [and_ofNat f h, mul3_ofNat, toNat_small (by omega)]
theorem off14_eq {f : ℕ} (h : 3 * f < 2 ^ 32) : k1_off14 (BitVec.ofNat 32 f) = ![3 * f] := by
  show ![(Scalar.muli (BitVec.ofNat 32 f) 3#32).toNat] = _
  rw [mul3_ofNat, toNat_small h]

theorem chk34_ok {f : ℕ} (h8 : 8 ∣ f) (hf : f + 2048 ≤ 2097152) : k1_chk34 (BitVec.ofNat 32 f) := by
  have h1 : f % 8192 ≤ 8184 := by omega
  unfold k1_chk34
  rw [off11_eq (by omega), off12_eq (by omega), off13_eq (by omega), off14_eq (by omega),
    show k1_mult3 (BitVec.ofNat 32 f) = BitVec.ofNat 32 (f % 8192) from and_ofNat f (by omega),
    show k1_mult4 (BitVec.ofNat 32 f) = BitVec.ofNat 32 f from rfl,
    show k1_mult5 (BitVec.ofNat 32 f) = BitVec.ofNat 32 (3 * (f % 8192)) by
      show Scalar.muli (Scalar.andi (BitVec.ofNat 32 f) 8191#32) 3#32 = _
      rw [and_ofNat f (by omega), mul3_ofNat],
    show k1_mult6 (BitVec.ofNat 32 f) = BitVec.ofNat 32 (3 * f) from mul3_ofNat f,
    toNat_small (by omega), toNat_small (by omega), toNat_small (by omega), toNat_small (by omega)]
  refine ⟨by omega, h8, fun x => ?_, fun x => ?_, by omega, by omega, fun x => ?_, fun x => ?_⟩
  · rw [Subsingleton.elim x 0]; show f % 8192 + 2048 ≤ 10240; omega
  · rw [Subsingleton.elim x 0]; show f + 2048 ≤ 2097152; omega
  · rw [Subsingleton.elim x 0]; show 3 * (f % 8192) + 6144 ≤ 30720; omega
  · rw [Subsingleton.elim x 0]; show 3 * f + 6144 ≤ 6291456; omega

variable {mw : ℕ → BitVec 32} {d : Dev nD} {a : ℕ} {Y : ℕ → ℕ → F .f32}

variable (i : grid1.Coords) (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

theorem t4_body (v1 v13 v16 v17 v31 : BitVec 32) (v33 : IVec S16 32) (G : ℕ → BitVec 32) (k : Fin k1_t4_loop.trips) (acc : BitVec 32) :
    (own (F := F) (e := .i32) (thr d i) arg12 fullShare Set.univ (shadG 8192 (16 * k.val) G) : sProp (MM F))
      ⊢ wp frame (wpE (defs₀ (F := F)) 𝒱₀ (thr d i) none) Set.univ (k1_t4_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 lanesV v13 v16 v17 v31 v33 k acc)
        (fun _ => own (F := F) (e := .i32) (thr d i) arg12 fullShare Set.univ (shadG 8192 (16 * (k.val + 1)) G)) := by
  have hk : k.val < 128 := k.isLt
  unfold k1_t4_body
  exact refresh_step (c := thr d i) rfl (by rw [k1_off7_eq]; rfl) (by rw [k1_off8_eq]; show _ + _ = _; omega) (by omega)

theorem t5_body (v1 v13 v16 v17 v31 : BitVec 32) (v33 : IVec S16 32) (G : ℕ → F .f32) (k : Fin k1_t5_loop.trips) (acc : BitVec 32) :
    (own (F := F) (e := .f32) (thr d i) arg13 fullShare Set.univ (shadG 24576 (16 * k.val) G) : sProp (MM F))
      ⊢ wp frame (wpE (defs₀ (F := F)) 𝒱₀ (thr d i) none) Set.univ (k1_t5_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 lanesV v13 v16 v17 v31 v33 k acc)
        (fun _ => own (F := F) (e := .f32) (thr d i) arg13 fullShare Set.univ (shadG 24576 (16 * (k.val + 1)) G)) := by
  have hk : k.val < 384 := k.isLt
  unfold k1_t5_body
  exact refresh_step (c := thr d i) rfl (by rw [k1_off9_eq]; rfl) (by rw [k1_off10_eq]; show _ + _ = _; omega) (by omega)

/-- What the writing of blocks keeps: the rings filled from rank `a` up to rank `o`, and the two outputs written from rank `s` up to rank `f`. -/
def flushInv (d : Dev nD) (mw : ℕ → BitVec 32) (Y : ℕ → ℕ → F .f32) (a o lo hi s f : ℕ) (O : CellTallies nD τ sig (HIx 2)) (W₀ : Waits sig (HIx 2)) : sProp (MM F) :=
  iprop(ringO d i arg12 mw a o ∗ ringX d i arg13 Y mw a o o o
    ∗ outO (e := .i32) (thr d i) arg9 (Set.Ico lo hi) (Set.Ico s f) (occV mw)
    ∗ outO (e := .f32) (thr d i) arg8 (Set.Ico (3 * lo) (3 * hi)) (Set.Ico (3 * s) (3 * f)) (xwV Y mw)
    ∗ semVal (thr d i, .dma z6.sem) 0 ∗ semVal (thr d i, .dma z7.sem) 0 ∗ tick (thr d i) default O W₀)

/-- One block of the rings goes out. -/
theorem t3_body (v1 v13 v16 v17 v31 : BitVec 32) (v33 : IVec S16 32) (arg27 v229 : BitVec 32) (hw33 : k1_chk33 arg27 v229) (k : Fin (k1_t3_loop arg27 v229).trips)
    {o lo hi s f : ℕ} {O : CellTallies nD τ sig (HIx 2)} {W₀ : Waits sig (HIx 2)} {Q : BitVec 32 → sProp (MM F)}
    (h8 : 8 ∣ f) (hi' : hi ≤ 2097152) (hlo : lo ≤ f) (hf : f + 2048 ≤ hi) (ha : a ≤ f) (hfo : f + 2048 ≤ o) (ho : o ≤ f + 8192) :
    (flushInv i arg8 arg9 arg12 arg13 z6 z7 d mw Y a o lo hi s f O W₀ : sProp (MM F))
      ⊢ iprop((flushInv i arg8 arg9 arg12 arg13 z6 z7 d mw Y a o lo hi s (f + 2048) O W₀ -∗ Q (BitVec.ofNat 32 (f + 2048)))
        -∗ wp frame (wpE (defs₀ (F := F)) 𝒱₀ (thr d i) none) Set.univ
          (k1_t3_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 lanesV v13 v16 v17 v31 v33 arg27 v229 hw33 k (BitVec.ofNat 32 f)) Q) := by
  unfold flushInv
  iintro ⟨HO, HX, H9, H8, Hs6, Hs7, HT⟩ Hk
  unfold k1_t3_body
  iapply (assume_ok (c := thr d i) (chk34_ok h8 (by omega)))
  rw [and_ofNat f (by omega)]
  unfold ringO ringX
  icases HO with ⟨%G, HO, %hG⟩
  icases HX with ⟨%H, HX, %hH⟩
  have hstep : ∀ J : Prog (TpuEff nD τ sig (Elt F) Λ₀ (thr d i).2) (BitVec 32), (iprop(own (F := F) (e := .i32) (thr d i) arg12 fullShare Set.univ G ∗ own (F := F) (e := .f32) (thr d i) arg13 fullShare Set.univ H) : sProp (MM F))
      ⊢ iprop((iprop(∃ (G' : ℕ → BitVec 32) (H' : ℕ → F .f32), own (F := F) (e := .i32) (thr d i) arg12 fullShare Set.univ G' ∗ own (F := F) (e := .f32) (thr d i) arg13 fullShare Set.univ H'
          ∗ ⌜Ring 1 0 a o (occV mw) G' ∧ (Ring 3 0 a o (fun p => Y 0 (nthOf mw p)) H' ∧ Ring 3 1 a o (fun p => Y 1 (nthOf mw p)) H' ∧ Ring 3 2 a o (fun p => Y 2 (nthOf mw p)) H')
            ∧ (f % 8192 + 2048 ≤ 8192 ∨ (2048 ≤ 2048 ∧ ∀ n < 2048, G' (8192 + n) = G' n)) ∧ (f % 8192 + 2048 ≤ 8192 ∨ (2048 ≤ 2048 ∧ ∀ n < 6144, H' (24576 + n) = H' n))⌝) -∗ wp frame (wpE (defs₀ (F := F)) 𝒱₀ (thr d i) none) Set.univ J Q)
        -∗ wp frame (wpE (defs₀ (F := F)) 𝒱₀ (thr d i) none) Set.univ
        (if Scalar.cmpi .ne (Scalar.extui (Scalar.cmpi .sgt (BitVec.ofNat 32 (f % 8192)) 6144#32)) 0#32 = 1#1 then
          (Scf.Loop.for k1_t4_loop k1_t4_ok 0#32 (k1_t4_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 lanesV v13 v16 v17 v31 v33) >>= fun _ =>
            Scf.Loop.for k1_t5_loop k1_t5_ok 0#32 (k1_t5_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 lanesV v13 v16 v17 v31 v33) >>= fun _ => J)
        else J) Q) := by
    intro J
    iintro ⟨HO, HX⟩ HK
    by_cases hc : 6144 < f % 8192
    · rw [if_pos ((ask_sgt (by omega) (by omega)).mpr hc)]
      iapply (Scf.wp_for_bind frame (wpE (defs₀ (F := F)) 𝒱₀ (thr d i) none) Set.univ k1_t4_loop.lb k1_t4_loop.ub k1_t4_loop.st k1_t4_ok 0#32
        (k1_t4_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 lanesV v13 v16 v17 v31 v33)
        (fun n _ => own (F := F) (e := .i32) (thr d i) arg12 fullShare Set.univ (shadG 8192 (16 * n) G))
        (fun k acc => t4_body i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 v13 v16 v17 v31 v33 G k acc)) $$ [HO]
      · rw [show shadG 8192 (16 * 0) G = G from shadG_zero]; iexact HO
      iintro %x1 HO
      iapply (Scf.wp_for_bind frame (wpE (defs₀ (F := F)) 𝒱₀ (thr d i) none) Set.univ k1_t5_loop.lb k1_t5_loop.ub k1_t5_loop.st k1_t5_ok 0#32
        (k1_t5_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 lanesV v13 v16 v17 v31 v33)
        (fun n _ => own (F := F) (e := .f32) (thr d i) arg13 fullShare Set.univ (shadG 24576 (16 * n) H))
        (fun k acc => t5_body i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 v13 v16 v17 v31 v33 H k acc)) $$ [HX]
      · rw [show shadG 24576 (16 * 0) H = H from shadG_zero]; iexact HX
      iintro %x2 HX
      iapply HK
      iexists (shadG 8192 2048 G)
      iexists (shadG 24576 6144 H)
      isplitl [HO]; · iexact HO
      isplitl [HX]; · iexact HX
      ipureintro
      exact ⟨shadG_ring _ hG, ⟨shadG_ring3 _ (by omega) hH.1, shadG_ring3 _ (by omega) hH.2.1, shadG_ring3 _ (by omega) hH.2.2⟩,
        .inr ⟨Nat.le_refl _, fun n hn => shadG_shad (by omega) n hn⟩, .inr ⟨Nat.le_refl _, fun n hn => shadG_shad (by omega) n hn⟩⟩
    · rw [if_neg (fun h => hc ((ask_sgt (by omega) (by omega)).mp h))]
      iapply HK
      iexists G
      iexists H
      isplitl [HO]; · iexact HO
      isplitl [HX]; · iexact HX
      ipureintro
      exact ⟨hG, hH, .inl (by omega), .inl (by omega)⟩
  dsimp only
  iapply (hstep _) $$ [HO HX]
  · isplitl [HO] <;> iassumption
  iintro ⟨%G', %H', HO, HX, %hGH⟩
  obtain ⟨hG', hH', hs1, hs2⟩ := hGH
  iapply (copy_out (c := thr d i) (src := arg12) (dst := arg9) (V := occV mw) (I := Set.Ico lo hi) (W := Set.Ico s f) (by decide) rfl
    (fun n h1 h2 => by rw [off12_eq (by omega)] at h1 h2; exact ⟨le_trans hlo h1, lt_of_lt_of_le h2 hf⟩)
    (fun j hj => by
      rw [off11_eq (by omega), off12_eq (by omega)]
      exact hG'.sliceO ha hfo ho hs1 j hj)) $$ [HO H9 Hs6 HT]
  · isplitl [HO]; · iexact HO
    isplitl [H9]; · iexact H9
    isplitl [Hs6] <;> iassumption
  iintro ⟨HO, H9, Hs6, HT⟩
  iapply (copy_out (c := thr d i) (src := arg13) (dst := arg8) (V := xwV Y mw) (I := Set.Ico (3 * lo) (3 * hi)) (W := Set.Ico (3 * s) (3 * f)) (by decide) rfl
    (fun n h1 h2 => by
      rw [off14_eq (by omega)] at h1 h2
      have h1' : 3 * f ≤ n := h1
      have h2' : n < 3 * f + 6144 := h2
      exact ⟨by omega, by omega⟩)
    (fun j hj => by
      rw [off13_eq (by omega), off14_eq (by omega)]
      exact Ring.sliceX hH' ha hfo ho hs2 j hj)) $$ [HX H8 Hs7 HT]
  · isplitl [HX]; · iexact HX
    isplitl [H8]; · iexact H8
    isplitl [Hs7] <;> iassumption
  iintro ⟨HX, H8, Hs7, HT⟩
  rw [wp_pure, show Scalar.addi (BitVec.ofNat 32 f) 2048#32 = BitVec.ofNat 32 (f + 2048) from WordCmp.addi_ofNat f 2048]
  imodintro
  iapply Hk
  isplitl [HO]
  · iexists G'; isplitl [HO]; · iexact HO
    ipureintro; exact hG'
  isplitl [HX]
  · iexists H'; isplitl [HX]; · iexact HX
    ipureintro; exact hH'
  isplitl [H9]
  · iapply (outO_mono (c := thr d i) (m := arg9) (fun p hp => by
      rw [off12_eq (by omega)]
      by_cases h : p < f
      · exact .inl ⟨hp.1, h⟩
      · exact .inr ⟨Nat.le_of_not_lt h, hp.2⟩)) $$ H9
  isplitl [H8]
  · iapply (outO_mono (c := thr d i) (m := arg8) (fun p hp => by
      rw [off14_eq (by omega)]
      have h1 : 3 * s ≤ p := hp.1
      have h2 : p < 3 * (f + 2048) := hp.2
      by_cases h : p < 3 * f
      · exact .inl ⟨h1, h⟩
      · exact .inr ⟨Nat.le_of_not_lt h, show p < 3 * f + 6144 by omega⟩)) $$ H8
  isplitl [Hs6]; · iexact Hs6
  isplitl [Hs7]; · iexact Hs7
  iexact HT

end Cert.Proof.Vox
-- ==== Proof.Words.lean ====
/-
  The kernel's arithmetic on 32-bit words, on words that hold small natural numbers.
-/
module

public import proofs.«01_k».proof.Proof.Flush

@[expose] public section

namespace Cert.Proof.Vox

open Idealize.ShloMosaic

theorem sub_ofNat {a b : ℕ} (h : b ≤ a) : Scalar.subi (BitVec.ofNat 32 a) (BitVec.ofNat 32 b) = BitVec.ofNat 32 (a - b) := by
  show BitVec.ofNat 32 a - BitVec.ofNat 32 b = _
  apply BitVec.eq_of_toNat_eq
  simp only [BitVec.toNat_sub, BitVec.toNat_ofNat]; omega

theorem add_ofNat (a b : ℕ) : Scalar.addi (BitVec.ofNat 32 a) (BitVec.ofNat 32 b) = BitVec.ofNat 32 (a + b) := WordCmp.addi_ofNat a b

theorem mul_ofNat (a b : ℕ) : Scalar.muli (BitVec.ofNat 32 a) (BitVec.ofNat 32 b) = BitVec.ofNat 32 (a * b) := by
  show BitVec.ofNat 32 a * BitVec.ofNat 32 b = _
  rw [← BitVec.ofNat_mul]

theorem slt_ofNat {a b : ℕ} (ha : a < 2 ^ 31) (hb : b < 2 ^ 31) : (BitVec.ofNat 32 a).slt (BitVec.ofNat 32 b) = decide (a < b) := by
  unfold BitVec.slt
  rw [WordCmp.toInt_ofNat_of_lt (by simpa using ha), WordCmp.toInt_ofNat_of_lt (by simpa using hb)]
  simp

theorem max0_ofNat {o f : ℕ} (ho : o < 2 ^ 31) (hf : f < 2 ^ 31) :
    Scalar.maxsi (Scalar.subi (BitVec.ofNat 32 o) (BitVec.ofNat 32 f)) 0#32 = BitVec.ofNat 32 (o - f) := by
  by_cases h : f ≤ o
  · rw [sub_ofNat h]
    show (if (0#32).slt (BitVec.ofNat 32 (o - f)) then _ else _) = _
    have := slt_ofNat (a := 0) (b := o - f) (by omega) (by omega)
    rw [show (0#32 : BitVec 32) = BitVec.ofNat 32 0 from rfl, this]
    by_cases h0 : 0 < o - f
    · rw [if_pos (by simpa using h0)]
    · rw [if_neg (by simpa using h0)]; congr 1; omega
  · rw [show o - f = 0 by omega]
    show (if (0#32).slt (BitVec.ofNat 32 o - BitVec.ofNat 32 f) then _ else _) = _
    rw [if_neg]
    unfold BitVec.slt
    have hneg : (BitVec.ofNat 32 o - BitVec.ofNat 32 f).toInt < 0 := by
      rw [BitVec.toInt_neg_iff]
      simp only [BitVec.toNat_sub, BitVec.toNat_ofNat]; omega
    have h0 : (0#32 : BitVec 32).toInt = 0 := by decide
    simp only [decide_eq_true_eq]; omega

theorem min_ofNat {a b : ℕ} (ha : a < 2 ^ 31) (hb : b < 2 ^ 31) :
    Scalar.minsi (BitVec.ofNat 32 a) (BitVec.ofNat 32 b) = BitVec.ofNat 32 (min a b) := by
  show (if (BitVec.ofNat 32 a).slt (BitVec.ofNat 32 b) then _ else _) = _
  rw [slt_ofNat ha hb]
  by_cases h : a < b
  · rw [if_pos (by simpa using h), Nat.min_eq_left (by omega)]
  · rw [if_neg (by simpa using h), Nat.min_eq_right (by omega)]

theorem and_pow_ofNat (k : ℕ) {a : ℕ} (ha : a < 2 ^ 32) (hk : k ≤ 31) :
    Scalar.andi (BitVec.ofNat 32 a) (BitVec.ofNat 32 (2 ^ k - 1)) = BitVec.ofNat 32 (a % 2 ^ k) := by
  show BitVec.ofNat 32 a &&& BitVec.ofNat 32 (2 ^ k - 1) = _
  apply BitVec.eq_of_toNat_eq
  have h1 : 2 ^ k ≤ 2 ^ 31 := Nat.pow_le_pow_right (by omega) hk
  have h2 : a % 2 ^ k < 2 ^ k := Nat.mod_lt _ (by positivity)
  rw [BitVec.toNat_and, BitVec.toNat_ofNat, BitVec.toNat_ofNat, BitVec.toNat_ofNat, Nat.mod_eq_of_lt ha, Nat.mod_eq_of_lt (a := 2 ^ k - 1) (by omega),
    Nat.and_two_pow_sub_one_eq_mod, Nat.mod_eq_of_lt (a := a % 2 ^ k) (by omega)]

theorem and7_ofNat {a : ℕ} (ha : a < 2 ^ 32) : Scalar.andi (BitVec.ofNat 32 a) 7#32 = BitVec.ofNat 32 (a % 8) :=
  and_pow_ofNat 3 ha (by omega)

theorem shr_toNat {a : ℕ} (k : ℕ) (ha : a < 2 ^ 31) (hk : k < 32) : ((BitVec.ofNat 32 a).sshiftRight' (BitVec.ofNat 32 k)).toNat = a / 2 ^ k := by
  have hm : (BitVec.ofNat 32 a).msb = false := by
    rw [BitVec.msb_eq_decide, decide_eq_false_iff_not, BitVec.toNat_ofNat]; omega
  show ((BitVec.ofNat 32 a).sshiftRight (BitVec.ofNat 32 k).toNat).toNat = _
  rw [BitVec.sshiftRight_eq_of_msb_false hm, BitVec.toNat_ushiftRight, BitVec.toNat_ofNat, BitVec.toNat_ofNat,
    Nat.mod_eq_of_lt (a := a) (by omega), Nat.mod_eq_of_lt (a := k) (by omega), Nat.shiftRight_eq_div_pow]

theorem shr_ofNat (u : ArithUnit) {a : ℕ} (k : ℕ) (ha : a < 2 ^ 31) (hk : k < 32) :
    IntOp.shrsi u (BitVec.ofNat 32 a) (BitVec.ofNat 32 k) = BitVec.ofNat 32 (a / 2 ^ k) := by
  unfold IntOp.shrsi
  rw [if_pos (by rw [BitVec.toNat_ofNat]; omega)]
  apply BitVec.eq_of_toNat_eq
  rw [shr_toNat k ha hk, BitVec.toNat_ofNat, Nat.mod_eq_of_lt]
  exact lt_of_le_of_lt (Nat.div_le_self _ _) (by omega)

theorem trips_ofNat {n : ℕ} (h : n < 2 ^ 31) : Scf.trips 0#32 (BitVec.ofNat 32 n) 1#32 = n := by
  unfold Scf.trips
  rw [WordCmp.toInt_ofNat_of_lt (by simpa using h), show (0#32 : BitVec 32).toInt = 0 by decide, show (1#32 : BitVec 32).toInt = 1 by decide]
  omega

theorem ok_ofNat {n : ℕ} (h : n < 2 ^ 31) : Scf.OK 0#32 (BitVec.ofNat 32 n) 1#32 := by
  unfold Scf.OK
  rw [trips_ofNat h, show (0#32 : BitVec 32).toInt = 0 by decide, show (1#32 : BitVec 32).toInt = 1 by decide]
  refine ⟨by omega, ?_⟩
  show (0 : ℤ) + n * 1 < 2 ^ 31
  omega

/-- Whether two numbers are equal, as the kernel asks it. -/
theorem eq_ofNat {a b : ℕ} (ha : a < 2 ^ 32) (hb : b < 2 ^ 32) : (BitVec.ofNat 32 a = BitVec.ofNat 32 b) ↔ a = b := by
  constructor
  · intro h
    have := congrArg BitVec.toNat h
    rwa [toNat_small ha, toNat_small hb] at this
  · rintro rfl; rfl

end Cert.Proof.Vox
-- ==== Proof.T2.lean ====
/-
  The loop over the groups of a sub-chunk, four groups to a trip.
-/
module

public import proofs.«01_k».proof.Proof.RingOps

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

variable {mw : ℕ → BitVec 32} {d : Dev nD} {a : ℕ} {nz sc of : ℕ → F .f32}

theorem lt16 (x : S16.Idx) : (x 0).val < 16 := (x 0).isLt

/-- The number of a group, as the word the loop computes. -/
theorem gw_eq (k : Fin k1_t2_loop.trips) (u : ℕ) (hu : u < 4) :
    Scalar.addi (Scalar.muli (Scf.iv 0#32 1#32 k.val) 4#32) (BitVec.ofNat 32 u) = BitVec.ofNat 32 (4 * k.val + u) := by
  have hk : k.val < 64 := k.isLt
  show (0#32 + BitVec.ofNat 32 k.val * 1#32) * 4#32 + BitVec.ofNat 32 u = _
  apply BitVec.eq_of_toNat_eq
  simp only [BitVec.toNat_add, BitVec.toNat_mul, BitVec.toNat_ofNat]
  omega

/-- The bound of a single index vector, lane by lane. -/
theorem chk_one {n : ℕ} {v : IVec S16 32} (h : ∀ x, (v x).toNat < n) :
    ∀ (a : Fin 1) (x : S16.Idx), ((![v] : Fin 1 → IVec S16 32) a x).toNat < (⟨1, ![n]⟩ : Shape).size a := by
  intro a x
  rw [Subsingleton.elim a 0]
  exact h x

variable (i : grid1.Coords) (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

/-- What the loop over groups keeps: the sub-chunk's mask and noise, and the rings filled up to the count of the vertices before vertex `v`. -/
def groupInv (d : Dev nD) (mw : ℕ → BitVec 32) (nz sc of : ℕ → F .f32) (a base v : ℕ) : sProp (MM F) :=
  iprop(own (F := F) (e := .i32) (thr d i) arg10 fullShare Set.univ (fun n => mw (base + n))
    ∗ own (F := F) (e := .f32) (thr d i) arg11 fullShare Set.univ (fun n => nz (3 * base + n))
    ∗ ringO d i arg12 mw a (cnt mw v) ∗ ringX d i arg13 (Yv nz sc of) mw a (cnt mw v) (cnt mw v) (cnt mw v))

set_option maxHeartbeats 400000 in
theorem t2_body (hb : Bin mw) (v1 : BitVec 32) (v13 v16 v17 v31 : BitVec 32) (v33 : IVec S16 32)
    (l39 l41 l43 l45 l47 l49 : Vec F S1x16 .f32) (base : ℕ) (hbase : base + 4096 ≤ 2097152)
    (h39 : ∀ x, k1_pay291 l39 x = sc 0) (h41 : ∀ x, k1_pay292 l41 x = sc 1) (h43 : ∀ x, k1_pay293 l43 x = sc 2)
    (h45 : ∀ x, k1_pay294 l45 x = of 0) (h47 : ∀ x, k1_pay295 l47 x = of 1) (h49 : ∀ x, k1_pay296 l49 x = of 2)
    (k : Fin k1_t2_loop.trips) (o : BitVec 32) (ho : o = BitVec.ofNat 32 (cnt mw (base + 64 * k.val))) (Q : BitVec 32 → sProp (MM F)) :
    (groupInv i arg10 arg11 arg12 arg13 d mw nz sc of a base (base + 64 * k.val) : sProp (MM F))
      ⊢ iprop((groupInv i arg10 arg11 arg12 arg13 d mw nz sc of a base (base + 64 * (k.val + 1)) -∗ Q (BitVec.ofNat 32 (cnt mw (base + 64 * (k.val + 1)))))
        -∗ wp frame (wpE (defs₀ (F := F)) 𝒱₀ (thr d i) none) Set.univ
          (k1_t2_body i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 lanesV v13 v16 v17 v31 v33 l39 l41 l43 l45 l47 l49 (BitVec.ofNat 32 base) k o) Q) := by
  subst ho
  unfold k1_t2_body groupInv
  iintro ⟨Hm, Hn, Ho, Hx⟩ Hk
  have hk : k.val < 64 := k.isLt
  rw [k1_part1_eq_skeleton]; unfold k1_part1_skel; simp only [bind_assoc, pure_bind]
  iapply (own_ld (c := thr d i) (m := arg10) (fun j hj => Set.mem_univ _)) $$ Hm
  iintro %mv0 %hv0 Hm
  have hl0 : Lane mw (base + 64 * k.val) mv0 := by
    intro x; rw [hv0 x, k1_off3_eq]; show mw (base + (_ + _)) = _; congr 1; simp only [Matrix.cons_val_zero]; omega
  have ro0 : (BitVec.ofNat 32 (cnt mw (base + 64 * k.val))) = BitVec.ofNat 32 (cnt mw (base + 64 * k.val)) := rfl
  have e0i : k1_pay13 (BitVec.ofNat 32 (cnt mw (base + 64 * k.val))) mv0 = rIdx (BitVec.ofNat 32 (cnt mw (base + 64 * k.val))) mv0 := by rw [← ro0]; rfl
  have e0m : k1_pay11 mv0 = gMask mv0 := rfl
  have b0 := fun x => rIdx_lt (BitVec.ofNat 32 (cnt mw (base + 64 * k.val))) mv0 x
  have e0r0 : k1_pay25 (k1_pay13 (BitVec.ofNat 32 (cnt mw (base + 64 * k.val))) mv0) = x3 (rIdx (BitVec.ofNat 32 (cnt mw (base + 64 * k.val))) mv0) := by rw [e0i]; rfl
  have c0r0 : ∀ x : S16.Idx, (k1_pay25 (k1_pay13 (BitVec.ofNat 32 (cnt mw (base + 64 * k.val))) mv0) x).toNat < 30720 := by intro x; rw [e0r0, x3_toNat (by have := b0 x; omega)]; have := b0 x; omega
  have t0n0 : ∀ x : S16.Idx, (k1_pay19 lanesV 0#32 1#32 k x).toNat = 3 * (16 * (4 * k.val + 0) + (x 0).val) + 0 := by
    intro x; show (x3 (lrow (Scalar.addi (Scalar.muli (Scf.iv 0#32 1#32 k.val) 4#32) 0#32)) x).toNat = _; rw [gw_eq k 0 (by decide), x3_toNat (by rw [lrow_toNat (by omega)]; have := lt16 x; omega), lrow_toNat (by omega)]; rfl
  have e0r1 : k1_pay26 (k1_pay25 (k1_pay13 (BitVec.ofNat 32 (cnt mw (base + 64 * k.val))) mv0)) = x3c (rIdx (BitVec.ofNat 32 (cnt mw (base + 64 * k.val))) mv0) 1#32 := by rw [e0i]; rfl
  have c0r1 : ∀ x : S16.Idx, (k1_pay26 (k1_pay25 (k1_pay13 (BitVec.ofNat 32 (cnt mw (base + 64 * k.val))) mv0)) x).toNat < 30720 := by intro x; rw [e0r1, x3c_toNat (k := 1) (by have := b0 x; omega) (by decide)]; have := b0 x; omega
  have t0n1 : ∀ x : S16.Idx, (k1_pay20 lanesV 0#32 1#32 k x).toNat = 3 * (16 * (4 * k.val + 0) + (x 0).val) + 1 := by
    intro x; show (x3c (lrow (Scalar.addi (Scalar.muli (Scf.iv 0#32 1#32 k.val) 4#32) 0#32)) 1#32 x).toNat = _; rw [gw_eq k 0 (by decide), x3c_toNat (k := 1) (by rw [lrow_toNat (by omega)]; have := lt16 x; omega) (by decide), lrow_toNat (by omega)]
  have e0r2 : k1_pay27 (k1_pay25 (k1_pay13 (BitVec.ofNat 32 (cnt mw (base + 64 * k.val))) mv0)) = x3c (rIdx (BitVec.ofNat 32 (cnt mw (base + 64 * k.val))) mv0) 2#32 := by rw [e0i]; rfl
  have c0r2 : ∀ x : S16.Idx, (k1_pay27 (k1_pay25 (k1_pay13 (BitVec.ofNat 32 (cnt mw (base + 64 * k.val))) mv0)) x).toNat < 30720 := by intro x; rw [e0r2, x3c_toNat (k := 2) (by have := b0 x; omega) (by decide)]; have := b0 x; omega
  have t0n2 : ∀ x : S16.Idx, (k1_pay21 (k1_pay14 lanesV 0#32 1#32 k) x).toNat = 3 * (16 * (4 * k.val + 0) + (x 0).val) + 2 := by
    intro x; show (x3c (lrow (Scalar.addi (Scalar.muli (Scf.iv 0#32 1#32 k.val) 4#32) 0#32)) 2#32 x).toNat = _; rw [gw_eq k 0 (by decide), x3c_toNat (k := 2) (by rw [lrow_toNat (by omega)]; have := lt16 x; omega) (by decide), lrow_toNat (by omega)]
  have e0v : ∀ x : S16.Idx, k1_pay15 lanesV (BitVec.ofNat 32 base) 0#32 1#32 k x = BitVec.ofNat 32 (base + 64 * k.val + (x 0).val) := by
    intro x; show vidx (BitVec.ofNat 32 base) (Scalar.addi (Scalar.muli (Scf.iv 0#32 1#32 k.val) 4#32) 0#32) x = _; rw [gw_eq k 0 (by decide), vidx_apply (by omega)]; congr 1; omega
  iapply (assume_ok (c := thr d i) (show k1_chk8 _ from chk_one (fun x => by rw [e0i]; have := b0 x; omega)))
  iapply (assume_ok (c := thr d i) (show k1_chk5 _ from chk_one (fun x => by rw [t0n0 x]; have := lt16 x; omega)))
  iapply (own_ldIdx (c := thr d i) (m := arg11)) $$ Hn
  iintro %n00 %hn00 Hn
  have e0x0 : ∀ x : S16.Idx, k1_pay22 (k1_pay291 l39) (k1_pay294 l45) (k1_pay16 (F := F) lanesV (BitVec.ofNat 32 base) 0#32 1#32 k) n00 x = Yv nz sc of 0 (base + 64 * k.val + (x 0).val) := by
    intro x; show ptv (cx (k1_pay15 lanesV (BitVec.ofNat 32 base) 0#32 1#32 k x)) (n00 x) ((k1_pay291 l39) x) ((k1_pay294 l45) x) = _
    rw [e0v x, hn00 x, h39 x, h45 x]; unfold Yv; congr 1
    show nz (3 * base + (k1_pay19 lanesV 0#32 1#32 k x).toNat) = _; rw [t0n0 x]; congr 1; omega
  iapply (assume_ok (c := thr d i) (show k1_chk6 _ from chk_one (fun x => by rw [t0n1 x]; have := lt16 x; omega)))
  iapply (own_ldIdx (c := thr d i) (m := arg11)) $$ Hn
  iintro %n01 %hn01 Hn
  have e0x1 : ∀ x : S16.Idx, k1_pay23 (k1_pay292 l41) (k1_pay295 l47) (k1_pay17 (F := F) lanesV (BitVec.ofNat 32 base) 0#32 1#32 k) n01 x = Yv nz sc of 1 (base + 64 * k.val + (x 0).val) := by
    intro x; show ptv (cy (k1_pay15 lanesV (BitVec.ofNat 32 base) 0#32 1#32 k x)) (n01 x) ((k1_pay292 l41) x) ((k1_pay295 l47) x) = _
    rw [e0v x, hn01 x, h41 x, h47 x]; unfold Yv; congr 1
    show nz (3 * base + (k1_pay20 lanesV 0#32 1#32 k x).toNat) = _; rw [t0n1 x]; congr 1; omega
  rw [k1_part2_eq_skeleton]; unfold k1_part2_skel; simp only [bind_assoc, pure_bind]
  iapply (assume_ok (c := thr d i) (show k1_chk7 _ from chk_one (fun x => by rw [t0n2 x]; have := lt16 x; omega)))
  iapply (own_ldIdx (c := thr d i) (m := arg11)) $$ Hn
  iintro %n02 %hn02 Hn
  have e0x2 : ∀ x : S16.Idx, k1_pay24 (k1_pay293 l43) (k1_pay296 l49) (k1_pay18 (F := F) lanesV (BitVec.ofNat 32 base) 0#32 1#32 k) n02 x = Yv nz sc of 2 (base + 64 * k.val + (x 0).val) := by
    intro x; show ptv (cz (k1_pay15 lanesV (BitVec.ofNat 32 base) 0#32 1#32 k x)) (n02 x) ((k1_pay293 l43) x) ((k1_pay296 l49) x) = _
    rw [e0v x, hn02 x, h43 x, h49 x]; unfold Yv; congr 1
    show nz (3 * base + (k1_pay21 (k1_pay14 lanesV 0#32 1#32 k) x).toNat) = _; rw [t0n2 x]; congr 1; omega
  iapply (assume_ok (c := thr d i) (show k1_chk9 _ from chk_one (c0r0)))
  iapply (ringO_store hb hl0 (by omega) e0m e0i e0v) $$ Ho
  iintro Ho
  iapply (ringX_store0 (Y := Yv nz sc of) hb hl0 (by omega) e0m e0r0 e0x0) $$ Hx
  iintro Hx
  iapply (assume_ok (c := thr d i) (show k1_chk10 _ from chk_one (c0r1)))
  iapply (ringX_store1 (Y := Yv nz sc of) hb hl0 (by omega) e0m e0r1 e0x1) $$ Hx
  iintro Hx
  iapply (assume_ok (c := thr d i) (show k1_chk11 _ from chk_one (c0r2)))
  iapply (ringX_store2 (Y := Yv nz sc of) hb hl0 (by omega) e0m e0r2 e0x2) $$ Hx
  iintro Hx
  iapply (own_ld (c := thr d i) (m := arg10) (fun j hj => Set.mem_univ _)) $$ Hm
  iintro %mv1 %hv1 Hm
  have hl1 : Lane mw (base + 64 * k.val + 16) mv1 := by
    intro x; rw [hv1 x, k1_off4_eq]; show mw (base + (_ + _)) = _; congr 1; simp only [Matrix.cons_val_zero]; omega
  have ro1 : (Scalar.addi (BitVec.ofNat 32 (cnt mw (base + 64 * k.val))) (extractAt ![15] (k1_pay12 mv0) inpos_S16_p15)) = BitVec.ofNat 32 (cnt mw (base + 64 * k.val + 16)) := by
    rw [ro0]; exact (hl0.next hb).trans (by rw [Nat.add_assoc])
  have e1i : k1_pay30 (BitVec.ofNat 32 (cnt mw (base + 64 * k.val))) (extractAt ![15] (k1_pay12 mv0) inpos_S16_p15) mv1 = rIdx (BitVec.ofNat 32 (cnt mw (base + 64 * k.val + 16))) mv1 := by rw [← ro1]; rfl
  have e1m : k1_pay28 mv1 = gMask mv1 := rfl
  have b1 := fun x => rIdx_lt (BitVec.ofNat 32 (cnt mw (base + 64 * k.val + 16))) mv1 x
  have e1r0 : k1_pay39 (k1_pay30 (BitVec.ofNat 32 (cnt mw (base + 64 * k.val))) (extractAt ![15] (k1_pay12 mv0) inpos_S16_p15) mv1) = x3 (rIdx (BitVec.ofNat 32 (cnt mw (base + 64 * k.val + 16))) mv1) := by rw [e1i]; rfl
  have c1r0 : ∀ x : S16.Idx, (k1_pay39 (k1_pay30 (BitVec.ofNat 32 (cnt mw (base + 64 * k.val))) (extractAt ![15] (k1_pay12 mv0) inpos_S16_p15) mv1) x).toNat < 30720 := by intro x; rw [e1r0, x3_toNat (by have := b1 x; omega)]; have := b1 x; omega
  have t1n0 : ∀ x : S16.Idx, (k1_pay33 lanesV (Scalar.addi (Scalar.muli (Scf.iv 0#32 1#32 k.val) 4#32) 1#32) 16#32 x).toNat = 3 * (16 * (4 * k.val + 1) + (x 0).val) + 0 := by
    intro x; show (x3 (lrow (Scalar.addi (Scalar.muli (Scf.iv 0#32 1#32 k.val) 4#32) 1#32)) x).toNat = _; rw [gw_eq k 1 (by decide), x3_toNat (by rw [lrow_toNat (by omega)]; have := lt16 x; omega), lrow_toNat (by omega)]; rfl
  have e1r1 : k1_pay40 (k1_pay39 (k1_pay30 (BitVec.ofNat 32 (cnt mw (base + 64 * k.val))) (extractAt ![15] (k1_pay12 mv0) inpos_S16_p15) mv1)) = x3c (rIdx (BitVec.ofNat 32 (cnt mw (base + 64 * k.val + 16))) mv1) 1#32 := by rw [e1i]; rfl
  have c1r1 : ∀ x : S16.Idx, (k1_pay40 (k1_pay39 (k1_pay30 (BitVec.ofNat 32 (cnt mw (base + 64 * k.val))) (extractAt ![15] (k1_pay12 mv0) inpos_S16_p15) mv1)) x).toNat < 30720 := by intro x; rw [e1r1, x3c_toNat (k := 1) (by have := b1 x; omega) (by decide)]; have := b1 x; omega
  have t1n1 : ∀ x : S16.Idx, (k1_pay34 lanesV (Scalar.addi (Scalar.muli (Scf.iv 0#32 1#32 k.val) 4#32) 1#32) 16#32 x).toNat = 3 * (16 * (4 * k.val + 1) + (x 0).val) + 1 := by
    intro x; show (x3c (lrow (Scalar.addi (Scalar.muli (Scf.iv 0#32 1#32 k.val) 4#32) 1#32)) 1#32 x).toNat = _; rw [gw_eq k 1 (by decide), x3c_toNat (k := 1) (by rw [lrow_toNat (by omega)]; have := lt16 x; omega) (by decide), lrow_toNat (by omega)]
  have e1r2 : k1_pay41 (k1_pay39 (k1_pay30 (BitVec.ofNat 32 (cnt mw (base + 64 * k.val))) (extractAt ![15] (k1_pay12 mv0) inpos_S16_p15) mv1)) = x3c (rIdx (BitVec.ofNat 32 (cnt mw (base + 64 * k.val + 16))) mv1) 2#32 := by rw [e1i]; rfl
  have c1r2 : ∀ x : S16.Idx, (k1_pay41 (k1_pay39 (k1_pay30 (BitVec.ofNat 32 (cnt mw (base + 64 * k.val))) (extractAt ![15] (k1_pay12 mv0) inpos_S16_p15) mv1)) x).toNat < 30720 := by intro x; rw [e1r2, x3c_toNat (k := 2) (by have := b1 x; omega) (by decide)]; have := b1 x; omega
  have t1n2 : ∀ x : S16.Idx, (k1_pay35 lanesV (Scalar.addi (Scalar.muli (Scf.iv 0#32 1#32 k.val) 4#32) 1#32) 16#32 x).toNat = 3 * (16 * (4 * k.val + 1) + (x 0).val) + 2 := by
    intro x; show (x3c (lrow (Scalar.addi (Scalar.muli (Scf.iv 0#32 1#32 k.val) 4#32) 1#32)) 2#32 x).toNat = _; rw [gw_eq k 1 (by decide), x3c_toNat (k := 2) (by rw [lrow_toNat (by omega)]; have := lt16 x; omega) (by decide), lrow_toNat (by omega)]
  have e1v : ∀ x : S16.Idx, k1_pay32 lanesV (BitVec.ofNat 32 base) (Scalar.addi (Scalar.muli (Scf.iv 0#32 1#32 k.val) 4#32) 1#32) 16#32 x = BitVec.ofNat 32 (base + 64 * k.val + 16 + (x 0).val) := by
    intro x; show vidx (BitVec.ofNat 32 base) (Scalar.addi (Scalar.muli (Scf.iv 0#32 1#32 k.val) 4#32) 1#32) x = _; rw [gw_eq k 1 (by decide), vidx_apply (by omega)]; congr 1; omega
  iapply (assume_ok (c := thr d i) (show k1_chk15 _ from chk_one (fun x => by rw [e1i]; have := b1 x; omega)))
  rw [k1_part3_eq_skeleton]; unfold k1_part3_skel; simp only [bind_assoc, pure_bind]
  iapply (assume_ok (c := thr d i) (show k1_chk12 _ from chk_one (fun x => by rw [t1n0 x]; have := lt16 x; omega)))
  iapply (own_ldIdx (c := thr d i) (m := arg11)) $$ Hn
  iintro %n10 %hn10 Hn
  have e1x0 : ∀ x : S16.Idx, k1_pay36 lanesV (k1_pay291 l39) (k1_pay294 l45) (BitVec.ofNat 32 base) (Scalar.addi (Scalar.muli (Scf.iv 0#32 1#32 k.val) 4#32) 1#32) 16#32 n10 x = Yv nz sc of 0 (base + 64 * k.val + 16 + (x 0).val) := by
    intro x; show ptv (cx (k1_pay32 lanesV (BitVec.ofNat 32 base) (Scalar.addi (Scalar.muli (Scf.iv 0#32 1#32 k.val) 4#32) 1#32) 16#32 x)) (n10 x) ((k1_pay291 l39) x) ((k1_pay294 l45) x) = _
    rw [e1v x, hn10 x, h39 x, h45 x]; unfold Yv; congr 1
    show nz (3 * base + (k1_pay33 lanesV (Scalar.addi (Scalar.muli (Scf.iv 0#32 1#32 k.val) 4#32) 1#32) 16#32 x).toNat) = _; rw [t1n0 x]; congr 1; omega
  iapply (assume_ok (c := thr d i) (show k1_chk13 _ from chk_one (fun x => by rw [t1n1 x]; have := lt16 x; omega)))
  iapply (own_ldIdx (c := thr d i) (m := arg11)) $$ Hn
  iintro %n11 %hn11 Hn
  have e1x1 : ∀ x : S16.Idx, k1_pay37 lanesV (k1_pay292 l41) (k1_pay295 l47) (BitVec.ofNat 32 base) (Scalar.addi (Scalar.muli (Scf.iv 0#32 1#32 k.val) 4#32) 1#32) 16#32 n11 x = Yv nz sc of 1 (base + 64 * k.val + 16 + (x 0).val) := by
    intro x; show ptv (cy (k1_pay32 lanesV (BitVec.ofNat 32 base) (Scalar.addi (Scalar.muli (Scf.iv 0#32 1#32 k.val) 4#32) 1#32) 16#32 x)) (n11 x) ((k1_pay292 l41) x) ((k1_pay295 l47) x) = _
    rw [e1v x, hn11 x, h41 x, h47 x]; unfold Yv; congr 1
    show nz (3 * base + (k1_pay34 lanesV (Scalar.addi (Scalar.muli (Scf.iv 0#32 1#32 k.val) 4#32) 1#32) 16#32 x).toNat) = _; rw [t1n1 x]; congr 1; omega
  iapply (assume_ok (c := thr d i) (show k1_chk14 _ from chk_one (fun x => by rw [t1n2 x]; have := lt16 x; omega)))
  iapply (own_ldIdx (c := thr d i) (m := arg11)) $$ Hn
  iintro %n12 %hn12 Hn
  have e1x2 : ∀ x : S16.Idx, k1_pay38 lanesV (k1_pay293 l43) (k1_pay296 l49) (BitVec.ofNat 32 base) (Scalar.addi (Scalar.muli (Scf.iv 0#32 1#32 k.val) 4#32) 1#32) 16#32 n12 x = Yv nz sc of 2 (base + 64 * k.val + 16 + (x 0).val) := by
    intro x; show ptv (cz (k1_pay32 lanesV (BitVec.ofNat 32 base) (Scalar.addi (Scalar.muli (Scf.iv 0#32 1#32 k.val) 4#32) 1#32) 16#32 x)) (n12 x) ((k1_pay293 l43) x) ((k1_pay296 l49) x) = _
    rw [e1v x, hn12 x, h43 x, h49 x]; unfold Yv; congr 1
    show nz (3 * base + (k1_pay35 lanesV (Scalar.addi (Scalar.muli (Scf.iv 0#32 1#32 k.val) 4#32) 1#32) 16#32 x).toNat) = _; rw [t1n2 x]; congr 1; omega
  iapply (assume_ok (c := thr d i) (show k1_chk16 _ from chk_one (c1r0)))
  iapply (ringO_store hb hl1 (by omega) e1m e1i e1v) $$ Ho
  iintro Ho
  iapply (ringX_store0 (Y := Yv nz sc of) hb hl1 (by omega) e1m e1r0 e1x0) $$ Hx
  iintro Hx
  iapply (assume_ok (c := thr d i) (show k1_chk17 _ from chk_one (c1r1)))
  rw [k1_part4_eq_skeleton]; unfold k1_part4_skel; simp only [bind_assoc, pure_bind]
  iapply (ringX_store1 (Y := Yv nz sc of) hb hl1 (by omega) e1m e1r1 e1x1) $$ Hx
  iintro Hx
  iapply (assume_ok (c := thr d i) (show k1_chk18 _ from chk_one (c1r2)))
  iapply (ringX_store2 (Y := Yv nz sc of) hb hl1 (by omega) e1m e1r2 e1x2) $$ Hx
  iintro Hx
  iapply (own_ld (c := thr d i) (m := arg10) (fun j hj => Set.mem_univ _)) $$ Hm
  iintro %mv2 %hv2 Hm
  have hl2 : Lane mw (base + 64 * k.val + 32) mv2 := by
    intro x; rw [hv2 x, k1_off5_eq]; show mw (base + (_ + _)) = _; congr 1; simp only [Matrix.cons_val_zero]; omega
  have ro2 : (Scalar.addi (Scalar.addi (BitVec.ofNat 32 (cnt mw (base + 64 * k.val))) (extractAt ![15] (k1_pay12 mv0) inpos_S16_p15)) (extractAt ![15] (k1_pay29 mv1) inpos_S16_p15)) = BitVec.ofNat 32 (cnt mw (base + 64 * k.val + 32)) := by
    rw [ro1]; exact (hl1.next hb).trans (by rw [Nat.add_assoc])
  have e2i : k1_pay44 (Scalar.addi (BitVec.ofNat 32 (cnt mw (base + 64 * k.val))) (extractAt ![15] (k1_pay12 mv0) inpos_S16_p15)) (extractAt ![15] (k1_pay29 mv1) inpos_S16_p15) mv2 = rIdx (BitVec.ofNat 32 (cnt mw (base + 64 * k.val + 32))) mv2 := by rw [← ro2]; rfl
  have e2m : k1_pay42 mv2 = gMask mv2 := rfl
  have b2 := fun x => rIdx_lt (BitVec.ofNat 32 (cnt mw (base + 64 * k.val + 32))) mv2 x
  have e2r0 : k1_pay57 (k1_pay44 (Scalar.addi (BitVec.ofNat 32 (cnt mw (base + 64 * k.val))) (extractAt ![15] (k1_pay12 mv0) inpos_S16_p15)) (extractAt ![15] (k1_pay29 mv1) inpos_S16_p15) mv2) = x3 (rIdx (BitVec.ofNat 32 (cnt mw (base + 64 * k.val + 32))) mv2) := by rw [e2i]; rfl
  have c2r0 : ∀ x : S16.Idx, (k1_pay57 (k1_pay44 (Scalar.addi (BitVec.ofNat 32 (cnt mw (base + 64 * k.val))) (extractAt ![15] (k1_pay12 mv0) inpos_S16_p15)) (extractAt ![15] (k1_pay29 mv1) inpos_S16_p15) mv2) x).toNat < 30720 := by intro x; rw [e2r0, x3_toNat (by have := b2 x; omega)]; have := b2 x; omega
  have t2n0 : ∀ x : S16.Idx, (k1_pay50 lanesV (Scf.iv 0#32 1#32 k.val) x).toNat = 3 * (16 * (4 * k.val + 2) + (x 0).val) + 0 := by
    intro x; show (x3 (lrow (Scalar.addi (Scalar.muli (Scf.iv 0#32 1#32 k.val) 4#32) 2#32)) x).toNat = _; rw [gw_eq k 2 (by decide), x3_toNat (by rw [lrow_toNat (by omega)]; have := lt16 x; omega), lrow_toNat (by omega)]; rfl
  have e2r1 : k1_pay58 (k1_pay57 (k1_pay44 (Scalar.addi (BitVec.ofNat 32 (cnt mw (base + 64 * k.val))) (extractAt ![15] (k1_pay12 mv0) inpos_S16_p15)) (extractAt ![15] (k1_pay29 mv1) inpos_S16_p15) mv2)) = x3c (rIdx (BitVec.ofNat 32 (cnt mw (base + 64 * k.val + 32))) mv2) 1#32 := by rw [e2i]; rfl
  have c2r1 : ∀ x : S16.Idx, (k1_pay58 (k1_pay57 (k1_pay44 (Scalar.addi (BitVec.ofNat 32 (cnt mw (base + 64 * k.val))) (extractAt ![15] (k1_pay12 mv0) inpos_S16_p15)) (extractAt ![15] (k1_pay29 mv1) inpos_S16_p15) mv2)) x).toNat < 30720 := by intro x; rw [e2r1, x3c_toNat (k := 1) (by have := b2 x; omega) (by decide)]; have := b2 x; omega
  have t2n1 : ∀ x : S16.Idx, (k1_pay52 (k1_pay45 lanesV (Scf.iv 0#32 1#32 k.val)) k1_pay51 x).toNat = 3 * (16 * (4 * k.val + 2) + (x 0).val) + 1 := by
    intro x; show (x3c (lrow (Scalar.addi (Scalar.muli (Scf.iv 0#32 1#32 k.val) 4#32) 2#32)) 1#32 x).toNat = _; rw [gw_eq k 2 (by decide), x3c_toNat (k := 1) (by rw [lrow_toNat (by omega)]; have := lt16 x; omega) (by decide), lrow_toNat (by omega)]
  have e2r2 : k1_pay59 (k1_pay57 (k1_pay44 (Scalar.addi (BitVec.ofNat 32 (cnt mw (base + 64 * k.val))) (extractAt ![15] (k1_pay12 mv0) inpos_S16_p15)) (extractAt ![15] (k1_pay29 mv1) inpos_S16_p15) mv2)) = x3c (rIdx (BitVec.ofNat 32 (cnt mw (base + 64 * k.val + 32))) mv2) 2#32 := by rw [e2i]; rfl
  have c2r2 : ∀ x : S16.Idx, (k1_pay59 (k1_pay57 (k1_pay44 (Scalar.addi (BitVec.ofNat 32 (cnt mw (base + 64 * k.val))) (extractAt ![15] (k1_pay12 mv0) inpos_S16_p15)) (extractAt ![15] (k1_pay29 mv1) inpos_S16_p15) mv2)) x).toNat < 30720 := by intro x; rw [e2r2, x3c_toNat (k := 2) (by have := b2 x; omega) (by decide)]; have := b2 x; omega
  have t2n2 : ∀ x : S16.Idx, (k1_pay53 (k1_pay45 lanesV (Scf.iv 0#32 1#32 k.val)) x).toNat = 3 * (16 * (4 * k.val + 2) + (x 0).val) + 2 := by
    intro x; show (x3c (lrow (Scalar.addi (Scalar.muli (Scf.iv 0#32 1#32 k.val) 4#32) 2#32)) 2#32 x).toNat = _; rw [gw_eq k 2 (by decide), x3c_toNat (k := 2) (by rw [lrow_toNat (by omega)]; have := lt16 x; omega) (by decide), lrow_toNat (by omega)]
  have e2v : ∀ x : S16.Idx, k1_pay46 lanesV (BitVec.ofNat 32 base) (Scf.iv 0#32 1#32 k.val) x = BitVec.ofNat 32 (base + 64 * k.val + 32 + (x 0).val) := by
    intro x; show vidx (BitVec.ofNat 32 base) (Scalar.addi (Scalar.muli (Scf.iv 0#32 1#32 k.val) 4#32) 2#32) x = _; rw [gw_eq k 2 (by decide), vidx_apply (by omega)]; congr 1; omega
  iapply (assume_ok (c := thr d i) (show k1_chk22 _ from chk_one (fun x => by rw [e2i]; have := b2 x; omega)))
  iapply (assume_ok (c := thr d i) (show k1_chk19 _ from chk_one (fun x => by rw [t2n0 x]; have := lt16 x; omega)))
  iapply (own_ldIdx (c := thr d i) (m := arg11)) $$ Hn
  iintro %n20 %hn20 Hn
  have e2x0 : ∀ x : S16.Idx, k1_pay54 (k1_pay291 l39) (k1_pay294 l45) (k1_pay47 (F := F) lanesV (BitVec.ofNat 32 base) (Scf.iv 0#32 1#32 k.val)) n20 x = Yv nz sc of 0 (base + 64 * k.val + 32 + (x 0).val) := by
    intro x; show ptv (cx (k1_pay46 lanesV (BitVec.ofNat 32 base) (Scf.iv 0#32 1#32 k.val) x)) (n20 x) ((k1_pay291 l39) x) ((k1_pay294 l45) x) = _
    rw [e2v x, hn20 x, h39 x, h45 x]; unfold Yv; congr 1
    show nz (3 * base + (k1_pay50 lanesV (Scf.iv 0#32 1#32 k.val) x).toNat) = _; rw [t2n0 x]; congr 1; omega
  rw [k1_part5_eq_skeleton]; unfold k1_part5_skel; simp only [bind_assoc, pure_bind]
  iapply (assume_ok (c := thr d i) (show k1_chk20 _ from chk_one (fun x => by rw [t2n1 x]; have := lt16 x; omega)))
  iapply (own_ldIdx (c := thr d i) (m := arg11)) $$ Hn
  iintro %n21 %hn21 Hn
  have e2x1 : ∀ x : S16.Idx, k1_pay55 (k1_pay292 l41) (k1_pay295 l47) (k1_pay48 (F := F) lanesV (BitVec.ofNat 32 base) (Scf.iv 0#32 1#32 k.val)) n21 x = Yv nz sc of 1 (base + 64 * k.val + 32 + (x 0).val) := by
    intro x; show ptv (cy (k1_pay46 lanesV (BitVec.ofNat 32 base) (Scf.iv 0#32 1#32 k.val) x)) (n21 x) ((k1_pay292 l41) x) ((k1_pay295 l47) x) = _
    rw [e2v x, hn21 x, h41 x, h47 x]; unfold Yv; congr 1
    show nz (3 * base + (k1_pay52 (k1_pay45 lanesV (Scf.iv 0#32 1#32 k.val)) k1_pay51 x).toNat) = _; rw [t2n1 x]; congr 1; omega
  iapply (assume_ok (c := thr d i) (show k1_chk21 _ from chk_one (fun x => by rw [t2n2 x]; have := lt16 x; omega)))
  iapply (own_ldIdx (c := thr d i) (m := arg11)) $$ Hn
  iintro %n22 %hn22 Hn
  have e2x2 : ∀ x : S16.Idx, k1_pay56 (k1_pay293 l43) (k1_pay296 l49) (k1_pay49 (F := F) lanesV (BitVec.ofNat 32 base) (Scf.iv 0#32 1#32 k.val)) n22 x = Yv nz sc of 2 (base + 64 * k.val + 32 + (x 0).val) := by
    intro x; show ptv (cz (k1_pay46 lanesV (BitVec.ofNat 32 base) (Scf.iv 0#32 1#32 k.val) x)) (n22 x) ((k1_pay293 l43) x) ((k1_pay296 l49) x) = _
    rw [e2v x, hn22 x, h43 x, h49 x]; unfold Yv; congr 1
    show nz (3 * base + (k1_pay53 (k1_pay45 lanesV (Scf.iv 0#32 1#32 k.val)) x).toNat) = _; rw [t2n2 x]; congr 1; omega
  iapply (assume_ok (c := thr d i) (show k1_chk23 _ from chk_one (c2r0)))
  iapply (ringO_store hb hl2 (by omega) e2m e2i e2v) $$ Ho
  iintro Ho
  iapply (ringX_store0 (Y := Yv nz sc of) hb hl2 (by omega) e2m e2r0 e2x0) $$ Hx
  iintro Hx
  iapply (assume_ok (c := thr d i) (show k1_chk24 _ from chk_one (c2r1)))
  iapply (ringX_store1 (Y := Yv nz sc of) hb hl2 (by omega) e2m e2r1 e2x1) $$ Hx
  iintro Hx
  iapply (assume_ok (c := thr d i) (show k1_chk25 _ from chk_one (c2r2)))
  iapply (ringX_store2 (Y := Yv nz sc of) hb hl2 (by omega) e2m e2r2 e2x2) $$ Hx
  iintro Hx
  iapply (own_ld (c := thr d i) (m := arg10) (fun j hj => Set.mem_univ _)) $$ Hm
  iintro %mv3 %hv3 Hm
  have hl3 : Lane mw (base + 64 * k.val + 48) mv3 := by
    intro x; rw [hv3 x, k1_off6_eq]; show mw (base + (_ + _)) = _; congr 1; simp only [Matrix.cons_val_zero]; omega
  have ro3 : (Scalar.addi (Scalar.addi (Scalar.addi (BitVec.ofNat 32 (cnt mw (base + 64 * k.val))) (extractAt ![15] (k1_pay12 mv0) inpos_S16_p15)) (extractAt ![15] (k1_pay29 mv1) inpos_S16_p15)) (extractAt ![15] (k1_pay43 mv2) inpos_S16_p15)) = BitVec.ofNat 32 (cnt mw (base + 64 * k.val + 48)) := by
    rw [ro2]; exact (hl2.next hb).trans (by rw [Nat.add_assoc])
  have e3i : k1_pay64 (k1_pay61 mv3) (k1_pay63 (Scalar.addi (Scalar.addi (BitVec.ofNat 32 (cnt mw (base + 64 * k.val))) (extractAt ![15] (k1_pay12 mv0) inpos_S16_p15)) (extractAt ![15] (k1_pay29 mv1) inpos_S16_p15)) (extractAt ![15] (k1_pay43 mv2) inpos_S16_p15)) = rIdx (BitVec.ofNat 32 (cnt mw (base + 64 * k.val + 48))) mv3 := by rw [← ro3]; rfl
  have e3m : k1_pay60 mv3 = gMask mv3 := rfl
  have b3 := fun x => rIdx_lt (BitVec.ofNat 32 (cnt mw (base + 64 * k.val + 48))) mv3 x
  have e3r0 : k1_pay73 (k1_pay64 (k1_pay61 mv3) (k1_pay63 (Scalar.addi (Scalar.addi (BitVec.ofNat 32 (cnt mw (base + 64 * k.val))) (extractAt ![15] (k1_pay12 mv0) inpos_S16_p15)) (extractAt ![15] (k1_pay29 mv1) inpos_S16_p15)) (extractAt ![15] (k1_pay43 mv2) inpos_S16_p15))) = x3 (rIdx (BitVec.ofNat 32 (cnt mw (base + 64 * k.val + 48))) mv3) := by rw [e3i]; rfl
  have c3r0 : ∀ x : S16.Idx, (k1_pay73 (k1_pay64 (k1_pay61 mv3) (k1_pay63 (Scalar.addi (Scalar.addi (BitVec.ofNat 32 (cnt mw (base + 64 * k.val))) (extractAt ![15] (k1_pay12 mv0) inpos_S16_p15)) (extractAt ![15] (k1_pay29 mv1) inpos_S16_p15)) (extractAt ![15] (k1_pay43 mv2) inpos_S16_p15))) x).toNat < 30720 := by intro x; rw [e3r0, x3_toNat (by have := b3 x; omega)]; have := b3 x; omega
  have t3n0 : ∀ x : S16.Idx, (k1_pay67 lanesV (Scalar.addi (Scalar.muli (Scf.iv 0#32 1#32 k.val) 4#32) 3#32) x).toNat = 3 * (16 * (4 * k.val + 3) + (x 0).val) + 0 := by
    intro x; show (x3 (lrow (Scalar.addi (Scalar.muli (Scf.iv 0#32 1#32 k.val) 4#32) 3#32)) x).toNat = _; rw [gw_eq k 3 (by decide), x3_toNat (by rw [lrow_toNat (by omega)]; have := lt16 x; omega), lrow_toNat (by omega)]; rfl
  have e3r1 : k1_pay297 (k1_pay73 (k1_pay64 (k1_pay61 mv3) (k1_pay63 (Scalar.addi (Scalar.addi (BitVec.ofNat 32 (cnt mw (base + 64 * k.val))) (extractAt ![15] (k1_pay12 mv0) inpos_S16_p15)) (extractAt ![15] (k1_pay29 mv1) inpos_S16_p15)) (extractAt ![15] (k1_pay43 mv2) inpos_S16_p15)))) = x3c (rIdx (BitVec.ofNat 32 (cnt mw (base + 64 * k.val + 48))) mv3) 1#32 := by rw [e3i]; rfl
  have c3r1 : ∀ x : S16.Idx, (k1_pay297 (k1_pay73 (k1_pay64 (k1_pay61 mv3) (k1_pay63 (Scalar.addi (Scalar.addi (BitVec.ofNat 32 (cnt mw (base + 64 * k.val))) (extractAt ![15] (k1_pay12 mv0) inpos_S16_p15)) (extractAt ![15] (k1_pay29 mv1) inpos_S16_p15)) (extractAt ![15] (k1_pay43 mv2) inpos_S16_p15)))) x).toNat < 30720 := by intro x; rw [e3r1, x3c_toNat (k := 1) (by have := b3 x; omega) (by decide)]; have := b3 x; omega
  have t3n1 : ∀ x : S16.Idx, (k1_pay68 lanesV (Scalar.addi (Scalar.muli (Scf.iv 0#32 1#32 k.val) 4#32) 3#32) x).toNat = 3 * (16 * (4 * k.val + 3) + (x 0).val) + 1 := by
    intro x; show (x3c (lrow (Scalar.addi (Scalar.muli (Scf.iv 0#32 1#32 k.val) 4#32) 3#32)) 1#32 x).toNat = _; rw [gw_eq k 3 (by decide), x3c_toNat (k := 1) (by rw [lrow_toNat (by omega)]; have := lt16 x; omega) (by decide), lrow_toNat (by omega)]
  have e3r2 : k1_pay298 (k1_pay73 (k1_pay64 (k1_pay61 mv3) (k1_pay63 (Scalar.addi (Scalar.addi (BitVec.ofNat 32 (cnt mw (base + 64 * k.val))) (extractAt ![15] (k1_pay12 mv0) inpos_S16_p15)) (extractAt ![15] (k1_pay29 mv1) inpos_S16_p15)) (extractAt ![15] (k1_pay43 mv2) inpos_S16_p15)))) = x3c (rIdx (BitVec.ofNat 32 (cnt mw (base + 64 * k.val + 48))) mv3) 2#32 := by rw [e3i]; rfl
  have c3r2 : ∀ x : S16.Idx, (k1_pay298 (k1_pay73 (k1_pay64 (k1_pay61 mv3) (k1_pay63 (Scalar.addi (Scalar.addi (BitVec.ofNat 32 (cnt mw (base + 64 * k.val))) (extractAt ![15] (k1_pay12 mv0) inpos_S16_p15)) (extractAt ![15] (k1_pay29 mv1) inpos_S16_p15)) (extractAt ![15] (k1_pay43 mv2) inpos_S16_p15)))) x).toNat < 30720 := by intro x; rw [e3r2, x3c_toNat (k := 2) (by have := b3 x; omega) (by decide)]; have := b3 x; omega
  have t3n2 : ∀ x : S16.Idx, (k1_pay69 lanesV (Scalar.addi (Scalar.muli (Scf.iv 0#32 1#32 k.val) 4#32) 3#32) x).toNat = 3 * (16 * (4 * k.val + 3) + (x 0).val) + 2 := by
    intro x; show (x3c (lrow (Scalar.addi (Scalar.muli (Scf.iv 0#32 1#32 k.val) 4#32) 3#32)) 2#32 x).toNat = _; rw [gw_eq k 3 (by decide), x3c_toNat (k := 2) (by rw [lrow_toNat (by omega)]; have := lt16 x; omega) (by decide), lrow_toNat (by omega)]
  have e3v : ∀ x : S16.Idx, k1_pay66 lanesV (BitVec.ofNat 32 base) (Scalar.addi (Scalar.muli (Scf.iv 0#32 1#32 k.val) 4#32) 3#32) x = BitVec.ofNat 32 (base + 64 * k.val + 48 + (x 0).val) := by
    intro x; show vidx (BitVec.ofNat 32 base) (Scalar.addi (Scalar.muli (Scf.iv 0#32 1#32 k.val) 4#32) 3#32) x = _; rw [gw_eq k 3 (by decide), vidx_apply (by omega)]; congr 1; omega
  rw [k1_part6_eq_skeleton]; unfold k1_part6_skel; simp only [bind_assoc, pure_bind]
  iapply (assume_ok (c := thr d i) (show k1_chk29 _ from chk_one (fun x => by rw [e3i]; have := b3 x; omega)))
  iapply (assume_ok (c := thr d i) (show k1_chk26 _ from chk_one (fun x => by rw [t3n0 x]; have := lt16 x; omega)))
  iapply (own_ldIdx (c := thr d i) (m := arg11)) $$ Hn
  iintro %n30 %hn30 Hn
  have e3x0 : ∀ x : S16.Idx, k1_pay70 lanesV (k1_pay291 l39) (k1_pay294 l45) (BitVec.ofNat 32 base) (Scalar.addi (Scalar.muli (Scf.iv 0#32 1#32 k.val) 4#32) 3#32) n30 x = Yv nz sc of 0 (base + 64 * k.val + 48 + (x 0).val) := by
    intro x; show ptv (cx (k1_pay66 lanesV (BitVec.ofNat 32 base) (Scalar.addi (Scalar.muli (Scf.iv 0#32 1#32 k.val) 4#32) 3#32) x)) (n30 x) ((k1_pay291 l39) x) ((k1_pay294 l45) x) = _
    rw [e3v x, hn30 x, h39 x, h45 x]; unfold Yv; congr 1
    show nz (3 * base + (k1_pay67 lanesV (Scalar.addi (Scalar.muli (Scf.iv 0#32 1#32 k.val) 4#32) 3#32) x).toNat) = _; rw [t3n0 x]; congr 1; omega
  iapply (assume_ok (c := thr d i) (show k1_chk27 _ from chk_one (fun x => by rw [t3n1 x]; have := lt16 x; omega)))
  iapply (own_ldIdx (c := thr d i) (m := arg11)) $$ Hn
  iintro %n31 %hn31 Hn
  have e3x1 : ∀ x : S16.Idx, k1_pay71 lanesV (k1_pay292 l41) (k1_pay295 l47) (BitVec.ofNat 32 base) (Scalar.addi (Scalar.muli (Scf.iv 0#32 1#32 k.val) 4#32) 3#32) n31 x = Yv nz sc of 1 (base + 64 * k.val + 48 + (x 0).val) := by
    intro x; show ptv (cy (k1_pay66 lanesV (BitVec.ofNat 32 base) (Scalar.addi (Scalar.muli (Scf.iv 0#32 1#32 k.val) 4#32) 3#32) x)) (n31 x) ((k1_pay292 l41) x) ((k1_pay295 l47) x) = _
    rw [e3v x, hn31 x, h41 x, h47 x]; unfold Yv; congr 1
    show nz (3 * base + (k1_pay68 lanesV (Scalar.addi (Scalar.muli (Scf.iv 0#32 1#32 k.val) 4#32) 3#32) x).toNat) = _; rw [t3n1 x]; congr 1; omega
  iapply (assume_ok (c := thr d i) (show k1_chk28 _ from chk_one (fun x => by rw [t3n2 x]; have := lt16 x; omega)))
  iapply (own_ldIdx (c := thr d i) (m := arg11)) $$ Hn
  iintro %n32 %hn32 Hn
  have e3x2 : ∀ x : S16.Idx, k1_pay72 lanesV (k1_pay293 l43) (k1_pay296 l49) (BitVec.ofNat 32 base) (Scalar.addi (Scalar.muli (Scf.iv 0#32 1#32 k.val) 4#32) 3#32) n32 x = Yv nz sc of 2 (base + 64 * k.val + 48 + (x 0).val) := by
    intro x; show ptv (cz (k1_pay66 lanesV (BitVec.ofNat 32 base) (Scalar.addi (Scalar.muli (Scf.iv 0#32 1#32 k.val) 4#32) 3#32) x)) (n32 x) ((k1_pay293 l43) x) ((k1_pay296 l49) x) = _
    rw [e3v x, hn32 x, h43 x, h49 x]; unfold Yv; congr 1
    show nz (3 * base + (k1_pay69 lanesV (Scalar.addi (Scalar.muli (Scf.iv 0#32 1#32 k.val) 4#32) 3#32) x).toNat) = _; rw [t3n2 x]; congr 1; omega
  iapply (assume_ok (c := thr d i) (show k1_chk30 _ from chk_one (c3r0)))
  iapply (ringO_store hb hl3 (by omega) e3m e3i e3v) $$ Ho
  iintro Ho
  iapply (ringX_store0 (Y := Yv nz sc of) hb hl3 (by omega) e3m e3r0 e3x0) $$ Hx
  iintro Hx
  iapply (assume_ok (c := thr d i) (show k1_chk31 _ from chk_one (c3r1)))
  iapply (ringX_store1 (Y := Yv nz sc of) hb hl3 (by omega) e3m e3r1 e3x1) $$ Hx
  iintro Hx
  iapply (assume_ok (c := thr d i) (show k1_chk32 _ from chk_one (c3r2)))
  iapply (ringX_store2 (Y := Yv nz sc of) hb hl3 (by omega) e3m e3r2 e3x2) $$ Hx
  iintro Hx
  have ro4 : (Scalar.addi (Scalar.addi (Scalar.addi (Scalar.addi (BitVec.ofNat 32 (cnt mw (base + 64 * k.val))) (extractAt ![15] (k1_pay12 mv0) inpos_S16_p15)) (extractAt ![15] (k1_pay29 mv1) inpos_S16_p15)) (extractAt ![15] (k1_pay43 mv2) inpos_S16_p15)) (extractAt ![15] (k1_pay62 mv3) inpos_S16_p15)) = BitVec.ofNat 32 (cnt mw (base + 64 * (k.val + 1))) := by
    rw [ro3]; exact (hl3.next hb).trans (by rw [show base + 64 * k.val + 48 + 16 = base + 64 * (k.val + 1) by omega])
  rw [wp_pure]
  rw [show Scalar.addi (Scalar.addi (Scalar.addi (Scalar.addi (BitVec.ofNat 32 (cnt mw (base + 64 * k.val))) (extractAt ![15] (k1_pay12 mv0) inpos_S16_p15)) (extractAt ![15] (k1_pay29 mv1) inpos_S16_p15)) (extractAt ![15] (k1_pay43 mv2) inpos_S16_p15)) (extractAt ![15] (k1_pay62 mv3) inpos_S16_p15) = BitVec.ofNat 32 (cnt mw (base + 64 * (k.val + 1))) from ro4]
  imodintro
  iapply Hk
  rw [show base + 64 * (k.val + 1) = base + 64 * k.val + 48 + 16 by omega]
  isplitl [Hm]; · iexact Hm
  isplitl [Hn]; · iexact Hn
  isplitl [Ho]; · iexact Ho
  iexact Hx
end Cert.Proof.Vox
-- ==== Proof.Edge.lean ====
/-
  The last few rows at a misaligned end of a region go out by an indirect scatter of 128 lanes, the surplus lanes repeating the last row.
-/
module

public import proofs.«01_k».proof.Proof.Words
public import proofs.«01_k».proof.Proof.T2
public import proofs.«01_k».proof.Proof.Flush

@[expose] public section

set_option maxRecDepth 16384

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A buffer held whole whose first `n` entries are those of `T`. -/
def edgeB {sp : Space} {dd : Fin 1 → ℕ} {e : EltTy} (c : Thread nD τ) (m : Memref sig c.2.kind sp ⟨1, dd⟩ e) (n : ℕ) (T : ℕ → Elt F e) : sProp (MM F) :=
  iprop(∃ G : ℕ → Elt F e, own c m fullShare Set.univ G ∗ ⌜∀ j < n, G j = T j⌝)

/-- The rows the lanes name. -/
def iT (st l j : ℕ) : BitVec 32 := BitVec.ofNat 32 (st + min j (l - 1))
/-- What the lanes carry. -/
def vT {X : Type} (V : ℕ → X) (st l j : ℕ) : X := V (st + min j (l - 1))

variable {α : Type} {Q : α → sProp (MM F)}

theorem edgeB_start {c : Thread nD τ} {sp : Space} {dd : Fin 1 → ℕ} {e : EltTy} {m : Memref sig c.2.kind sp ⟨1, dd⟩ e} {n : ℕ} {T T' : ℕ → Elt F e} :
    (edgeB c m n T : sProp (MM F)) ⊢ edgeB c m 0 T' := by
  unfold edgeB
  iintro ⟨%G, H, %hG⟩
  iexists G
  isplitl [H]; · iexact H
  ipureintro; intro j hj; omega

/-- Sixteen lanes more. -/
theorem edge_put {c : Thread nD τ} {cs : CoreSpace} {dd : Fin 1 → ℕ} {e : EltTy} {m : Memref sig c.2.kind cs ⟨1, dd⟩ e}
    {off size : Fin 1 → ℕ} {inb} {hl : m.view.LoadsAt (Rect.unit (s := ⟨1, dd⟩) off size inb).toLoadRect} {inb'}
    {w : (Rect.unit (s := ⟨1, dd⟩) off size inb').shape.Idx → Elt F e}
    {hx : (m.access (Rect.unit (s := ⟨1, dd⟩) off size inb')).Stores Finset.univ} {hm}
    {k : PUnit → Prog (TpuEff nD τ sig (Elt F) Λ₀ c.2) α} {n : ℕ} {T : ℕ → Elt F e}
    (h0 : off 0 = n) (hs : size 0 = 16) (hw : ∀ x : (Rect.unit (s := ⟨1, dd⟩) off size inb').shape.Idx, w x = T (n + (x 0).val)) :
    (edgeB c m n T : sProp (MM F))
      ⊢ iprop((edgeB c m (n + 16) T -∗ wp frame (wpE (defs₀ (F := F)) 𝒱₀ c none) Set.univ (k ⟨⟩) Q)
        -∗ wp frame (wpE (defs₀ (F := F)) 𝒱₀ c none) Set.univ
            (Prog.lift (TpuEff.load m (Rect.unit (s := ⟨1, dd⟩) off size inb).toLoadRect hl) >>= fun _ =>
              Prog.lift (TpuEff.store m (Rect.unit (s := ⟨1, dd⟩) off size inb') w Finset.univ hx hm) >>= k) Q) := by
  subst h0
  unfold edgeB
  iintro ⟨%G, H, %hG⟩ Hk
  iapply (own_ld (c := c) (m := m) (fun j hj => Set.mem_univ _)) $$ H; iintro %v %hv H
  iapply (own_store (F := F) (c := c) 𝒱₀ none (m := m) (I := Set.univ)
    (fun n => if off 0 ≤ n ∧ n < off 0 + 16 then T n else G n) (fun j hj => Set.mem_univ _)
    (fun x => by
      have hxlt : (x 0).val < size 0 := (x 0).isLt
      rw [hs] at hxlt
      dsimp only
      rw [if_pos ⟨by omega, by omega⟩, hw x])
    (fun n _ hn => by rw [hs] at hn; exact if_neg (by omega))) $$ H
  iintro H
  iapply Hk
  iexists (fun n => if off 0 ≤ n ∧ n < off 0 + 16 then T n else G n)
  isplitl [H]; · iexact H
  ipureintro; intro j hj
  dsimp only
  by_cases h : off 0 ≤ j ∧ j < off 0 + 16
  · rw [if_pos h]
  · rw [if_neg h, hG j (by omega)]

/-- The lanes go out. -/
theorem edge_scatter {c : Thread nD τ} {e : EltTy} {d₀ : Fin 1 → ℕ} {src : Memref sig c.2.kind .vmem S128 e} {dst : Memref sig c.2.kind .hbm ⟨1, d₀⟩ e}
    {off : Fin 1 → ℕ} {inb : ∀ a, off a + d₀ a ≤ d₀ a} {hsl}
    {off' : Fin 1 → ℕ} {inb' : ∀ a, off' a + d₀ a ≤ d₀ a} {hsl'}
    {hg : (⟨1, d₀⟩ : Shape).Gathers 0 S128} {offs : Memref sig c.2.kind .vmem S128 .i32}
    {hn : S128.numel = S128.size hg.axis'} {sem : DmaSem sig}
    {hp : c.2.kind = .scVector} {he : e.bits = 32} {hsp : Space.hbm = .hbm ∨ Space.hbm = .shared} {hr : (⟨1, d₀⟩ : Shape).StreamRows 0}
    {h₄ : src.view.WordExact} {h₅ : (dst.slice (Rect.unit (s := ⟨1, d₀⟩) off' d₀ inb') hsl').view.WordExact}
    {k : PUnit → Prog (TpuEff nD τ sig (Elt F) Λ₀ c.2) α} {I W : Set ℕ} {V : ℕ → Elt F e} {st l : ℕ}
    {O : CellTallies nD τ sig (HIx 2)} {W₀ : Waits sig (HIx 2)}
    (hcs : ∀ s' : Shape, sig.dmaCredit c.2.kind (c.2.kind.table .vmem) src.view.buf s' e = s'.numel * e.bits)
    (hcd : ∀ s' : Shape, sig.dmaCredit c.2.kind (c.2.kind.table .hbm) dst.view.buf s' e = s'.numel * e.bits)
    (h0 : off 0 = 0) (hl : 0 < l) (hl8 : l ≤ 128) (hd : st + l ≤ d₀ 0) (hd2 : d₀ 0 < 2 ^ 31) (hI : ∀ p, st ≤ p → p < st + l → p ∈ I) :
    (iprop(edgeB c src 128 (vT V st l) ∗ edgeB (F := F) (e := .i32) c offs 128 (iT st l) ∗ outO c dst I W V ∗ semVal (c, .dma sem) 0 ∗ tick c default O W₀) : sProp (MM F))
      ⊢ iprop((iprop(edgeB c src 128 (vT V st l) ∗ edgeB (F := F) (e := .i32) c offs 128 (iT st l) ∗ outO c dst I (W ∪ Set.Ico st (st + l)) V ∗ semVal (c, .dma sem) 0 ∗ tick c default O W₀)
            -∗ wp frame (wpE (defs₀ (F := F)) 𝒱₀ c none) Set.univ (k ⟨⟩) Q)
        -∗ wp frame (wpE (defs₀ (F := F)) 𝒱₀ c none) Set.univ
          (SparseCore.enqueueIndirectScatter hp src (dst.slice (Rect.unit (s := ⟨1, d₀⟩) off d₀ inb) hsl) hg offs hn sem he hsp hr
            >>= fun _ => SparseCore.waitIndirectScatter sem src (dst.slice (Rect.unit (s := ⟨1, d₀⟩) off' d₀ inb') hsl') h₄ h₅ >>= k) Q) := by
  unfold edgeB outO
  iintro ⟨⟨%Gs, Hs, %hGs⟩, ⟨%Go, Ho, %hGo⟩, ⟨%G, Hd, %hG⟩, Hsem, Ht⟩ Hk
  ihave Hd := own_full_in (F := F) (m := dst) (off := off) (size := d₀) (inb := inb) (hs := hsl) h0 rfl $$ Hd
  have hgo : ∀ j < 128, (Go j).toNat = st + min j (l - 1) := by
    intro j hj
    rw [hGo j hj, iT, BitVec.toNat_ofNat, Nat.mod_eq_of_lt]
    omega
  let Gn : ℕ → Elt F e := fun n => if st ≤ n ∧ n < st + l then V n else G n
  iapply (own_scatter (F := F) (c := c) 𝒱₀ none EC (src := src) (dst := dst.slice (Rect.unit (s := ⟨1, d₀⟩) off d₀ inb) hsl) (offs := offs) (I := I)
    (Gs := Gs) (Go := Go) (G := G) Gn (by decide) hcs hcd
    (fun j hj => by have hj : j < 128 := hj; show (Go j).toNat < d₀ 0; rw [hgo j hj]; omega)
    (fun j hj => by have hj : j < 128 := hj; rw [hgo j hj]; exact hI _ (by omega) (by omega))
    (fun j hj => by
      have hj : j < 128 := hj
      rw [hgo j hj, hGs j hj]
      exact if_pos ⟨by omega, by omega⟩)
    (fun n hn hne => by
      refine if_neg (fun h => ?_)
      have := hne (n - st) (show n - st < 128 by omega)
      rw [hgo _ (by omega)] at this
      omega)) $$ [Hs Ho Hd Hsem Ht]
  · isplitl [Hs]; · iexact Hs
    isplitl [Ho]; · iexact Ho
    isplitl [Hd]; · iexact Hd
    isplitl [Hsem]; · iexact Hsem
    iexact Ht
  iintro ⟨Hs, Ho, Hd, Hsem, Ht⟩
  ihave Hd := own_full_out (F := F) (m := dst) (off := off) (size := d₀) (inb := inb) (hs := hsl) h0 rfl $$ Hd
  iapply Hk
  isplitl [Hs]
  · iexists Gs; isplitl [Hs]; · iexact Hs
    ipureintro; exact hGs
  isplitl [Ho]
  · iexists Go; isplitl [Ho]; · iexact Ho
    ipureintro; exact hGo
  isplitl [Hd]
  · iexists Gn; isplitl [Hd]; · iexact Hd
    ipureintro; rintro p (hp | ⟨h1, h2⟩)
    · show (if _ then _ else _) = _
      split
      · rfl
      · exact hG p hp
    · exact if_pos ⟨h1, h2⟩
  isplitl [Hsem]; · iexact Hsem
  iexact Ht

/-! The words of the lanes. -/

/-- The row of a lane. -/
def eQ (w cl : BitVec 32) (v2 : IVec S16 32) : IVec S16 32 := minsi (addi (broadcast S16 w) v2) (broadcast S16 cl)
def eD (w cl : BitVec 32) (v2 : IVec S16 32) : IVec S16 32 := shrsi (muli (eQ w cl v2) (broadcast S16 11#32)) (broadcast S16 5#32)
def eC (w cl : BitVec 32) (v2 : IVec S16 32) : IVec S16 32 := subi (eQ w cl v2) (muli (eD w cl v2) (broadcast S16 3#32))

theorem eQ_at {n m : ℕ} (hn : n < 1024) (hm : m < 2 ^ 31) (x : S16.Idx) :
    eQ (BitVec.ofNat 32 n) (BitVec.ofNat 32 m) lanesV x = BitVec.ofNat 32 (min (n + (x 0).val) m) := by
  have hx := lt16 x
  show Scalar.minsi (Scalar.addi (BitVec.ofNat 32 n) (lanesV x)) (BitVec.ofNat 32 m) = _
  rw [lanesV_apply, add_ofNat, min_ofNat (by omega) hm]

theorem eD_at {n m : ℕ} (hn : n < 1024) (hm : m < 24) (x : S16.Idx) :
    eD (BitVec.ofNat 32 n) (BitVec.ofNat 32 m) lanesV x = BitVec.ofNat 32 (min (n + (x 0).val) m / 3) := by
  have h := eQ_at hn (m := m) (by omega) x
  show IntOp.shrsi .vector (Scalar.muli (eQ (BitVec.ofNat 32 n) (BitVec.ofNat 32 m) lanesV x) (BitVec.ofNat 32 11)) (BitVec.ofNat 32 5) = _
  rw [h, mul_ofNat, shr_ofNat .vector 5 (by omega) (by omega)]
  congr 1
  omega

theorem eC_at {n m : ℕ} (hn : n < 1024) (hm : m < 24) (x : S16.Idx) :
    eC (BitVec.ofNat 32 n) (BitVec.ofNat 32 m) lanesV x = BitVec.ofNat 32 (min (n + (x 0).val) m % 3) := by
  have h := eQ_at hn (m := m) (by omega) x
  show Scalar.subi (eQ (BitVec.ofNat 32 n) (BitVec.ofNat 32 m) lanesV x) (Scalar.muli (eD (BitVec.ofNat 32 n) (BitVec.ofNat 32 m) lanesV x) (BitVec.ofNat 32 3)) = _
  rw [h, eD_at hn hm, mul_ofNat, sub_ofNat (by omega)]
  congr 1
  omega

variable {n a l : ℕ}

theorem one_of (hl : 0 < l) : Scalar.subi (BitVec.ofNat 32 l) 1#32 = BitVec.ofNat 32 (l - 1) := sub_ofNat (a := l) (b := 1) hl

theorem three_of (hl : 0 < l) : Scalar.subi (Scalar.muli 3#32 (BitVec.ofNat 32 l)) 1#32 = BitVec.ofNat 32 (3 * l - 1) := by
  rw [show Scalar.muli 3#32 (BitVec.ofNat 32 l) = BitVec.ofNat 32 (3 * l) from mul_ofNat 3 l]
  exact one_of (by omega)

/-- The index of a lane. -/
theorem eI_at (hn : n < 1024) (hl : 0 < l) (hl8 : l < 2 ^ 31) (x : S16.Idx) :
    addi (broadcast S16 (BitVec.ofNat 32 a)) (eQ (BitVec.ofNat 32 n) (Scalar.subi (BitVec.ofNat 32 l) 1#32) lanesV) x = iT a l (n + (x 0).val) := by
  show Scalar.addi (BitVec.ofNat 32 a) (eQ (BitVec.ofNat 32 n) (Scalar.subi (BitVec.ofNat 32 l) 1#32) lanesV x) = _
  rw [one_of hl, eQ_at hn (by omega), add_ofNat]; rfl

/-- Its place in the ring. -/
theorem eR_at (hn : n < 1024) (hl : 0 < l) (hl8 : l < 2 ^ 30) (ha : a < 2 ^ 30) (x : S16.Idx) :
    (andi (addi (broadcast S16 (BitVec.ofNat 32 a)) (eQ (BitVec.ofNat 32 n) (Scalar.subi (BitVec.ofNat 32 l) 1#32) lanesV)) (broadcast S16 8191#32) x).toNat
      = (a + min (n + (x 0).val) (l - 1)) % 8192 := by
  show (addi (broadcast S16 (BitVec.ofNat 32 a)) (eQ (BitVec.ofNat 32 n) (Scalar.subi (BitVec.ofNat 32 l) 1#32) lanesV) x &&& 8191#32).toNat = _
  rw [eI_at hn hl (by omega), toNat_and_8191, iT, BitVec.toNat_ofNat, Nat.mod_eq_of_lt (a := a + _) (b := 2 ^ 32)]
  omega

/-- The index of a lane among the components of the points. -/
theorem eX_at (hn : n < 1024) (hl : 0 < l) (hl8 : l < 9) (ha : a < 2 ^ 22) (x : S16.Idx) :
    addi (muli (addi (broadcast S16 (BitVec.ofNat 32 a)) (eD (BitVec.ofNat 32 n) (Scalar.subi (Scalar.muli 3#32 (BitVec.ofNat 32 l)) 1#32) lanesV)) (broadcast S16 3#32))
      (eC (BitVec.ofNat 32 n) (Scalar.subi (Scalar.muli 3#32 (BitVec.ofNat 32 l)) 1#32) lanesV) x = iT (3 * a) (3 * l) (n + (x 0).val) := by
  show Scalar.addi (Scalar.muli (Scalar.addi (BitVec.ofNat 32 a) (eD (BitVec.ofNat 32 n) (Scalar.subi (Scalar.muli 3#32 (BitVec.ofNat 32 l)) 1#32) lanesV x)) (BitVec.ofNat 32 3))
    (eC (BitVec.ofNat 32 n) (Scalar.subi (Scalar.muli 3#32 (BitVec.ofNat 32 l)) 1#32) lanesV x) = _
  rw [three_of hl, eD_at hn (by omega), eC_at hn (by omega), add_ofNat, mul_ofNat, add_ofNat, iT]
  congr 1
  omega

/-- Its place in the ring. -/
theorem eXR_at (hn : n < 1024) (hl : 0 < l) (hl8 : l < 9) (ha : a < 2 ^ 22) (x : S16.Idx) :
    (addi (muli (andi (addi (broadcast S16 (BitVec.ofNat 32 a)) (eD (BitVec.ofNat 32 n) (Scalar.subi (Scalar.muli 3#32 (BitVec.ofNat 32 l)) 1#32) lanesV)) (broadcast S16 8191#32)) (broadcast S16 3#32))
      (eC (BitVec.ofNat 32 n) (Scalar.subi (Scalar.muli 3#32 (BitVec.ofNat 32 l)) 1#32) lanesV) x).toNat
      = 3 * ((a + min (n + (x 0).val) (3 * l - 1) / 3) % 8192) + min (n + (x 0).val) (3 * l - 1) % 3 := by
  show (Scalar.addi (Scalar.muli (Scalar.addi (BitVec.ofNat 32 a) (eD (BitVec.ofNat 32 n) (Scalar.subi (Scalar.muli 3#32 (BitVec.ofNat 32 l)) 1#32) lanesV x) &&& 8191#32) (BitVec.ofNat 32 3))
    (eC (BitVec.ofNat 32 n) (Scalar.subi (Scalar.muli 3#32 (BitVec.ofNat 32 l)) 1#32) lanesV x)).toNat = _
  rw [three_of hl, eD_at hn (by omega), eC_at hn (by omega), add_ofNat, ofNat_and_8191 (by omega), mul_ofNat, add_ofNat, BitVec.toNat_ofNat, Nat.mod_eq_of_lt (b := 2 ^ 32)]
  · omega
  · omega

theorem eC_toNat (hn : n < 1024) (hl : 0 < l) (hl8 : l < 9) (x : S16.Idx) :
    (eC (BitVec.ofNat 32 n) (Scalar.subi (Scalar.muli 3#32 (BitVec.ofNat 32 l)) 1#32) lanesV x).toNat = min (n + (x 0).val) (3 * l - 1) % 3 := by
  rw [three_of hl, eC_at hn (by omega), BitVec.toNat_ofNat, Nat.mod_eq_of_lt]; omega

end Cert.Proof.Vox
-- ==== Proof.EdgeA.lean ====
/-
  The lanes of the edges: each part of the body puts a few groups of sixteen lanes in place.
-/
module

public import proofs.«01_k».proof.Proof.Edge

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD} {α : Type} {Q : α → sProp (MM F)}
variable (i : grid1.Coords) (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

/-- Lanes 0 to 47 of an edge. -/
theorem part7_ok (v2 : IVec S16 32) (v31 : BitVec 32) (v36 : BitVec 32) (v54 : BitVec 32) (k1_t1 : Fin k1_t1_loop.trips) (arg28 : BitVec 32) (v229 : BitVec 32) (k1_h3 : k1_cond3 v31 v36 k1_t1 arg28 v229 = 1#1) (k1_h4 : k1_cond4 v31 v36 = 1#1)
    {a l : ℕ} {G V : ℕ → BitVec 32} (hl : 0 < l) (hl8 : l < 9) (ha : a < 2 ^ 22) (hR : ∀ j < l, G ((a + j) % 8192) = V (a + j))
    (q2 : v2 = lanesV) (qa : v31 = BitVec.ofNat 32 a) (ql : v54 = BitVec.ofNat 32 l)
    {k : (PUnit) → Prog (TpuEff nD τ sig (Elt F) Λ₀ (.scVector ((i 0).castLE hcore1) ((i 1).castLE hsub1))) α} :
    (iprop(edgeB (F := F) (e := .i32) (thr d i) arg19 0 (iT a l) ∗ edgeB (F := F) (e := .i32) (thr d i) arg20 0 (vT V a l) ∗ own (F := F) (e := .i32) (thr d i) arg12 fullShare Set.univ G) : sProp (MM F))
      ⊢ iprop((iprop(edgeB (F := F) (e := .i32) (thr d i) arg19 48 (iT a l) ∗ edgeB (F := F) (e := .i32) (thr d i) arg20 48 (vT V a l) ∗ own (F := F) (e := .i32) (thr d i) arg12 fullShare Set.univ G) -∗ wp frame (wpE (defs₀ (F := F)) 𝒱₀ (thr d i) none) Set.univ (k ⟨⟩) Q)
        -∗ wp frame (wpE (defs₀ (F := F)) 𝒱₀ (thr d i) none) Set.univ (k1_part7 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v31 v36 v54 k1_t1 arg28 v229 k1_h3 k1_h4 >>= k) Q) := by
  subst q2
  subst qa
  subst ql
  rw [k1_part7_eq_skeleton]; unfold k1_part7_skel; simp only [bind_assoc, pure_bind]
  iintro ⟨Hi, Hv, Hr⟩ Hk
  have i0 : ∀ x : S16.Idx, (k1_pay74 lanesV (BitVec.ofNat 32 a) (BitVec.ofNat 32 l)) x = iT a l (0 + (x 0).val) := fun x => eI_at (n := 0) (a := a) (l := l) (by omega) hl (by omega) x
  iapply (edge_put (c := thr d i) (m := arg19) (n := 0) (T := iT a l) rfl rfl i0) $$ Hi; iintro Hi
  have e264 : ∀ x : S16.Idx, ((k1_pay75 lanesV (BitVec.ofNat 32 a) (BitVec.ofNat 32 l)) x).toNat = (a + min (0 + (x 0).val) (l - 1)) % 8192 := fun x => eR_at (n := 0) (a := a) (l := l) (by omega) hl (by omega) (by omega) x
  have ck1_hw36 : k1_chk36 (BitVec.ofNat 32 a) v36 k1_t1 arg28 v229 (k1_pay75 lanesV (BitVec.ofNat 32 a) (BitVec.ofNat 32 l)) := fun _ _ => chk_one (fun x => by rw [e264 x]; omega)
  iapply (assume_ok (c := thr d i) ck1_hw36)
  iapply (own_ldIdx (c := thr d i) (m := arg12)) $$ Hr; iintro %v265 %hv265 Hr
  have u0 : ∀ x : S16.Idx, v265 x = vT V a l (0 + (x 0).val) := fun x => (hv265 x).trans ((congrArg G (e264 x)).trans (hR (min (0 + (x 0).val) (l - 1)) (by omega)))
  iapply (edge_put (c := thr d i) (m := arg20) (n := 0) (T := vT V a l) rfl rfl u0) $$ Hv; iintro Hv
  have i16 : ∀ x : S16.Idx, (k1_pay76 lanesV (BitVec.ofNat 32 a) (BitVec.ofNat 32 l)) x = iT a l (16 + (x 0).val) := fun x => eI_at (n := 16) (a := a) (l := l) (by omega) hl (by omega) x
  iapply (edge_put (c := thr d i) (m := arg19) (n := 16) (T := iT a l) rfl rfl i16) $$ Hi; iintro Hi
  have e276 : ∀ x : S16.Idx, ((k1_pay77 lanesV (BitVec.ofNat 32 a) (BitVec.ofNat 32 l)) x).toNat = (a + min (16 + (x 0).val) (l - 1)) % 8192 := fun x => eR_at (n := 16) (a := a) (l := l) (by omega) hl (by omega) (by omega) x
  have ck1_hw37 : k1_chk37 (BitVec.ofNat 32 a) v36 k1_t1 arg28 v229 (k1_pay77 lanesV (BitVec.ofNat 32 a) (BitVec.ofNat 32 l)) := fun _ _ => chk_one (fun x => by rw [e276 x]; omega)
  iapply (assume_ok (c := thr d i) ck1_hw37)
  iapply (own_ldIdx (c := thr d i) (m := arg12)) $$ Hr; iintro %v277 %hv277 Hr
  have u16 : ∀ x : S16.Idx, v277 x = vT V a l (16 + (x 0).val) := fun x => (hv277 x).trans ((congrArg G (e276 x)).trans (hR (min (16 + (x 0).val) (l - 1)) (by omega)))
  iapply (edge_put (c := thr d i) (m := arg20) (n := 16) (T := vT V a l) rfl rfl u16) $$ Hv; iintro Hv
  have i32 : ∀ x : S16.Idx, (k1_pay78 lanesV (BitVec.ofNat 32 a) (BitVec.ofNat 32 l)) x = iT a l (32 + (x 0).val) := fun x => eI_at (n := 32) (a := a) (l := l) (by omega) hl (by omega) x
  iapply (edge_put (c := thr d i) (m := arg19) (n := 32) (T := iT a l) rfl rfl i32) $$ Hi; iintro Hi
  have e288 : ∀ x : S16.Idx, ((k1_pay79 lanesV (BitVec.ofNat 32 a) (BitVec.ofNat 32 l)) x).toNat = (a + min (32 + (x 0).val) (l - 1)) % 8192 := fun x => eR_at (n := 32) (a := a) (l := l) (by omega) hl (by omega) (by omega) x
  have ck1_hw38 : k1_chk38 (BitVec.ofNat 32 a) v36 k1_t1 arg28 v229 (k1_pay79 lanesV (BitVec.ofNat 32 a) (BitVec.ofNat 32 l)) := fun _ _ => chk_one (fun x => by rw [e288 x]; omega)
  iapply (assume_ok (c := thr d i) ck1_hw38)
  iapply (own_ldIdx (c := thr d i) (m := arg12)) $$ Hr; iintro %v289 %hv289 Hr
  have u32 : ∀ x : S16.Idx, v289 x = vT V a l (32 + (x 0).val) := fun x => (hv289 x).trans ((congrArg G (e288 x)).trans (hR (min (32 + (x 0).val) (l - 1)) (by omega)))
  iapply (edge_put (c := thr d i) (m := arg20) (n := 32) (T := vT V a l) rfl rfl u32) $$ Hv; iintro Hv
  iapply Hk
  isplitl [Hi]; · iexact Hi
  isplitl [Hv]; · iexact Hv
  iexact Hr

/-- Lanes 48 to 95 of an edge. -/
theorem part8_ok (v2 : IVec S16 32) (v31 : BitVec 32) (v36 : BitVec 32) (v54 : BitVec 32) (k1_t1 : Fin k1_t1_loop.trips) (arg28 : BitVec 32) (v229 : BitVec 32) (k1_h3 : k1_cond3 v31 v36 k1_t1 arg28 v229 = 1#1) (k1_h4 : k1_cond4 v31 v36 = 1#1)
    {a l : ℕ} {G V : ℕ → BitVec 32} (hl : 0 < l) (hl8 : l < 9) (ha : a < 2 ^ 22) (hR : ∀ j < l, G ((a + j) % 8192) = V (a + j))
    (q2 : v2 = lanesV) (qa : v31 = BitVec.ofNat 32 a) (ql : v54 = BitVec.ofNat 32 l)
    {k : (PUnit) → Prog (TpuEff nD τ sig (Elt F) Λ₀ (.scVector ((i 0).castLE hcore1) ((i 1).castLE hsub1))) α} :
    (iprop(edgeB (F := F) (e := .i32) (thr d i) arg19 48 (iT a l) ∗ edgeB (F := F) (e := .i32) (thr d i) arg20 48 (vT V a l) ∗ own (F := F) (e := .i32) (thr d i) arg12 fullShare Set.univ G) : sProp (MM F))
      ⊢ iprop((iprop(edgeB (F := F) (e := .i32) (thr d i) arg19 96 (iT a l) ∗ edgeB (F := F) (e := .i32) (thr d i) arg20 96 (vT V a l) ∗ own (F := F) (e := .i32) (thr d i) arg12 fullShare Set.univ G) -∗ wp frame (wpE (defs₀ (F := F)) 𝒱₀ (thr d i) none) Set.univ (k ⟨⟩) Q)
        -∗ wp frame (wpE (defs₀ (F := F)) 𝒱₀ (thr d i) none) Set.univ (k1_part8 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v31 v36 v54 k1_t1 arg28 v229 k1_h3 k1_h4 >>= k) Q) := by
  subst q2
  subst qa
  subst ql
  rw [k1_part8_eq_skeleton]; unfold k1_part8_skel; simp only [bind_assoc, pure_bind]
  iintro ⟨Hi, Hv, Hr⟩ Hk
  have i48 : ∀ x : S16.Idx, (k1_pay80 lanesV (BitVec.ofNat 32 a) (BitVec.ofNat 32 l)) x = iT a l (48 + (x 0).val) := fun x => eI_at (n := 48) (a := a) (l := l) (by omega) hl (by omega) x
  iapply (edge_put (c := thr d i) (m := arg19) (n := 48) (T := iT a l) rfl rfl i48) $$ Hi; iintro Hi
  have e300 : ∀ x : S16.Idx, ((k1_pay81 lanesV (BitVec.ofNat 32 a) (BitVec.ofNat 32 l)) x).toNat = (a + min (48 + (x 0).val) (l - 1)) % 8192 := fun x => eR_at (n := 48) (a := a) (l := l) (by omega) hl (by omega) (by omega) x
  have ck1_hw39 : k1_chk39 (BitVec.ofNat 32 a) v36 k1_t1 arg28 v229 (k1_pay81 lanesV (BitVec.ofNat 32 a) (BitVec.ofNat 32 l)) := fun _ _ => chk_one (fun x => by rw [e300 x]; omega)
  iapply (assume_ok (c := thr d i) ck1_hw39)
  iapply (own_ldIdx (c := thr d i) (m := arg12)) $$ Hr; iintro %v301 %hv301 Hr
  have u48 : ∀ x : S16.Idx, v301 x = vT V a l (48 + (x 0).val) := fun x => (hv301 x).trans ((congrArg G (e300 x)).trans (hR (min (48 + (x 0).val) (l - 1)) (by omega)))
  iapply (edge_put (c := thr d i) (m := arg20) (n := 48) (T := vT V a l) rfl rfl u48) $$ Hv; iintro Hv
  have i64 : ∀ x : S16.Idx, (k1_pay82 lanesV (BitVec.ofNat 32 a) (BitVec.ofNat 32 l)) x = iT a l (64 + (x 0).val) := fun x => eI_at (n := 64) (a := a) (l := l) (by omega) hl (by omega) x
  iapply (edge_put (c := thr d i) (m := arg19) (n := 64) (T := iT a l) rfl rfl i64) $$ Hi; iintro Hi
  have e312 : ∀ x : S16.Idx, ((k1_pay83 lanesV (BitVec.ofNat 32 a) (BitVec.ofNat 32 l)) x).toNat = (a + min (64 + (x 0).val) (l - 1)) % 8192 := fun x => eR_at (n := 64) (a := a) (l := l) (by omega) hl (by omega) (by omega) x
  have ck1_hw40 : k1_chk40 (BitVec.ofNat 32 a) v36 k1_t1 arg28 v229 (k1_pay83 lanesV (BitVec.ofNat 32 a) (BitVec.ofNat 32 l)) := fun _ _ => chk_one (fun x => by rw [e312 x]; omega)
  iapply (assume_ok (c := thr d i) ck1_hw40)
  iapply (own_ldIdx (c := thr d i) (m := arg12)) $$ Hr; iintro %v313 %hv313 Hr
  have u64 : ∀ x : S16.Idx, v313 x = vT V a l (64 + (x 0).val) := fun x => (hv313 x).trans ((congrArg G (e312 x)).trans (hR (min (64 + (x 0).val) (l - 1)) (by omega)))
  iapply (edge_put (c := thr d i) (m := arg20) (n := 64) (T := vT V a l) rfl rfl u64) $$ Hv; iintro Hv
  have i80 : ∀ x : S16.Idx, (k1_pay84 lanesV (BitVec.ofNat 32 a) (BitVec.ofNat 32 l)) x = iT a l (80 + (x 0).val) := fun x => eI_at (n := 80) (a := a) (l := l) (by omega) hl (by omega) x
  iapply (edge_put (c := thr d i) (m := arg19) (n := 80) (T := iT a l) rfl rfl i80) $$ Hi; iintro Hi
  have e324 : ∀ x : S16.Idx, ((k1_pay85 lanesV (BitVec.ofNat 32 a) (BitVec.ofNat 32 l)) x).toNat = (a + min (80 + (x 0).val) (l - 1)) % 8192 := fun x => eR_at (n := 80) (a := a) (l := l) (by omega) hl (by omega) (by omega) x
  have ck1_hw41 : k1_chk41 (BitVec.ofNat 32 a) v36 k1_t1 arg28 v229 (k1_pay85 lanesV (BitVec.ofNat 32 a) (BitVec.ofNat 32 l)) := fun _ _ => chk_one (fun x => by rw [e324 x]; omega)
  iapply (assume_ok (c := thr d i) ck1_hw41)
  iapply (own_ldIdx (c := thr d i) (m := arg12)) $$ Hr; iintro %v325 %hv325 Hr
  have u80 : ∀ x : S16.Idx, v325 x = vT V a l (80 + (x 0).val) := fun x => (hv325 x).trans ((congrArg G (e324 x)).trans (hR (min (80 + (x 0).val) (l - 1)) (by omega)))
  iapply (edge_put (c := thr d i) (m := arg20) (n := 80) (T := vT V a l) rfl rfl u80) $$ Hv; iintro Hv
  iapply Hk
  isplitl [Hi]; · iexact Hi
  isplitl [Hv]; · iexact Hv
  iexact Hr

end Cert.Proof.Vox
-- ==== Proof.EdgeB.lean ====
/-
  The lanes of the edges: each part of the body puts a few groups of sixteen lanes in place.
-/
module

public import proofs.«01_k».proof.Proof.Edge

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD} {α : Type} {Q : α → sProp (MM F)}
variable (i : grid1.Coords) (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

/-- Lanes 0 to 15 of an edge. -/
theorem part9_ok (v2 : IVec S16 32) (v31 : BitVec 32) (v36 : BitVec 32) (v54 : BitVec 32) (k1_t1 : Fin k1_t1_loop.trips) (arg28 : BitVec 32) (v229 : BitVec 32) (k1_h3 : k1_cond3 v31 v36 k1_t1 arg28 v229 = 1#1) (k1_h5 : k1_cond5 v31 v36 = 1#1)
    {a l : ℕ} {G V : ℕ → F .f32} (hl : 0 < l) (hl8 : l < 9) (ha : a < 2 ^ 22) (hR : ∀ j < 3 * l, G (3 * ((a + j / 3) % 8192) + j % 3) = V (3 * a + j))
    (q2 : v2 = lanesV) (qa : v31 = BitVec.ofNat 32 a) (ql : v54 = BitVec.ofNat 32 l)
    {k : (Σ' (v290 : IVec S16 32) (v293 : IVec S16 32), IVec S16 32) → Prog (TpuEff nD τ sig (Elt F) Λ₀ (.scVector ((i 0).castLE hcore1) ((i 1).castLE hsub1))) α} :
    (iprop(edgeB (F := F) (e := .i32) (thr d i) arg19 0 (iT (3 * a) (3 * l)) ∗ edgeB (F := F) (e := .f32) (thr d i) arg21 0 (vT V (3 * a) (3 * l)) ∗ own (F := F) (e := .f32) (thr d i) arg13 fullShare Set.univ G) : sProp (MM F))
      ⊢ iprop((iprop(edgeB (F := F) (e := .i32) (thr d i) arg19 16 (iT (3 * a) (3 * l)) ∗ edgeB (F := F) (e := .f32) (thr d i) arg21 16 (vT V (3 * a) (3 * l)) ∗ own (F := F) (e := .f32) (thr d i) arg13 fullShare Set.univ G) -∗ wp frame (wpE (defs₀ (F := F)) 𝒱₀ (thr d i) none) Set.univ (k ⟨k1_pay93 v2 v54, k1_pay94 v2 v54, k1_pay95 v31⟩) Q)
        -∗ wp frame (wpE (defs₀ (F := F)) 𝒱₀ (thr d i) none) Set.univ (k1_part9 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v31 v36 v54 k1_t1 arg28 v229 k1_h3 k1_h5 >>= k) Q) := by
  subst q2
  subst qa
  subst ql
  rw [k1_part9_eq_skeleton]; unfold k1_part9_skel; simp only [bind_assoc, pure_bind]
  iintro ⟨Hi, Hv, Hr⟩ Hk
  have i0 : ∀ x : S16.Idx, (k1_pay90 lanesV (BitVec.ofNat 32 a) (BitVec.ofNat 32 l)) x = iT (3 * a) (3 * l) (0 + (x 0).val) := fun x => eX_at (n := 0) (a := a) (l := l) (by omega) hl hl8 ha x
  iapply (edge_put (c := thr d i) (m := arg19) (n := 0) (T := iT (3 * a) (3 * l)) rfl rfl i0) $$ Hi; iintro Hi
  have e278 : ∀ x : S16.Idx, ((k1_pay91 lanesV (BitVec.ofNat 32 a) (BitVec.ofNat 32 l)) x).toNat = 3 * ((a + min (0 + (x 0).val) (3 * l - 1) / 3) % 8192) + min (0 + (x 0).val) (3 * l - 1) % 3 := fun x => eXR_at (n := 0) (a := a) (l := l) (by omega) hl hl8 ha x
  have ck1_hw44 : k1_chk44 (BitVec.ofNat 32 a) v36 k1_t1 arg28 v229 (k1_pay91 lanesV (BitVec.ofNat 32 a) (BitVec.ofNat 32 l)) := fun _ _ => chk_one (fun x => by rw [e278 x]; omega)
  iapply (assume_ok (c := thr d i) ck1_hw44)
  iapply (own_ldIdx (c := thr d i) (m := arg13)) $$ Hr; iintro %v279 %hv279 Hr
  have u0 : ∀ x : S16.Idx, v279 x = vT V (3 * a) (3 * l) (0 + (x 0).val) := fun x => (hv279 x).trans ((congrArg G (e278 x)).trans (hR (min (0 + (x 0).val) (3 * l - 1)) (by omega)))
  iapply (edge_put (c := thr d i) (m := arg21) (n := 0) (T := vT V (3 * a) (3 * l)) rfl rfl u0) $$ Hv; iintro Hv
  iapply Hk
  isplitl [Hi]; · iexact Hi
  isplitl [Hv]; · iexact Hv
  iexact Hr

/-- Lanes 16 to 47 of an edge. -/
theorem part10_ok (v2 : IVec S16 32) (v31 : BitVec 32) (v36 : BitVec 32) (v54 : BitVec 32) (k1_t1 : Fin k1_t1_loop.trips) (arg28 : BitVec 32) (v229 : BitVec 32) (k1_h3 : k1_cond3 v31 v36 k1_t1 arg28 v229 = 1#1) (k1_h5 : k1_cond5 v31 v36 = 1#1) (v290 : IVec S16 32) (v293 : IVec S16 32) (v294 : IVec S16 32)
    {a l : ℕ} {G V : ℕ → F .f32} (hl : 0 < l) (hl8 : l < 9) (ha : a < 2 ^ 22) (hR : ∀ j < 3 * l, G (3 * ((a + j / 3) % 8192) + j % 3) = V (3 * a + j))
    (qv290 : v290 = k1_pay93 v2 v54) (qv293 : v293 = k1_pay94 v2 v54) (qv294 : v294 = k1_pay95 v31) (q2 : v2 = lanesV) (qa : v31 = BitVec.ofNat 32 a) (ql : v54 = BitVec.ofNat 32 l)
    {k : (PUnit) → Prog (TpuEff nD τ sig (Elt F) Λ₀ (.scVector ((i 0).castLE hcore1) ((i 1).castLE hsub1))) α} :
    (iprop(edgeB (F := F) (e := .i32) (thr d i) arg19 16 (iT (3 * a) (3 * l)) ∗ edgeB (F := F) (e := .f32) (thr d i) arg21 16 (vT V (3 * a) (3 * l)) ∗ own (F := F) (e := .f32) (thr d i) arg13 fullShare Set.univ G) : sProp (MM F))
      ⊢ iprop((iprop(edgeB (F := F) (e := .i32) (thr d i) arg19 48 (iT (3 * a) (3 * l)) ∗ edgeB (F := F) (e := .f32) (thr d i) arg21 48 (vT V (3 * a) (3 * l)) ∗ own (F := F) (e := .f32) (thr d i) arg13 fullShare Set.univ G) -∗ wp frame (wpE (defs₀ (F := F)) 𝒱₀ (thr d i) none) Set.univ (k ⟨⟩) Q)
        -∗ wp frame (wpE (defs₀ (F := F)) 𝒱₀ (thr d i) none) Set.univ (k1_part10 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v31 v36 v54 k1_t1 arg28 v229 k1_h3 k1_h5 v290 v293 v294 >>= k) Q) := by
  subst qv294 qv293 qv290
  subst q2
  subst qa
  subst ql
  rw [k1_part10_eq_skeleton]; unfold k1_part10_skel; simp only [bind_assoc, pure_bind]
  iintro ⟨Hi, Hv, Hr⟩ Hk
  have i16 : ∀ x : S16.Idx, (k1_pay97 (k1_pay93 lanesV (BitVec.ofNat 32 l)) (k1_pay94 lanesV (BitVec.ofNat 32 l)) (k1_pay95 (BitVec.ofNat 32 a))) x = iT (3 * a) (3 * l) (16 + (x 0).val) := fun x => eX_at (n := 16) (a := a) (l := l) (by omega) hl hl8 ha x
  iapply (edge_put (c := thr d i) (m := arg19) (n := 16) (T := iT (3 * a) (3 * l)) rfl rfl i16) $$ Hi; iintro Hi
  have e304 : ∀ x : S16.Idx, ((k1_pay98 (k1_pay93 lanesV (BitVec.ofNat 32 l)) (k1_pay94 lanesV (BitVec.ofNat 32 l)) (k1_pay95 (BitVec.ofNat 32 a))) x).toNat = 3 * ((a + min (16 + (x 0).val) (3 * l - 1) / 3) % 8192) + min (16 + (x 0).val) (3 * l - 1) % 3 := fun x => eXR_at (n := 16) (a := a) (l := l) (by omega) hl hl8 ha x
  have ck1_hw45 : k1_chk45 (BitVec.ofNat 32 a) v36 k1_t1 arg28 v229 (k1_pay98 (k1_pay93 lanesV (BitVec.ofNat 32 l)) (k1_pay94 lanesV (BitVec.ofNat 32 l)) (k1_pay95 (BitVec.ofNat 32 a))) := fun _ _ => chk_one (fun x => by rw [e304 x]; omega)
  iapply (assume_ok (c := thr d i) ck1_hw45)
  iapply (own_ldIdx (c := thr d i) (m := arg13)) $$ Hr; iintro %v305 %hv305 Hr
  have u16 : ∀ x : S16.Idx, v305 x = vT V (3 * a) (3 * l) (16 + (x 0).val) := fun x => (hv305 x).trans ((congrArg G (e304 x)).trans (hR (min (16 + (x 0).val) (3 * l - 1)) (by omega)))
  iapply (edge_put (c := thr d i) (m := arg21) (n := 16) (T := vT V (3 * a) (3 * l)) rfl rfl u16) $$ Hv; iintro Hv
  have i32 : ∀ x : S16.Idx, (k1_pay103 lanesV (BitVec.ofNat 32 a) (BitVec.ofNat 32 l)) x = iT (3 * a) (3 * l) (32 + (x 0).val) := fun x => eX_at (n := 32) (a := a) (l := l) (by omega) hl hl8 ha x
  iapply (edge_put (c := thr d i) (m := arg19) (n := 32) (T := iT (3 * a) (3 * l)) rfl rfl i32) $$ Hi; iintro Hi
  have e330 : ∀ x : S16.Idx, ((k1_pay104 lanesV (BitVec.ofNat 32 a) (BitVec.ofNat 32 l)) x).toNat = 3 * ((a + min (32 + (x 0).val) (3 * l - 1) / 3) % 8192) + min (32 + (x 0).val) (3 * l - 1) % 3 := fun x => eXR_at (n := 32) (a := a) (l := l) (by omega) hl hl8 ha x
  have ck1_hw46 : k1_chk46 (BitVec.ofNat 32 a) v36 k1_t1 arg28 v229 (k1_pay104 lanesV (BitVec.ofNat 32 a) (BitVec.ofNat 32 l)) := fun _ _ => chk_one (fun x => by rw [e330 x]; omega)
  iapply (assume_ok (c := thr d i) ck1_hw46)
  iapply (own_ldIdx (c := thr d i) (m := arg13)) $$ Hr; iintro %v331 %hv331 Hr
  have u32 : ∀ x : S16.Idx, v331 x = vT V (3 * a) (3 * l) (32 + (x 0).val) := fun x => (hv331 x).trans ((congrArg G (e330 x)).trans (hR (min (32 + (x 0).val) (3 * l - 1)) (by omega)))
  iapply (edge_put (c := thr d i) (m := arg21) (n := 32) (T := vT V (3 * a) (3 * l)) rfl rfl u32) $$ Hv; iintro Hv
  iapply Hk
  isplitl [Hi]; · iexact Hi
  isplitl [Hv]; · iexact Hv
  iexact Hr

/-- Lanes 48 to 63 of an edge. -/
theorem part11_ok (v2 : IVec S16 32) (v31 : BitVec 32) (v36 : BitVec 32) (v54 : BitVec 32) (k1_t1 : Fin k1_t1_loop.trips) (arg28 : BitVec 32) (v229 : BitVec 32) (k1_h3 : k1_cond3 v31 v36 k1_t1 arg28 v229 = 1#1) (k1_h5 : k1_cond5 v31 v36 = 1#1)
    {a l : ℕ} {G V : ℕ → F .f32} (hl : 0 < l) (hl8 : l < 9) (ha : a < 2 ^ 22) (hR : ∀ j < 3 * l, G (3 * ((a + j / 3) % 8192) + j % 3) = V (3 * a + j))
    (q2 : v2 = lanesV) (qa : v31 = BitVec.ofNat 32 a) (ql : v54 = BitVec.ofNat 32 l)
    {k : (Σ' (v368 : IVec S16 32) (v371 : IVec S16 32), IVec S16 32) → Prog (TpuEff nD τ sig (Elt F) Λ₀ (.scVector ((i 0).castLE hcore1) ((i 1).castLE hsub1))) α} :
    (iprop(edgeB (F := F) (e := .i32) (thr d i) arg19 48 (iT (3 * a) (3 * l)) ∗ edgeB (F := F) (e := .f32) (thr d i) arg21 48 (vT V (3 * a) (3 * l)) ∗ own (F := F) (e := .f32) (thr d i) arg13 fullShare Set.univ G) : sProp (MM F))
      ⊢ iprop((iprop(edgeB (F := F) (e := .i32) (thr d i) arg19 64 (iT (3 * a) (3 * l)) ∗ edgeB (F := F) (e := .f32) (thr d i) arg21 64 (vT V (3 * a) (3 * l)) ∗ own (F := F) (e := .f32) (thr d i) arg13 fullShare Set.univ G) -∗ wp frame (wpE (defs₀ (F := F)) 𝒱₀ (thr d i) none) Set.univ (k ⟨k1_pay112 v2 v54, k1_pay113 v2 v54, k1_pay114 v31⟩) Q)
        -∗ wp frame (wpE (defs₀ (F := F)) 𝒱₀ (thr d i) none) Set.univ (k1_part11 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v31 v36 v54 k1_t1 arg28 v229 k1_h3 k1_h5 >>= k) Q) := by
  subst q2
  subst qa
  subst ql
  rw [k1_part11_eq_skeleton]; unfold k1_part11_skel; simp only [bind_assoc, pure_bind]
  iintro ⟨Hi, Hv, Hr⟩ Hk
  have i48 : ∀ x : S16.Idx, (k1_pay109 lanesV (BitVec.ofNat 32 a) (BitVec.ofNat 32 l)) x = iT (3 * a) (3 * l) (48 + (x 0).val) := fun x => eX_at (n := 48) (a := a) (l := l) (by omega) hl hl8 ha x
  iapply (edge_put (c := thr d i) (m := arg19) (n := 48) (T := iT (3 * a) (3 * l)) rfl rfl i48) $$ Hi; iintro Hi
  have e356 : ∀ x : S16.Idx, ((k1_pay110 lanesV (BitVec.ofNat 32 a) (BitVec.ofNat 32 l)) x).toNat = 3 * ((a + min (48 + (x 0).val) (3 * l - 1) / 3) % 8192) + min (48 + (x 0).val) (3 * l - 1) % 3 := fun x => eXR_at (n := 48) (a := a) (l := l) (by omega) hl hl8 ha x
  have ck1_hw47 : k1_chk47 (BitVec.ofNat 32 a) v36 k1_t1 arg28 v229 (k1_pay110 lanesV (BitVec.ofNat 32 a) (BitVec.ofNat 32 l)) := fun _ _ => chk_one (fun x => by rw [e356 x]; omega)
  iapply (assume_ok (c := thr d i) ck1_hw47)
  iapply (own_ldIdx (c := thr d i) (m := arg13)) $$ Hr; iintro %v357 %hv357 Hr
  have u48 : ∀ x : S16.Idx, v357 x = vT V (3 * a) (3 * l) (48 + (x 0).val) := fun x => (hv357 x).trans ((congrArg G (e356 x)).trans (hR (min (48 + (x 0).val) (3 * l - 1)) (by omega)))
  iapply (edge_put (c := thr d i) (m := arg21) (n := 48) (T := vT V (3 * a) (3 * l)) rfl rfl u48) $$ Hv; iintro Hv
  iapply Hk
  isplitl [Hi]; · iexact Hi
  isplitl [Hv]; · iexact Hv
  iexact Hr

/-- Lanes 64 to 95 of an edge. -/
theorem part12_ok (v2 : IVec S16 32) (v31 : BitVec 32) (v36 : BitVec 32) (v54 : BitVec 32) (k1_t1 : Fin k1_t1_loop.trips) (arg28 : BitVec 32) (v229 : BitVec 32) (k1_h3 : k1_cond3 v31 v36 k1_t1 arg28 v229 = 1#1) (k1_h5 : k1_cond5 v31 v36 = 1#1) (v368 : IVec S16 32) (v371 : IVec S16 32) (v372 : IVec S16 32)
    {a l : ℕ} {G V : ℕ → F .f32} (hl : 0 < l) (hl8 : l < 9) (ha : a < 2 ^ 22) (hR : ∀ j < 3 * l, G (3 * ((a + j / 3) % 8192) + j % 3) = V (3 * a + j))
    (qv368 : v368 = k1_pay112 v2 v54) (qv371 : v371 = k1_pay113 v2 v54) (qv372 : v372 = k1_pay114 v31) (q2 : v2 = lanesV) (qa : v31 = BitVec.ofNat 32 a) (ql : v54 = BitVec.ofNat 32 l)
    {k : (PUnit) → Prog (TpuEff nD τ sig (Elt F) Λ₀ (.scVector ((i 0).castLE hcore1) ((i 1).castLE hsub1))) α} :
    (iprop(edgeB (F := F) (e := .i32) (thr d i) arg19 64 (iT (3 * a) (3 * l)) ∗ edgeB (F := F) (e := .f32) (thr d i) arg21 64 (vT V (3 * a) (3 * l)) ∗ own (F := F) (e := .f32) (thr d i) arg13 fullShare Set.univ G) : sProp (MM F))
      ⊢ iprop((iprop(edgeB (F := F) (e := .i32) (thr d i) arg19 96 (iT (3 * a) (3 * l)) ∗ edgeB (F := F) (e := .f32) (thr d i) arg21 96 (vT V (3 * a) (3 * l)) ∗ own (F := F) (e := .f32) (thr d i) arg13 fullShare Set.univ G) -∗ wp frame (wpE (defs₀ (F := F)) 𝒱₀ (thr d i) none) Set.univ (k ⟨⟩) Q)
        -∗ wp frame (wpE (defs₀ (F := F)) 𝒱₀ (thr d i) none) Set.univ (k1_part12 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v31 v36 v54 k1_t1 arg28 v229 k1_h3 k1_h5 v368 v371 v372 >>= k) Q) := by
  subst qv372 qv371 qv368
  subst q2
  subst qa
  subst ql
  rw [k1_part12_eq_skeleton]; unfold k1_part12_skel; simp only [bind_assoc, pure_bind]
  iintro ⟨Hi, Hv, Hr⟩ Hk
  have i64 : ∀ x : S16.Idx, (k1_pay116 (k1_pay112 lanesV (BitVec.ofNat 32 l)) (k1_pay113 lanesV (BitVec.ofNat 32 l)) (k1_pay114 (BitVec.ofNat 32 a))) x = iT (3 * a) (3 * l) (64 + (x 0).val) := fun x => eX_at (n := 64) (a := a) (l := l) (by omega) hl hl8 ha x
  iapply (edge_put (c := thr d i) (m := arg19) (n := 64) (T := iT (3 * a) (3 * l)) rfl rfl i64) $$ Hi; iintro Hi
  have e382 : ∀ x : S16.Idx, ((k1_pay117 (k1_pay112 lanesV (BitVec.ofNat 32 l)) (k1_pay113 lanesV (BitVec.ofNat 32 l)) (k1_pay114 (BitVec.ofNat 32 a))) x).toNat = 3 * ((a + min (64 + (x 0).val) (3 * l - 1) / 3) % 8192) + min (64 + (x 0).val) (3 * l - 1) % 3 := fun x => eXR_at (n := 64) (a := a) (l := l) (by omega) hl hl8 ha x
  have ck1_hw48 : k1_chk48 (BitVec.ofNat 32 a) v36 k1_t1 arg28 v229 (k1_pay117 (k1_pay112 lanesV (BitVec.ofNat 32 l)) (k1_pay113 lanesV (BitVec.ofNat 32 l)) (k1_pay114 (BitVec.ofNat 32 a))) := fun _ _ => chk_one (fun x => by rw [e382 x]; omega)
  iapply (assume_ok (c := thr d i) ck1_hw48)
  iapply (own_ldIdx (c := thr d i) (m := arg13)) $$ Hr; iintro %v383 %hv383 Hr
  have u64 : ∀ x : S16.Idx, v383 x = vT V (3 * a) (3 * l) (64 + (x 0).val) := fun x => (hv383 x).trans ((congrArg G (e382 x)).trans (hR (min (64 + (x 0).val) (3 * l - 1)) (by omega)))
  iapply (edge_put (c := thr d i) (m := arg21) (n := 64) (T := vT V (3 * a) (3 * l)) rfl rfl u64) $$ Hv; iintro Hv
  have i80 : ∀ x : S16.Idx, (k1_pay122 lanesV (BitVec.ofNat 32 a) (BitVec.ofNat 32 l)) x = iT (3 * a) (3 * l) (80 + (x 0).val) := fun x => eX_at (n := 80) (a := a) (l := l) (by omega) hl hl8 ha x
  iapply (edge_put (c := thr d i) (m := arg19) (n := 80) (T := iT (3 * a) (3 * l)) rfl rfl i80) $$ Hi; iintro Hi
  have e408 : ∀ x : S16.Idx, ((k1_pay123 lanesV (BitVec.ofNat 32 a) (BitVec.ofNat 32 l)) x).toNat = 3 * ((a + min (80 + (x 0).val) (3 * l - 1) / 3) % 8192) + min (80 + (x 0).val) (3 * l - 1) % 3 := fun x => eXR_at (n := 80) (a := a) (l := l) (by omega) hl hl8 ha x
  have ck1_hw49 : k1_chk49 (BitVec.ofNat 32 a) v36 k1_t1 arg28 v229 (k1_pay123 lanesV (BitVec.ofNat 32 a) (BitVec.ofNat 32 l)) := fun _ _ => chk_one (fun x => by rw [e408 x]; omega)
  iapply (assume_ok (c := thr d i) ck1_hw49)
  iapply (own_ldIdx (c := thr d i) (m := arg13)) $$ Hr; iintro %v409 %hv409 Hr
  have u80 : ∀ x : S16.Idx, v409 x = vT V (3 * a) (3 * l) (80 + (x 0).val) := fun x => (hv409 x).trans ((congrArg G (e408 x)).trans (hR (min (80 + (x 0).val) (3 * l - 1)) (by omega)))
  iapply (edge_put (c := thr d i) (m := arg21) (n := 80) (T := vT V (3 * a) (3 * l)) rfl rfl u80) $$ Hv; iintro Hv
  iapply Hk
  isplitl [Hi]; · iexact Hi
  isplitl [Hv]; · iexact Hv
  iexact Hr

/-- Lanes 96 to 111 of an edge. -/
theorem part13_ok (v2 : IVec S16 32) (v31 : BitVec 32) (v36 : BitVec 32) (v54 : BitVec 32) (k1_t1 : Fin k1_t1_loop.trips) (arg28 : BitVec 32) (v229 : BitVec 32) (k1_h3 : k1_cond3 v31 v36 k1_t1 arg28 v229 = 1#1) (k1_h5 : k1_cond5 v31 v36 = 1#1)
    {a l : ℕ} {G V : ℕ → F .f32} (hl : 0 < l) (hl8 : l < 9) (ha : a < 2 ^ 22) (hR : ∀ j < 3 * l, G (3 * ((a + j / 3) % 8192) + j % 3) = V (3 * a + j))
    (q2 : v2 = lanesV) (qa : v31 = BitVec.ofNat 32 a) (ql : v54 = BitVec.ofNat 32 l)
    {k : (Σ' (v446 : IVec S16 32) (v449 : IVec S16 32), IVec S16 32) → Prog (TpuEff nD τ sig (Elt F) Λ₀ (.scVector ((i 0).castLE hcore1) ((i 1).castLE hsub1))) α} :
    (iprop(edgeB (F := F) (e := .i32) (thr d i) arg19 96 (iT (3 * a) (3 * l)) ∗ edgeB (F := F) (e := .f32) (thr d i) arg21 96 (vT V (3 * a) (3 * l)) ∗ own (F := F) (e := .f32) (thr d i) arg13 fullShare Set.univ G) : sProp (MM F))
      ⊢ iprop((iprop(edgeB (F := F) (e := .i32) (thr d i) arg19 112 (iT (3 * a) (3 * l)) ∗ edgeB (F := F) (e := .f32) (thr d i) arg21 112 (vT V (3 * a) (3 * l)) ∗ own (F := F) (e := .f32) (thr d i) arg13 fullShare Set.univ G) -∗ wp frame (wpE (defs₀ (F := F)) 𝒱₀ (thr d i) none) Set.univ (k ⟨k1_pay131 v2 v54, k1_pay132 v2 v54, k1_pay133 v31⟩) Q)
        -∗ wp frame (wpE (defs₀ (F := F)) 𝒱₀ (thr d i) none) Set.univ (k1_part13 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v31 v36 v54 k1_t1 arg28 v229 k1_h3 k1_h5 >>= k) Q) := by
  subst q2
  subst qa
  subst ql
  rw [k1_part13_eq_skeleton]; unfold k1_part13_skel; simp only [bind_assoc, pure_bind]
  iintro ⟨Hi, Hv, Hr⟩ Hk
  have i96 : ∀ x : S16.Idx, (k1_pay128 lanesV (BitVec.ofNat 32 a) (BitVec.ofNat 32 l)) x = iT (3 * a) (3 * l) (96 + (x 0).val) := fun x => eX_at (n := 96) (a := a) (l := l) (by omega) hl hl8 ha x
  iapply (edge_put (c := thr d i) (m := arg19) (n := 96) (T := iT (3 * a) (3 * l)) rfl rfl i96) $$ Hi; iintro Hi
  have e434 : ∀ x : S16.Idx, ((k1_pay129 lanesV (BitVec.ofNat 32 a) (BitVec.ofNat 32 l)) x).toNat = 3 * ((a + min (96 + (x 0).val) (3 * l - 1) / 3) % 8192) + min (96 + (x 0).val) (3 * l - 1) % 3 := fun x => eXR_at (n := 96) (a := a) (l := l) (by omega) hl hl8 ha x
  have ck1_hw50 : k1_chk50 (BitVec.ofNat 32 a) v36 k1_t1 arg28 v229 (k1_pay129 lanesV (BitVec.ofNat 32 a) (BitVec.ofNat 32 l)) := fun _ _ => chk_one (fun x => by rw [e434 x]; omega)
  iapply (assume_ok (c := thr d i) ck1_hw50)
  iapply (own_ldIdx (c := thr d i) (m := arg13)) $$ Hr; iintro %v435 %hv435 Hr
  have u96 : ∀ x : S16.Idx, v435 x = vT V (3 * a) (3 * l) (96 + (x 0).val) := fun x => (hv435 x).trans ((congrArg G (e434 x)).trans (hR (min (96 + (x 0).val) (3 * l - 1)) (by omega)))
  iapply (edge_put (c := thr d i) (m := arg21) (n := 96) (T := vT V (3 * a) (3 * l)) rfl rfl u96) $$ Hv; iintro Hv
  iapply Hk
  isplitl [Hi]; · iexact Hi
  isplitl [Hv]; · iexact Hv
  iexact Hr

end Cert.Proof.Vox
-- ==== Proof.FlushLoop.lean ====
/-
  The loop writing out every full block the rings hold.
-/
module

public import proofs.«01_k».proof.Proof.Words

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The number of full blocks pending, as the word the loop runs to. -/
theorem t3_ub {o f : ℕ} (ho : o < 2 ^ 31) (hf : f < 2 ^ 31) : (k1_t3_loop (BitVec.ofNat 32 f) (BitVec.ofNat 32 o)).ub = BitVec.ofNat 32 ((o - f) / 2048) := by
  show Scalar.addi 0#32 (Scalar.muli (Scalar.divsi (Scalar.subi (Scalar.shrsi (Scalar.maxsi (Scalar.subi (BitVec.ofNat 32 o) (BitVec.ofNat 32 f)) 0#32) 11#32) 0#32) 1#32) 1#32) = _
  rw [Scalar.muli_divsi_one, max0_ofNat ho hf]
  rw [show Scalar.shrsi (BitVec.ofNat 32 (o - f)) 11#32 = BitVec.ofNat 32 ((o - f) / 2048) from shr_ofNat _ 11 (by omega) (by omega)]
  show 0#32 + (BitVec.ofNat 32 ((o - f) / 2048) - 0#32) = _
  simp

theorem t3_trips {o f : ℕ} (ho : o < 2 ^ 31) (hf : f < 2 ^ 31) : (k1_t3_loop (BitVec.ofNat 32 f) (BitVec.ofNat 32 o)).trips = (o - f) / 2048 := by
  show Scf.trips 0#32 (k1_t3_loop (BitVec.ofNat 32 f) (BitVec.ofNat 32 o)).ub 1#32 = _
  rw [t3_ub ho hf]
  exact trips_ofNat (by omega)

theorem chk33_ok {o f : ℕ} (ho : o < 2 ^ 31) (hf : f < 2 ^ 31) : k1_chk33 (BitVec.ofNat 32 f) (BitVec.ofNat 32 o) := by
  refine ⟨?_, ?_⟩
  · show Scf.OK 0#32 (k1_t3_loop (BitVec.ofNat 32 f) (BitVec.ofNat 32 o)).ub 1#32
    rw [t3_ub ho hf]
    exact ok_ofNat (by omega)
  · exact Scf.rem_ok _ _

theorem t6_trips {x y : BitVec 32} : (k1_t6_loop x y).trips = 0 := Scf.rem_trips _ _

variable {mw : ℕ → BitVec 32} {d : Dev nD} {a : ℕ} {Y : ℕ → ℕ → F .f32}

variable (i : grid1.Coords) (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

/-- Every full block pending goes out: the two loops of blocks, of which the second is never entered. -/
theorem flush_loop (v1 v13 v16 v17 v31 : BitVec 32) (v33 : IVec S16 32)
    {o lo hi s f : ℕ} {O : CellTallies nD τ sig (HIx 2)} {W₀ : Waits sig (HIx 2)} {α : Type}
    {kk : BitVec 32 → Prog (TpuEff nD τ sig (Elt F) Λ₀ (thr d i).2) α} {Q : α → sProp (MM F)}
    (hw33 : k1_chk33 (BitVec.ofNat 32 f) (BitVec.ofNat 32 o))
    (h8 : 2048 + f ≤ o → 8 ∣ f) (hi' : hi ≤ 2097152) (hlo : lo ≤ f) (hoh : o ≤ hi) (ha : a ≤ f) (hf : f < 2 ^ 31) (ho : o ≤ f + 8192) :
    (flushInv i arg8 arg9 arg12 arg13 z6 z7 d mw Y a o lo hi s f O W₀ : sProp (MM F))
      ⊢ iprop((flushInv i arg8 arg9 arg12 arg13 z6 z7 d mw Y a o lo hi s (f + 2048 * ((o - f) / 2048)) O W₀
          -∗ wp frame (wpE (defs₀ (F := F)) 𝒱₀ (thr d i) none) Set.univ (kk (BitVec.ofNat 32 (f + 2048 * ((o - f) / 2048)))) Q)
        -∗ wp frame (wpE (defs₀ (F := F)) 𝒱₀ (thr d i) none) Set.univ
          (Scf.Loop.for (k1_t3_loop (BitVec.ofNat 32 f) (BitVec.ofNat 32 o)) (k1_t3_ok _ _ hw33) (BitVec.ofNat 32 f)
              (k1_t3_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 lanesV v13 v16 v17 v31 v33 _ _ hw33) >>= fun v238 =>
            Scf.Loop.for (k1_t6_loop (BitVec.ofNat 32 f) (BitVec.ofNat 32 o)) (k1_t6_ok _ _ hw33) v238
              (k1_t6_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 lanesV v13 v16 v17 v31 v33 _ _ hw33) >>= kk) Q) := by
  iintro H Hk
  have htr := t3_trips (o := o) (f := f) (by omega) (by omega)
  iapply (Scf.wp_for_bind frame (wpE (defs₀ (F := F)) 𝒱₀ (thr d i) none) Set.univ _ _ _ (k1_t3_ok _ _ hw33) (BitVec.ofNat 32 f)
    (k1_t3_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 lanesV v13 v16 v17 v31 v33 _ _ hw33)
    (fun n acc => iprop(flushInv i arg8 arg9 arg12 arg13 z6 z7 d mw Y a o lo hi s (f + 2048 * n) O W₀ ∗ ⌜acc = BitVec.ofNat 32 (f + 2048 * n)⌝))
    (fun k acc => by
      have hk : k.val < (o - f) / 2048 := htr ▸ k.isLt
      iintro ⟨H, %hacc⟩
      subst hacc
      iapply (t3_body i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 v13 v16 v17 v31 v33 (BitVec.ofNat 32 f) (BitVec.ofNat 32 o) hw33 k (d := d) (f := f + 2048 * k.val) (by omega) hi' (by omega) (by omega) (by omega) (by omega) (by omega)) $$ H
      iintro H
      rw [show f + 2048 * k.val + 2048 = f + 2048 * (k.val + 1) by omega]
      isplitl [H]; · iexact H
      ipureintro; rfl)) $$ [H]
  · isplitl [H]; · iexact H
    ipureintro; rfl
  iintro %v238 ⟨H, %hv⟩
  subst hv
  rw [show Scf.trips (k1_t3_loop (BitVec.ofNat 32 f) (BitVec.ofNat 32 o)).lb (k1_t3_loop (BitVec.ofNat 32 f) (BitVec.ofNat 32 o)).ub (k1_t3_loop (BitVec.ofNat 32 f) (BitVec.ofNat 32 o)).st = (o - f) / 2048 from htr]
  rw [show (Scf.Loop.for (k1_t6_loop (BitVec.ofNat 32 f) (BitVec.ofNat 32 o)) (k1_t6_ok _ _ hw33) (BitVec.ofNat 32 (f + 2048 * ((o - f) / 2048)))
              (k1_t6_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 lanesV v13 v16 v17 v31 v33 _ _ hw33)) = .ret (BitVec.ofNat 32 (f + 2048 * ((o - f) / 2048))) from
    Scf.for_eq_ret _ _ _ _ _ _ t6_trips]
  iapply Hk
  iexact H

end Cert.Proof.Vox
-- ==== Proof.Main1.lean ====
/-
  One sub-chunk of the main body: its mask and noise come in, its vertices go into the rings, whole blocks go out, and once the first rows are all
  in the ring they go out by an edge scatter.
-/
module

public import proofs.«01_k».proof.Proof.EdgeA
public import proofs.«01_k».proof.Proof.EdgeB
public import proofs.«01_k».proof.Proof.FlushLoop

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD} {mw : ℕ → BitVec 32} {nz sc of : ℕ → F .f32}

theorem iv_ofNat {n : ℕ} : Scf.iv 0#32 1#32 n = BitVec.ofNat 32 n := by
  show 0#32 + BitVec.ofNat 32 n * 1#32 = _
  rw [BitVec.mul_one, BitVec.zero_add]

theorem ne_extui {b : BitVec 1} : Scalar.cmpi .ne (Scalar.extui b) (0#32) = 1#1 ↔ b = 1#1 := by
  revert b; decide

theorem andi1 {x y : BitVec 1} : Scalar.andi x y = 1#1 ↔ x = 1#1 ∧ y = 1#1 := by revert x y; decide
theorem ori1 {x y : BitVec 1} : Scalar.ori x y = 1#1 ↔ x = 1#1 ∨ y = 1#1 := by revert x y; decide

theorem eqi_ofNat {a b : ℕ} (ha : a < 2 ^ 32) (hb : b < 2 ^ 32) : Scalar.cmpi .eq (BitVec.ofNat 32 a) (BitVec.ofNat 32 b) = 1#1 ↔ a = b := by
  rw [← eq_ofNat ha hb]
  show IntOp.cmpi .eq _ _ = 1#1 ↔ _
  rw [WordCmp.cmpi_eq_eq]
  by_cases h : BitVec.ofNat 32 a = BitVec.ofNat 32 b <;> simp [h]

/-- Whether the first rows go out now. -/
theorem fire_iff {o a head fd si : ℕ} (ho : o < 2 ^ 31) (hao : a ≤ o) (hh : head < 8) (hf : fd < 2) (hs : si < 16) :
    Scalar.andi (Scalar.cmpi .eq (BitVec.ofNat 32 fd) 0#32)
      (Scalar.ori (Scalar.cmpi .sge (Scalar.subi (BitVec.ofNat 32 o) (BitVec.ofNat 32 a)) (BitVec.ofNat 32 head)) (Scalar.cmpi .eq (Scf.iv 0#32 1#32 si) 15#32)) = 1#1
      ↔ fd = 0 ∧ (head ≤ o - a ∨ si = 15) := by
  rw [andi1, ori1, iv_ofNat, sub_ofNat hao, eqi_ofNat (b := 15) (by omega) (by omega), eqi_ofNat (b := 0) (by omega) (by omega)]
  rw [show (Scalar.cmpi .sge (BitVec.ofNat 32 (o - a)) (BitVec.ofNat 32 head) = 1#1) ↔ head ≤ o - a from
    WordCmp.cmpi_sge_ofNat_eq_one_iff (w := 32) (by omega) (by omega)]

/-- What the ring of vertices holds at a row. -/
theorem ring_edgeO {X : Type} {V G : ℕ → X} {a o l : ℕ} (h : Ring 1 0 a o V G) (h1 : a + l ≤ o) (h2 : o ≤ a + 8192) : ∀ j < l, G ((a + j) % 8192) = V (a + j) := by
  intro j hj
  have := h (a + j) (by omega) (by omega) (by omega)
  rwa [Nat.one_mul, Nat.add_zero] at this

/-- What the ring of points holds at a component of a row. -/
theorem ring_edgeX {X : Type} {Y : ℕ → ℕ → X} {G : ℕ → X} {a o l r : ℕ}
    (h : Ring 3 0 r o (fun p => Y 0 (nthOf mw p)) G ∧ Ring 3 1 r o (fun p => Y 1 (nthOf mw p)) G ∧ Ring 3 2 r o (fun p => Y 2 (nthOf mw p)) G)
    (h1 : a + l ≤ o) (h2 : o ≤ a + 8192) (hr : r ≤ a := by omega) : ∀ j < 3 * l, G (3 * ((a + j / 3) % 8192) + j % 3) = xwV Y mw (3 * a + j) := by
  intro j hj
  unfold xwV
  rw [show (3 * a + j) % 3 = j % 3 by omega, show (3 * a + j) / 3 = a + j / 3 by omega]
  have hm : j % 3 = 0 ∨ j % 3 = 1 ∨ j % 3 = 2 := by omega
  rcases hm with e | e | e <;> rw [e]
  · exact h.1 (a + j / 3) (by omega) (by omega) (by omega)
  · exact h.2.1 (a + j / 3) (by omega) (by omega) (by omega)
  · exact h.2.2 (a + j / 3) (by omega) (by omega) (by omega)

/-- The rows before the first aligned one. -/
def headOf (a n : ℕ) : ℕ := min ((8 - a % 8) % 8) n

theorem head_word {a n : ℕ} (ha : a < 2 ^ 31) (hn : n < 2 ^ 31) :
    Scalar.minsi (Scalar.andi (Scalar.subi 8#32 (Scalar.andi (BitVec.ofNat 32 a) 7#32)) 7#32) (BitVec.ofNat 32 n) = BitVec.ofNat 32 (headOf a n) := by
  rw [and7_ofNat (by omega), show Scalar.subi 8#32 (BitVec.ofNat 32 (a % 8)) = BitVec.ofNat 32 (8 - a % 8) from sub_ofNat (a := 8) (by omega),
    and7_ofNat (by omega), min_ofNat (by omega) hn]; rfl

/-- A buffer held whole. -/
def anyB {sp : Space} {dd : Fin 1 → ℕ} {e : EltTy} (c : Thread nD τ) (m : Memref sig c.2.kind sp ⟨1, dd⟩ e) : sProp (MM F) :=
  iprop(∃ G : ℕ → Elt F e, own c m fullShare Set.univ G)

theorem edgeB_any {c : Thread nD τ} {sp : Space} {dd : Fin 1 → ℕ} {e : EltTy} {m : Memref sig c.2.kind sp ⟨1, dd⟩ e} {n : ℕ} {T : ℕ → Elt F e} :
    (edgeB c m n T : sProp (MM F)) ⊢ anyB c m := by
  unfold edgeB anyB
  iintro ⟨%G, H, %hG⟩
  iexists G; iexact H

theorem any_edgeB {c : Thread nD τ} {sp : Space} {dd : Fin 1 → ℕ} {e : EltTy} {m : Memref sig c.2.kind sp ⟨1, dd⟩ e} {T : ℕ → Elt F e} :
    (anyB c m : sProp (MM F)) ⊢ edgeB c m 0 T := by
  unfold edgeB anyB
  iintro ⟨%G, H⟩
  iexists G
  isplitl [H]; · iexact H
  ipureintro; intro j hj; omega

/-- Where the flushes stand at the start of a sub-chunk. -/
def FlAt (mw : ℕ → BitVec 32) (w si f fd : ℕ) : Prop :=
  let a := cnt mw (65536 * w); let b := cnt mw (65536 * (w + 1)); let h := headOf a (b - a); let o := cnt mw (65536 * w + 4096 * si)
  a + h ≤ f ∧ f ≤ max o (a + h) ∧ o < f + 2048 ∧ (8 ∣ f ∨ b ≤ f) ∧ fd < 2 ∧ (fd = 0 → o ≤ a + 7 ∧ f = a + h ∧ si < 16)

variable (i : grid1.Coords) (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

/-- What the loop over sub-chunks keeps. -/
def t1Inv (d : Dev nD) (mw : ℕ → BitVec 32) (nz sc of : ℕ → F .f32) (q₂ q₃ : PosShare TreeShare) (w : ℕ) (O : CellTallies nD τ sig (HIx 2)) (W₀ : Waits sig (HIx 2))
    (si : ℕ) (acc : BitVec 32 × BitVec 32 × BitVec 32) : sProp (MM F) :=
  iprop(∃ f fd : ℕ, ⌜acc = (BitVec.ofNat 32 (cnt mw (65536 * w + 4096 * si)), BitVec.ofNat 32 f, BitVec.ofNat 32 fd) ∧ FlAt mw w si f fd⌝
    ∗ own (F := F) (e := .i32) (thr d i) arg2 q₂ Set.univ mw ∗ own (F := F) (e := .f32) (thr d i) arg3 q₃ Set.univ nz
    ∗ anyB (F := F) (e := .i32) (thr d i) arg10 ∗ anyB (F := F) (e := .f32) (thr d i) arg11
    ∗ anyB (F := F) (e := .i32) (thr d i) arg19 ∗ anyB (F := F) (e := .i32) (thr d i) arg20 ∗ anyB (F := F) (e := .f32) (thr d i) arg21
    ∗ semVal (thr d i, .dma z4.sem) 0 ∗ semVal (thr d i, .dma z5.sem) 0 ∗ semVal (thr d i, .dma arg22.sem) 0
    ∗ flushInv i arg8 arg9 arg12 arg13 z6 z7 d mw (Yv nz sc of) (cnt mw (65536 * w)) (cnt mw (65536 * w + 4096 * si))
        (cnt mw (65536 * w)) (cnt mw (65536 * (w + 1))) (cnt mw (65536 * w) + (if fd = 0 then headOf (cnt mw (65536 * w)) (cnt mw (65536 * (w + 1)) - cnt mw (65536 * w)) else 0)) f O W₀)

set_option maxHeartbeats 1600000 in
/-- One sub-chunk. -/
theorem t1_body (hb : Bin mw) (v1 v13 v16 v17 : BitVec 32) (v33 : IVec S16 32) (v34 : Vec F S16 .i32) (v31 v36 v50 v54 : BitVec 32)
    (l39 l41 l43 l45 l47 l49 : Vec F S1x16 .f32) (w : ℕ) (hw : w = 2 * (i 1).val + (i 0).val)
    (h31 : v31 = BitVec.ofNat 32 (cnt mw (65536 * w))) (h36 : v36 = BitVec.ofNat 32 (cnt mw (65536 * (w + 1)) - cnt mw (65536 * w)))
    (h34 : extractAt ![0] (k1_pay290 v34) inpos_S1_p0 = v36) (h50 : v50 = BitVec.ofNat 32 (65536 * w))
    (h54 : v54 = Scalar.minsi (Scalar.andi (Scalar.subi 8#32 (Scalar.andi v31 7#32)) 7#32) v36)
    (h39 : ∀ x, k1_pay291 l39 x = sc 0) (h41 : ∀ x, k1_pay292 l41 x = sc 1) (h43 : ∀ x, k1_pay293 l43 x = sc 2)
    (h45 : ∀ x, k1_pay294 l45 x = of 0) (h47 : ∀ x, k1_pay295 l47 x = of 1) (h49 : ∀ x, k1_pay296 l49 x = of 2)
    (q₂ q₃ : PosShare TreeShare) (O : CellTallies nD τ sig (HIx 2)) (W₀ : Waits sig (HIx 2))
    (k : Fin k1_t1_loop.trips) (acc : BitVec 32 × BitVec 32 × BitVec 32) :
    (t1Inv i arg2 arg3 arg8 arg9 arg10 arg11 arg12 arg13 arg19 arg20 arg21 arg22 z4 z5 z6 z7 d mw nz sc of q₂ q₃ w O W₀ k.val acc : sProp (MM F))
      ⊢ wp frame (wpE (defs₀ (F := F)) 𝒱₀ (thr d i) none) Set.univ
          (k1_t1_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 lanesV v13 v16 v17 v31 v33 v34 v36 l39 l41 l43 l45 l47 l49 v50 v54 k acc)
          (t1Inv i arg2 arg3 arg8 arg9 arg10 arg11 arg12 arg13 arg19 arg20 arg21 arg22 z4 z5 z6 z7 d mw nz sc of q₂ q₃ w O W₀ (k.val + 1)) := by
  have hk : k.val < 16 := k.isLt
  have hi0 : (i 0).val < 2 := (i 0).isLt
  have hi1 : (i 1).val < 16 := (i 1).isLt
  unfold t1Inv
  iintro ⟨%f, %fd, %hfacts, H2, H3, H10, H11, H19, H20, H21, S4, S5, S22, HF⟩
  obtain ⟨rfl, hF⟩ := hfacts
  unfold flushInv
  icases HF with ⟨HO, HX, HP, HQ, S6, S7, Ht⟩
  unfold k1_t1_body
  dsimp only
  unfold anyB
  icases H10 with ⟨%G10, H10⟩
  icases H11 with ⟨%G11, H11⟩
  iapply (copy_in (c := thr d i) (src := arg2) (dst := arg10) (q := q₂) (Gs := mw) (G₁ := G10) (by decide) rfl) $$ [H2 H10 S4 Ht]
  · isplitl [H2]; · iexact H2
    isplitl [H10]; · iexact H10
    isplitl [S4]; · iexact S4
    iexact Ht
  iintro ⟨H2, H10, S4, Ht⟩
  iapply (copy_in (c := thr d i) (src := arg3) (dst := arg11) (q := q₃) (Gs := nz) (G₁ := G11) (by decide) rfl) $$ [H3 H11 S5 Ht]
  · isplitl [H3]; · iexact H3
    isplitl [H11]; · iexact H11
    isplitl [S5]; · iexact S5
    iexact Ht
  iintro ⟨H3, H11, S5, Ht⟩
  have e1 : ∀ n, mw (k1_off1 i k 0 + n) = mw (65536 * w + 4096 * k.val + n) := by
    intro n; rw [k1_off1_eq, hw]; simp only [Matrix.cons_val_zero]; congr 2; omega
  have e2 : ∀ n, nz (k1_off2 i k 0 + n) = nz (3 * (65536 * w + 4096 * k.val) + n) := by
    intro n; rw [k1_off2_eq, hw]; simp only [Matrix.cons_val_zero]; congr 2; omega
  ihave H10 := (own_congr (F := F) (e := .i32) (c := thr d i) (m := arg10) (q := fullShare) (fun n _ _ => e1 n)) $$ H10
  ihave H11 := (own_congr (F := F) (e := .f32) (c := thr d i) (m := arg11) (q := fullShare) (fun n _ _ => e2 n)) $$ H11
  have ew : Scalar.addi v50 (Scalar.muli (Scf.iv 0#32 1#32 k.val) 4096#32) = BitVec.ofNat 32 (65536 * w + 4096 * k.val) := by
    rw [h50, iv_ofNat, show Scalar.muli (BitVec.ofNat 32 k.val) 4096#32 = BitVec.ofNat 32 (k.val * 4096) from mul_ofNat _ 4096, add_ofNat]; congr 2; omega
  rw [ew]
  have hbase : 65536 * w + 4096 * k.val + 4096 ≤ 2097152 := by omega
  iapply (Scf.wp_for_bind frame (wpE (defs₀ (F := F)) 𝒱₀ (thr d i) none) Set.univ _ _ _ k1_t2_ok _ _
    (fun n (acc : BitVec 32) => iprop(groupInv i arg10 arg11 arg12 arg13 d mw nz sc of (cnt mw (65536 * w)) (65536 * w + 4096 * k.val) (65536 * w + 4096 * k.val + 64 * n)
      ∗ ⌜acc = BitVec.ofNat 32 (cnt mw (65536 * w + 4096 * k.val + 64 * n))⌝))
    (fun k2 acc => by
      iintro ⟨Hg, %ha⟩
      iapply (t2_body i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 hb v1 v13 v16 v17 v31 v33 l39 l41 l43 l45 l47 l49 (65536 * w + 4096 * k.val) hbase h39 h41 h43 h45 h47 h49 k2 acc ha _) $$ Hg
      iintro Hg
      isplitl [Hg]; · iexact Hg
      ipureintro; rfl)) $$ [H10 H11 HO HX]
  · unfold groupInv
    isplitl [H10 H11 HO HX]
    · isplitl [H10]; · iexact H10
      isplitl [H11]; · iexact H11
      isplitl [HO]; · iexact HO
      iexact HX
    · ipureintro; rfl
  iintro %v229 ⟨Hg, %hv229⟩
  rw [show Scf.trips k1_t2_loop.lb k1_t2_loop.ub k1_t2_loop.st = 64 from rfl] at hv229 ⊢
  have eo : 65536 * w + 4096 * k.val + 64 * 64 = 65536 * w + 4096 * (k.val + 1) := by omega
  rw [eo] at hv229 ⊢
  unfold groupInv
  icases Hg with ⟨H10, H11, HO, HX⟩
  -- the arithmetic of the counts
  obtain ⟨hF1, hF2, hF3, hF4, hF5, hF6⟩ := hF
  generalize ha : cnt mw (65536 * w) = a at *
  generalize hbb : cnt mw (65536 * (w + 1)) = b at *
  generalize hoo : cnt mw (65536 * w + 4096 * k.val) = o at *
  generalize hoo' : cnt mw (65536 * w + 4096 * (k.val + 1)) = o' at *
  have hN := cnt_le (mw := mw) (65536 * (w + 1))
  have c1 := cnt_mono (mw := mw) (show 65536 * w ≤ 65536 * w + 4096 * k.val by omega)
  have c2 := cnt_mono (mw := mw) (show 65536 * w + 4096 * k.val ≤ 65536 * w + 4096 * (k.val + 1) by omega)
  have c3 := cnt_mono (mw := mw) (show 65536 * w + 4096 * (k.val + 1) ≤ 65536 * (w + 1) by omega)
  rw [ha, hoo] at c1
  rw [hoo, hoo'] at c2
  rw [hoo', hbb] at c3
  rw [hbb] at hN
  have c4 := cnt_add_le (mw := mw) (65536 * w + 4096 * k.val) 4096
  rw [show 65536 * w + 4096 * k.val + 4096 = 65536 * w + 4096 * (k.val + 1) by omega, hoo, hoo'] at c4
  have hab : a ≤ b := by omega
  have hb22 : b < 2 ^ 22 := by omega
  subst hv229 h31 h36
  rw [head_word (by omega) (by omega)] at h54
  have hh8 : headOf a (b - a) < 8 := by unfold headOf; omega
  have hhb : headOf a (b - a) ≤ b - a := by unfold headOf; omega
  have h3iff : k1_cond3 (BitVec.ofNat 32 a) (BitVec.ofNat 32 (b - a)) k (BitVec.ofNat 32 fd) (BitVec.ofNat 32 o') = 1#1
      ↔ fd = 0 ∧ (headOf a (b - a) ≤ o' - a ∨ k.val = 15) := by
    have e : k1_cond3 (BitVec.ofNat 32 a) (BitVec.ofNat 32 (b - a)) k (BitVec.ofNat 32 fd) (BitVec.ofNat 32 o')
      = Scalar.cmpi .ne (Scalar.extui (Scalar.andi (Scalar.cmpi .eq (BitVec.ofNat 32 fd) 0#32)
      (Scalar.ori (Scalar.cmpi .sge (Scalar.subi (BitVec.ofNat 32 o') (BitVec.ofNat 32 a)) (Scalar.minsi (Scalar.andi (Scalar.subi 8#32 (Scalar.andi (BitVec.ofNat 32 a) 7#32)) 7#32) (BitVec.ofNat 32 (b - a))))
        (Scalar.cmpi .eq (Scf.iv 0#32 1#32 k.val) 15#32)))) 0#32 := rfl
    rw [e, head_word (by omega) (by omega), ne_extui]
    exact fire_iff (by omega) (by omega) hh8 hF5 hk
  have h45iff : (Scalar.cmpi .ne (Scalar.extui (Scalar.cmpi .sgt (Scalar.minsi (Scalar.andi (Scalar.subi 8#32 (Scalar.andi (BitVec.ofNat 32 a) 7#32)) 7#32) (BitVec.ofNat 32 (b - a))) 0#32)) 0#32 = 1#1)
      ↔ 0 < headOf a (b - a) := by
    rw [head_word (by omega) (by omega)]
    exact ask_sgt (y := 0) (by omega) (by omega)
  have h4iff : k1_cond4 (BitVec.ofNat 32 a) (BitVec.ofNat 32 (b - a)) = 1#1 ↔ 0 < headOf a (b - a) := h45iff
  have h5iff : k1_cond5 (BitVec.ofNat 32 a) (BitVec.ofNat 32 (b - a)) = 1#1 ↔ 0 < headOf a (b - a) := h45iff
  subst h54
  have hselT : (fd = 0 ∧ (headOf a (b - a) ≤ o' - a ∨ k.val = 15)) → Scalar.select (Scalar.andi (Scalar.cmpi .eq (BitVec.ofNat 32 fd) 0#32)
      (Scalar.ori (Scalar.cmpi .sge (Scalar.subi (BitVec.ofNat 32 o') (BitVec.ofNat 32 a)) (BitVec.ofNat 32 (headOf a (b - a)))) (Scalar.cmpi .eq (Scf.iv 0#32 1#32 k.val) 15#32)))
      1#32 (BitVec.ofNat 32 fd) = BitVec.ofNat 32 1 := fun h => if_pos ((fire_iff (by omega) (by omega) hh8 hF5 hk).mpr h)
  have hselF : ¬ (fd = 0 ∧ (headOf a (b - a) ≤ o' - a ∨ k.val = 15)) → Scalar.select (Scalar.andi (Scalar.cmpi .eq (BitVec.ofNat 32 fd) 0#32)
      (Scalar.ori (Scalar.cmpi .sge (Scalar.subi (BitVec.ofNat 32 o') (BitVec.ofNat 32 a)) (BitVec.ofNat 32 (headOf a (b - a)))) (Scalar.cmpi .eq (Scf.iv 0#32 1#32 k.val) 15#32)))
      1#32 (BitVec.ofNat 32 fd) = BitVec.ofNat 32 fd := fun h => if_neg (fun h' => h ((fire_iff (by omega) (by omega) hh8 hF5 hk).mp h'))
  have c33 := chk33_ok (o := o') (f := f) (by omega) (by omega)
  iapply (assume_ok (c := thr d i) c33)
  iapply (flush_loop i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 v13 v16 v17 (BitVec.ofNat 32 a) v33 (d := d) (mw := mw) (Y := Yv nz sc of) (a := a) (o := o') (lo := a) (hi := b)
    (s := a + (if fd = 0 then headOf a (b - a) else 0)) (f := f) (O := O) (W₀ := W₀) c33 (fun h => by omega) (by omega) (by omega) (by omega) (by omega) (by omega) (by omega)) $$ [HO HX HP HQ S6 S7 Ht]
  · unfold flushInv
    isplitl [HO]; · iexact HO
    isplitl [HX]; · iexact HX
    isplitl [HP]; · iexact HP
    isplitl [HQ]; · iexact HQ
    isplitl [S6]; · iexact S6
    isplitl [S7]; · iexact S7
    iexact Ht
  iintro HF
  have hfl : ∀ fd', fd' < 2 → (fd' = 0 → o' ≤ a + 7 ∧ f + 2048 * ((o' - f) / 2048) = a + headOf a (b - a) ∧ k.val + 1 < 16) →
      FlAt mw w (k.val + 1) (f + 2048 * ((o' - f) / 2048)) fd' := by
    intro fd' h1 h2
    unfold FlAt
    simp only [ha, hbb, hoo']
    refine ⟨by omega, by omega, by omega, ?_, h1, h2⟩
    rcases hF4 with h | h
    · left; omega
    · right; omega
  have hff : a + headOf a (b - a) ≤ f + 2048 * ((o' - f) / 2048) := by omega
  have hff0 : o' - f < 2048 → f + 2048 * ((o' - f) / 2048) = f := by omega
  generalize hf' : f + 2048 * ((o' - f) / 2048) = f' at *
  unfold flushInv
  icases HF with ⟨HO, HX, HP, HQ, S6, S7, Ht⟩
  by_cases h3 : fd = 0 ∧ (headOf a (b - a) ≤ o' - a ∨ k.val = 15)
  · obtain ⟨rfl, h3b⟩ := h3
    have h3c := h3iff.mpr ⟨rfl, h3b⟩
    rw [dif_pos h3c]
    have hoh : a + headOf a (b - a) ≤ o' := by
      rcases h3b with h | h
      · omega
      · have : o' = b := by rw [← hoo', ← hbb]; exact congrArg (cnt mw) (by omega)
        omega
    have ho7 := (hF6 rfl).1
    simp only [if_true]
    by_cases hz : 0 < headOf a (b - a)
    · rw [dif_pos (h4iff.mpr hz)]
      generalize hhd : headOf a (b - a) = hd at *
      have h4c := h4iff.mpr hz
      have h5c := h5iff.mpr hz
      unfold ringO ringX
      icases HO with ⟨%GO, HO, %hGO⟩
      icases HX with ⟨%GX, HX, %hGX⟩
      have hRo := ring_edgeO (l := hd) hGO (by omega) (by omega)
      have hRx := ring_edgeX (l := hd) hGX (by omega) (by omega)
      ihave H19 := (show (iprop(∃ G, own (thr d i) arg19 fullShare Set.univ G) : sProp (MM F)) ⊢ edgeB (thr d i) arg19 0 (iT a hd) from any_edgeB (e := .i32)) $$ H19
      ihave H20 := (show (iprop(∃ G, own (thr d i) arg20 fullShare Set.univ G) : sProp (MM F)) ⊢ edgeB (thr d i) arg20 0 (vT (occV mw) a hd) from any_edgeB (e := .i32)) $$ H20
      iapply (part7_ok i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 lanesV _ _ _ k _ _ h3c h4c (V := occV mw) hz (by omega) (by omega) hRo rfl rfl rfl) $$ [H19 H20 HO]
      · isplitl [H19]; · iexact H19
        isplitl [H20]; · iexact H20
        iexact HO
      iintro ⟨H19, H20, HO⟩
      iapply (part8_ok i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 lanesV _ _ _ k _ _ h3c h4c (V := occV mw) hz (by omega) (by omega) hRo rfl rfl rfl) $$ [H19 H20 HO]
      · isplitl [H19]; · iexact H19
        isplitl [H20]; · iexact H20
        iexact HO
      iintro ⟨H19, H20, HO⟩
      have p96 : k1_pay299 (F := F) lanesV (BitVec.ofNat 32 a) v34 = addi (broadcast S16 (BitVec.ofNat 32 a)) (eQ (BitVec.ofNat 32 96) (Scalar.subi
        (Scalar.minsi (Scalar.andi (Scalar.subi 8#32 (Scalar.andi (BitVec.ofNat 32 a) 7#32)) 7#32) (extractAt ![0] (k1_pay290 v34) inpos_S1_p0)) 1#32) lanesV) := rfl
      have p112 : k1_pay301 (F := F) lanesV (BitVec.ofNat 32 a) v34 = addi (broadcast S16 (BitVec.ofNat 32 a)) (eQ (BitVec.ofNat 32 112) (Scalar.subi
        (Scalar.minsi (Scalar.andi (Scalar.subi 8#32 (Scalar.andi (BitVec.ofNat 32 a) 7#32)) 7#32) (extractAt ![0] (k1_pay290 v34) inpos_S1_p0)) 1#32) lanesV) := rfl
      rw [h34, head_word (by omega) (by omega), hhd] at p96 p112
      have r96 : k1_pay300 (F := F) lanesV (BitVec.ofNat 32 a) v34 = andi (k1_pay299 (F := F) lanesV (BitVec.ofNat 32 a) v34) (broadcast S16 8191#32) := rfl
      have r112 : k1_pay302 (F := F) lanesV (BitVec.ofNat 32 a) v34 = andi (k1_pay301 (F := F) lanesV (BitVec.ofNat 32 a) v34) (broadcast S16 8191#32) := rfl
      rw [p96] at r96
      rw [p112] at r112
      have e96 := fun x : S16.Idx => eR_at (n := 96) (a := a) (l := hd) (by omega) hz (by omega) (by omega) x
      have e112 := fun x : S16.Idx => eR_at (n := 112) (a := a) (l := hd) (by omega) hz (by omega) (by omega) x
      rw [← r96] at e96
      rw [← r112] at e112
      iapply (edge_put (c := thr d i) (m := arg19) (n := 96) (T := iT a hd) rfl rfl (fun x => by rw [p96]; exact eI_at (by omega) hz (by omega) x)) $$ H19; iintro H19
      have c42 : k1_chk42 (BitVec.ofNat 32 a) (BitVec.ofNat 32 (b - a)) k (BitVec.ofNat 32 0) (BitVec.ofNat 32 o') (k1_pay300 lanesV (BitVec.ofNat 32 a) v34) :=
        fun _ _ => chk_one (fun x => by rw [e96 x]; omega)
      iapply (assume_ok (c := thr d i) c42)
      iapply (own_ldIdx (c := thr d i) (m := arg12)) $$ HO; iintro %u1 %hu1 HO
      iapply (edge_put (c := thr d i) (m := arg20) (n := 96) (T := vT (occV mw) a hd) rfl rfl (fun x => (hu1 x).trans ((congrArg GO (e96 x)).trans (hRo _ (by omega))))) $$ H20; iintro H20
      iapply (edge_put (c := thr d i) (m := arg19) (n := 112) (T := iT a hd) rfl rfl (fun x => by rw [p112]; exact eI_at (by omega) hz (by omega) x)) $$ H19; iintro H19
      have c43 : k1_chk43 (BitVec.ofNat 32 a) (BitVec.ofNat 32 (b - a)) k (BitVec.ofNat 32 0) (BitVec.ofNat 32 o') (k1_pay302 lanesV (BitVec.ofNat 32 a) v34) :=
        fun _ _ => chk_one (fun x => by rw [e112 x]; omega)
      iapply (assume_ok (c := thr d i) c43)
      iapply (own_ldIdx (c := thr d i) (m := arg12)) $$ HO; iintro %u2 %hu2 HO
      iapply (edge_put (c := thr d i) (m := arg20) (n := 112) (T := vT (occV mw) a hd) rfl rfl (fun x => (hu2 x).trans ((congrArg GO (e112 x)).trans (hRo _ (by omega))))) $$ H20; iintro H20
      iapply (edge_scatter (c := thr d i) (src := arg20) (dst := arg9) (offs := arg19) (I := Set.Ico a b) (V := occV mw) (st := a) (l := hd) (O := O) (W₀ := W₀)
        (fun s' => rfl) (fun s' => rfl) rfl hz (by omega) (by show _ ≤ 2097152; omega) (by decide) (fun p h1 h2 => ⟨by omega, by omega⟩)) $$ [H19 H20 HP S22 Ht]
      · isplitl [H20]; · iexact H20
        isplitl [H19]; · iexact H19
        isplitl [HP]; · iexact HP
        isplitl [S22]; · iexact S22
        iexact Ht
      iintro ⟨H20, H19, HP, S22, Ht⟩
      ihave H20 := (edgeB_any (F := F) (e := .i32) (c := thr d i) (m := arg20)) $$ H20
      rw [dif_pos h5c]
      ihave H19 := (edgeB_start (F := F) (e := .i32) (c := thr d i) (m := arg19) (T' := iT (3 * a) (3 * hd))) $$ H19
      ihave H21 := (show (iprop(∃ G, own (thr d i) arg21 fullShare Set.univ G) : sProp (MM F)) ⊢ edgeB (thr d i) arg21 0 (vT (xwV (Yv nz sc of) mw) (3 * a) (3 * hd)) from any_edgeB (e := .f32)) $$ H21
      iapply (part9_ok i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 lanesV _ _ _ k _ _ h3c h5c (V := xwV (Yv nz sc of) mw) hz (by omega) (by omega) hRx rfl rfl rfl) $$ [H19 H21 HX]
      · isplitl [H19]; · iexact H19
        isplitl [H21]; · iexact H21
        iexact HX
      iintro ⟨H19, H21, HX⟩
      iapply (part10_ok i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 lanesV _ _ _ k _ _ h3c h5c _ _ _ (V := xwV (Yv nz sc of) mw) hz (by omega) (by omega) hRx rfl rfl rfl rfl rfl rfl) $$ [H19 H21 HX]
      · isplitl [H19]; · iexact H19
        isplitl [H21]; · iexact H21
        iexact HX
      iintro ⟨H19, H21, HX⟩
      iapply (part11_ok i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 lanesV _ _ _ k _ _ h3c h5c (V := xwV (Yv nz sc of) mw) hz (by omega) (by omega) hRx rfl rfl rfl) $$ [H19 H21 HX]
      · isplitl [H19]; · iexact H19
        isplitl [H21]; · iexact H21
        iexact HX
      iintro ⟨H19, H21, HX⟩
      iapply (part12_ok i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 lanesV _ _ _ k _ _ h3c h5c _ _ _ (V := xwV (Yv nz sc of) mw) hz (by omega) (by omega) hRx rfl rfl rfl rfl rfl rfl) $$ [H19 H21 HX]
      · isplitl [H19]; · iexact H19
        isplitl [H21]; · iexact H21
        iexact HX
      iintro ⟨H19, H21, HX⟩
      iapply (part13_ok i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 lanesV _ _ _ k _ _ h3c h5c (V := xwV (Yv nz sc of) mw) hz (by omega) (by omega) hRx rfl rfl rfl) $$ [H19 H21 HX]
      · isplitl [H19]; · iexact H19
        isplitl [H21]; · iexact H21
        iexact HX
      iintro ⟨H19, H21, HX⟩
      dsimp only
      iapply (edge_put (c := thr d i) (m := arg19) (n := 112) (T := iT (3 * a) (3 * hd)) rfl rfl (fun x => eX_at (n := 112) (a := a) (l := hd) (by omega) hz (by omega) (by omega) x)) $$ H19; iintro H19
      have x112 : ∀ x : S16.Idx, (k1_pay305 (k1_pay131 lanesV (BitVec.ofNat 32 hd)) (k1_pay132 lanesV (BitVec.ofNat 32 hd)) (k1_pay133 (BitVec.ofNat 32 a)) x).toNat
        = 3 * ((a + min (112 + (x 0).val) (3 * hd - 1) / 3) % 8192) + min (112 + (x 0).val) (3 * hd - 1) % 3 := fun x => eXR_at (n := 112) (a := a) (l := hd) (by omega) hz (by omega) (by omega) x
      have c51 : k1_chk51 (BitVec.ofNat 32 a) (BitVec.ofNat 32 (b - a)) k (BitVec.ofNat 32 0) (BitVec.ofNat 32 o')
          (k1_pay305 (k1_pay131 lanesV (BitVec.ofNat 32 hd)) (k1_pay132 lanesV (BitVec.ofNat 32 hd)) (k1_pay133 (BitVec.ofNat 32 a))) :=
        fun _ _ => chk_one (fun x => by rw [x112 x]; omega)
      iapply (assume_ok (c := thr d i) c51)
      iapply (own_ldIdx (c := thr d i) (m := arg13)) $$ HX; iintro %u3 %hu3 HX
      iapply (edge_put (c := thr d i) (m := arg21) (n := 112) (T := vT (xwV (Yv nz sc of) mw) (3 * a) (3 * hd)) rfl rfl (fun x => (hu3 x).trans ((congrArg GX (x112 x)).trans (hRx _ (by omega))))) $$ H21; iintro H21
      iapply (edge_scatter (c := thr d i) (src := arg21) (dst := arg8) (offs := arg19) (I := Set.Ico (3 * a) (3 * b)) (V := xwV (Yv nz sc of) mw) (st := 3 * a) (l := 3 * hd) (O := O) (W₀ := W₀)
        (fun s' => rfl) (fun s' => rfl) rfl (by omega) (by omega) (by show _ ≤ 6291456; omega) (by decide) (fun p h1 h2 => ⟨by omega, by omega⟩)) $$ [H19 H21 HQ S22 Ht]
      · isplitl [H21]; · iexact H21
        isplitl [H19]; · iexact H19
        isplitl [HQ]; · iexact HQ
        isplitl [S22]; · iexact S22
        iexact Ht
      iintro ⟨H21, H19, HQ, S22, Ht⟩
      ihave H19 := (edgeB_any (F := F) (e := .i32) (c := thr d i) (m := arg19)) $$ H19
      ihave H21 := (edgeB_any (F := F) (e := .f32) (c := thr d i) (m := arg21)) $$ H21
      rw [hselT ⟨rfl, h3b⟩]
      unfold anyB
      rw [wp_pure]
      imodintro
      iexists f'
      iexists 1
      isplitl []
      · ipureintro
        refine ⟨?_, hfl 1 (by omega) (by omega)⟩
        rfl
      isplitl [H2]; · iexact H2
      isplitl [H3]; · iexact H3
      isplitl [H10]; · iexists _; iexact H10
      isplitl [H11]; · iexists _; iexact H11
      isplitl [H19]; · iexact H19
      isplitl [H20]; · iexact H20
      isplitl [H21]; · iexact H21
      isplitl [S4]; · iexact S4
      isplitl [S5]; · iexact S5
      isplitl [S22]; · iexact S22
      isplitl [HO]
      · iexists GO; isplitl [HO]; · iexact HO
        ipureintro; exact hGO
      isplitl [HX]
      · iexists GX; isplitl [HX]; · iexact HX
        ipureintro; exact hGX
      isplitl [HP]; · iapply outO_mono (W := Set.Ico (a + hd) f' ∪ Set.Ico a (a + hd)) (fun p hp => by simp only [Set.mem_union, Set.mem_Ico, if_neg (show ¬ (1 = 0) by decide)] at hp ⊢; omega) $$ HP
      isplitl [HQ]; · iapply outO_mono (W := Set.Ico (3 * (a + hd)) (3 * f') ∪ Set.Ico (3 * a) (3 * a + 3 * hd)) (fun p hp => by simp only [Set.mem_union, Set.mem_Ico, if_neg (show ¬ (1 = 0) by decide)] at hp ⊢; omega) $$ HQ
      isplitl [S6]; · iexact S6
      isplitl [S7]; · iexact S7
      iexact Ht
    · rw [dif_neg (fun h => hz (h4iff.mp h)), dif_neg (fun h => hz (h5iff.mp h))]
      rw [hselT ⟨rfl, h3b⟩]
      rw [wp_pure]
      imodintro
      iexists f'
      iexists 1
      isplitl []
      · ipureintro
        refine ⟨?_, hfl 1 (by omega) (by omega)⟩
        rfl
      isplitl [H2]; · iexact H2
      isplitl [H3]; · iexact H3
      isplitl [H10]; · iexists _; iexact H10
      isplitl [H11]; · iexists _; iexact H11
      isplitl [H19]; · iexact H19
      isplitl [H20]; · iexact H20
      isplitl [H21]; · iexact H21
      isplitl [S4]; · iexact S4
      isplitl [S5]; · iexact S5
      isplitl [S22]; · iexact S22
      isplitl [HO]; · iexact HO
      isplitl [HX]; · iexact HX
      isplitl [HP]; · iapply outO_mono (W := Set.Ico (a + headOf a (b - a)) f') (fun p hp => by simpa [show headOf a (b - a) = 0 by omega] using hp) $$ HP
      isplitl [HQ]; · iapply outO_mono (W := Set.Ico (3 * (a + headOf a (b - a))) (3 * f')) (fun p hp => by simpa [show headOf a (b - a) = 0 by omega] using hp) $$ HQ
      isplitl [S6]; · iexact S6
      isplitl [S7]; · iexact S7
      iexact Ht
  · rw [dif_neg (fun h => h3 (h3iff.mp h))]
    rw [hselF h3]
    rw [wp_pure]
    imodintro
    iexists f'
    iexists fd
    isplitl []
    · ipureintro
      refine ⟨?_, hfl fd hF5 (fun h => ?_)⟩
      exact rfl
      have := hF6 h
      have h4 : ¬ (headOf a (b - a) ≤ o' - a) ∧ ¬ (k.val = 15) := ⟨fun h' => h3 ⟨h, .inl h'⟩, fun h' => h3 ⟨h, .inr h'⟩⟩
      omega
    isplitl [H2]; · iexact H2
    isplitl [H3]; · iexact H3
    isplitl [H10]; · iexists _; iexact H10
    isplitl [H11]; · iexists _; iexact H11
    isplitl [H19]; · iexact H19
    isplitl [H20]; · iexact H20
    isplitl [H21]; · iexact H21
    isplitl [S4]; · iexact S4
    isplitl [S5]; · iexact S5
    isplitl [S22]; · iexact S22
    isplitl [HO]; · iexact HO
    isplitl [HX]; · iexact HX
    isplitl [HP]; · iexact HP
    isplitl [HQ]; · iexact HQ
    isplitl [S6]; · iexact S6
    isplitl [S7]; · iexact S7
    iexact Ht

end Cert.Proof.Vox
-- ==== Proof.Tail.lean ====
/-
  The last rows of a piece, written in blocks of halving sizes: one block for each binary digit of what is left.
-/
module

public import proofs.«01_k».proof.Proof.Main1

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

/-- Whether the digit `B` of what is left is set, as the kernel asks it. -/
def ab (B e f : BitVec 32) : BitVec 1 := Scalar.cmpi .ne (Scalar.andi (Scalar.subi e f) B) 0#32
/-- Where the rows stand after the digit. -/
def nx (B e f : BitVec 32) : BitVec 32 := Scalar.select (ab B e f) (Scalar.addi f B) f
/-- The question in front of the block. -/
def cw (B e f : BitVec 32) : BitVec 1 := Scalar.cmpi .ne (Scalar.extui (ab B e f)) 0#32

/-- Where the rows stand after the digit, as a number. -/
def adv (b B f : ℕ) : ℕ := if B ≤ b - f then f + B else f

/-- The rows stand at `f` with less than `B` left. -/
structure TI (b B f : ℕ) : Prop where
  le : f ≤ b
  lt : b < f + B
  al : 8 ∣ f ∨ b ≤ f

theorem TI.adv {b B f : ℕ} (h : TI b (2 * B) f) (h8 : 8 ∣ B) : TI b B (adv b B f) := by
  obtain ⟨h1, h2, h3⟩ := h
  unfold Vox.adv
  split
  · exact ⟨by omega, by omega, by omega⟩
  · exact ⟨by omega, by omega, by omega⟩

theorem le_adv {b B f : ℕ} : f ≤ adv b B f := by unfold adv; split <;> omega

variable {b f k : ℕ}

theorem and_two_pow' (a k : ℕ) : a &&& 2 ^ k = (a.testBit k).toNat * 2 ^ k := by
  apply Nat.eq_of_testBit_eq
  intro j
  rw [Nat.testBit_and, Nat.testBit_two_pow]
  by_cases h : k = j
  · subst h
    cases h2 : a.testBit k <;> simp
  · cases h2 : a.testBit k <;> simp [h, Nat.testBit_two_pow]

theorem and_bit {a : ℕ} (hk : k ≤ 31) (ha : a < 2 * 2 ^ k) : Scalar.cmpi .ne (Scalar.andi (BitVec.ofNat 32 a) (BitVec.ofNat 32 (2 ^ k))) 0#32 = 1#1 ↔ 2 ^ k ≤ a := by
  have h1 : 2 ^ k ≤ 2 ^ 31 := Nat.pow_le_pow_right (by omega) hk
  have hp : 0 < 2 ^ k := by positivity
  have e : BitVec.ofNat 32 a &&& BitVec.ofNat 32 (2 ^ k) = BitVec.ofNat 32 ((a.testBit k).toNat * 2 ^ k) := by
    apply BitVec.eq_of_toNat_eq
    rw [BitVec.toNat_and, BitVec.toNat_ofNat, BitVec.toNat_ofNat, BitVec.toNat_ofNat, Nat.mod_eq_of_lt (a := a) (by omega), Nat.mod_eq_of_lt (a := 2 ^ k) (by omega), and_two_pow']
    rw [Nat.mod_eq_of_lt]
    cases a.testBit k <;> simp <;> omega
  show Scalar.cmpi .ne (BitVec.ofNat 32 a &&& BitVec.ofNat 32 (2 ^ k)) 0#32 = 1#1 ↔ _
  rw [e, Nat.testBit_eq_decide_div_mod_eq]
  by_cases h : 2 ^ k ≤ a
  · have h2 : a / 2 ^ k = 1 := by
      apply Nat.div_eq_of_lt_le <;> omega
    rw [h2]
    simp only [Nat.one_mod, decide_true, Bool.toNat_true, Nat.one_mul, h, iff_true]
    have hne : BitVec.ofNat 32 (2 ^ k) ≠ 0#32 := by
      intro hh
      rw [eq_ofNat (by omega) (by omega)] at hh
      omega
    show IntOp.cmpi .ne _ _ = 1#1
    have hb : (BitVec.ofNat 32 (2 ^ k) != 0#32) = true := bne_iff_ne.mpr hne
    simp [IntOp.cmpi, hb]
  · have h2 : a / 2 ^ k = 0 := Nat.div_eq_of_lt (by omega)
    rw [h2]
    simp only [h, iff_false]
    rw [show (decide (0 % 2 = 1)).toNat * 2 ^ k = 0 by simp]
    decide

theorem ab_iff (h : TI b (2 * 2 ^ k) f) (hk : k ≤ 10) : ab (BitVec.ofNat 32 (2 ^ k)) (BitVec.ofNat 32 b) (BitVec.ofNat 32 f) = 1#1 ↔ 2 ^ k ≤ b - f := by
  obtain ⟨h1, h2, h3⟩ := h
  unfold ab
  rw [sub_ofNat h1]
  exact and_bit (by omega) (by omega)

theorem cw_iff (h : TI b (2 * 2 ^ k) f) (hk : k ≤ 10) : cw (BitVec.ofNat 32 (2 ^ k)) (BitVec.ofNat 32 b) (BitVec.ofNat 32 f) = 1#1 ↔ 2 ^ k ≤ b - f := by
  unfold cw
  rw [ne_extui, ab_iff h hk]

theorem nx_ofNat (h : TI b (2 * 2 ^ k) f) (hk : k ≤ 10) : nx (BitVec.ofNat 32 (2 ^ k)) (BitVec.ofNat 32 b) (BitVec.ofNat 32 f) = BitVec.ofNat 32 (adv b (2 ^ k) f) := by
  unfold nx adv
  by_cases hc : 2 ^ k ≤ b - f
  · rw [if_pos hc, (ab_iff h hk).mpr hc, add_ofNat]; rfl
  · rw [if_neg hc]
    have : ab (BitVec.ofNat 32 (2 ^ k)) (BitVec.ofNat 32 b) (BitVec.ofNat 32 f) = 0#1 := by
      have h1 : ¬ ab (BitVec.ofNat 32 (2 ^ k)) (BitVec.ofNat 32 b) (BitVec.ofNat 32 f) = 1#1 := fun e => hc ((ab_iff h hk).mp e)
      revert h1
      generalize ab (BitVec.ofNat 32 (2 ^ k)) (BitVec.ofNat 32 b) (BitVec.ofNat 32 f) = x
      revert x; decide
    rw [this]; rfl

variable {F : FTy → Type} [FloatOps F]

/-- What the writing of the last blocks keeps: the two sources, the two outputs written from `s` up to `f`, and the leave to wait. -/
def bitC (c : Thread nD τ) {sA sB sC sD : Space} {dA dB dC dD : Fin 1 → ℕ} (srcA : Memref sig c.2.kind sA ⟨1, dA⟩ .i32) (qA : PosShare TreeShare) (GA : ℕ → BitVec 32)
    (srcB : Memref sig c.2.kind sB ⟨1, dB⟩ .f32) (qB : PosShare TreeShare) (GB : ℕ → F .f32)
    (dstA : Memref sig c.2.kind sC ⟨1, dC⟩ .i32) (IA : Set ℕ) (VA : ℕ → BitVec 32) (dstB : Memref sig c.2.kind sD ⟨1, dD⟩ .f32) (IB : Set ℕ) (VB : ℕ → F .f32)
    (s : ℕ) (O : CellTallies nD τ sig (HIx 2)) (W₀ : Waits sig (HIx 2)) (f : ℕ) : sProp (MM F) :=
  iprop(own (F := F) (e := .i32) c srcA qA Set.univ GA ∗ own (F := F) (e := .f32) c srcB qB Set.univ GB
    ∗ outO (F := F) (e := .i32) c dstA IA (Set.Ico s f) VA ∗ outO (F := F) (e := .f32) c dstB IB (Set.Ico (3 * s) (3 * f)) VB ∗ tick c default O W₀)

variable {c : Thread nD τ} {sA sB sC sD : Space} {dA dB dC dD : Fin 1 → ℕ} {srcA : Memref sig c.2.kind sA ⟨1, dA⟩ .i32} {qA : PosShare TreeShare} {GA : ℕ → BitVec 32}
  {srcB : Memref sig c.2.kind sB ⟨1, dB⟩ .f32} {qB : PosShare TreeShare} {GB : ℕ → F .f32}
  {dstA : Memref sig c.2.kind sC ⟨1, dC⟩ .i32} {IA : Set ℕ} {VA : ℕ → BitVec 32} {dstB : Memref sig c.2.kind sD ⟨1, dD⟩ .f32} {IB : Set ℕ} {VB : ℕ → F .f32}
  {s : ℕ} {O : CellTallies nD τ sig (HIx 2)} {W₀ : Waits sig (HIx 2)} {α : Type} {Q : α → sProp (MM F)}

/-- One block of each output, if the digit asks for it. -/
theorem bit2 {c₀ : BitVec 1} {B : ℕ} {oA oA' oB oB' zA zB : Fin 1 → ℕ} {iA : c₀ = 1#1 → ∀ a, oA a + zA a ≤ dA a} {iA' : c₀ = 1#1 → ∀ a, oA' a + zA a ≤ dC a}
    {iB : c₀ = 1#1 → ∀ a, oB a + zB a ≤ dB a} {iB' : c₀ = 1#1 → ∀ a, oB' a + zB a ≤ dD a}
    {hA : ∀ h : c₀ = 1#1, ∀ a, (Rect.unit (s := ⟨1, dA⟩) oA zA (iA h)).stride a = 1} {hA' : ∀ h : c₀ = 1#1, ∀ a, (Rect.unit (s := ⟨1, dC⟩) oA' zA (iA' h)).stride a = 1}
    {hB : ∀ h : c₀ = 1#1, ∀ a, (Rect.unit (s := ⟨1, dB⟩) oB zB (iB h)).stride a = 1} {hB' : ∀ h : c₀ = 1#1, ∀ a, (Rect.unit (s := ⟨1, dD⟩) oB' zB (iB' h)).stride a = 1}
    {s₁ s₂ : DmaSem sig}
    {w1 w3 : ∀ h : c₀ = 1#1, (srcA.slice (Rect.unit (s := ⟨1, dA⟩) oA zA (iA h)) (hA h)).view.WordExact} {w2 w4 : ∀ h : c₀ = 1#1, (dstA.slice (Rect.unit (s := ⟨1, dC⟩) oA' zA (iA' h)) (hA' h)).view.WordExact}
    {w5 w7 : ∀ h : c₀ = 1#1, (srcB.slice (Rect.unit (s := ⟨1, dB⟩) oB zB (iB h)) (hB h)).view.WordExact} {w6 w8 : ∀ h : c₀ = 1#1, (dstB.slice (Rect.unit (s := ⟨1, dD⟩) oB' zB (iB' h)) (hB' h)).view.WordExact}
    {t1 : ∀ h : c₀ = 1#1, DmaTarget.Typed (nD := nD) sA (SemLoc.dma s₁) (.here (dstA.slice (Rect.unit (s := ⟨1, dC⟩) oA' zA (iA' h)) (hA' h)))} {t2 : ∀ h : c₀ = 1#1, DmaTarget.Typed (nD := nD) sB (SemLoc.dma s₂) (.here (dstB.slice (Rect.unit (s := ⟨1, dD⟩) oB' zB (iB' h)) (hB' h)))}
    {J : Prog (TpuEff nD τ sig (Elt F) Λ₀ c.2) α}
    (hc : c₀ = 1#1 ↔ B ≤ b - f) (hs : s ≤ f) (hB0 : 0 < B) (hzA : zA 0 = B) (hzB : zB 0 = 3 * B) (hoA : B ≤ b - f → oA' 0 = f) (hoB : B ≤ b - f → oB' 0 = 3 * f)
    (hIA : B ≤ b - f → ∀ n, f ≤ n → n < f + B → n ∈ IA) (hIB : B ≤ b - f → ∀ n, 3 * f ≤ n → n < 3 * f + 3 * B → n ∈ IB)
    (hVA : B ≤ b - f → ∀ j < B, GA (oA 0 + j) = VA (f + j)) (hVB : B ≤ b - f → ∀ j < 3 * B, GB (oB 0 + j) = VB (3 * f + j)) :
    (iprop(bitC c srcA qA GA srcB qB GB dstA IA VA dstB IB VB s O W₀ f ∗ semVal (c, .dma s₁) 0 ∗ semVal (c, .dma s₂) 0) : sProp (MM F))
      ⊢ iprop((iprop(bitC c srcA qA GA srcB qB GB dstA IA VA dstB IB VB s O W₀ (adv b B f) ∗ semVal (c, .dma s₁) 0 ∗ semVal (c, .dma s₂) 0)
          -∗ wp frame (wpE (defs₀ (F := F)) 𝒱₀ c none) Set.univ J Q)
        -∗ wp frame (wpE (defs₀ (F := F)) 𝒱₀ c none) Set.univ
          (if h : c₀ = 1#1 then
            Prog.lift (TpuEff.enqueueDma (srcA.slice (Rect.unit (s := ⟨1, dA⟩) oA zA (iA h)) (hA h)) (.here (dstA.slice (Rect.unit (s := ⟨1, dC⟩) oA' zA (iA' h)) (hA' h))) (.dma s₁) (w1 h) (w2 h) (t1 h))
              >>= fun _ => Prog.lift (TpuEff.waitDma2 s₁ (srcA.slice (Rect.unit (s := ⟨1, dA⟩) oA zA (iA h)) (hA h)) (dstA.slice (Rect.unit (s := ⟨1, dC⟩) oA' zA (iA' h)) (hA' h)) (w3 h) (w4 h))
              >>= fun _ => Prog.lift (TpuEff.enqueueDma (srcB.slice (Rect.unit (s := ⟨1, dB⟩) oB zB (iB h)) (hB h)) (.here (dstB.slice (Rect.unit (s := ⟨1, dD⟩) oB' zB (iB' h)) (hB' h))) (.dma s₂) (w5 h) (w6 h) (t2 h))
              >>= fun _ => Prog.lift (TpuEff.waitDma2 s₂ (srcB.slice (Rect.unit (s := ⟨1, dB⟩) oB zB (iB h)) (hB h)) (dstB.slice (Rect.unit (s := ⟨1, dD⟩) oB' zB (iB' h)) (hB' h)) (w7 h) (w8 h))
              >>= fun _ => J
          else J) Q) := by
  by_cases h : B ≤ b - f
  · have hadv : adv b B f = f + B := if_pos h
    rw [dif_pos (hc.mpr h), hadv]
    unfold bitC
    iintro ⟨⟨HA, HB, HdA, HdB, Ht⟩, H1, H2⟩ Hk
    iapply (copy_out (c := c) (src := srcA) (dst := dstA) (q := qA) (Gs := GA) (V := VA) (I := IA) (W := Set.Ico s f) (by omega) rfl
      (fun n h1 h2 => hIA h n (by rw [hoA h] at h1; exact h1) (by rw [hoA h, hzA] at h2; exact h2))
      (fun j hj => by rw [hoA h]; exact hVA h j (by rw [hzA] at hj; exact hj))) $$ [HA HdA H1 Ht]
    · isplitl [HA]; · iexact HA
      isplitl [HdA]; · iexact HdA
      isplitl [H1] <;> iassumption
    iintro ⟨HA, HdA, H1, Ht⟩
    iapply (copy_out (c := c) (src := srcB) (dst := dstB) (q := qB) (Gs := GB) (V := VB) (I := IB) (W := Set.Ico (3 * s) (3 * f)) (by omega) rfl
      (fun n h1 h2 => hIB h n (by rw [hoB h] at h1; exact h1) (by rw [hoB h, hzB] at h2; exact h2))
      (fun j hj => by rw [hoB h]; exact hVB h j (by rw [hzB] at hj; exact hj))) $$ [HB HdB H2 Ht]
    · isplitl [HB]; · iexact HB
      isplitl [HdB]; · iexact HdB
      isplitl [H2] <;> iassumption
    iintro ⟨HB, HdB, H2, Ht⟩
    rw [hoA h, hzA, hoB h, hzB, Set.Ico_union_Ico_eq_Ico hs (by omega), Set.Ico_union_Ico_eq_Ico (by omega) (by omega), ← Nat.mul_add]
    iapply Hk
    isplitl [HA HB HdA HdB Ht]
    · isplitl [HA]; · iexact HA
      isplitl [HB]; · iexact HB
      isplitl [HdA]; · iexact HdA
      isplitl [HdB] <;> iassumption
    isplitl [H1] <;> iassumption
  · have hadv : adv b B f = f := if_neg h
    rw [dif_neg (fun e => h (hc.mp e)), hadv]
    iintro H Hk
    iapply Hk
    iexact H

end Cert.Proof.Vox
-- ==== Proof.Main2.lean ====
/-
  The start of the main kernel: the tables are copied in, and the running counts are read off them.
-/
module

public import proofs.«01_k».proof.Proof.Main1

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {mw : ℕ → BitVec 32} {d : Dev nD}

/-- A table of nine rows, each row holding one value. -/
def rowsT (c : Thread nD τ) {sp : Space} (m : Memref sig c.2.kind sp S9x16 .f32) (q : PosShare TreeShare) (P : ℕ → F .f32) : sProp (MM F) :=
  iprop(∃ f, (m.view.loc c ↦[m.view.setOn Finset.univ]{q} f) ∗ ⌜∀ x, m.view.read (Elt F) f x = P (x 0).val⌝)

/-- A copy of the whole table. -/
theorem rowsT_copy {c : Thread nD τ} {sp₁ sp₂ sp₃ : Space} {s' : Shape} {e' : EltTy} {src : Memref sig c.2.kind sp₁ S9x16 .f32} {dst : Memref sig c.2.kind sp₂ S9x16 .f32}
    {sm : DmaSem sig} {hsrc : src.view.WordExact} {hdst : dst.view.WordExact}
    {hsem : DmaTarget.Typed (nD := nD) sp₁ (SemLoc.dma sm) (.here dst)}
    {srcw : Memref sig c.2.kind sp₃ s' e'} {dstw : Memref sig c.2.kind sp₂ S9x16 .f32} {h₄ : srcw.view.WordExact} {h₅ : dstw.view.WordExact} {α : Type}
    {k : PUnit → Prog (TpuEff nD τ sig (Elt F) Λ₀ c.2) α} {Q : α → sProp (MM F)} {O : CellTallies nD τ sig (HIx 2)} {W₀ : Waits sig (HIx 2)}
    {q : PosShare TreeShare} {P : ℕ → F .f32}
    (hw : dstw.view.dmaCredit = dst.view.dmaCredit) :
    (iprop(rowsT c src q P ∗ (∃ g, dst.view.loc c ↦[dst.view.setOn Finset.univ]{fullShare} g) ∗ semVal (c, .dma sm) 0 ∗ tick c default O W₀) : sProp (MM F))
      ⊢ iprop((iprop(rowsT c src q P ∗ rowsT c dst fullShare P ∗ semVal (c, .dma sm) 0 ∗ tick c default O W₀)
            -∗ wp frame (wpE (defs₀ (F := F)) 𝒱₀ c none) Set.univ (k ⟨⟩) Q)
        -∗ wp frame (wpE (defs₀ (F := F)) 𝒱₀ c none) Set.univ (Prog.lift (TpuEff.enqueueDma src (.here dst) (.dma sm) hsrc hdst hsem)
            >>= fun _ => Prog.lift (TpuEff.waitDma2 sm srcw dstw h₄ h₅) >>= k) Q) := by
  unfold rowsT
  iintro ⟨⟨%f, Hf, %hf⟩, ⟨%g, Hg⟩, Hv, HT⟩ Hk
  iapply (Transfers.wp_dmaLocal EC 𝒱₀ c none default (dst.view.amount (.dma sm)) rfl (dst.view.amount_pos _ (by decide))
    (src := src) (dst := dst) (via := .same) (hsrc := hsrc) (hdst := hdst) (hsem := hsem)
    (Sd := dst.view.setOn Finset.univ) (fd := g) (fs := f) (q := q) subset_rfl) $$ [Hf Hg Hv]
  · isplitl [Hf]; · iexact Hf
    isplitl [Hg]; · iexact Hg
    iexact Hv
  iintro HF
  iapply (tick_wait 𝒱₀ none EC (ι := default) (sm := sm) (N := dst.view.amount (.dma sm)) hw) $$ [HF HT]
  · isplitl [HF]; · iexact HF
    iexact HT
  iintro ⟨⟨Hg, Hf⟩, Hv, HT⟩
  iapply Hk
  isplitl [Hf]
  · iexists f
    isplitl [Hf]; · iexact Hf
    ipureintro; exact hf
  isplitl [Hg]
  · iexists (dst.view.write (Elt F) g (ReadAs.same.apply (src.view.read (Elt F) f)) Finset.univ)
    isplitl [Hg]; · iexact Hg
    ipureintro
    intro i
    rw [View.read_write_univ]
    exact hf i
  isplitl [Hv] <;> iassumption

/-- A row read from the table. -/
theorem rowsT_ld {c : Thread nD τ} {cs : CoreSpace} {m : Memref sig c.2.kind cs S9x16 .f32} {off : Fin 2 → ℕ} {inb}
    {hl : m.view.LoadsAt (Rect.unit (s := S9x16) off S1x16.size inb).toLoadRect} {α : Type}
    {k : ((Rect.unit (s := S9x16) off S1x16.size inb).toLoadRect.shape.Idx → Elt F .f32) → Prog (TpuEff nD τ sig (Elt F) Λ₀ c.2) α}
    {q : PosShare TreeShare} {P : ℕ → F .f32} {Q : α → sProp (MM F)} {r : ℕ} (hr : off 0 = r) :
    (rowsT c m q P : sProp (MM F))
      ⊢ iprop((∀ v : S1x16.Idx → Elt F .f32, ⌜∀ x, v x = P r⌝ -∗ rowsT c m q P
          -∗ wp frame (wpE (defs₀ (F := F)) 𝒱₀ c none) Set.univ (k v) Q)
        -∗ wp frame (wpE (defs₀ (F := F)) 𝒱₀ c none) Set.univ
            (Prog.lift (TpuEff.load m (Rect.unit (s := S9x16) off S1x16.size inb).toLoadRect hl) >>= k) Q) := by
  unfold rowsT
  iintro ⟨%f, Hf, %hf⟩ Hk
  iapply (wp_load_rect 𝒱₀ c none Set.univ (m := m) (r := Rect.unit (s := S9x16) off S1x16.size inb) (hl := hl) (k := k)
    (S := m.view.setOn Finset.univ) (q := q) (f := f) (by show (m.view.slice _).set ⊆ _; rw [View.set_slice]; exact Finset.map_subset_map.mpr (Finset.subset_univ _))) $$ Hf
  iintro Hf
  iapply Hk $$ [] [Hf]
  · ipureintro
    intro x
    refine (hf ((Rect.unit (s := S9x16) off S1x16.size inb).emb x)).trans (congrArg P ?_)
    have hx : (x 0).val < 1 := (x 0).isLt
    show off 0 + 1 * (x 0).val = r
    omega
  · iexists f
    isplitl [Hf]; · iexact Hf
    ipureintro; exact hf

/-- The lanes of the indices of the first and of the last sixteen counts. -/
theorem idx_lo (x : S16.Idx) : (k1_pay282 x).toNat = 16 * (x 0).val := by
  have hx := lt16 x
  have e : k1_pay282 x = lanesV x * 16#32 := rfl
  rw [e, lanesV_apply]
  simp only [BitVec.toNat_mul, BitVec.toNat_ofNat]
  omega

theorem idx_hi (x : S16.Idx) : (k1_pay283 x).toNat = 16 * (16 + (x 0).val) := by
  have hx := lt16 x
  have e : k1_pay283 x = 256#32 + lanesV x * 16#32 := rfl
  rw [e, lanesV_apply]
  simp only [BitVec.toNat_mul, BitVec.toNat_add, BitVec.toNat_ofNat]
  omega

variable (i : grid1.Coords) (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

set_option maxHeartbeats 1600000 in
/-- The tables in, and the counts before, at and after the tile's piece. -/
theorem part33_ok (w : ℕ) (hw : w = 2 * (i 1).val + (i 0).val) {q₄ q₅ q₆ q₇ : PosShare TreeShare} {P : ℕ → F .f32} {CT ZP : ℕ → BitVec 32} {FP : ℕ → F .f32}
    (f : ℕ → ℕ) (hm : Monotone f) (hf0 : f 0 = 0) (hCT : ∀ n < 512, CT n = BitVec.ofNat 32 (f (n / 16 + 1) - f (n / 16)))
    {O : CellTallies nD τ sig (HIx 2)} {W₀ : Waits sig (HIx 2)} {α : Type} {Q : α → sProp (MM F)}
    {k : (Σ' (v1 : BitVec 32) (v2 : IVec S16 32) (v13 : BitVec 32) (v16 : BitVec 32) (v17 : BitVec 32) (v31 : BitVec 32), IVec S16 32) → Prog (TpuEff nD τ sig (Elt F) Λ₀ (thr d i).2) α} :
    (iprop(rowsT (thr d i) arg4 q₄ P ∗ own (F := F) (e := .i32) (thr d i) arg5 q₅ Set.univ CT ∗ own (F := F) (e := .i32) (thr d i) arg7 q₇ Set.univ ZP
        ∗ own (F := F) (e := .f32) (thr d i) arg6 q₆ Set.univ FP
        ∗ (∃ g, arg14.view.loc (thr d i) ↦[arg14.view.setOn Finset.univ]{fullShare} g) ∗ anyB (F := F) (e := .i32) (thr d i) arg15
        ∗ anyB (F := F) (e := .i32) (thr d i) arg16 ∗ anyB (F := F) (e := .i32) (thr d i) arg17 ∗ anyB (F := F) (e := .f32) (thr d i) arg18
        ∗ semVal (thr d i, .dma z0.sem) 0 ∗ semVal (thr d i, .dma z1.sem) 0 ∗ semVal (thr d i, .dma z2.sem) 0 ∗ semVal (thr d i, .dma z3.sem) 0
        ∗ tick (thr d i) default O W₀) : sProp (MM F))
      ⊢ iprop((iprop(rowsT (thr d i) arg4 q₄ P ∗ own (F := F) (e := .i32) (thr d i) arg5 q₅ Set.univ CT ∗ own (F := F) (e := .i32) (thr d i) arg7 q₇ Set.univ ZP
        ∗ own (F := F) (e := .f32) (thr d i) arg6 q₆ Set.univ FP
        ∗ rowsT (thr d i) arg14 fullShare P ∗ own (F := F) (e := .i32) (thr d i) arg15 fullShare Set.univ CT
        ∗ anyB (F := F) (e := .i32) (thr d i) arg16 ∗ own (F := F) (e := .i32) (thr d i) arg17 fullShare Set.univ ZP ∗ own (F := F) (e := .f32) (thr d i) arg18 fullShare Set.univ FP
        ∗ semVal (thr d i, .dma z0.sem) 0 ∗ semVal (thr d i, .dma z1.sem) 0 ∗ semVal (thr d i, .dma z2.sem) 0 ∗ semVal (thr d i, .dma z3.sem) 0
        ∗ tick (thr d i) default O W₀)
          -∗ wp frame (wpE (defs₀ (F := F)) 𝒱₀ (thr d i) none) Set.univ
            (k ⟨BitVec.ofNat 32 w, lanesV, BitVec.ofNat 32 (f 16), BitVec.ofNat 32 (f 32 - f 16), BitVec.ofNat 32 (f 32),
              BitVec.ofNat 32 (f w), broadcast S16 (BitVec.ofNat 32 (16 * w))⟩) Q)
        -∗ wp frame (wpE (defs₀ (F := F)) 𝒱₀ (thr d i) none) Set.univ (k1_part33 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 >>= k) Q) := by
  have hi0 : (i 0).val < 2 := (i 0).isLt
  have hi1 : (i 1).val < 16 := (i 1).isLt
  unfold anyB
  iintro ⟨H4, H5, H7, H6, H14, ⟨%G15, H15⟩, ⟨%G16, H16⟩, ⟨%G17, H17⟩, ⟨%G18, H18⟩, R0, R1, R2, R3, Ht⟩ Hk
  rw [k1_part33_eq_skeleton]; unfold k1_part33_skel
  simp only [bind_assoc, pure_bind]
  iapply (rowsT_copy (c := thr d i) (src := arg4) (dst := arg14) rfl) $$ [H4 H14 R0 Ht]
  · isplitl [H4]; · iexact H4
    isplitl [H14]; · iexact H14
    isplitl [R0]; · iexact R0
    iexact Ht
  iintro ⟨H4, H14, R0, Ht⟩
  iapply (own_copy (F := F) 𝒱₀ none EC (c := thr d i) (src := arg5) (dst := arg15) (by decide) rfl) $$ [H5 H15 R1 Ht]
  · isplitl [H5]; · iexact H5
    isplitl [H15]; · iexact H15
    isplitl [R1]; · iexact R1
    iexact Ht
  iintro ⟨H5, H15, R1, Ht⟩
  iapply (own_copy (F := F) 𝒱₀ none EC (c := thr d i) (src := arg7) (dst := arg17) (by decide) rfl) $$ [H7 H17 R2 Ht]
  · isplitl [H7]; · iexact H7
    isplitl [H17]; · iexact H17
    isplitl [R2]; · iexact R2
    iexact Ht
  iintro ⟨H7, H17, R2, Ht⟩
  iapply (own_copy (F := F) 𝒱₀ none EC (c := thr d i) (src := arg6) (dst := arg18) (by decide) rfl) $$ [H6 H18 R3 Ht]
  · isplitl [H6]; · iexact H6
    isplitl [H18]; · iexact H18
    isplitl [R3]; · iexact R3
    iexact Ht
  iintro ⟨H6, H18, R3, Ht⟩
  have c1 : k1_chk1 k1_pay282 := chk_one (fun x => by have := lt16 x; rw [idx_lo x]; omega)
  iapply (assume_ok (c := thr d i) c1)
  iapply (own_ldIdx (c := thr d i) (m := arg15)) $$ H15; iintro %v5 %hv5 H15
  have c2 : k1_chk2 k1_pay283 := chk_one (fun x => by have := lt16 x; rw [idx_hi x]; omega)
  iapply (assume_ok (c := thr d i) c2)
  iapply (own_ldIdx (c := thr d i) (m := arg15)) $$ H15; iintro %v10 %hv10 H15
  have hm' : Monotone fun j => f (16 + j) := fun x y hxy => hm (by omega)
  have f5 : ∀ x, v5 x = BitVec.ofNat 32 (f ((x 0).val + 1) - f ((x 0).val)) := fun x => by
    have := lt16 x
    rw [hv5 x, hCT _ (by show (k1_pay282 x).toNat < 512; rw [idx_lo x]; omega)]
    show BitVec.ofNat 32 (f ((k1_pay282 x).toNat / 16 + 1) - f ((k1_pay282 x).toNat / 16)) = _
    rw [idx_lo x, show 16 * (x 0).val / 16 = (x 0).val by omega]
  have f10 : ∀ x, v10 x = BitVec.ofNat 32 (f (16 + ((x 0).val + 1)) - f (16 + (x 0).val)) := fun x => by
    have := lt16 x
    rw [hv10 x, hCT _ (by show (k1_pay283 x).toNat < 512; rw [idx_hi x]; omega)]
    show BitVec.ofNat 32 (f ((k1_pay283 x).toNat / 16 + 1) - f ((k1_pay283 x).toNat / 16)) = _
    rw [idx_hi x, show 16 * (16 + (x 0).val) / 16 = 16 + (x 0).val by omega, Nat.add_assoc]
  have s5 : ∀ x, scan .sum v5 x = BitVec.ofNat 32 (f ((x 0).val + 1)) := fun x => by
    rw [scan_steps v5 _ hm f5 x]
    show BitVec.ofNat 32 (f ((x 0).val + 1) - f 0) = _
    rw [hf0, Nat.sub_zero]
  have s10 := scan_steps v10 _ hm' f10
  have g13 : extractAt ![15] (k1_pay284 v5) inpos_S16_p15 = BitVec.ofNat 32 (f 16) := by
    rw [extractAt_eq]; exact s5 _
  have g16 : extractAt ![15] (k1_pay285 v10) inpos_S16_p15 = BitVec.ofNat 32 (f 32 - f 16) := by
    rw [extractAt_eq]; exact s10 _
  have g17 : Scalar.addi (BitVec.ofNat 32 (f 16)) (BitVec.ofNat 32 (f 32 - f 16)) = BitVec.ofNat 32 (f 32) := by
    rw [add_ofNat]; congr 1; have : f 16 ≤ f 32 := hm (by omega)
    omega
  have g1 : Scalar.addi (Scalar.muli (BitVec.ofNat 32 (i 1).val) 2#32) (BitVec.ofNat 32 (i 0).val) = BitVec.ofNat 32 w := by
    rw [show (2#32 : BitVec 32) = BitVec.ofNat 32 2 from rfl, mul_ofNat, add_ofNat]; congr 1; omega
  have g286 : ∀ x, k1_pay286 v5 x = BitVec.ofNat 32 (f ((x 0).val)) := fun x => by
    have e : k1_pay286 v5 x = Scalar.subi (scan .sum v5 x) (v5 x) := rfl
    have := hm (show (x 0).val ≤ (x 0).val + 1 by omega)
    rw [e, s5 x, f5 x, sub_ofNat (by omega)]; congr 1; omega
  have g287 : ∀ x, k1_pay287 v5 v10 x = BitVec.ofNat 32 (f (16 + (x 0).val)) := fun x => by
    have e : k1_pay287 v5 v10 = addi (subi (scan .sum v10) v10) (broadcast S16 (extractAt ![15] (k1_pay284 v5) inpos_S16_p15)) := rfl
    rw [g13] at e
    replace e : k1_pay287 v5 v10 x = Scalar.addi (Scalar.subi (scan .sum v10 x) (v10 x)) (BitVec.ofNat 32 (f 16)) := congrFun e x
    have h1 : f (16 + (x 0).val) ≤ f (16 + ((x 0).val + 1)) := hm (by omega)
    have h2 : f (16 + 0) ≤ f (16 + (x 0).val) := hm (by omega)
    rw [e, s10 x, f10 x, sub_ofNat (by omega), add_ofNat]
    congr 1
    rw [Nat.add_zero] at h2
    dsimp only
    rw [show (16 + 0 : ℕ) = 16 from rfl]
    omega
  ihave H16 := (show (iprop(∃ G, own (thr d i) arg16 fullShare Set.univ G) : sProp (MM F)) ⊢ edgeB (thr d i) arg16 0 (fun j => BitVec.ofNat 32 (f j)) from any_edgeB (e := .i32)) $$ [H16]
  · iexists _; iexact H16
  iapply (edge_put (c := thr d i) (m := arg16) (n := 0) (T := fun j => BitVec.ofNat 32 (f j)) rfl rfl (fun x => (g286 x).trans (by rw [Nat.zero_add]))) $$ H16; iintro H16
  iapply (edge_put (c := thr d i) (m := arg16) (n := 16) (T := fun j => BitVec.ofNat 32 (f j)) rfl rfl (fun x => g287 x)) $$ H16; iintro H16
  rw [g1, g13, g16, g17]
  have c3 : k1_chk3 (broadcast S16 (BitVec.ofNat 32 w)) := chk_one (fun x => by
    show (BitVec.ofNat 32 w).toNat < 32
    rw [BitVec.toNat_ofNat]; omega)
  iapply (assume_ok (c := thr d i) c3)
  unfold edgeB
  icases H16 with ⟨%E16, H16, %hE⟩
  iapply (own_ldIdx (c := thr d i) (m := arg16)) $$ H16; iintro %v29 %hv29 H16
  have g31 : extractAt ![0] (k1_pay288 v29) inpos_S1_p0 = BitVec.ofNat 32 (f w) := by
    refine (hv29 _).trans ?_
    show E16 (BitVec.ofNat 32 w).toNat = _
    rw [BitVec.toNat_ofNat, Nat.mod_eq_of_lt (by omega), hE w (by omega)]
  have g33 : k1_pay289 (broadcast S16 (BitVec.ofNat 32 w)) = broadcast S16 (BitVec.ofNat 32 (16 * w)) := by
    funext x
    show Scalar.muli (BitVec.ofNat 32 w) (BitVec.ofNat 32 16) = BitVec.ofNat 32 (16 * w)
    rw [mul_ofNat, Nat.mul_comm]
  rw [g31, g33]
  iapply Hk
  isplitl [H4]; · iexact H4
  isplitl [H5]; · iexact H5
  isplitl [H7]; · iexact H7
  isplitl [H6]; · iexact H6
  isplitl [H14]; · iexact H14
  isplitl [H15]; · iexact H15
  isplitl [H16]; · iexists _; iexact H16
  isplitl [H17]; · iexact H17
  isplitl [H18]; · iexact H18
  isplitl [R0]; · iexact R0
  isplitl [R1]; · iexact R1
  isplitl [R2]; · iexact R2
  isplitl [R3]; · iexact R3
  iexact Ht

end Cert.Proof.Vox
-- ==== Proof.Fill.lean ====
/-
  Copies issued one after the other from one buffer and waited for together at the end.
-/
module

public import proofs.«01_k».proof.Proof.Move
public import Idealize.ShloMosaic.Lib.Batch

@[expose] public section

set_option maxRecDepth 16384

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the `t`-th of a run of copies gives back: its share of the source, and the target's piece written. -/
def fillD (c : Thread nD τ) {sp₁ sp₂ : Space} {dd dD : Fin 1 → ℕ} {e : EltTy} (src : Memref sig c.2.kind sp₁ ⟨1, dd⟩ e) (dst : Memref sig c.2.kind sp₂ ⟨1, dD⟩ e)
    (B s : ℕ) (G₀ V : ℕ → Elt F e) (t : ℕ) : sProp (MM F) :=
  iprop(own c src (Transfers.shareTokN fullShare t) Set.univ G₀ ∗ own c dst fullShare (Set.Ico (s + B * t) (s + B * (t + 1))) V)

instance own_storable {c : Thread nD τ} {sp : Space} {dd : Fin 1 → ℕ} {e : EltTy} {m : Memref sig c.2.kind sp ⟨1, dd⟩ e} {q : PosShare TreeShare} {I : Set ℕ} {G : ℕ → Elt F e} :
    Storable (upEmb : UEmb _ (MM F)) (own c m q I G) := by
  unfold own; infer_instance

instance fillD_storable {c : Thread nD τ} {sp₁ sp₂ : Space} {dd dD : Fin 1 → ℕ} {e : EltTy} {src : Memref sig c.2.kind sp₁ ⟨1, dd⟩ e} {dst : Memref sig c.2.kind sp₂ ⟨1, dD⟩ e}
    {B s : ℕ} {G₀ V : ℕ → Elt F e} {t : ℕ} : Storable (upEmb : UEmb _ (MM F)) (fillD c src dst B s G₀ V t) := by
  unfold fillD; infer_instance

/-- A run of `n` copies of `B` elements each, `j` issued: the counter, the source's remaining share and the target outside the pieces. -/
def fillInv (c : Thread nD τ) {sp₁ sp₂ : Space} {dd dD : Fin 1 → ℕ} {e : EltTy} (src : Memref sig c.2.kind sp₁ ⟨1, dd⟩ e) (dst : Memref sig c.2.kind sp₂ ⟨1, dD⟩ e)
    (sm : DmaSem sig) (N B s n : ℕ) (Z W : Set ℕ) (G₀ V : ℕ → Elt F e) (j : ℕ) : sProp (MM F) :=
  iprop(own c src (Transfers.shareDrop fullShare j) Set.univ G₀ ∗ outO c dst (Z \ Set.Ico s (s + B * j)) W V
    ∗ Transfers.Batch EC c (.dma sm) default N (fun t : Fin n => fillD c src dst B s G₀ V t.val) j 0)

section Fill
variable {c : Thread nD τ} {sp₁ sp₂ : Space} {dd dD : Fin 1 → ℕ} {e : EltTy} {src : Memref sig c.2.kind sp₁ ⟨1, dd⟩ e} {dst : Memref sig c.2.kind sp₂ ⟨1, dD⟩ e}
  {sm : DmaSem sig} {N B s n : ℕ} {Z W : Set ℕ} {G₀ V : ℕ → Elt F e} {α : Type} {Q : α → sProp (MM F)}

/-- No copy issued yet. -/
theorem fill_start : (iprop(own c src fullShare Set.univ G₀ ∗ outO c dst Z W V ∗ semVal (c, .dma sm) 0) : sProp (MM F))
    ⊢ iprop(|={Set.univ}=> fillInv c src dst sm N B s n Z W G₀ V 0) := by
  iintro ⟨Hs, Hd, Hv⟩
  imod (Transfers.batch_alloc' EC (c := c) (sm := .dma sm) default N (fun t : Fin n => fillD c src dst B s G₀ V t.val) (E := Set.univ)) $$ Hv with HB
  imodintro
  unfold fillInv
  isplitl [Hs]; · iexact Hs
  isplitl [Hd]
  · rw [Nat.mul_zero, Nat.add_zero, Set.Ico_self, Set.diff_empty]; iexact Hd
  iexact HB

/-- One more copy issued. -/
theorem fill_step {off : Fin 1 → ℕ} {inb hs} {hsrc : src.view.WordExact} {hdst} {hsem}
    {k : PUnit → Prog (TpuEff nD τ sig (Elt F) Λ₀ c.2) α} {j : ℕ}
    (hsz : dd 0 = B) (hoff : off 0 = s + B * j) (hj : j < n) (hZ : ∀ p, s ≤ p → p < s + B * n → p ∈ Z)
    (hV : ∀ t < B, V (s + B * j + t) = G₀ t)
    (hN : (dst.slice (Rect.unit (s := ⟨1, dD⟩) off dd inb) hs).view.amount (.dma sm) = N) :
    (fillInv c src dst sm N B s n Z W G₀ V j : sProp (MM F))
      ⊢ iprop((fillInv c src dst sm N B s n Z W G₀ V (j + 1) -∗ wp frame (wpE (defs₀ (F := F)) 𝒱₀ c none) Set.univ (k ⟨⟩) Q)
        -∗ wp frame (wpE (defs₀ (F := F)) 𝒱₀ c none) Set.univ
          (Prog.lift (TpuEff.enqueueDma src (.here (dst.slice (Rect.unit (s := ⟨1, dD⟩) off dd inb) hs)) (.dma sm) hsrc hdst hsem) >>= k) Q) := by
  unfold fillInv outO
  iintro ⟨Hs, ⟨%G, Hd, %hG⟩, HB⟩ Hk
  have hB : B * (j + 1) ≤ B * n := Nat.mul_le_mul_left _ hj
  have hB' : B * (j + 1) = B * j + B := Nat.mul_succ B j
  have hIco : Set.Ico (off 0) (off 0 + dd 0) = Set.Ico (s + B * j) (s + B * (j + 1)) := by rw [hoff, hsz, hB', Nat.add_assoc]
  have hsub : Set.Ico (off 0) (off 0 + dd 0) ⊆ Z \ Set.Ico s (s + B * j) := by
    rw [hIco]
    intro p hp
    have h1 := hp.1; have h2 := hp.2
    exact ⟨hZ p (by omega) (by omega), fun h => by have := h.2; omega⟩
  ihave Hd2 := (own_carve (c := c) (m := dst) (q := fullShare) (I := Z \ Set.Ico s (s + B * j)) (J := Set.Ico (off 0) (off 0 + dd 0)) (G := G) hsub) $$ Hd
  icases Hd2 with ⟨HdA, HdB⟩
  ihave HdA := (own_slice (c := c) (m := dst) (q := fullShare) (G := G) (off := off) (size := dd) (inb := inb) (hs := hs)) $$ HdA
  ihave Hs2 := (own_share (F := F) (c := c) (m := src) (q := Transfers.shareDrop fullShare j) (q₁ := Transfers.shareDrop fullShare (j + 1)) (q₂ := Transfers.shareTokN fullShare j) (PosShare.mem_left_op_right _)) $$ Hs
  icases Hs2 with ⟨Hs, Ht⟩
  ihave HdA := (show (own c (dst.slice (Rect.unit (s := ⟨1, dD⟩) off dd inb) hs) fullShare Set.univ (fun n => G (off 0 + n)) : sProp (MM F))
    ⊢ iprop(∃ g, (dst.slice (Rect.unit (s := ⟨1, dD⟩) off dd inb) hs).view.loc c ↦[(dst.slice (Rect.unit (s := ⟨1, dD⟩) off dd inb) hs).view.setOn (pos Set.univ)]{fullShare} g) from by
      unfold own; iintro ⟨%g, H, -⟩; iexists g; iexact H) $$ HdA
  ihave Ht := (show (own c src (Transfers.shareTokN fullShare j) Set.univ G₀ : sProp (MM F))
    ⊢ iprop(∃ f, (src.view.loc c ↦[src.view.setOn (pos Set.univ)]{Transfers.shareTokN fullShare j} f) ∗ ⌜∀ x, (x 0).val ∈ (Set.univ : Set ℕ) → src.view.read (Elt F) f x = G₀ (x 0).val⌝) from by
      unfold own; exact .rfl) $$ Ht
  icases HdA with ⟨%g, Hg⟩
  icases Ht with ⟨%f, Hf, %hf⟩
  iapply (Transfers.wp_dmaBatch EC 𝒱₀ c none (src := src) (via := .same) (dst := dst.slice (Rect.unit (s := ⟨1, dD⟩) off dd inb) hs) (sm := .dma sm) (hsrc := hsrc) (hdst := hdst) (hsem := hsem)
    (k := k) (q := Transfers.shareTokN fullShare j) (fs := f) (Sd := (dst.slice (Rect.unit (s := ⟨1, dD⟩) off dd inb) hs).view.setOn (pos Set.univ)) (fd := g)
    (D := fun t : Fin n => fillD c src dst B s G₀ V t.val) (j := j) (u := 0) default N hN (by rw [pos_univ]; exact subset_rfl) hj (Nat.zero_le _) (by
      unfold fillD
      iintro ⟨Hg, Hf⟩
      isplitl [Hf]
      · unfold own
        iexists f
        isplitl [Hf]; · rw [pos_univ]; iexact Hf
        ipureintro; exact hf
      · rw [← hIco]
        iapply (own_of_slice (c := c) (m := dst) (q := fullShare) (G := V) (G₁ := G₀) (off := off) (size := dd) (inb := inb) (hs := hs) (fun t ht => by rw [hoff]; exact (hV t (hsz ▸ ht)).symm))
        unfold own
        iexists (((dst.slice (Rect.unit (s := ⟨1, dD⟩) off dd inb) hs).view.write (Elt F) g (ReadAs.same.apply (src.view.read (Elt F) f)) Finset.univ))
        isplitl [Hg]; · iexact Hg
        ipureintro
        intro x _
        rw [View.read_write_univ]
        exact hf x trivial)) $$ [Hf Hg HB]
  · isplitl [Hf]; · rw [pos_univ]; iexact Hf
    isplitl [Hg]; · iexact Hg
    iexact HB
  iintro HB
  iapply Hk
  isplitl [Hs]; · iexact Hs
  isplitl [HdB]
  · iexists G
    isplitl [HdB]
    · rw [hIco]
      rw [show (Z \ Set.Ico s (s + B * j)) \ Set.Ico (s + B * j) (s + B * (j + 1)) = Z \ Set.Ico s (s + B * (j + 1)) by
        rw [Set.diff_diff, Set.Ico_union_Ico_eq_Ico (by omega) (by omega)]]
      iexact HdB
    ipureintro; exact hG
  iexact HB

/-- What is held while the waits of a run of `n` copies, all issued, proceed: `j` waited for. -/
def drainInv (c : Thread nD τ) {sp₁ sp₂ : Space} {dd dD : Fin 1 → ℕ} {e : EltTy} (src : Memref sig c.2.kind sp₁ ⟨1, dd⟩ e) (dst : Memref sig c.2.kind sp₂ ⟨1, dD⟩ e)
    (sm : DmaSem sig) (N B s n : ℕ) (G₀ V : ℕ → Elt F e) (j : ℕ) : sProp (MM F) :=
  Transfers.Batch EC c (.dma sm) default N (fun t : Fin n => fillD c src dst B s G₀ V t.val) n (j * N)

/-- One more wait. -/
theorem drain_step {s'' : Shape} {e'' : EltTy} {sp₃ sp₄ : Space} {s' : Shape} {e' : EltTy} {srcw : Memref sig c.2.kind sp₃ s' e'} {dstw : Memref sig c.2.kind sp₄ s'' e''}
    {hsrc : srcw.view.WordExact} {hdst : dstw.view.WordExact} {k : PUnit → Prog (TpuEff nD τ sig (Elt F) Λ₀ c.2) α} {O : CellTallies nD τ sig (HIx 2)} {W₀ : Waits sig (HIx 2)}
    {j : ℕ} (hj : j < n) (hN : dstw.view.dmaCredit = N) :
    (iprop(drainInv c src dst sm N B s n G₀ V j ∗ tick c default O W₀) : sProp (MM F))
      ⊢ iprop((iprop(drainInv c src dst sm N B s n G₀ V (j + 1) ∗ tick c default O W₀) -∗ wp frame (wpE (defs₀ (F := F)) 𝒱₀ c none) Set.univ (k ⟨⟩) Q)
        -∗ wp frame (wpE (defs₀ (F := F)) 𝒱₀ c none) Set.univ (Prog.lift (TpuEff.waitDma2 sm srcw dstw hsrc hdst) >>= k) Q) := by
  unfold tick drainInv
  iintro ⟨HB, #Hmw, %W', %hW, HO⟩ Hk
  have h1 : (j + 1) * N ≤ n * N := Nat.mul_le_mul_right _ hj
  rw [Nat.succ_mul] at h1
  iapply (Transfers.wp_waitBatchMulO EC 𝒱₀ c none (sem := sm) (srcw := srcw) (dstw := dstw) (hsrc := hsrc) (hdst := hdst) (k := k)
    default (N := N) 1 (by rw [hN, Nat.one_mul]) (D := fun t : Fin n => fillD c src dst B s G₀ V t.val) (j := n) (u := j * N) (by rw [Nat.one_mul, Nat.mul_comm N n]; exact h1) (O := O) (W := W')) $$ [HB HO]
  · isplitl [HB]; · iexact HB
    isplitl [HO]; · iexact HO
    iapply (Transfers.MayWaits.elim (c := c) (ι := default) (O := O) (SemLoc.dma sm)) $$ Hmw
  iintro ⟨HB, HO⟩
  iapply Hk
  isplitl [HB]; · rw [show (j + 1) * N = j * N + 1 * N by rw [Nat.succ_mul, Nat.one_mul]]; iexact HB
  isplitr; · iexact Hmw
  iexists (insert (SemLoc.dma sm, default) W')
  isplitr
  · ipureintro
    intro p hp
    rcases Finset.mem_insert.mp hp with rfl | hp
    · exact .inr rfl
    · exact hW p hp
  · iexact HO

/-- The pieces come back together. -/
theorem fill_collect (m : ℕ) (hZ : ∀ p, s ≤ p → p < s + B * m → p ∈ Z) :
    (iprop(bigSep (Finset.range m) (fun t => fillD c src dst B s G₀ V t) ∗ own c src (Transfers.shareDrop fullShare m) Set.univ G₀
        ∗ outO c dst (Z \ Set.Ico s (s + B * m)) W V) : sProp (MM F))
      ⊢ iprop(own c src fullShare Set.univ G₀ ∗ outO c dst Z (W ∪ Set.Ico s (s + B * m)) V) := by
  induction m generalizing W with
  | zero =>
    iintro ⟨-, Hs, Hd⟩
    isplitl [Hs]; · iexact Hs
    rw [Nat.mul_zero, Nat.add_zero, Set.Ico_self, Set.diff_empty, Set.union_empty]
    iexact Hd
  | succ m ih =>
    have hB' : B * (m + 1) = B * m + B := Nat.mul_succ B m
    iintro ⟨Hr, Hs, Hd⟩
    ihave Hr := (show (bigSep (Finset.range (m + 1)) (fun t => fillD c src dst B s G₀ V t) : sProp (MM F)) ⊢ iprop(fillD c src dst B s G₀ V m ∗ bigSep (Finset.range m) (fun t => fillD c src dst B s G₀ V t)) from
      Entails.of_eq (by rw [Finset.range_add_one, bigSep_insert Finset.notMem_range_self]; rfl)) $$ Hr
    icases Hr with ⟨Hm, Hr⟩
    unfold fillD
    icases Hm with ⟨Ht, Hp⟩
    ihave Hs := (own_unshare (F := F) (c := c) (m := src) (q := Transfers.shareDrop fullShare m) (q₁ := Transfers.shareDrop fullShare (m + 1)) (q₂ := Transfers.shareTokN fullShare m) (G := G₀) (G₁ := G₀) (I := Set.univ) (PosShare.mem_left_op_right _)) $$ [Hs Ht]
    · isplitl [Hs]; · iexact Hs
      iexact Ht
    ihave Hd := (show (iprop(own c dst fullShare (Set.Ico (s + B * m) (s + B * (m + 1))) V ∗ outO c dst (Z \ Set.Ico s (s + B * (m + 1))) W V) : sProp (MM F))
      ⊢ outO c dst (Z \ Set.Ico s (s + B * m)) (W ∪ Set.Ico (s + B * m) (s + B * (m + 1))) V from by
        unfold outO
        iintro ⟨Hp, %G, Hd, %hG⟩
        iexists (fun n => by classical exact if n ∈ Set.Ico (s + B * m) (s + B * (m + 1)) then V n else G n)
        isplitl [Hp Hd]
        · iapply (own_uncarve (c := c) (m := dst) (q := fullShare) (I := Z \ Set.Ico s (s + B * m)) (J := Set.Ico (s + B * m) (s + B * (m + 1)))
            (fun p hp => ⟨hZ p (by have := hp.1; omega) hp.2, fun h => by have := h.2; have := hp.1; omega⟩) (fun n hn => if_pos hn) (fun n _ hn => if_neg hn))
          isplitl [Hp]; · iexact Hp
          rw [show (Z \ Set.Ico s (s + B * m)) \ Set.Ico (s + B * m) (s + B * (m + 1)) = Z \ Set.Ico s (s + B * (m + 1)) by
            rw [Set.diff_diff, Set.Ico_union_Ico_eq_Ico (by omega) (by omega)]]
          iexact Hd
        · ipureintro
          intro p hp
          dsimp only
          split
          · rfl
          · rename_i hn
            rcases hp with hp | hp
            · exact hG p hp
            · exact absurd hp hn) $$ [Hp Hd]
    · isplitl [Hp]; · iexact Hp
      iexact Hd
    rw [show W ∪ Set.Ico s (s + B * (m + 1)) = (W ∪ Set.Ico (s + B * m) (s + B * (m + 1))) ∪ Set.Ico s (s + B * m) by
      rw [Set.union_assoc, Set.union_comm (Set.Ico (s + B * m) _), Set.Ico_union_Ico_eq_Ico (by omega) (by omega)]]
    iapply (ih (W := W ∪ Set.Ico (s + B * m) (s + B * (m + 1))) (fun p h1 h2 => hZ p h1 (by omega)))
    isplitl [Hr]; · unfold fillD; iexact Hr
    isplitl [Hs]; · iexact Hs
    iexact Hd

/-- Every copy waited for: the source and the target whole again. -/
theorem fill_done (hN : 0 < N) (hZ : ∀ p, s ≤ p → p < s + B * n → p ∈ Z) :
    (iprop(drainInv c src dst sm N B s n G₀ V n ∗ own c src (Transfers.shareDrop fullShare n) Set.univ G₀ ∗ outO c dst (Z \ Set.Ico s (s + B * n)) W V) : sProp (MM F))
      ⊢ iprop(|={Set.univ}=> (own c src fullShare Set.univ G₀ ∗ outO c dst Z (W ∪ Set.Ico s (s + B * n)) V ∗ semVal (c, .dma sm) 0)) := by
  unfold drainInv
  iintro ⟨HB, Hs, Hd⟩
  rw [Nat.mul_comm n N]
  ihave HB := (show (Transfers.Batch EC c (.dma sm) default N (fun t : Fin n => fillD c src dst B s G₀ V t.val) n (N * n) : sProp (MM F))
    ⊢ iprop(|={Set.univ}=> (bigSep Finset.univ (fun t : Fin n => fillD c src dst B s G₀ V t.val) ∗ semVal (c, .dma sm) 0)) from Transfers.batch_collect' EC c hN) $$ HB
  imod HB with ⟨HD, Hv⟩
  imodintro
  ihave HD := (show bigSep Finset.univ (fun t : Fin n => (fillD c src dst B s G₀ V t.val : sProp (MM F))) ⊢ bigSep (Finset.range n) (fun t => fillD c src dst B s G₀ V t) from
    Entails.of_eq (by rw [← Nat.Iio_eq_range, ← Fin.map_valEmbedding_univ, bigSep_map]; rfl)) $$ HD
  ihave H := (fill_collect n hZ) $$ [HD Hs Hd]
  · isplitl [HD]; · iexact HD
    isplitl [Hs]; · iexact Hs
    iexact Hd
  icases H with ⟨Hs, Hd⟩
  isplitl [Hs]; · iexact Hs
  isplitl [Hd]; · iexact Hd
  iexact Hv

end Fill

end Cert.Proof.Vox
-- ==== Proof.Main3.lean ====
/-
  The zero rows: the whole blocks of them are issued while the tail of the rows is written, and waited for at the end.
-/
module

public import proofs.«01_k».proof.Proof.Main2
public import proofs.«01_k».proof.Proof.Fill

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {d : Dev nD}

/-- The numbers of a tile's piece: `a` rows before it and `b` up to its end, `t` in all, tile `w`. -/
structure Piece (t a b w : ℕ) : Prop where
  hab : a ≤ b
  hz : b ≤ a + 65536
  haw : a ≤ 65536 * w
  hbw : b ≤ 65536 * (w + 1)
  hbt : b ≤ t
  ht : t + 65536 * (w + 1) ≤ 2097152 + b
  hw : w < 32

/-- How many rows the tile fills, and where they start. -/
def zlen (a b : ℕ) : ℕ := 65536 - (b - a)
def zst (t a w : ℕ) : ℕ := t + 65536 * w - a

variable {t a b w : ℕ}

theorem Piece.zlen_le (h : Piece t a b w) : zlen a b ≤ 65536 := by unfold zlen; omega
theorem Piece.zst_zlen (h : Piece t a b w) : zst t a w + zlen a b = t + 65536 * (w + 1) - b := by
  have := h.1; have := h.2; have := h.3; have := h.4; have := h.5
  unfold zst zlen; omega
theorem Piece.zend_le (h : Piece t a b w) : zst t a w + zlen a b ≤ 2097152 := by
  rw [h.zst_zlen]; have := h.6; omega
theorem Piece.t_le (h : Piece t a b w) : t ≤ 2097152 := by have := h.4; have := h.6; omega
theorem Piece.zst_ge (h : Piece t a b w) : t ≤ zst t a w := by have := h.3; unfold zst; omega

/-- The length as the kernel computes it. -/
theorem zlen_word (h : Piece t a b w) : Scalar.subi 65536#32 (BitVec.ofNat 32 (b - a)) = BitVec.ofNat 32 (zlen a b) :=
  sub_ofNat (a := 65536) (by have := h.1; have := h.2; omega)

/-- The end as the kernel computes it. -/
theorem zend_word (h : Piece t a b w) (c s : ℕ) (hw : w = 2 * s + c) (v13 v16 : BitVec 32) (h17 : Scalar.addi v13 v16 = BitVec.ofNat 32 t) :
    Scalar.subi (Scalar.addi (Scalar.addi (Scalar.addi v13 v16) (Scalar.muli (Scalar.addi (Scalar.muli (BitVec.ofNat 32 s) 2#32) (BitVec.ofNat 32 c)) 65536#32)) 65536#32)
      (Scalar.addi (BitVec.ofNat 32 a) (BitVec.ofNat 32 (b - a))) = BitVec.ofNat 32 (zst t a w + zlen a b) := by
  have hab := h.1
  rw [h17, show (2#32 : BitVec 32) = BitVec.ofNat 32 2 from rfl, show (65536#32 : BitVec 32) = BitVec.ofNat 32 65536 from rfl, mul_ofNat, add_ofNat, mul_ofNat, add_ofNat, add_ofNat, add_ofNat,
    sub_ofNat (by have := h.5; omega)]
  rw [h.zst_zlen]; exact congrArg (BitVec.ofNat 32) (by have := h.5; omega)

/-- The start as the kernel computes it. -/
theorem zst_word (h : Piece t a b w) : Scalar.subi (BitVec.ofNat 32 (zst t a w + zlen a b)) (BitVec.ofNat 32 (zlen a b)) = BitVec.ofNat 32 (zst t a w) := by
  rw [sub_ofNat (by omega)]; congr 1; omega

/-- The rows up to the first aligned one. -/
def zhd (t a b w : ℕ) : ℕ := headOf (zst t a w) (zlen a b)

theorem zhd_le : zhd t a b w ≤ zlen a b := by unfold zhd headOf; omega
theorem zhd_lt : zhd t a b w < 8 := by unfold zhd headOf; omega
theorem zhd_al (h : zhd t a b w < zlen a b) : 8 ∣ zst t a w + zhd t a b w := by unfold zhd headOf at *; omega

/-- The number of whole blocks. -/
def znb (t a b w : ℕ) : ℕ := (zlen a b - zhd t a b w) / 2048

variable (i : grid1.Coords)

/-- The number of blocks as the kernel computes it. -/
theorem znb_word (h : Piece t a b w) (hw : w = 2 * (i 1).val + (i 0).val) (v13 v16 : BitVec 32) (h17 : Scalar.addi v13 v16 = BitVec.ofNat 32 t) :
    (k1_t9_loop i v13 v16 (BitVec.ofNat 32 a) (BitVec.ofNat 32 (b - a))).ub = BitVec.ofNat 32 (znb t a b w) := by
  have e := zend_word h (i 0).val (i 1).val hw v13 v16 h17
  show Scalar.addi 0#32 (Scalar.muli (Scalar.divsi (Scalar.subi (Scalar.shrsi (Scalar.maxsi (Scalar.subi (Scalar.subi 65536#32 (BitVec.ofNat 32 (b - a)))
    (Scalar.minsi (Scalar.andi (Scalar.subi 8#32 (Scalar.andi (Scalar.subi
      (Scalar.subi (Scalar.addi (Scalar.addi (Scalar.addi v13 v16) (Scalar.muli (Scalar.addi (Scalar.muli (BitVec.ofNat 32 (i 1).val) 2#32) (BitVec.ofNat 32 (i 0).val)) 65536#32)) 65536#32)
      (Scalar.addi (BitVec.ofNat 32 a) (BitVec.ofNat 32 (b - a)))) (Scalar.subi 65536#32 (BitVec.ofNat 32 (b - a)))) 7#32)) 7#32)
      (Scalar.subi 65536#32 (BitVec.ofNat 32 (b - a))))) 0#32) 11#32) 0#32) 1#32) 1#32) = _
  have h1 := h.zlen_le; have h2 := h.zend_le
  have h3 : zhd t a b w ≤ zlen a b := zhd_le
  rw [e, zlen_word h, zst_word h, head_word (by omega) (by omega), show headOf (zst t a w) (zlen a b) = zhd t a b w from rfl,
    Scalar.muli_divsi_one, max0_ofNat (by omega) (by omega)]
  rw [show Scalar.shrsi (BitVec.ofNat 32 (zlen a b - zhd t a b w)) 11#32 = BitVec.ofNat 32 (znb t a b w) from shr_ofNat _ 11 (by omega) (by omega)]
  show 0#32 + (BitVec.ofNat 32 (znb t a b w) - 0#32) = _
  simp

theorem znb_le (h : Piece t a b w) : znb t a b w ≤ 32 := by have := h.zlen_le; unfold znb; omega

theorem t9_trips (h : Piece t a b w) (hw : w = 2 * (i 1).val + (i 0).val) (v13 v16 : BitVec 32) (h17 : Scalar.addi v13 v16 = BitVec.ofNat 32 t) :
    (k1_t9_loop i v13 v16 (BitVec.ofNat 32 a) (BitVec.ofNat 32 (b - a))).trips = znb t a b w := by
  show Scf.trips 0#32 (k1_t9_loop i v13 v16 (BitVec.ofNat 32 a) (BitVec.ofNat 32 (b - a))).ub 1#32 = _
  rw [znb_word i h hw v13 v16 h17]
  exact trips_ofNat (by have := znb_le h; omega)

theorem t13_trips (h : Piece t a b w) (hw : w = 2 * (i 1).val + (i 0).val) (v13 v16 : BitVec 32) (h17 : Scalar.addi v13 v16 = BitVec.ofNat 32 t) :
    (k1_t13_loop i v13 v16 (BitVec.ofNat 32 a) (BitVec.ofNat 32 (b - a))).trips = znb t a b w := t9_trips i h hw v13 v16 h17

theorem chk52_ok (h : Piece t a b w) (hw : w = 2 * (i 1).val + (i 0).val) (v13 v16 : BitVec 32) (h17 : Scalar.addi v13 v16 = BitVec.ofNat 32 t) :
    k1_chk52 i v13 v16 (BitVec.ofNat 32 a) (BitVec.ofNat 32 (b - a)) := by
  have h9 : Scf.OK 0#32 (k1_t9_loop i v13 v16 (BitVec.ofNat 32 a) (BitVec.ofNat 32 (b - a))).ub 1#32 := by
    rw [znb_word i h hw v13 v16 h17]; exact ok_ofNat (by have := znb_le h; omega)
  exact ⟨h9, Scf.rem_ok _ _, h9, Scf.rem_ok _ _⟩

theorem t10_trips {x y z u : BitVec 32} : (k1_t10_loop i x y z u).trips = 0 := Scf.rem_trips _ _
theorem t14_trips {x y z u : BitVec 32} : (k1_t14_loop i x y z u).trips = 0 := Scf.rem_trips _ _

theorem off23_eq {f : ℕ} (hf : f < 2 ^ 32) : k1_off23 (BitVec.ofNat 32 f) = ![f] := by
  show ![(BitVec.ofNat 32 f).toNat] = _
  rw [toNat_small hf]
theorem off24_eq {f : ℕ} (hf : 3 * f < 2 ^ 32) : k1_off24 (BitVec.ofNat 32 f) = ![3 * f] := by
  show ![(Scalar.muli (BitVec.ofNat 32 f) 3#32).toNat] = _
  rw [mul3_ofNat, toNat_small hf]

theorem chk53_ok {f : ℕ} (h8 : 8 ∣ f) (hf : f + 2048 ≤ 2097152) : k1_chk53 (BitVec.ofNat 32 f) := by
  unfold k1_chk53
  rw [off23_eq (by omega), off24_eq (by omega), show k1_mult11 (BitVec.ofNat 32 f) = BitVec.ofNat 32 f from rfl,
    show k1_mult12 (BitVec.ofNat 32 f) = BitVec.ofNat 32 (3 * f) from mul3_ofNat f, toNat_small (by omega), toNat_small (by omega)]
  refine ⟨h8, fun x => ?_, by omega, fun x => ?_⟩
  · rw [Subsingleton.elim x 0]; show f + 2048 ≤ 2097152; omega
  · rw [Subsingleton.elim x 0]; show 3 * f + 6144 ≤ 6291456; omega
theorem chk89_ok {f : ℕ} (h8 : 8 ∣ f) (hf : f + 2048 ≤ 2097152) : k1_chk89 (BitVec.ofNat 32 f) := chk53_ok h8 hf

variable (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

/-- What one copy of a block of zero rows credits its counter with. -/
def creO : ℕ := (arg9.slice (Rect.unit (s := S2097152) ![0] S2048.size (by decide)) (fun _ => rfl)).view.amount (.dma arg23.sem)
def creX : ℕ := (arg8.slice (Rect.unit (s := S6291456) ![0] S6144.size (by decide)) (fun _ => rfl)).view.amount (.dma arg24.sem)

/-- The two runs of fills, `j` blocks issued. -/
def fills (d : Dev nD) (fl : ℕ → F .f32) (zs ze f n : ℕ) (W W' : Set ℕ) (j : ℕ) : sProp (MM F) :=
  iprop(fillInv (F := F) (e := .i32) (thr d i) arg17 arg9 arg23.sem (creO arg9 arg23) 2048 f n (Set.Ico zs ze) W (fun _ => 0#32) (fun _ => 0#32) j
    ∗ fillInv (F := F) (e := .f32) (thr d i) arg18 arg8 arg24.sem (creX arg8 arg24) 6144 (3 * f) n (Set.Ico (3 * zs) (3 * ze)) W' (fun m => fl (m % 3)) (fun m => fl (m % 3)) j)

/-- One block of each issued. -/
theorem t9_body {fl : ℕ → F .f32} {zs ze f n : ℕ} {W W' : Set ℕ} (h8 : 8 ∣ f) (hz : zs ≤ f) (hn : f + 2048 * n ≤ ze) (he : ze ≤ 2097152)
    (v13 v16 v31 v36 v37 v57 v58 v61 : BitVec 32) (h52 : k1_chk52 i v13 v16 v31 v36) (h55 : k1_chk55 v31 v36 v57)
    (k : Fin (k1_t9_loop i v13 v16 v31 v36).trips) (hk : k.val < n) {Q : BitVec 32 → sProp (MM F)} :
    (fills i arg8 arg9 arg17 arg18 arg23 arg24 d fl zs ze f n W W' k.val : sProp (MM F))
      ⊢ iprop((fills i arg8 arg9 arg17 arg18 arg23 arg24 d fl zs ze f n W W' (k.val + 1) -∗ Q (BitVec.ofNat 32 (f + 2048 * (k.val + 1))))
        -∗ wp frame (wpE (defs₀ (F := F)) 𝒱₀ (thr d i) none) Set.univ
          (k1_t9_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 h52 v37 v57 h55 v58 v61 k (BitVec.ofNat 32 (f + 2048 * k.val))) Q) := by
  have hkn : 2048 * (k.val + 1) ≤ 2048 * n := Nat.mul_le_mul_left _ hk
  unfold fills
  iintro ⟨HO, HX⟩ Hk
  unfold k1_t9_body
  have c := chk53_ok (f := f + 2048 * k.val) (by omega) (by omega)
  iapply (assume_ok (c := thr d i) c)
  iapply (fill_step (c := thr d i) (src := arg17) (dst := arg9) (B := 2048) (s := f) (n := n) (j := k.val) (Z := Set.Ico zs ze) (W := W) (G₀ := fun _ => 0#32) (V := fun _ => 0#32) (N := creO arg9 arg23) rfl (by rw [off23_eq (by omega)]; rfl) hk
    (fun p h1 h2 => ⟨by omega, by omega⟩) (fun _ _ => rfl) (by exact rfl)) $$ HO
  iintro HO
  iapply (fill_step (c := thr d i) (src := arg18) (dst := arg8) (B := 6144) (s := 3 * f) (n := n) (j := k.val) (Z := Set.Ico (3 * zs) (3 * ze)) (W := W') (G₀ := fun m => fl (m % 3)) (V := fun m => fl (m % 3)) (N := creX arg8 arg24) rfl (by rw [off24_eq (by omega)]; show 3 * (f + 2048 * k.val) = _; omega) hk
    (fun p h1 h2 => ⟨by omega, by omega⟩) (fun m _ => congrArg fl (by omega)) (by exact rfl)) $$ HX
  iintro HX
  rw [wp_pure]
  rw [show (2048#32 : BitVec 32) = BitVec.ofNat 32 2048 from rfl, add_ofNat, show f + 2048 * k.val + 2048 = f + 2048 * (k.val + 1) by omega]
  imodintro
  iapply Hk
  isplitl [HO]; · iexact HO
  iexact HX

/-- Every block issued. -/
theorem fill_loop {fl : ℕ → F .f32} {zs ze f n : ℕ} {W W' : Set ℕ} (h8 : 0 < n → 8 ∣ f) (hz : zs ≤ f) (hn : f + 2048 * n ≤ ze) (he : ze ≤ 2097152)
    (v13 v16 v31 v36 v37 v57 v58 v61 : BitVec 32) (h52 : k1_chk52 i v13 v16 v31 v36) (h55 : k1_chk55 v31 v36 v57)
    (htr : (k1_t9_loop i v13 v16 v31 v36).trips = n) {α : Type} {body} {kk : BitVec 32 → Prog (TpuEff nD τ sig (Elt F) Λ₀ (thr d i).2) α} {Q : α → sProp (MM F)} :
    (fills i arg8 arg9 arg17 arg18 arg23 arg24 d fl zs ze f n W W' 0 : sProp (MM F))
      ⊢ iprop((fills i arg8 arg9 arg17 arg18 arg23 arg24 d fl zs ze f n W W' n
          -∗ wp frame (wpE (defs₀ (F := F)) 𝒱₀ (thr d i) none) Set.univ (kk (BitVec.ofNat 32 (f + 2048 * n))) Q)
        -∗ wp frame (wpE (defs₀ (F := F)) 𝒱₀ (thr d i) none) Set.univ
          (Scf.Loop.for (k1_t9_loop i v13 v16 v31 v36) (k1_t9_ok i v13 v16 v31 v36 h52) (BitVec.ofNat 32 f) (k1_t9_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 h52 v37 v57 h55 v58 v61)
            >>= fun v76 => Scf.Loop.for (k1_t10_loop i v13 v16 v31 v36) (k1_t10_ok i v13 v16 v31 v36 h52) v76 body >>= kk) Q) := by
  iintro H Hk
  iapply (Scf.wp_for_bind frame (wpE (defs₀ (F := F)) 𝒱₀ (thr d i) none) Set.univ _ _ _ (k1_t9_ok i v13 v16 v31 v36 h52) (BitVec.ofNat 32 f) _
    (fun j acc => iprop(fills i arg8 arg9 arg17 arg18 arg23 arg24 d fl zs ze f n W W' j ∗ ⌜acc = BitVec.ofNat 32 (f + 2048 * j)⌝))
    (fun k acc => by
      have hk : k.val < n := htr ▸ k.isLt
      iintro ⟨H, %hacc⟩
      subst hacc
      iapply (t9_body i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 (h8 (by omega)) hz hn he v13 v16 v31 v36 v37 v57 v58 v61 h52 h55 k hk) $$ H
      iintro H
      isplitl [H]; · iexact H
      ipureintro; rfl)) $$ [H]
  · isplitl [H]; · iexact H
    ipureintro; rfl
  iintro %v76 ⟨H, %hv⟩
  subst hv
  rw [show Scf.trips (k1_t9_loop i v13 v16 v31 v36).lb (k1_t9_loop i v13 v16 v31 v36).ub (k1_t9_loop i v13 v16 v31 v36).st = n from htr]
  rw [show (Scf.Loop.for (k1_t10_loop i v13 v16 v31 v36) (k1_t10_ok i v13 v16 v31 v36 h52) (BitVec.ofNat 32 (f + 2048 * n)) body) = .ret (BitVec.ofNat 32 (f + 2048 * n)) from
    Scf.for_eq_ret _ _ _ _ _ _ (t10_trips i)]
  iapply Hk
  iexact H

/-- What is held while the blocks are waited for. -/
def drains (d : Dev nD) (fl : ℕ → F .f32) (f n : ℕ) (O : CellTallies nD τ sig (HIx 2)) (W₀ : Waits sig (HIx 2)) (j : ℕ) : sProp (MM F) :=
  iprop(drainInv (F := F) (e := .i32) (thr d i) arg17 arg9 arg23.sem (creO arg9 arg23) 2048 f n (fun _ => 0#32) (fun _ => 0#32) j
    ∗ drainInv (F := F) (e := .f32) (thr d i) arg18 arg8 arg24.sem (creX arg8 arg24) 6144 (3 * f) n (fun m => fl (m % 3)) (fun m => fl (m % 3)) j
    ∗ tick (thr d i) default O W₀)

/-- One block of each waited for. -/
theorem t13_body {fl : ℕ → F .f32} {f n : ℕ} {O : CellTallies nD τ sig (HIx 2)} {W₀ : Waits sig (HIx 2)} (h8 : 8 ∣ f) (hn : f + 2048 * n ≤ 2097152)
    (v13 v16 v31 v36 : BitVec 32) (h52 : k1_chk52 i v13 v16 v31 v36)
    (k : Fin (k1_t13_loop i v13 v16 v31 v36).trips) (hk : k.val < n) {Q : BitVec 32 → sProp (MM F)} :
    (drains i arg8 arg9 arg17 arg18 arg23 arg24 d fl f n O W₀ k.val : sProp (MM F))
      ⊢ iprop((drains i arg8 arg9 arg17 arg18 arg23 arg24 d fl f n O W₀ (k.val + 1) -∗ Q (BitVec.ofNat 32 (f + 2048 * (k.val + 1))))
        -∗ wp frame (wpE (defs₀ (F := F)) 𝒱₀ (thr d i) none) Set.univ
          (k1_t13_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 h52 k (BitVec.ofNat 32 (f + 2048 * k.val))) Q) := by
  have hkn : 2048 * (k.val + 1) ≤ 2048 * n := Nat.mul_le_mul_left _ hk
  unfold drains
  iintro ⟨HO, HX, Ht⟩ Hk
  unfold k1_t13_body
  have c := chk89_ok (f := f + 2048 * k.val) (by omega) (by omega)
  iapply (assume_ok (c := thr d i) c)
  iapply (drain_step (c := thr d i) (src := arg17) (dst := arg9) (B := 2048) (s := f) (n := n) (j := k.val) (G₀ := fun _ => 0#32) (V := fun _ => 0#32) (N := creO arg9 arg23) hk (by exact rfl)) $$ [HO Ht]
  · isplitl [HO]; · iexact HO
    iexact Ht
  iintro ⟨HO, Ht⟩
  iapply (drain_step (c := thr d i) (src := arg18) (dst := arg8) (B := 6144) (s := 3 * f) (n := n) (j := k.val) (G₀ := fun m => fl (m % 3)) (V := fun m => fl (m % 3)) (N := creX arg8 arg24) hk (by exact rfl)) $$ [HX Ht]
  · isplitl [HX]; · iexact HX
    iexact Ht
  iintro ⟨HX, Ht⟩
  rw [wp_pure]
  rw [show (2048#32 : BitVec 32) = BitVec.ofNat 32 2048 from rfl, add_ofNat, show f + 2048 * k.val + 2048 = f + 2048 * (k.val + 1) by omega]
  imodintro
  iapply Hk
  isplitl [HO]; · iexact HO
  isplitl [HX]; · iexact HX
  iexact Ht

/-- Every block waited for. -/
theorem drain_loop {fl : ℕ → F .f32} {f n : ℕ} {O : CellTallies nD τ sig (HIx 2)} {W₀ : Waits sig (HIx 2)} (h8 : 0 < n → 8 ∣ f) (hn : f + 2048 * n ≤ 2097152)
    (v13 v16 v31 v36 : BitVec 32) (h52 : k1_chk52 i v13 v16 v31 v36)
    (htr : (k1_t13_loop i v13 v16 v31 v36).trips = n) {α : Type} {body} {kk : BitVec 32 → Prog (TpuEff nD τ sig (Elt F) Λ₀ (thr d i).2) α} {Q : α → sProp (MM F)} :
    (drains i arg8 arg9 arg17 arg18 arg23 arg24 d fl f n O W₀ 0 : sProp (MM F))
      ⊢ iprop((drains i arg8 arg9 arg17 arg18 arg23 arg24 d fl f n O W₀ n
          -∗ wp frame (wpE (defs₀ (F := F)) 𝒱₀ (thr d i) none) Set.univ (kk (BitVec.ofNat 32 (f + 2048 * n))) Q)
        -∗ wp frame (wpE (defs₀ (F := F)) 𝒱₀ (thr d i) none) Set.univ
          (Scf.Loop.for (k1_t13_loop i v13 v16 v31 v36) (k1_t13_ok i v13 v16 v31 v36 h52) (BitVec.ofNat 32 f) (k1_t13_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 h52)
            >>= fun v221 => Scf.Loop.for (k1_t14_loop i v13 v16 v31 v36) (k1_t14_ok i v13 v16 v31 v36 h52) v221 body >>= kk) Q) := by
  iintro H Hk
  iapply (Scf.wp_for_bind frame (wpE (defs₀ (F := F)) 𝒱₀ (thr d i) none) Set.univ _ _ _ (k1_t13_ok i v13 v16 v31 v36 h52) (BitVec.ofNat 32 f) _
    (fun j acc => iprop(drains i arg8 arg9 arg17 arg18 arg23 arg24 d fl f n O W₀ j ∗ ⌜acc = BitVec.ofNat 32 (f + 2048 * j)⌝))
    (fun k acc => by
      have hk : k.val < n := htr ▸ k.isLt
      iintro ⟨H, %hacc⟩
      subst hacc
      iapply (t13_body i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 (h8 (by omega)) hn v13 v16 v31 v36 h52 k hk) $$ H
      iintro H
      isplitl [H]; · iexact H
      ipureintro; rfl)) $$ [H]
  · isplitl [H]; · iexact H
    ipureintro; rfl
  iintro %v221 ⟨H, %hv⟩
  subst hv
  rw [show Scf.trips (k1_t13_loop i v13 v16 v31 v36).lb (k1_t13_loop i v13 v16 v31 v36).ub (k1_t13_loop i v13 v16 v31 v36).st = n from htr]
  rw [show (Scf.Loop.for (k1_t14_loop i v13 v16 v31 v36) (k1_t14_ok i v13 v16 v31 v36 h52) (BitVec.ofNat 32 (f + 2048 * n)) body) = .ret (BitVec.ofNat 32 (f + 2048 * n)) from
    Scf.for_eq_ret _ _ _ _ _ _ (t14_trips i)]
  iapply Hk
  iexact H

end Cert.Proof.Vox
-- ==== Proof.Tail2.lean ====
/-
  The positions of the last blocks, as the kernel computes them, and what it asks of them.
-/
module

public import proofs.«01_k».proof.Proof.Tail
public import proofs.«01_k».proof.Proof.Main3

@[expose] public section

set_option maxRecDepth 65536

noncomputable section

namespace Cert.Proof.Vox

open Cert.KernelIdeal Cert.KernelIdeal.Gen
open Idealize.ShloMosaic

/-- Where the rows stand after the first `n` digits. -/
def tf (b f : ℕ) : ℕ → ℕ
  | 0 => f
  | n + 1 => adv b (2 ^ (10 - n)) (tf b f n)

/-- The same in words. -/
def tw (e f : BitVec 32) : ℕ → BitVec 32
  | 0 => f
  | n + 1 => nx (BitVec.ofNat 32 (2 ^ (10 - n))) e (tw e f n)

variable {b f : ℕ}

theorem tf_TI (h : TI b 2048 f) : ∀ n, n ≤ 7 → TI b (2 * 2 ^ (10 - n)) (tf b f n)
  | 0, _ => h
  | n + 1, hn => by
      have h1 := (tf_TI h n (by omega)).adv (Dvd.dvd.trans (by decide : 8 ∣ 2 ^ 3) (Nat.pow_dvd_pow 2 (by omega)))
      have e : 2 ^ (10 - n) = 2 * 2 ^ (10 - (n + 1)) := by
        rw [show 10 - n = (10 - (n + 1)) + 1 by omega, Nat.pow_succ, Nat.mul_comm]
      rw [← e]; exact h1

theorem tf_end (h : TI b 2048 f) : TI b 8 (tf b f 8) := (tf_TI h 7 (by omega)).adv (by decide)

theorem tf_le (b f : ℕ) : ∀ n, f ≤ tf b f n
  | 0 => Nat.le_refl _
  | n + 1 => (tf_le b f n).trans le_adv

theorem tw_ofNat (h : TI b 2048 f) : ∀ n, n ≤ 8 → tw (BitVec.ofNat 32 b) (BitVec.ofNat 32 f) n = BitVec.ofNat 32 (tf b f n)
  | 0, _ => rfl
  | n + 1, hn => by
      show nx _ _ (tw _ _ n) = _
      rw [tw_ofNat h n (by omega), nx_ofNat (tf_TI h n (by omega)) (by omega)]; rfl

theorem tw_cw (h : TI b 2048 f) (n : ℕ) (hn : n ≤ 7) :
    cw (BitVec.ofNat 32 (2 ^ (10 - n))) (BitVec.ofNat 32 b) (tw (BitVec.ofNat 32 b) (BitVec.ofNat 32 f) n) = 1#1 ↔ 2 ^ (10 - n) ≤ b - tf b f n := by
  rw [tw_ofNat h n (by omega)]
  exact cw_iff (tf_TI h n hn) (by omega)

/-- What is asked of a block of the ring. -/
theorem ring_ok {B f : ℕ} (h8 : 8 ∣ f) (hB : B ≤ 1024) (hf : f + B ≤ 2097152) (x : BitVec 32) (hx : x = BitVec.ofNat 32 f) :
    8 ∣ (Scalar.andi x 8191#32).toNat ∧ 8 ∣ x.toNat ∧ ((Scalar.andi x 8191#32).toNat + B ≤ 10240) ∧ (x.toNat + B ≤ 2097152)
      ∧ 8 ∣ (Scalar.muli (Scalar.andi x 8191#32) 3#32).toNat ∧ 8 ∣ (Scalar.muli x 3#32).toNat
      ∧ ((Scalar.muli (Scalar.andi x 8191#32) 3#32).toNat + 3 * B ≤ 30720) ∧ ((Scalar.muli x 3#32).toNat + 3 * B ≤ 6291456) := by
  subst hx
  rw [and_ofNat f (by omega), mul3_ofNat, mul3_ofNat, toNat_small (by omega), toNat_small (by omega), toNat_small (by omega), toNat_small (by omega)]
  have := Nat.mod_lt f (show 0 < 8192 by decide)
  refine ⟨by omega, by omega, by omega, by omega, by omega, by omega, by omega, by omega⟩

theorem one_ax {o z B : ℕ} (h : o + z ≤ B) (a : Fin 1) : (![o] : Fin 1 → ℕ) a + (![z] : Fin 1 → ℕ) a ≤ (![B] : Fin 1 → ℕ) a := by
  rw [Subsingleton.elim a 0]; exact h

theorem cond6_eq (v31 v36 f : BitVec 32) : k1_cond6 v31 v36 f = cw (BitVec.ofNat 32 (2 ^ (10 - 0))) (Scalar.addi v31 v36) (tw (Scalar.addi v31 v36) f 0) := rfl
theorem off31_eq (v31 v36 f : BitVec 32) : k1_off31 f = ![(Scalar.andi (tw (Scalar.addi v31 v36) f 0) 8191#32).toNat] := rfl
theorem off32_eq (v31 v36 f : BitVec 32) : k1_off32 f = ![(tw (Scalar.addi v31 v36) f 0).toNat] := rfl
theorem off33_eq (v31 v36 f : BitVec 32) : k1_off33 f = ![(Scalar.muli (Scalar.andi (tw (Scalar.addi v31 v36) f 0) 8191#32) 3#32).toNat] := rfl
theorem off34_eq (v31 v36 f : BitVec 32) : k1_off34 f = ![(Scalar.muli (tw (Scalar.addi v31 v36) f 0) 3#32).toNat] := rfl
theorem cond7_eq (v31 v36 f : BitVec 32) : k1_cond7 v31 v36 f = cw (BitVec.ofNat 32 (2 ^ (10 - 1))) (Scalar.addi v31 v36) (tw (Scalar.addi v31 v36) f 1) := rfl
theorem off35_eq (v31 v36 f : BitVec 32) : k1_off35 v31 v36 f = ![(Scalar.andi (tw (Scalar.addi v31 v36) f 1) 8191#32).toNat] := rfl
theorem off36_eq (v31 v36 f : BitVec 32) : k1_off36 v31 v36 f = ![(tw (Scalar.addi v31 v36) f 1).toNat] := rfl
theorem off37_eq (v31 v36 f : BitVec 32) : k1_off37 v31 v36 f = ![(Scalar.muli (Scalar.andi (tw (Scalar.addi v31 v36) f 1) 8191#32) 3#32).toNat] := rfl
theorem off38_eq (v31 v36 f : BitVec 32) : k1_off38 v31 v36 f = ![(Scalar.muli (tw (Scalar.addi v31 v36) f 1) 3#32).toNat] := rfl
theorem cond8_eq (v31 v36 f : BitVec 32) : k1_cond8 v31 v36 f = cw (BitVec.ofNat 32 (2 ^ (10 - 2))) (Scalar.addi v31 v36) (tw (Scalar.addi v31 v36) f 2) := rfl
theorem off39_eq (v31 v36 f : BitVec 32) : k1_off39 v31 v36 f = ![(Scalar.andi (tw (Scalar.addi v31 v36) f 2) 8191#32).toNat] := rfl
theorem off40_eq (v31 v36 f : BitVec 32) : k1_off40 v31 v36 f = ![(tw (Scalar.addi v31 v36) f 2).toNat] := rfl
theorem off41_eq (v31 v36 f : BitVec 32) : k1_off41 v31 v36 f = ![(Scalar.muli (Scalar.andi (tw (Scalar.addi v31 v36) f 2) 8191#32) 3#32).toNat] := rfl
theorem off42_eq (v31 v36 f : BitVec 32) : k1_off42 v31 v36 f = ![(Scalar.muli (tw (Scalar.addi v31 v36) f 2) 3#32).toNat] := rfl
theorem cond9_eq (v31 v36 f : BitVec 32) : k1_cond9 v31 v36 f = cw (BitVec.ofNat 32 (2 ^ (10 - 3))) (Scalar.addi v31 v36) (tw (Scalar.addi v31 v36) f 3) := rfl
theorem off43_eq (v31 v36 f : BitVec 32) : k1_off43 v31 v36 f = ![(Scalar.andi (tw (Scalar.addi v31 v36) f 3) 8191#32).toNat] := rfl
theorem off44_eq (v31 v36 f : BitVec 32) : k1_off44 v31 v36 f = ![(tw (Scalar.addi v31 v36) f 3).toNat] := rfl
theorem off45_eq (v31 v36 f : BitVec 32) : k1_off45 v31 v36 f = ![(Scalar.muli (Scalar.andi (tw (Scalar.addi v31 v36) f 3) 8191#32) 3#32).toNat] := rfl
theorem off46_eq (v31 v36 f : BitVec 32) : k1_off46 v31 v36 f = ![(Scalar.muli (tw (Scalar.addi v31 v36) f 3) 3#32).toNat] := rfl
theorem cond10_eq (v31 v36 f : BitVec 32) : k1_cond10 v31 v36 f = cw (BitVec.ofNat 32 (2 ^ (10 - 4))) (Scalar.addi v31 v36) (tw (Scalar.addi v31 v36) f 4) := rfl
theorem off47_eq (v31 v36 f : BitVec 32) : k1_off47 v31 v36 f = ![(Scalar.andi (tw (Scalar.addi v31 v36) f 4) 8191#32).toNat] := rfl
theorem off48_eq (v31 v36 f : BitVec 32) : k1_off48 v31 v36 f = ![(tw (Scalar.addi v31 v36) f 4).toNat] := rfl
theorem off49_eq (v31 v36 f : BitVec 32) : k1_off49 v31 v36 f = ![(Scalar.muli (Scalar.andi (tw (Scalar.addi v31 v36) f 4) 8191#32) 3#32).toNat] := rfl
theorem off50_eq (v31 v36 f : BitVec 32) : k1_off50 v31 v36 f = ![(Scalar.muli (tw (Scalar.addi v31 v36) f 4) 3#32).toNat] := rfl
theorem cond11_eq (v31 v36 f : BitVec 32) : k1_cond11 v31 v36 f = cw (BitVec.ofNat 32 (2 ^ (10 - 5))) (Scalar.addi v31 v36) (tw (Scalar.addi v31 v36) f 5) := rfl
theorem off51_eq (v31 v36 f : BitVec 32) : k1_off51 v31 v36 f = ![(Scalar.andi (tw (Scalar.addi v31 v36) f 5) 8191#32).toNat] := rfl
theorem off52_eq (v31 v36 f : BitVec 32) : k1_off52 v31 v36 f = ![(tw (Scalar.addi v31 v36) f 5).toNat] := rfl
theorem off53_eq (v31 v36 f : BitVec 32) : k1_off53 v31 v36 f = ![(Scalar.muli (Scalar.andi (tw (Scalar.addi v31 v36) f 5) 8191#32) 3#32).toNat] := rfl
theorem off54_eq (v31 v36 f : BitVec 32) : k1_off54 v31 v36 f = ![(Scalar.muli (tw (Scalar.addi v31 v36) f 5) 3#32).toNat] := rfl
theorem cond12_eq (v31 v36 f : BitVec 32) : k1_cond12 v31 v36 f = cw (BitVec.ofNat 32 (2 ^ (10 - 6))) (Scalar.addi v31 v36) (tw (Scalar.addi v31 v36) f 6) := rfl
theorem off55_eq (v31 v36 f : BitVec 32) : k1_off55 v31 v36 f = ![(Scalar.andi (tw (Scalar.addi v31 v36) f 6) 8191#32).toNat] := rfl
theorem off56_eq (v31 v36 f : BitVec 32) : k1_off56 v31 v36 f = ![(tw (Scalar.addi v31 v36) f 6).toNat] := rfl
theorem off57_eq (v31 v36 f : BitVec 32) : k1_off57 v31 v36 f = ![(Scalar.muli (Scalar.andi (tw (Scalar.addi v31 v36) f 6) 8191#32) 3#32).toNat] := rfl
theorem off58_eq (v31 v36 f : BitVec 32) : k1_off58 v31 v36 f = ![(Scalar.muli (tw (Scalar.addi v31 v36) f 6) 3#32).toNat] := rfl
theorem cond13_eq (v31 v36 f : BitVec 32) : k1_cond13 v31 v36 f = cw (BitVec.ofNat 32 (2 ^ (10 - 7))) (Scalar.addi v31 v36) (tw (Scalar.addi v31 v36) f 7) := rfl
theorem off59_eq (v31 v36 f : BitVec 32) : k1_off59 v31 v36 f = ![(Scalar.andi (tw (Scalar.addi v31 v36) f 7) 8191#32).toNat] := rfl
theorem off60_eq (v31 v36 f : BitVec 32) : k1_off60 v31 v36 f = ![(tw (Scalar.addi v31 v36) f 7).toNat] := rfl
theorem off61_eq (v31 v36 f : BitVec 32) : k1_off61 v31 v36 f = ![(Scalar.muli (Scalar.andi (tw (Scalar.addi v31 v36) f 7) 8191#32) 3#32).toNat] := rfl
theorem off62_eq (v31 v36 f : BitVec 32) : k1_off62 v31 v36 f = ![(Scalar.muli (tw (Scalar.addi v31 v36) f 7) 3#32).toNat] := rfl

/-- Every block of the ring is where it may be copied from and to. -/
theorem chk55_ok (h : TI b 2048 f) (hb : b ≤ 2097152) (v31 v36 : BitVec 32) (he : Scalar.addi v31 v36 = BitVec.ofNat 32 b) : k1_chk55 v31 v36 (BitVec.ofNat 32 f) := by
  have X0 : k1_cond6 v31 v36 (BitVec.ofNat 32 f) = 1#1 → _ := fun hc => ring_ok (B := 1024) (f := tf b f 0) (by
      rw [cond6_eq, he, tw_cw h 0 (by omega)] at hc
      have := (tf_TI h 0 (by omega)).al
      omega) (by omega) (by
      rw [cond6_eq, he, tw_cw h 0 (by omega)] at hc
      omega) (tw (Scalar.addi v31 v36) (BitVec.ofNat 32 f) 0) (by rw [he]; exact tw_ofNat h 0 (by omega))
  have X1 : k1_cond7 v31 v36 (BitVec.ofNat 32 f) = 1#1 → _ := fun hc => ring_ok (B := 512) (f := tf b f 1) (by
      rw [cond7_eq, he, tw_cw h 1 (by omega)] at hc
      have := (tf_TI h 1 (by omega)).al
      omega) (by omega) (by
      rw [cond7_eq, he, tw_cw h 1 (by omega)] at hc
      omega) (tw (Scalar.addi v31 v36) (BitVec.ofNat 32 f) 1) (by rw [he]; exact tw_ofNat h 1 (by omega))
  have X2 : k1_cond8 v31 v36 (BitVec.ofNat 32 f) = 1#1 → _ := fun hc => ring_ok (B := 256) (f := tf b f 2) (by
      rw [cond8_eq, he, tw_cw h 2 (by omega)] at hc
      have := (tf_TI h 2 (by omega)).al
      omega) (by omega) (by
      rw [cond8_eq, he, tw_cw h 2 (by omega)] at hc
      omega) (tw (Scalar.addi v31 v36) (BitVec.ofNat 32 f) 2) (by rw [he]; exact tw_ofNat h 2 (by omega))
  have X3 : k1_cond9 v31 v36 (BitVec.ofNat 32 f) = 1#1 → _ := fun hc => ring_ok (B := 128) (f := tf b f 3) (by
      rw [cond9_eq, he, tw_cw h 3 (by omega)] at hc
      have := (tf_TI h 3 (by omega)).al
      omega) (by omega) (by
      rw [cond9_eq, he, tw_cw h 3 (by omega)] at hc
      omega) (tw (Scalar.addi v31 v36) (BitVec.ofNat 32 f) 3) (by rw [he]; exact tw_ofNat h 3 (by omega))
  have X4 : k1_cond10 v31 v36 (BitVec.ofNat 32 f) = 1#1 → _ := fun hc => ring_ok (B := 64) (f := tf b f 4) (by
      rw [cond10_eq, he, tw_cw h 4 (by omega)] at hc
      have := (tf_TI h 4 (by omega)).al
      omega) (by omega) (by
      rw [cond10_eq, he, tw_cw h 4 (by omega)] at hc
      omega) (tw (Scalar.addi v31 v36) (BitVec.ofNat 32 f) 4) (by rw [he]; exact tw_ofNat h 4 (by omega))
  have X5 : k1_cond11 v31 v36 (BitVec.ofNat 32 f) = 1#1 → _ := fun hc => ring_ok (B := 32) (f := tf b f 5) (by
      rw [cond11_eq, he, tw_cw h 5 (by omega)] at hc
      have := (tf_TI h 5 (by omega)).al
      omega) (by omega) (by
      rw [cond11_eq, he, tw_cw h 5 (by omega)] at hc
      omega) (tw (Scalar.addi v31 v36) (BitVec.ofNat 32 f) 5) (by rw [he]; exact tw_ofNat h 5 (by omega))
  have X6 : k1_cond12 v31 v36 (BitVec.ofNat 32 f) = 1#1 → _ := fun hc => ring_ok (B := 16) (f := tf b f 6) (by
      rw [cond12_eq, he, tw_cw h 6 (by omega)] at hc
      have := (tf_TI h 6 (by omega)).al
      omega) (by omega) (by
      rw [cond12_eq, he, tw_cw h 6 (by omega)] at hc
      omega) (tw (Scalar.addi v31 v36) (BitVec.ofNat 32 f) 6) (by rw [he]; exact tw_ofNat h 6 (by omega))
  have X7 : k1_cond13 v31 v36 (BitVec.ofNat 32 f) = 1#1 → _ := fun hc => ring_ok (B := 8) (f := tf b f 7) (by
      rw [cond13_eq, he, tw_cw h 7 (by omega)] at hc
      have := (tf_TI h 7 (by omega)).al
      omega) (by omega) (by
      rw [cond13_eq, he, tw_cw h 7 (by omega)] at hc
      omega) (tw (Scalar.addi v31 v36) (BitVec.ofNat 32 f) 7) (by rw [he]; exact tw_ofNat h 7 (by omega))
  exact ⟨⟨fun h => (X0 h).1, fun h => (X0 h).2.1, fun h a => one_ax ((X0 h).2.2.1) a, fun h a => one_ax ((X0 h).2.2.2.1) a, fun h => (X0 h).2.2.2.2.1, fun h => (X0 h).2.2.2.2.2.1, fun h a => one_ax ((X0 h).2.2.2.2.2.2.1) a, fun h a => one_ax ((X0 h).2.2.2.2.2.2.2) a, fun h => (X1 h).1, fun h => (X1 h).2.1, fun h a => one_ax ((X1 h).2.2.1) a, fun h a => one_ax ((X1 h).2.2.2.1) a, fun h => (X1 h).2.2.2.2.1, fun h => (X1 h).2.2.2.2.2.1, fun h a => one_ax ((X1 h).2.2.2.2.2.2.1) a, fun h a => one_ax ((X1 h).2.2.2.2.2.2.2) a, fun h => (X2 h).1, fun h => (X2 h).2.1, fun h a => one_ax ((X2 h).2.2.1) a, fun h a => one_ax ((X2 h).2.2.2.1) a, fun h => (X2 h).2.2.2.2.1, fun h => (X2 h).2.2.2.2.2.1, fun h a => one_ax ((X2 h).2.2.2.2.2.2.1) a, fun h a => one_ax ((X2 h).2.2.2.2.2.2.2) a, fun h => (X3 h).1, fun h => (X3 h).2.1, fun h a => one_ax ((X3 h).2.2.1) a, fun h a => one_ax ((X3 h).2.2.2.1) a, fun h => (X3 h).2.2.2.2.1, fun h => (X3 h).2.2.2.2.2.1, fun h a => one_ax ((X3 h).2.2.2.2.2.2.1) a, fun h a => one_ax ((X3 h).2.2.2.2.2.2.2) a⟩,
    ⟨fun h => (X4 h).1, fun h => (X4 h).2.1, fun h a => one_ax ((X4 h).2.2.1) a, fun h a => one_ax ((X4 h).2.2.2.1) a, fun h => (X4 h).2.2.2.2.1, fun h => (X4 h).2.2.2.2.2.1, fun h a => one_ax ((X4 h).2.2.2.2.2.2.1) a, fun h a => one_ax ((X4 h).2.2.2.2.2.2.2) a, fun h => (X5 h).1, fun h => (X5 h).2.1, fun h a => one_ax ((X5 h).2.2.1) a, fun h a => one_ax ((X5 h).2.2.2.1) a, fun h => (X5 h).2.2.2.2.1, fun h => (X5 h).2.2.2.2.2.1, fun h a => one_ax ((X5 h).2.2.2.2.2.2.1) a, fun h a => one_ax ((X5 h).2.2.2.2.2.2.2) a, fun h => (X6 h).1, fun h => (X6 h).2.1, fun h a => one_ax ((X6 h).2.2.1) a, fun h a => one_ax ((X6 h).2.2.2.1) a, fun h => (X6 h).2.2.2.2.1, fun h => (X6 h).2.2.2.2.2.1, fun h a => one_ax ((X6 h).2.2.2.2.2.2.1) a, fun h a => one_ax ((X6 h).2.2.2.2.2.2.2) a, fun h => (X7 h).1, fun h => (X7 h).2.1, fun h a => one_ax ((X7 h).2.2.1) a, fun h a => one_ax ((X7 h).2.2.2.1) a, fun h => (X7 h).2.2.2.2.1, fun h => (X7 h).2.2.2.2.2.1, fun h a => one_ax ((X7 h).2.2.2.2.2.2.1) a, fun h a => one_ax ((X7 h).2.2.2.2.2.2.2) a⟩⟩
/-- The end of the rows to be filled, as the kernel computes it. -/
def zendW (i : grid1.Coords) (v13 v16 v31 v36 : BitVec 32) : BitVec 32 :=
  Scalar.subi (Scalar.addi (Scalar.addi (Scalar.addi v13 v16) (Scalar.muli (Scalar.addi (Scalar.muli (BitVec.ofNat 32 (i 1).val) 2#32) (BitVec.ofNat 32 (i 0).val)) 65536#32)) 65536#32) (Scalar.addi v31 v36)

/-- What is asked of a block of zero rows. -/
theorem zero_ok {B f : ℕ} (h8 : 8 ∣ f) (hf : f + B ≤ 2097152) (x : BitVec 32) (hx : x = BitVec.ofNat 32 f) (hB : 0 < B) :
    8 ∣ x.toNat ∧ (x.toNat + B ≤ 2097152) ∧ 8 ∣ (Scalar.muli x 3#32).toNat ∧ ((Scalar.muli x 3#32).toNat + 3 * B ≤ 6291456) := by
  subst hx
  rw [mul3_ofNat, toNat_small (by omega), toNat_small (by omega)]
  refine ⟨by omega, by omega, by omega, by omega⟩

theorem cond16_eq (i : grid1.Coords) (v13 v16 v31 v36 f : BitVec 32) : k1_cond16 i v13 v16 v31 v36 f = cw (BitVec.ofNat 32 (2 ^ (10 - 0))) (zendW i v13 v16 v31 v36) (tw (zendW i v13 v16 v31 v36) f 0) := rfl
theorem off63_eq (i : grid1.Coords) (v13 v16 v31 v36 f : BitVec 32) : k1_off63 f = ![(tw (zendW i v13 v16 v31 v36) f 0).toNat] := rfl
theorem off64_eq (i : grid1.Coords) (v13 v16 v31 v36 f : BitVec 32) : k1_off64 f = ![(Scalar.muli (tw (zendW i v13 v16 v31 v36) f 0) 3#32).toNat] := rfl
theorem cond17_eq (i : grid1.Coords) (v13 v16 v31 v36 f : BitVec 32) : k1_cond17 i v13 v16 v31 v36 f = cw (BitVec.ofNat 32 (2 ^ (10 - 1))) (zendW i v13 v16 v31 v36) (tw (zendW i v13 v16 v31 v36) f 1) := rfl
theorem off65_eq (i : grid1.Coords) (v13 v16 v31 v36 f : BitVec 32) : k1_off65 i v13 v16 v31 v36 f = ![(tw (zendW i v13 v16 v31 v36) f 1).toNat] := rfl
theorem off66_eq (i : grid1.Coords) (v13 v16 v31 v36 f : BitVec 32) : k1_off66 i v13 v16 v31 v36 f = ![(Scalar.muli (tw (zendW i v13 v16 v31 v36) f 1) 3#32).toNat] := rfl
theorem cond18_eq (i : grid1.Coords) (v13 v16 v31 v36 f : BitVec 32) : k1_cond18 i v13 v16 v31 v36 f = cw (BitVec.ofNat 32 (2 ^ (10 - 2))) (zendW i v13 v16 v31 v36) (tw (zendW i v13 v16 v31 v36) f 2) := rfl
theorem off67_eq (i : grid1.Coords) (v13 v16 v31 v36 f : BitVec 32) : k1_off67 i v13 v16 v31 v36 f = ![(tw (zendW i v13 v16 v31 v36) f 2).toNat] := rfl
theorem off68_eq (i : grid1.Coords) (v13 v16 v31 v36 f : BitVec 32) : k1_off68 i v13 v16 v31 v36 f = ![(Scalar.muli (tw (zendW i v13 v16 v31 v36) f 2) 3#32).toNat] := rfl
theorem cond19_eq (i : grid1.Coords) (v13 v16 v31 v36 f : BitVec 32) : k1_cond19 i v13 v16 v31 v36 f = cw (BitVec.ofNat 32 (2 ^ (10 - 3))) (zendW i v13 v16 v31 v36) (tw (zendW i v13 v16 v31 v36) f 3) := rfl
theorem off69_eq (i : grid1.Coords) (v13 v16 v31 v36 f : BitVec 32) : k1_off69 i v13 v16 v31 v36 f = ![(tw (zendW i v13 v16 v31 v36) f 3).toNat] := rfl
theorem off70_eq (i : grid1.Coords) (v13 v16 v31 v36 f : BitVec 32) : k1_off70 i v13 v16 v31 v36 f = ![(Scalar.muli (tw (zendW i v13 v16 v31 v36) f 3) 3#32).toNat] := rfl
theorem cond20_eq (i : grid1.Coords) (v13 v16 v31 v36 f : BitVec 32) : k1_cond20 i v13 v16 v31 v36 f = cw (BitVec.ofNat 32 (2 ^ (10 - 4))) (zendW i v13 v16 v31 v36) (tw (zendW i v13 v16 v31 v36) f 4) := rfl
theorem off71_eq (i : grid1.Coords) (v13 v16 v31 v36 f : BitVec 32) : k1_off71 i v13 v16 v31 v36 f = ![(tw (zendW i v13 v16 v31 v36) f 4).toNat] := rfl
theorem off72_eq (i : grid1.Coords) (v13 v16 v31 v36 f : BitVec 32) : k1_off72 i v13 v16 v31 v36 f = ![(Scalar.muli (tw (zendW i v13 v16 v31 v36) f 4) 3#32).toNat] := rfl
theorem cond21_eq (i : grid1.Coords) (v13 v16 v31 v36 f : BitVec 32) : k1_cond21 i v13 v16 v31 v36 f = cw (BitVec.ofNat 32 (2 ^ (10 - 5))) (zendW i v13 v16 v31 v36) (tw (zendW i v13 v16 v31 v36) f 5) := rfl
theorem off73_eq (i : grid1.Coords) (v13 v16 v31 v36 f : BitVec 32) : k1_off73 i v13 v16 v31 v36 f = ![(tw (zendW i v13 v16 v31 v36) f 5).toNat] := rfl
theorem off74_eq (i : grid1.Coords) (v13 v16 v31 v36 f : BitVec 32) : k1_off74 i v13 v16 v31 v36 f = ![(Scalar.muli (tw (zendW i v13 v16 v31 v36) f 5) 3#32).toNat] := rfl
theorem cond22_eq (i : grid1.Coords) (v13 v16 v31 v36 f : BitVec 32) : k1_cond22 i v13 v16 v31 v36 f = cw (BitVec.ofNat 32 (2 ^ (10 - 6))) (zendW i v13 v16 v31 v36) (tw (zendW i v13 v16 v31 v36) f 6) := rfl
theorem off75_eq (i : grid1.Coords) (v13 v16 v31 v36 f : BitVec 32) : k1_off75 i v13 v16 v31 v36 f = ![(tw (zendW i v13 v16 v31 v36) f 6).toNat] := rfl
theorem off76_eq (i : grid1.Coords) (v13 v16 v31 v36 f : BitVec 32) : k1_off76 i v13 v16 v31 v36 f = ![(Scalar.muli (tw (zendW i v13 v16 v31 v36) f 6) 3#32).toNat] := rfl
theorem cond23_eq (i : grid1.Coords) (v13 v16 v31 v36 f : BitVec 32) : k1_cond23 i v13 v16 v31 v36 f = cw (BitVec.ofNat 32 (2 ^ (10 - 7))) (zendW i v13 v16 v31 v36) (tw (zendW i v13 v16 v31 v36) f 7) := rfl
theorem off77_eq (i : grid1.Coords) (v13 v16 v31 v36 f : BitVec 32) : k1_off77 i v13 v16 v31 v36 f = ![(tw (zendW i v13 v16 v31 v36) f 7).toNat] := rfl
theorem off78_eq (i : grid1.Coords) (v13 v16 v31 v36 f : BitVec 32) : k1_off78 i v13 v16 v31 v36 f = ![(Scalar.muli (tw (zendW i v13 v16 v31 v36) f 7) 3#32).toNat] := rfl

/-- Every block of zero rows is where it may be copied to. -/
theorem chk72_ok (i : grid1.Coords) (h : TI b 2048 f) (hb : b ≤ 2097152) (v13 v16 v31 v36 : BitVec 32) (he : zendW i v13 v16 v31 v36 = BitVec.ofNat 32 b) :
    k1_chk72 i v13 v16 v31 v36 (BitVec.ofNat 32 f) := by
  have X0 : k1_cond16 i v13 v16 v31 v36 (BitVec.ofNat 32 f) = 1#1 → _ := fun hc => zero_ok (B := 1024) (f := tf b f 0) (by
      rw [cond16_eq, he, tw_cw h 0 (by omega)] at hc
      have := (tf_TI h 0 (by omega)).al
      omega) (by
      rw [cond16_eq, he, tw_cw h 0 (by omega)] at hc
      omega) (tw (zendW i v13 v16 v31 v36) (BitVec.ofNat 32 f) 0) (by rw [he]; exact tw_ofNat h 0 (by omega)) (by omega)
  have X1 : k1_cond17 i v13 v16 v31 v36 (BitVec.ofNat 32 f) = 1#1 → _ := fun hc => zero_ok (B := 512) (f := tf b f 1) (by
      rw [cond17_eq, he, tw_cw h 1 (by omega)] at hc
      have := (tf_TI h 1 (by omega)).al
      omega) (by
      rw [cond17_eq, he, tw_cw h 1 (by omega)] at hc
      omega) (tw (zendW i v13 v16 v31 v36) (BitVec.ofNat 32 f) 1) (by rw [he]; exact tw_ofNat h 1 (by omega)) (by omega)
  have X2 : k1_cond18 i v13 v16 v31 v36 (BitVec.ofNat 32 f) = 1#1 → _ := fun hc => zero_ok (B := 256) (f := tf b f 2) (by
      rw [cond18_eq, he, tw_cw h 2 (by omega)] at hc
      have := (tf_TI h 2 (by omega)).al
      omega) (by
      rw [cond18_eq, he, tw_cw h 2 (by omega)] at hc
      omega) (tw (zendW i v13 v16 v31 v36) (BitVec.ofNat 32 f) 2) (by rw [he]; exact tw_ofNat h 2 (by omega)) (by omega)
  have X3 : k1_cond19 i v13 v16 v31 v36 (BitVec.ofNat 32 f) = 1#1 → _ := fun hc => zero_ok (B := 128) (f := tf b f 3) (by
      rw [cond19_eq, he, tw_cw h 3 (by omega)] at hc
      have := (tf_TI h 3 (by omega)).al
      omega) (by
      rw [cond19_eq, he, tw_cw h 3 (by omega)] at hc
      omega) (tw (zendW i v13 v16 v31 v36) (BitVec.ofNat 32 f) 3) (by rw [he]; exact tw_ofNat h 3 (by omega)) (by omega)
  have X4 : k1_cond20 i v13 v16 v31 v36 (BitVec.ofNat 32 f) = 1#1 → _ := fun hc => zero_ok (B := 64) (f := tf b f 4) (by
      rw [cond20_eq, he, tw_cw h 4 (by omega)] at hc
      have := (tf_TI h 4 (by omega)).al
      omega) (by
      rw [cond20_eq, he, tw_cw h 4 (by omega)] at hc
      omega) (tw (zendW i v13 v16 v31 v36) (BitVec.ofNat 32 f) 4) (by rw [he]; exact tw_ofNat h 4 (by omega)) (by omega)
  have X5 : k1_cond21 i v13 v16 v31 v36 (BitVec.ofNat 32 f) = 1#1 → _ := fun hc => zero_ok (B := 32) (f := tf b f 5) (by
      rw [cond21_eq, he, tw_cw h 5 (by omega)] at hc
      have := (tf_TI h 5 (by omega)).al
      omega) (by
      rw [cond21_eq, he, tw_cw h 5 (by omega)] at hc
      omega) (tw (zendW i v13 v16 v31 v36) (BitVec.ofNat 32 f) 5) (by rw [he]; exact tw_ofNat h 5 (by omega)) (by omega)
  have X6 : k1_cond22 i v13 v16 v31 v36 (BitVec.ofNat 32 f) = 1#1 → _ := fun hc => zero_ok (B := 16) (f := tf b f 6) (by
      rw [cond22_eq, he, tw_cw h 6 (by omega)] at hc
      have := (tf_TI h 6 (by omega)).al
      omega) (by
      rw [cond22_eq, he, tw_cw h 6 (by omega)] at hc
      omega) (tw (zendW i v13 v16 v31 v36) (BitVec.ofNat 32 f) 6) (by rw [he]; exact tw_ofNat h 6 (by omega)) (by omega)
  have X7 : k1_cond23 i v13 v16 v31 v36 (BitVec.ofNat 32 f) = 1#1 → _ := fun hc => zero_ok (B := 8) (f := tf b f 7) (by
      rw [cond23_eq, he, tw_cw h 7 (by omega)] at hc
      have := (tf_TI h 7 (by omega)).al
      omega) (by
      rw [cond23_eq, he, tw_cw h 7 (by omega)] at hc
      omega) (tw (zendW i v13 v16 v31 v36) (BitVec.ofNat 32 f) 7) (by rw [he]; exact tw_ofNat h 7 (by omega)) (by omega)
  exact ⟨fun h => (X0 h).1, fun h a => one_ax ((X0 h).2.1) a, fun h => (X0 h).2.2.1, fun h a => one_ax ((X0 h).2.2.2) a, fun h => (X1 h).1, fun h a => one_ax ((X1 h).2.1) a, fun h => (X1 h).2.2.1, fun h a => one_ax ((X1 h).2.2.2) a, fun h => (X2 h).1, fun h a => one_ax ((X2 h).2.1) a, fun h => (X2 h).2.2.1, fun h a => one_ax ((X2 h).2.2.2) a, fun h => (X3 h).1, fun h a => one_ax ((X3 h).2.1) a, fun h => (X3 h).2.2.1, fun h a => one_ax ((X3 h).2.2.2) a, fun h => (X4 h).1, fun h a => one_ax ((X4 h).2.1) a, fun h => (X4 h).2.2.1, fun h a => one_ax ((X4 h).2.2.2) a, fun h => (X5 h).1, fun h a => one_ax ((X5 h).2.1) a, fun h => (X5 h).2.2.1, fun h a => one_ax ((X5 h).2.2.2) a, fun h => (X6 h).1, fun h a => one_ax ((X6 h).2.1) a, fun h => (X6 h).2.2.1, fun h a => one_ax ((X6 h).2.2.2) a, fun h => (X7 h).1, fun h a => one_ax ((X7 h).2.1) a, fun h => (X7 h).2.2.1, fun h a => one_ax ((X7 h).2.2.2) a⟩

theorem cond14_eq (v31 v36 f : BitVec 32) : k1_cond14 v31 v36 f
    = Scalar.cmpi .ne (Scalar.extui (Scalar.cmpi .sgt (Scalar.subi (Scalar.addi v31 v36) (tw (Scalar.addi v31 v36) f 8)) 0#32)) 0#32 := rfl
theorem cond15_eq (v31 v36 f : BitVec 32) : k1_cond15 v31 v36 f
    = Scalar.cmpi .ne (Scalar.extui (Scalar.cmpi .sgt (Scalar.subi (Scalar.addi v31 v36) (tw (Scalar.addi v31 v36) f 8)) 0#32)) 0#32 := rfl
theorem cond25_eq (i : grid1.Coords) (v13 v16 v31 v36 f : BitVec 32) : k1_cond25 i v13 v16 v31 v36 f
    = Scalar.cmpi .ne (Scalar.extui (Scalar.cmpi .sgt (Scalar.subi (zendW i v13 v16 v31 v36) (tw (zendW i v13 v16 v31 v36) f 8)) 0#32)) 0#32 := rfl
theorem cond27_eq (i : grid1.Coords) (v13 v16 v31 v36 : BitVec 32) : k1_cond27 i v13 v16 v31 v36
    = Scalar.cmpi .ne (Scalar.extui (Scalar.cmpi .sgt (Scalar.minsi (Scalar.andi (Scalar.subi 8#32 (Scalar.andi (Scalar.subi (zendW i v13 v16 v31 v36) (Scalar.subi 65536#32 v36)) 7#32)) 7#32)
      (Scalar.subi 65536#32 v36)) 0#32)) 0#32 := rfl

/-- The question in front of an edge. -/
theorem ask_left {e f : ℕ} (h : f ≤ e) (he : e < 2 ^ 31) :
    Scalar.cmpi .ne (Scalar.extui (Scalar.cmpi .sgt (Scalar.subi (BitVec.ofNat 32 e) (BitVec.ofNat 32 f)) 0#32)) 0#32 = 1#1 ↔ f < e := by
  rw [sub_ofNat h]
  have := ask_sgt (x := e - f) (y := 0) (by omega) (by omega)
  rw [show (0#32 : BitVec 32) = BitVec.ofNat 32 0 from rfl] at *
  rw [this]; omega

end Cert.Proof.Vox
-- ==== Proof.Bits.lean ====
/-
  The last blocks of the rows, and the last blocks of the zero rows: one digit.
-/
module

public import proofs.«01_k».proof.Proof.Tail2

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The rings filled up to rank `b`, their first rows repeated after their ends. -/
structure RT (mw : ℕ → BitVec 32) (Y : ℕ → ℕ → F .f32) (a b : ℕ) (G : ℕ → BitVec 32) (H : ℕ → F .f32) : Prop where
  o : Ring 1 0 a b (occV mw) G
  x : Ring 3 0 a b (fun p => Y 0 (nthOf mw p)) H ∧ Ring 3 1 a b (fun p => Y 1 (nthOf mw p)) H ∧ Ring 3 2 a b (fun p => Y 2 (nthOf mw p)) H
  so : ∀ n < 2048, G (8192 + n) = G n
  sx : ∀ n < 6144, H (24576 + n) = H n

variable {c : Thread nD τ} {s12 s13 s8 s9 s17 s18 : Space} {m12 : Memref sig c.2.kind s12 S10240 .i32} {m13 : Memref sig c.2.kind s13 S30720 .f32}
  {m17 : Memref sig c.2.kind s17 S2048 .i32} {m18 : Memref sig c.2.kind s18 S6144 .f32}
  {m9 : Memref sig c.2.kind s9 S2097152 .i32} {m8 : Memref sig c.2.kind s8 S6291456 .f32}
  {mw : ℕ → BitVec 32} {Y : ℕ → ℕ → F .f32} {G : ℕ → BitVec 32} {H : ℕ → F .f32} {fl : ℕ → F .f32} {a b φ zs ze ff : ℕ} {e fw : BitVec 32}
  {O : CellTallies nD τ sig (HIx 2)} {W₀ : Waits sig (HIx 2)} {α : Type} {Q : α → sProp (MM F)}

/-- The last blocks of the rows, `n` digits done. -/
def ringC (c : Thread nD τ) (m12 : Memref sig c.2.kind s12 S10240 .i32) (m13 : Memref sig c.2.kind s13 S30720 .f32)
    (m9 : Memref sig c.2.kind s9 S2097152 .i32) (m8 : Memref sig c.2.kind s8 S6291456 .f32) (mw : ℕ → BitVec 32) (Y : ℕ → ℕ → F .f32) (G : ℕ → BitVec 32) (H : ℕ → F .f32)
    (a b φ : ℕ) (O : CellTallies nD τ sig (HIx 2)) (W₀ : Waits sig (HIx 2)) (n : ℕ) : sProp (MM F) :=
  bitC c m12 fullShare G m13 fullShare H m9 (Set.Ico a b) (occV mw) m8 (Set.Ico (3 * a) (3 * b)) (xwV Y mw) a O W₀ (tf b φ n)

/-- The last blocks of the zero rows, `n` digits done. -/
def zeroC (c : Thread nD τ) (m17 : Memref sig c.2.kind s17 S2048 .i32) (m18 : Memref sig c.2.kind s18 S6144 .f32) (q : PosShare TreeShare)
    (m9 : Memref sig c.2.kind s9 S2097152 .i32) (m8 : Memref sig c.2.kind s8 S6291456 .f32) (fl : ℕ → F .f32) (zs ze ff φ : ℕ)
    (O : CellTallies nD τ sig (HIx 2)) (W₀ : Waits sig (HIx 2)) (n : ℕ) : sProp (MM F) :=
  bitC c m17 q (fun _ => 0#32) m18 q (fun m => fl (m % 3)) m9 (Set.Ico zs ze \ Set.Ico ff φ) (fun _ => 0#32)
    m8 (Set.Ico (3 * zs) (3 * ze) \ Set.Ico (3 * ff) (3 * φ)) (fun m => fl (m % 3)) φ O W₀ (tf ze φ n)

section ring
variable {c₀ : BitVec 1} {n : ℕ} {oA oA' oB oB' zA zB : Fin 1 → ℕ} {iA : c₀ = 1#1 → ∀ a, oA a + zA a ≤ S10240.size a} {iA' : c₀ = 1#1 → ∀ a, oA' a + zA a ≤ S2097152.size a}
    {iB : c₀ = 1#1 → ∀ a, oB a + zB a ≤ S30720.size a} {iB' : c₀ = 1#1 → ∀ a, oB' a + zB a ≤ S6291456.size a}
    {hA : ∀ h : c₀ = 1#1, ∀ a, (Rect.unit (s := S10240) oA zA (iA h)).stride a = 1} {hA' : ∀ h : c₀ = 1#1, ∀ a, (Rect.unit (s := S2097152) oA' zA (iA' h)).stride a = 1}
    {hB : ∀ h : c₀ = 1#1, ∀ a, (Rect.unit (s := S30720) oB zB (iB h)).stride a = 1} {hB' : ∀ h : c₀ = 1#1, ∀ a, (Rect.unit (s := S6291456) oB' zB (iB' h)).stride a = 1}
    {s₁ s₂ : DmaSem sig}
    {w1 w3 : ∀ h : c₀ = 1#1, (m12.slice (Rect.unit (s := S10240) oA zA (iA h)) (hA h)).view.WordExact} {w2 w4 : ∀ h : c₀ = 1#1, (m9.slice (Rect.unit (s := S2097152) oA' zA (iA' h)) (hA' h)).view.WordExact}
    {w5 w7 : ∀ h : c₀ = 1#1, (m13.slice (Rect.unit (s := S30720) oB zB (iB h)) (hB h)).view.WordExact} {w6 w8 : ∀ h : c₀ = 1#1, (m8.slice (Rect.unit (s := S6291456) oB' zB (iB' h)) (hB' h)).view.WordExact}
    {t1 : ∀ h : c₀ = 1#1, DmaTarget.Typed (nD := nD) s12 (SemLoc.dma s₁) (.here (m9.slice (Rect.unit (s := S2097152) oA' zA (iA' h)) (hA' h)))}
    {t2 : ∀ h : c₀ = 1#1, DmaTarget.Typed (nD := nD) s13 (SemLoc.dma s₂) (.here (m8.slice (Rect.unit (s := S6291456) oB' zB (iB' h)) (hB' h)))}
    {J : Prog (TpuEff nD τ sig (Elt F) Λ₀ c.2) α}

/-- One digit of the rows. -/
theorem ring_bit (hn : n ≤ 7) (h : TI b 2048 φ) (hb : b ≤ 2097152) (ha : a ≤ φ) (hR : RT mw Y a b G H) (he : e = BitVec.ofNat 32 b) (hf : fw = BitVec.ofNat 32 φ)
    (hc : c₀ = cw (BitVec.ofNat 32 (2 ^ (10 - n))) e (tw e fw n)) (hoA : oA = ![(Scalar.andi (tw e fw n) 8191#32).toNat]) (hoA' : oA' = ![(tw e fw n).toNat])
    (hoB : oB = ![(Scalar.muli (Scalar.andi (tw e fw n) 8191#32) 3#32).toNat]) (hoB' : oB' = ![(Scalar.muli (tw e fw n) 3#32).toNat])
    (hzA : zA 0 = 2 ^ (10 - n)) (hzB : zB 0 = 3 * 2 ^ (10 - n)) :
    (iprop(ringC c m12 m13 m9 m8 mw Y G H a b φ O W₀ n ∗ semVal (c, .dma s₁) 0 ∗ semVal (c, .dma s₂) 0) : sProp (MM F))
      ⊢ iprop((iprop(ringC c m12 m13 m9 m8 mw Y G H a b φ O W₀ (n + 1) ∗ semVal (c, .dma s₁) 0 ∗ semVal (c, .dma s₂) 0)
          -∗ wp frame (wpE (defs₀ (F := F)) 𝒱₀ c none) Set.univ J Q)
        -∗ wp frame (wpE (defs₀ (F := F)) 𝒱₀ c none) Set.univ
          (if h : c₀ = 1#1 then
            Prog.lift (TpuEff.enqueueDma (m12.slice (Rect.unit (s := S10240) oA zA (iA h)) (hA h)) (.here (m9.slice (Rect.unit (s := S2097152) oA' zA (iA' h)) (hA' h))) (.dma s₁) (w1 h) (w2 h) (t1 h))
              >>= fun _ => Prog.lift (TpuEff.waitDma2 s₁ (m12.slice (Rect.unit (s := S10240) oA zA (iA h)) (hA h)) (m9.slice (Rect.unit (s := S2097152) oA' zA (iA' h)) (hA' h)) (w3 h) (w4 h))
              >>= fun _ => Prog.lift (TpuEff.enqueueDma (m13.slice (Rect.unit (s := S30720) oB zB (iB h)) (hB h)) (.here (m8.slice (Rect.unit (s := S6291456) oB' zB (iB' h)) (hB' h))) (.dma s₂) (w5 h) (w6 h) (t2 h))
              >>= fun _ => Prog.lift (TpuEff.waitDma2 s₂ (m13.slice (Rect.unit (s := S30720) oB zB (iB h)) (hB h)) (m8.slice (Rect.unit (s := S6291456) oB' zB (iB' h)) (hB' h)) (w7 h) (w8 h))
              >>= fun _ => J
          else J) Q) := by
  subst he hf
  have hT := tf_TI h n hn
  have hle := tf_le b φ n
  have hp : 0 < 2 ^ (10 - n) := by positivity
  have hp2 : 2 ^ (10 - n) ≤ 2 ^ 10 := Nat.pow_le_pow_right (by omega) (by omega)
  obtain ⟨T1, T2, T3⟩ := hT
  have ht : tf b φ n ≤ 2097152 := by omega
  rw [tw_ofNat h n (by omega)] at hoA hoA' hoB hoB'
  rw [and_ofNat _ (by omega)] at hoA hoB
  rw [mul3_ofNat] at hoB hoB'
  have hm := Nat.mod_lt (tf b φ n) (show 0 < 8192 by decide)
  rw [toNat_small (by omega)] at hoA hoA' hoB hoB'
  subst hoA hoA' hoB hoB'
  unfold ringC
  refine bit2 (c := c) (b := b) (f := tf b φ n) (B := 2 ^ (10 - n)) ?_ (by omega) hp hzA hzB (fun _ => rfl) (fun _ => rfl) (fun hB m h1 h2 => ⟨by omega, by omega⟩) (fun hB m h1 h2 => ⟨by omega, by omega⟩) ?_ ?_
  · rw [hc]; exact tw_cw h n hn
  · intro hB j hj
    exact hR.o.sliceO (len := 2 ^ (10 - n)) (by omega) (by omega) (by omega) (.inr ⟨by omega, hR.so⟩) j hj
  · intro hB j hj
    exact Ring.sliceX hR.x (len := 2 ^ (10 - n)) (by omega) (by omega) (by omega) (.inr ⟨by omega, hR.sx⟩) j hj
end ring

section zero
variable {c₀ : BitVec 1} {n : ℕ} {q : PosShare TreeShare} {oA oA' oB oB' zA zB : Fin 1 → ℕ} {iA : c₀ = 1#1 → ∀ a, oA a + zA a ≤ S2048.size a} {iA' : c₀ = 1#1 → ∀ a, oA' a + zA a ≤ S2097152.size a}
    {iB : c₀ = 1#1 → ∀ a, oB a + zB a ≤ S6144.size a} {iB' : c₀ = 1#1 → ∀ a, oB' a + zB a ≤ S6291456.size a}
    {hA : ∀ h : c₀ = 1#1, ∀ a, (Rect.unit (s := S2048) oA zA (iA h)).stride a = 1} {hA' : ∀ h : c₀ = 1#1, ∀ a, (Rect.unit (s := S2097152) oA' zA (iA' h)).stride a = 1}
    {hB : ∀ h : c₀ = 1#1, ∀ a, (Rect.unit (s := S6144) oB zB (iB h)).stride a = 1} {hB' : ∀ h : c₀ = 1#1, ∀ a, (Rect.unit (s := S6291456) oB' zB (iB' h)).stride a = 1}
    {s₁ s₂ : DmaSem sig}
    {w1 w3 : ∀ h : c₀ = 1#1, (m17.slice (Rect.unit (s := S2048) oA zA (iA h)) (hA h)).view.WordExact} {w2 w4 : ∀ h : c₀ = 1#1, (m9.slice (Rect.unit (s := S2097152) oA' zA (iA' h)) (hA' h)).view.WordExact}
    {w5 w7 : ∀ h : c₀ = 1#1, (m18.slice (Rect.unit (s := S6144) oB zB (iB h)) (hB h)).view.WordExact} {w6 w8 : ∀ h : c₀ = 1#1, (m8.slice (Rect.unit (s := S6291456) oB' zB (iB' h)) (hB' h)).view.WordExact}
    {t1 : ∀ h : c₀ = 1#1, DmaTarget.Typed (nD := nD) s17 (SemLoc.dma s₁) (.here (m9.slice (Rect.unit (s := S2097152) oA' zA (iA' h)) (hA' h)))}
    {t2 : ∀ h : c₀ = 1#1, DmaTarget.Typed (nD := nD) s18 (SemLoc.dma s₂) (.here (m8.slice (Rect.unit (s := S6291456) oB' zB (iB' h)) (hB' h)))}
    {J : Prog (TpuEff nD τ sig (Elt F) Λ₀ c.2) α}

/-- One digit of the zero rows. -/
theorem zero_bit (hn : n ≤ 7) (h : TI ze 2048 φ) (hb : ze ≤ 2097152) (ha : zs ≤ φ) (he : e = BitVec.ofNat 32 ze) (hf : fw = BitVec.ofNat 32 φ)
    (hc : c₀ = cw (BitVec.ofNat 32 (2 ^ (10 - n))) e (tw e fw n)) (hoA : oA 0 = 0) (hoA' : oA' = ![(tw e fw n).toNat])
    (hoB : oB 0 = 0) (hoB' : oB' = ![(Scalar.muli (tw e fw n) 3#32).toNat])
    (hzA : zA 0 = 2 ^ (10 - n)) (hzB : zB 0 = 3 * 2 ^ (10 - n)) :
    (iprop(zeroC c m17 m18 q m9 m8 fl zs ze ff φ O W₀ n ∗ semVal (c, .dma s₁) 0 ∗ semVal (c, .dma s₂) 0) : sProp (MM F))
      ⊢ iprop((iprop(zeroC c m17 m18 q m9 m8 fl zs ze ff φ O W₀ (n + 1) ∗ semVal (c, .dma s₁) 0 ∗ semVal (c, .dma s₂) 0)
          -∗ wp frame (wpE (defs₀ (F := F)) 𝒱₀ c none) Set.univ J Q)
        -∗ wp frame (wpE (defs₀ (F := F)) 𝒱₀ c none) Set.univ
          (if h : c₀ = 1#1 then
            Prog.lift (TpuEff.enqueueDma (m17.slice (Rect.unit (s := S2048) oA zA (iA h)) (hA h)) (.here (m9.slice (Rect.unit (s := S2097152) oA' zA (iA' h)) (hA' h))) (.dma s₁) (w1 h) (w2 h) (t1 h))
              >>= fun _ => Prog.lift (TpuEff.waitDma2 s₁ (m17.slice (Rect.unit (s := S2048) oA zA (iA h)) (hA h)) (m9.slice (Rect.unit (s := S2097152) oA' zA (iA' h)) (hA' h)) (w3 h) (w4 h))
              >>= fun _ => Prog.lift (TpuEff.enqueueDma (m18.slice (Rect.unit (s := S6144) oB zB (iB h)) (hB h)) (.here (m8.slice (Rect.unit (s := S6291456) oB' zB (iB' h)) (hB' h))) (.dma s₂) (w5 h) (w6 h) (t2 h))
              >>= fun _ => Prog.lift (TpuEff.waitDma2 s₂ (m18.slice (Rect.unit (s := S6144) oB zB (iB h)) (hB h)) (m8.slice (Rect.unit (s := S6291456) oB' zB (iB' h)) (hB' h)) (w7 h) (w8 h))
              >>= fun _ => J
          else J) Q) := by
  subst he hf
  have hT := tf_TI h n hn
  have hle := tf_le ze φ n
  have hp : 0 < 2 ^ (10 - n) := by positivity
  obtain ⟨T1, T2, T3⟩ := hT
  rw [tw_ofNat h n (by omega)] at hoA' hoB'
  rw [mul3_ofNat] at hoB'
  rw [toNat_small (by omega)] at hoA' hoB'
  subst hoA' hoB'
  unfold zeroC
  refine bit2 (c := c) (b := ze) (f := tf ze φ n) (B := 2 ^ (10 - n)) ?_ (by omega) hp hzA hzB (fun _ => rfl) (fun _ => rfl)
    (fun hB m h1 h2 => ⟨⟨by omega, by omega⟩, fun h => by have := h.2; omega⟩) (fun hB m h1 h2 => ⟨⟨by omega, by omega⟩, fun h => by have := h.2; omega⟩) ?_ ?_
  · rw [hc]; exact tw_cw h n hn
  · intro hB j hj; rfl
  · intro hB j hj
    exact congrArg fl (by omega)
end zero

end Cert.Proof.Vox
-- ==== Proof.Main4.lean ====
/-
  The pass over the sub-chunks, from the scale and the offset of each component to the last whole block.
-/
module

public import proofs.«01_k».proof.Proof.Tail2

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {mw : ℕ → BitVec 32} {d : Dev nD}

/-- The tiles' pieces of the rows. -/
theorem piece_ok {w : ℕ} (hw : w < 32) : Piece (cnt mw 2097152) (cnt mw (65536 * w)) (cnt mw (65536 * (w + 1))) w := by
  have e : ∀ n, 65536 * (n + 1) = 65536 * n + 65536 := fun n => by omega
  have h1 : cnt mw (65536 * w) ≤ 65536 * w := cnt_le _
  have h2 : cnt mw (65536 * (w + 1)) ≤ 65536 * (w + 1) := cnt_le _
  have h3 : cnt mw (65536 * (w + 1)) ≤ cnt mw (65536 * w) + 65536 := by rw [e]; exact cnt_add_le _ _
  have h4 : cnt mw 2097152 ≤ cnt mw (65536 * (w + 1)) + (2097152 - 65536 * (w + 1)) := by
    have h := cnt_add_le (mw := mw) (65536 * (w + 1)) (2097152 - 65536 * (w + 1))
    rwa [Nat.add_sub_cancel' (by omega)] at h
  exact ⟨cnt_mono (by omega), h3, h1, h2, cnt_mono (by omega), by omega, hw⟩

theorem headOf_al {a n : ℕ} : 8 ∣ a + headOf a n ∨ a + n ≤ a + headOf a n := by unfold headOf; omega
theorem headOf_lt {a n : ℕ} : headOf a n < 8 := by unfold headOf; omega
theorem headOf_le {a n : ℕ} : headOf a n ≤ n := by unfold headOf; omega

variable (i : grid1.Coords) (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

/-- What is kept of the pass over the sub-chunks, the rows written up to `f`. -/
def passI (d : Dev nD) (mw : ℕ → BitVec 32) (nz sc of : ℕ → F .f32) (q₂ q₃ : PosShare TreeShare) (w : ℕ) (o s f : ℕ) (O : CellTallies nD τ sig (HIx 2)) (W₀ : Waits sig (HIx 2)) : sProp (MM F) :=
  iprop(own (F := F) (e := .i32) (thr d i) arg2 q₂ Set.univ mw ∗ own (F := F) (e := .f32) (thr d i) arg3 q₃ Set.univ nz
    ∗ anyB (F := F) (e := .i32) (thr d i) arg10 ∗ anyB (F := F) (e := .f32) (thr d i) arg11
    ∗ anyB (F := F) (e := .i32) (thr d i) arg19 ∗ anyB (F := F) (e := .i32) (thr d i) arg20 ∗ anyB (F := F) (e := .f32) (thr d i) arg21
    ∗ semVal (thr d i, .dma z4.sem) 0 ∗ semVal (thr d i, .dma z5.sem) 0 ∗ semVal (thr d i, .dma arg22.sem) 0
    ∗ flushInv i arg8 arg9 arg12 arg13 z6 z7 d mw (Yv nz sc of) (cnt mw (65536 * w)) o (cnt mw (65536 * w)) (cnt mw (65536 * (w + 1))) s f O W₀)

theorem passI_t1 {nz sc of : ℕ → F .f32} {q₂ q₃ : PosShare TreeShare} {w : ℕ} {O : CellTallies nD τ sig (HIx 2)} {W₀ : Waits sig (HIx 2)} {si f fd : ℕ} (hF : FlAt mw w si f fd) :
    (passI i arg2 arg3 arg8 arg9 arg10 arg11 arg12 arg13 arg19 arg20 arg21 arg22 z4 z5 z6 z7 d mw nz sc of q₂ q₃ w (cnt mw (65536 * w + 4096 * si))
      (cnt mw (65536 * w) + (if fd = 0 then headOf (cnt mw (65536 * w)) (cnt mw (65536 * (w + 1)) - cnt mw (65536 * w)) else 0)) f O W₀ : sProp (MM F))
    ⊢ t1Inv i arg2 arg3 arg8 arg9 arg10 arg11 arg12 arg13 arg19 arg20 arg21 arg22 z4 z5 z6 z7 d mw nz sc of q₂ q₃ w O W₀ si
      (BitVec.ofNat 32 (cnt mw (65536 * w + 4096 * si)), BitVec.ofNat 32 f, BitVec.ofNat 32 fd) := by
  unfold passI t1Inv
  iintro H
  iexists f
  iexists fd
  isplitl []
  · ipureintro; exact ⟨rfl, hF⟩
  iexact H

set_option maxHeartbeats 1600000 in
/-- The pass. -/
theorem part34_ok (hb : Bin mw) (w : ℕ) (hw : w = 2 * (i 1).val + (i 0).val) {P : ℕ → F .f32} {CT : ℕ → BitVec 32} {nz : ℕ → F .f32} {q₂ q₃ : PosShare TreeShare}
    (hCT : CT (16 * w) = BitVec.ofNat 32 (cnt mw (65536 * (w + 1)) - cnt mw (65536 * w)))
    (v1 v13 v16 v17 : BitVec 32) (h1 : v1 = BitVec.ofNat 32 w) (h17 : Scalar.addi v13 v16 = BitVec.ofNat 32 (cnt mw 2097152))
    (h17' : v17 = BitVec.ofNat 32 (cnt mw 2097152)) (v31 : BitVec 32) (h31 : v31 = BitVec.ofNat 32 (cnt mw (65536 * w)))
    {O : CellTallies nD τ sig (HIx 2)} {W₀ : Waits sig (HIx 2)} {α : Type} {Q : α → sProp (MM F)}
    {kk : (Σ' (v36 : BitVec 32) (k1_hw52 : k1_chk52 i v13 v16 v31 v36) (v37 : BitVec 32) (v57_1 : BitVec 32) (k1_hw55 : k1_chk55 v31 v36 v57_1) (v58 : BitVec 32), BitVec 32) → Prog (TpuEff nD τ sig (Elt F) Λ₀ (thr d i).2) α} :
    (iprop(rowsT (thr d i) arg14 fullShare P ∗ own (F := F) (e := .i32) (thr d i) arg15 fullShare Set.univ CT
        ∗ passI i arg2 arg3 arg8 arg9 arg10 arg11 arg12 arg13 arg19 arg20 arg21 arg22 z4 z5 z6 z7 d mw nz P (fun n => P (n + 3)) q₂ q₃ w
          (cnt mw (65536 * w)) (cnt mw (65536 * w) + headOf (cnt mw (65536 * w)) (cnt mw (65536 * (w + 1)) - cnt mw (65536 * w)))
          (cnt mw (65536 * w) + headOf (cnt mw (65536 * w)) (cnt mw (65536 * (w + 1)) - cnt mw (65536 * w))) O W₀) : sProp (MM F))
      ⊢ iprop((∀ (v36 v37 v57 v58 v61 : BitVec 32) (h52 : k1_chk52 i v13 v16 v31 v36) (h55 : k1_chk55 v31 v36 v57) (φ : ℕ),
          ⌜v36 = BitVec.ofNat 32 (cnt mw (65536 * (w + 1)) - cnt mw (65536 * w)) ∧ v37 = BitVec.ofNat 32 (cnt mw (65536 * (w + 1))) ∧ v57 = BitVec.ofNat 32 φ
            ∧ v58 = BitVec.ofNat 32 (zlen (cnt mw (65536 * w)) (cnt mw (65536 * (w + 1)))) ∧ v61 = zendW i v13 v16 v31 v36 ∧ TI (cnt mw (65536 * (w + 1))) 2048 φ ∧ cnt mw (65536 * w) ≤ φ⌝
          -∗ iprop(rowsT (thr d i) arg14 fullShare P ∗ own (F := F) (e := .i32) (thr d i) arg15 fullShare Set.univ CT
              ∗ passI i arg2 arg3 arg8 arg9 arg10 arg11 arg12 arg13 arg19 arg20 arg21 arg22 z4 z5 z6 z7 d mw nz P (fun n => P (n + 3)) q₂ q₃ w
                (cnt mw (65536 * (w + 1))) (cnt mw (65536 * w)) φ O W₀)
          -∗ wp frame (wpE (defs₀ (F := F)) 𝒱₀ (thr d i) none) Set.univ (kk ⟨v36, h52, v37, v57, h55, v58, v61⟩) Q)
        -∗ wp frame (wpE (defs₀ (F := F)) 𝒱₀ (thr d i) none) Set.univ
          (k1_part34 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v1 lanesV v13 v16 v17 v31 (broadcast S16 (BitVec.ofNat 32 (16 * w))) >>= kk) Q) := by
  have hi0 : (i 0).val < 2 := (i 0).isLt
  have hi1 : (i 1).val < 16 := (i 1).isLt
  have hw32 : w < 32 := by omega
  have hp := piece_ok (mw := mw) hw32
  have hab := hp.hab
  have hb2 : cnt mw (65536 * (w + 1)) ≤ 2097152 := hp.hbt.trans hp.t_le
  subst h1 h17' h31
  iintro ⟨H14, H15, HP⟩ Hk
  rw [k1_part34_eq_skeleton]; unfold k1_part34_skel
  simp only [bind_assoc, pure_bind]
  have c4 : k1_chk4 (broadcast S16 (BitVec.ofNat 32 (16 * w))) := by
    intro a x
    rw [Subsingleton.elim a 0]
    show (BitVec.ofNat 32 (16 * w)).toNat < 512
    rw [toNat_small (by omega)]; omega
  iapply (assume_ok (c := thr d i) c4)
  iapply (own_ldIdx (c := thr d i) (m := arg15) (G := CT)) $$ H15
  iintro %v34 %hv34 H15
  have h36 : extractAt ![0] (k1_pay290 v34) inpos_S1_p0 = BitVec.ofNat 32 (cnt mw (65536 * (w + 1)) - cnt mw (65536 * w)) := by
    rw [← hCT]
    have e16 : (BitVec.ofNat 32 (16 * w)).toNat = 16 * w := toNat_small (by omega)
    exact (hv34 _).trans (congrArg CT e16)
  iapply (assume_ok (c := thr d i) (show k1_chk52 i v13 v16 (BitVec.ofNat 32 (cnt mw (65536 * w))) (extractAt ![0] (k1_pay290 v34) inpos_S1_p0) from by rw [h36]; exact chk52_ok i hp hw v13 v16 h17))
  iapply (rowsT_ld (c := thr d i) (m := arg14) (r := 0) rfl) $$ H14; iintro %l0 %r0 H14
  iapply (rowsT_ld (c := thr d i) (m := arg14) (r := 1) rfl) $$ H14; iintro %l1 %r1 H14
  iapply (rowsT_ld (c := thr d i) (m := arg14) (r := 2) rfl) $$ H14; iintro %l2 %r2 H14
  iapply (rowsT_ld (c := thr d i) (m := arg14) (r := 3) rfl) $$ H14; iintro %l3 %r3 H14
  iapply (rowsT_ld (c := thr d i) (m := arg14) (r := 4) rfl) $$ H14; iintro %l4 %r4 H14
  iapply (rowsT_ld (c := thr d i) (m := arg14) (r := 5) rfl) $$ H14; iintro %l5 %r5 H14
  have e50 : Scalar.muli (BitVec.ofNat 32 w) 65536#32 = BitVec.ofNat 32 (65536 * w) := by
    rw [show (65536#32 : BitVec 32) = BitVec.ofNat 32 65536 from rfl, mul_ofNat, Nat.mul_comm]
  have e55 : Scalar.addi (BitVec.ofNat 32 (cnt mw (65536 * w))) (Scalar.minsi (Scalar.andi (Scalar.subi 8#32 (Scalar.andi (BitVec.ofNat 32 (cnt mw (65536 * w))) 7#32)) 7#32)
      (extractAt ![0] (k1_pay290 v34) inpos_S1_p0))
      = BitVec.ofNat 32 (cnt mw (65536 * w) + headOf (cnt mw (65536 * w)) (cnt mw (65536 * (w + 1)) - cnt mw (65536 * w))) := by
    rw [h36, head_word (by omega) (by omega), add_ofNat]
  have hF0 : FlAt mw w 0 (cnt mw (65536 * w) + headOf (cnt mw (65536 * w)) (cnt mw (65536 * (w + 1)) - cnt mw (65536 * w))) 0 := by
    have := headOf_al (a := cnt mw (65536 * w)) (n := cnt mw (65536 * (w + 1)) - cnt mw (65536 * w))
    unfold FlAt
    dsimp only
    simp only [Nat.mul_zero, Nat.add_zero]
    exact ⟨Nat.le_refl _, le_max_right _ _, by omega, by omega, by omega, fun _ => ⟨by omega, by trivial, by omega⟩⟩
  ihave HP := (show (passI i arg2 arg3 arg8 arg9 arg10 arg11 arg12 arg13 arg19 arg20 arg21 arg22 z4 z5 z6 z7 d mw nz P (fun n => P (n + 3)) q₂ q₃ w
          (cnt mw (65536 * w)) (cnt mw (65536 * w) + headOf (cnt mw (65536 * w)) (cnt mw (65536 * (w + 1)) - cnt mw (65536 * w)))
          (cnt mw (65536 * w) + headOf (cnt mw (65536 * w)) (cnt mw (65536 * (w + 1)) - cnt mw (65536 * w))) O W₀ : sProp (MM F))
      ⊢ t1Inv i arg2 arg3 arg8 arg9 arg10 arg11 arg12 arg13 arg19 arg20 arg21 arg22 z4 z5 z6 z7 d mw nz P (fun n => P (n + 3)) q₂ q₃ w O W₀ 0
        (BitVec.ofNat 32 (cnt mw (65536 * w)), Scalar.addi (BitVec.ofNat 32 (cnt mw (65536 * w))) (Scalar.minsi (Scalar.andi (Scalar.subi 8#32 (Scalar.andi (BitVec.ofNat 32 (cnt mw (65536 * w))) 7#32)) 7#32)
          (extractAt ![0] (k1_pay290 v34) inpos_S1_p0)), 0#32)
      from by rw [e55]; exact passI_t1 i arg2 arg3 arg8 arg9 arg10 arg11 arg12 arg13 arg19 arg20 arg21 arg22 z4 z5 z6 z7 (si := 0) (fd := 0) hF0) $$ HP
  iapply (Scf.wp_for_bind frame (wpE (defs₀ (F := F)) 𝒱₀ (thr d i) none) Set.univ k1_t1_loop.lb k1_t1_loop.ub k1_t1_loop.st k1_t1_ok _ _
    (t1Inv i arg2 arg3 arg8 arg9 arg10 arg11 arg12 arg13 arg19 arg20 arg21 arg22 z4 z5 z6 z7 d mw nz P (fun n => P (n + 3)) q₂ q₃ w O W₀)
    (fun k acc => t1_body i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 (sc := P) (of := fun n => P (n + 3)) (nz := nz) hb _ v13 v16 _ _ v34 _ _ _ _ l0 l1 l2 l3 l4 l5 w hw rfl h36 rfl e50 rfl
      (fun x => r0 _) (fun x => r1 _) (fun x => r2 _) (fun x => r3 _) (fun x => r4 _) (fun x => r5 _) q₂ q₃ O W₀ k acc)) $$ HP
  rw [show Scf.trips k1_t1_loop.lb k1_t1_loop.ub k1_t1_loop.st = 16 from rfl]
  iintro %acc HP
  unfold t1Inv
  icases HP with ⟨%φ, %fd, %hfacts, HP⟩
  obtain ⟨rfl, hF⟩ := hfacts
  dsimp only
  have eo : 65536 * w + 4096 * 16 = 65536 * (w + 1) := by omega
  rw [eo]
  have hF' := hF
  unfold FlAt at hF'
  dsimp only at hF'
  rw [eo] at hF'
  obtain ⟨f1, f2, f3, f4, f5, f6⟩ := hF'
  have hhl := headOf_le (a := cnt mw (65536 * w)) (n := cnt mw (65536 * (w + 1)) - cnt mw (65536 * w))
  have hTI : TI (cnt mw (65536 * (w + 1))) 2048 φ := ⟨by omega, by omega, f4⟩
  have hfd : fd ≠ 0 := fun h => by have := (f6 h).2.2; omega
  have es : cnt mw (65536 * w) + (if fd = 0 then headOf (cnt mw (65536 * w)) (cnt mw (65536 * (w + 1)) - cnt mw (65536 * w)) else 0) = cnt mw (65536 * w) := by rw [if_neg hfd]; rfl
  rw [es]
  have e58 : Scalar.subi 65536#32 (extractAt ![0] (k1_pay290 v34) inpos_S1_p0) = BitVec.ofNat 32 (zlen (cnt mw (65536 * w)) (cnt mw (65536 * (w + 1)))) := by
    rw [h36]; exact zlen_word hp
  have e37 : Scalar.addi (BitVec.ofNat 32 (cnt mw (65536 * w))) (extractAt ![0] (k1_pay290 v34) inpos_S1_p0) = BitVec.ofNat 32 (cnt mw (65536 * (w + 1))) := by
    rw [h36, add_ofNat]; exact congrArg (BitVec.ofNat 32) (by omega)
  iapply (assume_ok (c := thr d i) (chk55_ok hTI hb2 _ _ e37))
  iapply Hk $$ []
  · ipureintro
    refine ⟨h36, e37, rfl, e58, ?_, hTI, by omega⟩
    have hv : BitVec.ofNat 32 w = Scalar.addi (Scalar.muli (BitVec.ofNat 32 (i 1).val) 2#32) (BitVec.ofNat 32 (i 0).val) := by
      rw [show (2#32 : BitVec 32) = BitVec.ofNat 32 2 from rfl, mul_ofNat, add_ofNat]
      exact congrArg (BitVec.ofNat 32) (by omega)
    unfold zendW
    rw [h17, ← hv]
  isplitl [H14]; · iexact H14
  isplitl [H15]; · iexact H15
  unfold passI
  iexact HP

end Cert.Proof.Vox
-- ==== Proof.Main5.lean ====
/-
  The zero rows' whole blocks are sent off, the rings' first rows are repeated, and the first of the last blocks goes out.
-/
module

public import proofs.«01_k».proof.Proof.Bits
public import proofs.«01_k».proof.Proof.Main4

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {mw : ℕ → BitVec 32} {d : Dev nD} {Y : ℕ → ℕ → F .f32} {a b : ℕ}

/-- A program run to its end, then the rest. -/
theorem wp_into {c : Thread nD τ} {α β : Type} {p : Prog (TpuEff nD τ sig (Elt F) Λ₀ c.2) α} {k : α → Prog (TpuEff nD τ sig (Elt F) Λ₀ c.2) β} {Q : β → sProp (MM F)} :
    (wp frame (wpE (defs₀ (F := F)) 𝒱₀ c none) Set.univ p (fun x => wp frame (wpE (defs₀ (F := F)) 𝒱₀ c none) Set.univ (k x) Q) : sProp (MM F))
      ⊢ wp frame (wpE (defs₀ (F := F)) 𝒱₀ c none) Set.univ (p >>= k) Q := by
  rw [wp_bind]

variable (i : grid1.Coords) (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

theorem t11_body (v13 v16 v31 v36 v37 v57 v58 v61 : BitVec 32) (h52 : k1_chk52 i v13 v16 v31 v36) (h55 : k1_chk55 v31 v36 v57) (G : ℕ → BitVec 32) (k : Fin k1_t11_loop.trips) (acc : BitVec 32) :
    (own (F := F) (e := .i32) (thr d i) arg12 fullShare Set.univ (shadG 8192 (16 * k.val) G) : sProp (MM F))
      ⊢ wp frame (wpE (defs₀ (F := F)) 𝒱₀ (thr d i) none) Set.univ (k1_t11_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 h52 v37 v57 h55 v58 v61 k acc)
        (fun _ => own (F := F) (e := .i32) (thr d i) arg12 fullShare Set.univ (shadG 8192 (16 * (k.val + 1)) G)) := by
  have hk : k.val < 128 := k.isLt
  unfold k1_t11_body
  exact refresh_step (c := thr d i) rfl (by rw [k1_off27_eq]; rfl) (by rw [k1_off28_eq]; show _ + _ = _; omega) (by omega)

theorem t12_body (v13 v16 v31 v36 v37 v57 v58 v61 : BitVec 32) (h52 : k1_chk52 i v13 v16 v31 v36) (h55 : k1_chk55 v31 v36 v57) (G : ℕ → F .f32) (k : Fin k1_t12_loop.trips) (acc : BitVec 32) :
    (own (F := F) (e := .f32) (thr d i) arg13 fullShare Set.univ (shadG 24576 (16 * k.val) G) : sProp (MM F))
      ⊢ wp frame (wpE (defs₀ (F := F)) 𝒱₀ (thr d i) none) Set.univ (k1_t12_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 h52 v37 v57 h55 v58 v61 k acc)
        (fun _ => own (F := F) (e := .f32) (thr d i) arg13 fullShare Set.univ (shadG 24576 (16 * (k.val + 1)) G)) := by
  have hk : k.val < 384 := k.isLt
  unfold k1_t12_body
  exact refresh_step (c := thr d i) rfl (by rw [k1_off29_eq]; rfl) (by rw [k1_off30_eq]; show _ + _ = _; omega) (by omega)

/-- The rings' first rows are repeated after their ends. -/
theorem refresh2 (v13 v16 v31 v36 v37 v57 v58 v61 : BitVec 32) (h52 : k1_chk52 i v13 v16 v31 v36) (h55 : k1_chk55 v31 v36 v57) {α : Type} {J : Prog (TpuEff nD τ sig (Elt F) Λ₀ (thr d i).2) α} {Q : α → sProp (MM F)} :
    (iprop(ringO d i arg12 mw a b ∗ ringX d i arg13 Y mw a b b b) : sProp (MM F))
      ⊢ iprop((∀ (G : ℕ → BitVec 32) (H : ℕ → F .f32), ⌜RT mw Y a b G H⌝ -∗ iprop(own (F := F) (e := .i32) (thr d i) arg12 fullShare Set.univ G ∗ own (F := F) (e := .f32) (thr d i) arg13 fullShare Set.univ H)
          -∗ wp frame (wpE (defs₀ (F := F)) 𝒱₀ (thr d i) none) Set.univ J Q)
        -∗ wp frame (wpE (defs₀ (F := F)) 𝒱₀ (thr d i) none) Set.univ
          (Scf.Loop.for k1_t11_loop k1_t11_ok 0#32 (k1_t11_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 h52 v37 v57 h55 v58 v61) >>= fun _ =>
            Scf.Loop.for k1_t12_loop k1_t12_ok 0#32 (k1_t12_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 h52 v37 v57 h55 v58 v61) >>= fun _ => J) Q) := by
  iintro ⟨HO, HX⟩ HK
  unfold ringO ringX
  icases HO with ⟨%G, HO, %hG⟩
  icases HX with ⟨%H, HX, %hH⟩
  iapply (Scf.wp_for_bind frame (wpE (defs₀ (F := F)) 𝒱₀ (thr d i) none) Set.univ k1_t11_loop.lb k1_t11_loop.ub k1_t11_loop.st k1_t11_ok 0#32
    (k1_t11_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 h52 v37 v57 h55 v58 v61)
    (fun n _ => own (F := F) (e := .i32) (thr d i) arg12 fullShare Set.univ (shadG 8192 (16 * n) G))
    (fun k acc => t11_body i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 v37 v57 v58 v61 h52 h55 G k acc)) $$ [HO]
  · rw [show shadG 8192 (16 * 0) G = G from shadG_zero]; iexact HO
  iintro %x1 HO
  iapply (Scf.wp_for_bind frame (wpE (defs₀ (F := F)) 𝒱₀ (thr d i) none) Set.univ k1_t12_loop.lb k1_t12_loop.ub k1_t12_loop.st k1_t12_ok 0#32
    (k1_t12_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 h52 v37 v57 h55 v58 v61)
    (fun n _ => own (F := F) (e := .f32) (thr d i) arg13 fullShare Set.univ (shadG 24576 (16 * n) H))
    (fun k acc => t12_body i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 v37 v57 v58 v61 h52 h55 H k acc)) $$ [HX]
  · rw [show shadG 24576 (16 * 0) H = H from shadG_zero]; iexact HX
  iintro %x2 HX
  iapply HK $$ %(shadG 8192 2048 G) %(shadG 24576 6144 H) [] [HO HX]
  · ipureintro
    exact ⟨shadG_ring _ hG, ⟨shadG_ring3 _ (by omega) hH.1, shadG_ring3 _ (by omega) hH.2.1, shadG_ring3 _ (by omega) hH.2.2⟩,
      fun n hn => shadG_shad (by omega) n hn, fun n hn => shadG_shad (by omega) n hn⟩
  isplitl [HO]; · iexact HO
  iexact HX

/-- The fills, from a row number the kernel has computed. -/
theorem fill_loop' {fl : ℕ → F .f32} {zs ze f n : ℕ} {W W' : Set ℕ} (h8 : 0 < n → 8 ∣ f) (hz : zs ≤ f) (hn : f + 2048 * n ≤ ze) (he : ze ≤ 2097152) (v67 : BitVec 32) (h67 : v67 = BitVec.ofNat 32 f)
    (v13 v16 v31 v36 v37 v57 v58 v61 : BitVec 32) (h52 : k1_chk52 i v13 v16 v31 v36) (h55 : k1_chk55 v31 v36 v57)
    (htr : (k1_t9_loop i v13 v16 v31 v36).trips = n) {α : Type} {body} {kk : BitVec 32 → Prog (TpuEff nD τ sig (Elt F) Λ₀ (thr d i).2) α} {Q : α → sProp (MM F)} :
    (fills i arg8 arg9 arg17 arg18 arg23 arg24 d fl zs ze f n W W' 0 : sProp (MM F))
      ⊢ iprop((fills i arg8 arg9 arg17 arg18 arg23 arg24 d fl zs ze f n W W' n
          -∗ wp frame (wpE (defs₀ (F := F)) 𝒱₀ (thr d i) none) Set.univ (kk (BitVec.ofNat 32 (f + 2048 * n))) Q)
        -∗ wp frame (wpE (defs₀ (F := F)) 𝒱₀ (thr d i) none) Set.univ
          (Scf.Loop.for (k1_t9_loop i v13 v16 v31 v36) (k1_t9_ok i v13 v16 v31 v36 h52) v67 (k1_t9_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 h52 v37 v57 h55 v58 v61)
            >>= fun v76 => Scf.Loop.for (k1_t10_loop i v13 v16 v31 v36) (k1_t10_ok i v13 v16 v31 v36 h52) v76 body >>= kk) Q) := by
  subst h67
  exact fill_loop i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 h8 hz hn he v13 v16 v31 v36 v37 v57 v58 v61 h52 h55 htr

variable {t w φ : ℕ} {O : CellTallies nD τ sig (HIx 2)} {W₀ : Waits sig (HIx 2)} {fl : ℕ → F .f32} {W W' : Set ℕ}

theorem zhd_word (h : Piece t a b w) : Scalar.minsi (Scalar.andi (Scalar.subi 8#32 (Scalar.andi (BitVec.ofNat 32 (zst t a w)) 7#32)) 7#32) (BitVec.ofNat 32 (zlen a b)) = BitVec.ofNat 32 (zhd t a b w) := by
  have h1 := h.zlen_le
  have h2 := h.zend_le
  exact head_word (by omega) (by omega)

theorem zend_TI (h : Piece t a b w) : TI (zst t a w + zlen a b) 2048 (zst t a w + zhd t a b w + 2048 * znb t a b w) := by
  have h1 : zhd t a b w ≤ zlen a b := zhd_le
  have h2 : zhd t a b w < zlen a b → 8 ∣ zst t a w + zhd t a b w := zhd_al
  unfold znb
  refine ⟨by omega, by omega, ?_⟩
  omega

/-- The stage from the zero rows' whole blocks to the first of the last blocks. -/
theorem part35_ok (h : Piece t a b w) (hw : w = 2 * (i 1).val + (i 0).val) (hT : TI b 2048 φ) (haφ : a ≤ φ)
    (v13 v16 v31 v36 v37 v57 v58 v61 : BitVec 32) (h52 : k1_chk52 i v13 v16 v31 v36) (h55 : k1_chk55 v31 v36 v57)
    (h17 : Scalar.addi v13 v16 = BitVec.ofNat 32 t) (h31 : v31 = BitVec.ofNat 32 a) (h36 : v36 = BitVec.ofNat 32 (b - a)) (h37 : v37 = BitVec.ofNat 32 b) (h57 : v57 = BitVec.ofNat 32 φ)
    (h58 : v58 = BitVec.ofNat 32 (zlen a b)) (h61 : v61 = zendW i v13 v16 v31 v36) {Q : _ → sProp (MM F)} :
    (iprop((ringO d i arg12 mw a b ∗ ringX d i arg13 Y mw a b b b
        ∗ outO (e := .i32) (thr d i) arg9 (Set.Ico a b) (Set.Ico a φ) (occV mw)
        ∗ outO (e := .f32) (thr d i) arg8 (Set.Ico (3 * a) (3 * b)) (Set.Ico (3 * a) (3 * φ)) (xwV Y mw) ∗ tick (thr d i) default O W₀)
        ∗ semVal (thr d i, .dma z10.sem) 0 ∗ semVal (thr d i, .dma z11.sem) 0
        ∗ fills i arg8 arg9 arg17 arg18 arg23 arg24 d fl (zst t a w) (zst t a w + zlen a b) (zst t a w + zhd t a b w) (znb t a b w) W W' 0) : sProp (MM F))
      ⊢ iprop((∀ v62 v66 v67 v70 v77 h72 v88 v91 (G : ℕ → BitVec 32) (H : ℕ → F .f32), ⌜RT mw Y a b G H ∧ v62 = BitVec.ofNat 32 (zst t a w) ∧ v66 = BitVec.ofNat 32 (zhd t a b w) ∧ v67 = BitVec.ofNat 32 (zst t a w + zhd t a b w)
          ∧ v77 = BitVec.ofNat 32 (zst t a w + zhd t a b w + 2048 * znb t a b w) ∧ v88 = tw v37 v57 1 ∧ v91 = ab (BitVec.ofNat 32 512) v37 (tw v37 v57 1)⌝
          -∗ iprop(ringC (thr d i) arg12 arg13 arg9 arg8 mw Y G H a b φ O W₀ 1 ∗ semVal (thr d i, .dma z10.sem) 0 ∗ semVal (thr d i, .dma z11.sem) 0
            ∗ fills i arg8 arg9 arg17 arg18 arg23 arg24 d fl (zst t a w) (zst t a w + zlen a b) (zst t a w + zhd t a b w) (znb t a b w) W W' (znb t a b w))
          -∗ Q ⟨v62, v66, v67, v70, v77, h72, v88, v91⟩)
        -∗ wp frame (wpE (defs₀ (F := F)) 𝒱₀ (thr d i) none) Set.univ
          (k1_part35 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 h52 v37 v57 h55 v58 v61) Q) := by
  have hTz := zend_TI h
  have hze := h.zend_le
  have hzv : zendW i v13 v16 v31 v36 = BitVec.ofNat 32 (zst t a w + zlen a b) := by
    rw [h31, h36]; exact zend_word h (i 0).val (i 1).val hw v13 v16 h17
  have e62 : Scalar.subi v61 v58 = BitVec.ofNat 32 (zst t a w) := by rw [h61, hzv, h58]; exact zst_word h
  have e66 : Scalar.minsi (Scalar.andi (Scalar.subi 8#32 (Scalar.andi (Scalar.subi v61 v58) 7#32)) 7#32) v58 = BitVec.ofNat 32 (zhd t a b w) := by
    rw [e62, h58]; exact zhd_word h
  have e67 : Scalar.addi (Scalar.subi v61 v58) (Scalar.minsi (Scalar.andi (Scalar.subi 8#32 (Scalar.andi (Scalar.subi v61 v58) 7#32)) 7#32) v58)
      = BitVec.ofNat 32 (zst t a w + zhd t a b w) := by rw [e66, e62, add_ofNat]
  have eb : Scalar.addi v31 v36 = BitVec.ofNat 32 b := by
    rw [h31, h36, add_ofNat]; exact congrArg (BitVec.ofNat 32) (by have := h.hab; omega)
  have hb2 : b ≤ 2097152 := h.hbt.trans h.t_le
  have e37 : v37 = Scalar.addi v31 v36 := h37.trans eb.symm
  have htr : (k1_t9_loop i v13 v16 v31 v36).trips = znb t a b w := by rw [h31, h36]; exact t9_trips i h hw v13 v16 h17
  have h72 := chk72_ok i hTz hze v13 v16 v31 v36 hzv
  iintro ⟨⟨HO, HX, H9, H8, HT⟩, S1, S2, HF⟩ HK
  rw [k1_part35_eq_skeleton]; unfold k1_part35_skel
  simp only [bind_assoc, pure_bind]
  iapply (fill_loop' i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 (fl := fl) (W := W) (W' := W') (by
      intro hn
      have h1 : zhd t a b w ≤ zlen a b := zhd_le
      refine zhd_al ?_
      unfold znb at hn; omega) (by omega) hTz.le hze _ e67 v13 v16 v31 v36 v37 v57 v58 v61 h52 h55 htr) $$ HF
  iintro HF
  iapply (assume_ok (c := thr d i) h72)
  iapply (refresh2 i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 v37 v57 v58 v61 h52 h55) $$ [HO HX]
  · isplitl [HO]; · iexact HO
    iexact HX
  iintro %G %H %hR ⟨HO, HX⟩
  subst e37
  iapply (ring_bit (c := thr d i) (n := 0) (G := G) (H := H) (O := O) (W₀ := W₀) (by omega) hT hb2 haφ hR eb h57 (cond6_eq v31 v36 v57) (off31_eq v31 v36 v57) (off32_eq v31 v36 v57) (off33_eq v31 v36 v57) (off34_eq v31 v36 v57)
    (by exact rfl) (by exact rfl)) $$ [HO HX H9 H8 HT S1 S2]
  · unfold ringC bitC
    isplitl [HO HX H9 H8 HT]
    · isplitl [HO]; · iexact HO
      isplitl [HX]; · iexact HX
      isplitl [H9]; · iexact H9
      isplitl [H8]; · iexact H8
      iexact HT
    isplitl [S1]; · iexact S1
    iexact S2
  iintro ⟨HC, S1, S2⟩
  rw [wp_pure]
  imodintro
  iapply HK $$ %_ %_ %_ %_ %_ %_ %_ %_ %G %H [] [HC S1 S2 HF]
  · ipureintro
    exact ⟨hR, e62, e66, e67, rfl, rfl, rfl⟩
  isplitl [HC]; · iexact HC
  isplitl [S1]; · iexact S1
  isplitl [S2]; · iexact S2
  iexact HF

end Cert.Proof.Vox
-- ==== Proof.Main6.lean ====
/-
  The next of the last blocks, of the rows and of the zero rows.
-/
module

public import proofs.«01_k».proof.Proof.Main5

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {mw : ℕ → BitVec 32} {d : Dev nD} {Y : ℕ → ℕ → F .f32} {G : ℕ → BitVec 32} {H : ℕ → F .f32} {fl : ℕ → F .f32} {a b φ zs ze ff : ℕ} {q : PosShare TreeShare}
  {O : CellTallies nD τ sig (HIx 2)} {W₀ : Waits sig (HIx 2)}
variable (i : grid1.Coords) (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

/-- Five digits of the rows. -/
theorem part36_ok (v31 v36 v37 v57 v88 : BitVec 32) (v91 : BitVec 1) (h55 : k1_chk55 v31 v36 v57) (hT : TI b 2048 φ) (hb : b ≤ 2097152) (ha : a ≤ φ) (hR : RT mw Y a b G H) (eb : Scalar.addi v31 v36 = BitVec.ofNat 32 b) (h37 : v37 = Scalar.addi v31 v36) (h57 : v57 = BitVec.ofNat 32 φ) (h88 : v88 = tw v37 v57 1) (h91 : v91 = ab (BitVec.ofNat 32 512) v37 (tw v37 v57 1)) {Q : _ → sProp (MM F)} :
    (iprop(ringC (thr d i) arg12 arg13 arg9 arg8 mw Y G H a b φ O W₀ 1 ∗ semVal (thr d i, .dma z12.sem) 0 ∗ semVal (thr d i, .dma z13.sem) 0 ∗ semVal (thr d i, .dma z14.sem) 0 ∗ semVal (thr d i, .dma z15.sem) 0 ∗ semVal (thr d i, .dma z16.sem) 0 ∗ semVal (thr d i, .dma z17.sem) 0 ∗ semVal (thr d i, .dma z18.sem) 0 ∗ semVal (thr d i, .dma z19.sem) 0 ∗ semVal (thr d i, .dma z20.sem) 0 ∗ semVal (thr d i, .dma z21.sem) 0) : sProp (MM F))
      ⊢ iprop((∀ v123 v126, ⌜v123 = tw v37 v57 6 ∧ v126 = ab (BitVec.ofNat 32 16) v37 (tw v37 v57 6)⌝ -∗ iprop(ringC (thr d i) arg12 arg13 arg9 arg8 mw Y G H a b φ O W₀ 6 ∗ semVal (thr d i, .dma z12.sem) 0 ∗ semVal (thr d i, .dma z13.sem) 0 ∗ semVal (thr d i, .dma z14.sem) 0 ∗ semVal (thr d i, .dma z15.sem) 0 ∗ semVal (thr d i, .dma z16.sem) 0 ∗ semVal (thr d i, .dma z17.sem) 0 ∗ semVal (thr d i, .dma z18.sem) 0 ∗ semVal (thr d i, .dma z19.sem) 0 ∗ semVal (thr d i, .dma z20.sem) 0 ∗ semVal (thr d i, .dma z21.sem) 0)
          -∗ Q ⟨v123, v126⟩)
        -∗ wp frame (wpE (defs₀ (F := F)) 𝒱₀ (thr d i) none) Set.univ
          (k1_part36 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v31 v36 v37 v57 h55 v88 v91) Q) := by
  subst h88 h91 h37
  iintro ⟨HC, S12, S13, S14, S15, S16, S17, S18, S19, S20, S21⟩ HK
  rw [k1_part36_eq_skeleton]; unfold k1_part36_skel
  simp only [bind_assoc, pure_bind]
  iapply (ring_bit (c := thr d i) (n := 1) (a := a) (b := b) (φ := φ) (mw := mw) (Y := Y) (G := G) (H := H) (O := O) (W₀ := W₀) (by omega) hT hb ha hR eb h57 (cond7_eq v31 v36 v57) (off35_eq v31 v36 v57) (off36_eq v31 v36 v57) (off37_eq v31 v36 v57) (off38_eq v31 v36 v57)
    (by exact rfl) (by exact rfl)) $$ [HC S12 S13]
  · isplitl [HC]; · iexact HC
    isplitl [S12]; · iexact S12
    iexact S13
  iintro ⟨HC, S12, S13⟩
  iapply (ring_bit (c := thr d i) (n := 2) (a := a) (b := b) (φ := φ) (mw := mw) (Y := Y) (G := G) (H := H) (O := O) (W₀ := W₀) (by omega) hT hb ha hR eb h57 (cond8_eq v31 v36 v57) (off39_eq v31 v36 v57) (off40_eq v31 v36 v57) (off41_eq v31 v36 v57) (off42_eq v31 v36 v57)
    (by exact rfl) (by exact rfl)) $$ [HC S14 S15]
  · isplitl [HC]; · iexact HC
    isplitl [S14]; · iexact S14
    iexact S15
  iintro ⟨HC, S14, S15⟩
  iapply (ring_bit (c := thr d i) (n := 3) (a := a) (b := b) (φ := φ) (mw := mw) (Y := Y) (G := G) (H := H) (O := O) (W₀ := W₀) (by omega) hT hb ha hR eb h57 (cond9_eq v31 v36 v57) (off43_eq v31 v36 v57) (off44_eq v31 v36 v57) (off45_eq v31 v36 v57) (off46_eq v31 v36 v57)
    (by exact rfl) (by exact rfl)) $$ [HC S16 S17]
  · isplitl [HC]; · iexact HC
    isplitl [S16]; · iexact S16
    iexact S17
  iintro ⟨HC, S16, S17⟩
  iapply (ring_bit (c := thr d i) (n := 4) (a := a) (b := b) (φ := φ) (mw := mw) (Y := Y) (G := G) (H := H) (O := O) (W₀ := W₀) (by omega) hT hb ha hR eb h57 (cond10_eq v31 v36 v57) (off47_eq v31 v36 v57) (off48_eq v31 v36 v57) (off49_eq v31 v36 v57) (off50_eq v31 v36 v57)
    (by exact rfl) (by exact rfl)) $$ [HC S18 S19]
  · isplitl [HC]; · iexact HC
    isplitl [S18]; · iexact S18
    iexact S19
  iintro ⟨HC, S18, S19⟩
  iapply (ring_bit (c := thr d i) (n := 5) (a := a) (b := b) (φ := φ) (mw := mw) (Y := Y) (G := G) (H := H) (O := O) (W₀ := W₀) (by omega) hT hb ha hR eb h57 (cond11_eq v31 v36 v57) (off51_eq v31 v36 v57) (off52_eq v31 v36 v57) (off53_eq v31 v36 v57) (off54_eq v31 v36 v57)
    (by exact rfl) (by exact rfl)) $$ [HC S20 S21]
  · isplitl [HC]; · iexact HC
    isplitl [S20]; · iexact S20
    iexact S21
  iintro ⟨HC, S20, S21⟩
  rw [wp_pure]
  imodintro
  iapply HK $$ %_ %_ [] [HC S12 S13 S14 S15 S16 S17 S18 S19 S20 S21]
  · ipureintro
    exact ⟨rfl, rfl⟩
  isplitl [HC]; · iexact HC
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  iexact S21

/-- Five digits of the zero rows. -/
theorem part38_ok (v13 v16 v31 v36 v61 v77 v159 : BitVec 32) (v162 : BitVec 1) (v163 : BitVec 32) (h72 : k1_chk72 i v13 v16 v31 v36 v77) (hT : TI ze 2048 φ) (hb : ze ≤ 2097152) (ha : zs ≤ φ) (eb : zendW i v13 v16 v31 v36 = BitVec.ofNat 32 ze) (h61 : v61 = zendW i v13 v16 v31 v36) (h77 : v77 = BitVec.ofNat 32 φ) (h159 : v159 = tw v61 v77 2) (h162 : v162 = ab (BitVec.ofNat 32 256) v61 (tw v61 v77 2)) {Q : _ → sProp (MM F)} :
    (iprop(zeroC (thr d i) arg17 arg18 q arg9 arg8 fl zs ze ff φ O W₀ 2 ∗ semVal (thr d i, .dma z30.sem) 0 ∗ semVal (thr d i, .dma z31.sem) 0 ∗ semVal (thr d i, .dma z32.sem) 0 ∗ semVal (thr d i, .dma z33.sem) 0 ∗ semVal (thr d i, .dma z34.sem) 0 ∗ semVal (thr d i, .dma z35.sem) 0 ∗ semVal (thr d i, .dma z36.sem) 0 ∗ semVal (thr d i, .dma z37.sem) 0 ∗ semVal (thr d i, .dma z38.sem) 0 ∗ semVal (thr d i, .dma z39.sem) 0) : sProp (MM F))
      ⊢ iprop((∀ v194 v197 v198, ⌜v194 = tw v61 v77 7 ∧ v197 = ab (BitVec.ofNat 32 8) v61 (tw v61 v77 7)⌝ -∗ iprop(zeroC (thr d i) arg17 arg18 q arg9 arg8 fl zs ze ff φ O W₀ 7 ∗ semVal (thr d i, .dma z30.sem) 0 ∗ semVal (thr d i, .dma z31.sem) 0 ∗ semVal (thr d i, .dma z32.sem) 0 ∗ semVal (thr d i, .dma z33.sem) 0 ∗ semVal (thr d i, .dma z34.sem) 0 ∗ semVal (thr d i, .dma z35.sem) 0 ∗ semVal (thr d i, .dma z36.sem) 0 ∗ semVal (thr d i, .dma z37.sem) 0 ∗ semVal (thr d i, .dma z38.sem) 0 ∗ semVal (thr d i, .dma z39.sem) 0)
          -∗ Q ⟨v194, v197, v198⟩)
        -∗ wp frame (wpE (defs₀ (F := F)) 𝒱₀ (thr d i) none) Set.univ
          (k1_part38 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 v61 v77 h72 v159 v162 v163) Q) := by
  subst h159 h162 h61
  iintro ⟨HC, S30, S31, S32, S33, S34, S35, S36, S37, S38, S39⟩ HK
  rw [k1_part38_eq_skeleton]; unfold k1_part38_skel
  simp only [bind_assoc, pure_bind]
  iapply (zero_bit (c := thr d i) (n := 2) (q := q) (fl := fl) (zs := zs) (ze := ze) (ff := ff) (φ := φ) (O := O) (W₀ := W₀) (by omega) hT hb ha eb h77 (cond18_eq i v13 v16 v31 v36 v77) (by exact rfl) (off67_eq i v13 v16 v31 v36 v77) (by exact rfl) (off68_eq i v13 v16 v31 v36 v77)
    (by exact rfl) (by exact rfl)) $$ [HC S30 S31]
  · isplitl [HC]; · iexact HC
    isplitl [S30]; · iexact S30
    iexact S31
  iintro ⟨HC, S30, S31⟩
  iapply (zero_bit (c := thr d i) (n := 3) (q := q) (fl := fl) (zs := zs) (ze := ze) (ff := ff) (φ := φ) (O := O) (W₀ := W₀) (by omega) hT hb ha eb h77 (cond19_eq i v13 v16 v31 v36 v77) (by exact rfl) (off69_eq i v13 v16 v31 v36 v77) (by exact rfl) (off70_eq i v13 v16 v31 v36 v77)
    (by exact rfl) (by exact rfl)) $$ [HC S32 S33]
  · isplitl [HC]; · iexact HC
    isplitl [S32]; · iexact S32
    iexact S33
  iintro ⟨HC, S32, S33⟩
  iapply (zero_bit (c := thr d i) (n := 4) (q := q) (fl := fl) (zs := zs) (ze := ze) (ff := ff) (φ := φ) (O := O) (W₀ := W₀) (by omega) hT hb ha eb h77 (cond20_eq i v13 v16 v31 v36 v77) (by exact rfl) (off71_eq i v13 v16 v31 v36 v77) (by exact rfl) (off72_eq i v13 v16 v31 v36 v77)
    (by exact rfl) (by exact rfl)) $$ [HC S34 S35]
  · isplitl [HC]; · iexact HC
    isplitl [S34]; · iexact S34
    iexact S35
  iintro ⟨HC, S34, S35⟩
  iapply (zero_bit (c := thr d i) (n := 5) (q := q) (fl := fl) (zs := zs) (ze := ze) (ff := ff) (φ := φ) (O := O) (W₀ := W₀) (by omega) hT hb ha eb h77 (cond21_eq i v13 v16 v31 v36 v77) (by exact rfl) (off73_eq i v13 v16 v31 v36 v77) (by exact rfl) (off74_eq i v13 v16 v31 v36 v77)
    (by exact rfl) (by exact rfl)) $$ [HC S36 S37]
  · isplitl [HC]; · iexact HC
    isplitl [S36]; · iexact S36
    iexact S37
  iintro ⟨HC, S36, S37⟩
  iapply (zero_bit (c := thr d i) (n := 6) (q := q) (fl := fl) (zs := zs) (ze := ze) (ff := ff) (φ := φ) (O := O) (W₀ := W₀) (by omega) hT hb ha eb h77 (cond22_eq i v13 v16 v31 v36 v77) (by exact rfl) (off75_eq i v13 v16 v31 v36 v77) (by exact rfl) (off76_eq i v13 v16 v31 v36 v77)
    (by exact rfl) (by exact rfl)) $$ [HC S38 S39]
  · isplitl [HC]; · iexact HC
    isplitl [S38]; · iexact S38
    iexact S39
  iintro ⟨HC, S38, S39⟩
  rw [wp_pure]
  imodintro
  iapply HK $$ %_ %_ %_ [] [HC S30 S31 S32 S33 S34 S35 S36 S37 S38 S39]
  · ipureintro
    exact ⟨rfl, rfl⟩
  isplitl [HC]; · iexact HC
  isplitl [S30]; · iexact S30
  isplitl [S31]; · iexact S31
  isplitl [S32]; · iexact S32
  isplitl [S33]; · iexact S33
  isplitl [S34]; · iexact S34
  isplitl [S35]; · iexact S35
  isplitl [S36]; · iexact S36
  isplitl [S37]; · iexact S37
  isplitl [S38]; · iexact S38
  iexact S39

end Cert.Proof.Vox
-- ==== Proof.EdgeC.lean ====
/-
  The lanes of the edges: each part of the body puts a few groups of sixteen lanes in place.
-/
module

public import proofs.«01_k».proof.Proof.Edge

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD} {α : Type} {Q : α → sProp (MM F)}
variable (i : grid1.Coords) (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

/-- Lanes 0 to 47 of an edge. -/
theorem part14_ok (v2 : IVec S16 32) (v31 : BitVec 32) (v36 : BitVec 32) (v57_1 : BitVec 32) (v137 : BitVec 32) (v138 : BitVec 32) (k1_h14 : k1_cond14 v31 v36 v57_1 = 1#1)
    {a l : ℕ} {G V : ℕ → BitVec 32} (hl : 0 < l) (hl8 : l < 9) (ha : a < 2 ^ 22) (hR : ∀ j < l, G ((a + j) % 8192) = V (a + j))
    (q2 : v2 = lanesV) (qa : v137 = BitVec.ofNat 32 a) (ql : v138 = BitVec.ofNat 32 l)
    {k : (PUnit) → Prog (TpuEff nD τ sig (Elt F) Λ₀ (.scVector ((i 0).castLE hcore1) ((i 1).castLE hsub1))) α} :
    (iprop(edgeB (F := F) (e := .i32) (thr d i) arg19 0 (iT a l) ∗ edgeB (F := F) (e := .i32) (thr d i) arg20 0 (vT V a l) ∗ own (F := F) (e := .i32) (thr d i) arg12 fullShare Set.univ G) : sProp (MM F))
      ⊢ iprop((iprop(edgeB (F := F) (e := .i32) (thr d i) arg19 48 (iT a l) ∗ edgeB (F := F) (e := .i32) (thr d i) arg20 48 (vT V a l) ∗ own (F := F) (e := .i32) (thr d i) arg12 fullShare Set.univ G) -∗ wp frame (wpE (defs₀ (F := F)) 𝒱₀ (thr d i) none) Set.univ (k ⟨⟩) Q)
        -∗ wp frame (wpE (defs₀ (F := F)) 𝒱₀ (thr d i) none) Set.univ (k1_part14 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v31 v36 v57_1 v137 v138 k1_h14 >>= k) Q) := by
  subst q2
  subst qa
  subst ql
  rw [k1_part14_eq_skeleton]; unfold k1_part14_skel; simp only [bind_assoc, pure_bind]
  iintro ⟨Hi, Hv, Hr⟩ Hk
  have i0 : ∀ x : S16.Idx, (k1_pay134 lanesV (BitVec.ofNat 32 a) (BitVec.ofNat 32 l)) x = iT a l (0 + (x 0).val) := fun x => eI_at (n := 0) (a := a) (l := l) (by omega) hl (by omega) x
  iapply (edge_put (c := thr d i) (m := arg19) (n := 0) (T := iT a l) rfl rfl i0) $$ Hi; iintro Hi
  have e232 : ∀ x : S16.Idx, ((k1_pay135 lanesV (BitVec.ofNat 32 a) (BitVec.ofNat 32 l)) x).toNat = (a + min (0 + (x 0).val) (l - 1)) % 8192 := fun x => eR_at (n := 0) (a := a) (l := l) (by omega) hl (by omega) (by omega) x
  have ck1_hw56 : k1_chk56 v31 v36 v57_1 (k1_pay135 lanesV (BitVec.ofNat 32 a) (BitVec.ofNat 32 l)) := fun _ => chk_one (fun x => by rw [e232 x]; omega)
  iapply (assume_ok (c := thr d i) ck1_hw56)
  iapply (own_ldIdx (c := thr d i) (m := arg12)) $$ Hr; iintro %v233 %hv233 Hr
  have u0 : ∀ x : S16.Idx, v233 x = vT V a l (0 + (x 0).val) := fun x => (hv233 x).trans ((congrArg G (e232 x)).trans (hR (min (0 + (x 0).val) (l - 1)) (by omega)))
  iapply (edge_put (c := thr d i) (m := arg20) (n := 0) (T := vT V a l) rfl rfl u0) $$ Hv; iintro Hv
  have i16 : ∀ x : S16.Idx, (k1_pay136 lanesV (BitVec.ofNat 32 a) (BitVec.ofNat 32 l)) x = iT a l (16 + (x 0).val) := fun x => eI_at (n := 16) (a := a) (l := l) (by omega) hl (by omega) x
  iapply (edge_put (c := thr d i) (m := arg19) (n := 16) (T := iT a l) rfl rfl i16) $$ Hi; iintro Hi
  have e244 : ∀ x : S16.Idx, ((k1_pay137 lanesV (BitVec.ofNat 32 a) (BitVec.ofNat 32 l)) x).toNat = (a + min (16 + (x 0).val) (l - 1)) % 8192 := fun x => eR_at (n := 16) (a := a) (l := l) (by omega) hl (by omega) (by omega) x
  have ck1_hw57 : k1_chk57 v31 v36 v57_1 (k1_pay137 lanesV (BitVec.ofNat 32 a) (BitVec.ofNat 32 l)) := fun _ => chk_one (fun x => by rw [e244 x]; omega)
  iapply (assume_ok (c := thr d i) ck1_hw57)
  iapply (own_ldIdx (c := thr d i) (m := arg12)) $$ Hr; iintro %v245 %hv245 Hr
  have u16 : ∀ x : S16.Idx, v245 x = vT V a l (16 + (x 0).val) := fun x => (hv245 x).trans ((congrArg G (e244 x)).trans (hR (min (16 + (x 0).val) (l - 1)) (by omega)))
  iapply (edge_put (c := thr d i) (m := arg20) (n := 16) (T := vT V a l) rfl rfl u16) $$ Hv; iintro Hv
  have i32 : ∀ x : S16.Idx, (k1_pay138 lanesV (BitVec.ofNat 32 a) (BitVec.ofNat 32 l)) x = iT a l (32 + (x 0).val) := fun x => eI_at (n := 32) (a := a) (l := l) (by omega) hl (by omega) x
  iapply (edge_put (c := thr d i) (m := arg19) (n := 32) (T := iT a l) rfl rfl i32) $$ Hi; iintro Hi
  have e256 : ∀ x : S16.Idx, ((k1_pay139 lanesV (BitVec.ofNat 32 a) (BitVec.ofNat 32 l)) x).toNat = (a + min (32 + (x 0).val) (l - 1)) % 8192 := fun x => eR_at (n := 32) (a := a) (l := l) (by omega) hl (by omega) (by omega) x
  have ck1_hw58 : k1_chk58 v31 v36 v57_1 (k1_pay139 lanesV (BitVec.ofNat 32 a) (BitVec.ofNat 32 l)) := fun _ => chk_one (fun x => by rw [e256 x]; omega)
  iapply (assume_ok (c := thr d i) ck1_hw58)
  iapply (own_ldIdx (c := thr d i) (m := arg12)) $$ Hr; iintro %v257 %hv257 Hr
  have u32 : ∀ x : S16.Idx, v257 x = vT V a l (32 + (x 0).val) := fun x => (hv257 x).trans ((congrArg G (e256 x)).trans (hR (min (32 + (x 0).val) (l - 1)) (by omega)))
  iapply (edge_put (c := thr d i) (m := arg20) (n := 32) (T := vT V a l) rfl rfl u32) $$ Hv; iintro Hv
  iapply Hk
  isplitl [Hi]; · iexact Hi
  isplitl [Hv]; · iexact Hv
  iexact Hr

/-- Lanes 48 to 95 of an edge. -/
theorem part15_ok (v2 : IVec S16 32) (v31 : BitVec 32) (v36 : BitVec 32) (v57_1 : BitVec 32) (v137 : BitVec 32) (v138 : BitVec 32) (k1_h14 : k1_cond14 v31 v36 v57_1 = 1#1)
    {a l : ℕ} {G V : ℕ → BitVec 32} (hl : 0 < l) (hl8 : l < 9) (ha : a < 2 ^ 22) (hR : ∀ j < l, G ((a + j) % 8192) = V (a + j))
    (q2 : v2 = lanesV) (qa : v137 = BitVec.ofNat 32 a) (ql : v138 = BitVec.ofNat 32 l)
    {k : (PUnit) → Prog (TpuEff nD τ sig (Elt F) Λ₀ (.scVector ((i 0).castLE hcore1) ((i 1).castLE hsub1))) α} :
    (iprop(edgeB (F := F) (e := .i32) (thr d i) arg19 48 (iT a l) ∗ edgeB (F := F) (e := .i32) (thr d i) arg20 48 (vT V a l) ∗ own (F := F) (e := .i32) (thr d i) arg12 fullShare Set.univ G) : sProp (MM F))
      ⊢ iprop((iprop(edgeB (F := F) (e := .i32) (thr d i) arg19 96 (iT a l) ∗ edgeB (F := F) (e := .i32) (thr d i) arg20 96 (vT V a l) ∗ own (F := F) (e := .i32) (thr d i) arg12 fullShare Set.univ G) -∗ wp frame (wpE (defs₀ (F := F)) 𝒱₀ (thr d i) none) Set.univ (k ⟨⟩) Q)
        -∗ wp frame (wpE (defs₀ (F := F)) 𝒱₀ (thr d i) none) Set.univ (k1_part15 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v31 v36 v57_1 v137 v138 k1_h14 >>= k) Q) := by
  subst q2
  subst qa
  subst ql
  rw [k1_part15_eq_skeleton]; unfold k1_part15_skel; simp only [bind_assoc, pure_bind]
  iintro ⟨Hi, Hv, Hr⟩ Hk
  have i48 : ∀ x : S16.Idx, (k1_pay140 lanesV (BitVec.ofNat 32 a) (BitVec.ofNat 32 l)) x = iT a l (48 + (x 0).val) := fun x => eI_at (n := 48) (a := a) (l := l) (by omega) hl (by omega) x
  iapply (edge_put (c := thr d i) (m := arg19) (n := 48) (T := iT a l) rfl rfl i48) $$ Hi; iintro Hi
  have e268 : ∀ x : S16.Idx, ((k1_pay141 lanesV (BitVec.ofNat 32 a) (BitVec.ofNat 32 l)) x).toNat = (a + min (48 + (x 0).val) (l - 1)) % 8192 := fun x => eR_at (n := 48) (a := a) (l := l) (by omega) hl (by omega) (by omega) x
  have ck1_hw59 : k1_chk59 v31 v36 v57_1 (k1_pay141 lanesV (BitVec.ofNat 32 a) (BitVec.ofNat 32 l)) := fun _ => chk_one (fun x => by rw [e268 x]; omega)
  iapply (assume_ok (c := thr d i) ck1_hw59)
  iapply (own_ldIdx (c := thr d i) (m := arg12)) $$ Hr; iintro %v269 %hv269 Hr
  have u48 : ∀ x : S16.Idx, v269 x = vT V a l (48 + (x 0).val) := fun x => (hv269 x).trans ((congrArg G (e268 x)).trans (hR (min (48 + (x 0).val) (l - 1)) (by omega)))
  iapply (edge_put (c := thr d i) (m := arg20) (n := 48) (T := vT V a l) rfl rfl u48) $$ Hv; iintro Hv
  have i64 : ∀ x : S16.Idx, (k1_pay142 lanesV (BitVec.ofNat 32 a) (BitVec.ofNat 32 l)) x = iT a l (64 + (x 0).val) := fun x => eI_at (n := 64) (a := a) (l := l) (by omega) hl (by omega) x
  iapply (edge_put (c := thr d i) (m := arg19) (n := 64) (T := iT a l) rfl rfl i64) $$ Hi; iintro Hi
  have e280 : ∀ x : S16.Idx, ((k1_pay143 lanesV (BitVec.ofNat 32 a) (BitVec.ofNat 32 l)) x).toNat = (a + min (64 + (x 0).val) (l - 1)) % 8192 := fun x => eR_at (n := 64) (a := a) (l := l) (by omega) hl (by omega) (by omega) x
  have ck1_hw60 : k1_chk60 v31 v36 v57_1 (k1_pay143 lanesV (BitVec.ofNat 32 a) (BitVec.ofNat 32 l)) := fun _ => chk_one (fun x => by rw [e280 x]; omega)
  iapply (assume_ok (c := thr d i) ck1_hw60)
  iapply (own_ldIdx (c := thr d i) (m := arg12)) $$ Hr; iintro %v281 %hv281 Hr
  have u64 : ∀ x : S16.Idx, v281 x = vT V a l (64 + (x 0).val) := fun x => (hv281 x).trans ((congrArg G (e280 x)).trans (hR (min (64 + (x 0).val) (l - 1)) (by omega)))
  iapply (edge_put (c := thr d i) (m := arg20) (n := 64) (T := vT V a l) rfl rfl u64) $$ Hv; iintro Hv
  have i80 : ∀ x : S16.Idx, (k1_pay144 lanesV (BitVec.ofNat 32 a) (BitVec.ofNat 32 l)) x = iT a l (80 + (x 0).val) := fun x => eI_at (n := 80) (a := a) (l := l) (by omega) hl (by omega) x
  iapply (edge_put (c := thr d i) (m := arg19) (n := 80) (T := iT a l) rfl rfl i80) $$ Hi; iintro Hi
  have e292 : ∀ x : S16.Idx, ((k1_pay145 lanesV (BitVec.ofNat 32 a) (BitVec.ofNat 32 l)) x).toNat = (a + min (80 + (x 0).val) (l - 1)) % 8192 := fun x => eR_at (n := 80) (a := a) (l := l) (by omega) hl (by omega) (by omega) x
  have ck1_hw61 : k1_chk61 v31 v36 v57_1 (k1_pay145 lanesV (BitVec.ofNat 32 a) (BitVec.ofNat 32 l)) := fun _ => chk_one (fun x => by rw [e292 x]; omega)
  iapply (assume_ok (c := thr d i) ck1_hw61)
  iapply (own_ldIdx (c := thr d i) (m := arg12)) $$ Hr; iintro %v293 %hv293 Hr
  have u80 : ∀ x : S16.Idx, v293 x = vT V a l (80 + (x 0).val) := fun x => (hv293 x).trans ((congrArg G (e292 x)).trans (hR (min (80 + (x 0).val) (l - 1)) (by omega)))
  iapply (edge_put (c := thr d i) (m := arg20) (n := 80) (T := vT V a l) rfl rfl u80) $$ Hv; iintro Hv
  iapply Hk
  isplitl [Hi]; · iexact Hi
  isplitl [Hv]; · iexact Hv
  iexact Hr

end Cert.Proof.Vox
-- ==== Proof.EdgeD.lean ====
/-
  The lanes of the edges: each part of the body puts a few groups of sixteen lanes in place.
-/
module

public import proofs.«01_k».proof.Proof.Edge

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD} {α : Type} {Q : α → sProp (MM F)}
variable (i : grid1.Coords) (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

/-- Lanes 0 to 15 of an edge. -/
theorem part16_ok (v2 : IVec S16 32) (v31 : BitVec 32) (v36 : BitVec 32) (v57_1 : BitVec 32) (v137 : BitVec 32) (v142 : BitVec 32) (k1_h15 : k1_cond15 v31 v36 v57_1 = 1#1)
    {a l : ℕ} {G V : ℕ → F .f32} (hl : 0 < l) (hl8 : l < 9) (ha : a < 2 ^ 22) (hR : ∀ j < 3 * l, G (3 * ((a + j / 3) % 8192) + j % 3) = V (3 * a + j))
    (q2 : v2 = lanesV) (qa : v137 = BitVec.ofNat 32 a) (ql : v142 = BitVec.ofNat 32 l)
    {k : (Σ' (v258 : IVec S16 32) (v261 : IVec S16 32), IVec S16 32) → Prog (TpuEff nD τ sig (Elt F) Λ₀ (.scVector ((i 0).castLE hcore1) ((i 1).castLE hsub1))) α} :
    (iprop(edgeB (F := F) (e := .i32) (thr d i) arg19 0 (iT (3 * a) (3 * l)) ∗ edgeB (F := F) (e := .f32) (thr d i) arg21 0 (vT V (3 * a) (3 * l)) ∗ own (F := F) (e := .f32) (thr d i) arg13 fullShare Set.univ G) : sProp (MM F))
      ⊢ iprop((iprop(edgeB (F := F) (e := .i32) (thr d i) arg19 16 (iT (3 * a) (3 * l)) ∗ edgeB (F := F) (e := .f32) (thr d i) arg21 16 (vT V (3 * a) (3 * l)) ∗ own (F := F) (e := .f32) (thr d i) arg13 fullShare Set.univ G) -∗ wp frame (wpE (defs₀ (F := F)) 𝒱₀ (thr d i) none) Set.univ (k ⟨k1_pay153 v2 v142, k1_pay154 v2 v142, k1_pay155 v137⟩) Q)
        -∗ wp frame (wpE (defs₀ (F := F)) 𝒱₀ (thr d i) none) Set.univ (k1_part16 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v31 v36 v57_1 v137 v142 k1_h15 >>= k) Q) := by
  subst q2
  subst qa
  subst ql
  rw [k1_part16_eq_skeleton]; unfold k1_part16_skel; simp only [bind_assoc, pure_bind]
  iintro ⟨Hi, Hv, Hr⟩ Hk
  have i0 : ∀ x : S16.Idx, (k1_pay150 lanesV (BitVec.ofNat 32 a) (BitVec.ofNat 32 l)) x = iT (3 * a) (3 * l) (0 + (x 0).val) := fun x => eX_at (n := 0) (a := a) (l := l) (by omega) hl hl8 ha x
  iapply (edge_put (c := thr d i) (m := arg19) (n := 0) (T := iT (3 * a) (3 * l)) rfl rfl i0) $$ Hi; iintro Hi
  have e246 : ∀ x : S16.Idx, ((k1_pay151 lanesV (BitVec.ofNat 32 a) (BitVec.ofNat 32 l)) x).toNat = 3 * ((a + min (0 + (x 0).val) (3 * l - 1) / 3) % 8192) + min (0 + (x 0).val) (3 * l - 1) % 3 := fun x => eXR_at (n := 0) (a := a) (l := l) (by omega) hl hl8 ha x
  have ck1_hw64 : k1_chk64 v31 v36 v57_1 (k1_pay151 lanesV (BitVec.ofNat 32 a) (BitVec.ofNat 32 l)) := fun _ => chk_one (fun x => by rw [e246 x]; omega)
  iapply (assume_ok (c := thr d i) ck1_hw64)
  iapply (own_ldIdx (c := thr d i) (m := arg13)) $$ Hr; iintro %v247 %hv247 Hr
  have u0 : ∀ x : S16.Idx, v247 x = vT V (3 * a) (3 * l) (0 + (x 0).val) := fun x => (hv247 x).trans ((congrArg G (e246 x)).trans (hR (min (0 + (x 0).val) (3 * l - 1)) (by omega)))
  iapply (edge_put (c := thr d i) (m := arg21) (n := 0) (T := vT V (3 * a) (3 * l)) rfl rfl u0) $$ Hv; iintro Hv
  iapply Hk
  isplitl [Hi]; · iexact Hi
  isplitl [Hv]; · iexact Hv
  iexact Hr

/-- Lanes 16 to 47 of an edge. -/
theorem part17_ok (v2 : IVec S16 32) (v31 : BitVec 32) (v36 : BitVec 32) (v57_1 : BitVec 32) (v137 : BitVec 32) (v142 : BitVec 32) (k1_h15 : k1_cond15 v31 v36 v57_1 = 1#1) (v258 : IVec S16 32) (v261 : IVec S16 32) (v262 : IVec S16 32)
    {a l : ℕ} {G V : ℕ → F .f32} (hl : 0 < l) (hl8 : l < 9) (ha : a < 2 ^ 22) (hR : ∀ j < 3 * l, G (3 * ((a + j / 3) % 8192) + j % 3) = V (3 * a + j))
    (qv258 : v258 = k1_pay153 v2 v142) (qv261 : v261 = k1_pay154 v2 v142) (qv262 : v262 = k1_pay155 v137) (q2 : v2 = lanesV) (qa : v137 = BitVec.ofNat 32 a) (ql : v142 = BitVec.ofNat 32 l)
    {k : (PUnit) → Prog (TpuEff nD τ sig (Elt F) Λ₀ (.scVector ((i 0).castLE hcore1) ((i 1).castLE hsub1))) α} :
    (iprop(edgeB (F := F) (e := .i32) (thr d i) arg19 16 (iT (3 * a) (3 * l)) ∗ edgeB (F := F) (e := .f32) (thr d i) arg21 16 (vT V (3 * a) (3 * l)) ∗ own (F := F) (e := .f32) (thr d i) arg13 fullShare Set.univ G) : sProp (MM F))
      ⊢ iprop((iprop(edgeB (F := F) (e := .i32) (thr d i) arg19 48 (iT (3 * a) (3 * l)) ∗ edgeB (F := F) (e := .f32) (thr d i) arg21 48 (vT V (3 * a) (3 * l)) ∗ own (F := F) (e := .f32) (thr d i) arg13 fullShare Set.univ G) -∗ wp frame (wpE (defs₀ (F := F)) 𝒱₀ (thr d i) none) Set.univ (k ⟨⟩) Q)
        -∗ wp frame (wpE (defs₀ (F := F)) 𝒱₀ (thr d i) none) Set.univ (k1_part17 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v31 v36 v57_1 v137 v142 k1_h15 v258 v261 v262 >>= k) Q) := by
  subst qv262 qv261 qv258
  subst q2
  subst qa
  subst ql
  rw [k1_part17_eq_skeleton]; unfold k1_part17_skel; simp only [bind_assoc, pure_bind]
  iintro ⟨Hi, Hv, Hr⟩ Hk
  have i16 : ∀ x : S16.Idx, (k1_pay157 (k1_pay153 lanesV (BitVec.ofNat 32 l)) (k1_pay154 lanesV (BitVec.ofNat 32 l)) (k1_pay155 (BitVec.ofNat 32 a))) x = iT (3 * a) (3 * l) (16 + (x 0).val) := fun x => eX_at (n := 16) (a := a) (l := l) (by omega) hl hl8 ha x
  iapply (edge_put (c := thr d i) (m := arg19) (n := 16) (T := iT (3 * a) (3 * l)) rfl rfl i16) $$ Hi; iintro Hi
  have e272 : ∀ x : S16.Idx, ((k1_pay158 (k1_pay153 lanesV (BitVec.ofNat 32 l)) (k1_pay154 lanesV (BitVec.ofNat 32 l)) (k1_pay155 (BitVec.ofNat 32 a))) x).toNat = 3 * ((a + min (16 + (x 0).val) (3 * l - 1) / 3) % 8192) + min (16 + (x 0).val) (3 * l - 1) % 3 := fun x => eXR_at (n := 16) (a := a) (l := l) (by omega) hl hl8 ha x
  have ck1_hw65 : k1_chk65 v31 v36 v57_1 (k1_pay158 (k1_pay153 lanesV (BitVec.ofNat 32 l)) (k1_pay154 lanesV (BitVec.ofNat 32 l)) (k1_pay155 (BitVec.ofNat 32 a))) := fun _ => chk_one (fun x => by rw [e272 x]; omega)
  iapply (assume_ok (c := thr d i) ck1_hw65)
  iapply (own_ldIdx (c := thr d i) (m := arg13)) $$ Hr; iintro %v273 %hv273 Hr
  have u16 : ∀ x : S16.Idx, v273 x = vT V (3 * a) (3 * l) (16 + (x 0).val) := fun x => (hv273 x).trans ((congrArg G (e272 x)).trans (hR (min (16 + (x 0).val) (3 * l - 1)) (by omega)))
  iapply (edge_put (c := thr d i) (m := arg21) (n := 16) (T := vT V (3 * a) (3 * l)) rfl rfl u16) $$ Hv; iintro Hv
  have i32 : ∀ x : S16.Idx, (k1_pay163 lanesV (BitVec.ofNat 32 a) (BitVec.ofNat 32 l)) x = iT (3 * a) (3 * l) (32 + (x 0).val) := fun x => eX_at (n := 32) (a := a) (l := l) (by omega) hl hl8 ha x
  iapply (edge_put (c := thr d i) (m := arg19) (n := 32) (T := iT (3 * a) (3 * l)) rfl rfl i32) $$ Hi; iintro Hi
  have e298 : ∀ x : S16.Idx, ((k1_pay164 lanesV (BitVec.ofNat 32 a) (BitVec.ofNat 32 l)) x).toNat = 3 * ((a + min (32 + (x 0).val) (3 * l - 1) / 3) % 8192) + min (32 + (x 0).val) (3 * l - 1) % 3 := fun x => eXR_at (n := 32) (a := a) (l := l) (by omega) hl hl8 ha x
  have ck1_hw66 : k1_chk66 v31 v36 v57_1 (k1_pay164 lanesV (BitVec.ofNat 32 a) (BitVec.ofNat 32 l)) := fun _ => chk_one (fun x => by rw [e298 x]; omega)
  iapply (assume_ok (c := thr d i) ck1_hw66)
  iapply (own_ldIdx (c := thr d i) (m := arg13)) $$ Hr; iintro %v299 %hv299 Hr
  have u32 : ∀ x : S16.Idx, v299 x = vT V (3 * a) (3 * l) (32 + (x 0).val) := fun x => (hv299 x).trans ((congrArg G (e298 x)).trans (hR (min (32 + (x 0).val) (3 * l - 1)) (by omega)))
  iapply (edge_put (c := thr d i) (m := arg21) (n := 32) (T := vT V (3 * a) (3 * l)) rfl rfl u32) $$ Hv; iintro Hv
  iapply Hk
  isplitl [Hi]; · iexact Hi
  isplitl [Hv]; · iexact Hv
  iexact Hr

/-- Lanes 48 to 63 of an edge. -/
theorem part18_ok (v2 : IVec S16 32) (v31 : BitVec 32) (v36 : BitVec 32) (v57_1 : BitVec 32) (v137 : BitVec 32) (v142 : BitVec 32) (k1_h15 : k1_cond15 v31 v36 v57_1 = 1#1)
    {a l : ℕ} {G V : ℕ → F .f32} (hl : 0 < l) (hl8 : l < 9) (ha : a < 2 ^ 22) (hR : ∀ j < 3 * l, G (3 * ((a + j / 3) % 8192) + j % 3) = V (3 * a + j))
    (q2 : v2 = lanesV) (qa : v137 = BitVec.ofNat 32 a) (ql : v142 = BitVec.ofNat 32 l)
    {k : (Σ' (v336 : IVec S16 32) (v339 : IVec S16 32), IVec S16 32) → Prog (TpuEff nD τ sig (Elt F) Λ₀ (.scVector ((i 0).castLE hcore1) ((i 1).castLE hsub1))) α} :
    (iprop(edgeB (F := F) (e := .i32) (thr d i) arg19 48 (iT (3 * a) (3 * l)) ∗ edgeB (F := F) (e := .f32) (thr d i) arg21 48 (vT V (3 * a) (3 * l)) ∗ own (F := F) (e := .f32) (thr d i) arg13 fullShare Set.univ G) : sProp (MM F))
      ⊢ iprop((iprop(edgeB (F := F) (e := .i32) (thr d i) arg19 64 (iT (3 * a) (3 * l)) ∗ edgeB (F := F) (e := .f32) (thr d i) arg21 64 (vT V (3 * a) (3 * l)) ∗ own (F := F) (e := .f32) (thr d i) arg13 fullShare Set.univ G) -∗ wp frame (wpE (defs₀ (F := F)) 𝒱₀ (thr d i) none) Set.univ (k ⟨k1_pay172 v2 v142, k1_pay173 v2 v142, k1_pay174 v137⟩) Q)
        -∗ wp frame (wpE (defs₀ (F := F)) 𝒱₀ (thr d i) none) Set.univ (k1_part18 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v31 v36 v57_1 v137 v142 k1_h15 >>= k) Q) := by
  subst q2
  subst qa
  subst ql
  rw [k1_part18_eq_skeleton]; unfold k1_part18_skel; simp only [bind_assoc, pure_bind]
  iintro ⟨Hi, Hv, Hr⟩ Hk
  have i48 : ∀ x : S16.Idx, (k1_pay169 lanesV (BitVec.ofNat 32 a) (BitVec.ofNat 32 l)) x = iT (3 * a) (3 * l) (48 + (x 0).val) := fun x => eX_at (n := 48) (a := a) (l := l) (by omega) hl hl8 ha x
  iapply (edge_put (c := thr d i) (m := arg19) (n := 48) (T := iT (3 * a) (3 * l)) rfl rfl i48) $$ Hi; iintro Hi
  have e324 : ∀ x : S16.Idx, ((k1_pay170 lanesV (BitVec.ofNat 32 a) (BitVec.ofNat 32 l)) x).toNat = 3 * ((a + min (48 + (x 0).val) (3 * l - 1) / 3) % 8192) + min (48 + (x 0).val) (3 * l - 1) % 3 := fun x => eXR_at (n := 48) (a := a) (l := l) (by omega) hl hl8 ha x
  have ck1_hw67 : k1_chk67 v31 v36 v57_1 (k1_pay170 lanesV (BitVec.ofNat 32 a) (BitVec.ofNat 32 l)) := fun _ => chk_one (fun x => by rw [e324 x]; omega)
  iapply (assume_ok (c := thr d i) ck1_hw67)
  iapply (own_ldIdx (c := thr d i) (m := arg13)) $$ Hr; iintro %v325 %hv325 Hr
  have u48 : ∀ x : S16.Idx, v325 x = vT V (3 * a) (3 * l) (48 + (x 0).val) := fun x => (hv325 x).trans ((congrArg G (e324 x)).trans (hR (min (48 + (x 0).val) (3 * l - 1)) (by omega)))
  iapply (edge_put (c := thr d i) (m := arg21) (n := 48) (T := vT V (3 * a) (3 * l)) rfl rfl u48) $$ Hv; iintro Hv
  iapply Hk
  isplitl [Hi]; · iexact Hi
  isplitl [Hv]; · iexact Hv
  iexact Hr

/-- Lanes 64 to 95 of an edge. -/
theorem part19_ok (v2 : IVec S16 32) (v31 : BitVec 32) (v36 : BitVec 32) (v57_1 : BitVec 32) (v137 : BitVec 32) (v142 : BitVec 32) (k1_h15 : k1_cond15 v31 v36 v57_1 = 1#1) (v336 : IVec S16 32) (v339 : IVec S16 32) (v340 : IVec S16 32)
    {a l : ℕ} {G V : ℕ → F .f32} (hl : 0 < l) (hl8 : l < 9) (ha : a < 2 ^ 22) (hR : ∀ j < 3 * l, G (3 * ((a + j / 3) % 8192) + j % 3) = V (3 * a + j))
    (qv336 : v336 = k1_pay172 v2 v142) (qv339 : v339 = k1_pay173 v2 v142) (qv340 : v340 = k1_pay174 v137) (q2 : v2 = lanesV) (qa : v137 = BitVec.ofNat 32 a) (ql : v142 = BitVec.ofNat 32 l)
    {k : (PUnit) → Prog (TpuEff nD τ sig (Elt F) Λ₀ (.scVector ((i 0).castLE hcore1) ((i 1).castLE hsub1))) α} :
    (iprop(edgeB (F := F) (e := .i32) (thr d i) arg19 64 (iT (3 * a) (3 * l)) ∗ edgeB (F := F) (e := .f32) (thr d i) arg21 64 (vT V (3 * a) (3 * l)) ∗ own (F := F) (e := .f32) (thr d i) arg13 fullShare Set.univ G) : sProp (MM F))
      ⊢ iprop((iprop(edgeB (F := F) (e := .i32) (thr d i) arg19 96 (iT (3 * a) (3 * l)) ∗ edgeB (F := F) (e := .f32) (thr d i) arg21 96 (vT V (3 * a) (3 * l)) ∗ own (F := F) (e := .f32) (thr d i) arg13 fullShare Set.univ G) -∗ wp frame (wpE (defs₀ (F := F)) 𝒱₀ (thr d i) none) Set.univ (k ⟨⟩) Q)
        -∗ wp frame (wpE (defs₀ (F := F)) 𝒱₀ (thr d i) none) Set.univ (k1_part19 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v31 v36 v57_1 v137 v142 k1_h15 v336 v339 v340 >>= k) Q) := by
  subst qv340 qv339 qv336
  subst q2
  subst qa
  subst ql
  rw [k1_part19_eq_skeleton]; unfold k1_part19_skel; simp only [bind_assoc, pure_bind]
  iintro ⟨Hi, Hv, Hr⟩ Hk
  have i64 : ∀ x : S16.Idx, (k1_pay176 (k1_pay172 lanesV (BitVec.ofNat 32 l)) (k1_pay173 lanesV (BitVec.ofNat 32 l)) (k1_pay174 (BitVec.ofNat 32 a))) x = iT (3 * a) (3 * l) (64 + (x 0).val) := fun x => eX_at (n := 64) (a := a) (l := l) (by omega) hl hl8 ha x
  iapply (edge_put (c := thr d i) (m := arg19) (n := 64) (T := iT (3 * a) (3 * l)) rfl rfl i64) $$ Hi; iintro Hi
  have e350 : ∀ x : S16.Idx, ((k1_pay177 (k1_pay172 lanesV (BitVec.ofNat 32 l)) (k1_pay173 lanesV (BitVec.ofNat 32 l)) (k1_pay174 (BitVec.ofNat 32 a))) x).toNat = 3 * ((a + min (64 + (x 0).val) (3 * l - 1) / 3) % 8192) + min (64 + (x 0).val) (3 * l - 1) % 3 := fun x => eXR_at (n := 64) (a := a) (l := l) (by omega) hl hl8 ha x
  have ck1_hw68 : k1_chk68 v31 v36 v57_1 (k1_pay177 (k1_pay172 lanesV (BitVec.ofNat 32 l)) (k1_pay173 lanesV (BitVec.ofNat 32 l)) (k1_pay174 (BitVec.ofNat 32 a))) := fun _ => chk_one (fun x => by rw [e350 x]; omega)
  iapply (assume_ok (c := thr d i) ck1_hw68)
  iapply (own_ldIdx (c := thr d i) (m := arg13)) $$ Hr; iintro %v351 %hv351 Hr
  have u64 : ∀ x : S16.Idx, v351 x = vT V (3 * a) (3 * l) (64 + (x 0).val) := fun x => (hv351 x).trans ((congrArg G (e350 x)).trans (hR (min (64 + (x 0).val) (3 * l - 1)) (by omega)))
  iapply (edge_put (c := thr d i) (m := arg21) (n := 64) (T := vT V (3 * a) (3 * l)) rfl rfl u64) $$ Hv; iintro Hv
  have i80 : ∀ x : S16.Idx, (k1_pay182 lanesV (BitVec.ofNat 32 a) (BitVec.ofNat 32 l)) x = iT (3 * a) (3 * l) (80 + (x 0).val) := fun x => eX_at (n := 80) (a := a) (l := l) (by omega) hl hl8 ha x
  iapply (edge_put (c := thr d i) (m := arg19) (n := 80) (T := iT (3 * a) (3 * l)) rfl rfl i80) $$ Hi; iintro Hi
  have e376 : ∀ x : S16.Idx, ((k1_pay183 lanesV (BitVec.ofNat 32 a) (BitVec.ofNat 32 l)) x).toNat = 3 * ((a + min (80 + (x 0).val) (3 * l - 1) / 3) % 8192) + min (80 + (x 0).val) (3 * l - 1) % 3 := fun x => eXR_at (n := 80) (a := a) (l := l) (by omega) hl hl8 ha x
  have ck1_hw69 : k1_chk69 v31 v36 v57_1 (k1_pay183 lanesV (BitVec.ofNat 32 a) (BitVec.ofNat 32 l)) := fun _ => chk_one (fun x => by rw [e376 x]; omega)
  iapply (assume_ok (c := thr d i) ck1_hw69)
  iapply (own_ldIdx (c := thr d i) (m := arg13)) $$ Hr; iintro %v377 %hv377 Hr
  have u80 : ∀ x : S16.Idx, v377 x = vT V (3 * a) (3 * l) (80 + (x 0).val) := fun x => (hv377 x).trans ((congrArg G (e376 x)).trans (hR (min (80 + (x 0).val) (3 * l - 1)) (by omega)))
  iapply (edge_put (c := thr d i) (m := arg21) (n := 80) (T := vT V (3 * a) (3 * l)) rfl rfl u80) $$ Hv; iintro Hv
  iapply Hk
  isplitl [Hi]; · iexact Hi
  isplitl [Hv]; · iexact Hv
  iexact Hr

/-- Lanes 96 to 111 of an edge. -/
theorem part20_ok (v2 : IVec S16 32) (v31 : BitVec 32) (v36 : BitVec 32) (v57_1 : BitVec 32) (v137 : BitVec 32) (v142 : BitVec 32) (k1_h15 : k1_cond15 v31 v36 v57_1 = 1#1)
    {a l : ℕ} {G V : ℕ → F .f32} (hl : 0 < l) (hl8 : l < 9) (ha : a < 2 ^ 22) (hR : ∀ j < 3 * l, G (3 * ((a + j / 3) % 8192) + j % 3) = V (3 * a + j))
    (q2 : v2 = lanesV) (qa : v137 = BitVec.ofNat 32 a) (ql : v142 = BitVec.ofNat 32 l)
    {k : (Σ' (v414 : IVec S16 32) (v417 : IVec S16 32), IVec S16 32) → Prog (TpuEff nD τ sig (Elt F) Λ₀ (.scVector ((i 0).castLE hcore1) ((i 1).castLE hsub1))) α} :
    (iprop(edgeB (F := F) (e := .i32) (thr d i) arg19 96 (iT (3 * a) (3 * l)) ∗ edgeB (F := F) (e := .f32) (thr d i) arg21 96 (vT V (3 * a) (3 * l)) ∗ own (F := F) (e := .f32) (thr d i) arg13 fullShare Set.univ G) : sProp (MM F))
      ⊢ iprop((iprop(edgeB (F := F) (e := .i32) (thr d i) arg19 112 (iT (3 * a) (3 * l)) ∗ edgeB (F := F) (e := .f32) (thr d i) arg21 112 (vT V (3 * a) (3 * l)) ∗ own (F := F) (e := .f32) (thr d i) arg13 fullShare Set.univ G) -∗ wp frame (wpE (defs₀ (F := F)) 𝒱₀ (thr d i) none) Set.univ (k ⟨k1_pay191 v2 v142, k1_pay192 v2 v142, k1_pay193 v137⟩) Q)
        -∗ wp frame (wpE (defs₀ (F := F)) 𝒱₀ (thr d i) none) Set.univ (k1_part20 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v31 v36 v57_1 v137 v142 k1_h15 >>= k) Q) := by
  subst q2
  subst qa
  subst ql
  rw [k1_part20_eq_skeleton]; unfold k1_part20_skel; simp only [bind_assoc, pure_bind]
  iintro ⟨Hi, Hv, Hr⟩ Hk
  have i96 : ∀ x : S16.Idx, (k1_pay188 lanesV (BitVec.ofNat 32 a) (BitVec.ofNat 32 l)) x = iT (3 * a) (3 * l) (96 + (x 0).val) := fun x => eX_at (n := 96) (a := a) (l := l) (by omega) hl hl8 ha x
  iapply (edge_put (c := thr d i) (m := arg19) (n := 96) (T := iT (3 * a) (3 * l)) rfl rfl i96) $$ Hi; iintro Hi
  have e402 : ∀ x : S16.Idx, ((k1_pay189 lanesV (BitVec.ofNat 32 a) (BitVec.ofNat 32 l)) x).toNat = 3 * ((a + min (96 + (x 0).val) (3 * l - 1) / 3) % 8192) + min (96 + (x 0).val) (3 * l - 1) % 3 := fun x => eXR_at (n := 96) (a := a) (l := l) (by omega) hl hl8 ha x
  have ck1_hw70 : k1_chk70 v31 v36 v57_1 (k1_pay189 lanesV (BitVec.ofNat 32 a) (BitVec.ofNat 32 l)) := fun _ => chk_one (fun x => by rw [e402 x]; omega)
  iapply (assume_ok (c := thr d i) ck1_hw70)
  iapply (own_ldIdx (c := thr d i) (m := arg13)) $$ Hr; iintro %v403 %hv403 Hr
  have u96 : ∀ x : S16.Idx, v403 x = vT V (3 * a) (3 * l) (96 + (x 0).val) := fun x => (hv403 x).trans ((congrArg G (e402 x)).trans (hR (min (96 + (x 0).val) (3 * l - 1)) (by omega)))
  iapply (edge_put (c := thr d i) (m := arg21) (n := 96) (T := vT V (3 * a) (3 * l)) rfl rfl u96) $$ Hv; iintro Hv
  iapply Hk
  isplitl [Hi]; · iexact Hi
  isplitl [Hv]; · iexact Hv
  iexact Hr

end Cert.Proof.Vox
-- ==== Proof.Main7.lean ====
/-
  The rows that make no block, and the first of the zero rows' last blocks.
-/
module

public import proofs.«01_k».proof.Proof.Main6
public import proofs.«01_k».proof.Proof.EdgeC
public import proofs.«01_k».proof.Proof.EdgeD

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {mw : ℕ → BitVec 32} {d : Dev nD} {Y : ℕ → ℕ → F .f32} {G : ℕ → BitVec 32} {H : ℕ → F .f32} {fl : ℕ → F .f32} {a b φ zs ze ff φz : ℕ} {q : PosShare TreeShare}
  {O : CellTallies nD τ sig (HIx 2)} {W₀ : Waits sig (HIx 2)}
variable (i : grid1.Coords) (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

/-- The rows of a piece, all written, and the rings they came from. -/
def rowsDone (d : Dev nD) (mw : ℕ → BitVec 32) (Y : ℕ → ℕ → F .f32) (G : ℕ → BitVec 32) (H : ℕ → F .f32) (a b : ℕ) : sProp (MM F) :=
  iprop(own (F := F) (e := .i32) (thr d i) arg12 fullShare Set.univ G ∗ own (F := F) (e := .f32) (thr d i) arg13 fullShare Set.univ H
    ∗ outO (e := .i32) (thr d i) arg9 (Set.Ico a b) (Set.Ico a b) (occV mw) ∗ outO (e := .f32) (thr d i) arg8 (Set.Ico (3 * a) (3 * b)) (Set.Ico (3 * a) (3 * b)) (xwV Y mw))

/-- What an edge uses. -/
def edgeR (d : Dev nD) : sProp (MM F) :=
  iprop(anyB (F := F) (e := .i32) (thr d i) arg19 ∗ anyB (F := F) (e := .i32) (thr d i) arg20 ∗ anyB (F := F) (e := .f32) (thr d i) arg21 ∗ semVal (thr d i, .dma arg22.sem) 0)

/-- The zero rows before their last blocks. -/
def zeroI (d : Dev nD) (fl : ℕ → F .f32) (q : PosShare TreeShare) (zs ze ff φz : ℕ) : sProp (MM F) :=
  iprop(own (F := F) (e := .i32) (thr d i) arg17 q Set.univ (fun _ => 0#32) ∗ own (F := F) (e := .f32) (thr d i) arg18 q Set.univ (fun m => fl (m % 3))
    ∗ outO (e := .i32) (thr d i) arg9 (Set.Ico zs ze \ Set.Ico ff φz) (Set.Ico φz φz) (fun _ => 0#32)
    ∗ outO (e := .f32) (thr d i) arg8 (Set.Ico (3 * zs) (3 * ze) \ Set.Ico (3 * ff) (3 * φz)) (Set.Ico (3 * φz) (3 * φz)) (fun m => fl (m % 3)))

/-- The stage that ends the rows and starts the zero rows' last blocks. -/
theorem part37_ok (v2 : IVec S16 32) (v13 v16 v31 v36 v37 v57 v61 v77 v123 : BitVec 32) (v126 : BitVec 1) (h55 : k1_chk55 v31 v36 v57) (h72 : k1_chk72 i v13 v16 v31 v36 v77)
    (hT : TI b 2048 φ) (hb : b ≤ 2097152) (ha : a ≤ φ) (hR : RT mw Y a b G H) (eb : Scalar.addi v31 v36 = BitVec.ofNat 32 b) (h37 : v37 = Scalar.addi v31 v36) (h57 : v57 = BitVec.ofNat 32 φ)
    (hTz : TI ze 2048 φz) (hbz : ze ≤ 2097152) (haz : zs ≤ φz) (ez : zendW i v13 v16 v31 v36 = BitVec.ofNat 32 ze) (h61 : v61 = zendW i v13 v16 v31 v36) (h77 : v77 = BitVec.ofNat 32 φz)
    (h2 : v2 = lanesV) (h123 : v123 = tw v37 v57 6) (h126 : v126 = ab (BitVec.ofNat 32 16) v37 (tw v37 v57 6)) {Q : _ → sProp (MM F)} :
    (iprop(ringC (thr d i) arg12 arg13 arg9 arg8 mw Y G H a b φ O W₀ 6 ∗ zeroI i arg8 arg9 arg17 arg18 d fl q zs ze ff φz ∗ edgeR i arg19 arg20 arg21 arg22 d ∗ semVal (thr d i, .dma z22.sem) 0 ∗ semVal (thr d i, .dma z23.sem) 0 ∗ semVal (thr d i, .dma z24.sem) 0 ∗ semVal (thr d i, .dma z25.sem) 0 ∗ semVal (thr d i, .dma z26.sem) 0 ∗ semVal (thr d i, .dma z27.sem) 0 ∗ semVal (thr d i, .dma z28.sem) 0 ∗ semVal (thr d i, .dma z29.sem) 0) : sProp (MM F))
      ⊢ iprop((∀ v159 v162 v163, ⌜v159 = tw v61 v77 2 ∧ v162 = ab (BitVec.ofNat 32 256) v61 (tw v61 v77 2)⌝
          -∗ iprop(rowsDone i arg8 arg9 arg12 arg13 d mw Y G H a b ∗ zeroC (thr d i) arg17 arg18 q arg9 arg8 fl zs ze ff φz O W₀ 2 ∗ edgeR i arg19 arg20 arg21 arg22 d ∗ semVal (thr d i, .dma z22.sem) 0 ∗ semVal (thr d i, .dma z23.sem) 0 ∗ semVal (thr d i, .dma z24.sem) 0 ∗ semVal (thr d i, .dma z25.sem) 0 ∗ semVal (thr d i, .dma z26.sem) 0 ∗ semVal (thr d i, .dma z27.sem) 0 ∗ semVal (thr d i, .dma z28.sem) 0 ∗ semVal (thr d i, .dma z29.sem) 0)
          -∗ Q ⟨v159, v162, v163⟩)
        -∗ wp frame (wpE (defs₀ (F := F)) 𝒱₀ (thr d i) none) Set.univ
          (k1_part37 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v13 v16 v31 v36 v37 v57 h55 v61 v77 h72 v123 v126) Q) := by
  iintro ⟨HC, HZ, HE, S22, S23, S24, S25, S26, S27, S28, S29⟩ HK
  unfold zeroI edgeR
  icases HZ with ⟨Z17, Z18, Z9, Z8⟩
  icases HE with ⟨H19, H20, H21, S22'⟩
  rw [k1_part37_eq_skeleton]; unfold k1_part37_skel
  simp only [bind_assoc, pure_bind]
  iapply (ring_bit (c := thr d i) (n := 6) (a := a) (b := b) (φ := φ) (mw := mw) (Y := Y) (G := G) (H := H) (O := O) (W₀ := W₀) (by omega) hT hb ha hR eb h57 (cond12_eq v31 v36 v57) (off55_eq v31 v36 v57) (off56_eq v31 v36 v57) (off57_eq v31 v36 v57) (off58_eq v31 v36 v57)
    (by exact rfl) (by exact rfl)) $$ [HC S22 S23]
  · isplitl [HC]; · iexact HC
    isplitl [S22]; · iexact S22
    iexact S23
  iintro ⟨HC, S22, S23⟩
  iapply (ring_bit (c := thr d i) (n := 7) (a := a) (b := b) (φ := φ) (mw := mw) (Y := Y) (G := G) (H := H) (O := O) (W₀ := W₀) (by omega) hT hb ha hR eb h57 (cond13_eq v31 v36 v57) (off59_eq v31 v36 v57) (off60_eq v31 v36 v57) (off61_eq v31 v36 v57) (off62_eq v31 v36 v57)
    (by exact rfl) (by exact rfl)) $$ [HC S24 S25]
  · isplitl [HC]; · iexact HC
    isplitl [S24]; · iexact S24
    iexact S25
  iintro ⟨HC, S24, S25⟩
  have hE := tf_end hT
  have hle := tf_le b φ 8
  have e37 : v37 = BitVec.ofNat 32 b := h37.trans eb
  have e137 : (Scalar.select (Scalar.cmpi .ne (Scalar.andi (Scalar.subi v37 (Scalar.select v126 (Scalar.addi v123 16#32) v123)) 8#32) 0#32) (Scalar.addi (Scalar.select v126 (Scalar.addi v123 16#32) v123) 8#32) (Scalar.select v126 (Scalar.addi v123 16#32) v123)) = BitVec.ofNat 32 (tf b φ 8) := by
    rw [h123, h126, e37, h57]
    exact tw_ofNat hT 8 (by omega)
  have e138 : Scalar.subi v37 (Scalar.select (Scalar.cmpi .ne (Scalar.andi (Scalar.subi v37 (Scalar.select v126 (Scalar.addi v123 16#32) v123)) 8#32) 0#32) (Scalar.addi (Scalar.select v126 (Scalar.addi v123 16#32) v123) 8#32) (Scalar.select v126 (Scalar.addi v123 16#32) v123)) = BitVec.ofNat 32 (b - tf b φ 8) := by
    rw [e137, e37, sub_ofNat hE.le]
  have hc14 : k1_cond14 v31 v36 v57 = 1#1 ↔ tf b φ 8 < b := by
    rw [cond14_eq, eb, h57, tw_ofNat hT 8 (by omega)]
    exact ask_left hE.le (by omega)
  have hc15 : k1_cond15 v31 v36 v57 = 1#1 ↔ tf b φ 8 < b := hc14
  obtain ⟨E1, E2, E3⟩ := hE
  unfold ringC
  rw [show tf b φ (7 + 1) = tf b φ 8 from rfl]
  unfold bitC
  icases HC with ⟨HO, HX, HP, HQ, Ht⟩
  generalize hf8 : tf b φ 8 = f8 at *
  subst h2
  by_cases hz : f8 < b
  · have h14c := hc14.mpr hz
    have h15c := hc15.mpr hz
    rw [dif_pos h14c]
    have hl : 0 < b - f8 := by omega
    have hRo := ring_edgeO (l := b - f8) (a := f8) (fun p h1 h2 h3 => hR.o p (by omega) h2 h3 : Ring 1 0 f8 b (occV mw) G) (by omega) (by omega)
    have hRx := ring_edgeX (l := b - f8) (a := f8) hR.x (by omega) (by omega)
    unfold anyB
    ihave H19 := (show (iprop(∃ G, own (thr d i) arg19 fullShare Set.univ G) : sProp (MM F)) ⊢ edgeB (thr d i) arg19 0 (iT f8 (b - f8)) from any_edgeB (e := .i32)) $$ H19
    ihave H20 := (show (iprop(∃ G, own (thr d i) arg20 fullShare Set.univ G) : sProp (MM F)) ⊢ edgeB (thr d i) arg20 0 (vT (occV mw) f8 (b - f8)) from any_edgeB (e := .i32)) $$ H20
    iapply (part14_ok i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 lanesV v31 v36 v57 _ _ h14c (V := occV mw) hl (by omega) (by omega) hRo rfl e137 e138) $$ [H19 H20 HO]
    · isplitl [H19]; · iexact H19
      isplitl [H20]; · iexact H20
      iexact HO
    iintro ⟨H19, H20, HO⟩
    iapply (part15_ok i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 lanesV v31 v36 v57 _ _ h14c (V := occV mw) hl (by omega) (by omega) hRo rfl e137 e138) $$ [H19 H20 HO]
    · isplitl [H19]; · iexact H19
      isplitl [H20]; · iexact H20
      iexact HO
    iintro ⟨H19, H20, HO⟩
    have p96 : k1_pay306 lanesV v37 v123 v126 = addi (broadcast S16 (Scalar.select (Scalar.cmpi .ne (Scalar.andi (Scalar.subi v37 (Scalar.select v126 (Scalar.addi v123 16#32) v123)) 8#32) 0#32) (Scalar.addi (Scalar.select v126 (Scalar.addi v123 16#32) v123) 8#32) (Scalar.select v126 (Scalar.addi v123 16#32) v123))) (eQ (BitVec.ofNat 32 96) (Scalar.subi (Scalar.subi v37 (Scalar.select (Scalar.cmpi .ne (Scalar.andi (Scalar.subi v37 (Scalar.select v126 (Scalar.addi v123 16#32) v123)) 8#32) 0#32) (Scalar.addi (Scalar.select v126 (Scalar.addi v123 16#32) v123) 8#32) (Scalar.select v126 (Scalar.addi v123 16#32) v123))) 1#32) lanesV) := rfl
    rw [e138, e137] at p96
    have r96 : k1_pay307 lanesV v37 v123 v126 = andi (k1_pay306 lanesV v37 v123 v126) (broadcast S16 8191#32) := rfl
    rw [p96] at r96
    have e96 := fun x : S16.Idx => eR_at (n := 96) (a := f8) (l := b - f8) (by omega) hl (by omega) (by omega) x
    rw [← r96] at e96
    iapply (edge_put (c := thr d i) (m := arg19) (n := 96) (T := iT f8 (b - f8)) rfl rfl (fun x => by rw [p96]; exact eI_at (by omega) hl (by omega) x)) $$ H19; iintro H19
    have c96 : k1_chk62 v31 v36 v57 (k1_pay307 lanesV v37 v123 v126) := fun _ => chk_one (fun x => by rw [e96 x]; omega)
    iapply (assume_ok (c := thr d i) c96)
    iapply (own_ldIdx (c := thr d i) (m := arg12)) $$ HO; iintro %u96 %hu96 HO
    iapply (edge_put (c := thr d i) (m := arg20) (n := 96) (T := vT (occV mw) f8 (b - f8)) rfl rfl (fun x => (hu96 x).trans ((congrArg G (e96 x)).trans (hRo _ (by omega))))) $$ H20; iintro H20
    have p112 : k1_pay308 lanesV v37 v123 v126 = addi (broadcast S16 (Scalar.select (Scalar.cmpi .ne (Scalar.andi (Scalar.subi v37 (Scalar.select v126 (Scalar.addi v123 16#32) v123)) 8#32) 0#32) (Scalar.addi (Scalar.select v126 (Scalar.addi v123 16#32) v123) 8#32) (Scalar.select v126 (Scalar.addi v123 16#32) v123))) (eQ (BitVec.ofNat 32 112) (Scalar.subi (Scalar.subi v37 (Scalar.select (Scalar.cmpi .ne (Scalar.andi (Scalar.subi v37 (Scalar.select v126 (Scalar.addi v123 16#32) v123)) 8#32) 0#32) (Scalar.addi (Scalar.select v126 (Scalar.addi v123 16#32) v123) 8#32) (Scalar.select v126 (Scalar.addi v123 16#32) v123))) 1#32) lanesV) := rfl
    rw [e138, e137] at p112
    have r112 : k1_pay309 lanesV v37 v123 v126 = andi (k1_pay308 lanesV v37 v123 v126) (broadcast S16 8191#32) := rfl
    rw [p112] at r112
    have e112 := fun x : S16.Idx => eR_at (n := 112) (a := f8) (l := b - f8) (by omega) hl (by omega) (by omega) x
    rw [← r112] at e112
    iapply (edge_put (c := thr d i) (m := arg19) (n := 112) (T := iT f8 (b - f8)) rfl rfl (fun x => by rw [p112]; exact eI_at (by omega) hl (by omega) x)) $$ H19; iintro H19
    have c112 : k1_chk63 v31 v36 v57 (k1_pay309 lanesV v37 v123 v126) := fun _ => chk_one (fun x => by rw [e112 x]; omega)
    iapply (assume_ok (c := thr d i) c112)
    iapply (own_ldIdx (c := thr d i) (m := arg12)) $$ HO; iintro %u112 %hu112 HO
    iapply (edge_put (c := thr d i) (m := arg20) (n := 112) (T := vT (occV mw) f8 (b - f8)) rfl rfl (fun x => (hu112 x).trans ((congrArg G (e112 x)).trans (hRo _ (by omega))))) $$ H20; iintro H20
    iapply (edge_scatter (c := thr d i) (src := arg20) (dst := arg9) (offs := arg19) (I := Set.Ico a b) (V := occV mw) (st := f8) (l := b - f8) (O := O) (W₀ := W₀)
      (fun s' => rfl) (fun s' => rfl) rfl hl (by omega) (by show _ ≤ 2097152; omega) (by decide) (fun p h1 h2 => ⟨by omega, by omega⟩)) $$ [H19 H20 HP S22' Ht]
    · isplitl [H20]; · iexact H20
      isplitl [H19]; · iexact H19
      isplitl [HP]; · iexact HP
      isplitl [S22']; · iexact S22'
      iexact Ht
    iintro ⟨H20, H19, HP, S22', Ht⟩
    ihave H20 := (edgeB_any (F := F) (e := .i32) (c := thr d i) (m := arg20)) $$ H20
    rw [dif_pos h15c]
    ihave H19 := (edgeB_start (F := F) (e := .i32) (c := thr d i) (m := arg19) (T' := iT (3 * f8) (3 * (b - f8)))) $$ H19
    ihave H21 := (show (iprop(∃ G, own (thr d i) arg21 fullShare Set.univ G) : sProp (MM F)) ⊢ edgeB (thr d i) arg21 0 (vT (xwV Y mw) (3 * f8) (3 * (b - f8))) from any_edgeB (e := .f32)) $$ H21
    iapply (part16_ok i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 _ v31 v36 v57 _ _ h15c (V := xwV Y mw) hl (by omega) (by omega) hRx rfl e137 e138) $$ [H19 H21 HX]
    · isplitl [H19]; · iexact H19
      isplitl [H21]; · iexact H21
      iexact HX
    iintro ⟨H19, H21, HX⟩
    iapply (part17_ok i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 _ v31 v36 v57 _ _ h15c _ _ _ (V := xwV Y mw) hl (by omega) (by omega) hRx rfl rfl rfl rfl e137 e138) $$ [H19 H21 HX]
    · isplitl [H19]; · iexact H19
      isplitl [H21]; · iexact H21
      iexact HX
    iintro ⟨H19, H21, HX⟩
    iapply (part18_ok i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 _ v31 v36 v57 _ _ h15c (V := xwV Y mw) hl (by omega) (by omega) hRx rfl e137 e138) $$ [H19 H21 HX]
    · isplitl [H19]; · iexact H19
      isplitl [H21]; · iexact H21
      iexact HX
    iintro ⟨H19, H21, HX⟩
    iapply (part19_ok i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 _ v31 v36 v57 _ _ h15c _ _ _ (V := xwV Y mw) hl (by omega) (by omega) hRx rfl rfl rfl rfl e137 e138) $$ [H19 H21 HX]
    · isplitl [H19]; · iexact H19
      isplitl [H21]; · iexact H21
      iexact HX
    iintro ⟨H19, H21, HX⟩
    iapply (part20_ok i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 _ v31 v36 v57 _ _ h15c (V := xwV Y mw) hl (by omega) (by omega) hRx rfl e137 e138) $$ [H19 H21 HX]
    · isplitl [H19]; · iexact H19
      isplitl [H21]; · iexact H21
      iexact HX
    iintro ⟨H19, H21, HX⟩
    dsimp only
    have y112 : ∀ x : S16.Idx, (k1_pay311 (k1_pay191 lanesV (Scalar.subi v37 (Scalar.select (Scalar.cmpi .ne (Scalar.andi (Scalar.subi v37 (Scalar.select v126 (Scalar.addi v123 16#32) v123)) 8#32) 0#32) (Scalar.addi (Scalar.select v126 (Scalar.addi v123 16#32) v123) 8#32) (Scalar.select v126 (Scalar.addi v123 16#32) v123)))) (k1_pay192 lanesV (Scalar.subi v37 (Scalar.select (Scalar.cmpi .ne (Scalar.andi (Scalar.subi v37 (Scalar.select v126 (Scalar.addi v123 16#32) v123)) 8#32) 0#32) (Scalar.addi (Scalar.select v126 (Scalar.addi v123 16#32) v123) 8#32) (Scalar.select v126 (Scalar.addi v123 16#32) v123)))) (k1_pay193 (Scalar.select (Scalar.cmpi .ne (Scalar.andi (Scalar.subi v37 (Scalar.select v126 (Scalar.addi v123 16#32) v123)) 8#32) 0#32) (Scalar.addi (Scalar.select v126 (Scalar.addi v123 16#32) v123) 8#32) (Scalar.select v126 (Scalar.addi v123 16#32) v123)))) x = iT (3 * f8) (3 * (b - f8)) (112 + (x 0).val) := by
      rw [e138, e137]
      exact fun x => eX_at (n := 112) (a := f8) (l := b - f8) (by omega) hl (by omega) (by omega) x
    have x112 : ∀ x : S16.Idx, (k1_pay312 (k1_pay191 lanesV (Scalar.subi v37 (Scalar.select (Scalar.cmpi .ne (Scalar.andi (Scalar.subi v37 (Scalar.select v126 (Scalar.addi v123 16#32) v123)) 8#32) 0#32) (Scalar.addi (Scalar.select v126 (Scalar.addi v123 16#32) v123) 8#32) (Scalar.select v126 (Scalar.addi v123 16#32) v123)))) (k1_pay192 lanesV (Scalar.subi v37 (Scalar.select (Scalar.cmpi .ne (Scalar.andi (Scalar.subi v37 (Scalar.select v126 (Scalar.addi v123 16#32) v123)) 8#32) 0#32) (Scalar.addi (Scalar.select v126 (Scalar.addi v123 16#32) v123) 8#32) (Scalar.select v126 (Scalar.addi v123 16#32) v123)))) (k1_pay193 (Scalar.select (Scalar.cmpi .ne (Scalar.andi (Scalar.subi v37 (Scalar.select v126 (Scalar.addi v123 16#32) v123)) 8#32) 0#32) (Scalar.addi (Scalar.select v126 (Scalar.addi v123 16#32) v123) 8#32) (Scalar.select v126 (Scalar.addi v123 16#32) v123))) x).toNat
        = 3 * ((f8 + min (112 + (x 0).val) (3 * (b - f8) - 1) / 3) % 8192) + min (112 + (x 0).val) (3 * (b - f8) - 1) % 3 := by
      rw [e138, e137]
      exact fun x => eXR_at (n := 112) (a := f8) (l := b - f8) (by omega) hl (by omega) (by omega) x
    iapply (edge_put (c := thr d i) (m := arg19) (n := 112) (T := iT (3 * f8) (3 * (b - f8))) rfl rfl (fun x => y112 x)) $$ H19; iintro H19
    have c71 : k1_chk71 v31 v36 v57 (k1_pay312 (k1_pay191 lanesV (Scalar.subi v37 (Scalar.select (Scalar.cmpi .ne (Scalar.andi (Scalar.subi v37 (Scalar.select v126 (Scalar.addi v123 16#32) v123)) 8#32) 0#32) (Scalar.addi (Scalar.select v126 (Scalar.addi v123 16#32) v123) 8#32) (Scalar.select v126 (Scalar.addi v123 16#32) v123)))) (k1_pay192 lanesV (Scalar.subi v37 (Scalar.select (Scalar.cmpi .ne (Scalar.andi (Scalar.subi v37 (Scalar.select v126 (Scalar.addi v123 16#32) v123)) 8#32) 0#32) (Scalar.addi (Scalar.select v126 (Scalar.addi v123 16#32) v123) 8#32) (Scalar.select v126 (Scalar.addi v123 16#32) v123)))) (k1_pay193 (Scalar.select (Scalar.cmpi .ne (Scalar.andi (Scalar.subi v37 (Scalar.select v126 (Scalar.addi v123 16#32) v123)) 8#32) 0#32) (Scalar.addi (Scalar.select v126 (Scalar.addi v123 16#32) v123) 8#32) (Scalar.select v126 (Scalar.addi v123 16#32) v123)))) := fun _ => chk_one (fun x => by rw [x112 x]; omega)
    iapply (assume_ok (c := thr d i) c71)
    iapply (own_ldIdx (c := thr d i) (m := arg13)) $$ HX; iintro %u3 %hu3 HX
    iapply (edge_put (c := thr d i) (m := arg21) (n := 112) (T := vT (xwV Y mw) (3 * f8) (3 * (b - f8))) rfl rfl (fun x => (hu3 x).trans ((congrArg H (x112 x)).trans (hRx _ (by omega))))) $$ H21; iintro H21
    iapply (edge_scatter (c := thr d i) (src := arg21) (dst := arg8) (offs := arg19) (I := Set.Ico (3 * a) (3 * b)) (V := xwV Y mw) (st := 3 * f8) (l := 3 * (b - f8)) (O := O) (W₀ := W₀)
      (fun s' => rfl) (fun s' => rfl) rfl (by omega) (by omega) (by show _ ≤ 6291456; omega) (by decide) (fun p h1 h2 => ⟨by omega, by omega⟩)) $$ [H19 H21 HQ S22' Ht]
    · isplitl [H21]; · iexact H21
      isplitl [H19]; · iexact H19
      isplitl [HQ]; · iexact HQ
      isplitl [S22']; · iexact S22'
      iexact Ht
    iintro ⟨H21, H19, HQ, S22', Ht⟩
    ihave H19 := (edgeB_any (F := F) (e := .i32) (c := thr d i) (m := arg19)) $$ H19
    ihave H21 := (edgeB_any (F := F) (e := .f32) (c := thr d i) (m := arg21)) $$ H21
    have m1 : ∀ p ∈ Set.Ico a b, p ∈ Set.Ico a f8 ∪ Set.Ico f8 (f8 + (b - f8)) := fun p hp => by
      rcases Nat.lt_or_ge p f8 with h | h
      · exact .inl ⟨hp.1, h⟩
      · exact .inr ⟨h, by have := hp.2; omega⟩
    have m2 : ∀ p ∈ Set.Ico (3 * a) (3 * b), p ∈ Set.Ico (3 * a) (3 * f8) ∪ Set.Ico (3 * f8) (3 * f8 + 3 * (b - f8)) := fun p hp => by
      rcases Nat.lt_or_ge p (3 * f8) with h | h
      · exact .inl ⟨hp.1, h⟩
      · exact .inr ⟨h, by have := hp.2; omega⟩
    iapply (zero_bit (c := thr d i) (n := 0) (q := q) (fl := fl) (zs := zs) (ze := ze) (ff := ff) (φ := φz) (O := O) (W₀ := W₀) (by omega) hTz hbz haz ez h77 (cond16_eq i v13 v16 v31 v36 v77) (by exact rfl) (off63_eq i v13 v16 v31 v36 v77) (by exact rfl) (off64_eq i v13 v16 v31 v36 v77)
      (by exact rfl) (by exact rfl)) $$ [Z17 Z18 Z9 Z8 Ht S26 S27]
    · unfold zeroC bitC
      isplitl [Z17 Z18 Z9 Z8 Ht]
      · isplitl [Z17]; · iexact Z17
        isplitl [Z18]; · iexact Z18
        isplitl [Z9]; · iexact Z9
        isplitl [Z8]; · iexact Z8
        iexact Ht
      isplitl [S26]; · iexact S26
      iexact S27
    iintro ⟨HC, S26, S27⟩
    iapply (zero_bit (c := thr d i) (n := 1) (q := q) (fl := fl) (zs := zs) (ze := ze) (ff := ff) (φ := φz) (O := O) (W₀ := W₀) (by omega) hTz hbz haz ez h77 (cond17_eq i v13 v16 v31 v36 v77) (by exact rfl) (off65_eq i v13 v16 v31 v36 v77) (by exact rfl) (off66_eq i v13 v16 v31 v36 v77)
      (by exact rfl) (by exact rfl)) $$ [HC S28 S29]
    · isplitl [HC]; · iexact HC
      isplitl [S28]; · iexact S28
      iexact S29
    iintro ⟨HC, S28, S29⟩
    rw [wp_pure]
    imodintro
    iapply HK $$ %_ %_ %_ [] [HO HX HP HQ HC H19 H20 H21 S22' S22 S23 S24 S25 S26 S27 S28 S29]
    · ipureintro
      rw [h61]
      exact ⟨rfl, rfl⟩
    isplitl [HO HX HP HQ]
    · unfold rowsDone
      isplitl [HO]; · iexact HO
      isplitl [HX]; · iexact HX
      isplitl [HP]
      · iapply (outO_mono (F := F) (e := .i32) m1) $$ HP
      iapply (outO_mono (F := F) (e := .f32) m2) $$ HQ
    isplitl [HC]; · iexact HC
    isplitl [H19 H20 H21 S22']
    · unfold anyB
      isplitl [H19]; · iexact H19
      isplitl [H20]; · iexact H20
      isplitl [H21]; · iexact H21
      iexact S22'
    isplitl [S22]; · iexact S22
    isplitl [S23]; · iexact S23
    isplitl [S24]; · iexact S24
    isplitl [S25]; · iexact S25
    isplitl [S26]; · iexact S26
    isplitl [S27]; · iexact S27
    isplitl [S28]; · iexact S28
    iexact S29
  · rw [dif_neg (fun h => hz (hc14.mp h)), dif_neg (fun h => hz (hc15.mp h))]
    have hfb : f8 = b := by omega
    unfold anyB
    iapply (zero_bit (c := thr d i) (n := 0) (q := q) (fl := fl) (zs := zs) (ze := ze) (ff := ff) (φ := φz) (O := O) (W₀ := W₀) (by omega) hTz hbz haz ez h77 (cond16_eq i v13 v16 v31 v36 v77) (by exact rfl) (off63_eq i v13 v16 v31 v36 v77) (by exact rfl) (off64_eq i v13 v16 v31 v36 v77)
      (by exact rfl) (by exact rfl)) $$ [Z17 Z18 Z9 Z8 Ht S26 S27]
    · unfold zeroC bitC
      isplitl [Z17 Z18 Z9 Z8 Ht]
      · isplitl [Z17]; · iexact Z17
        isplitl [Z18]; · iexact Z18
        isplitl [Z9]; · iexact Z9
        isplitl [Z8]; · iexact Z8
        iexact Ht
      isplitl [S26]; · iexact S26
      iexact S27
    iintro ⟨HC, S26, S27⟩
    iapply (zero_bit (c := thr d i) (n := 1) (q := q) (fl := fl) (zs := zs) (ze := ze) (ff := ff) (φ := φz) (O := O) (W₀ := W₀) (by omega) hTz hbz haz ez h77 (cond17_eq i v13 v16 v31 v36 v77) (by exact rfl) (off65_eq i v13 v16 v31 v36 v77) (by exact rfl) (off66_eq i v13 v16 v31 v36 v77)
      (by exact rfl) (by exact rfl)) $$ [HC S28 S29]
    · isplitl [HC]; · iexact HC
      isplitl [S28]; · iexact S28
      iexact S29
    iintro ⟨HC, S28, S29⟩
    rw [wp_pure]
    imodintro
    iapply HK $$ %_ %_ %_ [] [HO HX HP HQ HC H19 H20 H21 S22' S22 S23 S24 S25 S26 S27 S28 S29]
    · ipureintro
      rw [h61]
      exact ⟨rfl, rfl⟩
    isplitl [HO HX HP HQ]
    · unfold rowsDone
      isplitl [HO]; · iexact HO
      isplitl [HX]; · iexact HX
      isplitl [HP]
      · iapply (outO_mono (F := F) (e := .i32) (fun p hp => by rw [hfb]; exact hp)) $$ HP
      iapply (outO_mono (F := F) (e := .f32) (fun p hp => by rw [hfb]; exact hp)) $$ HQ
    isplitl [HC]; · iexact HC
    isplitl [H19 H20 H21 S22']
    · isplitl [H19]; · iexact H19
      isplitl [H20]; · iexact H20
      isplitl [H21]; · iexact H21
      iexact S22'
    isplitl [S22]; · iexact S22
    isplitl [S23]; · iexact S23
    isplitl [S24]; · iexact S24
    isplitl [S25]; · iexact S25
    isplitl [S26]; · iexact S26
    isplitl [S27]; · iexact S27
    isplitl [S28]; · iexact S28
    iexact S29

end Cert.Proof.Vox
-- ==== Proof.EdgeE.lean ====
/-
  The lanes of the edges: each part of the body puts a few groups of sixteen lanes in place.
-/
module

public import proofs.«01_k».proof.Proof.Edge

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD} {α : Type} {Q : α → sProp (MM F)}
variable (i : grid1.Coords) (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

/-- Lanes 0 to 47 of an edge. -/
theorem part21_ok (v2 : IVec S16 32) (v201 : BitVec 32) (v202 : BitVec 32)
    {a l : ℕ} (hl : 0 < l) (hl8 : l < 9) (ha : a < 2 ^ 22)
    (q2 : v2 = lanesV) (qa : v201 = BitVec.ofNat 32 a) (ql : v202 = BitVec.ofNat 32 l)
    {k : (IVec S16 32) → Prog (TpuEff nD τ sig (Elt F) Λ₀ (.scVector ((i 0).castLE hcore1) ((i 1).castLE hsub1))) α} :
    (iprop(edgeB (F := F) (e := .i32) (thr d i) arg19 0 (iT a l) ∗ edgeB (F := F) (e := .i32) (thr d i) arg20 0 (vT (fun _ => (0#32 : BitVec 32)) a l)) : sProp (MM F))
      ⊢ iprop((iprop(edgeB (F := F) (e := .i32) (thr d i) arg19 48 (iT a l) ∗ edgeB (F := F) (e := .i32) (thr d i) arg20 48 (vT (fun _ => (0#32 : BitVec 32)) a l)) -∗ wp frame (wpE (defs₀ (F := F)) 𝒱₀ (thr d i) none) Set.univ (k (k1_pay200 v2 v201 v202)) Q)
        -∗ wp frame (wpE (defs₀ (F := F)) 𝒱₀ (thr d i) none) Set.univ (k1_part21 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v201 v202 >>= k) Q) := by
  subst q2
  subst qa
  subst ql
  rw [k1_part21_eq_skeleton]; unfold k1_part21_skel; simp only [bind_assoc, pure_bind]
  iintro ⟨Hi, Hv⟩ Hk
  have i0 : ∀ x : S16.Idx, (k1_pay194 lanesV (BitVec.ofNat 32 a) (BitVec.ofNat 32 l)) x = iT a l (0 + (x 0).val) := fun x => eI_at (n := 0) (a := a) (l := l) (by omega) hl (by omega) x
  iapply (edge_put (c := thr d i) (m := arg19) (n := 0) (T := iT a l) rfl rfl i0) $$ Hi; iintro Hi
  iapply (edge_put (c := thr d i) (m := arg20) (n := 0) (T := vT (fun _ => (0#32 : BitVec 32)) a l) rfl rfl (fun x => rfl)) $$ Hv; iintro Hv
  have i16 : ∀ x : S16.Idx, (k1_pay196 lanesV (BitVec.ofNat 32 a) (BitVec.ofNat 32 l)) x = iT a l (16 + (x 0).val) := fun x => eI_at (n := 16) (a := a) (l := l) (by omega) hl (by omega) x
  iapply (edge_put (c := thr d i) (m := arg19) (n := 16) (T := iT a l) rfl rfl i16) $$ Hi; iintro Hi
  iapply (edge_put (c := thr d i) (m := arg20) (n := 16) (T := vT (fun _ => (0#32 : BitVec 32)) a l) rfl rfl (fun x => rfl)) $$ Hv; iintro Hv
  have i32 : ∀ x : S16.Idx, (k1_pay198 lanesV (BitVec.ofNat 32 a) (BitVec.ofNat 32 l)) x = iT a l (32 + (x 0).val) := fun x => eI_at (n := 32) (a := a) (l := l) (by omega) hl (by omega) x
  iapply (edge_put (c := thr d i) (m := arg19) (n := 32) (T := iT a l) rfl rfl i32) $$ Hi; iintro Hi
  iapply (edge_put (c := thr d i) (m := arg20) (n := 32) (T := vT (fun _ => (0#32 : BitVec 32)) a l) rfl rfl (fun x => rfl)) $$ Hv; iintro Hv
  iapply Hk
  isplitl [Hi]; · iexact Hi
  iexact Hv

/-- Lanes 48 to 111 of an edge. -/
theorem part22_ok (v2 : IVec S16 32) (v201 : BitVec 32) (v202 : BitVec 32) (v259 : IVec S16 32)
    {a l : ℕ} (hl : 0 < l) (hl8 : l < 9) (ha : a < 2 ^ 22)
    (qv259 : v259 = (k1_pay200 v2 v201 v202)) (q2 : v2 = lanesV) (qa : v201 = BitVec.ofNat 32 a) (ql : v202 = BitVec.ofNat 32 l)
    {k : (BitVec 32) → Prog (TpuEff nD τ sig (Elt F) Λ₀ (.scVector ((i 0).castLE hcore1) ((i 1).castLE hsub1))) α} :
    (iprop(edgeB (F := F) (e := .i32) (thr d i) arg19 48 (iT a l) ∗ edgeB (F := F) (e := .i32) (thr d i) arg20 48 (vT (fun _ => (0#32 : BitVec 32)) a l)) : sProp (MM F))
      ⊢ iprop((iprop(edgeB (F := F) (e := .i32) (thr d i) arg19 112 (iT a l) ∗ edgeB (F := F) (e := .i32) (thr d i) arg20 112 (vT (fun _ => (0#32 : BitVec 32)) a l)) -∗ wp frame (wpE (defs₀ (F := F)) 𝒱₀ (thr d i) none) Set.univ (k 112#32) Q)
        -∗ wp frame (wpE (defs₀ (F := F)) 𝒱₀ (thr d i) none) Set.univ (k1_part22 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v201 v202 v259 >>= k) Q) := by
  subst qv259
  subst q2
  subst qa
  subst ql
  rw [k1_part22_eq_skeleton]; unfold k1_part22_skel; simp only [bind_assoc, pure_bind]
  iintro ⟨Hi, Hv⟩ Hk
  have i48 : ∀ x : S16.Idx, ((k1_pay200 lanesV (BitVec.ofNat 32 a) (BitVec.ofNat 32 l))) x = iT a l (48 + (x 0).val) := fun x => eI_at (n := 48) (a := a) (l := l) (by omega) hl (by omega) x
  iapply (edge_put (c := thr d i) (m := arg19) (n := 48) (T := iT a l) rfl rfl i48) $$ Hi; iintro Hi
  iapply (edge_put (c := thr d i) (m := arg20) (n := 48) (T := vT (fun _ => (0#32 : BitVec 32)) a l) rfl rfl (fun x => rfl)) $$ Hv; iintro Hv
  have i64 : ∀ x : S16.Idx, (k1_pay202 lanesV (BitVec.ofNat 32 a) (BitVec.ofNat 32 l)) x = iT a l (64 + (x 0).val) := fun x => eI_at (n := 64) (a := a) (l := l) (by omega) hl (by omega) x
  iapply (edge_put (c := thr d i) (m := arg19) (n := 64) (T := iT a l) rfl rfl i64) $$ Hi; iintro Hi
  iapply (edge_put (c := thr d i) (m := arg20) (n := 64) (T := vT (fun _ => (0#32 : BitVec 32)) a l) rfl rfl (fun x => rfl)) $$ Hv; iintro Hv
  have i80 : ∀ x : S16.Idx, (k1_pay204 lanesV (BitVec.ofNat 32 a) (BitVec.ofNat 32 l)) x = iT a l (80 + (x 0).val) := fun x => eI_at (n := 80) (a := a) (l := l) (by omega) hl (by omega) x
  iapply (edge_put (c := thr d i) (m := arg19) (n := 80) (T := iT a l) rfl rfl i80) $$ Hi; iintro Hi
  iapply (edge_put (c := thr d i) (m := arg20) (n := 80) (T := vT (fun _ => (0#32 : BitVec 32)) a l) rfl rfl (fun x => rfl)) $$ Hv; iintro Hv
  have i96 : ∀ x : S16.Idx, (k1_pay206 lanesV (BitVec.ofNat 32 a) (BitVec.ofNat 32 l)) x = iT a l (96 + (x 0).val) := fun x => eI_at (n := 96) (a := a) (l := l) (by omega) hl (by omega) x
  iapply (edge_put (c := thr d i) (m := arg19) (n := 96) (T := iT a l) rfl rfl i96) $$ Hi; iintro Hi
  iapply (edge_put (c := thr d i) (m := arg20) (n := 96) (T := vT (fun _ => (0#32 : BitVec 32)) a l) rfl rfl (fun x => rfl)) $$ Hv; iintro Hv
  iapply Hk
  isplitl [Hi]; · iexact Hi
  iexact Hv

/-- Lanes 0 to 47 of an edge. -/
theorem part27_ok (v2 : IVec S16 32) (v62 : BitVec 32) (v66 : BitVec 32)
    {a l : ℕ} (hl : 0 < l) (hl8 : l < 9) (ha : a < 2 ^ 22)
    (q2 : v2 = lanesV) (qa : v62 = BitVec.ofNat 32 a) (ql : v66 = BitVec.ofNat 32 l)
    {k : (IVec S16 32) → Prog (TpuEff nD τ sig (Elt F) Λ₀ (.scVector ((i 0).castLE hcore1) ((i 1).castLE hsub1))) α} :
    (iprop(edgeB (F := F) (e := .i32) (thr d i) arg19 0 (iT a l) ∗ edgeB (F := F) (e := .i32) (thr d i) arg20 0 (vT (fun _ => (0#32 : BitVec 32)) a l)) : sProp (MM F))
      ⊢ iprop((iprop(edgeB (F := F) (e := .i32) (thr d i) arg19 48 (iT a l) ∗ edgeB (F := F) (e := .i32) (thr d i) arg20 48 (vT (fun _ => (0#32 : BitVec 32)) a l)) -∗ wp frame (wpE (defs₀ (F := F)) 𝒱₀ (thr d i) none) Set.univ (k (k1_pay244 v2 v62 v66)) Q)
        -∗ wp frame (wpE (defs₀ (F := F)) 𝒱₀ (thr d i) none) Set.univ (k1_part27 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v62 v66 >>= k) Q) := by
  subst q2
  subst qa
  subst ql
  rw [k1_part27_eq_skeleton]; unfold k1_part27_skel; simp only [bind_assoc, pure_bind]
  iintro ⟨Hi, Hv⟩ Hk
  have i0 : ∀ x : S16.Idx, (k1_pay238 lanesV (BitVec.ofNat 32 a) (BitVec.ofNat 32 l)) x = iT a l (0 + (x 0).val) := fun x => eI_at (n := 0) (a := a) (l := l) (by omega) hl (by omega) x
  iapply (edge_put (c := thr d i) (m := arg19) (n := 0) (T := iT a l) rfl rfl i0) $$ Hi; iintro Hi
  iapply (edge_put (c := thr d i) (m := arg20) (n := 0) (T := vT (fun _ => (0#32 : BitVec 32)) a l) rfl rfl (fun x => rfl)) $$ Hv; iintro Hv
  have i16 : ∀ x : S16.Idx, (k1_pay240 lanesV (BitVec.ofNat 32 a) (BitVec.ofNat 32 l)) x = iT a l (16 + (x 0).val) := fun x => eI_at (n := 16) (a := a) (l := l) (by omega) hl (by omega) x
  iapply (edge_put (c := thr d i) (m := arg19) (n := 16) (T := iT a l) rfl rfl i16) $$ Hi; iintro Hi
  iapply (edge_put (c := thr d i) (m := arg20) (n := 16) (T := vT (fun _ => (0#32 : BitVec 32)) a l) rfl rfl (fun x => rfl)) $$ Hv; iintro Hv
  have i32 : ∀ x : S16.Idx, (k1_pay242 lanesV (BitVec.ofNat 32 a) (BitVec.ofNat 32 l)) x = iT a l (32 + (x 0).val) := fun x => eI_at (n := 32) (a := a) (l := l) (by omega) hl (by omega) x
  iapply (edge_put (c := thr d i) (m := arg19) (n := 32) (T := iT a l) rfl rfl i32) $$ Hi; iintro Hi
  iapply (edge_put (c := thr d i) (m := arg20) (n := 32) (T := vT (fun _ => (0#32 : BitVec 32)) a l) rfl rfl (fun x => rfl)) $$ Hv; iintro Hv
  iapply Hk
  isplitl [Hi]; · iexact Hi
  iexact Hv

/-- Lanes 48 to 111 of an edge. -/
theorem part28_ok (v2 : IVec S16 32) (v62 : BitVec 32) (v66 : BitVec 32) (v259 : IVec S16 32)
    {a l : ℕ} (hl : 0 < l) (hl8 : l < 9) (ha : a < 2 ^ 22)
    (qv259 : v259 = (k1_pay244 v2 v62 v66)) (q2 : v2 = lanesV) (qa : v62 = BitVec.ofNat 32 a) (ql : v66 = BitVec.ofNat 32 l)
    {k : (BitVec 32) → Prog (TpuEff nD τ sig (Elt F) Λ₀ (.scVector ((i 0).castLE hcore1) ((i 1).castLE hsub1))) α} :
    (iprop(edgeB (F := F) (e := .i32) (thr d i) arg19 48 (iT a l) ∗ edgeB (F := F) (e := .i32) (thr d i) arg20 48 (vT (fun _ => (0#32 : BitVec 32)) a l)) : sProp (MM F))
      ⊢ iprop((iprop(edgeB (F := F) (e := .i32) (thr d i) arg19 112 (iT a l) ∗ edgeB (F := F) (e := .i32) (thr d i) arg20 112 (vT (fun _ => (0#32 : BitVec 32)) a l)) -∗ wp frame (wpE (defs₀ (F := F)) 𝒱₀ (thr d i) none) Set.univ (k 112#32) Q)
        -∗ wp frame (wpE (defs₀ (F := F)) 𝒱₀ (thr d i) none) Set.univ (k1_part28 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v62 v66 v259 >>= k) Q) := by
  subst qv259
  subst q2
  subst qa
  subst ql
  rw [k1_part28_eq_skeleton]; unfold k1_part28_skel; simp only [bind_assoc, pure_bind]
  iintro ⟨Hi, Hv⟩ Hk
  have i48 : ∀ x : S16.Idx, ((k1_pay244 lanesV (BitVec.ofNat 32 a) (BitVec.ofNat 32 l))) x = iT a l (48 + (x 0).val) := fun x => eI_at (n := 48) (a := a) (l := l) (by omega) hl (by omega) x
  iapply (edge_put (c := thr d i) (m := arg19) (n := 48) (T := iT a l) rfl rfl i48) $$ Hi; iintro Hi
  iapply (edge_put (c := thr d i) (m := arg20) (n := 48) (T := vT (fun _ => (0#32 : BitVec 32)) a l) rfl rfl (fun x => rfl)) $$ Hv; iintro Hv
  have i64 : ∀ x : S16.Idx, (k1_pay246 lanesV (BitVec.ofNat 32 a) (BitVec.ofNat 32 l)) x = iT a l (64 + (x 0).val) := fun x => eI_at (n := 64) (a := a) (l := l) (by omega) hl (by omega) x
  iapply (edge_put (c := thr d i) (m := arg19) (n := 64) (T := iT a l) rfl rfl i64) $$ Hi; iintro Hi
  iapply (edge_put (c := thr d i) (m := arg20) (n := 64) (T := vT (fun _ => (0#32 : BitVec 32)) a l) rfl rfl (fun x => rfl)) $$ Hv; iintro Hv
  have i80 : ∀ x : S16.Idx, (k1_pay248 lanesV (BitVec.ofNat 32 a) (BitVec.ofNat 32 l)) x = iT a l (80 + (x 0).val) := fun x => eI_at (n := 80) (a := a) (l := l) (by omega) hl (by omega) x
  iapply (edge_put (c := thr d i) (m := arg19) (n := 80) (T := iT a l) rfl rfl i80) $$ Hi; iintro Hi
  iapply (edge_put (c := thr d i) (m := arg20) (n := 80) (T := vT (fun _ => (0#32 : BitVec 32)) a l) rfl rfl (fun x => rfl)) $$ Hv; iintro Hv
  have i96 : ∀ x : S16.Idx, (k1_pay250 lanesV (BitVec.ofNat 32 a) (BitVec.ofNat 32 l)) x = iT a l (96 + (x 0).val) := fun x => eI_at (n := 96) (a := a) (l := l) (by omega) hl (by omega) x
  iapply (edge_put (c := thr d i) (m := arg19) (n := 96) (T := iT a l) rfl rfl i96) $$ Hi; iintro Hi
  iapply (edge_put (c := thr d i) (m := arg20) (n := 96) (T := vT (fun _ => (0#32 : BitVec 32)) a l) rfl rfl (fun x => rfl)) $$ Hv; iintro Hv
  iapply Hk
  isplitl [Hi]; · iexact Hi
  iexact Hv

end Cert.Proof.Vox
-- ==== Proof.EdgeF.lean ====
/-
  The lanes of the edges: each part of the body puts a few groups of sixteen lanes in place.
-/
module

public import proofs.«01_k».proof.Proof.Edge

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] {q18 : PosShare TreeShare} {d : Dev nD} {α : Type} {Q : α → sProp (MM F)}
variable (i : grid1.Coords) (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

/-- Lanes 0 to 15 of an edge. -/
theorem part23_ok (v2 : IVec S16 32) (v13 : BitVec 32) (v16 : BitVec 32) (v31 : BitVec 32) (v36 : BitVec 32) (v77 : BitVec 32) (v201 : BitVec 32) (v206 : BitVec 32) (k1_h25 : k1_cond25 i v13 v16 v31 v36 v77 = 1#1)
    {a l : ℕ} {G V : ℕ → F .f32} (hl : 0 < l) (hl8 : l < 9) (ha : a < 2 ^ 22) (hR : ∀ j < 3 * l, G (j % 3) = V (3 * a + j))
    (q2 : v2 = lanesV) (qa : v201 = BitVec.ofNat 32 a) (ql : v206 = BitVec.ofNat 32 l)
    {k : (Σ' (v256 : IVec S16 32) (k1_hw74 : k1_chk74 i v13 v16 v31 v36 v77 v256), IVec S16 32) → Prog (TpuEff nD τ sig (Elt F) Λ₀ (.scVector ((i 0).castLE hcore1) ((i 1).castLE hsub1))) α} :
    (iprop(edgeB (F := F) (e := .i32) (thr d i) arg19 0 (iT (3 * a) (3 * l)) ∗ edgeB (F := F) (e := .f32) (thr d i) arg21 0 (vT V (3 * a) (3 * l)) ∗ own (F := F) (e := .f32) (thr d i) arg18 q18 Set.univ G) : sProp (MM F))
      ⊢ iprop((∀ k1_hw74 : k1_chk74 i v13 v16 v31 v36 v77 (k1_pay214 v2 v206), iprop(edgeB (F := F) (e := .i32) (thr d i) arg19 16 (iT (3 * a) (3 * l)) ∗ edgeB (F := F) (e := .f32) (thr d i) arg21 16 (vT V (3 * a) (3 * l)) ∗ own (F := F) (e := .f32) (thr d i) arg18 q18 Set.univ G) -∗ wp frame (wpE (defs₀ (F := F)) 𝒱₀ (thr d i) none) Set.univ (k ⟨(k1_pay214 v2 v206), k1_hw74, k1_pay215 v2 v201 v206 (k1_pay214 v2 v206)⟩) Q)
        -∗ wp frame (wpE (defs₀ (F := F)) 𝒱₀ (thr d i) none) Set.univ (k1_part23 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v13 v16 v31 v36 v77 v201 v206 k1_h25 >>= k) Q) := by
  subst q2
  subst qa
  subst ql
  rw [k1_part23_eq_skeleton]; unfold k1_part23_skel; simp only [bind_assoc, pure_bind]
  iintro ⟨Hi, Hv, Hr⟩ Hk
  have e235 : ∀ x : S16.Idx, ((k1_pay210 lanesV (BitVec.ofNat 32 l)) x).toNat = min (0 + (x 0).val) (3 * l - 1) % 3 := fun x => eC_toNat (n := 0) (l := l) (by omega) hl hl8 x
  have ck1_hw73 : k1_chk73 i v13 v16 v31 v36 v77 (k1_pay210 lanesV (BitVec.ofNat 32 l)) := fun _ => chk_one (fun x => by rw [e235 x]; omega)
  iapply (assume_ok (c := thr d i) ck1_hw73)
  have i0 : ∀ x : S16.Idx, (k1_pay211 lanesV (BitVec.ofNat 32 a) (BitVec.ofNat 32 l) (k1_pay210 lanesV (BitVec.ofNat 32 l))) x = iT (3 * a) (3 * l) (0 + (x 0).val) := fun x => eX_at (n := 0) (a := a) (l := l) (by omega) hl hl8 ha x
  iapply (edge_put (c := thr d i) (m := arg19) (n := 0) (T := iT (3 * a) (3 * l)) rfl rfl i0) $$ Hi; iintro Hi
  iapply (own_ldIdx (c := thr d i) (m := arg18)) $$ Hr; iintro %v242 %hv242 Hr
  have u0 : ∀ x : S16.Idx, v242 x = vT V (3 * a) (3 * l) (0 + (x 0).val) := fun x => (hv242 x).trans ((congrArg G (e235 x)).trans (hR (min (0 + (x 0).val) (3 * l - 1)) (by omega)))
  iapply (edge_put (c := thr d i) (m := arg21) (n := 0) (T := vT V (3 * a) (3 * l)) rfl rfl u0) $$ Hv; iintro Hv
  have e256 : ∀ x : S16.Idx, ((k1_pay214 lanesV (BitVec.ofNat 32 l)) x).toNat = min (16 + (x 0).val) (3 * l - 1) % 3 := fun x => eC_toNat (n := 16) (l := l) (by omega) hl hl8 x
  have ck1_hw74 : k1_chk74 i v13 v16 v31 v36 v77 (k1_pay214 lanesV (BitVec.ofNat 32 l)) := fun _ => chk_one (fun x => by rw [e256 x]; omega)
  iapply (assume_ok (c := thr d i) ck1_hw74)
  iapply Hk $$ %_
  isplitl [Hi]; · iexact Hi
  isplitl [Hv]; · iexact Hv
  iexact Hr

/-- Lanes 16 to 47 of an edge. -/
theorem part24_ok (v2 : IVec S16 32) (v13 : BitVec 32) (v16 : BitVec 32) (v31 : BitVec 32) (v36 : BitVec 32) (v77 : BitVec 32) (v201 : BitVec 32) (v206 : BitVec 32) (k1_h25 : k1_cond25 i v13 v16 v31 v36 v77 = 1#1) (v256 : IVec S16 32) (k1_hw74 : k1_chk74 i v13 v16 v31 v36 v77 v256) (v261 : IVec S16 32)
    {a l : ℕ} {G V : ℕ → F .f32} (hl : 0 < l) (hl8 : l < 9) (ha : a < 2 ^ 22) (hR : ∀ j < 3 * l, G (j % 3) = V (3 * a + j))
    (qv256 : v256 = (k1_pay214 v2 v206)) (qv261 : v261 = k1_pay215 v2 v201 v206 (k1_pay214 v2 v206)) (q2 : v2 = lanesV) (qa : v201 = BitVec.ofNat 32 a) (ql : v206 = BitVec.ofNat 32 l)
    {k : (Σ' (v295 : IVec S16 32) (v298 : IVec S16 32) (k1_hw76 : k1_chk76 i v13 v16 v31 v36 v77 v298), IVec S16 32) → Prog (TpuEff nD τ sig (Elt F) Λ₀ (.scVector ((i 0).castLE hcore1) ((i 1).castLE hsub1))) α} :
    (iprop(edgeB (F := F) (e := .i32) (thr d i) arg19 16 (iT (3 * a) (3 * l)) ∗ edgeB (F := F) (e := .f32) (thr d i) arg21 16 (vT V (3 * a) (3 * l)) ∗ own (F := F) (e := .f32) (thr d i) arg18 q18 Set.univ G) : sProp (MM F))
      ⊢ iprop((∀ k1_hw76 : k1_chk76 i v13 v16 v31 v36 v77 (k1_pay222 v2 v206), iprop(edgeB (F := F) (e := .i32) (thr d i) arg19 48 (iT (3 * a) (3 * l)) ∗ edgeB (F := F) (e := .f32) (thr d i) arg21 48 (vT V (3 * a) (3 * l)) ∗ own (F := F) (e := .f32) (thr d i) arg18 q18 Set.univ G) -∗ wp frame (wpE (defs₀ (F := F)) 𝒱₀ (thr d i) none) Set.univ (k ⟨k1_pay221 v2 v206, (k1_pay222 v2 v206), k1_hw76, k1_pay223 v201⟩) Q)
        -∗ wp frame (wpE (defs₀ (F := F)) 𝒱₀ (thr d i) none) Set.univ (k1_part24 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v13 v16 v31 v36 v77 v201 v206 k1_h25 v256 k1_hw74 v261 >>= k) Q) := by
  subst qv261 qv256
  subst q2
  subst qa
  subst ql
  rw [k1_part24_eq_skeleton]; unfold k1_part24_skel; simp only [bind_assoc, pure_bind]
  iintro ⟨Hi, Hv, Hr⟩ Hk
  have i16 : ∀ x : S16.Idx, (k1_pay215 lanesV (BitVec.ofNat 32 a) (BitVec.ofNat 32 l) (k1_pay214 lanesV (BitVec.ofNat 32 l))) x = iT (3 * a) (3 * l) (16 + (x 0).val) := fun x => eX_at (n := 16) (a := a) (l := l) (by omega) hl hl8 ha x
  iapply (edge_put (c := thr d i) (m := arg19) (n := 16) (T := iT (3 * a) (3 * l)) rfl rfl i16) $$ Hi; iintro Hi
  have e256 : ∀ x : S16.Idx, (((k1_pay214 lanesV (BitVec.ofNat 32 l))) x).toNat = min (16 + (x 0).val) (3 * l - 1) % 3 := fun x => eC_toNat (n := 16) (l := l) (by omega) hl hl8 x
  iapply (own_ldIdx (c := thr d i) (m := arg18)) $$ Hr; iintro %v263 %hv263 Hr
  have u16 : ∀ x : S16.Idx, v263 x = vT V (3 * a) (3 * l) (16 + (x 0).val) := fun x => (hv263 x).trans ((congrArg G (e256 x)).trans (hR (min (16 + (x 0).val) (3 * l - 1)) (by omega)))
  iapply (edge_put (c := thr d i) (m := arg21) (n := 16) (T := vT V (3 * a) (3 * l)) rfl rfl u16) $$ Hv; iintro Hv
  have e277 : ∀ x : S16.Idx, ((k1_pay218 lanesV (BitVec.ofNat 32 l)) x).toNat = min (32 + (x 0).val) (3 * l - 1) % 3 := fun x => eC_toNat (n := 32) (l := l) (by omega) hl hl8 x
  have ck1_hw75 : k1_chk75 i v13 v16 v31 v36 v77 (k1_pay218 lanesV (BitVec.ofNat 32 l)) := fun _ => chk_one (fun x => by rw [e277 x]; omega)
  iapply (assume_ok (c := thr d i) ck1_hw75)
  have i32 : ∀ x : S16.Idx, (k1_pay219 lanesV (BitVec.ofNat 32 a) (BitVec.ofNat 32 l) (k1_pay218 lanesV (BitVec.ofNat 32 l))) x = iT (3 * a) (3 * l) (32 + (x 0).val) := fun x => eX_at (n := 32) (a := a) (l := l) (by omega) hl hl8 ha x
  iapply (edge_put (c := thr d i) (m := arg19) (n := 32) (T := iT (3 * a) (3 * l)) rfl rfl i32) $$ Hi; iintro Hi
  iapply (own_ldIdx (c := thr d i) (m := arg18)) $$ Hr; iintro %v284 %hv284 Hr
  have u32 : ∀ x : S16.Idx, v284 x = vT V (3 * a) (3 * l) (32 + (x 0).val) := fun x => (hv284 x).trans ((congrArg G (e277 x)).trans (hR (min (32 + (x 0).val) (3 * l - 1)) (by omega)))
  iapply (edge_put (c := thr d i) (m := arg21) (n := 32) (T := vT V (3 * a) (3 * l)) rfl rfl u32) $$ Hv; iintro Hv
  have e298 : ∀ x : S16.Idx, ((k1_pay222 lanesV (BitVec.ofNat 32 l)) x).toNat = min (48 + (x 0).val) (3 * l - 1) % 3 := fun x => eC_toNat (n := 48) (l := l) (by omega) hl hl8 x
  have ck1_hw76 : k1_chk76 i v13 v16 v31 v36 v77 (k1_pay222 lanesV (BitVec.ofNat 32 l)) := fun _ => chk_one (fun x => by rw [e298 x]; omega)
  iapply (assume_ok (c := thr d i) ck1_hw76)
  iapply Hk $$ %_
  isplitl [Hi]; · iexact Hi
  isplitl [Hv]; · iexact Hv
  iexact Hr

/-- Lanes 48 to 79 of an edge. -/
theorem part25_ok (v2 : IVec S16 32) (v13 : BitVec 32) (v16 : BitVec 32) (v31 : BitVec 32) (v36 : BitVec 32) (v77 : BitVec 32) (v201 : BitVec 32) (v206 : BitVec 32) (k1_h25 : k1_cond25 i v13 v16 v31 v36 v77 = 1#1) (v295 : IVec S16 32) (v298 : IVec S16 32) (k1_hw76 : k1_chk76 i v13 v16 v31 v36 v77 v298) (v299 : IVec S16 32)
    {a l : ℕ} {G V : ℕ → F .f32} (hl : 0 < l) (hl8 : l < 9) (ha : a < 2 ^ 22) (hR : ∀ j < 3 * l, G (j % 3) = V (3 * a + j))
    (qv295 : v295 = k1_pay221 v2 v206) (qv298 : v298 = (k1_pay222 v2 v206)) (qv299 : v299 = k1_pay223 v201) (q2 : v2 = lanesV) (qa : v201 = BitVec.ofNat 32 a) (ql : v206 = BitVec.ofNat 32 l)
    {k : (Σ' (v333 : IVec S16 32), IVec S16 32) → Prog (TpuEff nD τ sig (Elt F) Λ₀ (.scVector ((i 0).castLE hcore1) ((i 1).castLE hsub1))) α} :
    (iprop(edgeB (F := F) (e := .i32) (thr d i) arg19 48 (iT (3 * a) (3 * l)) ∗ edgeB (F := F) (e := .f32) (thr d i) arg21 48 (vT V (3 * a) (3 * l)) ∗ own (F := F) (e := .f32) (thr d i) arg18 q18 Set.univ G) : sProp (MM F))
      ⊢ iprop((iprop(edgeB (F := F) (e := .i32) (thr d i) arg19 80 (iT (3 * a) (3 * l)) ∗ edgeB (F := F) (e := .f32) (thr d i) arg21 80 (vT V (3 * a) (3 * l)) ∗ own (F := F) (e := .f32) (thr d i) arg18 q18 Set.univ G) -∗ wp frame (wpE (defs₀ (F := F)) 𝒱₀ (thr d i) none) Set.univ (k ⟨k1_pay229 v2 v206, k1_pay230 v2 v206⟩) Q)
        -∗ wp frame (wpE (defs₀ (F := F)) 𝒱₀ (thr d i) none) Set.univ (k1_part25 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v13 v16 v31 v36 v77 v201 v206 k1_h25 v295 v298 k1_hw76 v299 >>= k) Q) := by
  subst qv299 qv298 qv295
  subst q2
  subst qa
  subst ql
  rw [k1_part25_eq_skeleton]; unfold k1_part25_skel; simp only [bind_assoc, pure_bind]
  iintro ⟨Hi, Hv, Hr⟩ Hk
  have i48 : ∀ x : S16.Idx, (k1_pay224 (k1_pay221 lanesV (BitVec.ofNat 32 l)) ((k1_pay222 lanesV (BitVec.ofNat 32 l))) (k1_pay223 (BitVec.ofNat 32 a))) x = iT (3 * a) (3 * l) (48 + (x 0).val) := fun x => eX_at (n := 48) (a := a) (l := l) (by omega) hl hl8 ha x
  iapply (edge_put (c := thr d i) (m := arg19) (n := 48) (T := iT (3 * a) (3 * l)) rfl rfl i48) $$ Hi; iintro Hi
  have e298 : ∀ x : S16.Idx, (((k1_pay222 lanesV (BitVec.ofNat 32 l))) x).toNat = min (48 + (x 0).val) (3 * l - 1) % 3 := fun x => eC_toNat (n := 48) (l := l) (by omega) hl hl8 x
  iapply (own_ldIdx (c := thr d i) (m := arg18)) $$ Hr; iintro %v305 %hv305 Hr
  have u48 : ∀ x : S16.Idx, v305 x = vT V (3 * a) (3 * l) (48 + (x 0).val) := fun x => (hv305 x).trans ((congrArg G (e298 x)).trans (hR (min (48 + (x 0).val) (3 * l - 1)) (by omega)))
  iapply (edge_put (c := thr d i) (m := arg21) (n := 48) (T := vT V (3 * a) (3 * l)) rfl rfl u48) $$ Hv; iintro Hv
  have e319 : ∀ x : S16.Idx, ((k1_pay227 lanesV (BitVec.ofNat 32 l)) x).toNat = min (64 + (x 0).val) (3 * l - 1) % 3 := fun x => eC_toNat (n := 64) (l := l) (by omega) hl hl8 x
  have ck1_hw77 : k1_chk77 i v13 v16 v31 v36 v77 (k1_pay227 lanesV (BitVec.ofNat 32 l)) := fun _ => chk_one (fun x => by rw [e319 x]; omega)
  iapply (assume_ok (c := thr d i) ck1_hw77)
  have i64 : ∀ x : S16.Idx, (k1_pay228 lanesV (BitVec.ofNat 32 a) (BitVec.ofNat 32 l) (k1_pay227 lanesV (BitVec.ofNat 32 l))) x = iT (3 * a) (3 * l) (64 + (x 0).val) := fun x => eX_at (n := 64) (a := a) (l := l) (by omega) hl hl8 ha x
  iapply (edge_put (c := thr d i) (m := arg19) (n := 64) (T := iT (3 * a) (3 * l)) rfl rfl i64) $$ Hi; iintro Hi
  iapply (own_ldIdx (c := thr d i) (m := arg18)) $$ Hr; iintro %v326 %hv326 Hr
  have u64 : ∀ x : S16.Idx, v326 x = vT V (3 * a) (3 * l) (64 + (x 0).val) := fun x => (hv326 x).trans ((congrArg G (e319 x)).trans (hR (min (64 + (x 0).val) (3 * l - 1)) (by omega)))
  iapply (edge_put (c := thr d i) (m := arg21) (n := 64) (T := vT V (3 * a) (3 * l)) rfl rfl u64) $$ Hv; iintro Hv
  iapply Hk
  isplitl [Hi]; · iexact Hi
  isplitl [Hv]; · iexact Hv
  iexact Hr

/-- Lanes 80 to 111 of an edge. -/
theorem part26_ok (v2 : IVec S16 32) (v13 : BitVec 32) (v16 : BitVec 32) (v31 : BitVec 32) (v36 : BitVec 32) (v77 : BitVec 32) (v201 : BitVec 32) (v206 : BitVec 32) (k1_h25 : k1_cond25 i v13 v16 v31 v36 v77 = 1#1) (v333 : IVec S16 32) (v337 : IVec S16 32)
    {a l : ℕ} {G V : ℕ → F .f32} (hl : 0 < l) (hl8 : l < 9) (ha : a < 2 ^ 22) (hR : ∀ j < 3 * l, G (j % 3) = V (3 * a + j))
    (qv333 : v333 = k1_pay229 v2 v206) (qv337 : v337 = k1_pay230 v2 v206) (q2 : v2 = lanesV) (qa : v201 = BitVec.ofNat 32 a) (ql : v206 = BitVec.ofNat 32 l)
    {k : (IVec S16 32) → Prog (TpuEff nD τ sig (Elt F) Λ₀ (.scVector ((i 0).castLE hcore1) ((i 1).castLE hsub1))) α} :
    (iprop(edgeB (F := F) (e := .i32) (thr d i) arg19 80 (iT (3 * a) (3 * l)) ∗ edgeB (F := F) (e := .f32) (thr d i) arg21 80 (vT V (3 * a) (3 * l)) ∗ own (F := F) (e := .f32) (thr d i) arg18 q18 Set.univ G) : sProp (MM F))
      ⊢ iprop((iprop(edgeB (F := F) (e := .i32) (thr d i) arg19 112 (iT (3 * a) (3 * l)) ∗ edgeB (F := F) (e := .f32) (thr d i) arg21 112 (vT V (3 * a) (3 * l)) ∗ own (F := F) (e := .f32) (thr d i) arg18 q18 Set.univ G) -∗ wp frame (wpE (defs₀ (F := F)) 𝒱₀ (thr d i) none) Set.univ (k (k1_pay237 v2 v206)) Q)
        -∗ wp frame (wpE (defs₀ (F := F)) 𝒱₀ (thr d i) none) Set.univ (k1_part26 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v13 v16 v31 v36 v77 v201 v206 k1_h25 v333 v337 >>= k) Q) := by
  subst qv337 qv333
  subst q2
  subst qa
  subst ql
  rw [k1_part26_eq_skeleton]; unfold k1_part26_skel; simp only [bind_assoc, pure_bind]
  iintro ⟨Hi, Hv, Hr⟩ Hk
  have e340 : ∀ x : S16.Idx, ((k1_pay231 (k1_pay229 lanesV (BitVec.ofNat 32 l)) (k1_pay230 lanesV (BitVec.ofNat 32 l))) x).toNat = min (80 + (x 0).val) (3 * l - 1) % 3 := fun x => eC_toNat (n := 80) (l := l) (by omega) hl hl8 x
  have ck1_hw78 : k1_chk78 i v13 v16 v31 v36 v77 (k1_pay231 (k1_pay229 lanesV (BitVec.ofNat 32 l)) (k1_pay230 lanesV (BitVec.ofNat 32 l))) := fun _ => chk_one (fun x => by rw [e340 x]; omega)
  iapply (assume_ok (c := thr d i) ck1_hw78)
  have i80 : ∀ x : S16.Idx, (k1_pay232 (BitVec.ofNat 32 a) (k1_pay230 lanesV (BitVec.ofNat 32 l)) (k1_pay231 (k1_pay229 lanesV (BitVec.ofNat 32 l)) (k1_pay230 lanesV (BitVec.ofNat 32 l)))) x = iT (3 * a) (3 * l) (80 + (x 0).val) := fun x => eX_at (n := 80) (a := a) (l := l) (by omega) hl hl8 ha x
  iapply (edge_put (c := thr d i) (m := arg19) (n := 80) (T := iT (3 * a) (3 * l)) rfl rfl i80) $$ Hi; iintro Hi
  iapply (own_ldIdx (c := thr d i) (m := arg18)) $$ Hr; iintro %v347 %hv347 Hr
  have u80 : ∀ x : S16.Idx, v347 x = vT V (3 * a) (3 * l) (80 + (x 0).val) := fun x => (hv347 x).trans ((congrArg G (e340 x)).trans (hR (min (80 + (x 0).val) (3 * l - 1)) (by omega)))
  iapply (edge_put (c := thr d i) (m := arg21) (n := 80) (T := vT V (3 * a) (3 * l)) rfl rfl u80) $$ Hv; iintro Hv
  have e361 : ∀ x : S16.Idx, ((k1_pay235 lanesV (BitVec.ofNat 32 l)) x).toNat = min (96 + (x 0).val) (3 * l - 1) % 3 := fun x => eC_toNat (n := 96) (l := l) (by omega) hl hl8 x
  have ck1_hw79 : k1_chk79 i v13 v16 v31 v36 v77 (k1_pay235 lanesV (BitVec.ofNat 32 l)) := fun _ => chk_one (fun x => by rw [e361 x]; omega)
  iapply (assume_ok (c := thr d i) ck1_hw79)
  have i96 : ∀ x : S16.Idx, (k1_pay236 lanesV (BitVec.ofNat 32 a) (BitVec.ofNat 32 l) (k1_pay235 lanesV (BitVec.ofNat 32 l))) x = iT (3 * a) (3 * l) (96 + (x 0).val) := fun x => eX_at (n := 96) (a := a) (l := l) (by omega) hl hl8 ha x
  iapply (edge_put (c := thr d i) (m := arg19) (n := 96) (T := iT (3 * a) (3 * l)) rfl rfl i96) $$ Hi; iintro Hi
  iapply (own_ldIdx (c := thr d i) (m := arg18)) $$ Hr; iintro %v368 %hv368 Hr
  have u96 : ∀ x : S16.Idx, v368 x = vT V (3 * a) (3 * l) (96 + (x 0).val) := fun x => (hv368 x).trans ((congrArg G (e361 x)).trans (hR (min (96 + (x 0).val) (3 * l - 1)) (by omega)))
  iapply (edge_put (c := thr d i) (m := arg21) (n := 96) (T := vT V (3 * a) (3 * l)) rfl rfl u96) $$ Hv; iintro Hv
  iapply Hk
  isplitl [Hi]; · iexact Hi
  isplitl [Hv]; · iexact Hv
  iexact Hr

end Cert.Proof.Vox
-- ==== Proof.EdgeG.lean ====
/-
  The lanes of the edges: each part of the body puts a few groups of sixteen lanes in place.
-/
module

public import proofs.«01_k».proof.Proof.Edge

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] {q18 : PosShare TreeShare} {d : Dev nD} {α : Type} {Q : α → sProp (MM F)}
variable (i : grid1.Coords) (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

/-- Lanes 0 to 15 of an edge. -/
theorem part29_ok (v2 : IVec S16 32) (v13 : BitVec 32) (v16 : BitVec 32) (v31 : BitVec 32) (v36 : BitVec 32) (v62 : BitVec 32) (v66 : BitVec 32) (k1_h27 : k1_cond27 i v13 v16 v31 v36 = 1#1)
    {a l : ℕ} {G V : ℕ → F .f32} (hl : 0 < l) (hl8 : l < 9) (ha : a < 2 ^ 22) (hR : ∀ j < 3 * l, G (j % 3) = V (3 * a + j))
    (q2 : v2 = lanesV) (qa : v62 = BitVec.ofNat 32 a) (ql : v66 = BitVec.ofNat 32 l)
    {k : (Σ' (v256 : IVec S16 32) (k1_hw82 : k1_chk82 i v13 v16 v31 v36 v256), IVec S16 32) → Prog (TpuEff nD τ sig (Elt F) Λ₀ (.scVector ((i 0).castLE hcore1) ((i 1).castLE hsub1))) α} :
    (iprop(edgeB (F := F) (e := .i32) (thr d i) arg19 0 (iT (3 * a) (3 * l)) ∗ edgeB (F := F) (e := .f32) (thr d i) arg21 0 (vT V (3 * a) (3 * l)) ∗ own (F := F) (e := .f32) (thr d i) arg18 q18 Set.univ G) : sProp (MM F))
      ⊢ iprop((∀ k1_hw82 : k1_chk82 i v13 v16 v31 v36 (k1_pay258 v2 v66), iprop(edgeB (F := F) (e := .i32) (thr d i) arg19 16 (iT (3 * a) (3 * l)) ∗ edgeB (F := F) (e := .f32) (thr d i) arg21 16 (vT V (3 * a) (3 * l)) ∗ own (F := F) (e := .f32) (thr d i) arg18 q18 Set.univ G) -∗ wp frame (wpE (defs₀ (F := F)) 𝒱₀ (thr d i) none) Set.univ (k ⟨(k1_pay258 v2 v66), k1_hw82, k1_pay259 v2 v62 v66 (k1_pay258 v2 v66)⟩) Q)
        -∗ wp frame (wpE (defs₀ (F := F)) 𝒱₀ (thr d i) none) Set.univ (k1_part29 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v13 v16 v31 v36 v62 v66 k1_h27 >>= k) Q) := by
  subst q2
  subst qa
  subst ql
  rw [k1_part29_eq_skeleton]; unfold k1_part29_skel; simp only [bind_assoc, pure_bind]
  iintro ⟨Hi, Hv, Hr⟩ Hk
  have e235 : ∀ x : S16.Idx, ((k1_pay254 lanesV (BitVec.ofNat 32 l)) x).toNat = min (0 + (x 0).val) (3 * l - 1) % 3 := fun x => eC_toNat (n := 0) (l := l) (by omega) hl hl8 x
  have ck1_hw81 : k1_chk81 i v13 v16 v31 v36 (k1_pay254 lanesV (BitVec.ofNat 32 l)) := fun _ => chk_one (fun x => by rw [e235 x]; omega)
  iapply (assume_ok (c := thr d i) ck1_hw81)
  have i0 : ∀ x : S16.Idx, (k1_pay255 lanesV (BitVec.ofNat 32 a) (BitVec.ofNat 32 l) (k1_pay254 lanesV (BitVec.ofNat 32 l))) x = iT (3 * a) (3 * l) (0 + (x 0).val) := fun x => eX_at (n := 0) (a := a) (l := l) (by omega) hl hl8 ha x
  iapply (edge_put (c := thr d i) (m := arg19) (n := 0) (T := iT (3 * a) (3 * l)) rfl rfl i0) $$ Hi; iintro Hi
  iapply (own_ldIdx (c := thr d i) (m := arg18)) $$ Hr; iintro %v242 %hv242 Hr
  have u0 : ∀ x : S16.Idx, v242 x = vT V (3 * a) (3 * l) (0 + (x 0).val) := fun x => (hv242 x).trans ((congrArg G (e235 x)).trans (hR (min (0 + (x 0).val) (3 * l - 1)) (by omega)))
  iapply (edge_put (c := thr d i) (m := arg21) (n := 0) (T := vT V (3 * a) (3 * l)) rfl rfl u0) $$ Hv; iintro Hv
  have e256 : ∀ x : S16.Idx, ((k1_pay258 lanesV (BitVec.ofNat 32 l)) x).toNat = min (16 + (x 0).val) (3 * l - 1) % 3 := fun x => eC_toNat (n := 16) (l := l) (by omega) hl hl8 x
  have ck1_hw82 : k1_chk82 i v13 v16 v31 v36 (k1_pay258 lanesV (BitVec.ofNat 32 l)) := fun _ => chk_one (fun x => by rw [e256 x]; omega)
  iapply (assume_ok (c := thr d i) ck1_hw82)
  iapply Hk $$ %_
  isplitl [Hi]; · iexact Hi
  isplitl [Hv]; · iexact Hv
  iexact Hr

/-- Lanes 16 to 47 of an edge. -/
theorem part30_ok (v2 : IVec S16 32) (v13 : BitVec 32) (v16 : BitVec 32) (v31 : BitVec 32) (v36 : BitVec 32) (v62 : BitVec 32) (v66 : BitVec 32) (k1_h27 : k1_cond27 i v13 v16 v31 v36 = 1#1) (v256 : IVec S16 32) (k1_hw82 : k1_chk82 i v13 v16 v31 v36 v256) (v261 : IVec S16 32)
    {a l : ℕ} {G V : ℕ → F .f32} (hl : 0 < l) (hl8 : l < 9) (ha : a < 2 ^ 22) (hR : ∀ j < 3 * l, G (j % 3) = V (3 * a + j))
    (qv256 : v256 = (k1_pay258 v2 v66)) (qv261 : v261 = k1_pay259 v2 v62 v66 (k1_pay258 v2 v66)) (q2 : v2 = lanesV) (qa : v62 = BitVec.ofNat 32 a) (ql : v66 = BitVec.ofNat 32 l)
    {k : (Σ' (v295 : IVec S16 32) (v298 : IVec S16 32) (k1_hw84 : k1_chk84 i v13 v16 v31 v36 v298), IVec S16 32) → Prog (TpuEff nD τ sig (Elt F) Λ₀ (.scVector ((i 0).castLE hcore1) ((i 1).castLE hsub1))) α} :
    (iprop(edgeB (F := F) (e := .i32) (thr d i) arg19 16 (iT (3 * a) (3 * l)) ∗ edgeB (F := F) (e := .f32) (thr d i) arg21 16 (vT V (3 * a) (3 * l)) ∗ own (F := F) (e := .f32) (thr d i) arg18 q18 Set.univ G) : sProp (MM F))
      ⊢ iprop((∀ k1_hw84 : k1_chk84 i v13 v16 v31 v36 (k1_pay266 v2 v66), iprop(edgeB (F := F) (e := .i32) (thr d i) arg19 48 (iT (3 * a) (3 * l)) ∗ edgeB (F := F) (e := .f32) (thr d i) arg21 48 (vT V (3 * a) (3 * l)) ∗ own (F := F) (e := .f32) (thr d i) arg18 q18 Set.univ G) -∗ wp frame (wpE (defs₀ (F := F)) 𝒱₀ (thr d i) none) Set.univ (k ⟨k1_pay265 v2 v66, (k1_pay266 v2 v66), k1_hw84, k1_pay267 v62⟩) Q)
        -∗ wp frame (wpE (defs₀ (F := F)) 𝒱₀ (thr d i) none) Set.univ (k1_part30 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v13 v16 v31 v36 v62 v66 k1_h27 v256 k1_hw82 v261 >>= k) Q) := by
  subst qv261 qv256
  subst q2
  subst qa
  subst ql
  rw [k1_part30_eq_skeleton]; unfold k1_part30_skel; simp only [bind_assoc, pure_bind]
  iintro ⟨Hi, Hv, Hr⟩ Hk
  have i16 : ∀ x : S16.Idx, (k1_pay259 lanesV (BitVec.ofNat 32 a) (BitVec.ofNat 32 l) (k1_pay258 lanesV (BitVec.ofNat 32 l))) x = iT (3 * a) (3 * l) (16 + (x 0).val) := fun x => eX_at (n := 16) (a := a) (l := l) (by omega) hl hl8 ha x
  iapply (edge_put (c := thr d i) (m := arg19) (n := 16) (T := iT (3 * a) (3 * l)) rfl rfl i16) $$ Hi; iintro Hi
  have e256 : ∀ x : S16.Idx, (((k1_pay258 lanesV (BitVec.ofNat 32 l))) x).toNat = min (16 + (x 0).val) (3 * l - 1) % 3 := fun x => eC_toNat (n := 16) (l := l) (by omega) hl hl8 x
  iapply (own_ldIdx (c := thr d i) (m := arg18)) $$ Hr; iintro %v263 %hv263 Hr
  have u16 : ∀ x : S16.Idx, v263 x = vT V (3 * a) (3 * l) (16 + (x 0).val) := fun x => (hv263 x).trans ((congrArg G (e256 x)).trans (hR (min (16 + (x 0).val) (3 * l - 1)) (by omega)))
  iapply (edge_put (c := thr d i) (m := arg21) (n := 16) (T := vT V (3 * a) (3 * l)) rfl rfl u16) $$ Hv; iintro Hv
  have e277 : ∀ x : S16.Idx, ((k1_pay262 lanesV (BitVec.ofNat 32 l)) x).toNat = min (32 + (x 0).val) (3 * l - 1) % 3 := fun x => eC_toNat (n := 32) (l := l) (by omega) hl hl8 x
  have ck1_hw83 : k1_chk83 i v13 v16 v31 v36 (k1_pay262 lanesV (BitVec.ofNat 32 l)) := fun _ => chk_one (fun x => by rw [e277 x]; omega)
  iapply (assume_ok (c := thr d i) ck1_hw83)
  have i32 : ∀ x : S16.Idx, (k1_pay263 lanesV (BitVec.ofNat 32 a) (BitVec.ofNat 32 l) (k1_pay262 lanesV (BitVec.ofNat 32 l))) x = iT (3 * a) (3 * l) (32 + (x 0).val) := fun x => eX_at (n := 32) (a := a) (l := l) (by omega) hl hl8 ha x
  iapply (edge_put (c := thr d i) (m := arg19) (n := 32) (T := iT (3 * a) (3 * l)) rfl rfl i32) $$ Hi; iintro Hi
  iapply (own_ldIdx (c := thr d i) (m := arg18)) $$ Hr; iintro %v284 %hv284 Hr
  have u32 : ∀ x : S16.Idx, v284 x = vT V (3 * a) (3 * l) (32 + (x 0).val) := fun x => (hv284 x).trans ((congrArg G (e277 x)).trans (hR (min (32 + (x 0).val) (3 * l - 1)) (by omega)))
  iapply (edge_put (c := thr d i) (m := arg21) (n := 32) (T := vT V (3 * a) (3 * l)) rfl rfl u32) $$ Hv; iintro Hv
  have e298 : ∀ x : S16.Idx, ((k1_pay266 lanesV (BitVec.ofNat 32 l)) x).toNat = min (48 + (x 0).val) (3 * l - 1) % 3 := fun x => eC_toNat (n := 48) (l := l) (by omega) hl hl8 x
  have ck1_hw84 : k1_chk84 i v13 v16 v31 v36 (k1_pay266 lanesV (BitVec.ofNat 32 l)) := fun _ => chk_one (fun x => by rw [e298 x]; omega)
  iapply (assume_ok (c := thr d i) ck1_hw84)
  iapply Hk $$ %_
  isplitl [Hi]; · iexact Hi
  isplitl [Hv]; · iexact Hv
  iexact Hr

/-- Lanes 48 to 79 of an edge. -/
theorem part31_ok (v2 : IVec S16 32) (v13 : BitVec 32) (v16 : BitVec 32) (v31 : BitVec 32) (v36 : BitVec 32) (v62 : BitVec 32) (v66 : BitVec 32) (k1_h27 : k1_cond27 i v13 v16 v31 v36 = 1#1) (v295 : IVec S16 32) (v298 : IVec S16 32) (k1_hw84 : k1_chk84 i v13 v16 v31 v36 v298) (v299 : IVec S16 32)
    {a l : ℕ} {G V : ℕ → F .f32} (hl : 0 < l) (hl8 : l < 9) (ha : a < 2 ^ 22) (hR : ∀ j < 3 * l, G (j % 3) = V (3 * a + j))
    (qv295 : v295 = k1_pay265 v2 v66) (qv298 : v298 = (k1_pay266 v2 v66)) (qv299 : v299 = k1_pay267 v62) (q2 : v2 = lanesV) (qa : v62 = BitVec.ofNat 32 a) (ql : v66 = BitVec.ofNat 32 l)
    {k : (Σ' (v333 : IVec S16 32), IVec S16 32) → Prog (TpuEff nD τ sig (Elt F) Λ₀ (.scVector ((i 0).castLE hcore1) ((i 1).castLE hsub1))) α} :
    (iprop(edgeB (F := F) (e := .i32) (thr d i) arg19 48 (iT (3 * a) (3 * l)) ∗ edgeB (F := F) (e := .f32) (thr d i) arg21 48 (vT V (3 * a) (3 * l)) ∗ own (F := F) (e := .f32) (thr d i) arg18 q18 Set.univ G) : sProp (MM F))
      ⊢ iprop((iprop(edgeB (F := F) (e := .i32) (thr d i) arg19 80 (iT (3 * a) (3 * l)) ∗ edgeB (F := F) (e := .f32) (thr d i) arg21 80 (vT V (3 * a) (3 * l)) ∗ own (F := F) (e := .f32) (thr d i) arg18 q18 Set.univ G) -∗ wp frame (wpE (defs₀ (F := F)) 𝒱₀ (thr d i) none) Set.univ (k ⟨k1_pay273 v2 v66, k1_pay274 v2 v66⟩) Q)
        -∗ wp frame (wpE (defs₀ (F := F)) 𝒱₀ (thr d i) none) Set.univ (k1_part31 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v13 v16 v31 v36 v62 v66 k1_h27 v295 v298 k1_hw84 v299 >>= k) Q) := by
  subst qv299 qv298 qv295
  subst q2
  subst qa
  subst ql
  rw [k1_part31_eq_skeleton]; unfold k1_part31_skel; simp only [bind_assoc, pure_bind]
  iintro ⟨Hi, Hv, Hr⟩ Hk
  have i48 : ∀ x : S16.Idx, (k1_pay268 (k1_pay265 lanesV (BitVec.ofNat 32 l)) ((k1_pay266 lanesV (BitVec.ofNat 32 l))) (k1_pay267 (BitVec.ofNat 32 a))) x = iT (3 * a) (3 * l) (48 + (x 0).val) := fun x => eX_at (n := 48) (a := a) (l := l) (by omega) hl hl8 ha x
  iapply (edge_put (c := thr d i) (m := arg19) (n := 48) (T := iT (3 * a) (3 * l)) rfl rfl i48) $$ Hi; iintro Hi
  have e298 : ∀ x : S16.Idx, (((k1_pay266 lanesV (BitVec.ofNat 32 l))) x).toNat = min (48 + (x 0).val) (3 * l - 1) % 3 := fun x => eC_toNat (n := 48) (l := l) (by omega) hl hl8 x
  iapply (own_ldIdx (c := thr d i) (m := arg18)) $$ Hr; iintro %v305 %hv305 Hr
  have u48 : ∀ x : S16.Idx, v305 x = vT V (3 * a) (3 * l) (48 + (x 0).val) := fun x => (hv305 x).trans ((congrArg G (e298 x)).trans (hR (min (48 + (x 0).val) (3 * l - 1)) (by omega)))
  iapply (edge_put (c := thr d i) (m := arg21) (n := 48) (T := vT V (3 * a) (3 * l)) rfl rfl u48) $$ Hv; iintro Hv
  have e319 : ∀ x : S16.Idx, ((k1_pay271 lanesV (BitVec.ofNat 32 l)) x).toNat = min (64 + (x 0).val) (3 * l - 1) % 3 := fun x => eC_toNat (n := 64) (l := l) (by omega) hl hl8 x
  have ck1_hw85 : k1_chk85 i v13 v16 v31 v36 (k1_pay271 lanesV (BitVec.ofNat 32 l)) := fun _ => chk_one (fun x => by rw [e319 x]; omega)
  iapply (assume_ok (c := thr d i) ck1_hw85)
  have i64 : ∀ x : S16.Idx, (k1_pay272 lanesV (BitVec.ofNat 32 a) (BitVec.ofNat 32 l) (k1_pay271 lanesV (BitVec.ofNat 32 l))) x = iT (3 * a) (3 * l) (64 + (x 0).val) := fun x => eX_at (n := 64) (a := a) (l := l) (by omega) hl hl8 ha x
  iapply (edge_put (c := thr d i) (m := arg19) (n := 64) (T := iT (3 * a) (3 * l)) rfl rfl i64) $$ Hi; iintro Hi
  iapply (own_ldIdx (c := thr d i) (m := arg18)) $$ Hr; iintro %v326 %hv326 Hr
  have u64 : ∀ x : S16.Idx, v326 x = vT V (3 * a) (3 * l) (64 + (x 0).val) := fun x => (hv326 x).trans ((congrArg G (e319 x)).trans (hR (min (64 + (x 0).val) (3 * l - 1)) (by omega)))
  iapply (edge_put (c := thr d i) (m := arg21) (n := 64) (T := vT V (3 * a) (3 * l)) rfl rfl u64) $$ Hv; iintro Hv
  iapply Hk
  isplitl [Hi]; · iexact Hi
  isplitl [Hv]; · iexact Hv
  iexact Hr

/-- Lanes 80 to 111 of an edge. -/
theorem part32_ok (v2 : IVec S16 32) (v13 : BitVec 32) (v16 : BitVec 32) (v31 : BitVec 32) (v36 : BitVec 32) (v62 : BitVec 32) (v66 : BitVec 32) (k1_h27 : k1_cond27 i v13 v16 v31 v36 = 1#1) (v333 : IVec S16 32) (v337 : IVec S16 32)
    {a l : ℕ} {G V : ℕ → F .f32} (hl : 0 < l) (hl8 : l < 9) (ha : a < 2 ^ 22) (hR : ∀ j < 3 * l, G (j % 3) = V (3 * a + j))
    (qv333 : v333 = k1_pay273 v2 v66) (qv337 : v337 = k1_pay274 v2 v66) (q2 : v2 = lanesV) (qa : v62 = BitVec.ofNat 32 a) (ql : v66 = BitVec.ofNat 32 l)
    {k : (IVec S16 32) → Prog (TpuEff nD τ sig (Elt F) Λ₀ (.scVector ((i 0).castLE hcore1) ((i 1).castLE hsub1))) α} :
    (iprop(edgeB (F := F) (e := .i32) (thr d i) arg19 80 (iT (3 * a) (3 * l)) ∗ edgeB (F := F) (e := .f32) (thr d i) arg21 80 (vT V (3 * a) (3 * l)) ∗ own (F := F) (e := .f32) (thr d i) arg18 q18 Set.univ G) : sProp (MM F))
      ⊢ iprop((iprop(edgeB (F := F) (e := .i32) (thr d i) arg19 112 (iT (3 * a) (3 * l)) ∗ edgeB (F := F) (e := .f32) (thr d i) arg21 112 (vT V (3 * a) (3 * l)) ∗ own (F := F) (e := .f32) (thr d i) arg18 q18 Set.univ G) -∗ wp frame (wpE (defs₀ (F := F)) 𝒱₀ (thr d i) none) Set.univ (k (k1_pay281 v2 v66)) Q)
        -∗ wp frame (wpE (defs₀ (F := F)) 𝒱₀ (thr d i) none) Set.univ (k1_part32 (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v2 v13 v16 v31 v36 v62 v66 k1_h27 v333 v337 >>= k) Q) := by
  subst qv337 qv333
  subst q2
  subst qa
  subst ql
  rw [k1_part32_eq_skeleton]; unfold k1_part32_skel; simp only [bind_assoc, pure_bind]
  iintro ⟨Hi, Hv, Hr⟩ Hk
  have e340 : ∀ x : S16.Idx, ((k1_pay275 (k1_pay273 lanesV (BitVec.ofNat 32 l)) (k1_pay274 lanesV (BitVec.ofNat 32 l))) x).toNat = min (80 + (x 0).val) (3 * l - 1) % 3 := fun x => eC_toNat (n := 80) (l := l) (by omega) hl hl8 x
  have ck1_hw86 : k1_chk86 i v13 v16 v31 v36 (k1_pay275 (k1_pay273 lanesV (BitVec.ofNat 32 l)) (k1_pay274 lanesV (BitVec.ofNat 32 l))) := fun _ => chk_one (fun x => by rw [e340 x]; omega)
  iapply (assume_ok (c := thr d i) ck1_hw86)
  have i80 : ∀ x : S16.Idx, (k1_pay276 (BitVec.ofNat 32 a) (k1_pay274 lanesV (BitVec.ofNat 32 l)) (k1_pay275 (k1_pay273 lanesV (BitVec.ofNat 32 l)) (k1_pay274 lanesV (BitVec.ofNat 32 l)))) x = iT (3 * a) (3 * l) (80 + (x 0).val) := fun x => eX_at (n := 80) (a := a) (l := l) (by omega) hl hl8 ha x
  iapply (edge_put (c := thr d i) (m := arg19) (n := 80) (T := iT (3 * a) (3 * l)) rfl rfl i80) $$ Hi; iintro Hi
  iapply (own_ldIdx (c := thr d i) (m := arg18)) $$ Hr; iintro %v347 %hv347 Hr
  have u80 : ∀ x : S16.Idx, v347 x = vT V (3 * a) (3 * l) (80 + (x 0).val) := fun x => (hv347 x).trans ((congrArg G (e340 x)).trans (hR (min (80 + (x 0).val) (3 * l - 1)) (by omega)))
  iapply (edge_put (c := thr d i) (m := arg21) (n := 80) (T := vT V (3 * a) (3 * l)) rfl rfl u80) $$ Hv; iintro Hv
  have e361 : ∀ x : S16.Idx, ((k1_pay279 lanesV (BitVec.ofNat 32 l)) x).toNat = min (96 + (x 0).val) (3 * l - 1) % 3 := fun x => eC_toNat (n := 96) (l := l) (by omega) hl hl8 x
  have ck1_hw87 : k1_chk87 i v13 v16 v31 v36 (k1_pay279 lanesV (BitVec.ofNat 32 l)) := fun _ => chk_one (fun x => by rw [e361 x]; omega)
  iapply (assume_ok (c := thr d i) ck1_hw87)
  have i96 : ∀ x : S16.Idx, (k1_pay280 lanesV (BitVec.ofNat 32 a) (BitVec.ofNat 32 l) (k1_pay279 lanesV (BitVec.ofNat 32 l))) x = iT (3 * a) (3 * l) (96 + (x 0).val) := fun x => eX_at (n := 96) (a := a) (l := l) (by omega) hl hl8 ha x
  iapply (edge_put (c := thr d i) (m := arg19) (n := 96) (T := iT (3 * a) (3 * l)) rfl rfl i96) $$ Hi; iintro Hi
  iapply (own_ldIdx (c := thr d i) (m := arg18)) $$ Hr; iintro %v368 %hv368 Hr
  have u96 : ∀ x : S16.Idx, v368 x = vT V (3 * a) (3 * l) (96 + (x 0).val) := fun x => (hv368 x).trans ((congrArg G (e361 x)).trans (hR (min (96 + (x 0).val) (3 * l - 1)) (by omega)))
  iapply (edge_put (c := thr d i) (m := arg21) (n := 96) (T := vT V (3 * a) (3 * l)) rfl rfl u96) $$ Hv; iintro Hv
  iapply Hk
  isplitl [Hi]; · iexact Hi
  isplitl [Hv]; · iexact Hv
  iexact Hr

end Cert.Proof.Vox
-- ==== Proof.Main8.lean ====
/-
  The whole work of one tile.
-/
module

public import proofs.«01_k».proof.Proof.Main7
public import proofs.«01_k».proof.Proof.EdgeE
public import proofs.«01_k».proof.Proof.EdgeF
public import proofs.«01_k».proof.Proof.EdgeG

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {mw : ℕ → BitVec 32} {d : Dev nD} {fl nz P : ℕ → F .f32} {CT : ℕ → BitVec 32} {q₂ q₃ q₄ q₅ q₆ q₇ : PosShare TreeShare}
  {O : CellTallies nD τ sig (HIx 2)} {W₀ : Waits sig (HIx 2)}
variable (i : grid1.Coords) (arg2 : Memref sig .scVector .hbm S2097152 .i32) (y2 : arg2.IsWhole) (arg3 : Memref sig .scVector .hbm S6291456 .f32) (y3 : arg3.IsWhole) (arg4 : Memref sig .scVector .hbm S9x16 .f32) (y4 : arg4.IsWhole) (arg5 : Memref sig .scVector .hbm S512 .i32) (y5 : arg5.IsWhole) (arg6 : Memref sig .scVector .hbm S6144 .f32) (y6 : arg6.IsWhole) (arg7 : Memref sig .scVector .hbm S2048 .i32) (y7 : arg7.IsWhole) (arg8 : Memref sig .scVector .hbm S6291456 .f32) (y8 : arg8.IsWhole) (arg9 : Memref sig .scVector .hbm S2097152 .i32) (y9 : arg9.IsWhole) (arg10 : Memref sig .scVector .vmem S4096 .i32) (y10 : arg10.IsWhole) (arg11 : Memref sig .scVector .vmem S12288 .f32) (y11 : arg11.IsWhole) (arg12 : Memref sig .scVector .vmem S10240 .i32) (y12 : arg12.IsWhole) (arg13 : Memref sig .scVector .vmem S30720 .f32) (y13 : arg13.IsWhole) (arg14 : Memref sig .scVector .vmem S9x16 .f32) (y14 : arg14.IsWhole) (arg15 : Memref sig .scVector .vmem S512 .i32) (y15 : arg15.IsWhole) (arg16 : Memref sig .scVector .vmem S32 .i32) (y16 : arg16.IsWhole) (arg17 : Memref sig .scVector .vmem S2048 .i32) (y17 : arg17.IsWhole) (arg18 : Memref sig .scVector .vmem S6144 .f32) (y18 : arg18.IsWhole) (arg19 : Memref sig .scVector .vmem S128 .i32) (y19 : arg19.IsWhole) (arg20 : Memref sig .scVector .vmem S128 .i32) (y20 : arg20.IsWhole) (arg21 : Memref sig .scVector .vmem S128 .f32) (y21 : arg21.IsWhole) (arg22 : DmaSems sig S_) (arg23 : DmaSems sig S_) (arg24 : DmaSems sig S_)
    (z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 : DmaSems sig S_)

/-- The six arrays a tile reads. -/
def mainIn (d : Dev nD) (mw : ℕ → BitVec 32) (nz P fl : ℕ → F .f32) (CT : ℕ → BitVec 32) (q₂ q₃ q₄ q₅ q₆ q₇ : PosShare TreeShare) : sProp (MM F) :=
  iprop(own (F := F) (e := .i32) (thr d i) arg2 q₂ Set.univ mw ∗ own (F := F) (e := .f32) (thr d i) arg3 q₃ Set.univ nz ∗ rowsT (thr d i) arg4 q₄ P ∗ own (F := F) (e := .i32) (thr d i) arg5 q₅ Set.univ CT
    ∗ own (F := F) (e := .f32) (thr d i) arg6 q₆ Set.univ (fun m => fl (m % 3)) ∗ own (F := F) (e := .i32) (thr d i) arg7 q₇ Set.univ (fun _ => 0#32))

/-- The places of the two results a tile writes, before the work. -/
def mainOut₀ (d : Dev nD) (fl : ℕ → F .f32) (a b zs ze : ℕ) : sProp (MM F) :=
  iprop(outO (F := F) (e := .i32) (thr d i) arg9 (Set.Ico a b) ∅ (fun _ => 0#32) ∗ outO (F := F) (e := .f32) (thr d i) arg8 (Set.Ico (3 * a) (3 * b)) ∅ fl
    ∗ outO (F := F) (e := .i32) (thr d i) arg9 (Set.Ico zs ze) ∅ (fun _ => 0#32) ∗ outO (F := F) (e := .f32) (thr d i) arg8 (Set.Ico (3 * zs) (3 * ze)) ∅ fl)

/-- A tile's own memory, whatever it holds. -/
def mainScr (d : Dev nD) : sProp (MM F) :=
  iprop(anyB (F := F) (e := .i32) (thr d i) arg10 ∗ anyB (F := F) (e := .f32) (thr d i) arg11 ∗ anyB (F := F) (e := .i32) (thr d i) arg12 ∗ anyB (F := F) (e := .f32) (thr d i) arg13
    ∗ (∃ g, arg14.view.loc (thr d i) ↦[arg14.view.setOn Finset.univ]{fullShare} g)
    ∗ anyB (F := F) (e := .i32) (thr d i) arg15 ∗ anyB (F := F) (e := .i32) (thr d i) arg16 ∗ anyB (F := F) (e := .i32) (thr d i) arg17 ∗ anyB (F := F) (e := .f32) (thr d i) arg18 ∗ anyB (F := F) (e := .i32) (thr d i) arg19 ∗ anyB (F := F) (e := .i32) (thr d i) arg20 ∗ anyB (F := F) (e := .f32) (thr d i) arg21)

/-- A tile's counters, at rest. -/
def mainSem (d : Dev nD) : sProp (MM F) :=
  iprop(semVal (thr d i, .dma z0.sem) 0 ∗ semVal (thr d i, .dma z1.sem) 0 ∗ semVal (thr d i, .dma z2.sem) 0 ∗ semVal (thr d i, .dma z3.sem) 0 ∗ semVal (thr d i, .dma z4.sem) 0 ∗ semVal (thr d i, .dma z5.sem) 0 ∗ semVal (thr d i, .dma z6.sem) 0 ∗ semVal (thr d i, .dma z7.sem) 0 ∗ semVal (thr d i, .dma z8.sem) 0 ∗ semVal (thr d i, .dma z9.sem) 0 ∗ semVal (thr d i, .dma z10.sem) 0 ∗ semVal (thr d i, .dma z11.sem) 0 ∗ semVal (thr d i, .dma z12.sem) 0 ∗ semVal (thr d i, .dma z13.sem) 0 ∗ semVal (thr d i, .dma z14.sem) 0 ∗ semVal (thr d i, .dma z15.sem) 0 ∗ semVal (thr d i, .dma z16.sem) 0 ∗ semVal (thr d i, .dma z17.sem) 0 ∗ semVal (thr d i, .dma z18.sem) 0 ∗ semVal (thr d i, .dma z19.sem) 0 ∗ semVal (thr d i, .dma z20.sem) 0 ∗ semVal (thr d i, .dma z21.sem) 0 ∗ semVal (thr d i, .dma z22.sem) 0 ∗ semVal (thr d i, .dma z23.sem) 0 ∗ semVal (thr d i, .dma z24.sem) 0 ∗ semVal (thr d i, .dma z25.sem) 0 ∗ semVal (thr d i, .dma z26.sem) 0 ∗ semVal (thr d i, .dma z27.sem) 0 ∗ semVal (thr d i, .dma z28.sem) 0 ∗ semVal (thr d i, .dma z29.sem) 0 ∗ semVal (thr d i, .dma z30.sem) 0 ∗ semVal (thr d i, .dma z31.sem) 0 ∗ semVal (thr d i, .dma z32.sem) 0 ∗ semVal (thr d i, .dma z33.sem) 0 ∗ semVal (thr d i, .dma z34.sem) 0 ∗ semVal (thr d i, .dma z35.sem) 0 ∗ semVal (thr d i, .dma z36.sem) 0 ∗ semVal (thr d i, .dma z37.sem) 0 ∗ semVal (thr d i, .dma z38.sem) 0 ∗ semVal (thr d i, .dma z39.sem) 0)

/-- What the work leaves, but for the zero rows. -/
def mainRest (d : Dev nD) (mw : ℕ → BitVec 32) (Y : ℕ → ℕ → F .f32) (nz P fl : ℕ → F .f32) (CT : ℕ → BitVec 32) (q₂ q₃ q₄ q₅ q₆ q₇ : PosShare TreeShare) (a b : ℕ) : sProp (MM F) :=
  iprop(mainIn i arg2 arg3 arg4 arg5 arg6 arg7 d mw nz P fl CT q₂ q₃ q₄ q₅ q₆ q₇
    ∗ outO (e := .i32) (thr d i) arg9 (Set.Ico a b) (Set.Ico a b) (occV mw) ∗ outO (e := .f32) (thr d i) arg8 (Set.Ico (3 * a) (3 * b)) (Set.Ico (3 * a) (3 * b)) (xwV Y mw)
    ∗ anyB (F := F) (e := .i32) (thr d i) arg10 ∗ anyB (F := F) (e := .f32) (thr d i) arg11 ∗ anyB (F := F) (e := .i32) (thr d i) arg12 ∗ anyB (F := F) (e := .f32) (thr d i) arg13
    ∗ rowsT (thr d i) arg14 fullShare P ∗ own (F := F) (e := .i32) (thr d i) arg15 fullShare Set.univ CT ∗ anyB (F := F) (e := .i32) (thr d i) arg16
    ∗ mainSem i z0 z1 z2 z3 z4 z5 z6 z7 z8 z9 z10 z11 z12 z13 z14 z15 z16 z17 z18 z19 z20 z21 z22 z23 z24 z25 z26 z27 z28 z29 z30 z31 z32 z33 z34 z35 z36 z37 z38 z39 d)

/-- The zero rows, and what else the last of the work uses. -/
def mainTail (d : Dev nD) (fl : ℕ → F .f32) (zs ze : ℕ) (O : CellTallies nD τ sig (HIx 2)) (W₀ : Waits sig (HIx 2)) : sProp (MM F) :=
  iprop(own (F := F) (e := .i32) (thr d i) arg17 fullShare Set.univ (fun _ => 0#32) ∗ own (F := F) (e := .f32) (thr d i) arg18 fullShare Set.univ (fun m => fl (m % 3))
    ∗ outO (e := .i32) (thr d i) arg9 (Set.Ico zs ze) (Set.Ico zs ze) (fun _ => 0#32)
    ∗ outO (e := .f32) (thr d i) arg8 (Set.Ico (3 * zs) (3 * ze)) (Set.Ico (3 * zs) (3 * ze)) (fun m => fl (m % 3)) ∗ semVal (thr d i, .dma arg23.sem) 0 ∗ semVal (thr d i, .dma arg24.sem) 0 ∗ tick (thr d i) default O W₀
    ∗ edgeR i arg19 arg20 arg21 arg22 d ∗ semVal (thr d i, .dma z40.sem) 0 ∗ semVal (thr d i, .dma z41.sem) 0)

theorem keep {A B C : sProp (MM F)} : iprop(A ∗ (iprop(A ∗ B) -∗ C)) ⊢ iprop(B -∗ C) := by
  iintro ⟨HA, HK⟩ HB
  iapply HK
  isplitl [HA]; · iexact HA
  iexact HB

/-- Once every fill is issued: what the last blocks use, and what is left to wait for. -/
theorem fills_open {zs ze ff n : ℕ} : (fills i arg8 arg9 arg17 arg18 arg23 arg24 d fl zs ze ff n (Set.Ico (ff + 2048 * n) (ff + 2048 * n)) (Set.Ico (3 * (ff + 2048 * n)) (3 * (ff + 2048 * n))) n : sProp (MM F))
    ⊢ iprop(zeroI i arg8 arg9 arg17 arg18 d fl (Transfers.shareDrop fullShare n) zs ze ff (ff + 2048 * n)
      ∗ drainInv (F := F) (e := .i32) (thr d i) arg17 arg9 arg23.sem (creO arg9 arg23) 2048 ff n (fun _ => 0#32) (fun _ => 0#32) 0
      ∗ drainInv (F := F) (e := .f32) (thr d i) arg18 arg8 arg24.sem (creX arg8 arg24) 6144 (3 * ff) n (fun m => fl (m % 3)) (fun m => fl (m % 3)) 0) := by
  unfold fills fillInv zeroI drainInv
  rw [Nat.zero_mul, Nat.zero_mul, show 3 * ff + 6144 * n = 3 * (ff + 2048 * n) by omega]
  iintro ⟨⟨H17, H9, D9⟩, H18, H8, D8⟩
  isplitl [H17 H18 H9 H8]
  · isplitl [H17]; · iexact H17
    isplitl [H18]; · iexact H18
    isplitl [H9]; · iexact H9
    iexact H8
  isplitl [D9]; · iexact D9
  iexact D8

theorem outO_none {c : Thread nD τ} {sp : Space} {dd : Fin 1 → ℕ} {e : EltTy} {m : Memref sig c.2.kind sp ⟨1, dd⟩ e} {I W : Set ℕ} {V V' : ℕ → Elt F e} (hW : ∀ p ∈ W, False) :
    (outO c m I ∅ V' : sProp (MM F)) ⊢ outO c m I W V := by
  unfold outO
  iintro ⟨%G, H, -⟩
  iexists G
  isplitl [H]; · iexact H
  ipureintro
  exact fun p hp => (hW p hp).elim

/-- The waits for the zero rows' whole blocks, and the zero rows put together. -/
theorem finish_ok {zs ze ff n : ℕ} {W9 W8 : Set ℕ} (h8 : 0 < n → 8 ∣ ff) (hz : zs ≤ ff) (hn : ff + 2048 * n ≤ ze) (he : ze ≤ 2097152)
    (hW9 : ∀ p ∈ Set.Ico zs ze, p ∈ W9 ∪ Set.Ico ff (ff + 2048 * n)) (hW8 : ∀ p ∈ Set.Ico (3 * zs) (3 * ze), p ∈ W8 ∪ Set.Ico (3 * ff) (3 * (ff + 2048 * n)))
    (v13 v16 v31 v36 v67 : BitVec 32) (h52 : k1_chk52 i v13 v16 v31 v36) (h67 : v67 = BitVec.ofNat 32 ff) (htr : (k1_t13_loop i v13 v16 v31 v36).trips = n) {Q : PUnit → sProp (MM F)} :
    (iprop(drainInv (F := F) (e := .i32) (thr d i) arg17 arg9 arg23.sem (creO arg9 arg23) 2048 ff n (fun _ => 0#32) (fun _ => 0#32) 0
        ∗ drainInv (F := F) (e := .f32) (thr d i) arg18 arg8 arg24.sem (creX arg8 arg24) 6144 (3 * ff) n (fun m => fl (m % 3)) (fun m => fl (m % 3)) 0 ∗ tick (thr d i) default O W₀ ∗ own (F := F) (e := .i32) (thr d i) arg17 (Transfers.shareDrop fullShare n) Set.univ (fun _ => 0#32) ∗ own (F := F) (e := .f32) (thr d i) arg18 (Transfers.shareDrop fullShare n) Set.univ (fun m => fl (m % 3))
        ∗ outO (e := .i32) (thr d i) arg9 (Set.Ico zs ze \ Set.Ico ff (ff + 2048 * n)) W9 (fun _ => 0#32)
        ∗ outO (e := .f32) (thr d i) arg8 (Set.Ico (3 * zs) (3 * ze) \ Set.Ico (3 * ff) (3 * (ff + 2048 * n))) W8 (fun m => fl (m % 3))
        ∗ edgeR i arg19 arg20 arg21 arg22 d ∗ semVal (thr d i, .dma z40.sem) 0 ∗ semVal (thr d i, .dma z41.sem) 0) : sProp (MM F))
      ⊢ iprop((mainTail i arg8 arg9 arg17 arg18 arg19 arg20 arg21 arg22 arg23 arg24 z40 z41 d fl zs ze O W₀ -∗ Q ⟨⟩)
        -∗ wp frame (wpE (defs₀ (F := F)) 𝒱₀ (thr d i) none) Set.univ
          (Scf.Loop.for (k1_t13_loop i v13 v16 v31 v36) (k1_t13_ok i v13 v16 v31 v36 h52) v67 (k1_t13_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 h52)
            >>= fun v221 => Scf.Loop.for (k1_t14_loop i v13 v16 v31 v36) (k1_t14_ok i v13 v16 v31 v36 h52) v221 (k1_t14_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 v13 v16 v31 v36 h52) >>= fun _ => pure ⟨⟩) Q) := by
  subst h67
  iintro ⟨D9, D8, Ht, H17, H18, H9, H8, HE, S40, S41⟩ HK
  rw [show 3 * (ff + 2048 * n) = 3 * ff + 6144 * n by omega] at *
  iapply (drain_loop i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41 (fl := fl) (O := O) (W₀ := W₀) h8 (by omega) v13 v16 v31 v36 h52 htr) $$ [D9 D8 Ht]
  · unfold drains
    isplitl [D9]; · iexact D9
    isplitl [D8]; · iexact D8
    iexact Ht
  iintro HD
  unfold drains
  icases HD with ⟨D9, D8, Ht⟩
  imod (fill_done (c := thr d i) (src := arg17) (dst := arg9) (Z := Set.Ico zs ze) (W := W9) (B := 2048) (s := ff) (n := n) (G₀ := fun _ => 0#32) (V := fun _ => 0#32) (N := creO arg9 arg23)
    (by show 0 < (creO arg9 arg23 : ℕ); exact Nat.succ_pos _) (fun p h1 h2 => ⟨by omega, by omega⟩)) $$ [D9 H17 H9] with ⟨H17, H9, S23⟩
  · isplitl [D9]; · iexact D9
    isplitl [H17]; · iexact H17
    iexact H9
  imod (fill_done (c := thr d i) (src := arg18) (dst := arg8) (Z := Set.Ico (3 * zs) (3 * ze)) (W := W8) (B := 6144) (s := 3 * ff) (n := n) (G₀ := fun m => fl (m % 3)) (V := fun m => fl (m % 3)) (N := creX arg8 arg24)
    (by show 0 < (creX arg8 arg24 : ℕ); exact Nat.succ_pos _) (fun p h1 h2 => ⟨by omega, by omega⟩)) $$ [D8 H18 H8] with ⟨H18, H8, S24⟩
  · isplitl [D8]; · iexact D8
    isplitl [H18]; · iexact H18
    iexact H8
  rw [wp_pure]
  imodintro
  iapply HK
  unfold mainTail
  isplitl [H17]; · iexact H17
  isplitl [H18]; · iexact H18
  isplitl [H9]
  · iapply (outO_mono (F := F) (e := .i32) hW9) $$ H9
  isplitl [H8]
  · iapply (outO_mono (F := F) (e := .f32) hW8) $$ H8
  isplitl [S23]; · iexact S23
  isplitl [S24]; · iexact S24
  isplitl [Ht]; · iexact Ht
  isplitl [HE]; · iexact HE
  isplitl [S40]; · iexact S40
  iexact S41

attribute [local irreducible] cnt nthOf

set_option maxHeartbeats 1600000 in
/-- THE WORK OF ONE TILE: its rows of the two results, and its share of the zero rows. -/
theorem main_ok (hbin : Bin mw) (w : ℕ) (hw : w = 2 * (i 1).val + (i 0).val)
    (hCT : ∀ n < 512, CT n = BitVec.ofNat 32 (cnt mw (65536 * (n / 16 + 1)) - cnt mw (65536 * (n / 16))))
    {t a b zs zl hd nb ff fz ze : ℕ} (ht : cnt mw 2097152 = t) (ha : cnt mw (65536 * w) = a) (hb : cnt mw (65536 * (w + 1)) = b) (hzs : zst t a w = zs) (hzl : zlen a b = zl)
    (hhd : zhd t a b w = hd) (hnb : znb t a b w = nb) (hff : zs + hd = ff) (hfz : ff + 2048 * nb = fz) (hzz : zs + zl = ze) {Q : PUnit → sProp (MM F)} :
    (iprop(mainIn i arg2 arg3 arg4 arg5 arg6 arg7 d mw nz P fl CT q₂ q₃ q₄ q₅ q₆ q₇
        ∗ mainOut₀ i arg8 arg9 d fl a b zs ze
        ∗ mainScr i arg10 arg11 arg12 arg13 arg14 arg15 arg16 arg17 arg18 arg19 arg20 arg21 d ∗ mainSem i z0 z1 z2 z3 z4 z5 z6 z7 z8 z9 z10 z11 z12 z13 z14 z15 z16 z17 z18 z19 z20 z21 z22 z23 z24 z25 z26 z27 z28 z29 z30 z31 z32 z33 z34 z35 z36 z37 z38 z39 d
        ∗ semVal (thr d i, .dma arg22.sem) 0 ∗ semVal (thr d i, .dma arg23.sem) 0 ∗ semVal (thr d i, .dma arg24.sem) 0 ∗ semVal (thr d i, .dma z40.sem) 0 ∗ semVal (thr d i, .dma z41.sem) 0 ∗ tick (thr d i) default O W₀) : sProp (MM F))
      ⊢ iprop((iprop(mainRest i arg2 arg3 arg4 arg5 arg6 arg7 arg8 arg9 arg10 arg11 arg12 arg13 arg14 arg15 arg16 z0 z1 z2 z3 z4 z5 z6 z7 z8 z9 z10 z11 z12 z13 z14 z15 z16 z17 z18 z19 z20 z21 z22 z23 z24 z25 z26 z27 z28 z29 z30 z31 z32 z33 z34 z35 z36 z37 z38 z39 d mw (Yv nz P (fun n => P (n + 3))) nz P fl CT q₂ q₃ q₄ q₅ q₆ q₇ a b
          ∗ mainTail i arg8 arg9 arg17 arg18 arg19 arg20 arg21 arg22 arg23 arg24 z40 z41 d fl zs ze O W₀) -∗ Q ⟨⟩)
        -∗ wp frame (wpE (defs₀ (F := F)) 𝒱₀ (thr d i) none) Set.univ (cc1__main_body (F := F) i arg2 y2 arg3 y3 arg4 y4 arg5 y5 arg6 y6 arg7 y7 arg8 y8 arg9 y9 arg10 y10 arg11 y11 arg12 y12 arg13 y13 arg14 y14 arg15 y15 arg16 y16 arg17 y17 arg18 y18 arg19 y19 arg20 y20 arg21 y21 arg22 arg23 arg24 z0 z1 z2 z3 z4 z5 z6 z7 z8 z9 z10 z11 z12 z13 z14 z15 z16 z17 z18 z19 z20 z21 z22 z23 z24 z25 z26 z27 z28 z29 z30 z31 z32 z33 z34 z35 z36 z37 z38 z39 z40 z41) Q) := by
  have hw32 : w < 32 := by have := (i 0).isLt; have := (i 1).isLt; change (i 0).val < 2 at *; change (i 1).val < 16 at *; omega
  have hp := piece_ok (mw := mw) hw32
  rw [ha, hb, ht] at hp
  have hm : Monotone (fun k => cnt mw (65536 * k)) := fun x y h => cnt_mono (by omega)
  have hab := hp.hab
  have hb2 : b ≤ 2097152 := hp.hbt.trans hp.t_le
  have hCT' : CT (16 * w) = BitVec.ofNat 32 (cnt mw (65536 * (w + 1)) - cnt mw (65536 * w)) := by
    have := hCT (16 * w) (by omega)
    rwa [show 16 * w / 16 = w by omega] at this
  have hTz := zend_TI hp
  rw [hzs, hzl, hhd, hnb, hff, hfz, hzz] at hTz
  have hze := hp.zend_le
  rw [hzs, hzl, hzz] at hze
  have hhl : hd ≤ zl := by rw [← hhd, ← hzl]; exact zhd_le
  have hhd8 : hd < 8 := by rw [← hhd]; exact zhd_lt
  have hal : hd < zl → 8 ∣ ff := by rw [← hff, ← hhd, ← hzl, ← hzs]; exact zhd_al
  rw [cc1__main_body_eq_skeleton]; unfold cc1__main_body_skel
  simp only [bind_assoc, pure_bind]
  iintro ⟨HI, HO, HS, HM, S22', S23', S24', S40, S41, Ht⟩ HK
  unfold mainIn mainOut₀ mainScr mainSem
  icases HI with ⟨I2, I3, I4, I5, I6, I7⟩
  icases HO with ⟨OR, XR, OZ, XZ⟩
  icases HS with ⟨H10, H11, H12, H13, H14, H15, H16, H17, H18, H19, H20, H21⟩
  icases HM with ⟨S0, S1, S2, S3, S4, S5, S6, S7, S8, S9, S10, S11, S12, S13, S14, S15, S16, S17, S18, S19, S20, S21, S22, S23, S24, S25, S26, S27, S28, S29, S30, S31, S32, S33, S34, S35, S36, S37, S38, S39⟩
  iapply (part33_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ w hw (f := fun k => cnt mw (65536 * k)) hm cnt_zero hCT) $$ [I4 I5 I7 I6 H14 H15 H16 H17 H18 S0 S1 S2 S3 Ht]
  · isplitl [I4]; · iexact I4
    isplitl [I5]; · iexact I5
    isplitl [I7]; · iexact I7
    isplitl [I6]; · iexact I6
    isplitl [H14]; · iexact H14
    isplitl [H15]; · iexact H15
    isplitl [H16]; · iexact H16
    isplitl [H17]; · iexact H17
    isplitl [H18]; · iexact H18
    isplitl [S0]; · iexact S0
    isplitl [S1]; · iexact S1
    isplitl [S2]; · iexact S2
    isplitl [S3]; · iexact S3
    iexact Ht
  iintro ⟨I4, I5, I7, I6, H14, H15, H16, H17, H18, S0, S1, S2, S3, Ht⟩
  dsimp only
  obtain ⟨v13, e13⟩ : ∃ v, v = BitVec.ofNat 32 (cnt mw (65536 * 16)) := ⟨_, rfl⟩
  obtain ⟨v16, e16⟩ : ∃ v, v = BitVec.ofNat 32 (cnt mw (65536 * 32) - cnt mw (65536 * 16)) := ⟨_, rfl⟩
  obtain ⟨v17, e17⟩ : ∃ v, v = BitVec.ofNat 32 (cnt mw (65536 * 32)) := ⟨_, rfl⟩
  obtain ⟨v31, e31⟩ : ∃ v, v = BitVec.ofNat 32 (cnt mw (65536 * w)) := ⟨_, rfl⟩
  rw [← e13, ← e16, ← e17, ← e31]
  have h17 : Scalar.addi v13 v16 = BitVec.ofNat 32 t := by
    rw [e13, e16, add_ofNat, Nat.add_sub_cancel' (hm (by omega : 16 ≤ 32)), ← ht]
  have h31 : v31 = BitVec.ofNat 32 a := by rw [e31, ha]
  iapply (part34_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (O := O) (W₀ := W₀) hbin w hw (q₂ := q₂) (q₃ := q₃) (nz := nz) hCT' _ v13 v16 v17 rfl (by rw [h17, ht]) e17 v31 e31) $$ [H14 H15 I2 I3 H10 H11 H19 H20 H21 S4 S5 S22' H12 H13 OR XR S6 S7 Ht]
  · isplitl [H14]; · iexact H14
    isplitl [H15]; · iexact H15
    unfold passI flushInv ringO ringX anyB
    rw [ha, hb]
    icases H12 with ⟨%G, H12⟩
    icases H13 with ⟨%H, H13⟩
    isplitl [I2]; · iexact I2
    isplitl [I3]; · iexact I3
    isplitl [H10]; · iexact H10
    isplitl [H11]; · iexact H11
    isplitl [H19]; · iexact H19
    isplitl [H20]; · iexact H20
    isplitl [H21]; · iexact H21
    isplitl [S4]; · iexact S4
    isplitl [S5]; · iexact S5
    isplitl [S22']; · iexact S22'
    isplitl [H12]
    · iexists G
      isplitl [H12]; · iexact H12
      ipureintro
      exact fun p h1 h2 => absurd h2 (by omega)
    isplitl [H13]
    · iexists H
      isplitl [H13]; · iexact H13
      ipureintro
      exact ⟨fun p h1 h2 => absurd h2 (by omega), fun p h1 h2 => absurd h2 (by omega), fun p h1 h2 => absurd h2 (by omega)⟩
    isplitl [OR]; · iapply (outO_none (F := F) (e := .i32) (fun p hp => absurd hp.2 (by have := hp.1; omega))) $$ OR
    isplitl [XR]; · iapply (outO_none (F := F) (e := .f32) (fun p hp => absurd hp.2 (by have := hp.1; omega))) $$ XR
    isplitl [S6]; · iexact S6
    isplitl [S7]; · iexact S7
    iexact Ht
  iintro %v36 %v37 %v57 %v58 %v61 %h52 %h55 %φ %hh ⟨H14, H15, HP⟩
  rw [ha, hb] at hh
  obtain ⟨h36, h37, h57, h58, h61, hT, haφ⟩ := hh
  dsimp only
  unfold passI flushInv
  rw [ha, hb]
  icases HP with ⟨I2, I3, H10, H11, H19, H20, H21, S4, S5, S22', RO, RX, OR, XR, S6, S7, Ht⟩
  ihave OZ := (outO_none (F := F) (e := .i32) (W := Set.Ico fz fz) (V := fun _ => 0#32) (fun p hp => absurd hp.2 (by have := hp.1; omega))) $$ OZ
  ihave XZ := (outO_none (F := F) (e := .f32) (W := Set.Ico (3 * fz) (3 * fz)) (V := fun m => fl (m % 3)) (fun p hp => absurd hp.2 (by have := hp.1; omega))) $$ XZ
  imod (fill_start (c := thr d i) (src := arg17) (dst := arg9) (sm := arg23.sem) (N := creO arg9 arg23) (B := 2048) (s := ff) (n := nb)) $$ [H17 OZ S23'] with F9
  · isplitl [H17]; · iexact H17
    isplitl [OZ]; · iexact OZ
    iexact S23'
  imod (fill_start (c := thr d i) (src := arg18) (dst := arg8) (sm := arg24.sem) (N := creX arg8 arg24) (B := 6144) (s := 3 * ff) (n := nb)) $$ [H18 XZ S24'] with F8
  · isplitl [H18]; · iexact H18
    isplitl [XZ]; · iexact XZ
    iexact S24'
  iapply wp_into
  iapply (part35_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (t := t) (a := a) (b := b) (w := w) (mw := mw) (Y := (Yv nz P (fun n => P (n + 3)))) (fl := fl) (O := O) (W₀ := W₀) (W := Set.Ico fz fz) (W' := Set.Ico (3 * fz) (3 * fz)) hp hw hT haφ v13 v16 v31 v36 v37 v57 v58 v61 h52 h55 h17 h31 h36 h37 h57 h58 h61) $$ [RO RX OR XR Ht S10 S11 F9 F8]
  · isplitl [RO RX OR XR Ht]
    · isplitl [RO]; · iexact RO
      isplitl [RX]; · iexact RX
      isplitl [OR]; · iexact OR
      isplitl [XR]; · iexact XR
      iexact Ht
    isplitl [S10]; · iexact S10
    isplitl [S11]; · iexact S11
    unfold fills
    rw [hzs, hzl, hhd, hnb, hff, hzz]
    isplitl [F9]; · iexact F9
    iexact F8
  iintro %v62 %v66 %v67 %v70 %v77 %h72 %v88 %v91 %G %H %hh ⟨HC, S10, S11, HF⟩
  rw [hzs, hhd, hnb, hff, hfz] at hh
  obtain ⟨hR, h62, h66, h67, hv77, h88, h91⟩ := hh
  rw [hzs, hzl, hhd, hnb, hff, hzz]
  rw [← hfz]
  ihave HF := (fills_open i arg8 arg9 arg17 arg18 arg23 arg24) $$ HF
  rw [hfz]
  icases HF with ⟨HZ, D9, D8⟩
  have eb : Scalar.addi v31 v36 = BitVec.ofNat 32 b := by
    rw [h31, h36, add_ofNat, Nat.add_sub_cancel' hab]
  have ez : zendW i v13 v16 v31 v36 = BitVec.ofNat 32 ze := by
    rw [h31, h36, ← hzz, ← hzs, ← hzl]; exact zend_word hp (i 0).val (i 1).val hw _ _ h17
  have htr : (k1_t13_loop i v13 v16 v31 v36).trips = nb := by rw [h31, h36, ← hnb]; exact t13_trips i hp hw _ _ h17
  have h37' : v37 = Scalar.addi v31 v36 := h37.trans eb.symm
  have hnbl : nb * 2048 ≤ zl - hd := by rw [← hnb, ← hzl, ← hhd]; exact Nat.div_mul_le_self _ _
  have hazz : zs ≤ fz := by omega
  have hnb0 : 0 < nb → hd < zl := fun h => by omega
  have hask : Scalar.cmpi .ne (Scalar.extui (Scalar.cmpi .sgt (BitVec.ofNat 32 hd) 0#32)) 0#32 = 1#1 ↔ 0 < hd := by
    have := ask_left (e := hd) (f := 0) (Nat.zero_le _) (by omega)
    rwa [sub_ofNat (Nat.zero_le _), Nat.sub_zero] at this
  have hc27 : k1_cond27 i v13 v16 v31 v36 = 1#1 ↔ 0 < hd := by
    rw [cond27_eq, ez, h36, zlen_word hp, ← hzz, ← hzl, ← hzs, zst_word hp, zhd_word hp, hhd]; exact hask
  have hzst : a ≤ zs := by rw [← hzs]; unfold zst; have := hp.haw; have := hp.hbt; omega
  dsimp only
  iapply wp_into
  iapply (part36_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (φ := φ) (a := a) (b := b) (Y := (Yv nz P (fun n => P (n + 3)))) (G := G) (H := H) (O := O) (W₀ := W₀) v31 v36 v37 v57 v88 v91 h55 hT hb2 haφ hR eb h37' h57 h88 h91) $$ [HC S12 S13 S14 S15 S16 S17 S18 S19 S20 S21]
  · isplitl [HC]; · iexact HC
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    iexact S21
  iintro %v123 %v126 %hh ⟨HC, S12, S13, S14, S15, S16, S17, S18, S19, S20, S21⟩
  obtain ⟨h123, h126⟩ := hh
  dsimp only
  iapply wp_into
  iapply (part37_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (zs := zs) (ze := ze) (ff := ff) (φz := fz) (φ := φ) (a := a) (b := b) (Y := (Yv nz P (fun n => P (n + 3)))) (G := G) (H := H) (fl := fl) (O := O) (W₀ := W₀) lanesV v13 v16 v31 v36 v37 v57 v61 v77 v123 v126 h55 h72 hT hb2 haφ hR eb h37' h57 hTz hze hazz ez h61 hv77 rfl h123 h126) $$ [HC HZ H19 H20 H21 S22' S22 S23 S24 S25 S26 S27 S28 S29]
  · isplitl [HC]; · iexact HC
    isplitl [HZ]; · iexact HZ
    isplitl [H19 H20 H21 S22']
    · unfold edgeR
      isplitl [H19]; · iexact H19
      isplitl [H20]; · iexact H20
      isplitl [H21]; · iexact H21
      iexact S22'
    isplitl [S22]; · iexact S22
    isplitl [S23]; · iexact S23
    isplitl [S24]; · iexact S24
    isplitl [S25]; · iexact S25
    isplitl [S26]; · iexact S26
    isplitl [S27]; · iexact S27
    isplitl [S28]; · iexact S28
    iexact S29
  iintro %v159 %v162 %v163 %hh ⟨HD, HC, HE, S22, S23, S24, S25, S26, S27, S28, S29⟩
  obtain ⟨h159, h162⟩ := hh
  dsimp only
  iapply wp_into
  iapply (part38_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (zs := zs) (ze := ze) (ff := ff) (φ := fz) (fl := fl) (O := O) (W₀ := W₀) v13 v16 v31 v36 v61 v77 v159 v162 v163 h72 hTz hze hazz ez h61 hv77 h159 h162) $$ [HC S30 S31 S32 S33 S34 S35 S36 S37 S38 S39]
  · isplitl [HC]; · iexact HC
    isplitl [S30]; · iexact S30
    isplitl [S31]; · iexact S31
    isplitl [S32]; · iexact S32
    isplitl [S33]; · iexact S33
    isplitl [S34]; · iexact S34
    isplitl [S35]; · iexact S35
    isplitl [S36]; · iexact S36
    isplitl [S37]; · iexact S37
    isplitl [S38]; · iexact S38
    iexact S39
  iintro %v194 %v197 %v198 %hh ⟨HC, S30, S31, S32, S33, S34, S35, S36, S37, S38, S39⟩
  obtain ⟨h194, h197⟩ := hh
  dsimp only
  iapply (zero_bit (c := thr d i) (n := 7) (zs := zs) (ze := ze) (ff := ff) (φ := fz) (O := O) (W₀ := W₀) (by omega) hTz hze hazz ez hv77 (cond23_eq i v13 v16 v31 v36 v77) (by exact rfl) (off77_eq i v13 v16 v31 v36 v77) (by exact rfl) (off78_eq i v13 v16 v31 v36 v77)
    (by exact rfl) (by exact rfl)) $$ [HC S40 S41]
  · isplitl [HC]; · iexact HC
    isplitl [S40]; · iexact S40
    iexact S41
  iintro ⟨HC, S40, S41⟩
  unfold rowsDone
  icases HD with ⟨H12, H13, OR, XR⟩
  ihave HK := (keep (F := F) (A := mainRest i arg2 arg3 arg4 arg5 arg6 arg7 arg8 arg9 arg10 arg11 arg12 arg13 arg14 arg15 arg16 z0 z1 z2 z3 z4 z5 z6 z7 z8 z9 z10 z11 z12 z13 z14 z15 z16 z17 z18 z19 z20 z21 z22 z23 z24 z25 z26 z27 z28 z29 z30 z31 z32 z33 z34 z35 z36 z37 z38 z39 d mw (Yv nz P (fun n => P (n + 3))) nz P fl CT q₂ q₃ q₄ q₅ q₆ q₇ a b)) $$ [HK I2 I3 I4 I5 I6 I7 OR XR H10 H11 H12 H13 H14 H15 H16 S0 S1 S2 S3 S4 S5 S6 S7 S8 S9 S10 S11 S12 S13 S14 S15 S16 S17 S18 S19 S20 S21 S22 S23 S24 S25 S26 S27 S28 S29 S30 S31 S32 S33 S34 S35 S36 S37 S38 S39]
  · isplitr [HK]
    · unfold mainRest mainIn mainSem
      isplitl [I2 I3 I4 I5 I6 I7]
      · isplitl [I2]; · iexact I2
        isplitl [I3]; · iexact I3
        isplitl [I4]; · iexact I4
        isplitl [I5]; · iexact I5
        isplitl [I6]; · iexact I6
        iexact I7
      isplitl [OR]; · iexact OR
      isplitl [XR]; · iexact XR
      isplitl [H10]; · iexact H10
      isplitl [H11]; · iexact H11
      unfold anyB
      isplitl [H12]; · iexists G; iexact H12
      isplitl [H13]; · iexists H; iexact H13
      isplitl [H14]; · iexact H14
      isplitl [H15]; · iexact H15
      isplitl [H16]; · iexact H16
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      isplitl [S21]; · iexact S21
      isplitl [S22]; · iexact S22
      isplitl [S23]; · iexact S23
      isplitl [S24]; · iexact S24
      isplitl [S25]; · iexact S25
      isplitl [S26]; · iexact S26
      isplitl [S27]; · iexact S27
      isplitl [S28]; · iexact S28
      isplitl [S29]; · iexact S29
      isplitl [S30]; · iexact S30
      isplitl [S31]; · iexact S31
      isplitl [S32]; · iexact S32
      isplitl [S33]; · iexact S33
      isplitl [S34]; · iexact S34
      isplitl [S35]; · iexact S35
      isplitl [S36]; · iexact S36
      isplitl [S37]; · iexact S37
      isplitl [S38]; · iexact S38
      iexact S39
    iexact HK
  have hE := tf_end hTz
  have hle := tf_le ze fz 8
  have h61e : v61 = BitVec.ofNat 32 ze := h61.trans ez
  have e201 : (Scalar.select v197 (Scalar.addi v194 8#32) v194) = BitVec.ofNat 32 (tf ze fz 8) := by
    rw [h194, h197, h61e, hv77]
    exact tw_ofNat hTz 8 (by omega)
  have e202 : Scalar.subi v61 (Scalar.select v197 (Scalar.addi v194 8#32) v194) = BitVec.ofNat 32 (ze - tf ze fz 8) := by
    rw [e201, h61e, sub_ofNat hE.le]
  have hc24 : Scalar.cmpi .ne (Scalar.extui (Scalar.cmpi .sgt (Scalar.subi v61 (Scalar.select v197 (Scalar.addi v194 8#32) v194)) 0#32)) 0#32 = 1#1 ↔ tf ze fz 8 < ze := by
    rw [e201, h61e]; exact ask_left hE.le (by omega)
  have hc25 : k1_cond25 i v13 v16 v31 v36 v77 = 1#1 ↔ tf ze fz 8 < ze := by
    rw [cond25_eq, ez, hv77, tw_ofNat hTz 8 (by omega)]
    exact ask_left hE.le (by omega)
  have hc26 : Scalar.cmpi .ne (Scalar.extui (Scalar.cmpi .sgt v66 0#32)) 0#32 = 1#1 ↔ 0 < hd := by rw [h66]; exact hask
  obtain ⟨E1, E2, E3⟩ := hE
  unfold zeroC edgeR
  rw [show tf ze fz (7 + 1) = tf ze fz 8 from rfl]
  unfold bitC
  icases HC with ⟨Z17, Z18, Z9, Z8, Ht⟩
  icases HE with ⟨H19, H20, H21, S22'⟩
  generalize hf8 : tf ze fz 8 = f8 at *
  by_cases hz : f8 < ze
  · have hl : 0 < ze - f8 := by omega
    rw [if_pos (hc24.mpr hz)]
    have hl8 : ze - f8 < 9 := by omega
    have h2c := hc25.mpr hz
    have hR : ∀ j < 3 * (ze - f8), (fun m => fl (m % 3)) (j % 3) = (fun m => fl (m % 3)) (3 * f8 + j) := fun j _ => by
      show fl _ = fl _
      exact congrArg fl (by omega)
    unfold anyB
    ihave H19 := (show (iprop(∃ G, own (thr d i) arg19 fullShare Set.univ G) : sProp (MM F)) ⊢ edgeB (thr d i) arg19 0 (iT (f8) (ze - f8)) from any_edgeB (e := .i32)) $$ H19
    ihave H20 := (show (iprop(∃ G, own (thr d i) arg20 fullShare Set.univ G) : sProp (MM F)) ⊢ edgeB (thr d i) arg20 0 (vT (fun _ => (0#32 : BitVec 32)) (f8) (ze - f8)) from any_edgeB (e := .i32)) $$ H20
    iapply (part21_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV _ _ hl hl8 (by omega) rfl e201 e202) $$ [H19 H20]
    · isplitl [H19]; · iexact H19
      iexact H20
    iintro ⟨H19, H20⟩
    iapply (part22_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV _ _ _ hl hl8 (by omega) rfl rfl e201 e202) $$ [H19 H20]
    · isplitl [H19]; · iexact H19
      iexact H20
    iintro ⟨H19, H20⟩
    have p112 : k1_pay1 lanesV v61 v194 v197 112#32 = addi (broadcast S16 (Scalar.select v197 (Scalar.addi v194 8#32) v194)) (eQ (BitVec.ofNat 32 112) (Scalar.subi (Scalar.subi v61 (Scalar.select v197 (Scalar.addi v194 8#32) v194)) 1#32) lanesV) := rfl
    iapply (edge_put (c := thr d i) (m := arg19) (n := 112) (T := iT (f8) (ze - f8)) rfl rfl (fun x => by rw [p112, e202, e201]; exact eI_at (by omega) hl (by omega) x)) $$ H19; iintro H19
    iapply (edge_put (c := thr d i) (m := arg20) (n := 112) (T := vT (fun _ => (0#32 : BitVec 32)) (f8) (ze - f8)) rfl rfl (fun x => rfl)) $$ H20; iintro H20
    iapply (edge_scatter (c := thr d i) (src := arg20) (dst := arg9) (offs := arg19) (I := Set.Ico zs ze \ Set.Ico ff fz) (V := fun _ => (0#32 : BitVec 32)) (st := f8) (l := ze - f8) (O := O) (W₀ := W₀)
      (fun s' => rfl) (fun s' => rfl) rfl hl (by omega) (by show _ ≤ 2097152; omega) (by decide) (fun p h1 h2 => ⟨⟨by omega, by omega⟩, fun h => by have := h.1; have := h.2; omega⟩)) $$ [H19 H20 Z9 S22' Ht]
    · isplitl [H20]; · iexact H20
      isplitl [H19]; · iexact H19
      isplitl [Z9]; · iexact Z9
      isplitl [S22']; · iexact S22'
      iexact Ht
    iintro ⟨H20, H19, Z9, S22', Ht⟩
    ihave H20 := (edgeB_any (F := F) (e := .i32) (c := thr d i) (m := arg20)) $$ H20
    rw [dif_pos h2c]
    ihave H19 := (edgeB_start (F := F) (e := .i32) (c := thr d i) (m := arg19) (T' := iT (3 * f8) (3 * (ze - f8)))) $$ H19
    ihave H21 := (show (iprop(∃ G, own (thr d i) arg21 fullShare Set.univ G) : sProp (MM F)) ⊢ edgeB (thr d i) arg21 0 (vT (fun m => fl (m % 3)) (3 * f8) (3 * (ze - f8))) from any_edgeB (e := .f32)) $$ H21
    iapply (part23_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV v13 v16 v31 v36 v77 _ _ h2c (G := fun m => fl (m % 3)) (V := fun m => fl (m % 3)) hl hl8 (by omega) hR rfl e201 e202) $$ [H19 H21 Z18]
    · isplitl [H19]; · iexact H19
      isplitl [H21]; · iexact H21
      iexact Z18
    iintro %cA ⟨H19, H21, Z18⟩
    iapply (part24_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV v13 v16 v31 v36 v77 _ _ h2c _ cA _ (G := fun m => fl (m % 3)) (V := fun m => fl (m % 3)) hl hl8 (by omega) hR rfl rfl rfl e201 e202) $$ [H19 H21 Z18]
    · isplitl [H19]; · iexact H19
      isplitl [H21]; · iexact H21
      iexact Z18
    iintro %cB ⟨H19, H21, Z18⟩
    iapply (part25_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV v13 v16 v31 v36 v77 _ _ h2c _ _ cB _ (G := fun m => fl (m % 3)) (V := fun m => fl (m % 3)) hl hl8 (by omega) hR rfl rfl rfl rfl e201 e202) $$ [H19 H21 Z18]
    · isplitl [H19]; · iexact H19
      isplitl [H21]; · iexact H21
      iexact Z18
    iintro ⟨H19, H21, Z18⟩
    iapply (part26_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV v13 v16 v31 v36 v77 _ _ h2c _ _ (G := fun m => fl (m % 3)) (V := fun m => fl (m % 3)) hl hl8 (by omega) hR rfl rfl rfl e201 e202) $$ [H19 H21 Z18]
    · isplitl [H19]; · iexact H19
      isplitl [H21]; · iexact H21
      iexact Z18
    iintro ⟨H19, H21, Z18⟩
    dsimp only
    have x112 : ∀ x : S16.Idx, (k1_pay4 (k1_pay237 lanesV (Scalar.subi v61 (Scalar.select v197 (Scalar.addi v194 8#32) v194))) x).toNat = min (112 + (x 0).val) (3 * (ze - f8) - 1) % 3 := by
      rw [e202]
      exact fun x => eC_toNat (n := 112) (l := ze - f8) (by omega) hl (by omega) x
    have y112 : ∀ x : S16.Idx, (k1_pay5 v194 v197 (k1_pay237 lanesV (Scalar.subi v61 (Scalar.select v197 (Scalar.addi v194 8#32) v194))) (k1_pay4 (k1_pay237 lanesV (Scalar.subi v61 (Scalar.select v197 (Scalar.addi v194 8#32) v194))))) x = iT (3 * f8) (3 * (ze - f8)) (112 + (x 0).val) := by
      have h5 : k1_pay5 v194 v197 (k1_pay237 lanesV (Scalar.subi v61 (Scalar.select v197 (Scalar.addi v194 8#32) v194))) (k1_pay4 (k1_pay237 lanesV (Scalar.subi v61 (Scalar.select v197 (Scalar.addi v194 8#32) v194)))) = addi (muli (addi (broadcast S16 (Scalar.select v197 (Scalar.addi v194 8#32) v194)) (k1_pay3 (k1_pay237 lanesV (Scalar.subi v61 (Scalar.select v197 (Scalar.addi v194 8#32) v194))))) (broadcast S16 3#32)) (k1_pay4 (k1_pay237 lanesV (Scalar.subi v61 (Scalar.select v197 (Scalar.addi v194 8#32) v194)))) := rfl
      rw [h5, e202, e201]
      exact fun x => eX_at (n := 112) (a := f8) (l := ze - f8) (by omega) hl (by omega) (by omega) x
    have cC : k1_chk80 i v13 v16 v31 v36 v77 (k1_pay4 (k1_pay237 lanesV (Scalar.subi v61 (Scalar.select v197 (Scalar.addi v194 8#32) v194)))) := fun _ => chk_one (fun x => by rw [x112 x]; omega)
    iapply (assume_ok (c := thr d i) cC)
    iapply (edge_put (c := thr d i) (m := arg19) (n := 112) (T := iT (3 * f8) (3 * (ze - f8))) rfl rfl (fun x => y112 x)) $$ H19; iintro H19
    iapply (own_ldIdx (c := thr d i) (m := arg18)) $$ Z18; iintro %u3 %hu3 Z18
    iapply (edge_put (c := thr d i) (m := arg21) (n := 112) (T := vT (fun m => fl (m % 3)) (3 * f8) (3 * (ze - f8))) rfl rfl (fun x => (hu3 x).trans ((congrArg (fun m => fl (m % 3)) (x112 x)).trans (hR _ (by omega))))) $$ H21; iintro H21
    iapply (edge_scatter (c := thr d i) (src := arg21) (dst := arg8) (offs := arg19) (I := Set.Ico (3 * zs) (3 * ze) \ Set.Ico (3 * ff) (3 * fz)) (V := fun m => fl (m % 3)) (st := 3 * f8) (l := 3 * (ze - f8)) (O := O) (W₀ := W₀)
      (fun s' => rfl) (fun s' => rfl) rfl (by omega) (by omega) (by show _ ≤ 6291456; omega) (by decide) (fun p h1 h2 => ⟨⟨by omega, by omega⟩, fun h => by have := h.1; have := h.2; omega⟩)) $$ [H19 H21 Z8 S22' Ht]
    · isplitl [H21]; · iexact H21
      isplitl [H19]; · iexact H19
      isplitl [Z8]; · iexact Z8
      isplitl [S22']; · iexact S22'
      iexact Ht
    iintro ⟨H21, H19, Z8, S22', Ht⟩
    ihave H19 := (edgeB_any (F := F) (e := .i32) (c := thr d i) (m := arg19)) $$ H19
    ihave H21 := (edgeB_any (F := F) (e := .f32) (c := thr d i) (m := arg21)) $$ H21
    by_cases hh : 0 < hd
    · rw [if_pos (hc26.mpr hh)]
      have hl8 : hd < 9 := by omega
      have h2c := hc27.mpr hh
      have hR : ∀ j < 3 * (hd), (fun m => fl (m % 3)) (j % 3) = (fun m => fl (m % 3)) (3 * zs + j) := fun j _ => by
        show fl _ = fl _
        exact congrArg fl (by omega)
      unfold anyB
      ihave H19 := (show (iprop(∃ G, own (thr d i) arg19 fullShare Set.univ G) : sProp (MM F)) ⊢ edgeB (thr d i) arg19 0 (iT (zs) (hd)) from any_edgeB (e := .i32)) $$ H19
      ihave H20 := (show (iprop(∃ G, own (thr d i) arg20 fullShare Set.univ G) : sProp (MM F)) ⊢ edgeB (thr d i) arg20 0 (vT (fun _ => (0#32 : BitVec 32)) (zs) (hd)) from any_edgeB (e := .i32)) $$ H20
      iapply (part27_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV _ _ hh hl8 (by omega) rfl h62 h66) $$ [H19 H20]
      · isplitl [H19]; · iexact H19
        iexact H20
      iintro ⟨H19, H20⟩
      iapply (part28_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV _ _ _ hh hl8 (by omega) rfl rfl h62 h66) $$ [H19 H20]
      · isplitl [H19]; · iexact H19
        iexact H20
      iintro ⟨H19, H20⟩
      have p112 : k1_pay6 lanesV v62 v66 112#32 = addi (broadcast S16 v62) (eQ (BitVec.ofNat 32 112) (Scalar.subi v66 1#32) lanesV) := rfl
      iapply (edge_put (c := thr d i) (m := arg19) (n := 112) (T := iT (zs) (hd)) rfl rfl (fun x => by rw [p112, h66, h62]; exact eI_at (by omega) hh (by omega) x)) $$ H19; iintro H19
      iapply (edge_put (c := thr d i) (m := arg20) (n := 112) (T := vT (fun _ => (0#32 : BitVec 32)) (zs) (hd)) rfl rfl (fun x => rfl)) $$ H20; iintro H20
      iapply (edge_scatter (c := thr d i) (src := arg20) (dst := arg9) (offs := arg19) (I := Set.Ico zs ze \ Set.Ico ff fz) (V := fun _ => (0#32 : BitVec 32)) (st := zs) (l := hd) (O := O) (W₀ := W₀)
        (fun s' => rfl) (fun s' => rfl) rfl hh (by omega) (by show _ ≤ 2097152; omega) (by decide) (fun p h1 h2 => ⟨⟨by omega, by omega⟩, fun h => by have := h.1; have := h.2; omega⟩)) $$ [H19 H20 Z9 S22' Ht]
      · isplitl [H20]; · iexact H20
        isplitl [H19]; · iexact H19
        isplitl [Z9]; · iexact Z9
        isplitl [S22']; · iexact S22'
        iexact Ht
      iintro ⟨H20, H19, Z9, S22', Ht⟩
      ihave H20 := (edgeB_any (F := F) (e := .i32) (c := thr d i) (m := arg20)) $$ H20
      rw [dif_pos h2c]
      ihave H19 := (edgeB_start (F := F) (e := .i32) (c := thr d i) (m := arg19) (T' := iT (3 * zs) (3 * (hd)))) $$ H19
      ihave H21 := (show (iprop(∃ G, own (thr d i) arg21 fullShare Set.univ G) : sProp (MM F)) ⊢ edgeB (thr d i) arg21 0 (vT (fun m => fl (m % 3)) (3 * zs) (3 * (hd))) from any_edgeB (e := .f32)) $$ H21
      iapply (part29_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV v13 v16 v31 v36 _ _ h2c (G := fun m => fl (m % 3)) (V := fun m => fl (m % 3)) hh hl8 (by omega) hR rfl h62 h66) $$ [H19 H21 Z18]
      · isplitl [H19]; · iexact H19
        isplitl [H21]; · iexact H21
        iexact Z18
      iintro %cA ⟨H19, H21, Z18⟩
      iapply (part30_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV v13 v16 v31 v36 _ _ h2c _ cA _ (G := fun m => fl (m % 3)) (V := fun m => fl (m % 3)) hh hl8 (by omega) hR rfl rfl rfl h62 h66) $$ [H19 H21 Z18]
      · isplitl [H19]; · iexact H19
        isplitl [H21]; · iexact H21
        iexact Z18
      iintro %cB ⟨H19, H21, Z18⟩
      iapply (part31_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV v13 v16 v31 v36 _ _ h2c _ _ cB _ (G := fun m => fl (m % 3)) (V := fun m => fl (m % 3)) hh hl8 (by omega) hR rfl rfl rfl rfl h62 h66) $$ [H19 H21 Z18]
      · isplitl [H19]; · iexact H19
        isplitl [H21]; · iexact H21
        iexact Z18
      iintro ⟨H19, H21, Z18⟩
      iapply (part32_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV v13 v16 v31 v36 _ _ h2c _ _ (G := fun m => fl (m % 3)) (V := fun m => fl (m % 3)) hh hl8 (by omega) hR rfl rfl rfl h62 h66) $$ [H19 H21 Z18]
      · isplitl [H19]; · iexact H19
        isplitl [H21]; · iexact H21
        iexact Z18
      iintro ⟨H19, H21, Z18⟩
      dsimp only
      have x112 : ∀ x : S16.Idx, (k1_pay9 (k1_pay281 lanesV v66) x).toNat = min (112 + (x 0).val) (3 * (hd) - 1) % 3 := by
        rw [h66]
        exact fun x => eC_toNat (n := 112) (l := hd) (by omega) hh (by omega) x
      have y112 : ∀ x : S16.Idx, (k1_pay10 v62 (k1_pay281 lanesV v66) (k1_pay9 (k1_pay281 lanesV v66))) x = iT (3 * zs) (3 * (hd)) (112 + (x 0).val) := by
        have h5 : k1_pay10 v62 (k1_pay281 lanesV v66) (k1_pay9 (k1_pay281 lanesV v66)) = addi (muli (addi (broadcast S16 v62) (k1_pay8 (k1_pay281 lanesV v66))) (broadcast S16 3#32)) (k1_pay9 (k1_pay281 lanesV v66)) := rfl
        rw [h5, h66, h62]
        exact fun x => eX_at (n := 112) (a := zs) (l := hd) (by omega) hh (by omega) (by omega) x
      have cC : k1_chk88 i v13 v16 v31 v36 (k1_pay9 (k1_pay281 lanesV v66)) := fun _ => chk_one (fun x => by rw [x112 x]; omega)
      iapply (assume_ok (c := thr d i) cC)
      iapply (edge_put (c := thr d i) (m := arg19) (n := 112) (T := iT (3 * zs) (3 * (hd))) rfl rfl (fun x => y112 x)) $$ H19; iintro H19
      iapply (own_ldIdx (c := thr d i) (m := arg18)) $$ Z18; iintro %u3 %hu3 Z18
      iapply (edge_put (c := thr d i) (m := arg21) (n := 112) (T := vT (fun m => fl (m % 3)) (3 * zs) (3 * (hd))) rfl rfl (fun x => (hu3 x).trans ((congrArg (fun m => fl (m % 3)) (x112 x)).trans (hR _ (by omega))))) $$ H21; iintro H21
      iapply (edge_scatter (c := thr d i) (src := arg21) (dst := arg8) (offs := arg19) (I := Set.Ico (3 * zs) (3 * ze) \ Set.Ico (3 * ff) (3 * fz)) (V := fun m => fl (m % 3)) (st := 3 * zs) (l := 3 * (hd)) (O := O) (W₀ := W₀)
        (fun s' => rfl) (fun s' => rfl) rfl (by omega) (by omega) (by show _ ≤ 6291456; omega) (by decide) (fun p h1 h2 => ⟨⟨by omega, by omega⟩, fun h => by have := h.1; have := h.2; omega⟩)) $$ [H19 H21 Z8 S22' Ht]
      · isplitl [H21]; · iexact H21
        isplitl [H19]; · iexact H19
        isplitl [Z8]; · iexact Z8
        isplitl [S22']; · iexact S22'
        iexact Ht
      iintro ⟨H21, H19, Z8, S22', Ht⟩
      ihave H19 := (edgeB_any (F := F) (e := .i32) (c := thr d i) (m := arg19)) $$ H19
      ihave H21 := (edgeB_any (F := F) (e := .f32) (c := thr d i) (m := arg21)) $$ H21
      have m9 : ∀ p ∈ Set.Ico zs ze, p ∈ ((Set.Ico fz f8 ∪ Set.Ico f8 (f8 + (ze - f8))) ∪ Set.Ico zs (zs + hd)) ∪ Set.Ico ff (ff + 2048 * nb) := fun p hp => by simp only [Set.mem_union, Set.mem_Ico] at hp ⊢; omega
      have m8 : ∀ p ∈ Set.Ico (3 * zs) (3 * ze), p ∈ ((Set.Ico (3 * fz) (3 * f8) ∪ Set.Ico (3 * f8) (3 * f8 + 3 * (ze - f8))) ∪ Set.Ico (3 * zs) (3 * zs + 3 * hd)) ∪ Set.Ico (3 * ff) (3 * (ff + 2048 * nb)) := fun p hp => by simp only [Set.mem_union, Set.mem_Ico] at hp ⊢; omega
      iapply (finish_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (zs := zs) (ze := ze) (ff := ff) (n := nb) (O := O) (W₀ := W₀) (fun h => hal (hnb0 h)) (by omega) (by omega) hze m9 m8 v13 v16 v31 v36 v67 h52 h67 htr) $$ [D9 D8 Ht Z17 Z18 Z9 Z8 H19 H20 H21 S22' S40 S41]
      · rw [hfz]
        isplitl [D9]; · iexact D9
        isplitl [D8]; · iexact D8
        isplitl [Ht]; · iexact Ht
        isplitl [Z17]; · iexact Z17
        isplitl [Z18]; · iexact Z18
        isplitl [Z9]; · iexact Z9
        isplitl [Z8]; · iexact Z8
        isplitl [H19 H20 H21 S22']
        · unfold edgeR anyB
          isplitl [H19]; · iexact H19
          isplitl [H20]; · iexact H20
          isplitl [H21]; · iexact H21
          iexact S22'
        isplitl [S40]; · iexact S40
        iexact S41
      iexact HK
    · rw [if_neg (fun h => hh (hc26.mp h)), dif_neg (fun h => hh (hc27.mp h))]
      have m9 : ∀ p ∈ Set.Ico zs ze, p ∈ (Set.Ico fz f8 ∪ Set.Ico f8 (f8 + (ze - f8))) ∪ Set.Ico ff (ff + 2048 * nb) := fun p hp => by simp only [Set.mem_union, Set.mem_Ico] at hp ⊢; omega
      have m8 : ∀ p ∈ Set.Ico (3 * zs) (3 * ze), p ∈ (Set.Ico (3 * fz) (3 * f8) ∪ Set.Ico (3 * f8) (3 * f8 + 3 * (ze - f8))) ∪ Set.Ico (3 * ff) (3 * (ff + 2048 * nb)) := fun p hp => by simp only [Set.mem_union, Set.mem_Ico] at hp ⊢; omega
      iapply (finish_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (zs := zs) (ze := ze) (ff := ff) (n := nb) (O := O) (W₀ := W₀) (fun h => hal (hnb0 h)) (by omega) (by omega) hze m9 m8 v13 v16 v31 v36 v67 h52 h67 htr) $$ [D9 D8 Ht Z17 Z18 Z9 Z8 H19 H20 H21 S22' S40 S41]
      · rw [hfz]
        isplitl [D9]; · iexact D9
        isplitl [D8]; · iexact D8
        isplitl [Ht]; · iexact Ht
        isplitl [Z17]; · iexact Z17
        isplitl [Z18]; · iexact Z18
        isplitl [Z9]; · iexact Z9
        isplitl [Z8]; · iexact Z8
        isplitl [H19 H20 H21 S22']
        · unfold edgeR anyB
          isplitl [H19]; · iexact H19
          isplitl [H20]; · iexact H20
          isplitl [H21]; · iexact H21
          iexact S22'
        isplitl [S40]; · iexact S40
        iexact S41
      iexact HK
  · rw [if_neg (fun h => hz (hc24.mp h)), dif_neg (fun h => hz (hc25.mp h))]
    by_cases hh : 0 < hd
    · rw [if_pos (hc26.mpr hh)]
      have hl8 : hd < 9 := by omega
      have h2c := hc27.mpr hh
      have hR : ∀ j < 3 * (hd), (fun m => fl (m % 3)) (j % 3) = (fun m => fl (m % 3)) (3 * zs + j) := fun j _ => by
        show fl _ = fl _
        exact congrArg fl (by omega)
      unfold anyB
      ihave H19 := (show (iprop(∃ G, own (thr d i) arg19 fullShare Set.univ G) : sProp (MM F)) ⊢ edgeB (thr d i) arg19 0 (iT (zs) (hd)) from any_edgeB (e := .i32)) $$ H19
      ihave H20 := (show (iprop(∃ G, own (thr d i) arg20 fullShare Set.univ G) : sProp (MM F)) ⊢ edgeB (thr d i) arg20 0 (vT (fun _ => (0#32 : BitVec 32)) (zs) (hd)) from any_edgeB (e := .i32)) $$ H20
      iapply (part27_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV _ _ hh hl8 (by omega) rfl h62 h66) $$ [H19 H20]
      · isplitl [H19]; · iexact H19
        iexact H20
      iintro ⟨H19, H20⟩
      iapply (part28_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV _ _ _ hh hl8 (by omega) rfl rfl h62 h66) $$ [H19 H20]
      · isplitl [H19]; · iexact H19
        iexact H20
      iintro ⟨H19, H20⟩
      have p112 : k1_pay6 lanesV v62 v66 112#32 = addi (broadcast S16 v62) (eQ (BitVec.ofNat 32 112) (Scalar.subi v66 1#32) lanesV) := rfl
      iapply (edge_put (c := thr d i) (m := arg19) (n := 112) (T := iT (zs) (hd)) rfl rfl (fun x => by rw [p112, h66, h62]; exact eI_at (by omega) hh (by omega) x)) $$ H19; iintro H19
      iapply (edge_put (c := thr d i) (m := arg20) (n := 112) (T := vT (fun _ => (0#32 : BitVec 32)) (zs) (hd)) rfl rfl (fun x => rfl)) $$ H20; iintro H20
      iapply (edge_scatter (c := thr d i) (src := arg20) (dst := arg9) (offs := arg19) (I := Set.Ico zs ze \ Set.Ico ff fz) (V := fun _ => (0#32 : BitVec 32)) (st := zs) (l := hd) (O := O) (W₀ := W₀)
        (fun s' => rfl) (fun s' => rfl) rfl hh (by omega) (by show _ ≤ 2097152; omega) (by decide) (fun p h1 h2 => ⟨⟨by omega, by omega⟩, fun h => by have := h.1; have := h.2; omega⟩)) $$ [H19 H20 Z9 S22' Ht]
      · isplitl [H20]; · iexact H20
        isplitl [H19]; · iexact H19
        isplitl [Z9]; · iexact Z9
        isplitl [S22']; · iexact S22'
        iexact Ht
      iintro ⟨H20, H19, Z9, S22', Ht⟩
      ihave H20 := (edgeB_any (F := F) (e := .i32) (c := thr d i) (m := arg20)) $$ H20
      rw [dif_pos h2c]
      ihave H19 := (edgeB_start (F := F) (e := .i32) (c := thr d i) (m := arg19) (T' := iT (3 * zs) (3 * (hd)))) $$ H19
      ihave H21 := (show (iprop(∃ G, own (thr d i) arg21 fullShare Set.univ G) : sProp (MM F)) ⊢ edgeB (thr d i) arg21 0 (vT (fun m => fl (m % 3)) (3 * zs) (3 * (hd))) from any_edgeB (e := .f32)) $$ H21
      iapply (part29_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV v13 v16 v31 v36 _ _ h2c (G := fun m => fl (m % 3)) (V := fun m => fl (m % 3)) hh hl8 (by omega) hR rfl h62 h66) $$ [H19 H21 Z18]
      · isplitl [H19]; · iexact H19
        isplitl [H21]; · iexact H21
        iexact Z18
      iintro %cA ⟨H19, H21, Z18⟩
      iapply (part30_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV v13 v16 v31 v36 _ _ h2c _ cA _ (G := fun m => fl (m % 3)) (V := fun m => fl (m % 3)) hh hl8 (by omega) hR rfl rfl rfl h62 h66) $$ [H19 H21 Z18]
      · isplitl [H19]; · iexact H19
        isplitl [H21]; · iexact H21
        iexact Z18
      iintro %cB ⟨H19, H21, Z18⟩
      iapply (part31_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV v13 v16 v31 v36 _ _ h2c _ _ cB _ (G := fun m => fl (m % 3)) (V := fun m => fl (m % 3)) hh hl8 (by omega) hR rfl rfl rfl rfl h62 h66) $$ [H19 H21 Z18]
      · isplitl [H19]; · iexact H19
        isplitl [H21]; · iexact H21
        iexact Z18
      iintro ⟨H19, H21, Z18⟩
      iapply (part32_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ lanesV v13 v16 v31 v36 _ _ h2c _ _ (G := fun m => fl (m % 3)) (V := fun m => fl (m % 3)) hh hl8 (by omega) hR rfl rfl rfl h62 h66) $$ [H19 H21 Z18]
      · isplitl [H19]; · iexact H19
        isplitl [H21]; · iexact H21
        iexact Z18
      iintro ⟨H19, H21, Z18⟩
      dsimp only
      have x112 : ∀ x : S16.Idx, (k1_pay9 (k1_pay281 lanesV v66) x).toNat = min (112 + (x 0).val) (3 * (hd) - 1) % 3 := by
        rw [h66]
        exact fun x => eC_toNat (n := 112) (l := hd) (by omega) hh (by omega) x
      have y112 : ∀ x : S16.Idx, (k1_pay10 v62 (k1_pay281 lanesV v66) (k1_pay9 (k1_pay281 lanesV v66))) x = iT (3 * zs) (3 * (hd)) (112 + (x 0).val) := by
        have h5 : k1_pay10 v62 (k1_pay281 lanesV v66) (k1_pay9 (k1_pay281 lanesV v66)) = addi (muli (addi (broadcast S16 v62) (k1_pay8 (k1_pay281 lanesV v66))) (broadcast S16 3#32)) (k1_pay9 (k1_pay281 lanesV v66)) := rfl
        rw [h5, h66, h62]
        exact fun x => eX_at (n := 112) (a := zs) (l := hd) (by omega) hh (by omega) (by omega) x
      have cC : k1_chk88 i v13 v16 v31 v36 (k1_pay9 (k1_pay281 lanesV v66)) := fun _ => chk_one (fun x => by rw [x112 x]; omega)
      iapply (assume_ok (c := thr d i) cC)
      iapply (edge_put (c := thr d i) (m := arg19) (n := 112) (T := iT (3 * zs) (3 * (hd))) rfl rfl (fun x => y112 x)) $$ H19; iintro H19
      iapply (own_ldIdx (c := thr d i) (m := arg18)) $$ Z18; iintro %u3 %hu3 Z18
      iapply (edge_put (c := thr d i) (m := arg21) (n := 112) (T := vT (fun m => fl (m % 3)) (3 * zs) (3 * (hd))) rfl rfl (fun x => (hu3 x).trans ((congrArg (fun m => fl (m % 3)) (x112 x)).trans (hR _ (by omega))))) $$ H21; iintro H21
      iapply (edge_scatter (c := thr d i) (src := arg21) (dst := arg8) (offs := arg19) (I := Set.Ico (3 * zs) (3 * ze) \ Set.Ico (3 * ff) (3 * fz)) (V := fun m => fl (m % 3)) (st := 3 * zs) (l := 3 * (hd)) (O := O) (W₀ := W₀)
        (fun s' => rfl) (fun s' => rfl) rfl (by omega) (by omega) (by show _ ≤ 6291456; omega) (by decide) (fun p h1 h2 => ⟨⟨by omega, by omega⟩, fun h => by have := h.1; have := h.2; omega⟩)) $$ [H19 H21 Z8 S22' Ht]
      · isplitl [H21]; · iexact H21
        isplitl [H19]; · iexact H19
        isplitl [Z8]; · iexact Z8
        isplitl [S22']; · iexact S22'
        iexact Ht
      iintro ⟨H21, H19, Z8, S22', Ht⟩
      ihave H19 := (edgeB_any (F := F) (e := .i32) (c := thr d i) (m := arg19)) $$ H19
      ihave H21 := (edgeB_any (F := F) (e := .f32) (c := thr d i) (m := arg21)) $$ H21
      have m9 : ∀ p ∈ Set.Ico zs ze, p ∈ (Set.Ico fz f8 ∪ Set.Ico zs (zs + hd)) ∪ Set.Ico ff (ff + 2048 * nb) := fun p hp => by simp only [Set.mem_union, Set.mem_Ico] at hp ⊢; omega
      have m8 : ∀ p ∈ Set.Ico (3 * zs) (3 * ze), p ∈ (Set.Ico (3 * fz) (3 * f8) ∪ Set.Ico (3 * zs) (3 * zs + 3 * hd)) ∪ Set.Ico (3 * ff) (3 * (ff + 2048 * nb)) := fun p hp => by simp only [Set.mem_union, Set.mem_Ico] at hp ⊢; omega
      iapply (finish_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (zs := zs) (ze := ze) (ff := ff) (n := nb) (O := O) (W₀ := W₀) (fun h => hal (hnb0 h)) (by omega) (by omega) hze m9 m8 v13 v16 v31 v36 v67 h52 h67 htr) $$ [D9 D8 Ht Z17 Z18 Z9 Z8 H19 H20 H21 S22' S40 S41]
      · rw [hfz]
        isplitl [D9]; · iexact D9
        isplitl [D8]; · iexact D8
        isplitl [Ht]; · iexact Ht
        isplitl [Z17]; · iexact Z17
        isplitl [Z18]; · iexact Z18
        isplitl [Z9]; · iexact Z9
        isplitl [Z8]; · iexact Z8
        isplitl [H19 H20 H21 S22']
        · unfold edgeR anyB
          isplitl [H19]; · iexact H19
          isplitl [H20]; · iexact H20
          isplitl [H21]; · iexact H21
          iexact S22'
        isplitl [S40]; · iexact S40
        iexact S41
      iexact HK
    · rw [if_neg (fun h => hh (hc26.mp h)), dif_neg (fun h => hh (hc27.mp h))]
      have m9 : ∀ p ∈ Set.Ico zs ze, p ∈ Set.Ico fz f8 ∪ Set.Ico ff (ff + 2048 * nb) := fun p hp => by simp only [Set.mem_union, Set.mem_Ico] at hp ⊢; omega
      have m8 : ∀ p ∈ Set.Ico (3 * zs) (3 * ze), p ∈ Set.Ico (3 * fz) (3 * f8) ∪ Set.Ico (3 * ff) (3 * (ff + 2048 * nb)) := fun p hp => by simp only [Set.mem_union, Set.mem_Ico] at hp ⊢; omega
      iapply (finish_ok i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (zs := zs) (ze := ze) (ff := ff) (n := nb) (O := O) (W₀ := W₀) (fun h => hal (hnb0 h)) (by omega) (by omega) hze m9 m8 v13 v16 v31 v36 v67 h52 h67 htr) $$ [D9 D8 Ht Z17 Z18 Z9 Z8 H19 H20 H21 S22' S40 S41]
      · rw [hfz]
        isplitl [D9]; · iexact D9
        isplitl [D8]; · iexact D8
        isplitl [Ht]; · iexact Ht
        isplitl [Z17]; · iexact Z17
        isplitl [Z18]; · iexact Z18
        isplitl [Z9]; · iexact Z9
        isplitl [Z8]; · iexact Z8
        isplitl [H19 H20 H21 S22']
        · unfold edgeR anyB
          isplitl [H19]; · iexact H19
          isplitl [H20]; · iexact H20
          isplitl [H21]; · iexact H21
          iexact S22'
        isplitl [S40]; · iexact S40
        iexact S41
      iexact HK

end Cert.Proof.Vox
-- ==== Proof.Count.lean ====
module

public import proofs.«01_k».proof.Proof.Move

/-
  The first kernel: how many voxels of its piece survive, in every lane of a tile's own row.
-/

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {mw : ℕ → BitVec 32} {d : Dev nD}

/-- The count of one lane over the first `k` vectors from `b` on. -/
def lc (mw : ℕ → BitVec 32) (b x : ℕ) : ℕ → ℕ
  | 0 => 0
  | k + 1 => lc mw b x k + (mw (b + (16 * k + x))).toNat

theorem cnt_step (hb : Bin mw) (n : ℕ) : cnt mw (n + 1) = cnt mw n + (mw n).toNat := by
  rcases hb n with h | h
  · rw [cnt_none (by rw [h]; decide), h]; rfl
  · rw [cnt_one h, h]; rfl

theorem cnt_run (hb : Bin mw) (n : ℕ) : ∀ m, cnt mw (n + m) = cnt mw n + (Finset.range m).sum (fun x => (mw (n + x)).toNat)
  | 0 => rfl
  | m + 1 => by rw [show n + (m + 1) = n + m + 1 from rfl, cnt_step hb, cnt_run hb n m, Finset.sum_range_succ, Nat.add_assoc]

/-- The lanes together count every voxel. -/
theorem lc_sum (hb : Bin mw) (b : ℕ) : ∀ k, (Finset.range 16).sum (fun x => lc mw b x k) + cnt mw b = cnt mw (b + 16 * k)
  | 0 => by simp [lc]
  | k + 1 => by
      have h1 := lc_sum hb b k
      have h2 := cnt_run hb (b + 16 * k) 16
      rw [show b + 16 * (k + 1) = b + 16 * k + 16 by omega, h2, ← h1]
      simp only [lc, Finset.sum_add_distrib, Nat.add_assoc]
      omega

/-- A tile of the first kernel. -/
abbrev thr0 (d : Dev nD) (i : grid0.Coords) : Thread nD τ := (d, .scVector ((i 0).castLE hcore0) ((i 1).castLE hsub0))

/-- A lane's count grows by the next vector. -/
theorem lc_add {G : ℕ → BitVec 32} {b r n : ℕ} {acc : IVec S16 32} {v : S16.Idx → BitVec 32} (hG : ∀ m, G m = mw (b + (8192 * r + m)))
    (ha : ∀ x : S16.Idx, acc x = BitVec.ofNat 32 (lc mw b (x 0).val (512 * r + n))) (hv : ∀ x, v x = G (16 * n + (x 0).val)) (x : S16.Idx) :
    addi acc v x = BitVec.ofNat 32 (lc mw b (x 0).val (512 * r + (n + 1))) := by
  have e : v x = BitVec.ofNat 32 (mw (b + (16 * (512 * r + n) + (x 0).val))).toNat := by
    rw [hv, hG, BitVec.ofNat_toNat, BitVec.setWidth_eq]
    exact congrArg (fun m => mw (b + m)) (by omega)
  show acc x + v x = _
  rw [ha, e, ← BitVec.ofNat_add]
  rfl

attribute [local irreducible] cnt lc
/-- The last sum over the lanes. -/
theorem k0_sum {a : IVec S16 32} {g : ℕ → ℕ} (ha : ∀ x : S16.Idx, a x = BitVec.ofNat 32 (g (x 0).val)) (x : S16.Idx) :
    (k0_pay3 a) x = BitVec.ofNat 32 ((Finset.range 16).sum g) := by
  have h : ∀ y : S16.Idx, (y 0).val = 15 → scan .sum a y = BitVec.ofNat 32 ((Finset.range 16).sum g) := fun y hy => by
    rw [scan_steps a (fun x => (Finset.range x).sum g) (fun x y h => Finset.sum_le_sum_of_subset (Finset.range_mono h))
      (fun x => by rw [ha x, Finset.sum_range_succ, Nat.add_sub_cancel_left]) y, hy, Finset.range_zero, Finset.sum_empty, Nat.sub_zero]
  unfold k0_pay3
  simp only [broadcast, extractAt]
  apply h
  rfl

variable (i : grid0.Coords) (arg2 : Memref sig .scVector .hbm S2097152 .i32) (y2 : arg2.IsWhole) (arg3 : Memref sig .scVector .hbm S512 .i32) (y3 : arg3.IsWhole)
  (arg4 : Memref sig .scVector .vmem S8192 .i32) (y4 : arg4.IsWhole) (arg5 : Memref sig .scVector .vmem S16 .i32) (y5 : arg5.IsWhole) (z0 : DmaSems sig S_) (z1 : DmaSems sig S_) (z2 : DmaSems sig S_) (z3 : DmaSems sig S_) (z4 : DmaSems sig S_) (z5 : DmaSems sig S_) (z6 : DmaSems sig S_) (z7 : DmaSems sig S_) (z8 : DmaSems sig S_)

set_option maxHeartbeats 1000000 in
/-- THE COUNT of one tile: its row of the counts holds, in every lane, how many voxels of its piece survive. -/
theorem count_ok (hb : Bin mw) (w : ℕ) (hw : w = 2 * (i 1).val + (i 0).val) {q : PosShare TreeShare} {V : ℕ → BitVec 32} {G₃ G₄ G₅ : ℕ → BitVec 32} {I : Set ℕ}
    (hI : ∀ n, 16 * w ≤ n → n < 16 * w + 16 → n ∈ I)
    (hV : ∀ j < 16, V (16 * w + j) = BitVec.ofNat 32 (cnt mw (65536 * (w + 1)) - cnt mw (65536 * w)))
    {O : CellTallies nD τ sig (HIx 2)} {W₀ : Waits sig (HIx 2)} {Q : PUnit → sProp (MM F)} :
    (iprop(own (F := F) (e := .i32) (thr0 d i) arg2 q Set.univ mw ∗ own (F := F) (e := .i32) (thr0 d i) arg3 fullShare I G₃
        ∗ own (F := F) (e := .i32) (thr0 d i) arg4 fullShare Set.univ G₄ ∗ own (F := F) (e := .i32) (thr0 d i) arg5 fullShare Set.univ G₅ ∗ semVal (thr0 d i, .dma z0.sem) 0 ∗ semVal (thr0 d i, .dma z1.sem) 0 ∗ semVal (thr0 d i, .dma z2.sem) 0 ∗ semVal (thr0 d i, .dma z3.sem) 0 ∗ semVal (thr0 d i, .dma z4.sem) 0 ∗ semVal (thr0 d i, .dma z5.sem) 0 ∗ semVal (thr0 d i, .dma z6.sem) 0 ∗ semVal (thr0 d i, .dma z7.sem) 0 ∗ semVal (thr0 d i, .dma z8.sem) 0 ∗ tick (thr0 d i) default O W₀) : sProp (MM F))
      ⊢ iprop((iprop(own (F := F) (e := .i32) (thr0 d i) arg2 q Set.univ mw
          ∗ (∃ G, own (F := F) (e := .i32) (thr0 d i) arg3 fullShare I G ∗ ⌜∀ p ∈ Set.Ico (16 * w) (16 * w + 16), G p = V p⌝)
          ∗ (∃ G, own (F := F) (e := .i32) (thr0 d i) arg4 fullShare Set.univ G) ∗ (∃ G, own (F := F) (e := .i32) (thr0 d i) arg5 fullShare Set.univ G)
          ∗ semVal (thr0 d i, .dma z0.sem) 0 ∗ semVal (thr0 d i, .dma z1.sem) 0 ∗ semVal (thr0 d i, .dma z2.sem) 0 ∗ semVal (thr0 d i, .dma z3.sem) 0 ∗ semVal (thr0 d i, .dma z4.sem) 0 ∗ semVal (thr0 d i, .dma z5.sem) 0 ∗ semVal (thr0 d i, .dma z6.sem) 0 ∗ semVal (thr0 d i, .dma z7.sem) 0 ∗ semVal (thr0 d i, .dma z8.sem) 0 ∗ tick (thr0 d i) default O W₀) -∗ Q ⟨⟩)
        -∗ wp frame (wpE (defs₀ (F := F)) 𝒱₀ (thr0 d i) none) Set.univ (cc0__count_body (F := F) i arg2 y2 arg3 y3 arg4 y4 arg5 y5 z0 z1 z2 z3 z4 z5 z6 z7 z8) Q) := by
  have hw32 : w < 32 := by have := (i 0).isLt; have := (i 1).isLt; change (i 0).val < 2 at *; change (i 1).val < 16 at *; omega
  have ho : ∀ r : Fin 8, (k0_off1 i (BitVec.ofNat 32 (8192 * r.val))) 0 = 65536 * w + 8192 * r.val := fun r => by
    rw [k0_off1_eq i r, hw]; show 131072 * (i 1).val + 65536 * (i 0).val + 8192 * r.val = _; omega
  rw [cc0__count_body_eq_skeleton]; unfold cc0__count_body_skel
  rw [k0_part1_eq_skeleton]; unfold k0_part1_skel
  rw [k0_part2_eq_skeleton]; unfold k0_part2_skel
  simp only [bind_assoc, pure_bind]
  iintro ⟨H2, H3, H4, H5, S0, S1, S2, S3, S4, S5, S6, S7, S8, Ht⟩ HK
  iapply (copy_in (F := F) (c := thr0 d i) (src := arg2) (dst := arg4) (O := O) (W₀ := W₀) (by decide) rfl) $$ [H2 H4 S0 Ht]
  · isplitl [H2]; · iexact H2
    isplitl [H4]; · iexact H4
    isplitl [S0]; · iexact S0
    iexact Ht
  iintro ⟨H2, H4, S0, Ht⟩
  have hG0 : ∀ m, mw ((k0_off1 i (BitVec.ofNat 32 (8192 * 0))) 0 + m) = mw (65536 * w + (8192 * 0 + m)) := fun m => congrArg mw (by
    have := ho ⟨0, by omega⟩
    simp only at this
    rw [this]; omega)
  iapply (Scf.wp_for_bind frame (wpE (defs₀ (F := F)) 𝒱₀ (thr0 d i) none) Set.univ _ _ _ k0_t1_ok _ _
    (fun n (acc : IVec S16 32) => iprop(own (F := F) (e := .i32) (thr0 d i) arg4 fullShare Set.univ (fun n => mw ((k0_off1 i (BitVec.ofNat 32 (8192 * 0))) 0 + n))
      ∗ ⌜∀ x : S16.Idx, acc x = BitVec.ofNat 32 (lc mw (65536 * w) (x 0).val (512 * 0 + n))⌝))
    (fun k acc => by
      iintro ⟨H, %ha⟩
      unfold k0_t1_body
      iapply (own_ld (c := thr0 d i) (m := arg4) (fun _ _ => Set.mem_univ _)) $$ H; iintro %v %hv H
      rw [wp_pure]
      imodintro
      isplitl [H]; · iexact H
      ipureintro
      exact fun x => lc_add (r := 0) hG0 ha (fun x => by rw [hv x, k0_off2_eq]; rfl) x)) $$ [H4]
  · isplitl [H4]; · iexact H4
    ipureintro
    exact (fun x => by unfold lc; rfl)
  iintro %a0 ⟨H4, %hb0⟩
  have ha0 : ∀ x : S16.Idx, a0 x = BitVec.ofNat 32 (lc mw (65536 * w) (x 0).val (512 * 1 + 0)) := hb0
  iapply (copy_in (F := F) (c := thr0 d i) (src := arg2) (dst := arg4) (O := O) (W₀ := W₀) (by decide) rfl) $$ [H2 H4 S1 Ht]
  · isplitl [H2]; · iexact H2
    isplitl [H4]; · iexact H4
    isplitl [S1]; · iexact S1
    iexact Ht
  iintro ⟨H2, H4, S1, Ht⟩
  have hG1 : ∀ m, mw ((k0_off1 i (BitVec.ofNat 32 (8192 * 1))) 0 + m) = mw (65536 * w + (8192 * 1 + m)) := fun m => congrArg mw (by
    have := ho ⟨1, by omega⟩
    simp only at this
    rw [this]; omega)
  iapply (Scf.wp_for_bind frame (wpE (defs₀ (F := F)) 𝒱₀ (thr0 d i) none) Set.univ _ _ _ k0_t2_ok _ _
    (fun n (acc : IVec S16 32) => iprop(own (F := F) (e := .i32) (thr0 d i) arg4 fullShare Set.univ (fun n => mw ((k0_off1 i (BitVec.ofNat 32 (8192 * 1))) 0 + n))
      ∗ ⌜∀ x : S16.Idx, acc x = BitVec.ofNat 32 (lc mw (65536 * w) (x 0).val (512 * 1 + n))⌝))
    (fun k acc => by
      iintro ⟨H, %ha⟩
      unfold k0_t2_body
      iapply (own_ld (c := thr0 d i) (m := arg4) (fun _ _ => Set.mem_univ _)) $$ H; iintro %v %hv H
      rw [wp_pure]
      imodintro
      isplitl [H]; · iexact H
      ipureintro
      exact fun x => lc_add (r := 1) hG1 ha (fun x => by rw [hv x, k0_off3_eq]; rfl) x)) $$ [H4]
  · isplitl [H4]; · iexact H4
    ipureintro
    exact ha0
  iintro %a1 ⟨H4, %hb1⟩
  have ha1 : ∀ x : S16.Idx, a1 x = BitVec.ofNat 32 (lc mw (65536 * w) (x 0).val (512 * 2 + 0)) := hb1
  iapply (copy_in (F := F) (c := thr0 d i) (src := arg2) (dst := arg4) (O := O) (W₀ := W₀) (by decide) rfl) $$ [H2 H4 S2 Ht]
  · isplitl [H2]; · iexact H2
    isplitl [H4]; · iexact H4
    isplitl [S2]; · iexact S2
    iexact Ht
  iintro ⟨H2, H4, S2, Ht⟩
  have hG2 : ∀ m, mw ((k0_off1 i (BitVec.ofNat 32 (8192 * 2))) 0 + m) = mw (65536 * w + (8192 * 2 + m)) := fun m => congrArg mw (by
    have := ho ⟨2, by omega⟩
    simp only at this
    rw [this]; omega)
  iapply (Scf.wp_for_bind frame (wpE (defs₀ (F := F)) 𝒱₀ (thr0 d i) none) Set.univ _ _ _ k0_t3_ok _ _
    (fun n (acc : IVec S16 32) => iprop(own (F := F) (e := .i32) (thr0 d i) arg4 fullShare Set.univ (fun n => mw ((k0_off1 i (BitVec.ofNat 32 (8192 * 2))) 0 + n))
      ∗ ⌜∀ x : S16.Idx, acc x = BitVec.ofNat 32 (lc mw (65536 * w) (x 0).val (512 * 2 + n))⌝))
    (fun k acc => by
      iintro ⟨H, %ha⟩
      unfold k0_t3_body
      iapply (own_ld (c := thr0 d i) (m := arg4) (fun _ _ => Set.mem_univ _)) $$ H; iintro %v %hv H
      rw [wp_pure]
      imodintro
      isplitl [H]; · iexact H
      ipureintro
      exact fun x => lc_add (r := 2) hG2 ha (fun x => by rw [hv x, k0_off4_eq]; rfl) x)) $$ [H4]
  · isplitl [H4]; · iexact H4
    ipureintro
    exact ha1
  iintro %a2 ⟨H4, %hb2⟩
  have ha2 : ∀ x : S16.Idx, a2 x = BitVec.ofNat 32 (lc mw (65536 * w) (x 0).val (512 * 3 + 0)) := hb2
  iapply (copy_in (F := F) (c := thr0 d i) (src := arg2) (dst := arg4) (O := O) (W₀ := W₀) (by decide) rfl) $$ [H2 H4 S3 Ht]
  · isplitl [H2]; · iexact H2
    isplitl [H4]; · iexact H4
    isplitl [S3]; · iexact S3
    iexact Ht
  iintro ⟨H2, H4, S3, Ht⟩
  have hG3 : ∀ m, mw ((k0_off1 i (BitVec.ofNat 32 (8192 * 3))) 0 + m) = mw (65536 * w + (8192 * 3 + m)) := fun m => congrArg mw (by
    have := ho ⟨3, by omega⟩
    simp only at this
    rw [this]; omega)
  iapply (Scf.wp_for_bind frame (wpE (defs₀ (F := F)) 𝒱₀ (thr0 d i) none) Set.univ _ _ _ k0_t4_ok _ _
    (fun n (acc : IVec S16 32) => iprop(own (F := F) (e := .i32) (thr0 d i) arg4 fullShare Set.univ (fun n => mw ((k0_off1 i (BitVec.ofNat 32 (8192 * 3))) 0 + n))
      ∗ ⌜∀ x : S16.Idx, acc x = BitVec.ofNat 32 (lc mw (65536 * w) (x 0).val (512 * 3 + n))⌝))
    (fun k acc => by
      iintro ⟨H, %ha⟩
      unfold k0_t4_body
      iapply (own_ld (c := thr0 d i) (m := arg4) (fun _ _ => Set.mem_univ _)) $$ H; iintro %v %hv H
      rw [wp_pure]
      imodintro
      isplitl [H]; · iexact H
      ipureintro
      exact fun x => lc_add (r := 3) hG3 ha (fun x => by rw [hv x, k0_off5_eq]; rfl) x)) $$ [H4]
  · isplitl [H4]; · iexact H4
    ipureintro
    exact ha2
  iintro %a3 ⟨H4, %hb3⟩
  have ha3 : ∀ x : S16.Idx, a3 x = BitVec.ofNat 32 (lc mw (65536 * w) (x 0).val (512 * 4 + 0)) := hb3
  iapply (copy_in (F := F) (c := thr0 d i) (src := arg2) (dst := arg4) (O := O) (W₀ := W₀) (by decide) rfl) $$ [H2 H4 S4 Ht]
  · isplitl [H2]; · iexact H2
    isplitl [H4]; · iexact H4
    isplitl [S4]; · iexact S4
    iexact Ht
  iintro ⟨H2, H4, S4, Ht⟩
  have hG4 : ∀ m, mw ((k0_off1 i (BitVec.ofNat 32 (8192 * 4))) 0 + m) = mw (65536 * w + (8192 * 4 + m)) := fun m => congrArg mw (by
    have := ho ⟨4, by omega⟩
    simp only at this
    rw [this]; omega)
  iapply (Scf.wp_for_bind frame (wpE (defs₀ (F := F)) 𝒱₀ (thr0 d i) none) Set.univ _ _ _ k0_t5_ok _ _
    (fun n (acc : IVec S16 32) => iprop(own (F := F) (e := .i32) (thr0 d i) arg4 fullShare Set.univ (fun n => mw ((k0_off1 i (BitVec.ofNat 32 (8192 * 4))) 0 + n))
      ∗ ⌜∀ x : S16.Idx, acc x = BitVec.ofNat 32 (lc mw (65536 * w) (x 0).val (512 * 4 + n))⌝))
    (fun k acc => by
      iintro ⟨H, %ha⟩
      unfold k0_t5_body
      iapply (own_ld (c := thr0 d i) (m := arg4) (fun _ _ => Set.mem_univ _)) $$ H; iintro %v %hv H
      rw [wp_pure]
      imodintro
      isplitl [H]; · iexact H
      ipureintro
      exact fun x => lc_add (r := 4) hG4 ha (fun x => by rw [hv x, k0_off6_eq]; rfl) x)) $$ [H4]
  · isplitl [H4]; · iexact H4
    ipureintro
    exact ha3
  iintro %a4 ⟨H4, %hb4⟩
  have ha4 : ∀ x : S16.Idx, a4 x = BitVec.ofNat 32 (lc mw (65536 * w) (x 0).val (512 * 5 + 0)) := hb4
  iapply (copy_in (F := F) (c := thr0 d i) (src := arg2) (dst := arg4) (O := O) (W₀ := W₀) (by decide) rfl) $$ [H2 H4 S5 Ht]
  · isplitl [H2]; · iexact H2
    isplitl [H4]; · iexact H4
    isplitl [S5]; · iexact S5
    iexact Ht
  iintro ⟨H2, H4, S5, Ht⟩
  have hG5 : ∀ m, mw ((k0_off1 i (BitVec.ofNat 32 (8192 * 5))) 0 + m) = mw (65536 * w + (8192 * 5 + m)) := fun m => congrArg mw (by
    have := ho ⟨5, by omega⟩
    simp only at this
    rw [this]; omega)
  iapply (Scf.wp_for_bind frame (wpE (defs₀ (F := F)) 𝒱₀ (thr0 d i) none) Set.univ _ _ _ k0_t6_ok _ _
    (fun n (acc : IVec S16 32) => iprop(own (F := F) (e := .i32) (thr0 d i) arg4 fullShare Set.univ (fun n => mw ((k0_off1 i (BitVec.ofNat 32 (8192 * 5))) 0 + n))
      ∗ ⌜∀ x : S16.Idx, acc x = BitVec.ofNat 32 (lc mw (65536 * w) (x 0).val (512 * 5 + n))⌝))
    (fun k acc => by
      iintro ⟨H, %ha⟩
      unfold k0_t6_body
      iapply (own_ld (c := thr0 d i) (m := arg4) (fun _ _ => Set.mem_univ _)) $$ H; iintro %v %hv H
      rw [wp_pure]
      imodintro
      isplitl [H]; · iexact H
      ipureintro
      exact fun x => lc_add (r := 5) hG5 ha (fun x => by rw [hv x, k0_off7_eq]; rfl) x)) $$ [H4]
  · isplitl [H4]; · iexact H4
    ipureintro
    exact ha4
  iintro %a5 ⟨H4, %hb5⟩
  have ha5 : ∀ x : S16.Idx, a5 x = BitVec.ofNat 32 (lc mw (65536 * w) (x 0).val (512 * 6 + 0)) := hb5
  iapply (copy_in (F := F) (c := thr0 d i) (src := arg2) (dst := arg4) (O := O) (W₀ := W₀) (by decide) rfl) $$ [H2 H4 S6 Ht]
  · isplitl [H2]; · iexact H2
    isplitl [H4]; · iexact H4
    isplitl [S6]; · iexact S6
    iexact Ht
  iintro ⟨H2, H4, S6, Ht⟩
  have hG6 : ∀ m, mw ((k0_off1 i (BitVec.ofNat 32 (8192 * 6))) 0 + m) = mw (65536 * w + (8192 * 6 + m)) := fun m => congrArg mw (by
    have := ho ⟨6, by omega⟩
    simp only at this
    rw [this]; omega)
  iapply (Scf.wp_for_bind frame (wpE (defs₀ (F := F)) 𝒱₀ (thr0 d i) none) Set.univ _ _ _ k0_t7_ok _ _
    (fun n (acc : IVec S16 32) => iprop(own (F := F) (e := .i32) (thr0 d i) arg4 fullShare Set.univ (fun n => mw ((k0_off1 i (BitVec.ofNat 32 (8192 * 6))) 0 + n))
      ∗ ⌜∀ x : S16.Idx, acc x = BitVec.ofNat 32 (lc mw (65536 * w) (x 0).val (512 * 6 + n))⌝))
    (fun k acc => by
      iintro ⟨H, %ha⟩
      unfold k0_t7_body
      iapply (own_ld (c := thr0 d i) (m := arg4) (fun _ _ => Set.mem_univ _)) $$ H; iintro %v %hv H
      rw [wp_pure]
      imodintro
      isplitl [H]; · iexact H
      ipureintro
      exact fun x => lc_add (r := 6) hG6 ha (fun x => by rw [hv x, k0_off8_eq]; rfl) x)) $$ [H4]
  · isplitl [H4]; · iexact H4
    ipureintro
    exact ha5
  iintro %a6 ⟨H4, %hb6⟩
  have ha6 : ∀ x : S16.Idx, a6 x = BitVec.ofNat 32 (lc mw (65536 * w) (x 0).val (512 * 7 + 0)) := hb6
  iapply (copy_in (F := F) (c := thr0 d i) (src := arg2) (dst := arg4) (O := O) (W₀ := W₀) (by decide) rfl) $$ [H2 H4 S7 Ht]
  · isplitl [H2]; · iexact H2
    isplitl [H4]; · iexact H4
    isplitl [S7]; · iexact S7
    iexact Ht
  iintro ⟨H2, H4, S7, Ht⟩
  have hG7 : ∀ m, mw ((k0_off1 i (BitVec.ofNat 32 (8192 * 7))) 0 + m) = mw (65536 * w + (8192 * 7 + m)) := fun m => congrArg mw (by
    have := ho ⟨7, by omega⟩
    simp only at this
    rw [this]; omega)
  iapply (Scf.wp_for_bind frame (wpE (defs₀ (F := F)) 𝒱₀ (thr0 d i) none) Set.univ _ _ _ k0_t8_ok _ _
    (fun n (acc : IVec S16 32) => iprop(own (F := F) (e := .i32) (thr0 d i) arg4 fullShare Set.univ (fun n => mw ((k0_off1 i (BitVec.ofNat 32 (8192 * 7))) 0 + n))
      ∗ ⌜∀ x : S16.Idx, acc x = BitVec.ofNat 32 (lc mw (65536 * w) (x 0).val (512 * 7 + n))⌝))
    (fun k acc => by
      iintro ⟨H, %ha⟩
      unfold k0_t8_body
      iapply (own_ld (c := thr0 d i) (m := arg4) (fun _ _ => Set.mem_univ _)) $$ H; iintro %v %hv H
      rw [wp_pure]
      imodintro
      isplitl [H]; · iexact H
      ipureintro
      exact fun x => lc_add (r := 7) hG7 ha (fun x => by rw [hv x, k0_off9_eq]; rfl) x)) $$ [H4]
  · isplitl [H4]; · iexact H4
    ipureintro
    exact ha6
  iintro %a7 ⟨H4, %hb7⟩
  have ha7 : ∀ x : S16.Idx, a7 x = BitVec.ofNat 32 (lc mw (65536 * w) (x 0).val (512 * 8 + 0)) := hb7
  have hs : ∀ x, k0_pay3 a7 x = BitVec.ofNat 32 (cnt mw (65536 * (w + 1)) - cnt mw (65536 * w)) := fun x => by
    have h2 := lc_sum hb (65536 * w) 4096
    rw [k0_sum (g := fun x => lc mw (65536 * w) x 4096) ha7 x, show 65536 * (w + 1) = 65536 * w + 16 * 4096 by omega, ← h2, Nat.add_sub_cancel]
  iapply (own_ld (c := thr0 d i) (m := arg5) (fun _ _ => Set.mem_univ _)) $$ H5; iintro %v5 %hv5 H5
  iapply (own_store (F := F) 𝒱₀ (thr0 d i) none (m := arg5) (fun n => if n < 16 then BitVec.ofNat 32 (cnt mw (65536 * (w + 1)) - cnt mw (65536 * w)) else G₅ n)
    (fun _ _ => Set.mem_univ _) (fun x => by
      have := (x 0).isLt
      change (x 0).val < 16 at this
      show ite _ _ _ = _
      rw [if_pos (by show 0 + (x 0).val < 16; omega)]
      exact (hs x).symm) (fun n _ hn => if_neg (by
        change n < 0 ∨ 0 + 16 ≤ n at hn
        omega))) $$ H5
  iintro H5
  have ho3 : (k0_off10 i) 0 = 16 * w := by rw [k0_off10_eq i, hw]; show 32 * (i 1).val + 16 * (i 0).val = _; omega
  ihave Hd2 := (own_carve (c := thr0 d i) (m := arg3) (q := fullShare) (I := I) (J := Set.Ico ((k0_off10 i) 0) ((k0_off10 i) 0 + S16.size 0)) (G := G₃) (fun n hn => hI n (ho3 ▸ hn.1) (by have := hn.2; rw [ho3] at this; exact this))) $$ H3
  icases Hd2 with ⟨HdA, HdB⟩
  ihave HdA := (own_slice (c := thr0 d i) (m := arg3) (q := fullShare) (G := G₃) (off := k0_off10 i) (size := S16.size) (inb := k0_off10_inb i) (hs := fun _ => rfl)) $$ HdA
  iapply (own_copy (F := F) 𝒱₀ none EC (c := thr0 d i) (src := arg5) (dst := arg3.slice (Rect.unit (s := S512) (k0_off10 i) S16.size (k0_off10_inb i)) (fun _ => rfl)) (O := O) (W₀ := W₀) (by decide) rfl) $$ [H5 HdA S8 Ht]
  · isplitl [H5]; · iexact H5
    isplitl [HdA]; · iexact HdA
    isplitl [S8]; · iexact S8
    iexact Ht
  iintro ⟨H5, HdA, S8, Ht⟩
  ihave HdA := (own_of_slice (c := thr0 d i) (m := arg3) (q := fullShare) (G := V) (off := k0_off10 i) (size := S16.size) (inb := k0_off10_inb i) (hs := fun _ => rfl) (fun j hj => by
    change j < 16 at hj
    rw [ho3, hV j hj]
    exact if_pos hj)) $$ HdA
  rw [wp_pure]
  imodintro
  iapply HK
  isplitl [H2]; · iexact H2
  isplitl [HdA HdB]
  · iexists (fun n => by classical exact if n ∈ Set.Ico ((k0_off10 i) 0) ((k0_off10 i) 0 + S16.size 0) then V n else G₃ n)
    isplitl [HdA HdB]
    · iapply (own_uncarve (c := thr0 d i) (m := arg3) (q := fullShare) (I := I) (J := Set.Ico ((k0_off10 i) 0) ((k0_off10 i) 0 + S16.size 0)) (fun n hn => hI n (ho3 ▸ hn.1) (by have := hn.2; rw [ho3] at this; exact this))
        (fun n hn => if_pos hn) (fun n _ hn => if_neg hn))
      isplitl [HdA] <;> iassumption
    · ipureintro
      exact fun p hp => if_pos (by rw [ho3]; exact hp)
  isplitl [H4]; · iexists _; iexact H4
  isplitl [H5]; · iexists _; iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact Ht

end Cert.Proof.Vox
-- ==== Proof.Tile.lean ====
module

public import proofs.«01_k».proof.Proof.Main8
public import proofs.«01_k».proof.Proof.Count
public import Idealize.ShloMosaic.Lib.ShareLeaves

/-
  The two kernels of a tile, from what the launch hands it to what it hands back.
-/

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open scoped Idealize.SL.RA.PCS
open Idealize.SL.BI.BIBase Idealize.SL.BI.Laws Idealize.SL.ProofMode Idealize.SL.Sem

variable {F : FTy → Type} [FloatOps F]

/-! ## The launch's facts -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Buffers read at a position -/

/-- The element at position `n` of a line, the positions taken around. -/
def rdv {α : Type} {dd : Fin 1 → ℕ} (h : 0 < dd 0) (f : Shape.Idx ⟨1, dd⟩ → α) (n : ℕ) : α :=
  f fun a => ⟨n % dd a, Nat.mod_lt _ (by rwa [Subsingleton.elim a 0])⟩

theorem rdv_at {α : Type} {dd : Fin 1 → ℕ} (h : 0 < dd 0) (f : Shape.Idx ⟨1, dd⟩ → α) (i : Shape.Idx ⟨1, dd⟩) : rdv h f (i 0).val = f i := by
  unfold rdv
  congr 1
  funext a
  obtain rfl : a = 0 := Subsingleton.elim _ _
  exact Fin.ext (Nat.mod_eq_of_lt (i 0).isLt)

section Any

variable {c : Thread nD τ} {sp : Space} {dd : Fin 1 → ℕ} {e : EltTy} {m : Memref sig c.2.kind sp ⟨1, dd⟩ e} {q : PosShare TreeShare} {I : Set ℕ}

theorem own_of_pts {f : Buf (Elt F) (m.view.loc c)} {G : ℕ → Elt F e} (h : ∀ i, (i 0).val ∈ I → m.view.read (Elt F) f i = G (i 0).val) :
    (m.view.loc c ↦[m.view.setOn (pos I)]{q} f : sProp (MM F)) ⊢ own c m q I G := by
  unfold own
  iintro H
  iexists f
  isplitl [H]; · iexact H
  ipureintro; exact h

theorem pts_of_own {f : Buf (Elt F) (m.view.loc c)} {G : ℕ → Elt F e} (h : ∀ i, (i 0).val ∈ I → m.view.read (Elt F) f i = G (i 0).val) :
    (own c m q I G : sProp (MM F)) ⊢ m.view.loc c ↦[m.view.setOn (pos I)]{q} f := by
  unfold own
  iintro ⟨%g, H, %hg⟩
  refine Entails.of_eq (pointsTo_congr (f := g) (g := f) (fun j hj => by
    obtain ⟨i, hi, rfl⟩ := Finset.mem_map.mp hj
    have e := (hg i (mem_pos.mp hi)).trans (h i (mem_pos.mp hi)).symm
    simp only [View.read_apply] at e
    exact eq_of_heq ((cast_heq _ _).symm.trans ((heq_of_eq e).trans (cast_heq _ _)))))

theorem any_of (hw : m.view.set = Finset.univ) (hd : 0 < dd 0) : (iprop(∃ f, m.view.loc c ↦{fullShare} f) : sProp (MM F)) ⊢ anyB c m := by
  unfold anyB
  iintro ⟨%f, H⟩
  iexists (rdv hd (m.view.read (Elt F) f))
  iapply (own_of_pts (f := f) (fun i _ => (rdv_at hd _ i).symm))
  rw [pos_univ, View.setOn_univ, hw]
  iexact H

theorem own_any (hw : m.view.set = Finset.univ) {G : ℕ → Elt F e} : (own c m fullShare Set.univ G : sProp (MM F)) ⊢ iprop(∃ f, m.view.loc c ↦{fullShare} f) := by
  unfold own
  iintro ⟨%f, H, %hf⟩
  rw [pos_univ, View.setOn_univ, hw]
  iexists f
  iexact H

theorem any_to (hw : m.view.set = Finset.univ) : (anyB c m : sProp (MM F)) ⊢ iprop(∃ f, m.view.loc c ↦{fullShare} f) := by
  unfold anyB
  iintro ⟨%G, H⟩
  iapply (own_any hw)
  iexact H

end Any

/-! ## A tile's own memory and counters -/

/-- The scratch of the count. -/
def refs0 : Finset (Ref sig .scVector) := {cc0_scratch0, cc0_scratch1}
/-- The scratch of the main kernel. -/
def refs1 : Finset (Ref sig .scVector) := {cc1_scratch0, cc1_scratch1, cc1_scratch2, cc1_scratch3, cc1_scratch4, cc1_scratch5, cc1_scratch6, cc1_scratch7, cc1_scratch8, cc1_scratch9, cc1_scratch10, cc1_scratch11}
/-- The counters of the count. -/
def cells0 : Finset (SemLoc sig) := {.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem}
/-- The counters of the main kernel. -/
def cells1 : Finset (SemLoc sig) := {.dma cc1_scoped0.sem, .dma cc1_scoped1.sem, .dma cc1_scoped2.sem, .dma cc1_scoped3.sem, .dma cc1_scoped4.sem, .dma cc1_scoped5.sem, .dma cc1_scoped6.sem, .dma cc1_scoped7.sem, .dma cc1_scoped8.sem, .dma cc1_scoped9.sem, .dma cc1_scoped10.sem, .dma cc1_scoped11.sem, .dma cc1_scoped12.sem, .dma cc1_scoped13.sem, .dma cc1_scoped14.sem, .dma cc1_scoped15.sem, .dma cc1_scoped16.sem, .dma cc1_scoped17.sem, .dma cc1_scoped18.sem, .dma cc1_scoped19.sem, .dma cc1_scoped20.sem, .dma cc1_scoped21.sem, .dma cc1_scoped22.sem, .dma cc1_scoped23.sem, .dma cc1_scoped24.sem, .dma cc1_scoped25.sem, .dma cc1_scoped26.sem, .dma cc1_scoped27.sem, .dma cc1_scoped28.sem, .dma cc1_scoped29.sem, .dma cc1_scoped30.sem, .dma cc1_scoped31.sem, .dma cc1_scoped32.sem, .dma cc1_scoped33.sem, .dma cc1_scoped34.sem, .dma cc1_scoped35.sem, .dma cc1_scoped36.sem, .dma cc1_scoped37.sem, .dma cc1_scoped38.sem, .dma cc1_scoped39.sem, .dma cc1_scratch12.sem, .dma cc1_scratch13.sem, .dma cc1_scratch14.sem, .dma cc1_scoped40.sem, .dma cc1_scoped41.sem}

variable (d : Dev nD)

/-- Some of a tile's own memory taken out of it. -/
theorem bufs_split (c : Fin τ.nSC) (i : Fin τ.nSub) (t : Finset (Ref sig .scVector)) (h : ∀ r ∈ t, ((Proc.scVector c i).devRef r).owner = .proc (Proc.scVector c i)) :
    ∃ R : sProp (MM F), (ownBufs (V d c i) : sProp (MM F)) = iprop((bigSep t fun r => iprop(∃ f, (V d c i).loc r ↦{fullShare} f)) ∗ R) := by
  unfold SparseCore.Cfg.ownBufs
  have e := SparseCore.bigSep_sdiff_split' (Φ := fun b => (iprop(∃ f, ((d, b) : Loc nD τ sig) ↦{fullShare} f) : sProp (MM F))) (s := ownRefs (τ := τ) (sig := sig) (.scVector c i))
    (t := t.map ⟨Proc.devRef (.scVector c i), Proc.devRef_injective _⟩) (fun b hb => by
      obtain ⟨r, hr, rfl⟩ := Finset.mem_map.mp hb
      exact SparseCore.Cfg.mem_ownRefs_of_owner (p := Proc.scVector c i) (h r hr))
  rw [bigSep_map] at e
  exact ⟨_, e⟩

/-- Some of a tile's own counters taken out of them. -/
theorem sems_split (c : Fin τ.nSC) (i : Fin τ.nSub) (t : Finset (SemLoc sig)) (h : ∀ s ∈ t, s.isScoped .scVector = true) :
    ∃ R : sProp (MM F), (ownSems0 (V d c i) : sProp (MM F)) = iprop((bigSep t fun s => semVal (V d c i, s) 0) ∗ R) := by
  unfold SparseCore.Cfg.ownSems0
  have e := SparseCore.bigSep_sdiff_split' (Φ := fun g => (semVal g 0 : sProp (MM F))) (s := ownCells (V d c i)) (t := t.map ⟨fun s => (V d c i, s), fun _ _ h => congrArg Prod.snd h⟩) (fun g hg => by
    obtain ⟨s, hs, rfl⟩ := Finset.mem_map.mp hg
    exact mem_ownCells.mpr ⟨rfl, h s hs⟩)
  rw [bigSep_map] at e
  exact ⟨_, e⟩

theorem bufs_0 (Φ : Ref sig .scVector → sProp (MM F)) :
    bigSep refs0 Φ = iprop(Φ cc0_scratch0 ∗ Φ cc0_scratch1) := by
  unfold refs0
  iterate 1 rw [SparseCore.bigSep_insert' (by decide)]
  rw [bigSep_singleton]

theorem sems_0 (Φ : SemLoc sig → sProp (MM F)) :
    bigSep cells0 Φ = iprop(Φ (.dma cc0_scoped0.sem) ∗ Φ (.dma cc0_scoped1.sem) ∗ Φ (.dma cc0_scoped2.sem) ∗ Φ (.dma cc0_scoped3.sem) ∗ Φ (.dma cc0_scoped4.sem) ∗ Φ (.dma cc0_scoped5.sem) ∗ Φ (.dma cc0_scoped6.sem) ∗ Φ (.dma cc0_scoped7.sem) ∗ Φ (.dma cc0_scoped8.sem)) := by
  unfold cells0
  iterate 8 rw [SparseCore.bigSep_insert' (by decide)]
  rw [bigSep_singleton]

theorem refs0_own (c : Fin τ.nSC) (i : Fin τ.nSub) : ∀ r ∈ refs0, ((Proc.scVector c i).devRef r).owner = .proc (Proc.scVector c i) := fun r hr => by
  simp only [refs0, Finset.mem_insert, Finset.mem_singleton] at hr
  rcases hr with rfl | rfl <;> rfl

theorem cells0_own : ∀ s ∈ cells0, s.isScoped .scVector = true := by decide

theorem bufs_1 (Φ : Ref sig .scVector → sProp (MM F)) :
    bigSep refs1 Φ = iprop(Φ cc1_scratch0 ∗ Φ cc1_scratch1 ∗ Φ cc1_scratch2 ∗ Φ cc1_scratch3 ∗ Φ cc1_scratch4 ∗ Φ cc1_scratch5 ∗ Φ cc1_scratch6 ∗ Φ cc1_scratch7 ∗ Φ cc1_scratch8 ∗ Φ cc1_scratch9 ∗ Φ cc1_scratch10 ∗ Φ cc1_scratch11) := by
  unfold refs1
  iterate 11 rw [SparseCore.bigSep_insert' (by decide)]
  rw [bigSep_singleton]

theorem sems_1 (Φ : SemLoc sig → sProp (MM F)) :
    bigSep cells1 Φ = iprop(Φ (.dma cc1_scoped0.sem) ∗ Φ (.dma cc1_scoped1.sem) ∗ Φ (.dma cc1_scoped2.sem) ∗ Φ (.dma cc1_scoped3.sem) ∗ Φ (.dma cc1_scoped4.sem) ∗ Φ (.dma cc1_scoped5.sem) ∗ Φ (.dma cc1_scoped6.sem) ∗ Φ (.dma cc1_scoped7.sem) ∗ Φ (.dma cc1_scoped8.sem) ∗ Φ (.dma cc1_scoped9.sem) ∗ Φ (.dma cc1_scoped10.sem) ∗ Φ (.dma cc1_scoped11.sem) ∗ Φ (.dma cc1_scoped12.sem) ∗ Φ (.dma cc1_scoped13.sem) ∗ Φ (.dma cc1_scoped14.sem) ∗ Φ (.dma cc1_scoped15.sem) ∗ Φ (.dma cc1_scoped16.sem) ∗ Φ (.dma cc1_scoped17.sem) ∗ Φ (.dma cc1_scoped18.sem) ∗ Φ (.dma cc1_scoped19.sem) ∗ Φ (.dma cc1_scoped20.sem) ∗ Φ (.dma cc1_scoped21.sem) ∗ Φ (.dma cc1_scoped22.sem) ∗ Φ (.dma cc1_scoped23.sem) ∗ Φ (.dma cc1_scoped24.sem) ∗ Φ (.dma cc1_scoped25.sem) ∗ Φ (.dma cc1_scoped26.sem) ∗ Φ (.dma cc1_scoped27.sem) ∗ Φ (.dma cc1_scoped28.sem) ∗ Φ (.dma cc1_scoped29.sem) ∗ Φ (.dma cc1_scoped30.sem) ∗ Φ (.dma cc1_scoped31.sem) ∗ Φ (.dma cc1_scoped32.sem) ∗ Φ (.dma cc1_scoped33.sem) ∗ Φ (.dma cc1_scoped34.sem) ∗ Φ (.dma cc1_scoped35.sem) ∗ Φ (.dma cc1_scoped36.sem) ∗ Φ (.dma cc1_scoped37.sem) ∗ Φ (.dma cc1_scoped38.sem) ∗ Φ (.dma cc1_scoped39.sem) ∗ Φ (.dma cc1_scratch12.sem) ∗ Φ (.dma cc1_scratch13.sem) ∗ Φ (.dma cc1_scratch14.sem) ∗ Φ (.dma cc1_scoped40.sem) ∗ Φ (.dma cc1_scoped41.sem)) := by
  unfold cells1
  iterate 44 rw [SparseCore.bigSep_insert' (by decide)]
  rw [bigSep_singleton]

theorem refs1_own (c : Fin τ.nSC) (i : Fin τ.nSub) : ∀ r ∈ refs1, ((Proc.scVector c i).devRef r).owner = .proc (Proc.scVector c i) := fun r hr => by
  simp only [refs1, Finset.mem_insert, Finset.mem_singleton] at hr
  rcases hr with rfl | rfl | rfl | rfl | rfl | rfl | rfl | rfl | rfl | rfl | rfl | rfl <;> rfl

theorem cells1_own : ∀ s ∈ cells1, s.isScoped .scVector = true := by decide

/-! ## What a tile is handed and what it hands back -/

variable {mw : ℕ → BitVec 32} {nz P fl : ℕ → F .f32} {CT : ℕ → BitVec 32} {d : Dev nD}

/-- The first result: the occupied voxels' numbers, then zeros. -/
def occG (mw : ℕ → BitVec 32) (p : ℕ) : BitVec 32 := if p < cnt mw 2097152 then occV mw p else 0#32

/-- The second result: the occupied voxels' places, then the fill. -/
def xwG (mw : ℕ → BitVec 32) (nz P fl : ℕ → F .f32) (m : ℕ) : F .f32 :=
  if m < 3 * cnt mw 2097152 then xwV (Yv nz P (fun n => P (n + 3))) mw m else fl (m % 3)

/-- How many voxels survive in each piece, once in each of sixteen lanes. -/
def ctG (mw : ℕ → BitVec 32) (n : ℕ) : BitVec 32 := BitVec.ofNat 32 (cnt mw (65536 * (n / 16 + 1)) - cnt mw (65536 * (n / 16)))

attribute [local irreducible] cnt occV xwV Yv

/-- The share of an array that tile `w` reads. -/
def qs (w : Fin 32) : PosShare TreeShare := ShareLeaves.leaf 5 fullShare w

variable (mw) in
/-- What the count is handed, for piece `w`, its row holding `G`. -/
def pay0 (d : Dev nD) (L : grid0.Coords) (w : Fin 32) (G : ℕ → BitVec 32) : sProp (MM F) :=
  iprop(own (F := F) (e := .i32) (thr0 d L) (Memref.whole main_v1_scv) (qs w) Set.univ mw ∗ own (F := F) (e := .i32) (thr0 d L) (Memref.whole main_v22_scv) fullShare (Set.Ico (16 * w.val) (16 * w.val + 16)) G)

variable (mw nz P fl) in
/-- The arrays the main kernel reads, for piece `w`. -/
def pay1 (d : Dev nD) (L : grid1.Coords) (w : Fin 32) : sProp (MM F) :=
  mainIn L (Memref.whole main_v1_scv) (Memref.whole main_v2_scv) (Memref.whole main_v17_scv) (Memref.whole main_v22_scv) (Memref.whole main_v20_scv) (Memref.whole main_v21_scv) d mw nz P fl (ctG mw) (qs w) (qs w) (qs w) (qs w) (qs w) (qs w)

variable (mw) in
/-- The places the main kernel writes, for piece `w`, holding `G` and `H`. -/
def out1 (d : Dev nD) (L : grid1.Coords) (w : Fin 32) (G : ℕ → BitVec 32) (H : ℕ → F .f32) : sProp (MM F) :=
  iprop(own (F := F) (e := .i32) (thr d L) (Memref.whole main_v23_1_scv) fullShare (Set.Ico (cnt mw (65536 * w.val)) (cnt mw (65536 * (w.val + 1)))) G
    ∗ own (F := F) (e := .f32) (thr d L) (Memref.whole main_v23_0_scv) fullShare (Set.Ico (3 * cnt mw (65536 * w.val)) (3 * cnt mw (65536 * (w.val + 1)))) H
    ∗ own (F := F) (e := .i32) (thr d L) (Memref.whole main_v23_1_scv) fullShare (Set.Ico (zst (cnt mw 2097152) (cnt mw (65536 * w.val)) w.val) (zst (cnt mw 2097152) (cnt mw (65536 * w.val)) w.val + zlen (cnt mw (65536 * w.val)) (cnt mw (65536 * (w.val + 1))))) G
    ∗ own (F := F) (e := .f32) (thr d L) (Memref.whole main_v23_0_scv) fullShare (Set.Ico (3 * zst (cnt mw 2097152) (cnt mw (65536 * w.val)) w.val) (3 * (zst (cnt mw 2097152) (cnt mw (65536 * w.val)) w.val + zlen (cnt mw (65536 * w.val)) (cnt mw (65536 * (w.val + 1)))))) H)

theorem out_of {c : Thread nD τ} {sp : Space} {dd : Fin 1 → ℕ} {e : EltTy} {m : Memref sig c.2.kind sp ⟨1, dd⟩ e} {I : Set ℕ} {V G : ℕ → Elt F e} :
    (own c m fullShare I G : sProp (MM F)) ⊢ outO c m I ∅ V := by
  unfold outO
  iintro H
  iexists G
  isplitl [H]; · iexact H
  ipureintro; exact fun p hp => absurd hp (Set.notMem_empty p)

theorem out_to {c : Thread nD τ} {sp : Space} {dd : Fin 1 → ℕ} {e : EltTy} {m : Memref sig c.2.kind sp ⟨1, dd⟩ e} {I : Set ℕ} {V G : ℕ → Elt F e} (h : ∀ p ∈ I, V p = G p) :
    (outO c m I I V : sProp (MM F)) ⊢ own c m fullShare I G := by
  unfold outO
  iintro ⟨%G', H, %hG⟩
  iapply (own_congr _ (fun p hp _ => (hG p hp).trans (h p hp)))
  iexact H

theorem any_mk {c : Thread nD τ} {sp : Space} {dd : Fin 1 → ℕ} {e : EltTy} {m : Memref sig c.2.kind sp ⟨1, dd⟩ e} {G : ℕ → Elt F e} :
    (own c m fullShare Set.univ G : sProp (MM F)) ⊢ anyB c m := by
  unfold anyB
  iintro H
  iexists G; iexact H

variable {O : CellTallies nD τ sig (HIx 2)} {W : Waits sig (HIx 2)}

set_option maxHeartbeats 1000000 in
/-- THE COUNT on a tile, from what it is handed to what it hands back. -/
theorem tile0 (hb : Bin mw) (L : grid0.Coords) (w : Fin 32) (hw : w.val = 2 * (L 1).val + (L 0).val) (G : ℕ → BitVec 32) (hO : ∀ g, O g none = 0) :
    (iprop(levAts (K (F := F)).L (K (F := F)).lev ∗ emp ∗ pay0 mw d L w G ∗ scopedBufs (thr0 d L) ∗ scopedSems0 (thr0 d L) ∗ owes (thr0 d L) O W) : sProp (MM F))
      ⊢ wp frame (wpE (defs₀ (F := F)) 𝒱₀ (thr0 d L) none) Set.univ
          (cc0__count_body (F := F) L (Memref.whole main_v1_scv) (Memref.isWhole_whole _) (Memref.whole main_v22_scv) (Memref.isWhole_whole _) (Memref.whole cc0_scratch0) (Memref.isWhole_whole _) (Memref.whole cc0_scratch1) (Memref.isWhole_whole _) cc0_scoped0 cc0_scoped1 cc0_scoped2 cc0_scoped3 cc0_scoped4 cc0_scoped5 cc0_scoped6 cc0_scoped7 cc0_scoped8)
          fun _ => iprop(pay0 mw d L w (ctG mw) ∗ scopedBufs (thr0 d L) ∗ scopedSems0 (thr0 d L) ∗ ∃ W', ⌜∀ p ∈ W', p ∈ W ∨ p.2 = none⌝ ∗ owes (thr0 d L) O W') := by
  obtain ⟨R, hR⟩ := bufs_split (F := F) d ((L 0).castLE hcore0) ((L 1).castLE hsub0) refs0 (refs0_own _ _)
  obtain ⟨R', hR'⟩ := sems_split (F := F) d ((L 0).castLE hcore0) ((L 1).castLE hsub0) cells0 cells0_own
  rw [(K (F := F)).scopedBufs_V facts d _ _, SparseCore.Cfg.scopedSems0_V (Val := Elt F) d _ _, hR, hR', bufs_0, sems_0]
  unfold pay0
  iintro ⟨#Hlv, -, ⟨Hi, Ho⟩, ⟨⟨HA, HB⟩, Hbufs⟩, ⟨⟨H0, H1, H2, H3, H4, H5, H6, H7, H8⟩, Hsems⟩, HO⟩
  ihave Hmw := (show levAts (K (F := F)).L (K (F := F)).lev ⊢ Transfers.MayWaits (thr0 d L) (default : HIx 2) O from (K (F := F)).mayWaits_none (thr := thr0 d L) hO) $$ Hlv
  ihave HA := (any_of (c := thr0 d L) (m := (Memref.whole cc0_scratch0)) (View.set_whole _) (by decide)) $$ HA
  ihave HB := (any_of (c := thr0 d L) (m := (Memref.whole cc0_scratch1)) (View.set_whole _) (by decide)) $$ HB
  unfold anyB
  icases HA with ⟨%GA, HA⟩
  icases HB with ⟨%GB, HB⟩
  iapply (count_ok (d := d) L _ _ _ _ _ _ _ _ cc0_scoped0 cc0_scoped1 cc0_scoped2 cc0_scoped3 cc0_scoped4 cc0_scoped5 cc0_scoped6 cc0_scoped7 cc0_scoped8 hb w.val hw (q := qs w) (V := ctG mw) (G₃ := G) (G₄ := GA) (G₅ := GB)
    (I := Set.Ico (16 * w.val) (16 * w.val + 16)) (fun n h1 h2 => ⟨h1, h2⟩) (fun j hj => by unfold ctG; rw [show (16 * w.val + j) / 16 = w.val by omega]) (O := O) (W₀ := W)) $$ [Hi Ho HA HB H0 H1 H2 H3 H4 H5 H6 H7 H8 Hmw HO]
  · isplitl [Hi]; · iexact Hi
    isplitl [Ho]; · iexact Ho
    isplitl [HA]; · iexact HA
    isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold tick
    isplitl [Hmw]; · iexact Hmw
    iexists W
    isplitr [HO]; · ipureintro; exact fun p hp => .inl hp
    iexact HO
  unfold tick
  iintro ⟨Hi, ⟨%G', Ho, %hG⟩, ⟨%g1, HA⟩, ⟨%g2, HB⟩, H0, H1, H2, H3, H4, H5, H6, H7, H8, -, HO⟩
  isplitl [Hi Ho]
  · isplitl [Hi]; · iexact Hi
    iapply (own_congr _ (fun p hp _ => hG p hp))
    iexact Ho
  isplitl [HA HB Hbufs]
  · isplitr [Hbufs]
    · isplitl [HA]
      · iapply (own_any (c := thr0 d L) (m := (Memref.whole cc0_scratch0)) (View.set_whole _)); iexact HA
      iapply (own_any (c := thr0 d L) (m := (Memref.whole cc0_scratch1)) (View.set_whole _)); iexact HB
    iexact Hbufs
  isplitr [HO]
  · isplitr [Hsems]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact Hsems
  iexact HO

set_option maxHeartbeats 1000000 in
/-- THE MAIN KERNEL on a tile, from what it is handed to what it hands back. -/
theorem tile1 (hb : Bin mw) (L : grid1.Coords) (w : Fin 32) (hw : w.val = 2 * (L 1).val + (L 0).val) (G : ℕ → BitVec 32) (H : ℕ → F .f32) (hO : ∀ g, O g none = 0) :
    (iprop(levAts (K (F := F)).L (K (F := F)).lev ∗ emp ∗ (pay1 mw nz P fl d L w ∗ out1 mw d L w G H) ∗ scopedBufs (thr d L) ∗ scopedSems0 (thr d L) ∗ owes (thr d L) O W) : sProp (MM F))
      ⊢ wp frame (wpE (defs₀ (F := F)) 𝒱₀ (thr d L) none) Set.univ
          (cc1__main_body (F := F) L (Memref.whole main_v1_scv) (Memref.isWhole_whole _) (Memref.whole main_v2_scv) (Memref.isWhole_whole _) (Memref.whole main_v17_scv) (Memref.isWhole_whole _) (Memref.whole main_v22_scv) (Memref.isWhole_whole _) (Memref.whole main_v20_scv) (Memref.isWhole_whole _) (Memref.whole main_v21_scv) (Memref.isWhole_whole _) (Memref.whole main_v23_0_scv) (Memref.isWhole_whole _) (Memref.whole main_v23_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) cc1_scratch12 cc1_scratch13 cc1_scratch14 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41)
          fun _ => iprop((pay1 mw nz P fl d L w ∗ out1 mw d L w (occG mw) (xwG mw nz P fl)) ∗ scopedBufs (thr d L) ∗ scopedSems0 (thr d L) ∗ ∃ W', ⌜∀ p ∈ W', p ∈ W ∨ p.2 = none⌝ ∗ owes (thr d L) O W') := by
  have hp := piece_ok (mw := mw) w.isLt
  have hbt := hp.hbt
  have hzt := hp.zst_ge
  obtain ⟨R, hR⟩ := bufs_split (F := F) d ((L 0).castLE hcore1) ((L 1).castLE hsub1) refs1 (refs1_own _ _)
  obtain ⟨R', hR'⟩ := sems_split (F := F) d ((L 0).castLE hcore1) ((L 1).castLE hsub1) cells1 cells1_own
  rw [(K (F := F)).scopedBufs_V facts d _ _, SparseCore.Cfg.scopedSems0_V (Val := Elt F) d _ _, hR, hR', bufs_1, sems_1]
  iintro ⟨#Hlv, -, ⟨Hi, Ho⟩, ⟨⟨Hb0, Hb1, Hb2, Hb3, Hb4, Hb5, Hb6, Hb7, Hb8, Hb9, Hb10, Hb11⟩, Hbufs⟩, ⟨⟨H0, H1, H2, H3, H4, H5, H6, H7, H8, H9, H10, H11, H12, H13, H14, H15, H16, H17, H18, H19, H20, H21, H22, H23, H24, H25, H26, H27, H28, H29, H30, H31, H32, H33, H34, H35, H36, H37, H38, H39, X22, X23, X24, H40, H41⟩, Hsems⟩, HO⟩
  ihave Hmw := (show levAts (K (F := F)).L (K (F := F)).lev ⊢ Transfers.MayWaits (thr d L) (default : HIx 2) O from (K (F := F)).mayWaits_none (thr := thr d L) hO) $$ Hlv
  ihave Hb0 := (any_of (c := thr d L) (m := (Memref.whole cc1_scratch0)) (View.set_whole _) (by decide)) $$ Hb0
  ihave Hb1 := (any_of (c := thr d L) (m := (Memref.whole cc1_scratch1)) (View.set_whole _) (by decide)) $$ Hb1
  ihave Hb2 := (any_of (c := thr d L) (m := (Memref.whole cc1_scratch2)) (View.set_whole _) (by decide)) $$ Hb2
  ihave Hb3 := (any_of (c := thr d L) (m := (Memref.whole cc1_scratch3)) (View.set_whole _) (by decide)) $$ Hb3
  ihave Hb5 := (any_of (c := thr d L) (m := (Memref.whole cc1_scratch5)) (View.set_whole _) (by decide)) $$ Hb5
  ihave Hb6 := (any_of (c := thr d L) (m := (Memref.whole cc1_scratch6)) (View.set_whole _) (by decide)) $$ Hb6
  ihave Hb7 := (any_of (c := thr d L) (m := (Memref.whole cc1_scratch7)) (View.set_whole _) (by decide)) $$ Hb7
  ihave Hb8 := (any_of (c := thr d L) (m := (Memref.whole cc1_scratch8)) (View.set_whole _) (by decide)) $$ Hb8
  ihave Hb9 := (any_of (c := thr d L) (m := (Memref.whole cc1_scratch9)) (View.set_whole _) (by decide)) $$ Hb9
  ihave Hb10 := (any_of (c := thr d L) (m := (Memref.whole cc1_scratch10)) (View.set_whole _) (by decide)) $$ Hb10
  ihave Hb11 := (any_of (c := thr d L) (m := (Memref.whole cc1_scratch11)) (View.set_whole _) (by decide)) $$ Hb11
  iapply (main_ok (d := d) L _ _ _ _ _ _ _ _ _ _ _ _ _ _ _ _ _ _ _ _ _ _ _ _ _ _ _ _ _ _ _ _ _ _ _ _ _ _ _ _ cc1_scratch12 cc1_scratch13 cc1_scratch14 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 hb w.val hw (nz := nz) (P := P) (fl := fl) (CT := ctG mw) (q₂ := qs w) (q₃ := qs w) (q₄ := qs w) (q₅ := qs w) (q₆ := qs w) (q₇ := qs w) (fun n _ => rfl)
    rfl rfl rfl rfl rfl rfl rfl rfl rfl rfl (O := O) (W₀ := W)) $$ [Hi Ho Hb0 Hb1 Hb2 Hb3 Hb4 Hb5 Hb6 Hb7 Hb8 Hb9 Hb10 Hb11 H0 H1 H2 H3 H4 H5 H6 H7 H8 H9 H10 H11 H12 H13 H14 H15 H16 H17 H18 H19 H20 H21 H22 H23 H24 H25 H26 H27 H28 H29 H30 H31 H32 H33 H34 H35 H36 H37 H38 H39 H40 H41 X22 X23 X24 Hmw HO]
  · isplitl [Hi]; · unfold pay1; iexact Hi
    isplitl [Ho]
    · unfold out1 mainOut₀
      icases Ho with ⟨A, B, C, E⟩
      isplitl [A]; · iapply out_of; iexact A
      isplitl [B]; · iapply out_of; iexact B
      isplitl [C]; · iapply out_of; iexact C
      iapply out_of; iexact E
    isplitl [Hb0 Hb1 Hb2 Hb3 Hb4 Hb5 Hb6 Hb7 Hb8 Hb9 Hb10 Hb11]
    · unfold mainScr
      isplitl [Hb0]; · iexact Hb0
      isplitl [Hb1]; · iexact Hb1
      isplitl [Hb2]; · iexact Hb2
      isplitl [Hb3]; · iexact Hb3
      isplitl [Hb4]
      · icases Hb4 with ⟨%f4, Hb4⟩
        iexists f4
        rw [show ((Memref.whole cc1_scratch4) : Memref sig .scVector .vmem S9x16 .f32).view.setOn Finset.univ = Finset.univ from (View.setOn_univ _).trans (View.set_whole _)]
        iexact Hb4
      isplitl [Hb5]; · iexact Hb5
      isplitl [Hb6]; · iexact Hb6
      isplitl [Hb7]; · iexact Hb7
      isplitl [Hb8]; · iexact Hb8
      isplitl [Hb9]; · iexact Hb9
      isplitl [Hb10]; · iexact Hb10
      iexact Hb11
    isplitl [H0 H1 H2 H3 H4 H5 H6 H7 H8 H9 H10 H11 H12 H13 H14 H15 H16 H17 H18 H19 H20 H21 H22 H23 H24 H25 H26 H27 H28 H29 H30 H31 H32 H33 H34 H35 H36 H37 H38 H39]
    · unfold mainSem
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]; · iexact H34
      isplitl [H35]; · iexact H35
      isplitl [H36]; · iexact H36
      isplitl [H37]; · iexact H37
      isplitl [H38]; · iexact H38
      iexact H39
    isplitl [X22]; · iexact X22
    isplitl [X23]; · iexact X23
    isplitl [X24]; · iexact X24
    isplitl [H40]; · iexact H40
    isplitl [H41]; · iexact H41
    unfold tick
    isplitl [Hmw]; · iexact Hmw
    iexists W
    isplitr [HO]; · ipureintro; exact fun p hp => .inl hp
    iexact HO
  unfold mainRest mainTail tick edgeR mainSem
  iintro ⟨⟨Hi, Oc, Ox, Hb0, Hb1, Hb2, Hb3, Hb4, Hb5, Hb6, H0, H1, H2, H3, H4, H5, H6, H7, H8, H9, H10, H11, H12, H13, H14, H15, H16, H17, H18, H19, H20, H21, H22, H23, H24, H25, H26, H27, H28, H29, H30, H31, H32, H33, H34, H35, H36, H37, H38, H39⟩, Hb7, Hb8, Zc, Zx, X23, X24, ⟨-, HO⟩, ⟨Hb9, Hb10, Hb11, X22⟩, H40, H41⟩
  isplitl [Hi Oc Ox Zc Zx]
  · isplitl [Hi]; · unfold pay1; iexact Hi
    unfold out1
    isplitl [Oc]; · iapply (out_to (fun p hp => by unfold occG; rw [if_pos (by have := hp.2; omega)])); iexact Oc
    isplitl [Ox]; · iapply (out_to (fun p hp => by unfold xwG; rw [if_pos (by have := hp.2; omega)])); iexact Ox
    isplitl [Zc]; · iapply (out_to (fun p hp => by unfold occG; rw [if_neg (by have := hp.1; omega)])); iexact Zc
    iapply (out_to (fun p hp => by unfold xwG; rw [if_neg (by have := hp.1; omega)])); iexact Zx
  isplitl [Hb0 Hb1 Hb2 Hb3 Hb4 Hb5 Hb6 Hb7 Hb8 Hb9 Hb10 Hb11 Hbufs]
  · isplitr [Hbufs]
    · isplitl [Hb0]
      · iapply (any_to (c := thr d L) (m := (Memref.whole cc1_scratch0)) (View.set_whole _)); iexact Hb0
      isplitl [Hb1]
      · iapply (any_to (c := thr d L) (m := (Memref.whole cc1_scratch1)) (View.set_whole _)); iexact Hb1
      isplitl [Hb2]
      · iapply (any_to (c := thr d L) (m := (Memref.whole cc1_scratch2)) (View.set_whole _)); iexact Hb2
      isplitl [Hb3]
      · iapply (any_to (c := thr d L) (m := (Memref.whole cc1_scratch3)) (View.set_whole _)); iexact Hb3
      isplitl [Hb4]
      · unfold rowsT
        icases Hb4 with ⟨%f4, Hb4, -⟩
        iexists f4
        rw [show ((Memref.whole cc1_scratch4) : Memref sig .scVector .vmem S9x16 .f32).view.setOn Finset.univ = Finset.univ from (View.setOn_univ _).trans (View.set_whole _)]
        iexact Hb4
      isplitl [Hb5]
      · iapply (own_any (c := thr d L) (m := (Memref.whole cc1_scratch5)) (View.set_whole _)); iexact Hb5
      isplitl [Hb6]
      · iapply (any_to (c := thr d L) (m := (Memref.whole cc1_scratch6)) (View.set_whole _)); iexact Hb6
      isplitl [Hb7]
      · iapply (own_any (c := thr d L) (m := (Memref.whole cc1_scratch7)) (View.set_whole _)); iexact Hb7
      isplitl [Hb8]
      · iapply (own_any (c := thr d L) (m := (Memref.whole cc1_scratch8)) (View.set_whole _)); iexact Hb8
      isplitl [Hb9]
      · iapply (any_to (c := thr d L) (m := (Memref.whole cc1_scratch9)) (View.set_whole _)); iexact Hb9
      isplitl [Hb10]
      · iapply (any_to (c := thr d L) (m := (Memref.whole cc1_scratch10)) (View.set_whole _)); iexact Hb10
      iapply (any_to (c := thr d L) (m := (Memref.whole cc1_scratch11)) (View.set_whole _)); iexact Hb11
    iexact Hbufs
  isplitr [HO]
  · isplitr [Hsems]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]; · iexact H34
      isplitl [H35]; · iexact H35
      isplitl [H36]; · iexact H36
      isplitl [H37]; · iexact H37
      isplitl [H38]; · iexact H38
      isplitl [H39]; · iexact H39
      isplitl [X22]; · iexact X22
      isplitl [X23]; · iexact X23
      isplitl [X24]; · iexact X24
      isplitl [H40]; · iexact H40
      iexact H41
    iexact Hsems
  iexact HO

end Cert.Proof.Vox
-- ==== Proof.Deal.lean ====
module

public import proofs.«01_k».proof.Proof.Tile

/-
  How the arrays are dealt among the thirty-two tiles, and put together again.
-/

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open scoped Idealize.SL.RA.PCS
open Idealize.SL.BI.BIBase Idealize.SL.BI.Laws Idealize.SL.ProofMode Idealize.SL.Sem

variable {F : FTy → Type} [FloatOps F]

variable {d : Dev nD}

/-! ## Cutting an array -/

theorem in_chain {c : ℕ → ℕ} (hc : Monotone c) (x : ℕ) : ∀ n, x ∈ Set.Ico (c 0) (c n) ↔ ∃ w : Fin n, x ∈ Set.Ico (c w.val) (c (w.val + 1))
  | 0 => ⟨fun h => absurd (lt_of_le_of_lt h.1 h.2) (lt_irrefl _), fun ⟨w, _⟩ => w.elim0⟩
  | n + 1 => by
    have ih := in_chain hc x n
    constructor
    · intro h
      by_cases hx : x < c n
      · obtain ⟨w, hw⟩ := ih.mp ⟨h.1, hx⟩
        exact ⟨⟨w.val, by omega⟩, hw⟩
      · exact ⟨⟨n, by omega⟩, by simp only [Set.mem_Ico] at *; omega⟩
    · rintro ⟨w, hw⟩
      have h1 := hc (Nat.zero_le w.val)
      have h2 := hc (show w.val + 1 ≤ n + 1 by omega)
      simp only [Set.mem_Ico] at *
      omega

/-- A stretch of an array is its cuts. -/
theorem chain {ℓ : Loc nD τ sig} {q : PosShare TreeShare} (f : Buf (Elt F) ℓ) (S : Set ℕ → Finset (Idx ℓ)) (g : Idx ℓ → ℕ) (hS : ∀ I x, x ∈ S I ↔ g x ∈ I)
    (c : ℕ → ℕ) (hc : Monotone c) (n : ℕ) :
    (ℓ ↦[S (Set.Ico (c 0) (c n))]{q} f : sProp (MM F)) = bigSep Finset.univ fun w : Fin n => ℓ ↦[S (Set.Ico (c w.val) (c (w.val + 1)))]{q} f := by
  classical
  rw [← pointsTo_biUnion Finset.univ (fun w : Fin n => S (Set.Ico (c w.val) (c (w.val + 1))))]
  · congr 1
    ext x
    rw [hS, in_chain hc, Finset.mem_biUnion]
    simp only [hS, Finset.mem_univ, true_and]
  · intro w _ w' _ hne
    rw [Finset.disjoint_left]
    intro x hx hx'
    rw [hS] at hx hx'
    simp only [Set.mem_Ico] at hx hx'
    rcases lt_or_gt_of_ne (fun h => hne (Fin.ext h) : w.val ≠ w'.val) with h | h
    · have := hc (show w.val + 1 ≤ w'.val by omega); omega
    · have := hc (show w'.val + 1 ≤ w.val by omega); omega

/-- An array whole is two lines of cuts, one after the other. -/
theorem chain2 {ℓ : Loc nD τ sig} {q : PosShare TreeShare} (f : Buf (Elt F) ℓ) (S : Set ℕ → Finset (Idx ℓ)) (g : Idx ℓ → ℕ) (hS : ∀ I x, x ∈ S I ↔ g x ∈ I)
    (c z : ℕ → ℕ) (hc : Monotone c) (hz : Monotone z) (n N : ℕ) (h0 : c 0 = 0) (h1 : z 0 = c n) (h2 : z n = N) (hN : ∀ x, g x < N) :
    (ℓ ↦{q} f : sProp (MM F)) = iprop((bigSep Finset.univ fun w : Fin n => ℓ ↦[S (Set.Ico (c w.val) (c (w.val + 1)))]{q} f)
      ∗ bigSep Finset.univ fun w : Fin n => ℓ ↦[S (Set.Ico (z w.val) (z (w.val + 1)))]{q} f) := by
  classical
  have hzn := hz (Nat.zero_le n)
  have e : (Finset.univ : Finset (Idx ℓ)) = S (Set.Ico (c 0) (c n)) ∪ S (Set.Ico (z 0) (z n)) := by
    ext x
    have := hN x
    simp only [Finset.mem_univ, Finset.mem_union, hS, Set.mem_Ico, true_iff]
    omega
  rw [← chain f S g hS c hc, ← chain f S g hS z hz, e]
  have hd : Disjoint (S (Set.Ico (c 0) (c n))) (S (Set.Ico (z 0) (z n))) := by
    rw [Finset.disjoint_left]
    intro x hx hx'
    rw [hS] at hx hx'
    simp only [Set.mem_Ico] at hx hx'
    omega
  exact BI.Entails.antisymm (pointsTo_union hd).1 (pointsTo_union hd).2

/-- What a tile holds of an array at its cells, as the array's own points-to. -/
theorem own_eq {c : Thread nD τ} {sp : Space} {dd : Fin 1 → ℕ} {e : EltTy} {m : Memref sig c.2.kind sp ⟨1, dd⟩ e} {q : PosShare TreeShare} {I : Set ℕ}
    {f : Buf (Elt F) (m.view.loc c)} {G : ℕ → Elt F e} (h : ∀ i, m.view.read (Elt F) f i = G (i 0).val) :
    (own c m q I G : sProp (MM F)) = m.view.loc c ↦[m.view.setOn (pos I)]{q} f :=
  BI.Entails.antisymm (pts_of_own fun i _ => h i) (own_of_pts fun i _ => h i)

/-! ## The tiles, by number -/

/-- The tiles by subcore, then SparseCore. -/
theorem tiles (Φ : Fin 32 → sProp (MM F)) :
    (bigSep Finset.univ fun c : Fin 2 => bigSep Finset.univ fun i : Fin 16 => Φ ⟨2 * i.val + c.val, by omega⟩) = bigSep Finset.univ Φ := by
  rw [bigSep_univ_comm, bigSep_univ_equiv (finProdFinEquiv (m := 16) (n := 2)) Φ, bigSep_univ_prod]
  exact bigSep_congr fun i _ => bigSep_congr fun c _ => congrArg Φ (Fin.ext (by simp [finProdFinEquiv]; omega))

/-! ## The arrays' own points-to -/

end Cert.Proof.Vox
-- ==== Proof.Launch.lean ====
module

public import proofs.«01_k».proof.Proof.Deal

/-
  What the launch hands each tile, and what it has back.
-/

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open scoped Idealize.SL.RA.PCS
open Idealize.SL.BI.BIBase Idealize.SL.BI.Laws Idealize.SL.ProofMode Idealize.SL.Sem

variable {F : FTy → Type} [FloatOps F]

/-- An array of the TensorCore's. -/
abbrev dr (r : Ref sig .tc) : DevRef τ sig := Proc.devRef .tc r

variable (V : Valuation τ sig (Elt F))

/-- The mask's words, the noise, the table's rows, the fill's three numbers, as the host line leaves them. -/
def mwV (n : ℕ) : BitVec 32 := rdv (dd := ![2097152]) (by decide) (V (dr main_v1) : S2097152.Idx → BitVec 32) n
@[inherit_doc mwV] def nzV (n : ℕ) : F .f32 := rdv (dd := ![6291456]) (by decide) (V (dr main_v2) : S6291456.Idx → F .f32) n
@[inherit_doc mwV] def PV (n : ℕ) : F .f32 := (V (dr main_v17) : S9x16.Idx → F .f32) fun a => match a with | 0 => ⟨n % 9, Nat.mod_lt _ (by decide)⟩ | 1 => ⟨0, by decide⟩
@[inherit_doc mwV] def flV (n : ℕ) : F .f32 := rdv (dd := ![6144]) (by decide) (V (dr main_v20) : S6144.Idx → F .f32) (n % 3)

/-- What is known of the arrays after the host line. -/
structure HostOK : Prop where
  bin : Bin (mwV V)
  tab : ∀ x : S9x16.Idx, (V (dr main_v17) : S9x16.Idx → F .f32) x = PV V (x 0).val
  fil : ∀ x : S6144.Idx, (V (dr main_v20) : S6144.Idx → F .f32) x = flV V (x 0).val
  zer : ∀ x : S2048.Idx, (V (dr main_v21) : S2048.Idx → BitVec 32) x = 0#32

variable (d : Dev nD)

/-- The counts' array, the first kernel's result. -/
def ctB : S512.Idx → BitVec 32 := fun x => ctG (mwV V) (x 0).val
/-- The voxels' numbers, the second kernel's second result. -/
def occB : S2097152.Idx → BitVec 32 := fun x => occG (mwV V) (x 0).val
/-- The voxels' places, the second kernel's first result. -/
def xwB : S6291456.Idx → F .f32 := fun x => xwG (mwV V) (nzV V) (PV V) (flV V) (x 0).val

/-- The count's payload of piece `w`, the counts' array holding `f`. -/
def pts0 (w : Fin 32) (f : S512.Idx → BitVec 32) : sProp (MM F) :=
  iprop((((d, dr main_v1) : Loc nD τ sig) ↦{qs w} V (dr main_v1))
    ∗ (((d, dr main_v22) : Loc nD τ sig) ↦[(pos (d := ![512]) (Set.Ico (16 * w.val) (16 * w.val + 16)) : Finset S512.Idx)]{fullShare} f))

/-- The main kernel's reads of piece `w`. -/
def pts1 (w : Fin 32) : sProp (MM F) :=
  iprop((((d, dr main_v1) : Loc nD τ sig) ↦{qs w} V (dr main_v1)) ∗ (((d, dr main_v2) : Loc nD τ sig) ↦{qs w} V (dr main_v2)) ∗ (((d, dr main_v17) : Loc nD τ sig) ↦{qs w} V (dr main_v17))
    ∗ (((d, dr main_v22) : Loc nD τ sig) ↦{qs w} ctB V) ∗ (((d, dr main_v20) : Loc nD τ sig) ↦{qs w} V (dr main_v20)) ∗ (((d, dr main_v21) : Loc nD τ sig) ↦{qs w} V (dr main_v21)))

/-- Where piece `w`'s rows start. -/
def cutC (w : ℕ) : ℕ := cnt (mwV V) (65536 * w)
/-- Where piece `w`'s zero rows start. -/
def cutZ (w : ℕ) : ℕ := cnt (mwV V) 2097152 + 65536 * w - cnt (mwV V) (65536 * w)

/-- The main kernel's writes of piece `w`, the results holding `f` and `g`. -/
def ptsO (w : Fin 32) (f : S2097152.Idx → BitVec 32) (g : S6291456.Idx → F .f32) : sProp (MM F) :=
  iprop((((d, dr main_v23_1) : Loc nD τ sig) ↦[(pos (d := ![2097152]) (Set.Ico (cutC V w.val) (cutC V (w.val + 1))) : Finset S2097152.Idx)]{fullShare} f)
    ∗ (((d, dr main_v23_0) : Loc nD τ sig) ↦[(pos (d := ![6291456]) (Set.Ico (3 * cutC V w.val) (3 * cutC V (w.val + 1))) : Finset S6291456.Idx)]{fullShare} g)
    ∗ (((d, dr main_v23_1) : Loc nD τ sig) ↦[(pos (d := ![2097152]) (Set.Ico (cutZ V w.val) (cutZ V (w.val + 1))) : Finset S2097152.Idx)]{fullShare} f)
    ∗ (((d, dr main_v23_0) : Loc nD τ sig) ↦[(pos (d := ![6291456]) (Set.Ico (3 * cutZ V w.val) (3 * cutZ V (w.val + 1))) : Finset S6291456.Idx)]{fullShare} g))

attribute [local irreducible] cnt occV xwV Yv

theorem cutC_mono : Monotone (cutC V) := monotone_nat_of_le_succ fun w => by
  unfold cutC; rw [show 65536 * (w + 1) = 65536 * w + 65536 by omega]; exact cnt_mono (by omega)

theorem cutZ_mono : Monotone (cutZ V) := monotone_nat_of_le_succ fun w => by
  unfold cutZ; rw [show 65536 * (w + 1) = 65536 * w + 65536 by omega]
  have := cnt_add_le (mw := mwV V) (65536 * w) 65536
  omega

theorem cutZ_succ (w : Fin 32) : zst (cnt (mwV V) 2097152) (cnt (mwV V) (65536 * w.val)) w.val + zlen (cnt (mwV V) (65536 * w.val)) (cnt (mwV V) (65536 * (w.val + 1))) = cutZ V (w.val + 1) := by
  have hp := piece_ok (mw := mwV V) w.isLt
  rw [hp.zst_zlen]; have := hp.hbw; unfold cutZ; omega

theorem setOn_whole (r : Ref sig .scVector) (S : Finset r.ty.shape.Idx) : (Memref.whole r).view.setOn S = S := Finset.map_refl

/-- The count's payload as a tile holds it. -/
theorem pay0_eq (L : grid0.Coords) (w : Fin 32) (f : S512.Idx → BitVec 32) {G : ℕ → BitVec 32} (hf : ∀ i, f i = G (i 0).val) :
    (pay0 (mwV V) d L w G : sProp (MM F)) = pts0 V d w f :=
  congrArg₂ (fun A B : sProp (MM F) => iprop(A ∗ B)) ((own_eq (F := F) (c := thr0 d L) (sp := .hbm) (dd := ![2097152]) (e := .i32) (m := Memref.whole main_v1_scv) (q := qs w) (I := Set.univ) (f := (V (dr main_v1) : S2097152.Idx → BitVec 32)) (G := mwV V) (fun i => (rdv_at (dd := ![2097152]) (by decide) _ i).symm)).trans
    (show _ = ((((d, dr main_v1) : Loc nD τ sig) ↦{qs w} V (dr main_v1)) : sProp (MM F)) by rw [pos_univ, View.setOn_univ, View.set_whole]))
    ((own_eq (F := F) (c := thr0 d L) (sp := .hbm) (dd := ![512]) (e := .i32) (m := Memref.whole main_v22_scv) (q := fullShare) (I := Set.Ico (16 * w.val) (16 * w.val + 16)) (f := (f : S512.Idx → BitVec 32)) (G := G) hf).trans
    (show _ = ((((d, dr main_v22) : Loc nD τ sig) ↦[(pos (d := ![512]) (Set.Ico (16 * w.val) (16 * w.val + 16)) : Finset S512.Idx)]{fullShare} f) : sProp (MM F)) by rw [setOn_whole]))

/-- The table, as a tile holds it. -/
theorem rows_eq (H : HostOK V) (L : grid1.Coords) (w : Fin 32) :
    (rowsT (thr d L) (Memref.whole main_v17_scv) (qs w) (PV V) : sProp (MM F)) = (((d, dr main_v17) : Loc nD τ sig) ↦{qs w} V (dr main_v17)) := by
  have h1 : (rowsT (thr d L) (Memref.whole main_v17_scv) (qs w) (PV V) : sProp (MM F)) ⊢ (((d, dr main_v17) : Loc nD τ sig) ↦{qs w} V (dr main_v17)) := by
    unfold rowsT
    iintro ⟨%f, Hf, %h⟩
    rw [show f = V (dr main_v17) from funext fun x => (h x).trans (H.tab x).symm]
    rw [setOn_whole]
    iexact Hf
  have h2 : (((d, dr main_v17) : Loc nD τ sig) ↦{qs w} V (dr main_v17) : sProp (MM F)) ⊢ rowsT (thr d L) (Memref.whole main_v17_scv) (qs w) (PV V) := by
    unfold rowsT
    iintro Hf
    iexists (V (dr main_v17))
    rw [setOn_whole]
    isplitl [Hf]; · iexact Hf
    ipureintro; exact H.tab
  exact BI.Entails.antisymm h1 h2

/-- The main kernel's reads as a tile holds them. -/
theorem pay1_eq (H : HostOK V) (L : grid1.Coords) (w : Fin 32) :
    (pay1 (mwV V) (nzV V) (PV V) (flV V) d L w : sProp (MM F)) = pts1 V d w :=
  congrArg₂ (fun A B : sProp (MM F) => iprop(A ∗ B)) ((own_eq (F := F) (c := thr d L) (sp := .hbm) (dd := ![2097152]) (e := .i32) (m := Memref.whole main_v1_scv) (q := qs w) (I := Set.univ) (f := (V (dr main_v1) : S2097152.Idx → BitVec 32)) (G := mwV V) (fun i => (rdv_at (dd := ![2097152]) (by decide) _ i).symm)).trans
    (show _ = ((((d, dr main_v1) : Loc nD τ sig) ↦{qs w} V (dr main_v1)) : sProp (MM F)) by rw [pos_univ, View.setOn_univ, View.set_whole]))
  <| congrArg₂ (fun A B : sProp (MM F) => iprop(A ∗ B)) ((own_eq (F := F) (c := thr d L) (sp := .hbm) (dd := ![6291456]) (e := .f32) (m := Memref.whole main_v2_scv) (q := qs w) (I := Set.univ) (f := (V (dr main_v2) : S6291456.Idx → F .f32)) (G := nzV V) (fun i => (rdv_at (dd := ![6291456]) (by decide) _ i).symm)).trans
    (show _ = ((((d, dr main_v2) : Loc nD τ sig) ↦{qs w} V (dr main_v2)) : sProp (MM F)) by rw [pos_univ, View.setOn_univ, View.set_whole]))
  <| congrArg₂ (fun A B : sProp (MM F) => iprop(A ∗ B)) (rows_eq V d H L w)
  <| congrArg₂ (fun A B : sProp (MM F) => iprop(A ∗ B)) ((own_eq (F := F) (c := thr d L) (sp := .hbm) (dd := ![512]) (e := .i32) (m := Memref.whole main_v22_scv) (q := qs w) (I := Set.univ) (f := (ctB V : S512.Idx → BitVec 32)) (G := ctG (mwV V)) (fun _ => rfl)).trans
    (show _ = ((((d, dr main_v22) : Loc nD τ sig) ↦{qs w} ctB V) : sProp (MM F)) by rw [pos_univ, View.setOn_univ, View.set_whole]))
  <| congrArg₂ (fun A B : sProp (MM F) => iprop(A ∗ B)) ((own_eq (F := F) (c := thr d L) (sp := .hbm) (dd := ![6144]) (e := .f32) (m := Memref.whole main_v20_scv) (q := qs w) (I := Set.univ) (f := (V (dr main_v20) : S6144.Idx → F .f32)) (G := fun m => flV V (m % 3)) (fun i => (H.fil i).trans (by unfold flV; rw [Nat.mod_mod]))).trans
    (show _ = ((((d, dr main_v20) : Loc nD τ sig) ↦{qs w} V (dr main_v20)) : sProp (MM F)) by rw [pos_univ, View.setOn_univ, View.set_whole]))
    ((own_eq (F := F) (c := thr d L) (sp := .hbm) (dd := ![2048]) (e := .i32) (m := Memref.whole main_v21_scv) (q := qs w) (I := Set.univ) (f := (V (dr main_v21) : S2048.Idx → BitVec 32)) (G := fun _ => 0#32) H.zer).trans
    (show _ = ((((d, dr main_v21) : Loc nD τ sig) ↦{qs w} V (dr main_v21)) : sProp (MM F)) by rw [pos_univ, View.setOn_univ, View.set_whole]))

/-- The main kernel's writes as a tile holds them. -/
theorem out1_eq (L : grid1.Coords) (w : Fin 32) (f : S2097152.Idx → BitVec 32) (g : S6291456.Idx → F .f32) {G : ℕ → BitVec 32} {G' : ℕ → F .f32}
    (hf : ∀ i, f i = G (i 0).val) (hg : ∀ i, g i = G' (i 0).val) : (out1 (mwV V) d L w G G' : sProp (MM F)) = ptsO V d w f g := by
  unfold out1
  rw [cutZ_succ V w, show zst (cnt (mwV V) 2097152) (cnt (mwV V) (65536 * w.val)) w.val = cutZ V w.val by unfold zst cutZ; rfl,
    show cnt (mwV V) (65536 * w.val) = cutC V w.val by unfold cutC; rfl, show cnt (mwV V) (65536 * (w.val + 1)) = cutC V (w.val + 1) by unfold cutC; rfl]
  exact congrArg₂ (fun A B : sProp (MM F) => iprop(A ∗ B)) ((own_eq (F := F) (c := thr d L) (sp := .hbm) (dd := ![2097152]) (e := .i32) (m := Memref.whole main_v23_1_scv) (q := fullShare) (I := Set.Ico (cutC V w.val) (cutC V (w.val + 1))) (f := (f : S2097152.Idx → BitVec 32)) (G := G) hf).trans
    (show _ = ((((d, dr main_v23_1) : Loc nD τ sig) ↦[(pos (d := ![2097152]) (Set.Ico (cutC V w.val) (cutC V (w.val + 1))) : Finset S2097152.Idx)]{fullShare} f) : sProp (MM F)) by rw [setOn_whole]))
    <| congrArg₂ (fun A B : sProp (MM F) => iprop(A ∗ B)) ((own_eq (F := F) (c := thr d L) (sp := .hbm) (dd := ![6291456]) (e := .f32) (m := Memref.whole main_v23_0_scv) (q := fullShare) (I := Set.Ico (3 * cutC V w.val) (3 * cutC V (w.val + 1))) (f := (g : S6291456.Idx → F .f32)) (G := G') hg).trans
    (show _ = ((((d, dr main_v23_0) : Loc nD τ sig) ↦[(pos (d := ![6291456]) (Set.Ico (3 * cutC V w.val) (3 * cutC V (w.val + 1))) : Finset S6291456.Idx)]{fullShare} g) : sProp (MM F)) by rw [setOn_whole]))
    <| congrArg₂ (fun A B : sProp (MM F) => iprop(A ∗ B)) ((own_eq (F := F) (c := thr d L) (sp := .hbm) (dd := ![2097152]) (e := .i32) (m := Memref.whole main_v23_1_scv) (q := fullShare) (I := Set.Ico (cutZ V w.val) (cutZ V (w.val + 1))) (f := (f : S2097152.Idx → BitVec 32)) (G := G) hf).trans
    (show _ = ((((d, dr main_v23_1) : Loc nD τ sig) ↦[(pos (d := ![2097152]) (Set.Ico (cutZ V w.val) (cutZ V (w.val + 1))) : Finset S2097152.Idx)]{fullShare} f) : sProp (MM F)) by rw [setOn_whole]))
      ((own_eq (F := F) (c := thr d L) (sp := .hbm) (dd := ![6291456]) (e := .f32) (m := Memref.whole main_v23_0_scv) (q := fullShare) (I := Set.Ico (3 * cutZ V w.val) (3 * cutZ V (w.val + 1))) (f := (g : S6291456.Idx → F .f32)) (G := G') hg).trans
    (show _ = ((((d, dr main_v23_0) : Loc nD τ sig) ↦[(pos (d := ![6291456]) (Set.Ico (3 * cutZ V w.val) (3 * cutZ V (w.val + 1))) : Finset S6291456.Idx)]{fullShare} g) : sProp (MM F)) by rw [setOn_whole]))

/-! ## Dealing and putting together -/

theorem mix {A B C D : sProp (MM F)} : iprop(A ∗ B ∗ C ∗ D) = iprop((A ∗ C) ∗ B ∗ D) := by
  have h1 : iprop(A ∗ B ∗ C ∗ D) ⊢ iprop((A ∗ C) ∗ B ∗ D) := by
    iintro ⟨HA, HB, HC, HD⟩
    isplitl [HA HC]
    · isplitl [HA]; · iexact HA
      iexact HC
    isplitl [HB]; · iexact HB
    iexact HD
  have h2 : iprop((A ∗ C) ∗ B ∗ D) ⊢ iprop(A ∗ B ∗ C ∗ D) := by
    iintro ⟨⟨HA, HC⟩, HB, HD⟩
    isplitl [HA]; · iexact HA
    isplitl [HB]; · iexact HB
    isplitl [HC]; · iexact HC
    iexact HD
  exact BI.Entails.antisymm h1 h2

theorem leaves (b : DevRef τ sig) (f : b.ty.Contents (Elt F)) :
    (((d, b) : Loc nD τ sig) ↦{fullShare} f : sProp (MM F)) = bigSep Finset.univ fun w : Fin 32 => ((d, b) : Loc nD τ sig) ↦{qs w} f :=
  (ShareLeaves.pointsTo_leaves (ℓ := ((d, b) : Loc nD τ sig)) Finset.univ f 5 fullShare).trans (by unfold qs; rfl)

/-- The count's payloads, all of them. -/
theorem deal0 (f : S512.Idx → BitVec 32) :
    (bigSep Finset.univ fun w : Fin 32 => (pts0 V d w f : sProp (MM F)))
      = iprop((((d, dr main_v1) : Loc nD τ sig) ↦{fullShare} V (dr main_v1)) ∗ (((d, dr main_v22) : Loc nD τ sig) ↦{fullShare} f)) := by
  unfold pts0
  simp only [show ∀ w : Fin 32, 16 * w.val + 16 = 16 * (w.val + 1) from fun w => by omega]
  rw [bigSep_sep', ← leaves, ← chain (ℓ := ((d, dr main_v22) : Loc nD τ sig)) f (fun I => (pos (d := ![512]) I : Finset S512.Idx)) (fun x => ((x : S512.Idx) 0).val) (fun I x => mem_pos)
    (fun w => 16 * w) (fun a b h => by show 16 * a ≤ 16 * b; omega) 32]
  rw [show ((pos (d := ![512]) (Set.Ico (16 * 0) (16 * 32)) : Finset S512.Idx)) = Finset.univ from Finset.eq_univ_iff_forall.mpr fun x => mem_pos.mpr ⟨Nat.zero_le _, (x 0).isLt⟩]

/-- The main kernel's reads, all of them. -/
theorem deal1 :
    (bigSep Finset.univ fun w : Fin 32 => (pts1 V d w : sProp (MM F)))
      = iprop((((d, dr main_v1) : Loc nD τ sig) ↦{fullShare} V (dr main_v1)) ∗ (((d, dr main_v2) : Loc nD τ sig) ↦{fullShare} V (dr main_v2)) ∗ (((d, dr main_v17) : Loc nD τ sig) ↦{fullShare} V (dr main_v17))
        ∗ (((d, dr main_v22) : Loc nD τ sig) ↦{fullShare} ctB V) ∗ (((d, dr main_v20) : Loc nD τ sig) ↦{fullShare} V (dr main_v20)) ∗ (((d, dr main_v21) : Loc nD τ sig) ↦{fullShare} V (dr main_v21))) := by
  unfold pts1
  rw [bigSep_sep', bigSep_sep', bigSep_sep', bigSep_sep', bigSep_sep', ← leaves, ← leaves, ← leaves, ← leaves, ← leaves, ← leaves]

/-- The main kernel's writes, all of them. -/
theorem dealO (f : S2097152.Idx → BitVec 32) (g : S6291456.Idx → F .f32) :
    (bigSep Finset.univ fun w : Fin 32 => (ptsO V d w f g : sProp (MM F)))
      = iprop((((d, dr main_v23_1) : Loc nD τ sig) ↦{fullShare} f) ∗ (((d, dr main_v23_0) : Loc nD τ sig) ↦{fullShare} g)) := by
  have h0 : cutC V 0 = 0 := Nat.le_zero.mp (cnt_le _)
  have h1 : cutZ V 0 = cutC V 32 := by unfold cutZ cutC; have : cnt (mwV V) (65536 * 0) = 0 := h0; have : cnt (mwV V) (65536 * 32) = cnt (mwV V) 2097152 := congrArg _ (by norm_num); omega
  have h2 : cutZ V 32 = 2097152 := by unfold cutZ; have := cnt_le (mw := mwV V) 2097152; have : cnt (mwV V) (65536 * 32) = cnt (mwV V) 2097152 := congrArg _ (by norm_num); omega
  have m3 : ∀ {c : ℕ → ℕ}, Monotone c → Monotone fun w => 3 * c w := fun hc a b h => Nat.mul_le_mul_left 3 (hc h)
  rw [chain2 (ℓ := ((d, dr main_v23_1) : Loc nD τ sig)) f (fun I => (pos (d := ![2097152]) I : Finset S2097152.Idx)) (fun x => ((x : S2097152.Idx) 0).val) (fun I x => mem_pos)
      (cutC V) (cutZ V) (cutC_mono V) (cutZ_mono V) 32 2097152 h0 h1 h2 (fun x => ((x : S2097152.Idx) 0).isLt),
    chain2 (ℓ := ((d, dr main_v23_0) : Loc nD τ sig)) g (fun I => (pos (d := ![6291456]) I : Finset S6291456.Idx)) (fun x => ((x : S6291456.Idx) 0).val) (fun I x => mem_pos)
      (fun w => 3 * cutC V w) (fun w => 3 * cutZ V w) (m3 (cutC_mono V)) (m3 (cutZ_mono V)) 32 6291456 (by show 3 * cutC V 0 = 0; rw [h0]) (by show 3 * _ = 3 * _; rw [h1]) (by show 3 * _ = _; rw [h2])
      (fun x => ((x : S6291456.Idx) 0).isLt)]
  unfold ptsO
  rw [bigSep_sep', bigSep_sep', bigSep_sep', mix]

end Cert.Proof.Vox
-- ==== Proof.Host.lean ====
module

public import proofs.«01_k».proof.Proof.Launch
public import Idealize.ShloMosaic.Lib.ValueLayout

/-
  What the host line before the two kernels leaves.
-/

@[expose] public section

set_option maxRecDepth 65536

noncomputable section

namespace Cert.Proof.Vox

open Cert.KernelIdeal Cert.KernelIdeal.Gen
open Idealize.ShloMosaic
open Idealize.ShloMosaic.SparseCore (S T)
open Idealize.ShloMosaic.SparseCore.Cfg (HIx Pay tileRest ownBufs ownSems0 ownCells ownRefs mem_ownCells mem_ownRefs)
open Idealize.SL Idealize.SL.RA Idealize.SL.BI
open scoped Idealize.SL.BI
open scoped Idealize.SL.RA.PCS
open Idealize.SL.BI.BIBase Idealize.SL.BI.Laws Idealize.SL.ProofMode Idealize.SL.Sem

variable {F : FTy → Type} [FloatOps F]

/-- The host line before the kernels. -/
def hostOps : List (HloOp τ sig (Elt F)) :=
  [StableHlo.reshape main_arg0 main_v0 (rfl : (.i1 : EltTy) = .i1) shapeCasts_S128x128x128_S2097152,
   StableHlo.unary main_v0 main_v1 ((extui 32 · natLt_1_32) : (⟨S2097152, .i1⟩ : BufTy).Contents (Elt F) → (⟨S2097152, .i32⟩ : BufTy).Contents (Elt F)),
   StableHlo.reshape main_arg1 main_v2 (rfl : (.f32 : EltTy) = .f32) shapeCasts_S2097152x3_S6291456,
   StableHlo.unary main_arg2 main_v3 ((extractStridedSlice S3 ![3] · slices_S6_S3_3) : (⟨S6, .f32⟩ : BufTy).Contents (Elt F) → (⟨S3, .f32⟩ : BufTy).Contents (Elt F)),
   StableHlo.unary main_arg2 main_v4 ((extractStridedSlice S3 ![0] · slices_S6_S3_0) : (⟨S6, .f32⟩ : BufTy).Contents (Elt F) → (⟨S3, .f32⟩ : BufTy).Contents (Elt F)),
   StableHlo.binary main_v3 main_v4 main_v5 (subf : (⟨S3, .f32⟩ : BufTy).Contents (Elt F) → (⟨S3, .f32⟩ : BufTy).Contents (Elt F) → (⟨S3, .f32⟩ : BufTy).Contents (Elt F)),
   StableHlo.nullary main_cst (constant S_ .f32 0x43000000#32),
   StableHlo.unary main_cst main_v6 (broadcastInDim S3 ![] bcast_S_S3 : (⟨S_, .f32⟩ : BufTy).Contents (Elt F) → (⟨S3, .f32⟩ : BufTy).Contents (Elt F)),
   StableHlo.binary main_v5 main_v6 main_v7 (Host.divf : (⟨S3, .f32⟩ : BufTy).Contents (Elt F) → (⟨S3, .f32⟩ : BufTy).Contents (Elt F) → (⟨S3, .f32⟩ : BufTy).Contents (Elt F)),
   StableHlo.unary main_arg2 main_v8 ((extractStridedSlice S3 ![0] · slices_S6_S3_0) : (⟨S6, .f32⟩ : BufTy).Contents (Elt F) → (⟨S3, .f32⟩ : BufTy).Contents (Elt F)),
   StableHlo.unary main_arg1 main_v9 ((extractStridedSlice S1x3 ![0, 0] · slices_S2097152x3_S1x3_0_0) : (⟨S2097152x3, .f32⟩ : BufTy).Contents (Elt F) → (⟨S1x3, .f32⟩ : BufTy).Contents (Elt F)),
   StableHlo.reshape main_v9 main_v10 (rfl : (.f32 : EltTy) = .f32) shapeCasts_S1x3_S3,
   StableHlo.binary main_v10 main_v7 main_v11 (mulf : (⟨S3, .f32⟩ : BufTy).Contents (Elt F) → (⟨S3, .f32⟩ : BufTy).Contents (Elt F) → (⟨S3, .f32⟩ : BufTy).Contents (Elt F)),
   StableHlo.binary main_v11 main_v8 main_v12 (addf : (⟨S3, .f32⟩ : BufTy).Contents (Elt F) → (⟨S3, .f32⟩ : BufTy).Contents (Elt F) → (⟨S3, .f32⟩ : BufTy).Contents (Elt F)),
   StableHlo.nary ![main_v7, main_v8, main_v12] main_v13 (fun u => (concatenate S9 0 [⟨S3, (u 0 : (⟨S3, .f32⟩ : BufTy).Contents (Elt F))⟩, ⟨S3, (u 1 : (⟨S3, .f32⟩ : BufTy).Contents (Elt F))⟩, ⟨S3, (u 2 : (⟨S3, .f32⟩ : BufTy).Contents (Elt F))⟩] concatenates_S3_S3_S3_S9_d0 : (⟨S9, .f32⟩ : BufTy).Contents (Elt F))),
   StableHlo.unary main_v13 main_v14 (broadcastInDim S9x1 ![0] bcast_S9_S9x1_0 : (⟨S9, .f32⟩ : BufTy).Contents (Elt F) → (⟨S9x1, .f32⟩ : BufTy).Contents (Elt F)),
   StableHlo.reshape main_v14 main_v15 (rfl : (.f32 : EltTy) = .f32) shapeCasts_S9x1_S1x9x1x1,
   StableHlo.unary main_v15 main_v16 (broadcastInDim S1x9x16x1 ![0, 1, 2, 3] bcast_S1x9x1x1_S1x9x16x1_0_1_2_3 : (⟨S1x9x1x1, .f32⟩ : BufTy).Contents (Elt F) → (⟨S1x9x16x1, .f32⟩ : BufTy).Contents (Elt F)),
   StableHlo.reshape main_v16 main_v17 (rfl : (.f32 : EltTy) = .f32) shapeCasts_S1x9x16x1_S9x16,
   StableHlo.reshape main_v12 main_v18 (rfl : (.f32 : EltTy) = .f32) shapeCasts_S3_S1x3,
   StableHlo.unary main_v18 main_v19 (broadcastInDim S2048x3 ![0, 1] bcast_S1x3_S2048x3_0_1 : (⟨S1x3, .f32⟩ : BufTy).Contents (Elt F) → (⟨S2048x3, .f32⟩ : BufTy).Contents (Elt F)),
   StableHlo.reshape main_v19 main_v20 (rfl : (.f32 : EltTy) = .f32) shapeCasts_S2048x3_S6144,
   StableHlo.nullary main_c (constantI S_ 32 0#32),
   StableHlo.unary main_c main_v21 (broadcastInDim S2048 ![] bcast_S_S2048 : (⟨S_, .i32⟩ : BufTy).Contents (Elt F) → (⟨S2048, .i32⟩ : BufTy).Contents (Elt F))]

/-- The host line after them. -/
def lastOps : List (HloOp τ sig (Elt F)) := [StableHlo.reshape main_v23_0 main_v24 (rfl : (.f32 : EltTy) = .f32) shapeCasts_S6291456_S2097152x3]

/-- The program: a line, the two kernels, a line. -/
theorem main_eq (d : Dev nD) : main (F := F) d = (StableHlo.seq hostOps >>= fun _ => (sc (F := F)).run d 0 >>= fun _ => (sc (F := F)).run d 1 >>= fun _ => StableHlo.seq lastOps >>= fun _ => pure ⟨⟩) := rfl

/-! ## What the line leaves -/

variable (V₀ : Valuation τ sig (Elt F))

/-- The contents after the line. -/
def VA : Valuation τ sig (Elt F) := StableHlo.after hostOps V₀

theorem VA_v1 : (VA V₀) (dr main_v1) = ((extui 32 (shapeCast S2097152 (V₀ (dr main_arg0) : S128x128x128.Idx → BitVec 1) shapeCasts_S128x128x128_S2097152) natLt_1_32) : S2097152.Idx → BitVec 32) := by
  unfold VA hostOps
  after_results_simp
  try rfl

theorem VA_v2 : (VA V₀) (dr main_v2) = (shapeCast S6291456 (V₀ (dr main_arg1) : S2097152x3.Idx → F .f32) shapeCasts_S2097152x3_S6291456 : S6291456.Idx → F .f32) := by
  unfold VA hostOps
  after_results_simp
  try rfl

theorem VA_v21 : (VA V₀) (dr main_v21) = (fun _ => 0#32 : S2048.Idx → BitVec 32) := by
  unfold VA hostOps
  after_results_simp
  try rfl

theorem VA_v20 : (VA V₀) (dr main_v20) = (shapeCast S6144 (broadcastInDim S2048x3 ![0, 1] bcast_S1x3_S2048x3_0_1 (shapeCast S1x3 (VA V₀ (dr main_v12) : S3.Idx → F .f32) shapeCasts_S3_S1x3)) shapeCasts_S2048x3_S6144 : S6144.Idx → F .f32) := by
  unfold VA hostOps
  after_results_simp
  try rfl

theorem VA_v17 : (VA V₀) (dr main_v17) = (shapeCast S9x16 (broadcastInDim S1x9x16x1 ![0, 1, 2, 3] bcast_S1x9x1x1_S1x9x16x1_0_1_2_3 (shapeCast S1x9x1x1 (broadcastInDim S9x1 ![0] bcast_S9_S9x1_0 (VA V₀ (dr main_v13) : S9.Idx → F .f32)) shapeCasts_S9x1_S1x9x1x1)) shapeCasts_S1x9x16x1_S9x16 : S9x16.Idx → F .f32) := by
  unfold VA hostOps
  after_results_simp
  try rfl

/-- A table whose rows are each one number. -/
theorem tab_at {α : Type} (u : S9.Idx → α) (x : S9x16.Idx) :
    shapeCast S9x16 (broadcastInDim S1x9x16x1 ![0, 1, 2, 3] bcast_S1x9x1x1_S1x9x16x1_0_1_2_3 (shapeCast S1x9x1x1 (broadcastInDim S9x1 ![0] bcast_S9_S9x1_0 u) shapeCasts_S9x1_S1x9x1x1)) shapeCasts_S1x9x16x1_S9x16 x
      = u (ix1 (show Fin 9 from x 0)) := by
  refine (shapeCast_apply _ _ x (ix4 (0 : Fin 1) (show Fin 9 from x 0) (show Fin 16 from x 1) (0 : Fin 1)) (by
    rw [Shape.rowMajor_val_four, Shape.rowMajor_val_two]; show (((0 * 9 + (x 0).val) * 16 + (x 1).val) * 1 + 0) = (x 0).val * 16 + (x 1).val; omega)).trans ?_
  show shapeCast S1x9x1x1 (broadcastInDim S9x1 ![0] bcast_S9_S9x1_0 u) shapeCasts_S9x1_S1x9x1x1 _ = _
  refine (shapeCast_apply _ _ _ (ix2 (show Fin 9 from x 0) (0 : Fin 1)) (by
    rw [Shape.rowMajor_val_four, Shape.rowMajor_val_two]; show (x 0).val * 1 + 0 = (((0 * 9 + (x 0).val) * 1 + 0) * 1 + 0); omega)).trans ?_
  show u _ = u _
  congr 1
  funext a
  obtain rfl : a = 0 := Subsingleton.elim _ _
  rfl

/-- A fill that repeats three numbers. -/
theorem fil_at {α : Type} (u : S3.Idx → α) (x : S6144.Idx) :
    shapeCast S6144 (broadcastInDim S2048x3 ![0, 1] bcast_S1x3_S2048x3_0_1 (shapeCast S1x3 u shapeCasts_S3_S1x3)) shapeCasts_S2048x3_S6144 x
      = u (ix1 (⟨(x 0).val % 3, Nat.mod_lt _ (by decide)⟩ : Fin 3)) := by
  have hx : (x 0).val < 6144 := (x 0).isLt
  rw [shapeCast_apply _ _ x (ix2 (⟨(x 0).val / 3, by omega⟩ : Fin 2048) (⟨(x 0).val % 3, Nat.mod_lt _ (by decide)⟩ : Fin 3)) (by
    rw [Shape.rowMajor_val_one, Shape.rowMajor_val_two]; show (x 0).val / 3 * 3 + (x 0).val % 3 = (x 0).val; omega)]
  show shapeCast S1x3 u shapeCasts_S3_S1x3 _ = _
  rw [shapeCast_apply _ _ _ (ix1 (⟨(x 0).val % 3, Nat.mod_lt _ (by decide)⟩ : Fin 3)) (by
    rw [Shape.rowMajor_val_one, Shape.rowMajor_val_two]; show (x 0).val % 3 = 0 * 3 + (x 0).val % 3; omega)]

theorem one_bit (w : BitVec 1) : BitVec.setWidth 32 w = 0#32 ∨ BitVec.setWidth 32 w = 1#32 := by revert w; decide

theorem host_ok : HostOK (VA V₀) where
  bin := fun n => by
    unfold mwV
    rw [VA_v1]
    show ((BitVec.setWidth 32 (_ : BitVec 1)) = 0#32) ∨ ((BitVec.setWidth 32 (_ : BitVec 1)) = 1#32)
    exact one_bit _
  tab := fun x => by
    unfold PV
    rw [VA_v17, tab_at, tab_at]
    congr 2
    exact Fin.ext (Nat.mod_eq_of_lt (x 0).isLt).symm
  fil := fun x => by
    unfold flV rdv
    rw [VA_v20, fil_at, fil_at]
    congr 2
    refine Fin.ext ?_
    show (x 0).val % 3 = ((x 0).val % 3 % 6144) % 3
    omega
  zer := fun x => by rw [VA_v21]

end Cert.Proof.Vox
-- ==== Proof.Run.lean ====
module

public import proofs.«01_k».proof.Proof.Host

/-
  The launch: the program run, from any memory, with what every array holds at the end.
-/

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open scoped Idealize.SL.RA.PCS
open Idealize.ShloMosaic.Rounds
open Idealize.SL.BI.BIBase Idealize.SL.BI.Laws Idealize.SL.ProofMode Idealize.SL.Sem

variable {F : FTy → Type} [FloatOps F]

/-- The coordinates of a tile in the count's grid. -/
def coordsV0 (c : Fin (grid0.bound 0)) (s : Fin (grid0.bound 1)) : grid0.Coords :=
  fun | 0 => c | 1 => s | ⟨_ + 2, h⟩ => absurd h (Nat.not_lt.2 (Nat.le_add_left _ _))
/-- The coordinates of a tile in the main kernel's grid. -/
def coordsV1 (c : Fin (grid1.bound 0)) (s : Fin (grid1.bound 1)) : grid1.Coords :=
  fun | 0 => c | 1 => s | ⟨_ + 2, h⟩ => absurd h (Nat.not_lt.2 (Nat.le_add_left _ _))

attribute [local irreducible] cnt occV xwV Yv

theorem defs₀_vector0 (c : Fin τ.nSC) (s : Fin τ.nSub) :
    defs₀ (F := F) (.scVector c s) 0 () = SparseCore.onTile hcore0 hsub0 (fun c s => cc0__count_body (coordsV0 c s) (Memref.whole main_v1_scv) (Memref.isWhole_whole _) (Memref.whole main_v22_scv) (Memref.isWhole_whole _) (Memref.whole cc0_scratch0) (Memref.isWhole_whole _) (Memref.whole cc0_scratch1) (Memref.isWhole_whole _) cc0_scoped0 cc0_scoped1 cc0_scoped2 cc0_scoped3 cc0_scoped4 cc0_scoped5 cc0_scoped6 cc0_scoped7 cc0_scoped8) ⟨⟩ c s := rfl

theorem defs₀_vector1 (c : Fin τ.nSC) (s : Fin τ.nSub) :
    defs₀ (F := F) (.scVector c s) 1 () = SparseCore.onTile hcore1 hsub1 (fun c s => cc1__main_body (coordsV1 c s) (Memref.whole main_v1_scv) (Memref.isWhole_whole _) (Memref.whole main_v2_scv) (Memref.isWhole_whole _) (Memref.whole main_v17_scv) (Memref.isWhole_whole _) (Memref.whole main_v22_scv) (Memref.isWhole_whole _) (Memref.whole main_v20_scv) (Memref.isWhole_whole _) (Memref.whole main_v21_scv) (Memref.isWhole_whole _) (Memref.whole main_v23_0_scv) (Memref.isWhole_whole _) (Memref.whole main_v23_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) cc1_scratch12 cc1_scratch13 cc1_scratch14 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41) ⟨⟩ c s := rfl

variable (m : (ℓ : Loc nD τ sig) → Buf (Elt F) ℓ) (ρ : Dev nD → PrngReg)

/-! ## The contents, stage by stage -/

/-- The contents after the first line. -/
def V1 (d : Dev nD) : Valuation τ sig (Elt F) := VA fun b => m (d, b)

open scoped Classical in
/-- The contents after the count. -/
def V2 (d : Dev nD) : Valuation τ sig (Elt F) := Function.update (V1 m d) (dr main_v22) (ctB (V1 m d))

open scoped Classical in
/-- The contents after the main kernel. -/
def V3 (d : Dev nD) : Valuation τ sig (Elt F) := Function.update (Function.update (V2 m d) (dr main_v23_0) (xwB (V1 m d))) (dr main_v23_1) (occB (V1 m d))

/-- The contents at the end. -/
def V4 (d : Dev nD) : Valuation τ sig (Elt F) := StableHlo.after lastOps (V3 m d)

theorem hok (d : Dev nD) : HostOK (V1 m d) := host_ok _

/-! ## The payloads -/

/-- The number of the tile on SparseCore `c`, subcore `i`. -/
def wN (c i : ℕ) : Fin 32 := ⟨(2 * i + c) % 32, Nat.mod_lt _ (by decide)⟩

/-- What tile `w` is handed for a kernel. -/
def goP (q : Fin 2) (d : Dev nD) (w : Fin 32) : sProp (MM F) :=
  match q with
  | 0 => pts0 (V1 m d) d w (V1 m d (dr main_v22))
  | 1 => iprop(pts1 (V1 m d) d w ∗ ptsO (V1 m d) d w (V1 m d (dr main_v23_1)) (V1 m d (dr main_v23_0)))

/-- What tile `w` hands back. -/
def tdP (q : Fin 2) (d : Dev nD) (w : Fin 32) : sProp (MM F) :=
  match q with
  | 0 => pts0 (V1 m d) d w (ctB (V1 m d))
  | 1 => iprop(pts1 (V1 m d) d w ∗ ptsO (V1 m d) d w (occB (V1 m d)) (xwB (V1 m d)))

instance goP_storable (q : Fin 2) (d : Dev nD) (w : Fin 32) : BI.Storable (upEmb : UEmb _ (MM F)) (goP m q d w) := by
  match q with
  | 0 => unfold goP pts0; infer_instance
  | 1 => unfold goP pts1 ptsO; infer_instance

instance tdP_storable (q : Fin 2) (d : Dev nD) (w : Fin 32) : BI.Storable (upEmb : UEmb _ (MM F)) (tdP m q d w) := by
  match q with
  | 0 => unfold tdP pts0; infer_instance
  | 1 => unfold tdP pts1 ptsO; infer_instance

/-- The launch's payloads. -/
def P : (K (F := F)).Pay (nD := nD) (Val := Elt F) (Name := ℕ) (U := UU) where
  st := fun q d c => bigSep Finset.univ fun i : Fin ((K (F := F)).nSub q) => goP m q d (wN c.val i.val)
  dn := fun q d c => bigSep Finset.univ fun i : Fin ((K (F := F)).nSub q) => tdP m q d (wN c.val i.val)
  go := fun q d c i => goP m q d (wN c.val i.val)
  td := fun q d c i => tdP m q d (wN c.val i.val)
  x := fun _ _ => iprop(emp)

instance P_storable : (P m).IsStorable where
  st q d c := (inferInstance : BI.Storable (upEmb : UEmb _ (MM F)) (bigSep Finset.univ fun i : Fin ((K (F := F)).nSub q) => goP m q d (wN c.val i.val)))
  dn q d c := (inferInstance : BI.Storable (upEmb : UEmb _ (MM F)) (bigSep Finset.univ fun i : Fin ((K (F := F)).nSub q) => tdP m q d (wN c.val i.val)))
  go q d c i := goP_storable m q d (wN c.val i.val)
  td q d c i := tdP_storable m q d (wN c.val i.val)

/-! ## The tiles' obligations -/

theorem obl_post {th : Thread nD τ} {A B C : sProp (MM F)} {O : CellTallies nD τ sig (HIx 2)} {W : Waits sig (HIx 2)} {q : Fin 2} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  iexact HO

theorem wN_val (c : Fin 2) (i : Fin 16) : (wN c.val i.val).val = 2 * i.val + c.val := Nat.mod_eq_of_lt (by have := c.isLt; have := i.isLt; omega)

theorem tileObl0 : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  have e := tile0 (F := F) (mw := mwV (V1 m d)) (d := d) (O := O) (W := W) (hok m d).bin (coordsV0 ⟨_, hci.1⟩ ⟨_, hci.2⟩) (wN c.val i.val) (wN_val c i)
    (rdv (dd := ![512]) (by decide) (V1 m d (dr main_v22) : S512.Idx → BitVec 32)) hO
  rw [pay0_eq _ d _ _ (V1 m d (dr main_v22)) (fun i => (rdv_at (dd := ![512]) (by decide) _ i).symm), pay0_eq _ d _ _ (ctB (V1 m d)) (fun _ => rfl)] at e
  exact e.trans (wp_mono frame _ _ fun _ => obl_post)

theorem tileObl1 : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  have e := tile1 (F := F) (mw := mwV (V1 m d)) (nz := nzV (V1 m d)) (P := PV (V1 m d)) (fl := flV (V1 m d)) (d := d) (O := O) (W := W) (hok m d).bin (coordsV1 ⟨_, hci.1⟩ ⟨_, hci.2⟩) (wN c.val i.val) (wN_val c i)
    (rdv (dd := ![2097152]) (by decide) (V1 m d (dr main_v23_1) : S2097152.Idx → BitVec 32)) (rdv (dd := ![6291456]) (by decide) (V1 m d (dr main_v23_0) : S6291456.Idx → F .f32)) hO
  rw [pay1_eq _ d (hok m d), out1_eq _ d _ _ (V1 m d (dr main_v23_1)) (V1 m d (dr main_v23_0)) (fun i => (rdv_at (dd := ![2097152]) (by decide) _ i).symm) (fun i => (rdv_at (dd := ![6291456]) (by decide) _ i).symm),
    out1_eq _ d _ _ (occB (V1 m d)) (xwB (V1 m d)) (fun _ => rfl) (fun _ => rfl)] at e
  exact e.trans (wp_mono frame _ _ fun _ => obl_post)

theorem vecSplit (q : Fin 2) : (K (F := F)).VecSplit' (P m) q := by
  intro d c
  show (bigSep Finset.univ fun i : Fin ((K (F := F)).nSub q) => goP m q d (wN c.val i.val)) ⊢ |={Set.univ}=> iprop(
    (bigSep Finset.univ fun i : Fin ((K (F := F)).nSub q) => goP m q d (wN c.val i.val))
      ∗ ((bigSep Finset.univ fun i : Fin ((K (F := F)).nSub q) => tdP m q d (wN c.val i.val)) -∗ bigSep Finset.univ fun i : Fin ((K (F := F)).nSub q) => tdP m q d (wN c.val i.val)))
  iintro H; imodintro
  isplitl [H]; · iexact H
  iintro H; iexact H

/-! ## The launch's ghost state -/

def u₀ : UU := (initOf (K (F := F)).hsCells (K (F := F)).hsToks, 1)

theorem emps {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 2 => (P m).x q th) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun th : Thread nD τ => bigSep Finset.univ fun q : Fin 2 => (P (F := F) m).x q th) = bigSep Finset.univ fun _ => iprop(emp) from
    bigSep_congr fun _ _ => emps _, emps]
  iempintro

/-! ## The TensorCore's program -/

theorem st_all (d : Dev nD) (Φ : Fin 32 → sProp (MM F)) :
    (bigSep Finset.univ fun c : Fin 2 => bigSep Finset.univ fun i : Fin 16 => Φ (wN c.val i.val)) = bigSep Finset.univ Φ := by
  rw [← tiles Φ]
  exact bigSep_congr fun c _ => bigSep_congr fun i _ => congrArg Φ (Fin.ext (wN_val c i))

/-- What the count is handed. -/
theorem st0_eq (d : Dev nD) : (bigSep Finset.univ fun c : Fin ((K (F := F)).nCore 0) => (P m).st 0 d c)
    = (iprop((((d, dr main_v1) : Loc nD τ sig) ↦{fullShare} V1 m d (dr main_v1)) ∗ (((d, dr main_v22) : Loc nD τ sig) ↦{fullShare} V1 m d (dr main_v22))) : sProp (MM F)) :=
  (st_all d fun w => goP m 0 d w).trans (deal0 (V1 m d) d _)
theorem dn0_eq (d : Dev nD) : (bigSep Finset.univ fun c : Fin ((K (F := F)).nCore 0) => (P m).dn 0 d c)
    = (iprop((((d, dr main_v1) : Loc nD τ sig) ↦{fullShare} V1 m d (dr main_v1)) ∗ (((d, dr main_v22) : Loc nD τ sig) ↦{fullShare} ctB (V1 m d))) : sProp (MM F)) :=
  (st_all d fun w => tdP m 0 d w).trans (deal0 (V1 m d) d _)

/-- What the main kernel is handed, its results holding `f` and `g`. -/
def all1 (d : Dev nD) (f : S2097152.Idx → BitVec 32) (g : S6291456.Idx → F .f32) : sProp (MM F) :=
  iprop(((((d, dr main_v1) : Loc nD τ sig) ↦{fullShare} V1 m d (dr main_v1)) ∗ (((d, dr main_v2) : Loc nD τ sig) ↦{fullShare} V1 m d (dr main_v2)) ∗ (((d, dr main_v17) : Loc nD τ sig) ↦{fullShare} V1 m d (dr main_v17))
        ∗ (((d, dr main_v22) : Loc nD τ sig) ↦{fullShare} ctB (V1 m d)) ∗ (((d, dr main_v20) : Loc nD τ sig) ↦{fullShare} V1 m d (dr main_v20)) ∗ (((d, dr main_v21) : Loc nD τ sig) ↦{fullShare} V1 m d (dr main_v21)))
    ∗ (((d, dr main_v23_1) : Loc nD τ sig) ↦{fullShare} f) ∗ (((d, dr main_v23_0) : Loc nD τ sig) ↦{fullShare} g))

theorem st1_eq (d : Dev nD) : (bigSep Finset.univ fun c : Fin ((K (F := F)).nCore 1) => (P m).st 1 d c) = (all1 m d (V1 m d (dr main_v23_1)) (V1 m d (dr main_v23_0)) : sProp (MM F)) :=
  (st_all d fun w => goP m 1 d w).trans (by
    show (bigSep Finset.univ fun w => iprop(pts1 (V1 m d) d w ∗ ptsO (V1 m d) d w (V1 m d (dr main_v23_1)) (V1 m d (dr main_v23_0)))) = _
    rw [bigSep_sep', deal1, dealO]; rfl)
theorem dn1_eq (d : Dev nD) : (bigSep Finset.univ fun c : Fin ((K (F := F)).nCore 1) => (P m).dn 1 d c) = (all1 m d (occB (V1 m d)) (xwB (V1 m d)) : sProp (MM F)) :=
  (st_all d fun w => tdP m 1 d w).trans (by
    show (bigSep Finset.univ fun w => iprop(pts1 (V1 m d) d w ∗ ptsO (V1 m d) d w (occB (V1 m d)) (xwB (V1 m d)))) = _
    rw [bigSep_sep', deal1, dealO]; rfl)

/-- The arrays the two kernels touch. -/
def kRefs : Finset (Ref sig .tc) := {main_v1, main_v2, main_v17, main_v22, main_v20, main_v21, main_v23_1, main_v23_0}

theorem kRefs_sub : kRefs.map ⟨Proc.devRef .tc, Proc.devRef_injective _⟩ ⊆ Pipeline.ucRefs τ sig := fun b hb => by
  obtain ⟨r, hr, rfl⟩ := Finset.mem_map.mp hb
  refine Finset.mem_filter.mpr ⟨StableHlo.devRef_mem_tcRefs r, ?_⟩
  simp only [kRefs, Finset.mem_insert, Finset.mem_singleton] at hr
  rcases hr with rfl | rfl | rfl | rfl | rfl | rfl | rfl | rfl <;> decide

/-- The arrays, split at those the kernels touch. -/
theorem held_k (d : Dev nD) (W : Valuation τ sig (Elt F)) :
    (StableHlo.held (T d) (Pipeline.ucRefs τ sig) W : sProp (MM F))
      = iprop(((((d, dr main_v1) : Loc nD τ sig) ↦{fullShare} W (dr main_v1)) ∗ (((d, dr main_v2) : Loc nD τ sig) ↦{fullShare} W (dr main_v2)) ∗ (((d, dr main_v17) : Loc nD τ sig) ↦{fullShare} W (dr main_v17))
        ∗ (((d, dr main_v22) : Loc nD τ sig) ↦{fullShare} W (dr main_v22)) ∗ (((d, dr main_v20) : Loc nD τ sig) ↦{fullShare} W (dr main_v20)) ∗ (((d, dr main_v21) : Loc nD τ sig) ↦{fullShare} W (dr main_v21))
        ∗ (((d, dr main_v23_1) : Loc nD τ sig) ↦{fullShare} W (dr main_v23_1)) ∗ (((d, dr main_v23_0) : Loc nD τ sig) ↦{fullShare} W (dr main_v23_0)))
        ∗ StableHlo.held (T d) (Pipeline.ucRefs τ sig \ kRefs.map ⟨Proc.devRef .tc, Proc.devRef_injective _⟩) W) := by
  rw [StableHlo.held_sub_split _ kRefs_sub W]
  congr 1
  unfold StableHlo.held
  rw [bigSep_map]
  unfold kRefs
  iterate 7 rw [SparseCore.bigSep_insert' (by decide)]
  rw [bigSep_singleton]
  rfl

/-- Off the kernels' arrays nothing changes. -/
theorem rest_eq (d : Dev nD) : (StableHlo.held (T d) (Pipeline.ucRefs τ sig \ kRefs.map ⟨Proc.devRef .tc, Proc.devRef_injective _⟩) (V3 m d) : sProp (MM F))
    = StableHlo.held (T d) (Pipeline.ucRefs τ sig \ kRefs.map ⟨Proc.devRef .tc, Proc.devRef_injective _⟩) (V1 m d) :=
  StableHlo.held_congr _ fun b hb => by
    have hn : ∀ r ∈ kRefs, b ≠ dr r := fun r hr e => (Finset.mem_sdiff.mp hb).2 (Finset.mem_map.mpr ⟨r, hr, e.symm⟩)
    unfold V3 V2
    rw [Function.update_of_ne (hn main_v23_1 (by decide)), Function.update_of_ne (hn main_v23_0 (by decide)), Function.update_of_ne (hn main_v22 (by decide))]

theorem V3_ne (d : Dev nD) (r : Ref sig .tc) (h1 : r ≠ main_v22) (h2 : r ≠ main_v23_0) (h3 : r ≠ main_v23_1) : V3 m d (dr r) = V1 m d (dr r) := by
  have hn : ∀ r', r ≠ r' → dr r ≠ dr r' := fun r' h e => h (Proc.devRef_injective _ e)
  unfold V3 V2
  rw [Function.update_of_ne (hn _ h3), Function.update_of_ne (hn _ h2), Function.update_of_ne (hn _ h1)]
theorem V3_v22 (d : Dev nD) : V3 m d (dr main_v22) = ctB (V1 m d) := by
  unfold V3 V2
  rw [Function.update_of_ne (fun e => absurd (Proc.devRef_injective _ e) (by decide)), Function.update_of_ne (fun e => absurd (Proc.devRef_injective _ e) (by decide)), Function.update_self]
theorem V3_v23_0 (d : Dev nD) : V3 m d (dr main_v23_0) = xwB (V1 m d) := by
  unfold V3
  rw [Function.update_of_ne (fun e => absurd (Proc.devRef_injective _ e) (by decide)), Function.update_self]
theorem V3_v23_1 (d : Dev nD) : V3 m d (dr main_v23_1) = occB (V1 m d) := by
  unfold V3; rw [Function.update_self]

/-- What the program ends holding. -/
abbrev FIN (d : Dev nD) : sProp (MM F) := StableHlo.held (T d) (Pipeline.ucRefs τ sig) (V4 m d)

theorem host_sub : ∀ op ∈ (hostOps (F := F)), op.bufs ⊆ Pipeline.ucRefs τ sig := by
  have h : (hostOps (F := F)).Forall fun op => op.bufs ⊆ StableHlo.tcRefs τ sig :=
    ⟨StableHlo.reshape_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.reshape_bufs_sub .., StableHlo.binary_bufs_sub .., StableHlo.binary_bufs_sub .., StableHlo.nary_bufs_sub .., StableHlo.unary_bufs_sub .., StableHlo.reshape_bufs_sub .., StableHlo.unary_bufs_sub .., StableHlo.reshape_bufs_sub .., StableHlo.reshape_bufs_sub .., StableHlo.unary_bufs_sub .., StableHlo.reshape_bufs_sub .., StableHlo.nullary_bufs_sub .., StableHlo.unary_bufs_sub ..⟩
  exact fun op ho => Pipeline.sub_ucRefs op (List.forall_iff_forall_mem.mp h op ho)

theorem host_fresh : ∀ op ∈ (hostOps (F := F)), op.fresh = ∅ := by
  unfold hostOps
  intro _ h; (repeat (cases h with | head => rfl | tail _ h => ?_)); exact nomatch h

theorem last_sub : ∀ op ∈ (lastOps (F := F)), op.bufs ⊆ Pipeline.ucRefs τ sig := by
  intro op ho
  rcases List.mem_singleton.mp ho with rfl
  exact Pipeline.sub_ucRefs _ (StableHlo.reshape_bufs_sub ..)

theorem last_fresh : ∀ op ∈ (lastOps (F := F)), op.fresh = ∅ := by
  unfold lastOps
  intro _ h; (repeat (cases h with | head => rfl | tail _ h => ?_)); exact nomatch h

/-- The TensorCore's program: a line, the two kernels, a line. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [Pipeline.unscopedBufs_held d (fun b => m (d, b)), main_eq]
  iintro ⟨#Hctx, Hst, ⟨Hb, Hh, Hts, -⟩, -⟩
  iapply (StableHlo.wp_seq (defs := (K (F := F)).defs (D (F := F))) 𝒱 none Set.univ d (Pipeline.ucRefs τ sig) _ hostOps host_sub host_fresh (fun b => m (d, b))) $$ [Hb Hh]
  · isplitl [Hb]; · iexact Hb
    iexact Hh
  iintro ⟨Hb, Hh⟩
  have e1 : StableHlo.held (d.tc : Thread nD τ) (Pipeline.ucRefs τ sig) (StableHlo.after hostOps fun b => m (d, b)) = _ := held_k (F := F) d (V1 m d)
  ihave Hh := (Entails.of_eq e1) $$ Hh
  icases Hh with ⟨⟨H1, H2, H17, H22, H20, H21, HY, HX⟩, Hrest⟩
  rw [wp_bind]
  iapply ((K (F := F)).wp_run (D (F := F)) 𝒱 (EH := EH) (P := P m) κ d 0) $$ [Hst H1 H22 H2 H17 H20 H21 HY HX Hrest Hb Hts]
  isplitr; · iexact Hctx
  isplitl [Hst]; · iexact Hst
  isplitl [H1 H22]
  · rw [st0_eq]
    isplitl [H1]; · iexact H1
    iexact H22
  iintro ⟨Hst, Hdn⟩
  ihave Hdn := (Entails.of_eq (dn0_eq m d)) $$ Hdn
  icases Hdn with ⟨H1, H22⟩
  rw [wp_bind]
  iapply ((K (F := F)).wp_run (D (F := F)) 𝒱 (EH := EH) (P := P m) κ d 1) $$ [Hst H1 H22 H2 H17 H20 H21 HY HX Hrest Hb Hts]
  isplitr; · iexact Hctx
  isplitl [Hst]; · iexact Hst
  isplitl [H1 H22 H2 H17 H20 H21 HY HX]
  · rw [st1_eq]; unfold all1
    isplitr [HY HX]
    · isplitl [H1]; · iexact H1
      isplitl [H2]; · iexact H2
      isplitl [H17]; · iexact H17
      isplitl [H22]; · iexact H22
      isplitl [H20]; · iexact H20
      iexact H21
    isplitl [HY]; · iexact HY
    iexact HX
  iintro ⟨Hst, Hdn⟩
  ihave Hdn := (Entails.of_eq (dn1_eq m d)) $$ Hdn
  unfold all1
  icases Hdn with ⟨⟨H1, H2, H17, H22, H20, H21⟩, HY, HX⟩
  iapply (StableHlo.wp_seq (defs := (K (F := F)).defs (D (F := F))) 𝒱 none Set.univ d (Pipeline.ucRefs τ sig) _ lastOps last_sub last_fresh (V3 m d)) $$ [Hb H1 H22 H2 H17 H20 H21 HY HX Hrest]
  · isplitl [Hb]; · iexact Hb
    rw [show (d.tc : Thread nD τ) = SparseCore.T d from rfl, held_k d (V3 m d), rest_eq, V3_v22, V3_v23_0, V3_v23_1, V3_ne m d main_v1 (by decide) (by decide) (by decide), V3_ne m d main_v2 (by decide) (by decide) (by decide), V3_ne m d main_v17 (by decide) (by decide) (by decide),
      V3_ne m d main_v20 (by decide) (by decide) (by decide), V3_ne m d main_v21 (by decide) (by decide) (by decide)]
    isplitr [Hrest]
    · isplitl [H1]; · iexact H1
      isplitl [H2]; · iexact H2
      isplitl [H17]; · iexact H17
      isplitl [H22]; · iexact H22
      isplitl [H20]; · iexact H20
      isplitl [H21]; · iexact H21
      isplitl [HY]; · iexact HY
      iexact HX
    iexact Hrest
  iintro ⟨Hb, Hh⟩
  rw [wp_pure]
  imodintro
  isplitl [Hst]; · iexact Hst
  isplitl [Hh]; · iexact Hh
  isplitl [Hb]; · iexact Hb
  iexact Hts

/-! ## The end -/

/-- What is known of the memory at the end. -/
def fq (d : Dev nD) (s' : Phys nD τ sig (Elt F)) : Prop := ∀ b ∈ Pipeline.ucRefs τ sig, s'.mem.mem (d, b) = V4 m d b

theorem hfin (d : Dev nD) (s' : Phys nD τ sig (Elt F)) : iprop(FIN m d ∗ SI s') ⊢ (⌜fq m d s'⌝ : sProp (MM F)) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact fun b hb => h b hb

/-- THE RUN: every array at the end, and the counters at rest. -/
theorem run_main [∀ e, Nonempty (Elt F e)] :
    θ_run (Cert.KernelIdeal.defs (F := F)) (Cert.KernelIdeal.threads (F := F)) ⟨m, fun _ => 0, ρ⟩
      (fun r => (∀ d : Dev nD, ∀ b ∈ Pipeline.ucRefs τ sig, r.2.mem (d, b) = V4 m d b) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m | 1 => tileObl1 m)
    (fun q _ => SparseCore.Cfg.VecSplit.of_plain (vecSplit m q))
    m ρ main (fun _ => iprop(emp)) (FIN m) (u₀ (F := F)) (sep_elim_left.trans (hu₀ m)) (hmain m ρ) (fq m) (hfin m) _ (fun _ h hz => ⟨h, hz⟩)

end Cert.Proof.Vox
-- ==== Proof.Final.lean ====
module

public import proofs.«01_k».proof.Proof.Run
public import proofs.«01_k».proof.Defs
public import proofs.«01_k».proof.Proof.Gen.Kernel

/-
  The end of the run, read at the arguments and the results.
-/

@[expose] public section

set_option maxRecDepth 65536

noncomputable section

namespace Cert.Proof.Vox

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open scoped Idealize.SL.RA.PCS
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

theorem V4_arg (d : Dev nD) : V4 m d (dr main_arg0) = m (d, dr main_arg0) ∧ V4 m d (dr main_arg1) = m (d, dr main_arg1) ∧ V4 m d (dr main_arg2) = m (d, dr main_arg2) := by
  have e : ∀ r : Ref sig .tc, r ≠ main_v22 → r ≠ main_v23_0 → r ≠ main_v23_1 → r ≠ main_v24 → V4 m d (dr r) = V1 m d (dr r) := fun r h1 h2 h3 h4 => by
    rw [← V3_ne m d r h1 h2 h3]
    refine StableHlo.after_of_forall_not_mem _ _ fun op ho => ?_
    rcases List.mem_singleton.mp ho with rfl
    exact fun h => h4 (Proc.devRef_injective _ (Finset.mem_singleton.mp h))
  refine ⟨(e main_arg0 (by decide) (by decide) (by decide) (by decide)).trans ?_, (e main_arg1 (by decide) (by decide) (by decide) (by decide)).trans ?_, (e main_arg2 (by decide) (by decide) (by decide) (by decide)).trans ?_⟩ <;>
    (unfold V1 VA hostOps; after_results_simp)

/-- The points: the main kernel's first result, by rows of three. -/
theorem V4_v24 (d : Dev nD) : V4 m d (dr main_v24) = (shapeCast S2097152x3 (xwB (V1 m d)) shapeCasts_S6291456_S2097152x3 : S2097152x3.Idx → F .f32) := by
  rw [← V3_v23_0]
  unfold V4 lastOps; after_results_simp; try rfl

theorem V4_v23_1 (d : Dev nD) : V4 m d (dr main_v23_1) = occB (V1 m d) := by
  rw [← V3_v23_1]
  unfold V4 lastOps; after_results_simp

/-- THE VALUES of a run: both results, the arguments unchanged. -/
theorem run_vals [∀ e, Nonempty (Elt F e)] :
    θ_run (Cert.KernelIdeal.defs (F := F)) (Cert.KernelIdeal.threads (F := F)) ⟨m, fun _ => 0, ρ⟩
      (fun r => (∀ c : Dev nD, (r.2.mem ((c.tc : Thread nD τ).loc main_v24) = (shapeCast S2097152x3 (xwB (V1 m c)) shapeCasts_S6291456_S2097152x3 : S2097152x3.Idx → F .f32)
          ∧ r.2.mem ((c.tc : Thread nD τ).loc main_v23_1) = occB (V1 m c))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)) ∧ r.2.sem = fun _ => 0) := by
  refine (θ_run _ _ _).mono (fun r h => ⟨fun c => ?_, h.2⟩) (run_main m ρ)
  have g : ∀ b : Ref sig .tc, b.isScoped = false → r.2.mem (c, dr b) = V4 m c (dr b) := fun b hb =>
    h.1 c _ (Finset.mem_filter.mpr ⟨StableHlo.devRef_mem_tcRefs b, fun e => Bool.false_ne_true (hb.symm.trans e)⟩)
  exact ⟨⟨(g main_v24 rfl).trans (V4_v24 m c), (g main_v23_1 rfl).trans (V4_v23_1 m c)⟩,
    (g main_arg0 rfl).trans (V4_arg m c).1, (g main_arg1 rfl).trans (V4_arg m c).2.1, (g main_arg2 rfl).trans (V4_arg m c).2.2⟩

/-- The frame of the idealized kernel. -/
theorem frame_ideal : Cert.quiescent_KernelIdeal := fun m ρ _ =>
  (θ_run Cert.KernelIdeal.defs _ _).mono (fun _ h => ⟨fun c => (h.1 c).2, h.2⟩) (run_vals (F := Ideal) m ρ)

set_option maxHeartbeats 4000000 in
/-- The frame of the kernel: the same program, over bits. -/
theorem frame_kernel : Cert.quiescent_Kernel := fun m ρ _ =>
  (θ_run (Cert.KernelIdeal.defs (F := Bits)) _ _).mono (fun _ h => ⟨fun c => (h.1 c).2, h.2⟩) (run_vals (F := Bits) m ρ)

end Cert.Proof.Vox
-- ==== Proof.RefOcc.lean ====
/- The reference's first half: what its running sums and its scatter of ones say of the occupied voxels' numbers. -/
module

public import proofs.«01_k».proof.Proof.Tile
public import proofs.«01_k».proof.Proof.Gen.ReferenceIdeal.Run
public import Idealize.ShloMosaic.Lib.Routing.Words
public import Idealize.ShloMosaic.Lib.Routing.OpsPair
public import Idealize.ShloMosaic.Lib.Routing.OpsSet

@[expose] public section

set_option maxRecDepth 65536

noncomputable section

namespace Cert.Proof.VoxRef

open Idealize.ShloMosaic hiding ix0 ix1 ix2 ix3 ix4
open Idealize.ShloMosaic.ValueIdx Idealize.ShloMosaic.Routing
open Cert.ReferenceIdeal Cert.ReferenceIdeal.Gen Cert.ReferenceIdeal.Value
open Cert.Proof.Vox (cnt nthOf Bin occG occV exists_rank nthOf_cnt cnt_mono cnt_le cnt_one)

variable {F : FTy → Type} [FloatOps F]

theorem count_lt (v N : ℕ) : Nat.count (fun i => i < v) N = min v N := by
  induction N with
  | zero => simp
  | succ N ih => rw [Nat.count_succ, ih]; split_ifs <;> omega

/-- The number of voxels, occupied or not, up to and including which at most `p` are occupied: the occupied voxel of rank `p`. -/
theorem count_rank {mw : ℕ → BitVec 32} {N p : ℕ} (h : p < cnt mw N) : Nat.count (fun i => cnt mw (i + 1) ≤ p) N = nthOf mw p := by
  obtain ⟨v, -, hv, h1, rfl⟩ := exists_rank (m := 0) (Nat.zero_le _) h
  rw [nthOf_cnt h1, count_congr_of_lt (Q := fun i => i < v) N fun i _ => ?_]
  · exact (count_lt v N).trans (Nat.min_eq_left hv.le)
  · constructor
    · intro e
      by_contra hi
      have := cnt_mono (mw := mw) (show v + 1 ≤ i + 1 by omega)
      rw [cnt_one h1] at this; omega
    · exact fun e => cnt_mono e

variable (V0 : Valuation τ sig (Elt F)) {mw : ℕ → BitVec 32}

/-- The mask's words, as the running sums read them. -/
def MaskIs (mw : ℕ → BitVec 32) : Prop := ∀ i : Fin 2097152, (extui 32 (res_main_v0 V0 : S2097152.Idx → BitVec 1) natLt_1_32 : S2097152.Idx → BitVec 32) (ix1 i) = mw i.val

variable {V0}

theorem mask_at (hb : Bin mw) (h : MaskIs V0 mw) (i : Fin 2097152) :
    (extui 32 (res_main_v0 V0 : S2097152.Idx → BitVec 1) natLt_1_32 : S2097152.Idx → BitVec 32) (ix1 i) = BitVec.ofNat 32 (if mw i.val = 1#32 then 1 else 0) := by
  rw [h i]
  rcases hb i.val with e | e <;> rw [e] <;> rfl

/-- The first running sum. -/
theorem v1_at (hb : Bin mw) (h : MaskIs V0 mw) (j : Fin 2097152) : (res_main_v1 V0 : S2097152.Idx → BitVec 32) (ix1 j) = BitVec.ofNat 32 (cnt mw (j.val + 1)) := by
  unfold res_main_v1
  refine (cumsum1 (N := 2097152) (Nm1 := 2097151) (by norm_num) _ (fun i => if mw i = 1#32 then 1 else 0) (mask_at hb h) _ rfl _ _ j).trans ?_
  rw [sum_map_ite]; rfl

theorem cnt_lt {n : ℕ} (h : n ≤ 2097152) : cnt mw n < 2 ^ 31 := lt_of_le_of_lt ((cnt_le n).trans h) (by decide)

/-- An index that is not negative is not wrapped. -/
theorem wrapped (a : ℕ) (ha : a < 2 ^ 31) (y : BitVec 32) : Scalar.select (IntOp.cmpi .slt (BitVec.ofNat 32 a) 0#32) y (BitVec.ofNat 32 a) = BitVec.ofNat 32 a :=
  wrap_of_lt _ _ (by rw [BitVec.toNat_ofNat]; exact lt_of_le_of_lt (Nat.mod_le _ _) ha)

/-- The second running sum: how many voxels there are up to and including which at most `x` are occupied. -/
theorem v11_at (hb : Bin mw) (h : MaskIs V0 mw) (x : Fin 2097152) :
    (res_main_v11 V0 : S2097152.Idx → BitVec 32) (ix1 x) = BitVec.ofNat 32 (Nat.count (fun i => cnt mw (i + 1) ≤ x.val) 2097152) := by
  unfold res_main_v11
  refine (cumsum1 (N := 2097152) (Nm1 := 2097151) (by norm_num) _ (fun y => Nat.count (fun i => cnt mw (i + 1) = y) 2097152) (fun y => ?_) _ rfl _ _ x).trans ?_
  · refine scatter_hist _ rfl rfl rfl _ (fun _ => rfl) _ _ (fun _ => rfl) (fun i => cnt mw (i + 1)) (fun i => ?_) (fun i => cnt_lt (by have := i.isLt; omega)) y
    refine (bcCol _ _ i).trans ?_
    show Scalar.select (IntOp.cmpi .slt ((res_main_v1 V0 : S2097152.Idx → BitVec 32) (ix1 i)) 0#32) _ ((res_main_v1 V0 : S2097152.Idx → BitVec 32) (ix1 i)) = _
    rw [v1_at hb h i]
    exact wrapped _ (cnt_lt (by have := i.isLt; omega)) _
  · rw [sum_count_eq]

/-- The quotient and remainder of the second running sum. -/
theorem rem_at (hb : Bin mw) (h : MaskIs V0 mw) (x : Fin 2097152) :
    (pyRem bcast_S_S2097152 (pyDiv bcast_S_S2097152 (res_main_v11 V0 : S2097152.Idx → BitVec 32) (res_main_call2_v0 V0)) (res_main_call3_v0 V0)) (ix1 x)
      = BitVec.ofNat 32 (Nat.count (fun i => cnt mw (i + 1) ≤ x.val) 2097152 % 2097152) := by
  have hl : Nat.count (fun i => cnt mw (i + 1) ≤ x.val) 2097152 < 2 ^ 31 := lt_of_le_of_lt (Nat.count_le _) (by decide)
  have hd := pyDiv_ap bcast_S_S2097152 (res_main_v11 V0 : S2097152.Idx → BitVec 32) (res_main_call2_v0 V0) (ix1 x) (v11_at hb h x) (b := 1) rfl hl (by decide) (by decide)
  rw [Nat.div_one] at hd
  exact pyRem_ap bcast_S_S2097152 _ (res_main_call3_v0 V0) (ix1 x) hd (b := 2097152) rfl hl (by decide) (by decide)

/-- The numbers past the last are zero. -/
theorem masked_at (T : S_.Idx → BitVec 32) (R : S2097152.Idx → BitVec 32) (x : Fin 2097152) :
    (select (cmpi .sge (iotaInDim S2097152 32 0) (broadcastInDim S2097152 ![0] bcast_S1_S2097152_0 (broadcastInDim S1 ![] bcast_S_S1 T)))
      (broadcastInDim S2097152 ![0] bcast_S1_S2097152_0 (broadcastInDim S1 ![] bcast_S_S1 (constantI S_ 32 0#32))) R : S2097152.Idx → BitVec 32) (ix1 x)
      = Scalar.select (IntOp.cmpi .sge (BitVec.ofNat 32 x.val) (T ix0)) 0#32 (R (ix1 x)) := by
  refine congrArg (fun a => Scalar.select (IntOp.cmpi .sge (BitVec.ofNat 32 x.val) a) 0#32 (R (ix1 x))) ?_
  exact congrArg T (Subsingleton.elim (α := S_.Idx) _ _)

/-- THE NUMBERS of the occupied voxels: those the kernel writes. -/
theorem v21_at (hb : Bin mw) (h : MaskIs V0 mw) (x : Fin 2097152) : (res_main_v21 V0 : S2097152.Idx → BitVec 32) (ix1 x) = occG mw x.val := by
  have e : (Host.reduce IntOp.addi (extui 32 (res_main_v0 V0 : S2097152.Idx → BitVec 1) natLt_1_32) (constantI S_ 32 0#32) reducesTo_S2097152_S_d0 h_S_ : S_.Idx → BitVec 32) ix0 = BitVec.ofNat 32 (cnt mw 2097152) :=
    (reduce_sum _ (fun i => if mw i = 1#32 then 1 else 0) (mask_at hb h) _ _).trans (by rw [sum_map_ite]; rfl)
  have hs : (res_main_v21 V0 : S2097152.Idx → BitVec 32) (ix1 x) = Scalar.select (IntOp.cmpi .sge (BitVec.ofNat 32 x.val)
      ((Host.reduce IntOp.addi (extui 32 (res_main_v0 V0 : S2097152.Idx → BitVec 1) natLt_1_32) (constantI S_ 32 0#32) reducesTo_S2097152_S_d0 h_S_ : S_.Idx → BitVec 32) ix0))
      0#32 ((pyRem bcast_S_S2097152 (pyDiv bcast_S_S2097152 (res_main_v11 V0 : S2097152.Idx → BitVec 32) (res_main_call2_v0 V0)) (res_main_call3_v0 V0)) (ix1 x)) := by
    exact masked_at _ _ x
  rw [hs, e, rem_at hb h]
  have hx : x.val < 2 ^ 31 := lt_trans x.isLt (by decide)
  have hc : IntOp.cmpi .sge (BitVec.ofNat 32 x.val) (BitVec.ofNat 32 (cnt mw 2097152)) = BitVec.ofBool (decide (cnt mw 2097152 ≤ x.val)) := by
    show BitVec.ofBool ((BitVec.ofNat 32 (cnt mw 2097152)).sle (BitVec.ofNat 32 x.val)) = _
    rw [sle_ofNat32 (cnt_lt le_rfl) hx]
  rw [hc]
  unfold occG
  by_cases hq : x.val < cnt mw 2097152
  · rw [if_pos hq, decide_eq_false (by omega), count_rank hq]
    have : nthOf mw x.val < 2097152 := by
      obtain ⟨v, -, hv, h1, h2⟩ := exists_rank (m := 0) (Nat.zero_le _) hq
      rw [← h2, nthOf_cnt h1]; exact hv
    rw [Nat.mod_eq_of_lt this]; rfl
  · rw [if_neg hq, decide_eq_true (by omega)]; rfl

end Cert.Proof.VoxRef

end
-- ==== Proof.RefPts.lean ====
/- The reference's second half: the coordinates and the noise it gathers at the listed voxels. -/
module

public import proofs.«01_k».proof.Proof.RefOcc
public import Idealize.ShloMosaic.Lib.ReduceAll

@[expose] public section

set_option maxRecDepth 65536

noncomputable section

namespace Cert.Proof.VoxRef

open Idealize.ShloMosaic hiding ix0 ix1 ix2 ix3 ix4
open Idealize.ShloMosaic.ValueIdx Idealize.ShloMosaic.Routing
open Cert.ReferenceIdeal Cert.ReferenceIdeal.Gen Cert.ReferenceIdeal.Value
open Cert.Proof.Vox (cnt nthOf Bin occG occV cx cy cz)

variable {F : FTy → Type} [FloatOps F]

/-! ## Words -/

theorem shr_ofNat (v k : ℕ) (hv : v < 2097152) (hk : k < 32) : IntOp.shrsi .vector (BitVec.ofNat 32 v) (BitVec.ofNat 32 k) = BitVec.ofNat 32 (v / 2 ^ k) := by
  have hk' : (BitVec.ofNat 32 k).toNat = k := by rw [BitVec.toNat_ofNat]; exact Nat.mod_eq_of_lt (by omega)
  have hm : (BitVec.ofNat 32 v).toNat = v := by rw [BitVec.toNat_ofNat]; exact Nat.mod_eq_of_lt (by omega)
  have hs : (BitVec.ofNat 32 v).msb = false := by rw [BitVec.msb_eq_decide, hm]; exact decide_eq_false (by omega)
  unfold IntOp.shrsi
  rw [if_pos (by rw [hk']; exact hk), BitVec.sshiftRight', BitVec.sshiftRight_eq_of_msb_false hs, hk']
  apply BitVec.eq_of_toNat_eq
  rw [BitVec.toNat_ushiftRight, hm, Nat.shiftRight_eq_div_pow, BitVec.toNat_ofNat, Nat.mod_eq_of_lt]
  exact lt_of_le_of_lt (Nat.div_le_self _ _) (by omega)

theorem and_ofNat (v : ℕ) (hv : v < 2097152) : IntOp.andi (BitVec.ofNat 32 v) 127#32 = BitVec.ofNat 32 (v % 128) := by
  apply BitVec.eq_of_toNat_eq
  show (BitVec.ofNat 32 v &&& 127#32).toNat = _
  rw [BitVec.toNat_and, BitVec.toNat_ofNat, BitVec.toNat_ofNat, BitVec.toNat_ofNat, Nat.mod_eq_of_lt (a := v) (by omega), Nat.mod_eq_of_lt (a := 127) (by omega), Nat.mod_eq_of_lt (a := v % 128) (by omega)]
  exact Nat.and_two_pow_sub_one_eq_mod v 7

/-- A voxel's coordinate along an axis. -/
def co (c v : ℕ) : ℕ := match c with
  | 0 => v / 16384
  | 1 => v / 128 % 128
  | _ => v % 128

theorem co_word (c v : ℕ) (hv : v < 2097152) : (match c with
    | 0 => cx (BitVec.ofNat 32 v)
    | 1 => cy (BitVec.ofNat 32 v)
    | _ => cz (BitVec.ofNat 32 v) : F .f32) = FloatOps.sitofp .f32 (BitVec.ofNat 32 (co c v)) := by
  have e14 := shr_ofNat v 14 hv (by decide)
  have e7 := shr_ofNat v 7 hv (by decide)
  have e0 := and_ofNat (v / 128) (lt_of_le_of_lt (Nat.div_le_self _ _) hv)
  match c with
  | 0 => exact congrArg (FloatOps.sitofp .f32) e14
  | 1 => exact congrArg (FloatOps.sitofp .f32) ((congrArg (IntOp.andi · 127#32) e7).trans e0)
  | _ + 2 => exact congrArg (FloatOps.sitofp .f32) (and_ofNat v hv)

/-! ## The table of coordinates -/

/-- The reference's table of coordinates. -/
def coords : S2097152x3.Idx → BitVec 32 :=
  shapeCast _ ((concatenate S128x128x128x3 3 [⟨S128x128x128x1, ((broadcastInDim S128x128x128x1 ![0, 1, 2] bcast_S128x128x128_S128x128x128x1_0_1_2 (broadcastInDim S128x128x128 ![0] bcast_S128_S128x128x128_0 (iotaInDim S128 32 0))) : S128x128x128x1.Idx → BitVec 32)⟩, ⟨S128x128x128x1, ((broadcastInDim S128x128x128x1 ![0, 1, 2] bcast_S128x128x128_S128x128x128x1_0_1_2 (broadcastInDim S128x128x128 ![1] bcast_S128_S128x128x128_1 (iotaInDim S128 32 0))) : S128x128x128x1.Idx → BitVec 32)⟩, ⟨S128x128x128x1, ((broadcastInDim S128x128x128x1 ![0, 1, 2] bcast_S128x128x128_S128x128x128x1_0_1_2 (broadcastInDim S128x128x128 ![2] bcast_S128_S128x128x128_2 (iotaInDim S128 32 0))) : S128x128x128x1.Idx → BitVec 32)⟩] concatenates_S128x128x128x1_S128x128x128x1_S128x128x128x1_S128x128x128x3_d3 : S128x128x128x3.Idx → BitVec 32)) shapeCasts_S128x128x128x3_S2097152x3

/-- One of its three layers. -/
theorem layer_at (a : Fin 3) (h : S128.BroadcastsInDim S128x128x128 ![a]) (i : Fin 3 → Fin 128) :
    broadcastInDim S128x128x128x1 ![0, 1, 2] bcast_S128x128x128_S128x128x128x1_0_1_2 (broadcastInDim S128x128x128 ![a] h (iotaInDim S128 32 0)) (ix4 (i 0) (i 1) (i 2) (0 : Fin 1)) = BitVec.ofNat 32 (i a).val := by
  refine (broadcastInDim_apply _ _ _ _ (ix3 (i 0) (i 1) (i 2)) (fun b => ?_)).trans ((broadcastInDim_apply _ h _ _ (ix1 (i a)) (fun b => ?_)).trans rfl)
  · match b with
    | 0 => rfl
    | 1 => rfl
    | 2 => rfl
  · match b, a with
    | 0, 0 => rfl
    | 0, 1 => rfl
    | 0, 2 => rfl

theorem coords_at (v : Fin 2097152) (c : Fin 3) : coords (ix2 v c) = BitVec.ofNat 32 (co c.val v.val) := by
  have hv := v.isLt
  unfold coords
  let i : Fin 3 → Fin 128 := ![⟨v.val / 16384, by omega⟩, ⟨v.val / 128 % 128, by omega⟩, ⟨v.val % 128, by omega⟩]
  refine (shapeCast_apply _ _ (ix2 v c) (ix4 (i 0) (i 1) (i 2) c) ?_).trans ?_
  · rw [Shape.rowMajor_val_four, Shape.rowMajor_val_two]
    show ((v.val / 16384 * 128 + v.val / 128 % 128) * 128 + v.val % 128) * 3 + c.val = v.val * 3 + c.val
    omega
  have hz : ∀ b : Fin 4, b ≠ 3 → ((ix4 (i 0) (i 1) (i 2) (0 : Fin 1) : S128x128x128x1.Idx) b).val = ((ix4 (i 0) (i 1) (i 2) c : S128x128x128x3.Idx) b).val := fun b hb => by
    match b with
    | 0 => rfl
    | 1 => rfl
    | 2 => rfl
    | 3 => exact absurd rfl hb
  match c with
  | 0 => exact (concatenate_apply_piece (t := S128x128x128x3) 3 _ _ _ 0 (by decide) S128x128x128x1 _ rfl rfl 0 rfl _ hz rfl).trans (layer_at 0 _ i)
  | 1 => exact (concatenate_apply_piece (t := S128x128x128x3) 3 _ _ _ 1 (by decide) S128x128x128x1 _ rfl rfl 1 rfl _ hz rfl).trans (layer_at 1 _ i)
  | 2 => exact (concatenate_apply_piece (t := S128x128x128x3) 3 _ _ _ 2 (by decide) S128x128x128x1 _ rfl rfl 2 rfl _ hz rfl).trans (layer_at 2 _ i)

/-! ## The reference's points -/

/-- Whether the listed numbers are in the table's range, as the gathers ask. -/
def inb (I : S2097152x1.Idx → BitVec 32) : S2097152x3.Idx → BitVec 1 :=
  broadcastInDim S2097152x3 ![0] bcast_S2097152_S2097152x3_0 (Host.reduce IntOp.andi (andi (cmpi .sge I (broadcastInDim S2097152x1 ![] bcast_S_S2097152x1 (constantI S_ 32 0#32))) (cmpi .sle I (broadcastInDim S2097152x1 ![0, 1] bcast_S1x1_S2097152x1_0_1 (broadcastInDim S1x1 ![1] bcast_S1_S1x1_1 (constantI S1 32 2097151#32))))) (constantI S_ 1 1#1) reducesTo_S2097152x1_S2097152_d1 h_S_)

/-- The reference's points, from the list it gathers at. -/
def refPts (I : S2097152x1.Idx → BitVec 32) (nz : S2097152x3.Idx → F .f32) (a2 : S6.Idx → F .f32) : S2097152x3.Idx → F .f32 :=
  addf (mulf (Host.divf (addf (sitofp .f32 (select (inb I) (Host.gather gather_S2097152x3_S2097152x1_S2097152x3_1_0_n_n_0_1_13 coords I) (broadcastInDim S2097152x3 ![] bcast_S_S2097152x3 (constantI S_ 32 2147483648#32)))) (select (inb I) (Host.gather gather_S2097152x3_S2097152x1_S2097152x3_1_0_n_n_0_1_13 nz I) (broadcastInDim S2097152x3 ![] bcast_S_S2097152x3 (constant S_ .f32 0x7FC00000#32)))) (broadcastInDim S2097152x3 ![] bcast_S_S2097152x3 (constant S_ .f32 0x43000000#32))) (broadcastInDim S2097152x3 ![0, 1] bcast_S1x3_S2097152x3_0_1 (broadcastInDim S1x3 ![1] bcast_S3_S1x3_1 (subf (extractStridedSlice S3 ![3] a2 slices_S6_S3_3) (extractStridedSlice S3 ![0] a2 slices_S6_S3_0))))) (broadcastInDim S2097152x3 ![0, 1] bcast_S1x3_S2097152x3_0_1 (broadcastInDim S1x3 ![1] bcast_S3_S1x3_1 (extractStridedSlice S3 ![0] a2 slices_S6_S3_0)))

variable {I : S2097152x1.Idx → BitVec 32} {o : Fin 2097152 → Fin 2097152}

theorem inb_at (hI : ∀ p, I (ix2 p (0 : Fin 1)) = BitVec.ofNat 32 (o p).val) (y : S2097152x3.Idx) : inb I y = 1#1 := by
  refine Host.reduce_andi_one _ _ _ _ _ rfl fun i => ?_
  have hi : i = ix2 (show Fin 2097152 from i 0) (0 : Fin 1) := by
    funext a
    match a with
    | 0 => rfl
    | 1 => exact Subsingleton.elim (α := Fin 1) _ _
  rw [hi]
  show IntOp.andi (IntOp.cmpi .sge (I _) 0#32) (IntOp.cmpi .sle (I _) 2097151#32) = 1#1
  rw [hI]
  have h0 := (o (i 0)).isLt
  generalize hn : (o (i 0)).val = n at h0
  have hn' : (BitVec.ofNat 32 n).toInt = n := by
    rw [BitVec.toInt_eq_toNat_of_lt] <;> rw [BitVec.toNat_ofNat, Nat.mod_eq_of_lt (by omega)]; omega
  have e1 : IntOp.cmpi .sge (BitVec.ofNat 32 n) 0#32 = 1#1 := by
    show BitVec.ofBool (BitVec.sle 0#32 (BitVec.ofNat 32 n)) = 1#1
    rw [BitVec.sle_eq_decide, hn']; simp
  have e2 : IntOp.cmpi .sle (BitVec.ofNat 32 n) 2097151#32 = 1#1 := by
    show BitVec.ofBool (BitVec.sle (BitVec.ofNat 32 n) 2097151#32) = 1#1
    rw [BitVec.sle_eq_decide, hn', show (2097151#32).toInt = 2097151 from rfl, decide_eq_true (by omega)]; rfl
  exact (congrArg₂ IntOp.andi e1 e2).trans rfl

theorem refPts_at (hI : ∀ p, I (ix2 p (0 : Fin 1)) = BitVec.ofNat 32 (o p).val) (nz : S2097152x3.Idx → F .f32) (a2 : S6.Idx → F .f32) (p : Fin 2097152) (c : Fin 3) :
    refPts I nz a2 (ix2 p c) = FloatOps.addf (FloatOps.mulf (FloatOps.hostDivf (FloatOps.addf (FloatOps.sitofp .f32 (BitVec.ofNat 32 (co c.val (o p).val))) (nz (ix2 (o p) c))) (FloatOps.ofBits .f32 0x43000000#32)) (FloatOps.subf (a2 (ix1 (⟨3 + c.val, by omega⟩ : Fin 6))) (a2 (ix1 (⟨0 + c.val, by omega⟩ : Fin 6))))) (a2 (ix1 (⟨0 + c.val, by omega⟩ : Fin 6))) := by
  have g1 := gather_row gather_S2097152x3_S2097152x1_S2097152x3_1_0_n_n_0_1_13 rfl rfl rfl rfl rfl coords I p c (o p) (hI p) (by decide)
  have g2 := gather_row gather_S2097152x3_S2097152x1_S2097152x3_1_0_n_n_0_1_13 rfl rfl rfl rfl rfl nz I p c (o p) (hI p) (by decide)
  have s0 := slice1 0 a2 slices_S6_S3_0 c (by omega)
  have s3 := slice1 3 a2 slices_S6_S3_3 c (by omega)
  have b1 := bcCols bcast_S3_S1x3_1 bcast_S1x3_S2097152x3_0_1 (subf (extractStridedSlice S3 ![3] a2 slices_S6_S3_3) (extractStridedSlice S3 ![0] a2 slices_S6_S3_0)) p c
  have b2 := bcCols bcast_S3_S1x3_1 bcast_S1x3_S2097152x3_0_1 (extractStridedSlice S3 ![0] a2 slices_S6_S3_0) p c
  rw [coords_at] at g1
  have m1 : ∀ (x y : BitVec 32), Scalar.select (inb I (ix2 p c)) x y = x := fun x y => by rw [inb_at hI]; rfl
  have m2 : ∀ (x y : F .f32), Scalar.select (inb I (ix2 p c)) x y = x := fun x y => by rw [inb_at hI]; rfl
  exact congrArg₂ FloatOps.addf (congrArg₂ FloatOps.mulf (congrArg₂ FloatOps.hostDivf (congrArg₂ FloatOps.addf (congrArg (FloatOps.sitofp .f32) ((m1 _ _).trans g1)) ((m2 _ _).trans g2)) rfl) (b1.trans (congrArg₂ FloatOps.subf s3 s0))) (b2.trans s0)

variable {V0 : Valuation τ sig (Elt F)} {mw : ℕ → BitVec 32}

/-- The voxel the reference gathers at for the point `p`: the listed one, or the first past the last. -/
def og (mw : ℕ → BitVec 32) (p : ℕ) : ℕ := if p < cnt mw 2097152 then nthOf mw p else 0

theorem og_lt (hb : Bin mw) (p : ℕ) : og mw p < 2097152 := by
  unfold og
  split_ifs with h
  · obtain ⟨v, -, hv, h1, rfl⟩ := Cert.Proof.Vox.exists_rank (m := 0) (Nat.zero_le _) h
    rw [Cert.Proof.Vox.nthOf_cnt h1]; exact hv
  · decide

theorem idx_at (hb : Bin mw) (h : MaskIs V0 mw) (p : Fin 2097152) : (res_main_call5_v5 V0 : S2097152x1.Idx → BitVec 32) (ix2 p (0 : Fin 1)) = BitVec.ofNat 32 (og mw p.val) := by
  unfold res_main_call5_v5
  refine (bcCol _ _ p).trans ?_
  have e : (res_main_v21 V0 : S2097152.Idx → BitVec 32) (ix1 p) = BitVec.ofNat 32 (og mw p.val) := by
    rw [v21_at hb h p]; unfold occG occV og; split_ifs <;> rfl
  show Scalar.select (IntOp.cmpi .slt ((res_main_v21 V0 : S2097152.Idx → BitVec 32) (ix1 p)) 0#32) _ ((res_main_v21 V0 : S2097152.Idx → BitVec 32) (ix1 p)) = _
  rw [e]
  exact wrapped _ (lt_trans (og_lt hb _) (by decide)) _

theorem exists_fin {n k : ℕ} (h : k < n) : ∃ q : Fin n, q.val = k := ⟨⟨k, h⟩, rfl⟩

theorem idx_o (hb : Bin mw) (h : MaskIs V0 mw) : ∃ o : Fin 2097152 → Fin 2097152, (∀ p, (res_main_call5_v5 V0 : S2097152x1.Idx → BitVec 32) (ix2 p (0 : Fin 1)) = BitVec.ofNat 32 (o p).val) ∧ ∀ p, (o p).val = og mw p.val := by
  have e : ∀ p : Fin 2097152, ∃ q : Fin 2097152, q.val = og mw p.val := fun p => exists_fin (og_lt hb _)
  choose o ho using e
  refine ⟨o, fun p => ?_, ho⟩
  rw [ho]
  exact idx_at hb h p

end Cert.Proof.VoxRef
-- ==== Proof.Alg.lean ====
/- The two programs' results are the same arrays over the ideal values. -/
module

public import proofs.«01_k».proof.Defs
public import proofs.«01_k».proof.Proof.Final
public import proofs.«01_k».proof.Proof.RefPts
public import Idealize.ShloMosaic.Lib.IdealHost

@[expose] public section

set_option maxRecDepth 65536

noncomputable section

namespace Cert.Proof.Vox

open Cert.KernelIdeal Cert.KernelIdeal.Gen
open Idealize.ShloMosaic hiding ix0 ix1 ix2 ix3 ix4
open Idealize.ShloMosaic.ValueIdx Idealize.ShloMosaic.Routing
open Cert.Proof.VoxRef (co co_word og og_lt refPts refPts_at MaskIs v21_at idx_o)

section

variable {F : FTy → Type} [FloatOps F] (V₀ : Valuation τ sig (Elt F))

/-- The box's three corners, its sides over the grid, and the first voxel's point, as the kernel's host line has them. -/
def kOf (a2 : S6.Idx → F .f32) : S3.Idx → F .f32 := extractStridedSlice S3 ![0] a2 slices_S6_S3_0
@[inherit_doc kOf] def kSc (a2 : S6.Idx → F .f32) : S3.Idx → F .f32 :=
  Host.divf (subf (extractStridedSlice S3 ![3] a2 slices_S6_S3_3) (kOf a2)) (broadcastInDim S3 ![] bcast_S_S3 (constant S_ .f32 0x43000000#32))
@[inherit_doc kOf] def kFl (a1 : S2097152x3.Idx → F .f32) (a2 : S6.Idx → F .f32) : S3.Idx → F .f32 :=
  addf (mulf (shapeCast S3 (extractStridedSlice S1x3 ![0, 0] a1 slices_S2097152x3_S1x3_0_0) shapeCasts_S1x3_S3) (kSc a2)) (kOf a2)

theorem VA_v12 : (VA V₀) (dr main_v12) = (kFl (V₀ (dr main_arg1)) (V₀ (dr main_arg2)) : S3.Idx → F .f32) := by
  unfold VA hostOps
  after_results_simp
  try rfl

theorem VA_v13 : (VA V₀) (dr main_v13) = (concatenate S9 0 [⟨S3, kSc (V₀ (dr main_arg2))⟩, ⟨S3, kOf (V₀ (dr main_arg2))⟩, ⟨S3, kFl (V₀ (dr main_arg1)) (V₀ (dr main_arg2))⟩] concatenates_S3_S3_S3_S9_d0 : S9.Idx → F .f32) := by
  unfold VA hostOps
  after_results_simp
  try rfl

theorem PV_sc (c : Fin 3) : PV (VA V₀) c.val = kSc (V₀ (dr main_arg2)) (ix1 c) := by
  unfold PV
  rw [VA_v17]
  refine (tab_at _ _).trans ?_
  rw [VA_v13]
  refine concatenate_apply_piece (t := S9) 0 _ _ _ 0 (Nat.lt_of_sub_eq_succ rfl) S3 _ rfl rfl 0 rfl _ (fun b hb => absurd (Subsingleton.elim (α := Fin 1) _ _) hb) ?_
  show 0 + c.val = c.val % 9
  omega

theorem PV_of (c : Fin 3) : PV (VA V₀) (c.val + 3) = kOf (V₀ (dr main_arg2)) (ix1 c) := by
  unfold PV
  rw [VA_v17]
  refine (tab_at _ _).trans ?_
  rw [VA_v13]
  refine concatenate_apply_piece (t := S9) 0 _ _ _ 1 (Nat.lt_of_sub_eq_succ rfl) S3 _ rfl rfl 3 rfl _ (fun b hb => absurd (Subsingleton.elim (α := Fin 1) _ _) hb) ?_
  show 3 + c.val = (c.val + 3) % 9
  omega

theorem flV_at (c : Fin 3) : flV (VA V₀) c.val = kFl (V₀ (dr main_arg1)) (V₀ (dr main_arg2)) (ix1 c) := by
  unfold flV rdv
  rw [VA_v20]
  refine (fil_at _ _).trans ?_
  rw [VA_v12]
  refine congrArg _ (congrArg ix1 (Fin.ext ?_))
  show c.val % 3 % 6144 % 3 = c.val
  omega

theorem nzV_at (v : Fin 2097152) (c : Fin 3) : nzV (VA V₀) (3 * v.val + c.val) = (V₀ (dr main_arg1) : S2097152x3.Idx → F .f32) (ix2 v c) := by
  unfold nzV rdv
  rw [VA_v2]
  refine shapeCast_apply (s := S2097152x3) (t := S6291456) _ _ _ (ix2 v c) ?_
  refine (Shape.rowMajor_val_two (d := ![2097152, 3]) _).trans (Eq.trans ?_ (Shape.rowMajor_val_one (d := ![6291456]) _).symm)
  show v.val * 3 + c.val = (3 * v.val + c.val) % 6291456
  omega

theorem kFl_at (a1 : S2097152x3.Idx → F .f32) (a2 : S6.Idx → F .f32) (c : Fin 3) :
    kFl a1 a2 (ix1 c) = FloatOps.addf (FloatOps.mulf (a1 (ix2 (0 : Fin 2097152) c)) (kSc a2 (ix1 c))) (kOf a2 (ix1 c)) := by
  have e : shapeCast S3 (extractStridedSlice S1x3 ![0, 0] a1 slices_S2097152x3_S1x3_0_0) shapeCasts_S1x3_S3 (ix1 c) = a1 (ix2 (0 : Fin 2097152) c) := by
    refine (shapeCast_apply _ _ (ix1 c) (ix2 (0 : Fin 1) c) ?_).trans (extractStridedSlice_apply _ _ _ _ _ fun a => ?_)
    · rw [Shape.rowMajor_val_two, Shape.rowMajor_val_one]
      show 0 * 3 + c.val = c.val
      omega
    · match a with
      | 0 => rfl
      | 1 => exact (Nat.zero_add _).symm
  exact congrArg₂ FloatOps.addf (congrArg₂ FloatOps.mulf e rfl) rfl

theorem kSc_at (a2 : S6.Idx → F .f32) (c : Fin 3) : kSc a2 (ix1 c) = FloatOps.hostDivf (FloatOps.subf (a2 (ix1 (⟨3 + c.val, by omega⟩ : Fin 6))) (a2 (ix1 (⟨0 + c.val, by omega⟩ : Fin 6)))) (FloatOps.ofBits .f32 0x43000000#32) :=
  congrArg₂ FloatOps.hostDivf (congrArg₂ FloatOps.subf (slice1 3 a2 slices_S6_S3_3 c (by omega)) (slice1 0 a2 slices_S6_S3_0 c (by omega))) rfl

theorem Yv_at (nz sc of : ℕ → F .f32) (c v : ℕ) (hv : v < 2097152) : Yv nz sc of c v = ptv (FloatOps.sitofp .f32 (BitVec.ofNat 32 (co c v))) (nz (3 * v + c)) (sc c) (of c) :=
  congrArg (ptv · _ _ _) (co_word c v hv)

/-- The kernel's points, one by one. -/
theorem xw_at (p : Fin 2097152) (c : Fin 3) (o : Fin 2097152) (ho : o.val = og (mwV (VA V₀)) p.val) :
    shapeCast S2097152x3 (xwB (VA V₀)) shapeCasts_S6291456_S2097152x3 (ix2 p c)
      = if p.val < cnt (mwV (VA V₀)) 2097152 then ptv (FloatOps.sitofp .f32 (BitVec.ofNat 32 (co c.val o.val))) ((V₀ (dr main_arg1) : S2097152x3.Idx → F .f32) (ix2 o c)) (kSc (V₀ (dr main_arg2)) (ix1 c)) (kOf (V₀ (dr main_arg2)) (ix1 c))
        else kFl (V₀ (dr main_arg1)) (V₀ (dr main_arg2)) (ix1 c) := by
  have hp := p.isLt
  have hc := c.isLt
  refine (shapeCast_apply _ _ (ix2 p c) (ix1 (⟨3 * p.val + c.val, by omega⟩ : Fin 6291456)) ?_).trans ?_
  · rw [Shape.rowMajor_val_two, Shape.rowMajor_val_one]
    show 3 * p.val + c.val = p.val * 3 + c.val
    omega
  show xwG (mwV (VA V₀)) (nzV (VA V₀)) (PV (VA V₀)) (flV (VA V₀)) (3 * p.val + c.val) = _
  unfold xwG
  have hm : (3 * p.val + c.val) % 3 = c.val := by omega
  have hd : (3 * p.val + c.val) / 3 = p.val := by omega
  by_cases h : p.val < cnt (mwV (VA V₀)) 2097152
  · rw [if_pos (by omega), if_pos h]
    have eo : og (mwV (VA V₀)) p.val = nthOf (mwV (VA V₀)) p.val := if_pos h
    unfold xwV
    rw [hm, hd, ← eo, ← ho, Yv_at _ _ _ _ _ o.isLt, PV_sc, PV_of, nzV_at]
  · rw [if_neg (by omega), if_neg h, hm, flV_at]

end

/-! ## Over the ideal values -/

theorem ofBits_128 : (FloatOps.ofBits .f32 0x43000000#32 : Ideal .f32) = ((128 : ℝ) : EReal) := by
  show Ideal.ofBits .f32 0x43000000#32 = _
  simp [Ideal.ofBits, Ideal.ieee, -EReal.coe_mul]; norm_num

theorem div_128 (x : Ideal .f32) : (FloatOps.hostDivf x (FloatOps.ofBits .f32 0x43000000#32) : Ideal .f32) = (x * ((128 : ℝ) : EReal)⁻¹ : EReal) := by
  rw [ofBits_128]
  show Ideal.div x _ = _
  unfold Ideal.div
  rw [if_neg]
  exact fun e => absurd (EReal.coe_eq_zero.1 e) (by norm_num)

/-- The scaled point over the grid's side is the point by the side's part. -/
theorem move_div (x s o : Ideal .f32) : (FloatOps.addf (FloatOps.mulf (FloatOps.hostDivf x (FloatOps.ofBits .f32 0x43000000#32)) s) o : Ideal .f32)
    = FloatOps.addf (FloatOps.mulf x (FloatOps.hostDivf s (FloatOps.ofBits .f32 0x43000000#32))) o := by
  rw [div_128, div_128]
  show ((x : EReal) * _ * s + o : EReal) = x * (s * _) + o
  rw [mul_assoc, mul_comm (s : EReal)]

theorem zero_addf (x : Ideal .f32) : (FloatOps.addf (FloatOps.sitofp .f32 (0#32)) x : Ideal .f32) = x := by
  show ((((0#32 : BitVec 32).toInt : ℝ) : EReal) + x : EReal) = x
  simp

theorem co_zero (c : ℕ) : co c 0 = 0 := by
  match c with
  | 0 => rfl
  | 1 => rfl
  | _ + 2 => rfl

/-- The two points' values agree. -/
theorem pts_eq (V₀ : Valuation τ sig (Elt Ideal)) {I : Cert.ReferenceIdeal.S2097152x1.Idx → BitVec 32} {o : Fin 2097152 → Fin 2097152} (hI : ∀ p : Fin 2097152, I (ix2 p (0 : Fin 1)) = BitVec.ofNat 32 (o p).val) (ho : ∀ p, (o p).val = og (mwV (VA V₀)) p.val) :
    refPts I (V₀ (dr main_arg1) : S2097152x3.Idx → Ideal .f32) (V₀ (dr main_arg2) : S6.Idx → Ideal .f32) = (shapeCast S2097152x3 (xwB (VA V₀)) shapeCasts_S6291456_S2097152x3 : S2097152x3.Idx → Ideal .f32) := by
  funext x
  obtain ⟨p, c, rfl⟩ : ∃ (p : Fin 2097152) (c : Fin 3), x = ix2 p c := ⟨x 0, x 1, by
    funext a
    match a with
    | 0 => rfl
    | 1 => rfl⟩
  have hr := refPts_at (F := Ideal) hI (V₀ (dr main_arg1) : S2097152x3.Idx → Ideal .f32) (V₀ (dr main_arg2) : S6.Idx → Ideal .f32) p c
  rw [xw_at V₀ p c (o p) (ho p), hr, move_div, ← kSc_at]
  have e0 : kOf (F := Ideal) (V₀ (dr main_arg2) : S6.Idx → Ideal .f32) (ix1 c) = _ := slice1 0 _ slices_S6_S3_0 c (by omega)
  rw [← e0]
  by_cases h : p.val < cnt (mwV (VA V₀)) 2097152
  · rw [if_pos h]
    rfl
  · rw [if_neg h, kFl_at]
    have eo : og (mwV (VA V₀)) p.val = 0 := if_neg h
    rw [show o p = 0 from Fin.ext ((ho p).trans eo)]
    refine congrArg₂ FloatOps.addf (congrArg₂ FloatOps.mulf ?_ rfl) rfl
    rw [show ((0 : Fin 2097152) : ℕ) = 0 from rfl, co_zero]
    exact zero_addf _

/-- The mask's words are the same in the two programs. -/
theorem maskIs (V₀ : Valuation τ sig (Elt Ideal)) (W : Valuation Cert.ReferenceIdeal.τ Cert.ReferenceIdeal.sig (Elt Ideal))
    (h : (W (Proc.devRef .tc Cert.ReferenceIdeal.main_arg0) : S128x128x128.Idx → BitVec 1) = V₀ (dr main_arg0)) : MaskIs W (mwV (VA V₀)) := by
  intro i
  have e : mwV (VA V₀) i.val = (VA V₀ (dr main_v1) : S2097152.Idx → BitVec 32) (ix1 i) := rdv_at _ _ (ix1 i)
  rw [e, VA_v1, ← h]
  rfl

theorem algebraic : Cert.algebraic_KernelIdeal_ReferenceIdeal := by
  intro m g m' g' _ hin
  refine ⟨fun c => (shapeCast S2097152x3 (xwB (V1 m c)) shapeCasts_S6291456_S2097152x3 : S2097152x3.Idx → Ideal .f32), fun c => occB (V1 m c), ?_, ?_⟩
  · exact (θ_run _ _ _).mono (fun _ h c => ⟨(h.1 c).1.1, (h.1 c).1.2, (h.1 c).2⟩) (run_vals (F := Ideal) m g)
  · refine (θ_run (Cert.ReferenceIdeal.defs (F := Ideal)) _ _).mono (fun r h c => ?_) (Cert.ReferenceIdeal.Value.run (F := Ideal) m' g')
    have hm := maskIs (fun b => m (c, b)) (StableHlo.launchContents m' c) (hin c).1
    have hb : Bin (mwV (V1 m c)) := (host_ok _).bin
    refine ⟨(h c).1.trans ?_, (h c).2.1.trans ?_, (h c).2.2⟩
    · obtain ⟨o, ho, ho'⟩ := idx_o hb hm
      have e := pts_eq (fun b => m (c, b)) ho ho'
      have e1 : StableHlo.launchContents m' c (Proc.devRef .tc Cert.ReferenceIdeal.main_arg1) = m (c, dr main_arg1) := (hin c).2.1
      have e2 : StableHlo.launchContents m' c (Proc.devRef .tc Cert.ReferenceIdeal.main_arg2) = m (c, dr main_arg2) := (hin c).2.2
      exact (congrArg₂ (refPts (F := Ideal) (Cert.ReferenceIdeal.Value.res_main_call5_v5 (StableHlo.launchContents m' c))) e1 e2).trans e
    · funext x
      have hx : x = ix1 (show Fin 2097152 from x 0) := by
        funext a
        match a with
        | 0 => rfl
      rw [hx]
      exact v21_at hb hm (x 0)

end Cert.Proof.Vox
-- ==== Proof.lean ====
/- The certificate: the claims of the test file, proved. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Alg

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  refine ⟨Vox.frame_kernel, Vox.frame_ideal, ?_, trivial, Vox.algebraic⟩
  exact fun m ρ _ => (θ_run (Cert.ReferenceIdeal.defs (F := Ideal)) _ _).mono (fun _ h => ⟨fun c => (h c).2.2, Idealize.ShloMosaic.sem_eq_zero_of_no_sems (by decide) _⟩) (Cert.ReferenceIdeal.Value.run (F := Ideal) m ρ)⟩

end Cert.Proof

end
